-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 [hPre_experts_in_range2 : Cert.Pre_experts_in_range2.Facts] (m : (ℓ : Loc Cert.Kernel2.nD Cert.Kernel2.τ Cert.Kernel2.sig) → Buf (Elt Bits) ℓ) : Prop :=
  ∀ c : Dev Cert.Kernel2.nD,
    (Cert.Pre_experts_in_range2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts_in_range2 : Cert.Pre_experts_in_range2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_experts_in_range2 : Cert.Pre_experts_in_range2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_experts_in_range3 : Cert.Pre_experts_in_range3.Facts] (m : (ℓ : Loc Cert.Kernel3.nD Cert.Kernel3.τ Cert.Kernel3.sig) → Buf (Elt Bits) ℓ) : Prop :=
  ∀ c : Dev Cert.Kernel3.nD,
    (Cert.Pre_experts_in_range3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_experts_in_range3 : Cert.Pre_experts_in_range3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_in_range3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal [hPre_experts_in_range3 : Cert.Pre_experts_in_range3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_in_range3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 [hPre_finite9 : Cert.Pre_finite9.Facts] (m : (ℓ : Loc Cert.Kernel9.nD Cert.Kernel9.τ Cert.Kernel9.sig) → Buf (Elt Bits) ℓ) : Prop :=
  ∀ c : Dev Cert.Kernel9.nD,
    (Cert.Pre_finite9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4)) (m ((c.tc : Thread Cert.Kernel9.nD Cert.Kernel9.τ).loc Cert.Kernel9.main_arg5)) (m ((c.tc : Thread Cert.Kernel9.nD Cert.Kernel9.τ).loc Cert.Kernel9.main_arg6)) (m ((c.tc : Thread Cert.Kernel9.nD Cert.Kernel9.τ).loc Cert.Kernel9.main_arg7))) = (fun _ => 1#1)

def Pre_Kernel9Ideal [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7))) = (fun _ => 1#1)

def Pre_Reference9Ideal [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_experts_in_range2 : Cert.Pre_experts_in_range2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts_in_range2 : Cert.Pre_experts_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_experts_in_range2 : Cert.Pre_experts_in_range2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts_in_range3 : Cert.Pre_experts_in_range3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_experts_in_range3 : Cert.Pre_experts_in_range3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] [hPre_experts_in_range3 : Cert.Pre_experts_in_range3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] [hPre_finite9 : Cert.Pre_finite9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range2 : Cert.Pre_experts_in_range2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_experts_in_range3 : Cert.Pre_experts_in_range3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v5_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_rows_in_range : Cert.Pre_rows_in_range.Facts) (hPre_experts_in_range2 : Cert.Pre_experts_in_range2.Facts) (hPre_experts_in_range3 : Cert.Pre_experts_in_range3.Facts) (hPre_finite9 : Cert.Pre_finite9.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Reference (hReference := hReference) (hPre_rows_in_range := hPre_rows_in_range)
    ∧ quiescent_Kernel2 (hKernel2 := hKernel2) (hPre_experts_in_range2 := hPre_experts_in_range2)
    ∧ quiescent_Kernel2Ideal (hKernel2Ideal := hKernel2Ideal) (hPre_experts_in_range2 := hPre_experts_in_range2)
    ∧ quiescent_Reference2Ideal (hReference2Ideal := hReference2Ideal) (hPre_experts_in_range2 := hPre_experts_in_range2)
    ∧ quiescent_Kernel3 (hKernel3 := hKernel3) (hPre_experts_in_range3 := hPre_experts_in_range3)
    ∧ quiescent_Kernel3Ideal (hKernel3Ideal := hKernel3Ideal) (hPre_experts_in_range3 := hPre_experts_in_range3)
    ∧ quiescent_Reference3Ideal (hReference3Ideal := hReference3Ideal) (hPre_experts_in_range3 := hPre_experts_in_range3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9) (hPre_finite9 := hPre_finite9)
    ∧ quiescent_Kernel9Ideal (hKernel9Ideal := hKernel9Ideal) (hPre_finite9 := hPre_finite9)
    ∧ quiescent_Reference9Ideal (hReference9Ideal := hReference9Ideal) (hPre_finite9 := hPre_finite9)
    ∧ preserves_Kernel_KernelIdeal
    ∧ bitexact_Kernel_Reference (hKernel := hKernel) (hReference := hReference) (hPre_rows_in_range := hPre_rows_in_range)
    ∧ algebraic_KernelIdeal_ReferenceIdeal (hKernelIdeal := hKernelIdeal) (hReferenceIdeal := hReferenceIdeal) (hPre_rows_in_range := hPre_rows_in_range)
    ∧ preserves_Kernel2_Kernel2Ideal
    ∧ algebraic_Kernel2Ideal_Reference2Ideal (hKernel2Ideal := hKernel2Ideal) (hReference2Ideal := hReference2Ideal) (hPre_experts_in_range2 := hPre_experts_in_range2)
    ∧ preserves_Kernel3_Kernel3Ideal
    ∧ algebraic_Kernel3Ideal_Reference3Ideal (hKernel3Ideal := hKernel3Ideal) (hReference3Ideal := hReference3Ideal) (hPre_experts_in_range3 := hPre_experts_in_range3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal) (hPre_finite9 := hPre_finite9)
-- ==== Pre_experts_in_range2.lean ====
abbrev S36864x4096 : Shape := ⟨2, ![36864, 4096]⟩
abbrev S72 : Shape := ⟨1, ![72]⟩
abbrev S1 : Shape := ⟨1, ![1]⟩
abbrev S8x4096x4096 : Shape := ⟨3, ![8, 4096, 4096]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x4096 .bf16) (main_arg1 : IVec S72 32) (main_arg2 : IVec S1 32) (main_arg3 : FVec F S8x4096x4096 .f32) (main_arg4 : FVec F S8x4096x4096 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_experts_in_range3.lean ====
abbrev S36864x4096 : Shape := ⟨2, ![36864, 4096]⟩
abbrev S72 : Shape := ⟨1, ![72]⟩
abbrev S1 : Shape := ⟨1, ![1]⟩
abbrev S8x4096x4096 : Shape := ⟨3, ![8, 4096, 4096]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x4096 .bf16) (main_arg1 : IVec S72 32) (main_arg2 : IVec S1 32) (main_arg3 : FVec F S8x4096x4096 .f32) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_finite9.lean ====
abbrev S2x8192x4096 : Shape := ⟨3, ![2, 8192, 4096]⟩
abbrev S2x1x4096 : Shape := ⟨3, ![2, 1, 4096]⟩
abbrev S4096 : Shape := ⟨1, ![4096]⟩
abbrev S4096x4096 : Shape := ⟨2, ![4096, 4096]⟩
abbrev S4096x8 : Shape := ⟨2, ![4096, 8]⟩
abbrev S_ : Shape := ⟨0, ![]⟩

class Facts : Prop where
  bitsLt_bf16_f32 : FTy.bits .bf16 < FTy.bits .f32
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel
  bcast_S_S2x1x4096 : S_.BroadcastsInDim S2x1x4096 (![] : Fin 0 → Fin S2x1x4096.rank)
  reducesTo_S2x1x4096_S_d0_1_2 : S2x1x4096.ReducesTo [0, 1, 2] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part2 {F : FTy → Type} [FloatOps F] (main_arg7 : FVec F S4096x8 .f32) (main_v29 : IVec S_ 1) (main_v33 : IVec S_ 1) : IVec S_ 1 :=
  let main_v34 : IVec S_ 1 := andi main_v29 main_v33
  let main_v35 : FVec F S4096x8 .f32 := Host.absf main_arg7
  let main_cst_12 : FVec F S_ .f32 := constant S_ .f32 0x7F800000#32
  let main_v36 : FVec F S4096x8 .f32 := broadcastInDim S4096x8 ![] bcast_S_S4096x8 main_cst_12
  let main_v37 : IVec S4096x8 1 := cmpf .olt main_v35 main_v36
  let main_c_13 : IVec S_ 1 := constantI S_ 1 1#1
  let main_v38 : IVec S_ 1 := (fun x v => Host.reduce IntOp.andi x v reducesTo_S4096x8_S_d0_1 h_S_) main_v37 main_c_13
  let main_v39 : IVec S_ 1 := andi main_v34 main_v38
  main_v39

def fn_part1 {F : FTy → Type} [FloatOps F] (main_arg4 : FVec F S2x1x4096 .f32) (main_arg5 : FVec F S2x1x4096 .f32) (main_arg6 : FVec F S4096x4096 .f32) (main_arg7 : FVec F S4096x8 .f32) (main_v14 : IVec S_ 1) (main_v15 : FVec F S4096 .f32) (main_v16 : FVec F S4096 .f32) : IVec S_ 1 :=
  let main_v17 : IVec S4096 1 := cmpf .olt main_v15 main_v16
  let main_c_5 : IVec S_ 1 := constantI S_ 1 1#1
  let main_v18 : IVec S_ 1 := (fun x v => Host.reduce IntOp.andi x v reducesTo_S4096_S_d0 h_S_) main_v17 main_c_5
  let main_v19 : IVec S_ 1 := andi main_v14 main_v18
  let main_v20 : FVec F S2x1x4096 .f32 := Host.absf main_arg4
  let main_cst_6 : FVec F S_ .f32 := constant S_ .f32 0x7F800000#32
  let main_v21 : FVec F S2x1x4096 .f32 := broadcastInDim S2x1x4096 ![] bcast_S_S2x1x4096 main_cst_6
  let main_v22 : IVec S2x1x4096 1 := cmpf .olt main_v20 main_v21
  let main_c_7 : IVec S_ 1 := constantI S_ 1 1#1
  let main_v23 : IVec S_ 1 := (fun x v => Host.reduce IntOp.andi x v reducesTo_S2x1x4096_S_d0_1_2 h_S_) main_v22 main_c_7
  let main_v24 : IVec S_ 1 := andi main_v19 main_v23
  let main_v25 : FVec F S2x1x4096 .f32 := Host.absf main_arg5
  let main_cst_8 : FVec F S_ .f32 := constant S_ .f32 0x7F800000#32
  let main_v26 : FVec F S2x1x4096 .f32 := broadcastInDim S2x1x4096 ![] bcast_S_S2x1x4096 main_cst_8
  let main_v27 : IVec S2x1x4096 1 := cmpf .olt main_v25 main_v26
  let main_c_9 : IVec S_ 1 := constantI S_ 1 1#1
  let main_v28 : IVec S_ 1 := (fun x v => Host.reduce IntOp.andi x v reducesTo_S2x1x4096_S_d0_1_2 h_S_) main_v27 main_c_9
  let main_v29 : IVec S_ 1 := andi main_v24 main_v28
  let main_v30 : FVec F S4096x4096 .f32 := Host.absf main_arg6
  let main_cst_10 : FVec F S_ .f32 := constant S_ .f32 0x7F800000#32
  let main_v31 : FVec F S4096x4096 .f32 := broadcastInDim S4096x4096 ![] bcast_S_S4096x4096 main_cst_10
  let main_v32 : IVec S4096x4096 1 := cmpf .olt main_v30 main_v31
  let main_c_11 : IVec S_ 1 := constantI S_ 1 1#1
  let main_v33 : IVec S_ 1 := (fun x v => Host.reduce IntOp.andi x v reducesTo_S4096x4096_S_d0_1 h_S_) main_v32 main_c_11
  fn_part2 (F := F) main_arg7 main_v29 main_v33

def fn {F : FTy → Type} [FloatOps F] (main_arg0 : FVec F S2x8192x4096 .bf16) (main_arg1 : FVec F S2x8192x4096 .f32) (main_arg2 : FVec F S2x1x4096 .f32) (main_arg3 : FVec F S4096 .f32) (main_arg4 : FVec F S2x1x4096 .f32) (main_arg5 : FVec F S2x1x4096 .f32) (main_arg6 : FVec F S4096x4096 .f32) (main_arg7 : FVec F S4096x8 .f32) : IVec S_ 1 :=
  let main_v0 : FVec F S2x8192x4096 .f32 := (extf .f32 · bitsLt_bf16_f32) main_arg0
  let main_v1 : FVec F S2x8192x4096 .f32 := Host.absf main_v0
  let main_cst : FVec F S_ .f32 := constant S_ .f32 0x7F800000#32
  let main_v2 : FVec F S2x8192x4096 .f32 := broadcastInDim S2x8192x4096 ![] bcast_S_S2x8192x4096 main_cst
  let main_v3 : IVec S2x8192x4096 1 := cmpf .olt main_v1 main_v2
  let main_c : IVec S_ 1 := constantI S_ 1 1#1
  let main_v4 : IVec S_ 1 := (fun x v => Host.reduce IntOp.andi x v reducesTo_S2x8192x4096_S_d0_1_2 h_S_) main_v3 main_c
  let main_v5 : FVec F S2x8192x4096 .f32 := Host.absf main_arg1
  let main_cst_0 : FVec F S_ .f32 := constant S_ .f32 0x7F800000#32
  let main_v6 : FVec F S2x8192x4096 .f32 := broadcastInDim S2x8192x4096 ![] bcast_S_S2x8192x4096 main_cst_0
  let main_v7 : IVec S2x8192x4096 1 := cmpf .olt main_v5 main_v6
  let main_c_1 : IVec S_ 1 := constantI S_ 1 1#1
  let main_v8 : IVec S_ 1 := (fun x v => Host.reduce IntOp.andi x v reducesTo_S2x8192x4096_S_d0_1_2 h_S_) main_v7 main_c_1
  let main_v9 : IVec S_ 1 := andi main_v4 main_v8
  let main_v10 : FVec F S2x1x4096 .f32 := Host.absf main_arg2
  let main_cst_2 : FVec F S_ .f32 := constant S_ .f32 0x7F800000#32
  let main_v11 : FVec F S2x1x4096 .f32 := broadcastInDim S2x1x4096 ![] bcast_S_S2x1x4096 main_cst_2
  let main_v12 : IVec S2x1x4096 1 := cmpf .olt main_v10 main_v11
  let main_c_3 : IVec S_ 1 := constantI S_ 1 1#1
  let main_v13 : IVec S_ 1 := (fun x v => Host.reduce IntOp.andi x v reducesTo_S2x1x4096_S_d0_1_2 h_S_) main_v12 main_c_3
  let main_v14 : IVec S_ 1 := andi main_v9 main_v13
  let main_v15 : FVec F S4096 .f32 := Host.absf main_arg3
  let main_cst_4 : FVec F S_ .f32 := constant S_ .f32 0x7F800000#32
  let main_v16 : FVec F S4096 .f32 := broadcastInDim S4096 ![] bcast_S_S4096 main_cst_4
  fn_part1 (F := F) main_arg4 main_arg5 main_arg6 main_arg7 main_v14 main_v15 main_v16
-- ==== Pre_rows_in_range.lean ====
abbrev S36864x32x128 : Shape := ⟨3, ![36864, 32, 128]⟩
abbrev S64x4x256 : Shape := ⟨3, ![64, 4, 256]⟩
abbrev S8 : Shape := ⟨1, ![8]⟩
abbrev S64x2x256 : Shape := ⟨3, ![64, 2, 256]⟩
abbrev S1x1x1x8 : Shape := ⟨4, ![1, 1, 1, 8]⟩
abbrev S64x2x256x1 : Shape := ⟨4, ![64, 2, 256, 1]⟩
abbrev S64x2x256x8 : Shape := ⟨4, ![64, 2, 256, 8]⟩
abbrev S_ : Shape := ⟨0, ![]⟩

class Facts : Prop where
  slices_S64x4x256_S64x2x256_0_0_0 : S64x4x256.Slices ![0, 0, 0] S64x2x256
  slices_S64x4x256_S64x2x256_0_2_0 : S64x4x256.Slices ![0, 2, 0] S64x2x256
  bcast_S8_S1x1x1x8_3 : S8.BroadcastsInDim S1x1x1x8 (![3] : Fin 1 → Fin S1x1x1x8.rank)
  bcast_S64x2x256_S64x2x256x1_0_1_2 : S64x2x256.BroadcastsInDim S64x2x256x1 (![0, 1, 2] : Fin 3 → Fin S64x2x256x1.rank)
  bcast_S1x1x1x8_S64x2x256x8_0_1_2_3 : S1x1x1x8.BroadcastsInDim S64x2x256x8 (![0, 1, 2, 3] : Fin 4 → Fin S64x2x256x8.rank)
  bcast_S64x2x256x1_S64x2x256x8_0_1_2_3 : S64x2x256x1.BroadcastsInDim S64x2x256x8 (![0, 1, 2, 3] : Fin 4 → Fin S64x2x256x8.rank)
  bcast_S_S64x2x256 : S_.BroadcastsInDim S64x2x256 (![] : Fin 0 → Fin S64x2x256.rank)
  reducesTo_S64x2x256_S_d0_1_2 : S64x2x256.ReducesTo [0, 1, 2] S_
  h_S_ : 0 < S_.numel
  bcast_S_S64x2x256x8 : S_.BroadcastsInDim S64x2x256x8 (![] : Fin 0 → Fin S64x2x256x8.rank)
  reducesTo_S64x2x256x8_S_d0_1_2_3 : S64x2x256x8.ReducesTo [0, 1, 2, 3] S_

variable [Facts]

def fn_part1 {F : FTy → Type} [FloatOps F] (main_v6 : IVec S64x2x256x8 32) (main_v18 : IVec S_ 1) (main_v19 : IVec S64x2x256x8 1) (main_c_2 : IVec S_ 32) : IVec S_ 1 :=
  let main_v20 : IVec S64x2x256x8 32 := broadcastInDim S64x2x256x8 ![] bcast_S_S64x2x256x8 main_c_2
  let main_v21 : IVec S64x2x256x8 1 := cmpi .sge main_v6 main_v20
  let main_c_3 : IVec S_ 32 := constantI S_ 32 36864#32
  let main_v22 : IVec S64x2x256x8 32 := broadcastInDim S64x2x256x8 ![] bcast_S_S64x2x256x8 main_c_3
  let main_v23 : IVec S64x2x256x8 1 := cmpi .slt main_v6 main_v22
  let main_v24 : IVec S64x2x256x8 1 := andi main_v21 main_v23
  let main_v25 : IVec S64x2x256x8 1 := ori main_v19 main_v24
  let main_c_4 : IVec S_ 1 := constantI S_ 1 1#1
  let main_v26 : IVec S_ 1 := (fun x v => Host.reduce IntOp.andi x v reducesTo_S64x2x256x8_S_d0_1_2_3 h_S_) main_v25 main_c_4
  let main_v27 : IVec S_ 1 := andi main_v18 main_v26
  main_v27

def fn {F : FTy → Type} [FloatOps F] (main_arg0 : FVec F S36864x32x128 .bf16) (main_arg1 : IVec S64x4x256 32) (main_arg2 : IVec S8 32) : IVec S_ 1 :=
  let main_v0 : IVec S64x2x256 32 := (extractStridedSlice S64x2x256 ![0, 0, 0] · slices_S64x4x256_S64x2x256_0_0_0) main_arg1
  let main_v1 : IVec S64x2x256 32 := (extractStridedSlice S64x2x256 ![0, 2, 0] · slices_S64x4x256_S64x2x256_0_2_0) main_arg1
  let main_v2 : IVec S1x1x1x8 32 := broadcastInDim S1x1x1x8 ![3] bcast_S8_S1x1x1x8_3 main_arg2
  let main_v3 : IVec S64x2x256x1 32 := broadcastInDim S64x2x256x1 ![0, 1, 2] bcast_S64x2x256_S64x2x256x1_0_1_2 main_v1
  let main_v4 : IVec S64x2x256x8 32 := broadcastInDim S64x2x256x8 ![0, 1, 2, 3] bcast_S1x1x1x8_S64x2x256x8_0_1_2_3 main_v2
  let main_v5 : IVec S64x2x256x8 32 := broadcastInDim S64x2x256x8 ![0, 1, 2, 3] bcast_S64x2x256x1_S64x2x256x8_0_1_2_3 main_v3
  let main_v6 : IVec S64x2x256x8 32 := addi main_v4 main_v5
  let main_v7 : IVec S64x2x256x1 32 := broadcastInDim S64x2x256x1 ![0, 1, 2] bcast_S64x2x256_S64x2x256x1_0_1_2 main_v0
  let main_v8 : IVec S8 32 := iotaInDim S8 32 0
  let main_v9 : IVec S1x1x1x8 32 := broadcastInDim S1x1x1x8 ![3] bcast_S8_S1x1x1x8_3 main_v8
  let main_v10 : IVec S64x2x256x8 32 := broadcastInDim S64x2x256x8 ![0, 1, 2, 3] bcast_S64x2x256x1_S64x2x256x8_0_1_2_3 main_v7
  let main_v11 : IVec S64x2x256x8 32 := broadcastInDim S64x2x256x8 ![0, 1, 2, 3] bcast_S1x1x1x8_S64x2x256x8_0_1_2_3 main_v9
  let main_v12 : IVec S64x2x256x8 1 := cmpi .eq main_v10 main_v11
  let main_c : IVec S_ 32 := constantI S_ 32 0#32
  let main_v13 : IVec S64x2x256 32 := broadcastInDim S64x2x256 ![] bcast_S_S64x2x256 main_c
  let main_v14 : IVec S64x2x256 1 := cmpi .sge main_v0 main_v13
  let main_c_0 : IVec S_ 32 := constantI S_ 32 8#32
  let main_v15 : IVec S64x2x256 32 := broadcastInDim S64x2x256 ![] bcast_S_S64x2x256 main_c_0
  let main_v16 : IVec S64x2x256 1 := cmpi .slt main_v0 main_v15
  let main_v17 : IVec S64x2x256 1 := andi main_v14 main_v16
  let main_c_1 : IVec S_ 1 := constantI S_ 1 1#1
  let main_v18 : IVec S_ 1 := (fun x v => Host.reduce IntOp.andi x v reducesTo_S64x2x256_S_d0_1_2 h_S_) main_v17 main_c_1
  let main_v19 : IVec S64x2x256x8 1 := noti main_v12
  let main_c_2 : IVec S_ 32 := constantI S_ 32 0#32
  fn_part1 (F := F) main_v6 main_v18 main_v19 main_c_2
-- ==== Kernel.lean ====
abbrev S36864x32x128 : Shape := ⟨3, ![36864, 32, 128]⟩
abbrev S64x4x256 : Shape := ⟨3, ![64, 4, 256]⟩
abbrev S8 : Shape := ⟨1, ![8]⟩
abbrev S2x16384x32x128 : Shape := ⟨4, ![2, 16384, 32, 128]⟩
abbrev S1x4x256 : Shape := ⟨3, ![1, 4, 256]⟩
abbrev S2x256x32x128 : Shape := ⟨4, ![2, 256, 32, 128]⟩
abbrev S_ : Shape := ⟨0, ![]⟩
abbrev S1x1x1 : Shape := ⟨3, ![1, 1, 1]⟩
abbrev S1 : Shape := ⟨1, ![1]⟩
abbrev S1x1x32x128 : Shape := ⟨4, ![1, 1, 32, 128]⟩
abbrev S32x128 : Shape := ⟨2, ![32, 128]⟩
abbrev S1x32x128 : Shape := ⟨3, ![1, 32, 128]⟩

abbrev nBuf : Space → Nat
  | .hbm => 3
  | .vmem => 2
  | .smem => 3
  | _ => 0

abbrev bufTy : (tb : Table) → Fin (tcTables nBuf tb) → BufTy
  | .hbm, ⟨0, _⟩ => ⟨S36864x32x128, .bf16⟩
  | .hbm, ⟨1, _⟩ => ⟨S64x4x256, .i32⟩
  | .hbm, ⟨2, _⟩ => ⟨S2x16384x32x128, .bf16⟩
  | .local _ .vmem, ⟨0, _⟩ => ⟨S2x256x32x128, .bf16⟩
  | .local _ .vmem, ⟨1, _⟩ => ⟨S2x256x32x128, .bf16⟩
  | .local _ .smem, ⟨0, _⟩ => ⟨S8, .i32⟩
  | .local _ .smem, ⟨1, _⟩ => ⟨S1x4x256, .i32⟩
  | .local _ .smem, ⟨2, _⟩ => ⟨S1x4x256, .i32⟩
  | _, _ => ⟨S36864x32x128, .bf16⟩

abbrev bufScoped : (cs : CoreSpace) → Fin (nBuf (.core cs)) → Bool
  | .vmem, ⟨0, _⟩ => true
  | .vmem, ⟨1, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0 : Index := 0#32
  let c0_5 : Index := 0#32
  let c0_i32 : BitVec 32 := 0#32
  let c1_i32 : BitVec 32 := 1#32
  let arg6 : BitVec 32 := Scf.iv c0_i32 c1_i32 k0_t1
  let v2 : Index := Scalar.indexCast arg6
  ![0, 0, v2.toNat]
def k0_off2 (v3 : BitVec 32) : Fin 1 → Nat :=
  let v4 : Index := Scalar.indexCast v3
  ![v4.toNat]

def k0_chk1 (v3 : BitVec 32) : Prop :=
  (∀ a, (k0_off2 v3) a + S1.size a ≤ S8.size a)
theorem k0_off2_inb : ∀ (v3 : BitVec 32) (k0_hw1 : k0_chk1 v3), ∀ a, (k0_off2 v3) a + S1.size a ≤ S8.size a := fun v3 k0_hw1 => k0_hw1

def k0_off3 (k0_t1 : Fin k0_t1_loop.trips) : Fin 3 → Nat :=
  let c0_6 : Index := 0#32
  let c2 : Index := 2#32
  let c0_i32 : BitVec 32 := 0#32
  let c1_i32 : BitVec 32 := 1#32
  let arg6 : BitVec 32 := Scf.iv c0_i32 c1_i32 k0_t1
  let v6 : Index := Scalar.indexCast arg6
  ![0, 2, v6.toNat]
def k0_off4 (k0_t1 : Fin k0_t1_loop.trips) : Fin 4 → Nat :=
  let c0_i32_7 : BitVec 32 := 0#32
  let c0_i32 : BitVec 32 := 0#32
  let c1_i32 : BitVec 32 := 1#32
  let arg6 : BitVec 32 := Scf.iv c0_i32 c1_i32 k0_t1
  let c0_i32_8 : BitVec 32 := 0#32
  let c0_i32_9 : BitVec 32 := 0#32
  ![0, arg6.toNat, 0, 0]
def k0_off5 (v5 : BitVec 32) (v7 : BitVec 32) : Fin 3 → Nat :=
  let v8 : BitVec 32 := Scalar.addi v5 v7
  let c0_i32_10 : BitVec 32 := 0#32
  let c0_i32_11 : BitVec 32 := 0#32
  ![v8.toNat, 0, 0]

def k0_chk2 (v5 : BitVec 32) (v7 : BitVec 32) : Prop :=
  (∀ a, (k0_off5 v5 v7) a + S1x32x128.size a ≤ S36864x32x128.size a) ∧
  (∀ (hinb : ∀ a, (k0_off5 v5 v7) a + S1x32x128.size a ≤ S36864x32x128.size a), (Rect.unit (s := S36864x32x128) (k0_off5 v5 v7) S1x32x128.size hinb).WholeWords (EltTy.packing .bf16))
theorem k0_off5_inb : ∀ (v5 : BitVec 32) (v7 : BitVec 32) (k0_hw2 : k0_chk2 v5 v7), ∀ a, (k0_off5 v5 v7) a + S1x32x128.size a ≤ S36864x32x128.size a := fun v5 v7 k0_hw2 => k0_hw2.1
theorem k0_off5_wordsbf16 : ∀ (v5 : BitVec 32) (v7 : BitVec 32) (k0_hw2 : k0_chk2 v5 v7), (Rect.unit (s := S36864x32x128) (k0_off5 v5 v7) S1x32x128.size (k0_off5_inb v5 v7 k0_hw2)).WholeWords (EltTy.packing .bf16) := fun v5 v7 k0_hw2 => k0_hw2.2 (k0_off5_inb v5 v7 k0_hw2)

def k0_off6 (k0_t1 : Fin k0_t1_loop.trips) : Fin 3 → Nat :=
  let c0_12 : Index := 0#32
  let c1 : Index := 1#32
  let c0_i32 : BitVec 32 := 0#32
  let c1_i32 : BitVec 32 := 1#32
  let arg6 : BitVec 32 := Scf.iv c0_i32 c1_i32 k0_t1
  let v13 : Index := Scalar.indexCast arg6
  ![0, 1, v13.toNat]
def k0_off7 (v14 : BitVec 32) : Fin 1 → Nat :=
  let v15 : Index := Scalar.indexCast v14
  ![v15.toNat]

def k0_chk3 (v14 : BitVec 32) : Prop :=
  (∀ a, (k0_off7 v14) a + S1.size a ≤ S8.size a)
theorem k0_off7_inb : ∀ (v14 : BitVec 32) (k0_hw3 : k0_chk3 v14), ∀ a, (k0_off7 v14) a + S1.size a ≤ S8.size a := fun v14 k0_hw3 => k0_hw3

def k0_off8 (k0_t1 : Fin k0_t1_loop.trips) : Fin 3 → Nat :=
  let c0_13 : Index := 0#32
  let c3 : Index := 3#32
  let c0_i32 : BitVec 32 := 0#32
  let c1_i32 : BitVec 32 := 1#32
  let arg6 : BitVec 32 := Scf.iv c0_i32 c1_i32 k0_t1
  let v17 : Index := Scalar.indexCast arg6
  ![0, 3, v17.toNat]
def k0_off9 (k0_t1 : Fin k0_t1_loop.trips) : Fin 4 → Nat :=
  let c1_i32_14 : BitVec 32 := 1#32
  let c0_i32 : BitVec 32 := 0#32
  let c1_i32 : BitVec 32 := 1#32
  let arg6 : BitVec 32 := Scf.iv c0_i32 c1_i32 k0_t1
  let c0_i32_15 : BitVec 32 := 0#32
  let c0_i32_16 : BitVec 32 := 0#32
  ![1, arg6.toNat, 0, 0]
def k0_off10 (v16 : BitVec 32) (v18 : BitVec 32) : Fin 3 → Nat :=
  let v19 : BitVec 32 := Scalar.addi v16 v18
  let c0_i32_17 : BitVec 32 := 0#32
  let c0_i32_18 : BitVec 32 := 0#32
  ![v19.toNat, 0, 0]

def k0_chk4 (v16 : BitVec 32) (v18 : BitVec 32) : Prop :=
  (∀ a, (k0_off10 v16 v18) a + S1x32x128.size a ≤ S36864x32x128.size a) ∧
  (∀ (hinb : ∀ a, (k0_off10 v16 v18) a + S1x32x128.size a ≤ S36864x32x128.size a), (Rect.unit (s := S36864x32x128) (k0_off10 v16 v18) S1x32x128.size hinb).WholeWords (EltTy.packing .bf16))
theorem k0_off10_inb : ∀ (v16 : BitVec 32) (v18 : BitVec 32) (k0_hw4 : k0_chk4 v16 v18), ∀ a, (k0_off10 v16 v18) a + S1x32x128.size a ≤ S36864x32x128.size a := fun v16 v18 k0_hw4 => k0_hw4.1
theorem k0_off10_wordsbf16 : ∀ (v16 : BitVec 32) (v18 : BitVec 32) (k0_hw4 : k0_chk4 v16 v18), (Rect.unit (s := S36864x32x128) (k0_off10 v16 v18) S1x32x128.size (k0_off10_inb v16 v18 k0_hw4)).WholeWords (EltTy.packing .bf16) := fun v16 v18 k0_hw4 => k0_hw4.2 (k0_off10_inb v16 v18 k0_hw4)

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off11 (k0_t2 : Fin k0_t2_loop.trips) : Fin 3 → Nat :=
  let c0 : Index := 0#32
  let c0_5 : Index := 0#32
  let c0_i32_1 : BitVec 32 := 0#32
  let c1_i32_3 : BitVec 32 := 1#32
  let arg6 : BitVec 32 := Scf.iv c0_i32_1 c1_i32_3 k0_t2
  let v2 : Index := Scalar.indexCast arg6
  ![0, 0, v2.toNat]
def k0_off12 (v3 : BitVec 32) : Fin 1 → Nat :=
  let v4 : Index := Scalar.indexCast v3
  ![v4.toNat]

def k0_chk5 (v3 : BitVec 32) : Prop :=
  (∀ a, (k0_off12 v3) a + S1.size a ≤ S8.size a)
theorem k0_off12_inb : ∀ (v3 : BitVec 32) (k0_hw5 : k0_chk5 v3), ∀ a, (k0_off12 v3) a + S1.size a ≤ S8.size a := fun v3 k0_hw5 => k0_hw5

def k0_off13 (k0_t2 : Fin k0_t2_loop.trips) : Fin 3 → Nat :=
  let c0_6 : Index := 0#32
  let c2 : Index := 2#32
  let c0_i32_1 : BitVec 32 := 0#32
  let c1_i32_3 : BitVec 32 := 1#32
  let arg6 : BitVec 32 := Scf.iv c0_i32_1 c1_i32_3 k0_t2
  let v6 : Index := Scalar.indexCast arg6
  ![0, 2, v6.toNat]
def k0_off14 (k0_t2 : Fin k0_t2_loop.trips) : Fin 4 → Nat :=
  let c0_i32_7 : BitVec 32 := 0#32
  let c0_i32_1 : BitVec 32 := 0#32
  let c1_i32_3 : BitVec 32 := 1#32
  let arg6 : BitVec 32 := Scf.iv c0_i32_1 c1_i32_3 k0_t2
  let c0_i32_8 : BitVec 32 := 0#32
  let c0_i32_9 : BitVec 32 := 0#32
  ![0, arg6.toNat, 0, 0]
def k0_off15 (v5 : BitVec 32) (v7 : BitVec 32) : Fin 3 → Nat :=
  let v8 : BitVec 32 := Scalar.addi v5 v7
  let c0_i32_10 : BitVec 32 := 0#32
  let c0_i32_11 : BitVec 32 := 0#32
  ![v8.toNat, 0, 0]

def k0_chk6 (v5 : BitVec 32) (v7 : BitVec 32) : Prop :=
  (∀ a, (k0_off15 v5 v7) a + S1x32x128.size a ≤ S36864x32x128.size a) ∧
  (∀ (hinb : ∀ a, (k0_off15 v5 v7) a + S1x32x128.size a ≤ S36864x32x128.size a), (Rect.unit (s := S36864x32x128) (k0_off15 v5 v7) S1x32x128.size hinb).WholeWords (EltTy.packing .bf16))
theorem k0_off15_inb : ∀ (v5 : BitVec 32) (v7 : BitVec 32) (k0_hw6 : k0_chk6 v5 v7), ∀ a, (k0_off15 v5 v7) a + S1x32x128.size a ≤ S36864x32x128.size a := fun v5 v7 k0_hw6 => k0_hw6.1
theorem k0_off15_wordsbf16 : ∀ (v5 : BitVec 32) (v7 : BitVec 32) (k0_hw6 : k0_chk6 v5 v7), (Rect.unit (s := S36864x32x128) (k0_off15 v5 v7) S1x32x128.size (k0_off15_inb v5 v7 k0_hw6)).WholeWords (EltTy.packing .bf16) := fun v5 v7 k0_hw6 => k0_hw6.2 (k0_off15_inb v5 v7 k0_hw6)

def k0_off16 (k0_t2 : Fin k0_t2_loop.trips) : Fin 3 → Nat :=
  let c0_12 : Index := 0#32
  let c1 : Index := 1#32
  let c0_i32_1 : BitVec 32 := 0#32
  let c1_i32_3 : BitVec 32 := 1#32
  let arg6 : BitVec 32 := Scf.iv c0_i32_1 c1_i32_3 k0_t2
  let v13 : Index := Scalar.indexCast arg6
  ![0, 1, v13.toNat]
def k0_off17 (v14 : BitVec 32) : Fin 1 → Nat :=
  let v15 : Index := Scalar.indexCast v14
  ![v15.toNat]

def k0_chk7 (v14 : BitVec 32) : Prop :=
  (∀ a, (k0_off17 v14) a + S1.size a ≤ S8.size a)
theorem k0_off17_inb : ∀ (v14 : BitVec 32) (k0_hw7 : k0_chk7 v14), ∀ a, (k0_off17 v14) a + S1.size a ≤ S8.size a := fun v14 k0_hw7 => k0_hw7

def k0_off18 (k0_t2 : Fin k0_t2_loop.trips) : Fin 3 → Nat :=
  let c0_13 : Index := 0#32
  let c3 : Index := 3#32
  let c0_i32_1 : BitVec 32 := 0#32
  let c1_i32_3 : BitVec 32 := 1#32
  let arg6 : BitVec 32 := Scf.iv c0_i32_1 c1_i32_3 k0_t2
  let v17 : Index := Scalar.indexCast arg6
  ![0, 3, v17.toNat]
def k0_off19 (k0_t2 : Fin k0_t2_loop.trips) : Fin 4 → Nat :=
  let c1_i32_14 : BitVec 32 := 1#32
  let c0_i32_1 : BitVec 32 := 0#32
  let c1_i32_3 : BitVec 32 := 1#32
  let arg6 : BitVec 32 := Scf.iv c0_i32_1 c1_i32_3 k0_t2
  let c0_i32_15 : BitVec 32 := 0#32
  let c0_i32_16 : BitVec 32 := 0#32
  ![1, arg6.toNat, 0, 0]
def k0_off20 (v16 : BitVec 32) (v18 : BitVec 32) : Fin 3 → Nat :=
  let v19 : BitVec 32 := Scalar.addi v16 v18
  let c0_i32_17 : BitVec 32 := 0#32
  let c0_i32_18 : BitVec 32 := 0#32
  ![v19.toNat, 0, 0]

def k0_chk8 (v16 : BitVec 32) (v18 : BitVec 32) : Prop :=
  (∀ a, (k0_off20 v16 v18) a + S1x32x128.size a ≤ S36864x32x128.size a) ∧
  (∀ (hinb : ∀ a, (k0_off20 v16 v18) a + S1x32x128.size a ≤ S36864x32x128.size a), (Rect.unit (s := S36864x32x128) (k0_off20 v16 v18) S1x32x128.size hinb).WholeWords (EltTy.packing .bf16))
theorem k0_off20_inb : ∀ (v16 : BitVec 32) (v18 : BitVec 32) (k0_hw8 : k0_chk8 v16 v18), ∀ a, (k0_off20 v16 v18) a + S1x32x128.size a ≤ S36864x32x128.size a := fun v16 v18 k0_hw8 => k0_hw8.1
theorem k0_off20_wordsbf16 : ∀ (v16 : BitVec 32) (v18 : BitVec 32) (k0_hw8 : k0_chk8 v16 v18), (Rect.unit (s := S36864x32x128) (k0_off20 v16 v18) S1x32x128.size (k0_off20_inb v16 v18 k0_hw8)).WholeWords (EltTy.packing .bf16) := fun v16 v18 k0_hw8 => k0_hw8.2 (k0_off20_inb v16 v18 k0_hw8)

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .smem S1x4x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S36864x32x128 : Shape := ⟨3, ![36864, 32, 128]⟩
abbrev S64x4x256 : Shape := ⟨3, ![64, 4, 256]⟩
abbrev S8 : Shape := ⟨1, ![8]⟩
abbrev S64x2x256 : Shape := ⟨3, ![64, 2, 256]⟩
abbrev S2x64x256 : Shape := ⟨3, ![2, 64, 256]⟩
abbrev S2x16384 : Shape := ⟨2, ![2, 16384]⟩
abbrev S_ : Shape := ⟨0, ![]⟩
abbrev S2x16384x1 : Shape := ⟨3, ![2, 16384, 1]⟩
abbrev S2x16384x32x128 : Shape := ⟨4, ![2, 16384, 32, 128]⟩

abbrev nBuf : Space → Nat
  | .hbm => 28
  | .vmem => 0
  | .smem => 0
  | _ => 0

abbrev bufTy : (tb : Table) → Fin (tcTables nBuf tb) → BufTy
  | .hbm, ⟨0, _⟩ => ⟨S36864x32x128, .bf16⟩
  | .hbm, ⟨1, _⟩ => ⟨S64x4x256, .i32⟩
  | .hbm, ⟨2, _⟩ => ⟨S8, .i32⟩
  | .hbm, ⟨3, _⟩ => ⟨S64x2x256, .i32⟩
  | .hbm, ⟨4, _⟩ => ⟨S2x64x256, .i32⟩
  | .hbm, ⟨5, _⟩ => ⟨S2x16384, .i32⟩
  | .hbm, ⟨6, _⟩ => ⟨S64x2x256, .i32⟩
  | .hbm, ⟨7, _⟩ => ⟨S2x64x256, .i32⟩
  | .hbm, ⟨8, _⟩ => ⟨S2x16384, .i32⟩
  | .hbm, ⟨9, _⟩ => ⟨S_, .i32⟩
  | .hbm, ⟨10, _⟩ => ⟨S2x16384, .i32⟩
  | .hbm, ⟨11, _⟩ => ⟨S2x16384, .i1⟩
  | .hbm, ⟨12, _⟩ => ⟨S_, .i32⟩
  | .hbm, ⟨13, _⟩ => ⟨S2x16384, .i32⟩
  | .hbm, ⟨14, _⟩ => ⟨S2x16384, .i32⟩
  | .hbm, ⟨15, _⟩ => ⟨S2x16384, .i32⟩
  | .hbm, ⟨16, _⟩ => ⟨S2x16384x1, .i32⟩
  | .hbm, ⟨17, _⟩ => ⟨S2x16384, .i32⟩
  | .hbm, ⟨18, _⟩ => ⟨S2x16384, .i32⟩
  | .hbm, ⟨19, _⟩ => ⟨S_, .i32⟩
  | .hbm, ⟨20, _⟩ => ⟨S2x16384, .i32⟩
  | .hbm, ⟨21, _⟩ => ⟨S2x16384, .i1⟩
  | .hbm, ⟨22, _⟩ => ⟨S_, .i32⟩
  | .hbm, ⟨23, _⟩ => ⟨S2x16384, .i32⟩
  | .hbm, ⟨24, _⟩ => ⟨S2x16384, .i32⟩
  | .hbm, ⟨25, _⟩ => ⟨S2x16384, .i32⟩
  | .hbm, ⟨26, _⟩ => ⟨S2x16384x1, .i32⟩
  | .hbm, ⟨27, _⟩ => ⟨S2x16384x32x128, .bf16⟩
  | _, _ => ⟨S36864x32x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S36864x4096 : Shape := ⟨2, ![36864, 4096]⟩
abbrev S72 : Shape := ⟨1, ![72]⟩
abbrev S1 : Shape := ⟨1, ![1]⟩
abbrev S8x4096x4096 : Shape := ⟨3, ![8, 4096, 4096]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 6
  | .vmem => 8
  | .smem => 2
  | _ => 0

abbrev bufTy : (tb : Table) → Fin (tcTables nBuf tb) → BufTy
  | .hbm, ⟨0, _⟩ => ⟨S36864x4096, .bf16⟩
  | .hbm, ⟨1, _⟩ => ⟨S8x4096x4096, .f32⟩
  | .hbm, ⟨2, _⟩ => ⟨S8x4096x4096, .f32⟩
  | .hbm, ⟨3, _⟩ => ⟨S8x4096x4096, .bf16⟩
  | .hbm, ⟨4, _⟩ => ⟨S8x4096x4096, .bf16⟩
  | .hbm, ⟨5, _⟩ => ⟨S36864x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x512, .bf16⟩
  | .local _ .vmem, ⟨7, _⟩ => ⟨S512x512, .bf16⟩
  | .local _ .smem, ⟨0, _⟩ => ⟨S72, .i32⟩
  | .local _ .smem, ⟨1, _⟩ => ⟨S1, .i32⟩
  | _, _ => ⟨S36864x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![72, 8], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S36864x4096 : Shape := ⟨2, ![36864, 4096]⟩
abbrev S72 : Shape := ⟨1, ![72]⟩
abbrev S1 : Shape := ⟨1, ![1]⟩
abbrev S8x4096x4096 : Shape := ⟨3, ![8, 4096, 4096]⟩
abbrev S72x512x4096 : Shape := ⟨3, ![72, 512, 4096]⟩
abbrev S_ : Shape := ⟨0, ![]⟩
abbrev S72x1 : Shape := ⟨2, ![72, 1]⟩
abbrev S72x4096x4096 : Shape := ⟨3, ![72, 4096, 4096]⟩
abbrev S72x1x1 : Shape := ⟨3, ![72, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S36864x4096, .bf16⟩
  | .hbm, ⟨1, _⟩ => ⟨S72, .i32⟩
  | .hbm, ⟨2, _⟩ => ⟨S1, .i32⟩
  | .hbm, ⟨3, _⟩ => ⟨S8x4096x4096, .f32⟩
  | .hbm, ⟨4, _⟩ => ⟨S8x4096x4096, .f32⟩
  | .hbm, ⟨5, _⟩ => ⟨S36864x4096, .f32⟩
  | .hbm, ⟨6, _⟩ => ⟨S72x512x4096, .f32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S72, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x4096x4096, .f32⟩
  | .hbm, ⟨16, _⟩ => ⟨S72x512x4096, .f32⟩
  | .hbm, ⟨17, _⟩ => ⟨S_, .i32⟩
  | .hbm, ⟨18, _⟩ => ⟨S72, .i32⟩
  | .hbm, ⟨19, _⟩ => ⟨S72, .i1⟩
  | .hbm, ⟨20, _⟩ => ⟨S_, .i32⟩
  | .hbm, ⟨21, _⟩ => ⟨S72, .i32⟩
  | .hbm, ⟨22, _⟩ => ⟨S72, .i32⟩
  | .hbm, ⟨23, _⟩ => ⟨S72, .i32⟩
  | .hbm, ⟨24, _⟩ => ⟨S72x1, .i32⟩
  | .hbm, ⟨25, _⟩ => ⟨S72x4096x4096, .f32⟩
  | .hbm, ⟨26, _⟩ => ⟨S72x512x4096, .f32⟩
  | .hbm, ⟨27, _⟩ => ⟨S72, .i32⟩
  | .hbm, ⟨28, _⟩ => ⟨S_, .i32⟩
  | .hbm, ⟨29, _⟩ => ⟨S72, .i32⟩
  | .hbm, ⟨30, _⟩ => ⟨S72, .i1⟩
  | .hbm, ⟨31, _⟩ => ⟨S72x1x1, .i1⟩
  | .hbm, ⟨32, _⟩ => ⟨S72x512x4096, .f32⟩
  | .hbm, ⟨33, _⟩ => ⟨S72x512x4096, .f32⟩
  | .hbm, ⟨34, _⟩ => ⟨S_, .f32⟩
  | .hbm, ⟨35, _⟩ => ⟨S72x512x4096, .f32⟩
  | .hbm, ⟨36, _⟩ => ⟨S72x512x4096, .f32⟩
  | .hbm, ⟨37, _⟩ => ⟨S_, .f32⟩
  | .hbm, ⟨38, _⟩ => ⟨S72x512x4096, .f32⟩
  | .hbm, ⟨39, _⟩ => ⟨S72x512x4096, .f32⟩
  | .hbm, ⟨40, _⟩ => ⟨S72x512x4096, .f32⟩
  | .hbm, ⟨41, _⟩ => ⟨S72x512x4096, .f32⟩
  | .hbm, ⟨42, _⟩ => ⟨S_, .f32⟩
  | .hbm, ⟨43, _⟩ => ⟨S_, .f32⟩
  | .hbm, ⟨44, _⟩ => ⟨S72x512x4096, .i1⟩
  | .hbm, ⟨45, _⟩ => ⟨S72x512x4096, .f32⟩
  | .hbm, ⟨46, _⟩ => ⟨S72x512x4096, .f32⟩
  | .hbm, ⟨47, _⟩ => ⟨S36864x4096, .f32⟩
  | .hbm, ⟨48, _⟩ => ⟨S36864x4096, .bf16⟩
  | _, _ => ⟨S36864x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Kernel3.lean ====
abbrev S36864x4096 : Shape := ⟨2, ![36864, 4096]⟩
abbrev S72 : Shape := ⟨1, ![72]⟩
abbrev S1 : Shape := ⟨1, ![1]⟩
abbrev S8x4096x4096 : Shape := ⟨3, ![8, 4096, 4096]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 4
  | .vmem => 6
  | .smem => 2
  | _ => 0

abbrev bufTy : (tb : Table) → Fin (tcTables nBuf tb) → BufTy
  | .hbm, ⟨0, _⟩ => ⟨S36864x4096, .bf16⟩
  | .hbm, ⟨1, _⟩ => ⟨S8x4096x4096, .f32⟩
  | .hbm, ⟨2, _⟩ => ⟨S8x4096x4096, .bf16⟩
  | .hbm, ⟨3, _⟩ => ⟨S36864x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .bf16⟩
  | .local _ .vmem, ⟨5, _⟩ => ⟨S512x1024, .bf16⟩
  | .local _ .smem, ⟨0, _⟩ => ⟨S72, .i32⟩
  | .local _ .smem, ⟨1, _⟩ => ⟨S1, .i32⟩
  | _, _ => ⟨S36864x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_v1 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![72, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S36864x4096 : Shape := ⟨2, ![36864, 4096]⟩
abbrev S72 : Shape := ⟨1, ![72]⟩
abbrev S1 : Shape := ⟨1, ![1]⟩
abbrev S8x4096x4096 : Shape := ⟨3, ![8, 4096, 4096]⟩
abbrev S72x512x4096 : Shape := ⟨3, ![72, 512, 4096]⟩
abbrev S_ : Shape := ⟨0, ![]⟩
abbrev S72x1 : Shape := ⟨2, ![72, 1]⟩
abbrev S72x4096x4096 : Shape := ⟨3, ![72, 4096, 4096]⟩
abbrev S72x1x1 : Shape := ⟨3, ![72, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S36864x4096, .bf16⟩
  | .hbm, ⟨1, _⟩ => ⟨S72, .i32⟩
  | .hbm, ⟨2, _⟩ => ⟨S1, .i32⟩
  | .hbm, ⟨3, _⟩ => ⟨S8x4096x4096, .f32⟩
  | .hbm, ⟨4, _⟩ => ⟨S36864x4096, .f32⟩
  | .hbm, ⟨5, _⟩ => ⟨S72x512x4096, .f32⟩
  | .hbm, ⟨6, _⟩ => ⟨S_, .i32⟩
  | .hbm, ⟨7, _⟩ => ⟨S72, .i32⟩
  | .hbm, ⟨8, _⟩ => ⟨S72, .i1⟩
  | .hbm, ⟨9, _⟩ => ⟨S_, .i32⟩
  | .hbm, ⟨10, _⟩ => ⟨S72, .i32⟩
  | .hbm, ⟨11, _⟩ => ⟨S72, .i32⟩
  | .hbm, ⟨12, _⟩ => ⟨S72, .i32⟩
  | .hbm, ⟨13, _⟩ => ⟨S72x1, .i32⟩
  | .hbm, ⟨14, _⟩ => ⟨S72x4096x4096, .f32⟩
  | .hbm, ⟨15, _⟩ => ⟨S72x512x4096, .f32⟩
  | .hbm, ⟨16, _⟩ => ⟨S72, .i32⟩
  | .hbm, ⟨17, _⟩ => ⟨S_, .i32⟩
  | .hbm, ⟨18, _⟩ => ⟨S72, .i32⟩
  | .hbm, ⟨19, _⟩ => ⟨S72, .i1⟩
  | .hbm, ⟨20, _⟩ => ⟨S72x1x1, .i1⟩
  | .hbm, ⟨21, _⟩ => ⟨S_, .f32⟩
  | .hbm, ⟨22, _⟩ => ⟨S_, .f32⟩
  | .hbm, ⟨23, _⟩ => ⟨S72x512x4096, .i1⟩
  | .hbm, ⟨24, _⟩ => ⟨S72x512x4096, .f32⟩
  | .hbm, ⟨25, _⟩ => ⟨S72x512x4096, .f32⟩
  | .hbm, ⟨26, _⟩ => ⟨S36864x4096, .f32⟩
  | .hbm, ⟨27, _⟩ => ⟨S36864x4096, .bf16⟩
  | _, _ => ⟨S36864x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel4.lean ====
abbrev S16384x4096 : Shape := ⟨2, ![16384, 4096]⟩
abbrev S2x16384x32x128 : Shape := ⟨4, ![2, 16384, 32, 128]⟩
abbrev S16384x128 : Shape := ⟨2, ![16384, 128]⟩
abbrev S2x1x4096 : Shape := ⟨3, ![2, 1, 4096]⟩
abbrev S2x16384x4096 : Shape := ⟨3, ![2, 16384, 4096]⟩
abbrev S256x4096 : Shape := ⟨2, ![256, 4096]⟩
abbrev S2x256x4096 : Shape := ⟨3, ![2, 256, 4096]⟩
abbrev S256x128 : Shape := ⟨2, ![256, 128]⟩
abbrev S1x1x4096 : Shape := ⟨3, ![1, 1, 4096]⟩
abbrev S256 : Shape := ⟨1, ![256]⟩
abbrev S256x1 : Shape := ⟨2, ![256, 1]⟩
abbrev S1x256x4096 : Shape := ⟨3, ![1, 256, 4096]⟩
abbrev S1x4096 : Shape := ⟨2, ![1, 4096]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S2x16384x32x128, .bf16⟩
  | .hbm, ⟨2, _⟩ => ⟨S16384x128, .f32⟩
  | .hbm, ⟨3, _⟩ => ⟨S2x1x4096, .f32⟩
  | .hbm, ⟨4, _⟩ => ⟨S2x16384x4096, .bf16⟩
  | .hbm, ⟨5, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S2x256x4096, .bf16⟩
  | .local _ .vmem, ⟨3, _⟩ => ⟨S2x256x4096, .bf16⟩
  | .local _ .vmem, ⟨4, _⟩ => ⟨S256x128, .f32⟩
  | .local _ .vmem, ⟨5, _⟩ => ⟨S256x128, .f32⟩
  | .local _ .vmem, ⟨6, _⟩ => ⟨S1x1x4096, .f32⟩
  | .local _ .vmem, ⟨7, _⟩ => ⟨S1x1x4096, .f32⟩
  | .local _ .vmem, ⟨8, _⟩ => ⟨S256x4096, .f32⟩
  | .local _ .vmem, ⟨9, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x4096 : Shape := ⟨2, ![16384, 4096]⟩
abbrev S2x16384x32x128 : Shape := ⟨4, ![2, 16384, 32, 128]⟩
abbrev S16384x128 : Shape := ⟨2, ![16384, 128]⟩
abbrev S2x1x4096 : Shape := ⟨3, ![2, 1, 4096]⟩
abbrev S2x16384x4096 : Shape := ⟨3, ![2, 16384, 4096]⟩
abbrev S16384x1 : Shape := ⟨2, ![16384, 1]⟩
abbrev S1x16384x4096 : Shape := ⟨3, ![1, 16384, 4096]⟩
abbrev S2x8192x4096 : Shape := ⟨3, ![2, 8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x16384x32x128, .bf16⟩
  | .hbm, ⟨2, _⟩ => ⟨S16384x128, .f32⟩
  | .hbm, ⟨3, _⟩ => ⟨S2x1x4096, .f32⟩
  | .hbm, ⟨4, _⟩ => ⟨S2x16384x32x128, .f32⟩
  | .hbm, ⟨5, _⟩ => ⟨S2x16384x4096, .f32⟩
  | .hbm, ⟨6, _⟩ => ⟨S16384x1, .f32⟩
  | .hbm, ⟨7, _⟩ => ⟨S1x16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x1, .f32⟩
  | .hbm, ⟨12, _⟩ => ⟨S1x16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S2x8192x4096, .f32⟩
  | .hbm, ⟨18, _⟩ => ⟨S2x8192x4096, .f32⟩
  | .hbm, ⟨19, _⟩ => ⟨S2x8192x4096, .f32⟩
  | .hbm, ⟨20, _⟩ => ⟨S2x8192x4096, .f32⟩
  | .hbm, ⟨21, _⟩ => ⟨S2x8192x4096, .f32⟩
  | .hbm, ⟨22, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel5.lean ====
abbrev S16384x11008 : Shape := ⟨2, ![16384, 11008]⟩
abbrev S2x8192x4096 : Shape := ⟨3, ![2, 8192, 4096]⟩
abbrev S2x1x4096 : Shape := ⟨3, ![2, 1, 4096]⟩
abbrev S11008x4096 : Shape := ⟨2, ![11008, 4096]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x11008, .bf16⟩
  | .hbm, ⟨1, _⟩ => ⟨S2x8192x4096, .f32⟩
  | .hbm, ⟨2, _⟩ => ⟨S2x1x4096, .f32⟩
  | .hbm, ⟨3, _⟩ => ⟨S11008x4096, .f32⟩
  | .hbm, ⟨4, _⟩ => ⟨S11008x4096, .bf16⟩
  | .hbm, ⟨5, _⟩ => ⟨S16384x4096, .f32⟩
  | .hbm, ⟨6, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x11008 : Shape := ⟨2, ![16384, 11008]⟩
abbrev S2x8192x4096 : Shape := ⟨3, ![2, 8192, 4096]⟩
abbrev S2x1x4096 : Shape := ⟨3, ![2, 1, 4096]⟩
abbrev S11008x4096 : Shape := ⟨2, ![11008, 4096]⟩
abbrev S2x8192x11008 : Shape := ⟨3, ![2, 8192, 11008]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S2x8192x4096, .f32⟩
  | .hbm, ⟨2, _⟩ => ⟨S2x1x4096, .f32⟩
  | .hbm, ⟨3, _⟩ => ⟨S11008x4096, .f32⟩
  | .hbm, ⟨4, _⟩ => ⟨S16384x11008, .f32⟩
  | .hbm, ⟨5, _⟩ => ⟨S2x8192x11008, .f32⟩
  | .hbm, ⟨6, _⟩ => ⟨S2x8192x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S2x8192x4096 : Shape := ⟨3, ![2, 8192, 4096]⟩
abbrev S2x1x4096 : Shape := ⟨3, ![2, 1, 4096]⟩
abbrev S4096 : Shape := ⟨1, ![4096]⟩
abbrev S4096x11008 : Shape := ⟨2, ![4096, 11008]⟩
abbrev S16384x4096 : Shape := ⟨2, ![16384, 4096]⟩
abbrev S1x4096 : Shape := ⟨2, ![1, 4096]⟩
abbrev S16384x11008 : Shape := ⟨2, ![16384, 11008]⟩
abbrev S1x1x4096 : Shape := ⟨3, ![1, 1, 4096]⟩
abbrev S1024x4096 : Shape := ⟨2, ![1024, 4096]⟩
abbrev S4096x256 : Shape := ⟨2, ![4096, 256]⟩
abbrev S1024x256 : Shape := ⟨2, ![1024, 256]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S4096, .f32⟩
  | .hbm, ⟨4, _⟩ => ⟨S4096x11008, .f32⟩
  | .hbm, ⟨5, _⟩ => ⟨S4096x11008, .f32⟩
  | .hbm, ⟨6, _⟩ => ⟨S4096x11008, .bf16⟩
  | .hbm, ⟨7, _⟩ => ⟨S4096x11008, .bf16⟩
  | .hbm, ⟨8, _⟩ => ⟨S16384x4096, .f32⟩
  | .hbm, ⟨9, _⟩ => ⟨S1x4096, .f32⟩
  | .hbm, ⟨10, _⟩ => ⟨S16384x11008, .bf16⟩
  | .local _ .vmem, ⟨0, _⟩ => ⟨S1x1x4096, .f32⟩
  | .local _ .vmem, ⟨1, _⟩ => ⟨S1x1x4096, .f32⟩
  | .local _ .vmem, ⟨2, _⟩ => ⟨S1024x4096, .f32⟩
  | .local _ .vmem, ⟨3, _⟩ => ⟨S1x4096, .f32⟩
  | .local _ .vmem, ⟨4, _⟩ => ⟨S1x1x4096, .f32⟩
  | .local _ .vmem, ⟨5, _⟩ => ⟨S1x1x4096, .f32⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S1024x256, .bf16⟩
  | .local _ .vmem, ⟨11, _⟩ => ⟨S1024x256, .bf16⟩
  | .local _ .vmem, ⟨12, _⟩ => ⟨S1024x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 43], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2x8192x4096 : Shape := ⟨3, ![2, 8192, 4096]⟩
abbrev S2x1x4096 : Shape := ⟨3, ![2, 1, 4096]⟩
abbrev S4096 : Shape := ⟨1, ![4096]⟩
abbrev S4096x11008 : Shape := ⟨2, ![4096, 11008]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x11008 : Shape := ⟨3, ![2, 8192, 11008]⟩
abbrev S16384x11008 : Shape := ⟨2, ![16384, 11008]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S4096, .f32⟩
  | .hbm, ⟨4, _⟩ => ⟨S4096x11008, .f32⟩
  | .hbm, ⟨5, _⟩ => ⟨S4096x11008, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x4096, .f32⟩
  | .hbm, ⟨18, _⟩ => ⟨S2x8192x4096, .f32⟩
  | .hbm, ⟨19, _⟩ => ⟨S1x1x4096, .f32⟩
  | .hbm, ⟨20, _⟩ => ⟨S2x8192x4096, .f32⟩
  | .hbm, ⟨21, _⟩ => ⟨S2x8192x4096, .f32⟩
  | .hbm, ⟨22, _⟩ => ⟨S_, .f32⟩
  | .hbm, ⟨23, _⟩ => ⟨S2x1x4096, .f32⟩
  | .hbm, ⟨24, _⟩ => ⟨S2x1x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S2x8192x4096, .f32⟩
  | .hbm, ⟨29, _⟩ => ⟨S2x8192x11008, .f32⟩
  | .hbm, ⟨30, _⟩ => ⟨S2x8192x11008, .f32⟩
  | .hbm, ⟨31, _⟩ => ⟨S2x8192x11008, .f32⟩
  | .hbm, ⟨32, _⟩ => ⟨S_, .f32⟩
  | .hbm, ⟨33, _⟩ => ⟨S2x8192x11008, .f32⟩
  | .hbm, ⟨34, _⟩ => ⟨S2x8192x11008, .f32⟩
  | .hbm, ⟨35, _⟩ => ⟨S_, .f32⟩
  | .hbm, ⟨36, _⟩ => ⟨S2x8192x11008, .f32⟩
  | .hbm, ⟨37, _⟩ => ⟨S2x8192x11008, .f32⟩
  | .hbm, ⟨38, _⟩ => ⟨S2x8192x11008, .f32⟩
  | .hbm, ⟨39, _⟩ => ⟨S2x8192x11008, .f32⟩
  | .hbm, ⟨40, _⟩ => ⟨S2x8192x11008, .f32⟩
  | .hbm, ⟨41, _⟩ => ⟨S16384x11008, .f32⟩
  | .hbm, ⟨42, _⟩ => ⟨S16384x11008, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== Kernel7.lean ====
abbrev S2x8192x4096 : Shape := ⟨3, ![2, 8192, 4096]⟩
abbrev S2x1x4096 : Shape := ⟨3, ![2, 1, 4096]⟩
abbrev S4096 : Shape := ⟨1, ![4096]⟩
abbrev S128 : Shape := ⟨1, ![128]⟩
abbrev S4096x4096 : Shape := ⟨2, ![4096, 4096]⟩
abbrev S4096x12288 : Shape := ⟨2, ![4096, 12288]⟩
abbrev S16384x4096 : Shape := ⟨2, ![16384, 4096]⟩
abbrev S1x4096 : Shape := ⟨2, ![1, 4096]⟩
abbrev S1x128 : Shape := ⟨2, ![1, 128]⟩
abbrev S3x2x32x8192x128 : Shape := ⟨5, ![3, 2, 32, 8192, 128]⟩
abbrev S512x4096 : Shape := ⟨2, ![512, 4096]⟩
abbrev S1x1x4096 : Shape := ⟨3, ![1, 1, 4096]⟩
abbrev S4096x1024 : Shape := ⟨2, ![4096, 1024]⟩
abbrev S1x1x8x512x128 : Shape := ⟨5, ![1, 1, 8, 512, 128]⟩
abbrev S2x512x4096 : Shape := ⟨3, ![2, 512, 4096]⟩
abbrev S128x4096 : Shape := ⟨2, ![128, 4096]⟩
abbrev S128x1 : Shape := ⟨2, ![128, 1]⟩
abbrev S1x128x4096 : Shape := ⟨3, ![1, 128, 4096]⟩
abbrev S1x512x4096 : Shape := ⟨3, ![1, 512, 4096]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1x1x512x128 : Shape := ⟨5, ![1, 1, 1, 512, 128]⟩

abbrev nBuf : Space → Nat
  | .hbm => 22
  | .vmem => 18
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S2x1x4096, .f32⟩
  | .hbm, ⟨4, _⟩ => ⟨S2x1x4096, .f32⟩
  | .hbm, ⟨5, _⟩ => ⟨S4096, .f32⟩
  | .hbm, ⟨6, _⟩ => ⟨S4096, .f32⟩
  | .hbm, ⟨7, _⟩ => ⟨S128, .f32⟩
  | .hbm, ⟨8, _⟩ => ⟨S128, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S4096x4096, .bf16⟩
  | .hbm, ⟨14, _⟩ => ⟨S4096x4096, .bf16⟩
  | .hbm, ⟨15, _⟩ => ⟨S4096x12288, .bf16⟩
  | .hbm, ⟨16, _⟩ => ⟨S16384x4096, .f32⟩
  | .hbm, ⟨17, _⟩ => ⟨S1x4096, .f32⟩
  | .hbm, ⟨18, _⟩ => ⟨S1x4096, .f32⟩
  | .hbm, ⟨19, _⟩ => ⟨S1x128, .f32⟩
  | .hbm, ⟨20, _⟩ => ⟨S1x128, .f32⟩
  | .hbm, ⟨21, _⟩ => ⟨S3x2x32x8192x128, .bf16⟩
  | .local _ .vmem, ⟨0, _⟩ => ⟨S512x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x4096, .f32⟩
  | .local _ .vmem, ⟨10, _⟩ => ⟨S1x4096, .f32⟩
  | .local _ .vmem, ⟨11, _⟩ => ⟨S1x128, .f32⟩
  | .local _ .vmem, ⟨12, _⟩ => ⟨S1x128, .f32⟩
  | .local _ .vmem, ⟨13, _⟩ => ⟨S4096x1024, .bf16⟩
  | .local _ .vmem, ⟨14, _⟩ => ⟨S4096x1024, .bf16⟩
  | .local _ .vmem, ⟨15, _⟩ => ⟨S1x1x8x512x128, .bf16⟩
  | .local _ .vmem, ⟨16, _⟩ => ⟨S1x1x8x512x128, .bf16⟩
  | .local _ .vmem, ⟨17, _⟩ => ⟨S2x512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 12], ![false, false]⟩

def k0_off1 (i : grid0.Coords) : Fin 3 → Nat :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c2_i32 : BitVec 32 := 2#32
  let c0_i32_8 : BitVec 32 := 0#32
  let v26 : BitVec 1 := Scalar.cmpi .sgt c2_i32 c0_i32_8
  let v27 : BitVec 32 := Scalar.extui v26
  let c0_i32_9 : BitVec 32 := 0#32
  let v28 : BitVec 1 := Scalar.cmpi .slt c2_i32 c0_i32_9
  let v29 : BitVec 32 := Scalar.extui v28
  let v30 : BitVec 32 := Scalar.subi v27 v29
  let v31 : BitVec 1 := Scalar.cmpi .ne v25 v30
  let v32 : BitVec 32 := Scalar.remsi v19 c2_i32
  let c0_i32_10 : BitVec 32 := 0#32
  let v33 : BitVec 1 := Scalar.cmpi .ne v32 c0_i32_10
  let v34 : BitVec 1 := Scalar.andi v31 v33
  let v20 : BitVec 32 := Scalar.divsi v19 c2_i32
  let c1_i32_11 : BitVec 32 := 1#32
  let v35 : BitVec 32 := Scalar.subi v20 c1_i32_11
  let v36 : BitVec 32 := Scalar.select v34 v35 v20
  let v37 : Index := Scalar.indexCast v36
  let c0 : Index := 0#32
  let c0_12 : Index := 0#32
  ![v37.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.divsi arg0 c16_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c16_i32 c0_i32_6
  let v24 : BitVec 32 := Scalar.extui v23
  let c0_i32_7 : BitVec 32 := 0#32
  let v25 : BitVec 1 := Scalar.cmpi .slt c16_i32 c0_i32_7
  let v26 : BitVec 32 := Scalar.extui v25
  let v27 : BitVec 32 := Scalar.subi v24 v26
  let v28 : BitVec 1 := Scalar.cmpi .ne v22 v27
  let v29 : BitVec 32 := Scalar.remsi arg0 c16_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32_10 : BitVec 32 := 4#32
  let c0_i32_11 : BitVec 32 := 0#32
  let v34 : BitVec 1 := Scalar.cmpi .eq c4_i32_10 c0_i32_11
  let c1_i32_12 : BitVec 32 := 1#32
  let v35 : BitVec 32 := Scalar.select v34 c1_i32_12 c4_i32_10
  let v36 : BitVec 32 := Scalar.remsi arg1 v35
  let c0_i32_13 : BitVec 32 := 0#32
  let v37 : BitVec 1 := Scalar.cmpi .ne v36 c0_i32_13
  let c0_i32_14 : BitVec 32 := 0#32
  let v38 : BitVec 1 := Scalar.cmpi .slt v36 c0_i32_14
  let c0_i32_15 : BitVec 32 := 0#32
  let v39 : BitVec 1 := Scalar.cmpi .slt v35 c0_i32_15
  let v40 : BitVec 1 := Scalar.xori v38 v39
  let v41 : BitVec 1 := Scalar.andi v40 v37
  let v42 : BitVec 32 := Scalar.addi v36 v35
  let v43 : BitVec 32 := Scalar.select v41 v42 v36
  let c16_i32_16 : BitVec 32 := 16#32
  let c0_i32_17 : BitVec 32 := 0#32
  let v44 : BitVec 1 := Scalar.cmpi .eq c16_i32_16 c0_i32_17
  let c1_i32_18 : BitVec 32 := 1#32
  let v45 : BitVec 32 := Scalar.select v44 c1_i32_18 c16_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  ![v16.toNat, v33.toNat, v43.toNat, v53.toNat, c0_i32_22.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4096x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S2x8192x4096 : Shape := ⟨3, ![2, 8192, 4096]⟩
abbrev S2x1x4096 : Shape := ⟨3, ![2, 1, 4096]⟩
abbrev S4096 : Shape := ⟨1, ![4096]⟩
abbrev S128 : Shape := ⟨1, ![128]⟩
abbrev S4096x4096 : Shape := ⟨2, ![4096, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x32x128 : Shape := ⟨4, ![2, 8192, 32, 128]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩
abbrev S1x2x8192x32x128 : Shape := ⟨5, ![1, 2, 8192, 32, 128]⟩
abbrev S3x2x8192x32x128 : Shape := ⟨5, ![3, 2, 8192, 32, 128]⟩
abbrev S3x2x32x8192x128 : Shape := ⟨5, ![3, 2, 32, 8192, 128]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S2x1x4096, .f32⟩
  | .hbm, ⟨4, _⟩ => ⟨S2x1x4096, .f32⟩
  | .hbm, ⟨5, _⟩ => ⟨S4096, .f32⟩
  | .hbm, ⟨6, _⟩ => ⟨S4096, .f32⟩
  | .hbm, ⟨7, _⟩ => ⟨S128, .f32⟩
  | .hbm, ⟨8, _⟩ => ⟨S128, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S2x8192x4096, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x4096, .f32⟩
  | .hbm, ⟨24, _⟩ => ⟨S2x8192x4096, .f32⟩
  | .hbm, ⟨25, _⟩ => ⟨S1x1x4096, .f32⟩
  | .hbm, ⟨26, _⟩ => ⟨S2x8192x4096, .f32⟩
  | .hbm, ⟨27, _⟩ => ⟨S2x8192x4096, .f32⟩
  | .hbm, ⟨28, _⟩ => ⟨S_, .f32⟩
  | .hbm, ⟨29, _⟩ => ⟨S2x1x4096, .f32⟩
  | .hbm, ⟨30, _⟩ => ⟨S2x1x4096, .f32⟩
  | .hbm, ⟨31, _⟩ => ⟨S2x8192x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S2x8192x32x128, .f32⟩
  | .hbm, ⟨37, _⟩ => ⟨S2x8192x32x128, .f32⟩
  | .hbm, ⟨38, _⟩ => ⟨S_, .f32⟩
  | .hbm, ⟨39, _⟩ => ⟨S2x8192x32, .f32⟩
  | .hbm, ⟨40, _⟩ => ⟨S2x8192x32x1, .f32⟩
  | .hbm, ⟨41, _⟩ => ⟨S_, .f32⟩
  | .hbm, ⟨42, _⟩ => ⟨S2x8192x32x1, .f32⟩
  | .hbm, ⟨43, _⟩ => ⟨S2x8192x32x1, .f32⟩
  | .hbm, ⟨44, _⟩ => ⟨S_, .f32⟩
  | .hbm, ⟨45, _⟩ => ⟨S2x8192x32x1, .f32⟩
  | .hbm, ⟨46, _⟩ => ⟨S2x8192x32x1, .f32⟩
  | .hbm, ⟨47, _⟩ => ⟨S2x8192x32x1, .f32⟩
  | .hbm, ⟨48, _⟩ => ⟨S2x8192x32x128, .f32⟩
  | .hbm, ⟨49, _⟩ => ⟨S2x8192x32x128, .f32⟩
  | .hbm, ⟨50, _⟩ => ⟨S1x1x1x128, .f32⟩
  | .hbm, ⟨51, _⟩ => ⟨S2x8192x32x128, .f32⟩
  | .hbm, ⟨52, _⟩ => ⟨S2x8192x32x128, .f32⟩
  | .hbm, ⟨53, _⟩ => ⟨S2x8192x4096, .f32⟩
  | .hbm, ⟨54, _⟩ => ⟨S2x8192x32x128, .f32⟩
  | .hbm, ⟨55, _⟩ => ⟨S1x1x4096, .f32⟩
  | .hbm, ⟨56, _⟩ => ⟨S2x8192x4096, .f32⟩
  | .hbm, ⟨57, _⟩ => ⟨S2x8192x4096, .f32⟩
  | .hbm, ⟨58, _⟩ => ⟨S_, .f32⟩
  | .hbm, ⟨59, _⟩ => ⟨S2x1x4096, .f32⟩
  | .hbm, ⟨60, _⟩ => ⟨S2x1x4096, .f32⟩
  | .hbm, ⟨61, _⟩ => ⟨S2x8192x4096, .f32⟩
  | .hbm, ⟨62, _⟩ => ⟨S2x8192x4096, .f32⟩
  | .hbm, ⟨63, _⟩ => ⟨S2x8192x4096, .f32⟩
  | .hbm, ⟨64, _⟩ => ⟨S2x8192x4096, .f32⟩
  | .hbm, ⟨65, _⟩ => ⟨S2x8192x4096, .f32⟩
  | .hbm, ⟨66, _⟩ => ⟨S2x8192x32x128, .f32⟩
  | .hbm, ⟨67, _⟩ => ⟨S2x8192x32x128, .f32⟩
  | .hbm, ⟨68, _⟩ => ⟨S_, .f32⟩
  | .hbm, ⟨69, _⟩ => ⟨S2x8192x32, .f32⟩
  | .hbm, ⟨70, _⟩ => ⟨S2x8192x32x1, .f32⟩
  | .hbm, ⟨71, _⟩ => ⟨S_, .f32⟩
  | .hbm, ⟨72, _⟩ => ⟨S2x8192x32x1, .f32⟩
  | .hbm, ⟨73, _⟩ => ⟨S2x8192x32x1, .f32⟩
  | .hbm, ⟨74, _⟩ => ⟨S_, .f32⟩
  | .hbm, ⟨75, _⟩ => ⟨S2x8192x32x1, .f32⟩
  | .hbm, ⟨76, _⟩ => ⟨S2x8192x32x1, .f32⟩
  | .hbm, ⟨77, _⟩ => ⟨S2x8192x32x1, .f32⟩
  | .hbm, ⟨78, _⟩ => ⟨S2x8192x32x128, .f32⟩
  | .hbm, ⟨79, _⟩ => ⟨S2x8192x32x128, .f32⟩
  | .hbm, ⟨80, _⟩ => ⟨S1x1x1x128, .f32⟩
  | .hbm, ⟨81, _⟩ => ⟨S2x8192x32x128, .f32⟩
  | .hbm, ⟨82, _⟩ => ⟨S2x8192x32x128, .f32⟩
  | .hbm, ⟨83, _⟩ => ⟨S_, .f32⟩
  | .hbm, ⟨84, _⟩ => ⟨S2x8192x32x128, .f32⟩
  | .hbm, ⟨85, _⟩ => ⟨S2x8192x32x128, .f32⟩
  | .hbm, ⟨86, _⟩ => ⟨S1x2x8192x32x128, .f32⟩
  | .hbm, ⟨87, _⟩ => ⟨S1x2x8192x32x128, .f32⟩
  | .hbm, ⟨88, _⟩ => ⟨S1x2x8192x32x128, .f32⟩
  | .hbm, ⟨89, _⟩ => ⟨S3x2x8192x32x128, .f32⟩
  | .hbm, ⟨90, _⟩ => ⟨S3x2x32x8192x128, .f32⟩
  | .hbm, ⟨91, _⟩ => ⟨S3x2x32x8192x128, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel8.lean ====
abbrev S2x8192x4096 : Shape := ⟨3, ![2, 8192, 4096]⟩
abbrev S2x1x4096 : Shape := ⟨3, ![2, 1, 4096]⟩
abbrev S4096 : Shape := ⟨1, ![4096]⟩
abbrev S4096x4096 : Shape := ⟨2, ![4096, 4096]⟩
abbrev S4096x8 : Shape := ⟨2, ![4096, 8]⟩
abbrev S_ : Shape := ⟨0, ![]⟩
abbrev S4096x128 : Shape := ⟨2, ![4096, 128]⟩
abbrev S16384x4096 : Shape := ⟨2, ![16384, 4096]⟩
abbrev S1x4096 : Shape := ⟨2, ![1, 4096]⟩
abbrev S16384x128 : Shape := ⟨2, ![16384, 128]⟩
abbrev S512x4096 : Shape := ⟨2, ![512, 4096]⟩
abbrev S4096x512 : Shape := ⟨2, ![4096, 512]⟩
abbrev S512x512 : Shape := ⟨2, ![512, 512]⟩
abbrev S1x1x512 : Shape := ⟨3, ![1, 1, 512]⟩
abbrev S1x1x4096 : Shape := ⟨3, ![1, 1, 4096]⟩
abbrev S512x128 : Shape := ⟨2, ![512, 128]⟩
abbrev S8x512x512 : Shape := ⟨3, ![8, 512, 512]⟩
abbrev S1x512 : Shape := ⟨2, ![1, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 18
  | .vmem => 21
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .f32⟩
  | .hbm, ⟨2, _⟩ => ⟨S2x1x4096, .f32⟩
  | .hbm, ⟨3, _⟩ => ⟨S4096, .f32⟩
  | .hbm, ⟨4, _⟩ => ⟨S2x1x4096, .f32⟩
  | .hbm, ⟨5, _⟩ => ⟨S2x1x4096, .f32⟩
  | .hbm, ⟨6, _⟩ => ⟨S4096x4096, .f32⟩
  | .hbm, ⟨7, _⟩ => ⟨S4096x8, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S16384x4096, .bf16⟩
  | .hbm, ⟨12, _⟩ => ⟨S4096x4096, .bf16⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .bf16⟩
  | .hbm, ⟨17, _⟩ => ⟨S16384x128, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S4096x128, .f32⟩
  | .local _ .vmem, ⟨14, _⟩ => ⟨S512x512, .f32⟩
  | .local _ .vmem, ⟨15, _⟩ => ⟨S512x512, .f32⟩
  | .local _ .vmem, ⟨16, _⟩ => ⟨S512x4096, .bf16⟩
  | .local _ .vmem, ⟨17, _⟩ => ⟨S512x4096, .bf16⟩
  | .local _ .vmem, ⟨18, _⟩ => ⟨S512x128, .f32⟩
  | .local _ .vmem, ⟨19, _⟩ => ⟨S512x128, .f32⟩
  | .local _ .vmem, ⟨20, _⟩ => ⟨S8x512x512, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let v13 : Index := Scalar.indexCast arg1
  let c0_10 : Index := 0#32
  let c0_11 : Index := 0#32
  ![v13.toNat, 0, 0]
def k0_cond1 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32 : BitVec 32 := 0#32
  let v19 : BitVec 1 := Scalar.cmpi .ne v18 c0_i32
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference8Ideal.lean ====
abbrev S2x8192x4096 : Shape := ⟨3, ![2, 8192, 4096]⟩
abbrev S2x1x4096 : Shape := ⟨3, ![2, 1, 4096]⟩
abbrev S4096 : Shape := ⟨1, ![4096]⟩
abbrev S4096x4096 : Shape := ⟨2, ![4096, 4096]⟩
abbrev S4096x8 : Shape := ⟨2, ![4096, 8]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .f32⟩
  | .hbm, ⟨2, _⟩ => ⟨S2x1x4096, .f32⟩
  | .hbm, ⟨3, _⟩ => ⟨S4096, .f32⟩
  | .hbm, ⟨4, _⟩ => ⟨S2x1x4096, .f32⟩
  | .hbm, ⟨5, _⟩ => ⟨S2x1x4096, .f32⟩
  | .hbm, ⟨6, _⟩ => ⟨S4096x4096, .f32⟩
  | .hbm, ⟨7, _⟩ => ⟨S4096x8, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x4096, .f32⟩
  | .hbm, ⟨25, _⟩ => ⟨S2x8192x4096, .f32⟩
  | .hbm, ⟨26, _⟩ => ⟨S1x1x4096, .f32⟩
  | .hbm, ⟨27, _⟩ => ⟨S2x8192x4096, .f32⟩
  | .hbm, ⟨28, _⟩ => ⟨S2x8192x4096, .f32⟩
  | .hbm, ⟨29, _⟩ => ⟨S_, .f32⟩
  | .hbm, ⟨30, _⟩ => ⟨S2x1x4096, .f32⟩
  | .hbm, ⟨31, _⟩ => ⟨S2x1x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel9.lean ====
abbrev S2x8192x4096 : Shape := ⟨3, ![2, 8192, 4096]⟩
abbrev S2x1x4096 : Shape := ⟨3, ![2, 1, 4096]⟩
abbrev S4096 : Shape := ⟨1, ![4096]⟩
abbrev S4096x4096 : Shape := ⟨2, ![4096, 4096]⟩
abbrev S4096x8 : Shape := ⟨2, ![4096, 8]⟩
abbrev S_ : Shape := ⟨0, ![]⟩
abbrev S4096x128 : Shape := ⟨2, ![4096, 128]⟩
abbrev S16384x4096 : Shape := ⟨2, ![16384, 4096]⟩
abbrev S1x4096 : Shape := ⟨2, ![1, 4096]⟩
abbrev S16384x128 : Shape := ⟨2, ![16384, 128]⟩
abbrev S512x4096 : Shape := ⟨2, ![512, 4096]⟩
abbrev S4096x512 : Shape := ⟨2, ![4096, 512]⟩
abbrev S512x512 : Shape := ⟨2, ![512, 512]⟩
abbrev S1x1x512 : Shape := ⟨3, ![1, 1, 512]⟩
abbrev S1x1x4096 : Shape := ⟨3, ![1, 1, 4096]⟩
abbrev S512x128 : Shape := ⟨2, ![512, 128]⟩
abbrev S8x512x512 : Shape := ⟨3, ![8, 512, 512]⟩
abbrev S1x512 : Shape := ⟨2, ![1, 512]⟩
abbrev S1x512x512 : Shape := ⟨3, ![1, 512, 512]⟩
abbrev S512x1 : Shape := ⟨2, ![512, 1]⟩
abbrev S512 : Shape := ⟨1, ![512]⟩

abbrev nBuf : Space → Nat
  | .hbm => 18
  | .vmem => 21
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .f32⟩
  | .hbm, ⟨2, _⟩ => ⟨S2x1x4096, .f32⟩
  | .hbm, ⟨3, _⟩ => ⟨S4096, .f32⟩
  | .hbm, ⟨4, _⟩ => ⟨S2x1x4096, .f32⟩
  | .hbm, ⟨5, _⟩ => ⟨S2x1x4096, .f32⟩
  | .hbm, ⟨6, _⟩ => ⟨S4096x4096, .f32⟩
  | .hbm, ⟨7, _⟩ => ⟨S4096x8, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S16384x4096, .bf16⟩
  | .hbm, ⟨12, _⟩ => ⟨S4096x4096, .bf16⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .bf16⟩
  | .hbm, ⟨17, _⟩ => ⟨S16384x128, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S4096x128, .f32⟩
  | .local _ .vmem, ⟨14, _⟩ => ⟨S512x512, .f32⟩
  | .local _ .vmem, ⟨15, _⟩ => ⟨S512x512, .f32⟩
  | .local _ .vmem, ⟨16, _⟩ => ⟨S512x4096, .bf16⟩
  | .local _ .vmem, ⟨17, _⟩ => ⟨S512x4096, .bf16⟩
  | .local _ .vmem, ⟨18, _⟩ => ⟨S512x128, .f32⟩
  | .local _ .vmem, ⟨19, _⟩ => ⟨S512x128, .f32⟩
  | .local _ .vmem, ⟨20, _⟩ => ⟨S8x512x512, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let v13 : Index := Scalar.indexCast arg1
  let c0_10 : Index := 0#32
  let c0_11 : Index := 0#32
  ![v13.toNat, 0, 0]
def k0_cond1 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32 : BitVec 32 := 0#32
  let v19 : BitVec 1 := Scalar.cmpi .ne v18 c0_i32
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference9Ideal.lean ====
abbrev S2x8192x4096 : Shape := ⟨3, ![2, 8192, 4096]⟩
abbrev S2x1x4096 : Shape := ⟨3, ![2, 1, 4096]⟩
abbrev S4096 : Shape := ⟨1, ![4096]⟩
abbrev S4096x4096 : Shape := ⟨2, ![4096, 4096]⟩
abbrev S4096x8 : Shape := ⟨2, ![4096, 8]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x8 : Shape := ⟨3, ![2, 8192, 8]⟩
abbrev S16384x8 : Shape := ⟨2, ![16384, 8]⟩
abbrev S16384x120 : Shape := ⟨2, ![16384, 120]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S2x8192x4096, .f32⟩
  | .hbm, ⟨2, _⟩ => ⟨S2x1x4096, .f32⟩
  | .hbm, ⟨3, _⟩ => ⟨S4096, .f32⟩
  | .hbm, ⟨4, _⟩ => ⟨S2x1x4096, .f32⟩
  | .hbm, ⟨5, _⟩ => ⟨S2x1x4096, .f32⟩
  | .hbm, ⟨6, _⟩ => ⟨S4096x4096, .f32⟩
  | .hbm, ⟨7, _⟩ => ⟨S4096x8, .f32⟩
  | .hbm, ⟨8, _⟩ => ⟨S2x8192x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x4096, .f32⟩
  | .hbm, ⟨25, _⟩ => ⟨S2x8192x4096, .f32⟩
  | .hbm, ⟨26, _⟩ => ⟨S1x1x4096, .f32⟩
  | .hbm, ⟨27, _⟩ => ⟨S2x8192x4096, .f32⟩
  | .hbm, ⟨28, _⟩ => ⟨S2x8192x4096, .f32⟩
  | .hbm, ⟨29, _⟩ => ⟨S_, .f32⟩
  | .hbm, ⟨30, _⟩ => ⟨S2x1x4096, .f32⟩
  | .hbm, ⟨31, _⟩ => ⟨S2x1x4096, .f32⟩
  | .hbm, ⟨32, _⟩ => ⟨S2x8192x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S2x8192x8, .f32⟩
  | .hbm, ⟨37, _⟩ => ⟨S16384x8, .f32⟩
  | .hbm, ⟨38, _⟩ => ⟨S_, .f32⟩
  | .hbm, ⟨39, _⟩ => ⟨S16384x120, .f32⟩
  | .hbm, ⟨40, _⟩ => ⟨S16384x128, .f32⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Slots.lean ====
module

public import proofs.«01_k».proof.Proof.Gen.KernelIdeal.Skeleton
public import proofs.«01_k».proof.Proof.Gen.KernelIdeal.Launch
public import proofs.«01_k».proof.Proof.Gen.KernelIdeal.Loops
public import Idealize.ShloMosaic.Lib.Pipeline.FrameBody
public import Idealize.ShloMosaic.Lib.Batch
public import Idealize.ShloMosaic.Lib.Ring
public import Idealize.ShloMosaic.Lib.Tactic

@[expose] public section

set_option maxRecDepth 16384

noncomputable section

/-! # The gather's words, rows and slots

The kernel reads, for token `k` of a block and choice `a`, the expert `X[0, a, k]` and the rank
`X[0, 2 + a, k]` of the block of routing words, then the expert's first row from the table `T`; row
`T[X[0, a, k]] + X[0, 2 + a, k]` of the sorted buffer is copied to slot `(a, k)` of the output block. -/

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table of first rows, in scalar memory. -/
abbrev tabM : Memref sig .tc .smem S8 .i32 := Memref.whole main_arg2
/-- The sorted buffer of rows. -/
abbrev srcM : Memref sig .tc .hbm S36864x32x128 .bf16 := Memref.whole main_arg0

/-- The number of tokens of a block. -/
abbrev nT : ℕ := k0_t1_loop.trips

section Words

variable (arg2 : Memref sig .tc .smem S1x4x256 .i32) (T : S8.Idx → Elt F .i32) (X : arg2.view.ty.Contents (Elt F))

/-- Token `k`'s first expert, second expert, and its ranks under each. -/
def e0 (k : Fin nT) : Elt F .i32 :=
  arg2.view.readAt (Elt F) (Rect.unit (s := S1x4x256) (k0_off1 k) S1x1x1.size (k0_off1_inb k)).toLoadRect X (Shape.Idx.first (show 0 < S1x1x1.numel by decide))
def e1 (k : Fin nT) : Elt F .i32 :=
  arg2.view.readAt (Elt F) (Rect.unit (s := S1x4x256) (k0_off6 k) S1x1x1.size (k0_off6_inb k)).toLoadRect X (Shape.Idx.first (show 0 < S1x1x1.numel by decide))
def r0 (k : Fin nT) : Elt F .i32 :=
  arg2.view.readAt (Elt F) (Rect.unit (s := S1x4x256) (k0_off3 k) S1x1x1.size (k0_off3_inb k)).toLoadRect X (Shape.Idx.first (show 0 < S1x1x1.numel by decide))
def r1 (k : Fin nT) : Elt F .i32 :=
  arg2.view.readAt (Elt F) (Rect.unit (s := S1x4x256) (k0_off8 k) S1x1x1.size (k0_off8_inb k)).toLoadRect X (Shape.Idx.first (show 0 < S1x1x1.numel by decide))

/-- The first row of expert `e` in the table. -/
def first (e : BitVec 32) (h : k0_chk1 e) : Elt F .i32 :=
  tabM.view.readAt (Elt F) (Rect.unit (s := S8) (k0_off2 e) S1.size (k0_off2_inb e h)).toLoadRect T (Shape.Idx.first (show 0 < S1.numel by decide))

/-- The side conditions the body assumes of the words it reads, at every token of the block. -/
structure Fine : Prop where
  c1 : ∀ k, k0_chk1 (e0 arg2 X k)
  c2 : ∀ k, k0_chk2 (first T (e0 arg2 X k) (c1 k)) (r0 arg2 X k)
  c3 : ∀ k, k0_chk3 (e1 arg2 X k)
  c4 : ∀ k, k0_chk4 (first T (e1 arg2 X k) (c3 k)) (r1 arg2 X k)

end Words

section Names

variable (c : Dev nD) (arg2 : Memref sig .tc .smem S1x4x256 .i32) (arg4 : Memref sig .tc .vmem S2x256x32x128 .bf16)

/-- Slot `(0, k)` and slot `(1, k)` of the output block. -/
def slot0 (k : Fin nT) : Memref sig .tc .vmem S32x128 .bf16 :=
  (arg4.slice (Rect.unit (s := S2x256x32x128) (k0_off4 k) S1x1x32x128.size (k0_off4_inb k)) (fun _ => rfl)).squeeze S32x128 squeezes_S1x1x32x128_S32x128
def slot1 (k : Fin nT) : Memref sig .tc .vmem S32x128 .bf16 :=
  (arg4.slice (Rect.unit (s := S2x256x32x128) (k0_off9 k) S1x1x32x128.size (k0_off9_inb k)) (fun _ => rfl)).squeeze S32x128 squeezes_S1x1x32x128_S32x128

/-- Row `v + w` of the sorted buffer. -/
def row (v w : BitVec 32) (h : k0_chk2 v w) : Memref sig .tc .hbm S32x128 .bf16 :=
  (srcM.slice (Rect.unit (s := S36864x32x128) (k0_off5 v w) S1x32x128.size (k0_off5_inb v w h)) (fun _ => rfl)).squeeze S32x128 squeezes_S1x32x128_S32x128

variable (T : S8.Idx → Elt F .i32) (X : arg2.view.ty.Contents (Elt F)) (hf : Fine arg2 T X)

/-- The row copied to slot `(0, k)`, and the one copied to slot `(1, k)`. -/
def row0 (k : Fin nT) : Memref sig .tc .hbm S32x128 .bf16 := row (first T (e0 arg2 X k) (hf.c1 k)) (r0 arg2 X k) (hf.c2 k)
def row1 (k : Fin nT) : Memref sig .tc .hbm S32x128 .bf16 := row (first T (e1 arg2 X k) (hf.c3 k)) (r1 arg2 X k) (hf.c4 k)

local notation "𝕄" => MT nD τ sig Unit (Elt F) ℕ (Pipeline.UD sig nD τ) ℕ

/-- What one copy signals on the semaphore's cell. -/
abbrev NN : ℕ := 256

variable (Y : S36864x32x128.Idx → Elt F .bf16) (O : arg4.view.ty.Contents (Elt F))

/-- Slot `(a, k)` held at the block's contents on entry. -/
abbrev pre0 (k : Fin nT) : sProp 𝕄 := (slot0 arg4 k).view.loc (c : Thread nD τ) ↦[(slot0 arg4 k).view.set]{fullShare} O
abbrev pre1 (k : Fin nT) : sProp 𝕄 := (slot1 arg4 k).view.loc (c : Thread nD τ) ↦[(slot1 arg4 k).view.set]{fullShare} O

/-- The row copied to slot `(a, k)`, held by its own elements at its own read token of the sorted buffer. -/
abbrev tok0 (k : Fin nT) : sProp 𝕄 :=
  (row0 arg2 T X hf k).view.loc (c : Thread nD τ) ↦[(row0 arg2 T X hf k).view.set]{Transfers.shareTokN fullShare (2 * k.val)} Y
abbrev tok1 (k : Fin nT) : sProp 𝕄 :=
  (row1 arg2 T X hf k).view.loc (c : Thread nD τ) ↦[(row1 arg2 T X hf k).view.set]{Transfers.shareTokN fullShare (2 * k.val + 1)} Y

/-- Slot `(a, k)` once its copy has landed: the row it was copied from. -/
abbrev post0 (k : Fin nT) : sProp 𝕄 :=
  (slot0 arg4 k).view.loc (c : Thread nD τ) ↦[(slot0 arg4 k).view.set]{fullShare}
    (slot0 arg4 k).view.writes (Elt F) O [⟨Rect.whole S32x128, ReadAs.same.apply ((row0 arg2 T X hf k).view.read (Elt F) Y)⟩]
abbrev post1 (k : Fin nT) : sProp 𝕄 :=
  (slot1 arg4 k).view.loc (c : Thread nD τ) ↦[(slot1 arg4 k).view.set]{fullShare}
    (slot1 arg4 k).view.writes (Elt F) O [⟨Rect.whole S32x128, ReadAs.same.apply ((row1 arg2 T X hf k).view.read (Elt F) Y)⟩]

theorem tok0_storable (k : Fin nT) : BI.Storable (upEmb : UEmb _ 𝕄) (tok0 c arg2 T X hf Y k) := by
  apply Region.storable_held
theorem tok1_storable (k : Fin nT) : BI.Storable (upEmb : UEmb _ 𝕄) (tok1 c arg2 T X hf Y k) := by
  apply Region.storable_held

/-- What copy `2 i` (to slot `(0, i)`) and copy `2 i + 1` (to slot `(1, i)`) hand back on landing. -/
abbrev dlv0 (i : ℕ) : sProp 𝕄 := if h : i < nT then iprop(post0 c arg2 arg4 T X hf Y O ⟨i, h⟩ ∗ tok0 c arg2 T X hf Y ⟨i, h⟩) else iprop(emp)
abbrev dlv1 (i : ℕ) : sProp 𝕄 := if h : i < nT then iprop(post1 c arg2 arg4 T X hf Y O ⟨i, h⟩ ∗ tok1 c arg2 T X hf Y ⟨i, h⟩) else iprop(emp)

instance dlv0_storable (i : ℕ) : BI.Storable (upEmb : UEmb _ 𝕄) (dlv0 c arg2 arg4 T X hf Y O i) := by
  unfold dlv0; split
  · haveI := tok0_storable c arg2 T X hf Y ⟨i, by assumption⟩
    exact BI.Storable.sep _ _ _
  · infer_instance
instance dlv1_storable (i : ℕ) : BI.Storable (upEmb : UEmb _ 𝕄) (dlv1 c arg2 arg4 T X hf Y O i) := by
  unfold dlv1; split
  · haveI := tok1_storable c arg2 T X hf Y ⟨i, by assumption⟩
    exact BI.Storable.sep _ _ _
  · infer_instance

/-- The copies' deliveries in the order of issue. -/
abbrev dlv : Fin (2 * nT) → sProp 𝕄 := Ring.interleaved nT (dlv0 c arg2 arg4 T X hf Y O) (dlv1 c arg2 arg4 T X hf Y O)

/-- The block's copies on the semaphore's cell: `j` issued, `u` units awaited. -/
abbrev copies (j u : ℕ) : sProp 𝕄 :=
  Transfers.Batch (countersEmb (U := Pipeline.UD sig nD τ)) (c : Thread nD τ) (.dma cc0_scratch0.sem) () NN (dlv c arg2 arg4 T X hf Y O) j u

end Names

/-- A block has 256 tokens. -/
theorem nT_eq : nT = 256 := by decide

end Cert.KernelIdeal.Rows
-- ==== Proof.Blocks.lean ====
module

public import proofs.«01_k».proof.Proof.Slots
public import Idealize.ShloMosaic.Lib.ValueLayout
public import Idealize.ShloMosaic.Lib.WholeRead

@[expose] public section

set_option maxRecDepth 16384

noncomputable section

/-! # The output block as its 512 slots, the sorted buffer as read tokens -/

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

section Slots

variable (arg4 : Memref sig .tc .vmem S2x256x32x128 .bf16)

/-- Slot `(0, k)`'s and slot `(1, k)`'s positions in the block. -/
abbrev box0 (k : Fin nT) : Rect S2x256x32x128 := Rect.unit (s := S2x256x32x128) (k0_off4 k) S1x1x32x128.size (k0_off4_inb k)
abbrev box1 (k : Fin nT) : Rect S2x256x32x128 := Rect.unit (s := S2x256x32x128) (k0_off9 k) S1x1x32x128.size (k0_off9_inb k)

theorem slot0_set (k : Fin nT) : (slot0 arg4 k).view.set = (box0 k).set.map arg4.view.emb := by
  unfold slot0; exact (View.set_reshape _ _).trans (View.set_slice _ _)
theorem slot1_set (k : Fin nT) : (slot1 arg4 k).view.set = (box1 k).set.map arg4.view.emb := by
  unfold slot1; exact (View.set_reshape _ _).trans (View.set_slice _ _)

theorem mem_box0 (k : Fin nT) (y : S2x256x32x128.Idx) : y ∈ (box0 k).set ↔ (y 0).val = 0 ∧ (y 1).val = k.val := by
  rw [Rect.mem_set_unit]
  have h2 : (y 2).val < 32 := (y 2).isLt
  have h3 : (y 3).val < 128 := (y 3).isLt
  have e := k0_off4_eq k
  constructor
  · intro H
    have a0 := H 0; have a1 := H 1
    rw [e] at a0 a1
    have b0 : 0 ≤ (y 0).val ∧ (y 0).val < 0 + 1 := a0
    have b1 : k.val ≤ (y 1).val ∧ (y 1).val < k.val + 1 := a1
    omega
  · intro H a; rw [e]; fin_cases a
    · show 0 ≤ (y 0).val ∧ (y 0).val < 0 + 1; omega
    · show k.val ≤ (y 1).val ∧ (y 1).val < k.val + 1; omega
    · show 0 ≤ (y 2).val ∧ (y 2).val < 0 + 32; omega
    · show 0 ≤ (y 3).val ∧ (y 3).val < 0 + 128; omega

theorem mem_box1 (k : Fin nT) (y : S2x256x32x128.Idx) : y ∈ (box1 k).set ↔ (y 0).val = 1 ∧ (y 1).val = k.val := by
  rw [Rect.mem_set_unit]
  have h2 : (y 2).val < 32 := (y 2).isLt
  have h3 : (y 3).val < 128 := (y 3).isLt
  have e := k0_off9_eq k
  constructor
  · intro H
    have a0 := H 0; have a1 := H 1
    rw [e] at a0 a1
    have b0 : 1 ≤ (y 0).val ∧ (y 0).val < 1 + 1 := a0
    have b1 : k.val ≤ (y 1).val ∧ (y 1).val < k.val + 1 := a1
    omega
  · intro H a; rw [e]; fin_cases a
    · show 1 ≤ (y 0).val ∧ (y 0).val < 1 + 1; omega
    · show k.val ≤ (y 1).val ∧ (y 1).val < k.val + 1; omega
    · show 0 ≤ (y 2).val ∧ (y 2).val < 0 + 32; omega
    · show 0 ≤ (y 3).val ∧ (y 3).val < 0 + 128; omega

/-- The first 256 slots' elements, and the last 256 slots'. -/
abbrev half0 : Finset arg4.view.ty.shape.Idx := Finset.univ.biUnion fun k : Fin nT => (slot0 arg4 k).view.set
abbrev half1 : Finset arg4.view.ty.shape.Idx := Finset.univ.biUnion fun k : Fin nT => (slot1 arg4 k).view.set

theorem block_set : arg4.view.set = half0 arg4 ∪ half1 arg4 := by
  ext i
  simp only [half0, half1, Finset.mem_union, Finset.mem_biUnion, Finset.mem_univ, true_and, slot0_set, slot1_set, Finset.mem_map]
  constructor
  · intro h
    obtain ⟨y, -, rfl⟩ := Finset.mem_map.mp h
    have h1 : (y 1).val < nT := by rw [nT_eq]; exact (y 1).isLt
    have h0 : (y 0).val < 2 := (y 0).isLt
    rcases (show (y 0).val = 0 ∨ (y 0).val = 1 by omega) with e | e
    · exact .inl ⟨⟨(y 1).val, h1⟩, y, (mem_box0 _ _).mpr ⟨e, rfl⟩, rfl⟩
    · exact .inr ⟨⟨(y 1).val, h1⟩, y, (mem_box1 _ _).mpr ⟨e, rfl⟩, rfl⟩
  · rintro (⟨k, y, -, rfl⟩ | ⟨k, y, -, rfl⟩) <;> exact Finset.mem_map_of_mem _ (Finset.mem_univ _)

theorem disj_map {P Q : Finset S2x256x32x128.Idx} (h : ∀ y, y ∈ P → y ∉ Q) : Disjoint (P.map arg4.view.emb) (Q.map arg4.view.emb) :=
  (Finset.disjoint_map _).mpr (Finset.disjoint_left.mpr fun y => h y)

theorem disj00 (k k' : Fin nT) (h : k ≠ k') : Disjoint (slot0 arg4 k).view.set (slot0 arg4 k').view.set := by
  rw [slot0_set, slot0_set]
  exact disj_map arg4 fun y hy hy' => h (Fin.ext (((mem_box0 _ _).mp hy).2.symm.trans ((mem_box0 _ _).mp hy').2))
theorem disj11 (k k' : Fin nT) (h : k ≠ k') : Disjoint (slot1 arg4 k).view.set (slot1 arg4 k').view.set := by
  rw [slot1_set, slot1_set]
  exact disj_map arg4 fun y hy hy' => h (Fin.ext (((mem_box1 _ _).mp hy).2.symm.trans ((mem_box1 _ _).mp hy').2))
theorem disj01 (k k' : Fin nT) : Disjoint (slot0 arg4 k).view.set (slot1 arg4 k').view.set := by
  rw [slot0_set, slot1_set]
  exact disj_map arg4 fun y hy hy' => by
    have a := ((mem_box0 _ _).mp hy).1; have b := ((mem_box1 _ _).mp hy').1; omega
theorem disj_halves : Disjoint (half0 arg4) (half1 arg4) := by
  refine Finset.disjoint_left.mpr fun i hi hj => ?_
  obtain ⟨k, -, hk⟩ := Finset.mem_biUnion.mp hi
  obtain ⟨k', -, hk'⟩ := Finset.mem_biUnion.mp hj
  exact Finset.disjoint_left.mp (disj01 arg4 k k') hk hk'

variable (c : Dev nD) (f : arg4.view.ty.Contents (Elt F))

/-- The block held is its slots held. -/
theorem block_slots : (arg4.view.loc (c : Thread nD τ) ↦[arg4.view.set]{fullShare} f : sProp 𝕄)
    ⊣⊢ iprop(bigSep Finset.univ (pre0 c arg4 f) ∗ bigSep Finset.univ (pre1 c arg4 f)) := by
  have e0 : (arg4.view.loc (c : Thread nD τ) ↦[half0 arg4]{fullShare} f : sProp 𝕄) = bigSep Finset.univ (pre0 c arg4 f) :=
    pointsTo_biUnion (ℓ := arg4.view.loc (c : Thread nD τ)) Finset.univ (fun k : Fin nT => (slot0 arg4 k).view.set) (fun k _ k' _ h => disj00 arg4 k k' h)
  have e1 : (arg4.view.loc (c : Thread nD τ) ↦[half1 arg4]{fullShare} f : sProp 𝕄) = bigSep Finset.univ (pre1 c arg4 f) :=
    pointsTo_biUnion (ℓ := arg4.view.loc (c : Thread nD τ)) Finset.univ (fun k : Fin nT => (slot1 arg4 k).view.set) (fun k _ k' _ h => disj11 arg4 k k' h)
  rw [block_set, ← e0, ← e1]
  exact pointsTo_union (disj_halves arg4)

end Slots

section Value

variable (c : Dev nD) (arg2 : Memref sig .tc .smem S1x4x256 .i32) (arg4 : Memref sig .tc .vmem S2x256x32x128 .bf16) (harg4 : arg4.IsWhole)
  (T : S8.Idx → Elt F .i32) (X : arg2.view.ty.Contents (Elt F)) (hf : Fine arg2 T X)
  (Y : S36864x32x128.Idx → Elt F .bf16) (O : arg4.view.ty.Contents (Elt F))

/-- The block once every copy has landed: at `(a, k, p, q)`, element `(p, q)` of the row copied to slot `(a, k)`. -/
def landed : S2x256x32x128.Idx → Elt F .bf16 := fun j =>
  if (j 0).val = 0 then (row0 arg2 T X hf ⟨(j 1).val, by rw [nT_eq]; exact (j 1).isLt⟩).view.read (Elt F) Y (ix2 (j 2) (j 3))
  else (row1 arg2 T X hf ⟨(j 1).val, by rw [nT_eq]; exact (j 1).isLt⟩).view.read (Elt F) Y (ix2 (j 2) (j 3))

theorem box0_emb (k : Fin nT) (p : Fin 32) (q : Fin 128) :
    (box0 k).emb (ix4 (⟨0, Nat.one_pos⟩ : Fin 1) (⟨0, Nat.one_pos⟩ : Fin 1) p q) = ix4 (0 : Fin 2) ⟨k.val, k.isLt.trans_eq nT_eq⟩ p q := by
  have e := k0_off4_eq k
  funext a
  refine Fin.ext ((Rect.emb_apply _ _ a).trans ?_)
  show k0_off4 k a + _ = _
  rw [e]
  fin_cases a
  · rfl
  · rfl
  · show 0 + 1 * p.val = p.val; omega
  · show 0 + 1 * q.val = q.val; omega
theorem box1_emb (k : Fin nT) (p : Fin 32) (q : Fin 128) :
    (box1 k).emb (ix4 (⟨0, Nat.one_pos⟩ : Fin 1) (⟨0, Nat.one_pos⟩ : Fin 1) p q) = ix4 (1 : Fin 2) ⟨k.val, k.isLt.trans_eq nT_eq⟩ p q := by
  have e := k0_off9_eq k
  funext a
  refine Fin.ext ((Rect.emb_apply _ _ a).trans ?_)
  show k0_off9 k a + _ = _
  rw [e]
  fin_cases a
  · rfl
  · rfl
  · show 0 + 1 * p.val = p.val; omega
  · show 0 + 1 * q.val = q.val; omega

theorem read_slot0 (k : Fin nT) :
    (slot0 arg4 k).view.read (Elt F) (harg4.unread (landed arg2 T X hf Y)) = (row0 arg2 T X hf k).view.read (Elt F) Y := by
  funext j
  obtain ⟨p, q, rfl⟩ : ∃ (p : Fin 32) (q : Fin 128), j = ix2 p q := ⟨j 0, j 1, eq_ix2 j⟩
  have h : (slot0 arg4 k).view.read (Elt F) (harg4.unread (landed arg2 T X hf Y)) (ix2 p q)
      = landed arg2 T X hf Y ((box0 k).emb (Shape.reshapeEquiv (s := S1x1x32x128) (s' := S32x128) (by decide) (ix2 p q))) :=
    congrFun (harg4.read_unread _) _
  rw [h, reshapeEquiv_ix2_11ab, box0_emb]
  exact if_pos rfl
theorem read_slot1 (k : Fin nT) :
    (slot1 arg4 k).view.read (Elt F) (harg4.unread (landed arg2 T X hf Y)) = (row1 arg2 T X hf k).view.read (Elt F) Y := by
  funext j
  obtain ⟨p, q, rfl⟩ : ∃ (p : Fin 32) (q : Fin 128), j = ix2 p q := ⟨j 0, j 1, eq_ix2 j⟩
  have h : (slot1 arg4 k).view.read (Elt F) (harg4.unread (landed arg2 T X hf Y)) (ix2 p q)
      = landed arg2 T X hf Y ((box1 k).emb (Shape.reshapeEquiv (s := S1x1x32x128) (s' := S32x128) (by decide) (ix2 p q))) :=
    congrFun (harg4.read_unread _) _
  rw [h, reshapeEquiv_ix2_11ab, box1_emb]
  exact if_neg Nat.one_ne_zero

/-- Only what a view reads matters to its elements held. -/
theorem held_of_read {sp : Space} {s : Shape} {e : EltTy} (m : Memref sig .tc sp s e) (f g : m.view.ty.Contents (Elt F)) (q : PosShare TreeShare)
    (h : m.view.read (Elt F) f = m.view.read (Elt F) g) :
    (m.view.loc (c : Thread nD τ) ↦[m.view.set]{q} f : sProp 𝕄) = m.view.loc (c : Thread nD τ) ↦[m.view.set]{q} g :=
  pointsTo_congr fun i hi => by
    obtain ⟨x, -, rfl⟩ := Finset.mem_map.mp hi
    have hx := congrFun h x
    rw [View.read_apply, View.read_apply] at hx
    exact (cast_inj _).mp hx

/-- A landed slot is the slot held at the landed block. -/
theorem post0_eq (k : Fin nT) : post0 c arg2 arg4 T X hf Y O k = pre0 c arg4 (harg4.unread (landed arg2 T X hf Y)) k :=
  held_of_read c (slot0 arg4 k) _ _ _ ((View.read_writes_whole _ _ _).trans (read_slot0 arg2 arg4 harg4 T X hf Y k).symm)
theorem post1_eq (k : Fin nT) : post1 c arg2 arg4 T X hf Y O k = pre1 c arg4 (harg4.unread (landed arg2 T X hf Y)) k :=
  held_of_read c (slot1 arg4 k) _ _ _ ((View.read_writes_whole _ _ _).trans (read_slot1 arg2 arg4 harg4 T X hf Y k).symm)

/-- What is left of the sorted buffer at the read token of slot `(a, k)`'s row, and at no token. -/
abbrev cmp0 (k : Fin nT) : sProp 𝕄 :=
  srcM.view.loc (c : Thread nD τ) ↦[Finset.univ \ (row0 arg2 T X hf k).view.set]{Transfers.shareTokN fullShare (2 * k.val)} Y
abbrev cmp1 (k : Fin nT) : sProp 𝕄 :=
  srcM.view.loc (c : Thread nD τ) ↦[Finset.univ \ (row1 arg2 T X hf k).view.set]{Transfers.shareTokN fullShare (2 * k.val + 1)} Y
abbrev rest : sProp 𝕄 :=
  iprop((srcM.view.loc (c : Thread nD τ) ↦{Transfers.shareDrop fullShare (2 * nT)} Y)
    ∗ bigSep Finset.univ (cmp0 c arg2 T X hf Y) ∗ bigSep Finset.univ (cmp1 c arg2 T X hf Y))

theorem both (Φ Ψ : Fin nT → sProp 𝕄) :
    (bigSep Finset.univ (fun k => iprop(Φ k ∗ Ψ k)) : sProp 𝕄) = iprop(bigSep Finset.univ Φ ∗ bigSep Finset.univ Ψ) := BI.bigSep_sep _ _ _

theorem tok0_split (k : Fin nT) : (srcM.view.loc (c : Thread nD τ) ↦{Transfers.shareTokN fullShare (2 * k.val)} Y : sProp 𝕄)
    ⊣⊢ iprop(tok0 c arg2 T X hf Y k ∗ cmp0 c arg2 T X hf Y k) :=
  pointsTo_split_subset (ℓ := srcM.view.loc (c : Thread nD τ)) (Finset.subset_univ _)
theorem tok1_split (k : Fin nT) : (srcM.view.loc (c : Thread nD τ) ↦{Transfers.shareTokN fullShare (2 * k.val + 1)} Y : sProp 𝕄)
    ⊣⊢ iprop(tok1 c arg2 T X hf Y k ∗ cmp1 c arg2 T X hf Y k) :=
  pointsTo_split_subset (ℓ := srcM.view.loc (c : Thread nD τ)) (Finset.subset_univ _)

/-- The sorted buffer's read tokens, two a token of the block. -/
theorem toks_eq : (bigSep (Finset.range (2 * nT)) (fun t => srcM.view.loc (c : Thread nD τ) ↦{Transfers.shareTokN fullShare t} Y) : sProp 𝕄)
    = iprop(bigSep Finset.univ (fun k : Fin nT => (srcM.view.loc (c : Thread nD τ) ↦{Transfers.shareTokN fullShare (2 * k.val)} Y : sProp 𝕄))
      ∗ bigSep Finset.univ (fun k : Fin nT => (srcM.view.loc (c : Thread nD τ) ↦{Transfers.shareTokN fullShare (2 * k.val + 1)} Y : sProp 𝕄))) := by
  rw [Ring.bigSep_range_deinterleave]
  exact congrArg₂ (fun P Q : sProp 𝕄 => iprop(P ∗ Q))
    (Ring.bigSep_fin_eq_range nT _ (fun i => (srcM.view.loc (c : Thread nD τ) ↦{Transfers.shareTokN fullShare (2 * i)} Y : sProp 𝕄)) fun _ _ => rfl).symm
    (Ring.bigSep_fin_eq_range nT _ (fun i => (srcM.view.loc (c : Thread nD τ) ↦{Transfers.shareTokN fullShare (2 * i + 1)} Y : sProp 𝕄)) fun _ _ => rfl).symm

/-- The sorted buffer held is every slot's row held at its own token, and the rest; -/
theorem source_split : (srcM.view.loc (c : Thread nD τ) ↦{fullShare} Y : sProp 𝕄)
    ⊢ iprop(bigSep Finset.univ (tok0 c arg2 T X hf Y) ∗ bigSep Finset.univ (tok1 c arg2 T X hf Y) ∗ rest c arg2 T X hf Y) := by
  iintro H
  ihave H' := (Transfers.pointsTo_toks_range fullShare (2 * nT)).1 $$ H
  icases H' with ⟨Hd, Ht⟩
  ihave Ht' := (Entails.of_eq (toks_eq c Y)) $$ Ht
  icases Ht' with ⟨H0, H1⟩
  ihave H0' := (show (bigSep Finset.univ (fun k : Fin nT => (srcM.view.loc (c : Thread nD τ) ↦{Transfers.shareTokN fullShare (2 * k.val)} Y : sProp 𝕄)) : sProp 𝕄)
      ⊢ iprop(bigSep Finset.univ (tok0 c arg2 T X hf Y) ∗ bigSep Finset.univ (cmp0 c arg2 T X hf Y))
    from (bigSep_mono fun k _ => (tok0_split c arg2 T X hf Y k).1).trans (Entails.of_eq (both (tok0 c arg2 T X hf Y) (cmp0 c arg2 T X hf Y)))) $$ H0
  ihave H1' := (show (bigSep Finset.univ (fun k : Fin nT => (srcM.view.loc (c : Thread nD τ) ↦{Transfers.shareTokN fullShare (2 * k.val + 1)} Y : sProp 𝕄)) : sProp 𝕄)
      ⊢ iprop(bigSep Finset.univ (tok1 c arg2 T X hf Y) ∗ bigSep Finset.univ (cmp1 c arg2 T X hf Y))
    from (bigSep_mono fun k _ => (tok1_split c arg2 T X hf Y k).1).trans (Entails.of_eq (both (tok1 c arg2 T X hf Y) (cmp1 c arg2 T X hf Y)))) $$ H1
  icases H0' with ⟨Ha, Hb⟩
  icases H1' with ⟨Hc, He⟩
  isplitl [Ha]; · iexact Ha
  isplitl [Hc]; · iexact Hc
  isplitl [Hd]; · iexact Hd
  isplitl [Hb]; · iexact Hb
  iexact He

/-- and back. -/
theorem source_join : iprop(bigSep Finset.univ (tok0 c arg2 T X hf Y) ∗ bigSep Finset.univ (tok1 c arg2 T X hf Y) ∗ rest c arg2 T X hf Y)
    ⊢ (srcM.view.loc (c : Thread nD τ) ↦{fullShare} Y : sProp 𝕄) := by
  iintro ⟨Ha, Hc, Hd, Hb, He⟩
  iapply (Transfers.pointsTo_toks_range fullShare (2 * nT)).2
  isplitl [Hd]; · iexact Hd
  iapply (Entails.of_eq (toks_eq c Y).symm)
  isplitl [Ha Hb]
  · iapply ((Entails.of_eq (both (tok0 c arg2 T X hf Y) (cmp0 c arg2 T X hf Y)).symm).trans (bigSep_mono fun k _ => (tok0_split c arg2 T X hf Y k).2))
    isplitl [Ha] <;> iassumption
  · iapply ((Entails.of_eq (both (tok1 c arg2 T X hf Y) (cmp1 c arg2 T X hf Y)).symm).trans (bigSep_mono fun k _ => (tok1_split c arg2 T X hf Y k).2))
    isplitl [Hc] <;> iassumption

/-- Every delivery is every slot landed and every row's token. -/
theorem deliveries_split : (bigSep Finset.univ (dlv c arg2 arg4 T X hf Y O) : sProp 𝕄)
    ⊢ iprop((bigSep Finset.univ (pre0 c arg4 (harg4.unread (landed arg2 T X hf Y))) ∗ bigSep Finset.univ (pre1 c arg4 (harg4.unread (landed arg2 T X hf Y))))
      ∗ bigSep Finset.univ (tok0 c arg2 T X hf Y) ∗ bigSep Finset.univ (tok1 c arg2 T X hf Y)) := by
  have e0 : (bigSep (Finset.range nT) (dlv0 c arg2 arg4 T X hf Y O) : sProp 𝕄)
      = iprop(bigSep Finset.univ (pre0 c arg4 (harg4.unread (landed arg2 T X hf Y))) ∗ bigSep Finset.univ (tok0 c arg2 T X hf Y)) := by
    rw [← both]
    refine (Ring.bigSep_fin_eq_range nT _ _ fun t h => ?_).symm
    exact (dif_pos h).trans (congrArg (fun P => iprop(P ∗ tok0 c arg2 T X hf Y ⟨t, h⟩)) (post0_eq c arg2 arg4 harg4 T X hf Y O ⟨t, h⟩))
  have e1 : (bigSep (Finset.range nT) (dlv1 c arg2 arg4 T X hf Y O) : sProp 𝕄)
      = iprop(bigSep Finset.univ (pre1 c arg4 (harg4.unread (landed arg2 T X hf Y))) ∗ bigSep Finset.univ (tok1 c arg2 T X hf Y)) := by
    rw [← both]
    refine (Ring.bigSep_fin_eq_range nT _ _ fun t h => ?_).symm
    exact (dif_pos h).trans (congrArg (fun P => iprop(P ∗ tok1 c arg2 T X hf Y ⟨t, h⟩)) (post1_eq c arg2 arg4 harg4 T X hf Y O ⟨t, h⟩))
  unfold dlv
  rw [Ring.bigSep_interleaved, e0, e1]
  iintro ⟨⟨H0, H1⟩, H2, H3⟩
  isplitl [H0 H2]
  · isplitl [H0] <;> iassumption
  · isplitl [H1] <;> iassumption

end Value

end Cert.KernelIdeal.Rows
-- ==== Proof.Issue.lean ====
module

public import proofs.«01_k».proof.Proof.Slots

@[expose] public section

set_option maxRecDepth 16384

noncomputable section

/-! # The first loop: the copies are issued -/

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg2 : Memref sig .tc .smem S1x4x256 .i32) (harg2 : arg2.IsWhole)
  (arg4 : Memref sig .tc .vmem S2x256x32x128 .bf16) (harg4 : arg4.IsWhole)
  (T : S8.Idx → Elt F .i32) (X : arg2.view.ty.Contents (Elt F)) (hf : Fine arg2 T X)
  (Y : S36864x32x128.Idx → Elt F .bf16) (O : arg4.view.ty.Contents (Elt F))

/-- The table and the block of routing words, read only. -/
abbrev words : sProp 𝕄 :=
  iprop((tabM.view.loc (c : Thread nD τ) ↦{fullShare.right} T) ∗ (arg2.view.loc (c : Thread nD τ) ↦[arg2.view.set]{fullShare} X))

/-- Before trip `k`: the copies of the tokens before `k` issued, the slots and the rows of the others in hand. -/
def issueAt (k : ℕ) (_ : Unit) : sProp 𝕄 :=
  iprop(copies c arg2 arg4 T X hf Y O (2 * k) 0 ∗ bigSep (Ring.rangeSet nT k nT) (pre0 c arg4 O) ∗ bigSep (Ring.rangeSet nT k nT) (pre1 c arg4 O)
    ∗ bigSep (Ring.rangeSet nT k nT) (tok0 c arg2 T X hf Y) ∗ bigSep (Ring.rangeSet nT k nT) (tok1 c arg2 T X hf Y)
    ∗ words c arg2 T X)

/-- One trip issues token `k`'s two copies. -/
theorem issue_step (k : Fin nT) (acc : Unit) :
    issueAt c arg2 arg4 T X hf Y O k acc ⊢ wp frame (wpE (defs₀ (F := F)) Variants.none (c : Thread nD τ) none) Set.univ
      (k0_t1_body (F := F) i tabM (Memref.isWhole_whole _) arg2 harg2 srcM (Memref.isWhole_whole _) arg4 harg4 cc0_scratch0 k acc)
      (issueAt c arg2 arg4 T X hf Y O (k.val + 1)) := by
  have hk := k.isLt
  have h1 : k0_chk1 (e0 arg2 X k) := hf.c1 k
  have h2 := hf.c2 k
  have h3 : k0_chk3 (e1 arg2 X k) := hf.c3 k
  have h4 := hf.c4 k
  unfold issueAt
  rw [Ring.bigSep_rangeSet_head (Φ := pre0 c arg4 O) (by omega) (by omega), Ring.bigSep_rangeSet_head (Φ := pre1 c arg4 O) (by omega) (by omega),
    Ring.bigSep_rangeSet_head (Φ := tok0 c arg2 T X hf Y) (by omega) (by omega), Ring.bigSep_rangeSet_head (Φ := tok1 c arg2 T X hf Y) (by omega) (by omega),
    show 2 * (k.val + 1) = 2 * k.val + 1 + 1 by omega]
  iintro ⟨HB, ⟨HS0, HS0s⟩, ⟨HS1, HS1s⟩, ⟨HR0, HR0s⟩, ⟨HR1, HR1s⟩, HT, HX⟩
  sl_unfold [k0_t1_body]
  sl_exec
  sl_step
  isplitl [HB]; · iexact HB
  isplitl [HS0s]; · iexact HS0s
  isplitl [HS1s]; · iexact HS1s
  isplitl [HR0s]; · iexact HR0s
  isplitl [HR1s]; · iexact HR1s
  isplitl [HT]; · iexact HT
  iexact HX

set_option warn.classDefReducibility false in
/-- The first loop's invariant. -/
@[sl_loop] def issueInv : Gen.LoopInvTy_k0_t1 (F := F) Unit ℕ (Pipeline.UD sig nD τ) ℕ Variants.none c none Set.univ i tabM (Memref.isWhole_whole _) arg2 harg2
    srcM (Memref.isWhole_whole _) arg4 harg4 cc0_scratch0 where
  inv := issueAt c arg2 arg4 T X hf Y O
  step := issue_step c i arg2 harg2 arg4 harg4 T X hf Y O

end Cert.KernelIdeal.Rows
-- ==== Proof.Drain.lean ====
module

public import proofs.«01_k».proof.Proof.Issue

@[expose] public section

set_option maxRecDepth 16384

noncomputable section

/-! # The second loop: the copies are awaited -/

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg2 : Memref sig .tc .smem S1x4x256 .i32) (harg2 : arg2.IsWhole)
  (arg4 : Memref sig .tc .vmem S2x256x32x128 .bf16) (harg4 : arg4.IsWhole)
  (T : S8.Idx → Elt F .i32) (X : arg2.view.ty.Contents (Elt F)) (hf : Fine arg2 T X)
  (Y : S36864x32x128.Idx → Elt F .bf16) (O : arg4.view.ty.Contents (Elt F))

/-- Before trip `k`: the copies of the tokens before `k` awaited; after the last trip, the semaphore's cell at zero and
    every delivery. -/
def drainAt (k : ℕ) (_ : Unit) : sProp 𝕄 :=
  iprop(⌜k ≤ nT⌝ ∗ (∃ W, owes (c : Thread nD τ) 0 W) ∗ words c arg2 T X
    ∗ (if k < nT then copies c arg2 arg4 T X hf Y O (2 * nT) (2 * k * 256)
       else iprop(semVal ((c : Thread nD τ), SemLoc.dma cc0_scratch0.sem) 0 ∗ bigSep Finset.univ (dlv c arg2 arg4 T X hf Y O))))

/-- One trip awaits token `k`'s two copies. -/
theorem drain_step (k : Fin k0_t2_loop.trips) (acc : Unit) :
    drainAt c arg2 arg4 T X hf Y O k acc ⊢ wp frame (wpE (defs₀ (F := F)) Variants.none (c : Thread nD τ) none) Set.univ
      (k0_t2_body (F := F) i tabM (Memref.isWhole_whole _) arg2 harg2 srcM (Memref.isWhole_whole _) arg4 harg4 cc0_scratch0 k acc)
      (drainAt c arg2 arg4 T X hf Y O (k.val + 1)) := by
  have hk : k.val < nT := k.isLt
  have h1 : k0_chk5 (arg2.view.readAt (Elt F) (Rect.unit (s := S1x4x256) (k0_off11 k) S1x1x1.size (k0_off11_inb k)).toLoadRect X
    (Shape.Idx.first (show 0 < S1x1x1.numel by decide))) := hf.c1 k
  have h2 : k0_chk6 (tabM.view.readAt (Elt F) (Rect.unit (s := S8) (k0_off12 _) S1.size (k0_off12_inb _ h1)).toLoadRect T (Shape.Idx.first (show 0 < S1.numel by decide)))
    (arg2.view.readAt (Elt F) (Rect.unit (s := S1x4x256) (k0_off13 k) S1x1x1.size (k0_off13_inb k)).toLoadRect X
    (Shape.Idx.first (show 0 < S1x1x1.numel by decide))) := hf.c2 k
  have h3 : k0_chk7 (arg2.view.readAt (Elt F) (Rect.unit (s := S1x4x256) (k0_off16 k) S1x1x1.size (k0_off16_inb k)).toLoadRect X
    (Shape.Idx.first (show 0 < S1x1x1.numel by decide))) := hf.c3 k
  have h4 : k0_chk8 (tabM.view.readAt (Elt F) (Rect.unit (s := S8) (k0_off17 _) S1.size (k0_off17_inb _ h3)).toLoadRect T (Shape.Idx.first (show 0 < S1.numel by decide)))
    (arg2.view.readAt (Elt F) (Rect.unit (s := S1x4x256) (k0_off18 k) S1x1x1.size (k0_off18_inb k)).toLoadRect X
    (Shape.Idx.first (show 0 < S1x1x1.numel by decide))) := hf.c4 k
  have h256 := nT_eq
  have q : 2 * k.val + 1 < 2 * nT := by omega
  have q1 : k.val + 1 < nT → 2 * k.val * 256 + 256 < 256 * (2 * nT) := by omega
  unfold drainAt
  simp only [if_pos hk]
  rcases Nat.lt_or_ge (k.val + 1) nT with hl | hl
  · simp only [if_pos hl]
    iintro ⟨-, ⟨%W, HO⟩, ⟨HT, HX⟩, HB⟩
    sl_unfold [k0_t2_body]
    sl_exec
    sl_step
    isplitr; · ipureintro; omega
    isplitl [HO]; · iexists _; iexact HO
    isplitl [HT HX]
    · isplitl [HT]; · iexact HT
      iexact HX
    rw [show 2 * (k.val + 1) * 256 = 2 * k.val * 256 + 256 + 256 by omega]
    iexact HB
  · simp only [if_neg (Nat.not_lt.mpr hl)]
    iintro ⟨-, ⟨%W, HO⟩, ⟨HT, HX⟩, HB⟩
    sl_unfold [k0_t2_body]
    sl_exec
    sl_step
    isplitr; · ipureintro; omega
    isplitl [HO]; · iexists _; iexact HO
    isplitl [HT HX]
    · isplitl [HT]; · iexact HT
      iexact HX
    isplitl [HB]; · iexact HB
    iexact HB_all

end Cert.KernelIdeal.Rows
-- ==== Proof.Body.lean ====
module

public import proofs.«01_k».proof.Proof.Blocks
public import proofs.«01_k».proof.Proof.Drain

@[expose] public section

set_option maxRecDepth 16384

noncomputable section

/-! # One block of the gather -/

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg2 : Memref sig .tc .smem S1x4x256 .i32) (harg2 : arg2.IsWhole)
  (arg4 : Memref sig .tc .vmem S2x256x32x128 .bf16) (harg4 : arg4.IsWhole)
  (T : S8.Idx → Elt F .i32) (X : arg2.view.ty.Contents (Elt F)) (hf : Fine arg2 T X)
  (Y : S36864x32x128.Idx → Elt F .bf16) (O : arg4.view.ty.Contents (Elt F))

/-- After the last trip of the first loop every copy is issued. -/
theorem issue_end (acc : Unit) : issueAt c arg2 arg4 T X hf Y O nT acc ⊢ (iprop(copies c arg2 arg4 T X hf Y O (2 * nT) 0 ∗ words c arg2 T X) : sProp 𝕄) := by
  unfold issueAt
  iintro ⟨HB, -, -, -, -, Hw⟩
  isplitl [HB] <;> iassumption

/-- After the last trip of the second every copy has landed. -/
theorem drain_end (acc : Unit) : drainAt c arg2 arg4 T X hf Y O nT acc
    ⊢ (iprop((∃ W, owes (c : Thread nD τ) 0 W) ∗ words c arg2 T X ∗ semVal ((c : Thread nD τ), SemLoc.dma cc0_scratch0.sem) 0
      ∗ bigSep Finset.univ (dlv c arg2 arg4 T X hf Y O)) : sProp 𝕄) := by
  unfold drainAt
  rw [if_neg (Nat.lt_irrefl _)]
  iintro ⟨-, Ho, Hw, Hs, Hall⟩
  isplitl [Ho]; · iexact Ho
  isplitl [Hw]; · iexact Hw
  isplitl [Hs] <;> iassumption

/-- THE BLOCK: from the words, the output block, the sorted buffer and the semaphore's cell at zero, the body runs to the
    output block holding at slot `(a, k)` the row the words name for token `k`'s choice `a`, and all else as it was. -/
theorem block_run (W : Waits sig Unit) :
    iprop(words c arg2 T X ∗ (arg4.view.loc (c : Thread nD τ) ↦[arg4.view.set]{fullShare} O) ∗ (srcM.view.loc (c : Thread nD τ) ↦{fullShare} Y)
      ∗ semVal ((c : Thread nD τ), SemLoc.dma cc0_scratch0.sem) 0 ∗ owes (c : Thread nD τ) 0 W)
    ⊢ wp frame (wpE (defs₀ (F := F)) Variants.none (c : Thread nD τ) none) Set.univ
      (cc0_moe_gather (F := F) i tabM (Memref.isWhole_whole _) arg2 harg2 srcM (Memref.isWhole_whole _) arg4 harg4 cc0_scratch0)
      (fun _ => (iprop(words c arg2 T X ∗ (arg4.view.loc (c : Thread nD τ) ↦[arg4.view.set]{fullShare} harg4.unread (landed arg2 T X hf Y))
        ∗ (srcM.view.loc (c : Thread nD τ) ↦{fullShare} Y)
        ∗ semVal ((c : Thread nD τ), SemLoc.dma cc0_scratch0.sem) 0 ∗ ∃ W, owes (c : Thread nD τ) 0 W) : sProp 𝕄)) := by
  rw [cc0_moe_gather_eq_skeleton]
  iintro ⟨Hw, HO, HY, Hs, Ho⟩
  ihave HO' := (block_slots arg4 c O).1 $$ HO
  icases HO' with ⟨HS0, HS1⟩
  ihave HY' := (source_split c arg2 T X hf Y) $$ HY
  icases HY' with ⟨HR0, HR1, Hrest⟩
  imod (Transfers.batch_alloc' (Lvl := ℕ) (countersEmb (U := Pipeline.UD sig nD τ)) (c : Thread nD τ) () NN (dlv c arg2 arg4 T X hf Y O)
    (sm := .dma cc0_scratch0.sem) (E := Set.univ)) $$ Hs with HB
  sl_unfold [cc0_moe_gather_skel]
  sl_for (issueAt c arg2 arg4 T X hf Y O) $$ [HB HS0 HS1 HR0 HR1 Hw]
  · intro k acc; exact issue_step c i arg2 harg2 arg4 harg4 T X hf Y O k acc
  · unfold issueAt
    rw [Ring.rangeSet_univ]
    isplitl [HB]; · iexact HB
    isplitl [HS0]; · iexact HS0
    isplitl [HS1]; · iexact HS1
    isplitl [HR0]; · iexact HR0
    isplitl [HR1]; · iexact HR1
    iexact Hw
  iintro %acc HL
  ihave HL' := (issue_end c arg2 arg4 T X hf Y O acc) $$ HL
  icases HL' with ⟨HB, Hw⟩
  sl_exec
  sl_for (drainAt c arg2 arg4 T X hf Y O) $$ [HB Hw Ho]
  · intro k acc; exact drain_step c i arg2 harg2 arg4 harg4 T X hf Y O k acc
  · unfold drainAt
    rw [if_pos (show 0 < nT by rw [nT_eq]; decide)]
    isplitr; · ipureintro; omega
    isplitl [Ho]; · iexists _; iexact Ho
    isplitl [Hw]; · iexact Hw
    rw [show 2 * 0 * 256 = 0 from rfl]
    iexact HB
  iintro %acc2 HL
  ihave HL' := (drain_end c arg2 arg4 T X hf Y O acc2) $$ HL
  icases HL' with ⟨⟨%W', Ho⟩, Hw, Hs, Hall⟩
  ihave Hd := (deliveries_split c arg2 arg4 harg4 T X hf Y O) $$ Hall
  icases Hd with ⟨Hblk, HR0, HR1⟩
  sl_exec
  sl_step
  isplitl [Hw]; · iexact Hw
  isplitl [Hblk]
  · iapply (block_slots arg4 c (harg4.unread (landed arg2 T X hf Y))).2; iexact Hblk
  isplitl [HR0 HR1 Hrest]
  · iapply (source_join c arg2 T X hf Y)
    isplitl [HR0]; · iexact HR0
    isplitl [HR1]; · iexact HR1
    iexact Hrest
  isplitl [Hs]; · iexact Hs
  iexists _; iexact Ho

end Cert.KernelIdeal.Rows
-- ==== Proof.Words.lean ====
module

public import proofs.«01_k».proof.Proof.Blocks

@[expose] public section

set_option maxRecDepth 16384

noncomputable section

/-! # The routing words in closed form

`rowWord T e r` is the row a token's expert `e` and rank `r` name; where every expert is below 8 and every row
lies in the sorted buffer the body's side conditions hold, and the landed block is read off the words. -/

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open Idealize.ShloMosaic.ValueIdx

variable {F : FTy → Type} [FloatOps F]

/-- The row that expert `e` and rank `r` name: the expert's first row plus the rank. -/
def rowWord (T : S8.Idx → BitVec 32) (e r : BitVec 32) : BitVec 32 :=
  T (ix1 (⟨e.toNat % 8, Nat.mod_lt _ (by decide)⟩ : Fin 8)) + r

/-- The pair names an expert and a row of the sorted buffer. -/
def Names (T : S8.Idx → BitVec 32) (e r : BitVec 32) : Prop := e.toNat < 8 ∧ (rowWord T e r).toNat < 36864

/-- Element `(p, q)` of the row that expert `e` and rank `r` name. -/
def pick (T : S8.Idx → BitVec 32) (Y : S36864x32x128.Idx → Elt F .bf16) (e r : BitVec 32) (p : Fin 32) (q : Fin 128) : Elt F .bf16 :=
  Y (ix3 (⟨(rowWord T e r).toNat % 36864, Nat.mod_lt _ (by decide)⟩ : Fin 36864) p q)

variable (arg2 : Memref sig .tc .smem S1x4x256 .i32) (harg2 : arg2.IsWhole) (T : S8.Idx → BitVec 32) (x : S1x4x256.Idx → BitVec 32)

/-- Token `k` of the block, as a position. -/
abbrev tok (k : Fin nT) : Fin 256 := ⟨k.val, k.isLt.trans_eq nT_eq⟩

theorem e0_eq (k : Fin nT) : e0 (F := F) arg2 (harg2.unread x) k = x (ix3 (0 : Fin 1) (0 : Fin 4) (tok k)) := by
  unfold e0
  rw [Memref.IsWhole.readAt_unread]
  refine congrArg x (funext fun a => Fin.ext ?_)
  refine (congrArg (· + 1 * _) (congrFun (k0_off1_eq k) a)).trans ?_
  fin_cases a <;> rfl
theorem e1_eq (k : Fin nT) : e1 (F := F) arg2 (harg2.unread x) k = x (ix3 (0 : Fin 1) (1 : Fin 4) (tok k)) := by
  unfold e1
  rw [Memref.IsWhole.readAt_unread]
  refine congrArg x (funext fun a => Fin.ext ?_)
  refine (congrArg (· + 1 * _) (congrFun (k0_off6_eq k) a)).trans ?_
  fin_cases a <;> rfl
theorem r0_eq (k : Fin nT) : r0 (F := F) arg2 (harg2.unread x) k = x (ix3 (0 : Fin 1) (2 : Fin 4) (tok k)) := by
  unfold r0
  rw [Memref.IsWhole.readAt_unread]
  refine congrArg x (funext fun a => Fin.ext ?_)
  refine (congrArg (· + 1 * _) (congrFun (k0_off3_eq k) a)).trans ?_
  fin_cases a <;> rfl
theorem r1_eq (k : Fin nT) : r1 (F := F) arg2 (harg2.unread x) k = x (ix3 (0 : Fin 1) (3 : Fin 4) (tok k)) := by
  unfold r1
  rw [Memref.IsWhole.readAt_unread]
  refine congrArg x (funext fun a => Fin.ext ?_)
  refine (congrArg (· + 1 * _) (congrFun (k0_off8_eq k) a)).trans ?_
  fin_cases a <;> rfl

/-- An expert below 8 addresses the table. -/
theorem chk_expert (e : BitVec 32) (h : e.toNat < 8) : k0_chk1 e := by
  intro a
  have : a = 0 := Subsingleton.elim _ _
  subst this
  show e.toNat + 1 ≤ 8
  omega

/-- The table's word at expert `e`. -/
theorem first_eq (e' e : BitVec 32) (he : e' = e) (h : e.toNat < 8) (hc : k0_chk1 e') :
    first (F := F) T e' hc = T (ix1 (⟨e.toNat % 8, Nat.mod_lt _ (by decide)⟩ : Fin 8)) := by
  subst he
  unfold first
  have hr : ∀ (B : LoadRect S8) (y : B.shape.Idx), (tabM).view.readAt (Elt F) B T y = T (B.idx y) := fun B y => rfl
  rw [hr]
  refine congrArg T (funext fun a => Fin.ext ?_)
  have : a = 0 := Subsingleton.elim _ _
  subst this
  show e'.toNat + 1 * 0 = e'.toNat % 8
  rw [Nat.mod_eq_of_lt h]; omega

/-- A row of the sorted buffer can be copied. -/
theorem chk_row (v w : BitVec 32) (h : (v + w).toNat < 36864) : k0_chk2 v w := by
  refine ⟨fun a => ?_, fun _ => .inr ⟨by decide, rfl, rfl, rfl⟩⟩
  fin_cases a
  · show (v + w).toNat + 1 ≤ 36864; omega
  · show 0 + 32 ≤ 32; omega
  · show 0 + 128 ≤ 128; omega

/-- What the row's view reads of the sorted buffer. -/
theorem read_row (v w : BitVec 32) (hc : k0_chk2 v w) (h : (v + w).toNat < 36864) (Y : S36864x32x128.Idx → Elt F .bf16) (p : Fin 32) (q : Fin 128) :
    (row v w hc).view.read (Elt F) Y (ix2 p q) = Y (ix3 (⟨(v + w).toNat, h⟩ : Fin 36864) p q) := by
  have e : (row v w hc).view.read (Elt F) Y (ix2 p q)
      = Y ((Rect.unit (s := S36864x32x128) (k0_off5 v w) S1x32x128.size (k0_off5_inb v w hc)).emb
          (Shape.reshapeEquiv (s := S1x32x128) (s' := S32x128) (by decide) (ix2 p q))) := rfl
  rw [e, reshapeEquiv_ix2_1ab]
  refine congrArg Y (funext fun a => Fin.ext ((Rect.emb_apply _ _ a).trans ?_))
  fin_cases a
  · show (v + w).toNat + 1 * 0 = (v + w).toNat; omega
  · show 0 + 1 * p.val = p.val; omega
  · show 0 + 1 * q.val = q.val; omega

/-- Every pair of the block names a row. -/
def BlockNames : Prop := ∀ (a : Fin 2) (k : Fin 256),
  Names T (x (ix3 (0 : Fin 1) (⟨a.val, by omega⟩ : Fin 4) k)) (x (ix3 (0 : Fin 1) (⟨2 + a.val, by omega⟩ : Fin 4) k))

variable (hx : BlockNames T x)

include hx in
/-- Where every pair of the block names a row, the body's side conditions hold. -/
theorem fine_of : Fine (F := F) arg2 T (harg2.unread x) := by
  have g1 : ∀ k, k0_chk1 (e0 (F := F) arg2 (harg2.unread x) k) := fun k => by
    rw [e0_eq]; exact chk_expert _ (hx 0 (tok k)).1
  have g3 : ∀ k, k0_chk3 (e1 (F := F) arg2 (harg2.unread x) k) := fun k => by
    rw [e1_eq]; exact chk_expert _ (hx 1 (tok k)).1
  have key : ∀ (e r v w : BitVec 32), Names T e r → v = T (ix1 (⟨e.toNat % 8, Nat.mod_lt _ (by decide)⟩ : Fin 8)) → w = r → k0_chk2 v w := by
    intro e r v w hn hv hw
    subst hv hw
    exact chk_row _ _ hn.2
  exact ⟨g1, fun k => key _ _ _ _ (hx 0 (tok k)) (first_eq T _ _ (e0_eq arg2 harg2 x k) (hx 0 (tok k)).1 _) (r0_eq arg2 harg2 x k), g3,
    fun k => key _ _ _ _ (hx 1 (tok k)) (first_eq T _ _ (e1_eq arg2 harg2 x k) (hx 1 (tok k)).1 _) (r1_eq arg2 harg2 x k)⟩

/-- The landed block, read off the words. -/
theorem landed_eq (hf : Fine (F := F) arg2 T (harg2.unread x)) (Y : S36864x32x128.Idx → Elt F .bf16) (a : Fin 2) (k : Fin 256) (p : Fin 32) (q : Fin 128)
    (hx : BlockNames T x) :
    landed arg2 T (harg2.unread x) hf Y (ix4 a k p q)
      = pick T Y (x (ix3 (0 : Fin 1) (⟨a.val, by omega⟩ : Fin 4) k)) (x (ix3 (0 : Fin 1) (⟨2 + a.val, by omega⟩ : Fin 4) k)) p q := by
  have hk : k.val < nT := by rw [nT_eq]; exact k.isLt
  have key : ∀ (e r v w : BitVec 32) (hc : k0_chk2 v w), Names T e r → v = T (ix1 (⟨e.toNat % 8, Nat.mod_lt _ (by decide)⟩ : Fin 8)) → w = r →
      (row v w hc).view.read (Elt F) Y (ix2 p q) = pick T Y e r p q := by
    intro e r v w hc hn hv hw
    subst hv hw
    rw [read_row _ _ _ hn.2]
    unfold pick
    congr 2
    exact Fin.ext (Nat.mod_eq_of_lt hn.2).symm
  unfold landed
  fin_cases a
  · refine (if_pos rfl).trans (key _ _ _ _ _ (hx 0 k) (first_eq T _ _ (e0_eq arg2 harg2 x ⟨k.val, hk⟩) (hx 0 k).1 _) (r0_eq arg2 harg2 x ⟨k.val, hk⟩))
  · refine (if_neg Nat.one_ne_zero).trans (key _ _ _ _ _ (hx 1 k) (first_eq T _ _ (e1_eq arg2 harg2 x ⟨k.val, hk⟩) (hx 1 k).1 _) (r1_eq arg2 harg2 x ⟨k.val, hk⟩))

end Cert.KernelIdeal.Rows

end
-- ==== Proof.Run.lean ====
module

public import proofs.«01_k».proof.Proof.Body
public import proofs.«01_k».proof.Proof.Words
public import Idealize.ShloMosaic.Lib.Pipeline.Value
public import Idealize.ShloMosaic.Lib.Pipeline.Covers

@[expose] public section

set_option maxRecDepth 16384

noncomputable section

/-! # The gather's run

The launch of the gather at any float values: between grid points nothing is in flight, so the invariant holds the
sorted buffer, half of the table of first rows and the semaphore's cell at zero; at point `t` the body leaves the
landed block, and the blocks tile the result. -/

namespace Cert.KernelIdeal.Rows

open Cert.KernelIdeal Cert.KernelIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-- The kernel's own semaphore, a cell of no window. -/
def osem : Unit → SemLoc sig := fun _ => .dma cc0_scratch0.sem
theorem ownSemFacts : OwnSemFacts spec0 osem := by decide
/-- The buffer the body reads itself. -/
def H : Finset (Ref sig .tc) := {main_arg0}
theorem H_sub : H ⊆ restRefsP sig Cert.KernelIdeal.pre0 spec0 := by decide

variable (m : (ℓ : Loc nD τ sig) → Buf (Elt F) ℓ) (ρ : Dev nD → PrngReg)

/-- The three arguments as the run finds them. -/
abbrev argY (c : Dev nD) : S36864x32x128.Idx → Elt F .bf16 := m ((c : Thread nD τ).loc main_arg0)
abbrev argX (c : Dev nD) : S64x4x256.Idx → BitVec 32 := m ((c : Thread nD τ).loc main_arg1)
abbrev argT (c : Dev nD) : S8.Idx → BitVec 32 := m ((c : Thread nD τ).loc main_arg2)

/-- The launch contents, by buffer. -/
abbrev V (c : Dev nD) (b : Ref sig .tc) : Buf (Elt F) ((c : Thread nD τ).loc b) := m ((c : Thread nD τ).loc b)

/-- The table's contents, as the region reads them at entry. -/
def adm : (pcfg0 (F := F)).Adm := ⟨fun k => m (((0 : Dev nD) : Thread nD τ).loc (Cert.KernelIdeal.pre0.ref k)), trivial⟩

abbrev cfgA : Cfg sig Λ₀ := cfg0 (adm m)

/-- The block of routing words at point `t`. -/
def words_at (c : Dev nD) (t : Fin 64) : S1x4x256.Idx → BitVec 32 := fun j => argX m c (ix3 t (j 1) (j 2))

/-- Every pair of the routing table names a row of the sorted buffer. -/
def AllNames : Prop := ∀ (c : Dev nD) (a : Fin 2) (t : Fin 64) (k : Fin 256),
  Names (argT m c) (argX m c (ix3 t (⟨a.val, by omega⟩ : Fin 4) k)) (argX m c (ix3 t (⟨2 + a.val, by omega⟩ : Fin 4) k))

/-- The result: at `(a, n, p, q)` element `(p, q)` of the row that choice `a` of token `n` names. -/
def G (Y : S36864x32x128.Idx → Elt F .bf16) (X : S64x4x256.Idx → BitVec 32) (T : S8.Idx → BitVec 32) : S2x16384x32x128.Idx → Elt F .bf16 := fun j =>
  pick T Y (X (ix3 (⟨(j 1).val / 256, by have h : (j 1).val < 16384 := (j 1).isLt; omega⟩ : Fin 64) (⟨(j 0).val, by have h : (j 0).val < 2 := (j 0).isLt; omega⟩ : Fin 4)
      (⟨(j 1).val % 256, Nat.mod_lt _ (by decide)⟩ : Fin 256)))
    (X (ix3 (⟨(j 1).val / 256, by have h : (j 1).val < 16384 := (j 1).isLt; omega⟩ : Fin 64) (⟨2 + (j 0).val, by have h : (j 0).val < 2 := (j 0).isLt; omega⟩ : Fin 4)
      (⟨(j 1).val % 256, Nat.mod_lt _ (by decide)⟩ : Fin 256))) (j 2) (j 3)

abbrev pt (t : Fin (cfgA m).N) : Fin 64 := ⟨t.val, t.isLt.trans_eq N_0⟩

theorem coord_val (t : Fin (cfgA m).N) : (grid0.coords t 0).val = t.val := by
  rw [Grid.coords_val (G := grid0) t 0 (S := 1) (B := 64) (by decide) rfl, Nat.div_one]
  exact Nat.mod_eq_of_lt (pt m t).isLt

/-- The staging buffers at point `t`. -/
abbrev ms0 (t : Fin (cfgA m).N) : Memref sig .tc .smem S1x4x256 .i32 := spec0_0.stage ((cfgA m).slots t 0)
abbrev ms1 (t : Fin (cfgA m).N) : Memref sig .tc .vmem S2x256x32x128 .bf16 := spec0_1.stage ((cfgA m).slots t 1)
theorem hs0 (t : Fin (cfgA m).N) : (ms0 m t).IsWhole := hstage0_0 (((cfgA m).slots t 0).cast nbuf0_0)
theorem hs1 (t : Fin (cfgA m).N) : (ms1 m t).IsWhole := hstage0_1 (((cfgA m).slots t 1).cast nbuf0_1)

variable (hm : AllNames m)

include hm in
theorem blockNames (c : Dev nD) (t : Fin 64) : BlockNames (argT m c) (words_at m c t) := fun a k => hm c a t k

/-- The output block the body leaves at point `t`. -/
def outAt (c : Dev nD) (t : Fin (cfgA m).N) : S2x256x32x128.Idx → Elt F .bf16 :=
  landed (ms0 m t) (argT m c) ((hs0 m t).unread (words_at m c (pt m t))) (fine_of _ (hs0 m t) _ _ (blockNames m hm c (pt m t))) (argY m c)

/-- What holds between points. -/
def inv (c : Dev nD) : sProp 𝕄 :=
  iprop(Pipeline.ΦD osem spec0 H (V m) c ∗ Pipeline.ΦT Cert.KernelIdeal.pre0 (adm m).1 c)

/-- The proof data of the one pipeline. -/
def dats (_ : Fin 1) (c : Dev nD) : Dat τ (Elt F) Unit ℕ (Pipeline.UD sig nD τ) ℕ (cfgA m) c where
  A w := V m c (arrRef spec0 w)
  after w t := match w with
    | ⟨0, _⟩ => words_at m c (pt m t)
    | ⟨1, _⟩ => outAt m hm c t
  Φ _ := inv m c
  q _ := fullShare
  owed _ := 0

theorem A_eq (c : Dev nD) (w : Fin (cfgA m).W) : (dats m hm 0 c).A w = V m c (arrRef spec0 w) := by dsimp only [dats]
theorem after_0 (c : Dev nD) (t : Fin (cfgA m).N) : (dats m hm 0 c).after 0 t = words_at m c (pt m t) := by dsimp only [dats]; rfl
theorem after_1 (c : Dev nD) (t : Fin (cfgA m).N) : (dats m hm 0 c).after 1 t = outAt m hm c t := by dsimp only [dats]; rfl
theorem Phi_eq (c : Dev nD) (t : Fin ((cfgA m).N + 1)) : (dats m hm 0 c).Φ t = inv m c := by dsimp only [dats]

/-- The routing window's block at point `t` is the words of that point. -/
theorem blk0_read (c : Dev nD) (t : Fin (cfgA m).N) :
    (((cfgA m).win 0).blk t).view.read (Elt F) (V m c main_arg1) = words_at m c (pt m t) := by
  refine funext fun (j : S1x4x256.Idx) => ?_
  show argX m c ((((cfgA m).win 0).blk t).view.emb j) = argX m c (ix3 (pt m t) (j 1) (j 2))
  refine congrArg _ (funext fun a => Fin.ext ?_)
  have h0 : (j 0).val < 1 := (j 0).isLt
  have hc := coord_val m t
  match a with
  | ⟨0, _⟩ =>
    show (BitVec.ofNat 32 (grid0.coords t 0).val).toNat * 1 + 1 * (j 0).val = t.val
    have := (pt m t).isLt
    rw [hc, BitVec.toNat_ofNat, Nat.mod_eq_of_lt (by have : t.val < 64 := (pt m t).isLt; omega)]; omega
  | ⟨1, _⟩ => show 0 * 4 + 1 * (j 1).val = (j 1).val; omega
  | ⟨2, _⟩ => show 0 * 256 + 1 * (j 2).val = (j 2).val; omega

theorem before_0 (c : Dev nD) (t : Fin (cfgA m).N) (d) : (dats m hm 0 c).before 0 t d = words_at m c (pt m t) :=
  ((dats m hm 0 c).before_in_eq_fetched 0 rfl (fun _ => rfl) (fun _ _ _ => rfl)
    (fun t => by rw [after_0]; unfold Dat.blockOf; rw [A_eq]; exact (blk0_read m c t).symm) t d).trans
    (by unfold Dat.fetched Dat.blockOf; rw [A_eq]; exact blk0_read m c t)

/-- The invariant, conjunct by conjunct. -/
theorem inv_eq (c : Dev nD) : inv m c = iprop((emp ∗ (∃ r, prngReg c r)
    ∗ semVal ((c : Thread nD τ), SemLoc.dma cc0_scratch0.sem) 0 ∗ (srcM.view.loc (c : Thread nD τ) ↦{fullShare} argY m c))
    ∗ (tabM.view.loc (c : Thread nD τ) ↦{fullShare.right} argT m c)) := by
  obtain rfl := Subsingleton.elim c (0 : Dev nD)
  unfold inv
  rw [ΦD_eq, scopedRest0_eq]
  unfold ownSems0 ΦT prefHeld H
  rw [bigSep_singleton, show (Finset.univ : Finset Unit) = {()} from rfl, bigSep_singleton,
    show (Finset.univ : Finset (Fin Cert.KernelIdeal.pre0.K)) = {0} from rfl, bigSep_singleton]
  rfl

def bodyPre (c : Dev nD) (t : Fin (cfgA m).N) : sProp 𝕄 :=
  iprop((dats m hm 0 c).Φ t.castSucc ∗ (dats m hm 0 c).owesAt () t.castSucc
    ∗ (∃ d, owns (c : Thread nD τ) (ms0 m t) fullShare ((dats m hm 0 c).before 0 t d))
    ∗ (∃ d, owns (c : Thread nD τ) (ms1 m t) fullShare ((dats m hm 0 c).before 1 t d)))
def bodyPost (c : Dev nD) (t : Fin (cfgA m).N) : sProp 𝕄 :=
  iprop((dats m hm 0 c).Φ t.succ ∗ (dats m hm 0 c).owesAt () t.succ
    ∗ owns (c : Thread nD τ) (ms0 m t) fullShare ((dats m hm 0 c).after 0 t)
    ∗ owns (c : Thread nD τ) (ms1 m t) fullShare ((dats m hm 0 c).after 1 t))

abbrev bodyAt (t : Fin (cfgA m).N) : Prog (TpuEff nD τ sig (Elt F) Λ₀ .tc) PUnit :=
  cc0_moe_gather (grid0.coords t) tabM (Memref.isWhole_whole _) (ms0 m t) (hs0 m t) srcM (Memref.isWhole_whole _) (ms1 m t) (hs1 m t) cc0_scratch0

/-- One grid point: from the invariant and the two staging buffers, the body leaves the landed block. -/
theorem sound_body (c : Dev nD) (t : Fin (cfgA m).N) :
    bodyPre m hm c t ⊢ wp frame (wpE (defs₀ (F := F)) Variants.none c none) Set.univ (bodyAt m t) (fun _ => bodyPost m hm c t) := by
  unfold bodyPre bodyPost bodyAt
  rw [Phi_eq, Phi_eq, inv_eq, after_0, after_1]
  simp only [before_0]
  unfold Dat.owesAt owesWithin
  rw [show (dats m hm 0 c).owed t.castSucc = 0 from rfl, show (dats m hm 0 c).owed t.succ = 0 from rfl]
  iintro ⟨⟨⟨He, Hg, Hs, HY⟩, HT⟩, ⟨%W, -, HW⟩, ⟨%d0, H0⟩, ⟨%d1, H1⟩⟩
  unfold owns
  icases H0 with ⟨%f0, %e0, H0⟩
  icases H1 with ⟨%f1, -, H1⟩
  obtain rfl := (hs0 m t).eq_unread e0
  iapply (wp_wand_r frame (wpE (defs₀ (F := F)) Variants.none c none) Set.univ)
  isplitl [Hs HY HT HW H0 H1]
  · iapply (block_run c (grid0.coords t) (ms0 m t) (hs0 m t) (ms1 m t) (hs1 m t) (argT m c) ((hs0 m t).unread (words_at m c (pt m t)))
      (fine_of _ (hs0 m t) _ _ (blockNames m hm c (pt m t))) (argY m c) f1 W)
    isplitl [HT H0]
    · isplitl [HT]; · iexact HT
      iexact H0
    isplitl [H1]; · iexact H1
    isplitl [HY]; · iexact HY
    isplitl [Hs]; · iexact Hs
    iexact HW
  iintro %_ ⟨⟨HT, H0⟩, H1, HY, Hs, ⟨%W', HW'⟩⟩
  isplitl [He HT HY Hs Hg]
  · isplitl [He HY Hs Hg]
    · isplitl [He]; · iexact He
      isplitl [Hg]; · iexact Hg
      isplitl [Hs]; · iexact Hs
      iexact HY
    iexact HT
  isplitl [HW']
  · iexists W'; isplitr; · ipureintro; exact fun _ _ => Or.inl trivial
    iexact HW'
  isplitl [H0]
  · iexists _; isplitr
    swap; · iexact H0
    ipureintro; exact e0
  iexists _; isplitr
  swap; · iexact H1
  ipureintro; exact (hs1 m t).read_unread _

theorem defs₀_row (t : Fin (cfgA m).N) :
    defs₀ (F := F) .tc (cfgA m).body ((cfgA m).bodyArgs t ((cfgA m).slots t)) = bodyAt m t := by
  unfold defs₀; rw [Defs.onTc_tc]

theorem body_obligation (c : Dev nD) : BodyObligation (dats m hm 0 c) (defs₀ (F := F)) Variants.none () Set.univ := fun t => by
  rw [bigSep_W0, bigSep_W0, defs₀_row]
  exact triple_restated (sound_body m hm c t) rfl .rfl fun _ => .rfl

theorem pf_eq (c : Dev nD) (k : Fin Cert.KernelIdeal.pre0.K) : V m c (Cert.KernelIdeal.pre0.ref k) = (adm m).1 k := by
  obtain rfl := Subsingleton.elim c (0 : Dev nD)
  rfl

set_option backward.isDefEq.respectTransparency.types false in
theorem run_main : θ_run defs (onTc (τ := τ) (main (F := F))) (s₀ m ρ)
    (fun r => Pipeline.FramePost (pin pcfgs (fun _ => adm m)) (dats m hm) 0 (V m) r ∧ r.2.sem = fun _ => 0) :=
  Pipeline.θ_run_frameP_dma (Q' := _) pcfgs (fun _ => adm m) (dats m hm) (0 : Fin 1) launch0 osem defs₀ Variants.none ownSemFacts H H_sub m ρ main
    (hbody := fun c => (body_obligation m hm c).loose) (hshare := fun c => (dats m hm 0 c).share_full fun _ => rfl)
    (howed := fun _ _ => rfl) (V := V m)
    (hmain := hmainP_region pcfgs 0 defs₀ Variants.none m main fun c => main_chain c) (hA := A_eq m hm) (hpf := pf_eq m)
    (hin := fun _ => .rfl) (hout := fun c => by
      rw [Phi_eq]; unfold inv
      iintro ⟨HD, -⟩; iexact HD)

/-! ## What the run leaves -/

theorem nblk_0 : ((cfgA m).win 1).nblk (0 : Fin 4) = 1 :=
  show (S2x16384x32x128.size 0 + S2x256x32x128.size 0 - 1) / S2x256x32x128.size 0 = 1 by decide
theorem nblk_1 : ((cfgA m).win 1).nblk (1 : Fin 4) = 64 :=
  show (S2x16384x32x128.size 1 + S2x256x32x128.size 1 - 1) / S2x256x32x128.size 1 = 64 by decide
theorem nblk_2 : ((cfgA m).win 1).nblk (2 : Fin 4) = 1 :=
  show (S2x16384x32x128.size 2 + S2x256x32x128.size 2 - 1) / S2x256x32x128.size 2 = 1 by decide
theorem nblk_3 : ((cfgA m).win 1).nblk (3 : Fin 4) = 1 :=
  show (S2x16384x32x128.size 3 + S2x256x32x128.size 3 - 1) / S2x256x32x128.size 3 = 1 by decide

/-- The result window's blocks tile the result. -/
theorem covers_1 : ((cfgA m).win 1).Covers :=
  ((cfgA m).win 1).covers_of_indexMap_surj rfl (show ∀ a : Fin 4, 0 < S2x256x32x128.size a by decide)
    fun (β : (a : Fin 4) → Fin (((cfgA m).win 1).nblk a)) =>
    have h0 : (β 0).val < 1 := lt_of_lt_of_eq (β 0).isLt (nblk_0 m)
    have h1 : (β 1).val < 64 := lt_of_lt_of_eq (β 1).isLt (nblk_1 m)
    have h2 : (β 2).val < 1 := lt_of_lt_of_eq (β 2).isLt (nblk_2 m)
    have h3 : (β 3).val < 1 := lt_of_lt_of_eq (β 3).isLt (nblk_3 m)
    ⟨(fun | ⟨0, _⟩ => ⟨(β 1).val, h1⟩ : grid0.Coords), fun (a : Fin 4) => by
      match a with
      | ⟨0, _⟩ => show 0 = (β 0).val; omega
      | ⟨1, _⟩ => show (BitVec.ofNat 32 (β 1).val).toNat = (β 1).val; rw [BitVec.toNat_ofNat, Nat.mod_eq_of_lt (by omega)]
      | ⟨2, _⟩ => show 0 = (β 2).val; omega
      | ⟨3, _⟩ => show 0 = (β 3).val; omega⟩

/-- Where block `t` of the result lies. -/
theorem emb_1 (t : Fin (cfgA m).N) (y : S2x256x32x128.Idx) (a : Fin 4) :
    ((((cfgA m).win 1).blk t).view.emb y a).val = if a = 1 then t.val * 256 + (y 1).val else (y a).val := by
  have ht : t.val < 64 := (pt m t).isLt
  have hc := coord_val m t
  match a with
  | ⟨0, _⟩ => show 0 * 2 + 1 * (y 0).val = (y 0).val; omega
  | ⟨1, _⟩ =>
    show (BitVec.ofNat 32 (grid0.coords t 0).val).toNat * 256 + 1 * (y 1).val = t.val * 256 + (y 1).val
    rw [hc, BitVec.toNat_ofNat, Nat.mod_eq_of_lt (by omega)]; omega
  | ⟨2, _⟩ => show 0 * 32 + 1 * (y 2).val = (y 2).val; omega
  | ⟨3, _⟩ => show 0 * 128 + 1 * (y 3).val = (y 3).val; omega

/-- Equal words and equal positions name equal elements. -/
theorem pick_congr (T : S8.Idx → BitVec 32) (Y : S36864x32x128.Idx → Elt F .bf16) {e e' r r' : BitVec 32} {p p' : Fin 32} {q q' : Fin 128}
    (he : e = e') (hr : r = r') (hp : p = p') (hq : q = q') : pick T Y e r p q = pick T Y e' r' p' q' := by
  subst he hr hp hq; rfl

/-- Block `t` of the result is the landed block of point `t`. -/
theorem flushed_1 (c : Dev nD) (t : Fin (cfgA m).N) (y : S2x256x32x128.Idx) :
    outAt m hm c t y = G (argY m c) (argX m c) (argT m c) ((((cfgA m).win 1).blk t).view.emb y) := by
  have e0 := emb_1 m t y 0
  have e1 := emb_1 m t y 1
  have e2 := emb_1 m t y 2
  have e3 := emb_1 m t y 3
  rw [if_neg (by decide)] at e0 e2 e3
  rw [if_pos rfl] at e1
  have hy1 : (y 1).val < 256 := (y 1).isLt
  have hy : y = ix4 (y 0) (y 1) (y 2) (y 3) := funext fun a => by
    match a with
    | ⟨0, _⟩ => rfl
    | ⟨1, _⟩ => rfl
    | ⟨2, _⟩ => rfl
    | ⟨3, _⟩ => rfl
  have key := landed_eq (ms0 m t) (hs0 m t) (argT m c) (words_at m c (pt m t)) (fine_of _ (hs0 m t) _ _ (blockNames m hm c (pt m t))) (argY m c)
    (y 0) (y 1) (y 2) (y 3) (blockNames m hm c (pt m t))
  refine ((congrArg (outAt m hm c t) hy).trans key).trans (pick_congr _ _ (congrArg (argX m c) ?_) (congrArg (argX m c) ?_) (Fin.ext e2.symm) (Fin.ext e3.symm))
  · funext a
    refine Fin.ext ?_
    match a with
    | ⟨0, _⟩ => show t.val = _ / 256; rw [e1]; omega
    | ⟨1, _⟩ => exact e0.symm
    | ⟨2, _⟩ => show (y 1).val = _ % 256; rw [e1]; omega
  · funext a
    refine Fin.ext ?_
    match a with
    | ⟨0, _⟩ => show t.val = _ / 256; rw [e1]; omega
    | ⟨1, _⟩ => show 2 + (y 0).val = 2 + _; rw [e0]
    | ⟨2, _⟩ => show (y 1).val = _ % 256; rw [e1]; omega

theorem arrAt_1 (c : Dev nD) : (dats m hm 0 c).arrAt 1 (cfgA m).N = G (argY m c) (argX m c) (argT m c) :=
  (dats m hm 0 c).arrAt_eq_of_covers 1 _ (covers_1 m) fun t _ y => by
    rw [after_1]; exact flushed_1 m hm c t y

include hm in
/-- THE RUN: the result is the gather of the arguments, the arguments are as they were, every semaphore is at zero. -/
theorem run : θ_run defs (onTc (τ := τ) (main (F := F))) ⟨m, fun _ => 0, ρ⟩ (fun r => (∀ c : Dev nD,
      r.2.mem ((c.tc : Thread nD τ).loc main_v0) = G (argY m c) (argX m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).1 1).trans (arrAt_1 m hm c),
     (h.1 c).2 main_arg0 (show main_arg0 ∈ restRefs sig spec0 by decide),
     ((h.1 c).1 0).trans (((dats m hm 0 c).arrAt_in 0 rfl _).trans (A_eq m hm c 0)),
     (h.1 c).2 main_arg2 (show main_arg2 ∈ restRefs sig spec0 by decide)⟩, h.2⟩) (run_main m ρ hm)

end Cert.KernelIdeal.Rows

end
-- ==== Proof.Pre.lean ====
module

public import proofs.«01_k».proof.Proof.Run
public import proofs.«01_k».proof.Proof.Gen.Pre_rows_in_range
public import Idealize.ShloMosaic.Lib.ReduceAll
public import Idealize.ShloMosaic.Lib.Affine
public import Idealize.ShloMosaic.Lib.WordArith

@[expose] public section

set_option maxRecDepth 16384

noncomputable section

/-! # What the precondition says

`rows_in_range` read element by element: every expert of the routing table is below 8, and the row that an expert and a
rank name lies in the sorted buffer. -/

namespace Cert.KernelIdeal.Rows

open Cert.KernelIdeal Cert.KernelIdeal.Gen
open Idealize.ShloMosaic Idealize.ShloMosaic.ValueIdx

variable {F : FTy → Type} [FloatOps F]

theorem scalar_unique : Subsingleton Cert.Pre_rows_in_range.S_.Idx := ⟨fun _ _ => funext fun a => a.elim0⟩

/-- A word at least 0 and below `n`, read signed, is below `n` read unsigned. -/
theorem below (x : BitVec 32) (n : ℕ) (hn : n < 2 ^ 31) (h : IntOp.andi (IntOp.cmpi .sge x 0#32) (IntOp.cmpi .slt x (BitVec.ofNat 32 n)) = 1#1) :
    x.toNat < n := by
  have h' := IntOp.andi_eq_one.1 h
  have h0 : x.toInt ≥ 0 := by
    have := h'.1
    simp only [IntOp.cmpi, BitVec.sle] at this
    by_contra hc
    rw [show decide ((0#32 : BitVec 32).toInt ≤ x.toInt) = false from decide_eq_false (by simpa using hc)] at this
    exact absurd this (by decide)
  have h1 : x.toInt < n := by
    have := h'.2
    simp only [IntOp.cmpi, BitVec.slt] at this
    by_contra hc
    have e : (BitVec.ofNat 32 n).toInt = n := by rw [BitVec.toInt_ofNat', Int.bmod_eq_of_le] <;> omega
    rw [e, show decide (x.toInt < (n : ℤ)) = false from decide_eq_false hc] at this
    exact absurd this (by decide)
  rw [BitVec.toInt_eq_toNat_cond] at h0 h1
  split at h0 <;> rename_i hx
  · rw [if_pos hx] at h1; omega
  · omega

theorem names_of_pre (Y : S36864x32x128.Idx → Elt F .bf16) (X : S64x4x256.Idx → BitVec 32) (T : S8.Idx → BitVec 32)
    (h : Cert.Pre_rows_in_range.fn (F := F) Y X T = fun _ => 1#1) (a : Fin 2) (t : Fin 64) (k : Fin 256) :
    Names T (X (ix3 t (⟨a.val, by omega⟩ : Fin 4) k)) (X (ix3 t (⟨2 + a.val, by omega⟩ : Fin 4) k)) := by
  haveI := scalar_unique
  have h0 := congrFun h (fun a => a.elim0)
  unfold Cert.Pre_rows_in_range.fn Cert.Pre_rows_in_range.fn_part1 at h0
  dsimp only at h0
  have h1 := IntOp.andi_eq_one.1 h0
  have A := Host.reduce_andi_all _ _ _ _ _ h1.1 (ix3 t a k)
  have hE : (X (ix3 t (⟨a.val, by omega⟩ : Fin 4) k)).toNat < 8 := by
    refine below _ 8 (by decide) ?_
    refine Eq.trans ?_ A
    refine congrArg (fun x => IntOp.andi (IntOp.cmpi .sge x 0#32) (IntOp.cmpi .slt x 8#32)) (congrArg X (funext fun b => Fin.ext ?_))
    match b with
    | ⟨0, _⟩ => show t.val = 0 + t.val; omega
    | ⟨1, _⟩ => show a.val = 0 + a.val; omega
    | ⟨2, _⟩ => show k.val = 0 + k.val; omega
  refine ⟨hE, ?_⟩
  have B := Host.reduce_andi_all _ _ _ _ _ h1.2 (ix4 t a k (⟨(X (ix3 t (⟨a.val, by omega⟩ : Fin 4) k)).toNat, hE⟩ : Fin 8))
  rcases IntOp.ori_eq_one.1 B with B | B
  · exfalso
    refine IntOp.not_eq_one.1 B ?_
    have e : ∀ x y : BitVec 32, x = y → IntOp.cmpi .eq x y = 1#1 := by
      intro x y e; subst e; simp [IntOp.cmpi]
    refine e _ _ ?_
    refine Eq.trans (congrArg X (a₂ := ix3 t (⟨a.val, by omega⟩ : Fin 4) k) (funext fun b => Fin.ext ?_)) ?_
    · match b with
      | ⟨0, _⟩ => show 0 + t.val = t.val; omega
      | ⟨1, _⟩ => show 0 + a.val = a.val; omega
      | ⟨2, _⟩ => show 0 + k.val = k.val; omega
    · show _ = BitVec.ofNat 32 (X (ix3 t (⟨a.val, by omega⟩ : Fin 4) k)).toNat
      exact (BitVec.eq_of_toNat_eq (by rw [BitVec.toNat_ofNat]; exact Nat.mod_eq_of_lt (BitVec.isLt _))).symm
  · refine below _ 36864 (by decide) ?_
    refine Eq.trans ?_ B
    refine congrArg (fun x => IntOp.andi (IntOp.cmpi .sge x 0#32) (IntOp.cmpi .slt x 36864#32)) ?_
    refine congrArg₂ (fun x y : BitVec 32 => x + y) (congrArg T (funext fun b => Fin.ext ?_)) (congrArg X (funext fun b => Fin.ext ?_))
    · match b with
      | ⟨0, _⟩ => exact Nat.mod_eq_of_lt hE
    · match b with
      | ⟨0, _⟩ => show t.val = 0 + t.val; omega
      | ⟨1, _⟩ => rfl
      | ⟨2, _⟩ => show k.val = 0 + k.val; omega

end Cert.KernelIdeal.Rows

end
-- ==== Proof.RefValue.lean ====
module

public import proofs.«01_k».proof.Proof.Run
public import proofs.«01_k».proof.Proof.Gen.Reference.Run
public import proofs.«01_k».proof.Proof.Gen.ReferenceIdeal.Run
public import Idealize.ShloMosaic.Lib.ValueIdxCore
public import Idealize.ShloMosaic.Lib.ValueLayout

@[expose] public section

set_option maxRecDepth 16384

noncomputable section

/-! # The reference's value

The reference slices experts and ranks out of the routing table, lays them out by token, takes the first row of each
expert, adds the rank and takes that row. Where every pair names a row, its two index wraps change nothing and its two
gathers clamp nothing: the result is `Rows.G`. -/

namespace Cert.Reference.Take

open Cert.Reference
open Idealize.ShloMosaic Idealize.ShloMosaic.TcCoe Idealize.ShloMosaic.ValueIdx
open Facts₀

variable {F : FTy → Type} [FloatOps F]

/-- The experts of the tokens, choice by choice. -/
def experts (X : S64x4x256.Idx → BitVec 32) : S2x16384.Idx → BitVec 32 :=
  shapeCast S2x16384 (transpose S2x64x256 [1, 0, 2] (extractStridedSlice S64x2x256 ![0, 0, 0] X slices_S64x4x256_S64x2x256_0_0_0) transposes_S64x2x256_S2x64x256_1_0_2) shapeCasts_S2x64x256_S2x16384
/-- The ranks of the tokens, choice by choice. -/
def ranks (X : S64x4x256.Idx → BitVec 32) : S2x16384.Idx → BitVec 32 :=
  shapeCast S2x16384 (transpose S2x64x256 [1, 0, 2] (extractStridedSlice S64x2x256 ![0, 2, 0] X slices_S64x4x256_S64x2x256_0_2_0) transposes_S64x2x256_S2x64x256_1_0_2) shapeCasts_S2x64x256_S2x16384
/-- An index below zero counts from the end. -/
def wrap (n : BitVec 32) (w : S2x16384.Idx → BitVec 32) : S2x16384.Idx → BitVec 32 :=
  select (cmpi .slt w (broadcastInDim S2x16384 ![] bcast_S_S2x16384 (constantI S_ 32 0#32))) (addi w (broadcastInDim S2x16384 ![] bcast_S_S2x16384 (constantI S_ 32 n))) w
/-- The row of each token and choice. -/
def rows (X : S64x4x256.Idx → BitVec 32) (T : S8.Idx → BitVec 32) : S2x16384.Idx → BitVec 32 :=
  addi (Host.gather gather_S8_S2x16384x1_S2x16384_n_0_n_n_0_2_1 T (broadcastInDim S2x16384x1 ![0, 1] bcast_S2x16384_S2x16384x1_0_1 (wrap 8#32 (experts X)))) (ranks X)
/-- The reference's result. -/
def taken (Y : S36864x32x128.Idx → Elt F .bf16) (X : S64x4x256.Idx → BitVec 32) (T : S8.Idx → BitVec 32) : S2x16384x32x128.Idx → Elt F .bf16 :=
  Host.gather gather_S36864x32x128_S2x16384x1_S2x16384x32x128_23_0_n_n_0_2_132128 Y (broadcastInDim S2x16384x1 ![0, 1] bcast_S2x16384_S2x16384x1_0_1 (wrap 36864#32 (rows X T)))

theorem res_eq (m : (ℓ : Loc nD τ sig) → Buf (Elt F) ℓ) (c : Dev nD) :
    Cert.Reference.Value.res_main_v20 m c = taken (m ((c : Thread nD τ).loc main_arg0)) (m ((c : Thread nD τ).loc main_arg1)) (m ((c : Thread nD τ).loc main_arg2)) := rfl
theorem res_ideal_eq (m : (ℓ : Loc Cert.ReferenceIdeal.nD Cert.ReferenceIdeal.τ Cert.ReferenceIdeal.sig) → Buf (Elt F) ℓ) (c : Dev Cert.ReferenceIdeal.nD) :
    Cert.ReferenceIdeal.Value.res_main_v20 m c = taken (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) := rfl

/-- Token `n` lies in block `n / 256` at place `n % 256`. -/
theorem flat_apply (x : S2x64x256.Idx → BitVec 32) (h : S2x64x256.ShapeCasts S2x16384) (a : Fin 2) (n : Fin 16384) :
    shapeCast S2x16384 x h (ix2 a n) = x (ix3 a (⟨n.val / 256, by omega⟩ : Fin 64) (⟨n.val % 256, Nat.mod_lt _ (by decide)⟩ : Fin 256)) :=
  shapeCast_apply x h _ _ (by
    rw [Shape.rowMajor_val_three, Shape.rowMajor_val_two]
    show (a.val * 64 + n.val / 256) * 256 + n.val % 256 = a.val * 16384 + n.val
    omega)

theorem experts_apply (X : S64x4x256.Idx → BitVec 32) (a : Fin 2) (n : Fin 16384) :
    experts X (ix2 a n) = X (ix3 (⟨n.val / 256, by omega⟩ : Fin 64) (⟨a.val, by omega⟩ : Fin 4) (⟨n.val % 256, Nat.mod_lt _ (by decide)⟩ : Fin 256)) := by
  refine (flat_apply _ _ a n).trans (congrArg X (funext fun b => Fin.ext ?_))
  match b with
  | ⟨0, _⟩ => exact Nat.zero_add _
  | ⟨1, _⟩ => exact Nat.zero_add _
  | ⟨2, _⟩ => exact Nat.zero_add _
theorem ranks_apply (X : S64x4x256.Idx → BitVec 32) (a : Fin 2) (n : Fin 16384) :
    ranks X (ix2 a n) = X (ix3 (⟨n.val / 256, by omega⟩ : Fin 64) (⟨2 + a.val, by omega⟩ : Fin 4) (⟨n.val % 256, Nat.mod_lt _ (by decide)⟩ : Fin 256)) := by
  refine (flat_apply _ _ a n).trans (congrArg X (funext fun b => Fin.ext ?_))
  match b with
  | ⟨0, _⟩ => exact Nat.zero_add _
  | ⟨1, _⟩ => rfl
  | ⟨2, _⟩ => exact Nat.zero_add _

/-- A word below 2³¹ is not wrapped. -/
theorem wrap_apply (n : BitVec 32) (w : S2x16384.Idx → BitVec 32) (i : S2x16384.Idx) (h : (w i).toNat < 2 ^ 31) : wrap n w i = w i := by
  show (if IntOp.cmpi .slt (w i) 0#32 = 1#1 then _ else w i) = w i
  have e : IntOp.cmpi .slt (w i) 0#32 = 0#1 := by
    simp only [IntOp.cmpi, BitVec.slt]
    rw [decide_eq_false]; · rfl
    rw [BitVec.toInt_eq_toNat_cond, if_pos (by omega)]
    simp
  rw [e, if_neg (by decide)]

theorem toInt_of_small (x : BitVec 32) (h : x.toNat < 2 ^ 31) : x.toInt.toNat = x.toNat := by
  rw [BitVec.toInt_eq_toNat_cond, if_pos (by omega)]; simp

/-- The table's gather reads the expert's entry. -/
theorem table_apply (T : S8.Idx → BitVec 32) (w : S2x16384.Idx → BitVec 32) (i : S2x16384.Idx) (h : (w i).toNat < 8) :
    Host.gather gather_S8_S2x16384x1_S2x16384_n_0_n_n_0_2_1 T (broadcastInDim S2x16384x1 ![0, 1] bcast_S2x16384_S2x16384x1_0_1 w) i
      = T (ix1 (⟨(w i).toNat % 8, Nat.mod_lt _ (by decide)⟩ : Fin 8)) := by
  refine (gather_take_apply (N := 8) (R := 2) (C := 16384) (by decide) gather_S8_S2x16384x1_S2x16384_n_0_n_n_0_2_1_wf T _ i).trans ?_
  have e : broadcastInDim S2x16384x1 ![0, 1] bcast_S2x16384_S2x16384x1_0_1 w (takeIdx i) = w i := by
    refine congrArg w (funext fun b => Fin.ext ?_)
    match b with
    | ⟨0, _⟩ => rfl
    | ⟨1, _⟩ => rfl
  refine congrArg T (congrArg ix1 (Fin.ext ?_))
  show min (broadcastInDim S2x16384x1 ![0, 1] bcast_S2x16384_S2x16384x1_0_1 w (takeIdx i)).toInt.toNat 7 = (w i).toNat % 8
  rw [e, toInt_of_small _ (by omega)]
  omega

/-- The buffer's gather reads the row whole. -/
theorem buffer_apply (Y : S36864x32x128.Idx → Elt F .bf16) (w : S2x16384.Idx → BitVec 32) (j : S2x16384x32x128.Idx)
    (h : (w (ix2 (j 0) (j 1))).toNat < 36864) :
    Host.gather gather_S36864x32x128_S2x16384x1_S2x16384x32x128_23_0_n_n_0_2_132128 Y (broadcastInDim S2x16384x1 ![0, 1] bcast_S2x16384_S2x16384x1_0_1 w) j
      = Y (ix3 (⟨(w (ix2 (j 0) (j 1))).toNat % 36864, Nat.mod_lt _ (by decide)⟩ : Fin 36864) (j 2) (j 3)) := by
  have e : ∀ i : S2x16384x1.Idx, (i 0).val = (j 0).val → (i 1).val = (j 1).val →
      broadcastInDim S2x16384x1 ![0, 1] bcast_S2x16384_S2x16384x1_0_1 w i = w (ix2 (j 0) (j 1)) := by
    intro i e0 e1
    refine congrArg w (funext fun b => Fin.ext ?_)
    match b with
    | ⟨0, _⟩ => exact e0
    | ⟨1, _⟩ => exact e1
  unfold Host.gather
  refine congrArg Y (funext fun a => Fin.ext ?_)
  match a with
  | ⟨0, _⟩ =>
    show min (broadcastInDim S2x16384x1 ![0, 1] bcast_S2x16384_S2x16384x1_0_1 w _).toInt.toNat 36863 + 0 + 0 = _ % 36864
    rw [e _ rfl rfl, toInt_of_small _ (by omega)]
    omega
  | ⟨1, _⟩ => show 0 + 0 + (j 2).val = (j 2).val; omega
  | ⟨2, _⟩ => show 0 + 0 + (j 3).val = (j 3).val; omega

open Cert.KernelIdeal.Rows in
/-- Where every pair names a row, the reference's result is the gather. -/
theorem taken_eq (Y : S36864x32x128.Idx → Elt F .bf16) (X : S64x4x256.Idx → BitVec 32) (T : S8.Idx → BitVec 32)
    (h : ∀ (a : Fin 2) (t : Fin 64) (k : Fin 256), Names T (X (ix3 t (⟨a.val, by omega⟩ : Fin 4) k)) (X (ix3 t (⟨2 + a.val, by omega⟩ : Fin 4) k))) :
    taken Y X T = G Y X T := by
  funext j
  have hn : (j 1).val < 16384 := (j 1).isLt
  have hN := h (j 0) (⟨(j 1).val / 256, by omega⟩ : Fin 64) (⟨(j 1).val % 256, Nat.mod_lt _ (by decide)⟩ : Fin 256)
  have he := experts_apply X (j 0) (j 1)
  have hr := ranks_apply X (j 0) (j 1)
  have hw : wrap 8#32 (experts X) (ix2 (j 0) (j 1)) = experts X (ix2 (j 0) (j 1)) := wrap_apply _ _ _ (by rw [he]; have := hN.1; omega)
  have hrow : rows X T (ix2 (j 0) (j 1)) = rowWord T (experts X (ix2 (j 0) (j 1))) (ranks X (ix2 (j 0) (j 1))) := by
    refine congrArg (· + ranks X (ix2 (j 0) (j 1))) ((table_apply T _ _ (by rw [hw, he]; exact hN.1)).trans ?_)
    refine congrArg T (congrArg ix1 (Fin.ext ?_))
    show (wrap 8#32 (experts X) (ix2 (j 0) (j 1))).toNat % 8 = _
    rw [hw]
  rw [he, hr] at hrow
  have hw2 : wrap 36864#32 (rows X T) (ix2 (j 0) (j 1)) = rows X T (ix2 (j 0) (j 1)) := wrap_apply _ _ _ (by rw [hrow]; have := hN.2; omega)
  refine (buffer_apply Y _ j (by rw [hw2, hrow]; exact hN.2)).trans ?_
  refine congrArg Y (congrArg (fun i => ix3 i (j 2) (j 3)) (Fin.ext ?_))
  show (wrap 36864#32 (rows X T) (ix2 (j 0) (j 1))).toNat % 36864 = _
  rw [hw2, hrow]

end Cert.Reference.Take

end
-- ==== Proof.Whole.lean ====
module

public import Idealize.ShloMosaic.Lib.Pipeline.Frame
public import Idealize.ShloMosaic.Lib.Pipeline.Value

@[expose] public section

noncomputable section

/-! # Loads and stores of a whole block

A block loaded whole is its contents, and a block stored whole holds what was stored. -/

namespace Cert.Whole

open Idealize.ShloMosaic

variable {sig : RefSig} {Val : EltTy → Type} {κ : Kind} {sp : Space} {s : Shape} {e : EltTy}

theorem hz2 : (![0, 0] : Fin 2 → Nat) = fun _ => 0 := funext fun a => by fin_cases a <;> rfl
theorem hz3 : (![0, 0, 0] : Fin 3 → Nat) = fun _ => 0 := funext fun a => by fin_cases a <;> rfl

/-- One store of the whole block leaves what it stores. -/
theorem read_store (v : View sig κ sp s e) {off : Fin s.rank → Nat} (h : off = fun _ => 0) (inb : ∀ a, off a + s.size a ≤ s.size a)
    (f : v.ty.Contents Val) (w : s.Idx → Val e) : v.read Val (v.writes Val f [⟨Rect.unit off s.size inb, w⟩]) = w := by
  subst h; exact View.read_writes_whole v f w

/-- One load of the whole block reads its contents. -/
theorem load_whole {m : Memref sig κ sp s e} (hm : m.IsWhole) {off : Fin s.rank → Nat} (h : off = fun _ => 0)
    (inb : ∀ a, off a + s.size a ≤ s.size a) (x : s.Idx → Val e) :
    View.readAt Val m.view (Rect.unit off s.size inb).toLoadRect (hm.unread x) = x := by
  rw [View.readAt_eq_ld, hm.read_unread, View.ld_unit_zero h]

end Cert.Whole

end
-- ==== Proof.GateUpBody.lean ====
module

public import proofs.«01_k».proof.Proof.Gen.Kernel2Ideal.Launch
public import proofs.«01_k».proof.Proof.Whole
public import Idealize.ShloMosaic.Lib.Pipeline.Frame
public import Idealize.ShloMosaic.Lib.Pipeline.Value
public import Idealize.ShloMosaic.Lib.ValueIdx
public import Idealize.ShloMosaic.Lib.WholeRead
public import Idealize.ShloMosaic.Lib.Tactic

@[expose] public section

set_option maxRecDepth 16384

noncomputable section

/-! # One grid point of the experts' gated product

The body reads the number of active tiles. On an active tile it multiplies the tile's rows with a block of each of its
expert's two weights, and stores the first product through the sigmoid-weighted unit times the second; on the others it
stores zeros. -/

namespace Cert.Kernel2Ideal.GateUp

open Cert.Kernel2Ideal Cert.Kernel2Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.UR sig nD τ) ℕ

/-- The two prefetched tables: each tile's expert, and the number of active tiles. -/
abbrev tabE : Memref sig .tc .smem S72 .i32 := Memref.whole main_arg1
abbrev tabN : Memref sig .tc .smem S1 .i32 := Memref.whole main_arg2

/-- The tile's rows times a block of weights. -/
def mm (x : S512x4096.Idx → Elt F .bf16) (w : S1x4096x512.Idx → Elt F .bf16) : FVec F S512x512 .f32 :=
  matmul dot_S512x4096_S4096x512_S512x512_1_0_0_1_n_n none x (shapeCast S4096x512 w shapeCasts_S1x4096x512_S4096x512) (constant S512x512 .f32 0x00000000#32)

/-- `a / (1 + e⁻ᵃ)` times `b`. -/
def gated (a b : FVec F S512x512 .f32) : FVec F S512x512 .f32 :=
  mulf (mulf a (divf (broadcast S512x512 (Scalar.ofBits .f32 0x3F800000#32))
    (addf (broadcast S512x512 (Scalar.ofBits .f32 0x3F800000#32)) (exp (subf (broadcast S512x512 (Scalar.ofBits .f32 0x00000000#32)) a))))) b

/-- The gated product, rounded. -/
def prod (x : S512x4096.Idx → Elt F .bf16) (w v : S1x4096x512.Idx → Elt F .bf16) : S512x512.Idx → Elt F .bf16 :=
  truncf .bf16 (gated (mm x w) (mm x v)) bitsLt_bf16_f32

/-- The block an inactive tile holds. -/
def zeros : S512x512.Idx → Elt F .bf16 := broadcast S512x512 (Scalar.ofBits .bf16 0x0000#16)

/-- What the body leaves: the gated product on an active tile, zeros elsewhere. -/
def left (i : grid0.Coords) (n : BitVec 32) (x : S512x4096.Idx → Elt F .bf16) (w v : S1x4096x512.Idx → Elt F .bf16) : S512x512.Idx → Elt F .bf16 :=
  if k0_cond1 i n = 1#1 then prod x w v else zeros

/-- The second condition is the first one's negation. -/
theorem cond2_iff (i : grid0.Coords) (n : BitVec 32) : k0_cond2 i n = 1#1 ↔ ¬ k0_cond1 i n = 1#1 := by
  unfold k0_cond1 k0_cond2
  dsimp only
  generalize Scalar.cmpi .slt (BitVec.ofNat 32 (i 0).val) n = b
  revert b; decide

variable (c : Dev nD) (i : grid0.Coords) (arg4 : Memref sig .tc .vmem S512x4096 .bf16) (harg4 : arg4.IsWhole)
  (arg5 : Memref sig .tc .vmem S1x4096x512 .bf16) (harg5 : arg5.IsWhole) (arg6 : Memref sig .tc .vmem S1x4096x512 .bf16) (harg6 : arg6.IsWhole)
  (arg7 : Memref sig .tc .vmem S512x512 .bf16) (harg7 : arg7.IsWhole)
  (N : S1.Idx → Elt F .i32) (x : S512x4096.Idx → Elt F .bf16) (w v : S1x4096x512.Idx → Elt F .bf16) (o : arg7.view.ty.Contents (Elt F))

/-- One grid point's run. -/
theorem body_run :
    iprop((tabN.view.loc (c : Thread nD τ) ↦{fullShare.right} N) ∗ (arg4.view.loc (c : Thread nD τ) ↦[arg4.view.set]{fullShare} harg4.unread x)
      ∗ (arg5.view.loc (c : Thread nD τ) ↦[arg5.view.set]{fullShare} harg5.unread w) ∗ (arg6.view.loc (c : Thread nD τ) ↦[arg6.view.set]{fullShare} harg6.unread v)
      ∗ (arg7.view.loc (c : Thread nD τ) ↦[arg7.view.set]{fullShare} o))
    ⊢ wp frame (wpE (defs₀ (F := F)) Variants.none (c : Thread nD τ) none) Set.univ
      (cc0_moe_gate_up (F := F) i tabE (Memref.isWhole_whole _) tabN (Memref.isWhole_whole _) arg4 harg4 arg5 harg5 arg6 harg6 arg7 harg7)
      (fun _ => (iprop((tabN.view.loc (c : Thread nD τ) ↦{fullShare.right} N) ∗ (arg4.view.loc (c : Thread nD τ) ↦[arg4.view.set]{fullShare} harg4.unread x)
        ∗ (arg5.view.loc (c : Thread nD τ) ↦[arg5.view.set]{fullShare} harg5.unread w) ∗ (arg6.view.loc (c : Thread nD τ) ↦[arg6.view.set]{fullShare} harg6.unread v)
        ∗ ∃ f, ⌜arg7.view.read (Elt F) f = left i (N (ix1 0)) x w v⌝ ∗ (arg7.view.loc (c : Thread nD τ) ↦[arg7.view.set]{fullShare} f)) : sProp 𝕄)) := by
  iintro ⟨HN, H4, H5, H6, H7⟩
  sl_unfold [cc0_moe_gate_up]
  sl_exec
  sl_step
  isplitl [HN]; · iexact HN
  isplitl [H4]; · iexact H4
  isplitl [H5]; · iexact H5
  isplitl [H6]; · iexact H6
  iexists _
  isplitr
  swap; · iexact H7
  ipureintro
  have hw : body_run.sl.r (F := F) N = N (ix1 0) := by
    unfold body_run.sl.r
    refine congrArg N (funext fun a => Fin.ext ?_)
    match a with
    | ⟨0, _⟩ => rfl
  have hv : body_run.sl.v23 arg4 harg4 arg5 harg5 arg6 harg6 x w v = prod x w v := by
    unfold body_run.sl.v23 body_run.sl.v22 body_run.sl.v21 body_run.sl.v20 body_run.sl.v18 body_run.sl.v16 body_run.sl.v15
    unfold body_run.sl.v13 body_run.sl.v12 body_run.sl.v10 body_run.sl.v9 body_run.sl.cst
    rw [Cert.Whole.load_whole harg4 Cert.Whole.hz2, Cert.Whole.load_whole harg5 Cert.Whole.hz3, Cert.Whole.load_whole harg6 Cert.Whole.hz3]
    rfl
  rw [hw, hv]
  unfold left
  by_cases h1 : k0_cond1 i (N (ix1 0)) = 1#1
  · rw [dif_neg (fun h => (cond2_iff i _).1 h h1), dif_pos h1, if_pos h1]
    exact Cert.Whole.read_store _ Cert.Whole.hz2 _ _ _
  · rw [dif_pos ((cond2_iff i _).2 h1), if_neg h1]
    exact Cert.Whole.read_store _ Cert.Whole.hz2 _ _ _

end Cert.Kernel2Ideal.GateUp

end
-- ==== Proof.GateUpRun.lean ====
module

public import proofs.«01_k».proof.Proof.GateUpBody
public import Idealize.ShloMosaic.Lib.Pipeline.Covers
public import Idealize.ShloMosaic.Lib.Affine
public import Idealize.ShloMosaic.Lib.WordArith

@[expose] public section

set_option maxRecDepth 16384

noncomputable section

/-! # The run of the experts' gated product

The launch at any float values. The weights are rounded on the host before it. Every tile's expert must be one of
the eight, so that the block of weights its index map names lies in the array. -/

namespace Cert.Kernel2Ideal.GateUp

open Cert.Kernel2Ideal Cert.Kernel2Ideal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five arguments as the run finds them. -/
abbrev argX (c : Dev nD) : S36864x4096.Idx → Elt F .bf16 := m ((c : Thread nD τ).loc main_arg0)
abbrev argE (c : Dev nD) : S72.Idx → BitVec 32 := m ((c : Thread nD τ).loc main_arg1)
abbrev argN (c : Dev nD) : S1.Idx → BitVec 32 := m ((c : Thread nD τ).loc main_arg2)
abbrev argW (c : Dev nD) : S8x4096x4096.Idx → Elt F .f32 := m ((c : Thread nD τ).loc main_arg3)
abbrev argU (c : Dev nD) : S8x4096x4096.Idx → Elt F .f32 := m ((c : Thread nD τ).loc main_arg4)

/-- The buffers' contents at the region's entry. -/
abbrev V (c : Dev nD) (b : Ref sig .tc) : Buf (Elt F) ((c : Thread nD τ).loc b) := StableHlo.after hostOps0 (fun b => m (c, b)) b

/-- The rounded weights. -/
def rounded (w : S8x4096x4096.Idx → Elt F .f32) : S8x4096x4096.Idx → Elt F .bf16 := truncf .bf16 w bitsLt_bf16_f32

theorem V_v0 (c : Dev nD) : V m c main_v0 = rounded (argW m c) := by
  show StableHlo.after hostOps0 (fun b => m (c, b)) (Proc.devRef .tc main_v0) = _
  after_results; rfl
theorem V_v1 (c : Dev nD) : V m c main_v1 = rounded (argU m c) := by
  show StableHlo.after hostOps0 (fun b => m (c, b)) (Proc.devRef .tc main_v1) = _
  after_results; rfl
theorem V_arg0 (c : Dev nD) : V m c main_arg0 = argX m c := by
  show StableHlo.after hostOps0 (fun b => m (c, b)) (Proc.devRef .tc main_arg0) = _
  after_results
theorem V_arg1 (c : Dev nD) : V m c main_arg1 = argE m c := by
  show StableHlo.after hostOps0 (fun b => m (c, b)) (Proc.devRef .tc main_arg1) = _
  after_results
theorem V_arg2 (c : Dev nD) : V m c main_arg2 = argN m c := by
  show StableHlo.after hostOps0 (fun b => m (c, b)) (Proc.devRef .tc main_arg2) = _
  after_results
theorem V_arg3 (c : Dev nD) : V m c main_arg3 = argW m c := by
  show StableHlo.after hostOps0 (fun b => m (c, b)) (Proc.devRef .tc main_arg3) = _
  after_results
theorem V_arg4 (c : Dev nD) : V m c main_arg4 = argU m c := by
  show StableHlo.after hostOps0 (fun b => m (c, b)) (Proc.devRef .tc main_arg4) = _
  after_results

/-- Every tile's expert is one of the eight. -/
def Named : Prop := ∀ (c : Dev nD) (t : Fin 72), (argE m c (ix1 t)).toNat < 8

/-- The column of the block of weights at a point: the point's own on an active tile, the first elsewhere. -/
def col (i : grid0.Coords) (n : BitVec 32) : Nat := (Scalar.select (Scalar.cmpi .slt (BitVec.ofNat 32 (i 0).val) n) (BitVec.ofNat 32 (i 1).val) 0#32).toNat

theorem col_lt (i : grid0.Coords) (n : BitVec 32) : col i n < 8 := by
  have h1 : (i 1).val < 8 := (i 1).isLt
  unfold col Scalar.select
  split
  · rw [BitVec.toNat_ofNat, Nat.mod_eq_of_lt (by omega)]; exact h1
  · decide

/-- On an active tile it is the point's own. -/
theorem col_active (i : grid0.Coords) (n : BitVec 32) (h : k0_cond1 i n = 1#1) : col i n = (i 1).val := by
  have h1 : (i 1).val < 8 := (i 1).isLt
  have hb : Scalar.cmpi .slt (BitVec.ofNat 32 (i 0).val) n = 1#1 := by
    unfold k0_cond1 at h
    dsimp only at h
    generalize Scalar.cmpi .slt (BitVec.ofNat 32 (i 0).val) n = b at h
    revert b; decide
  unfold col
  rw [hb]
  show (BitVec.ofNat 32 (i 1).val).toNat = _
  rw [BitVec.toNat_ofNat, Nat.mod_eq_of_lt (by omega)]

/-- The tables' contents, as the region reads them at entry. -/
def pf : pre0.Contents (Elt F) := fun k => m (((0 : Dev nD) : Thread nD τ).loc (pre0.ref k))

/-- The tile's expert, as the index map loads it. -/
theorem pf_expert (i : grid0.Coords) (x : S1.Idx) : (pf m 0 ((Rect.unit (s := S72) ![(BitVec.ofNat 32 (i 0).val).toNat] S1.size (k0_off1_inb i)).emb x) : BitVec 32)
    = argE m 0 (ix1 (i 0 : Fin 72)) := by
  have h0 : (i 0).val < 72 := (i 0).isLt
  have hx : (x 0).val < 1 := (x 0).isLt
  refine congrArg (argE m 0) (funext fun a => Fin.ext ?_)
  match a with
  | ⟨0, _⟩ =>
    show (BitVec.ofNat 32 (i 0).val).toNat + 1 * (x 0).val = (i 0).val
    rw [BitVec.toNat_ofNat, Nat.mod_eq_of_lt (by omega)]; omega

/-- The number of active tiles, as it loads it. -/
theorem pf_active (x : S1.Idx) : (pf m 1 ((Rect.unit (s := S1) ![0] S1.size inb_S1_S1_0).emb x) : BitVec 32) = argN m 0 (ix1 0) := by
  have hx : (x 0).val < 1 := (x 0).isLt
  refine congrArg (argN m 0) (funext fun a => Fin.ext ?_)
  match a with
  | ⟨0, _⟩ => show 0 + 1 * (x 0).val = 0; omega

/-- The weights' index map, read. -/
theorem transform_1_eq (i : grid0.Coords) : cc0_transform_1 k0_off1_inb numel1_S1 inb_S1_S1_0 (pf m) i
    = ![(argE m 0 (ix1 (i 0 : Fin 72))).toNat, 0, col i (argN m 0 (ix1 0))] := by
  have he := pf_expert m i (Shape.Idx.first (by decide))
  have hn := pf_active m (Shape.Idx.first (by decide))
  rw [← he, ← hn]
  rfl

/-- The second weights' is the same. -/
theorem transform_2_eq (i : grid0.Coords) : cc0_transform_2 k0_off1_inb numel1_S1 inb_S1_S1_0 (pf m) i
    = ![(argE m 0 (ix1 (i 0 : Fin 72))).toNat, 0, col i (argN m 0 (ix1 0))] := by
  have he := pf_expert m i (Shape.Idx.first (by decide))
  have hn := pf_active m (Shape.Idx.first (by decide))
  rw [← he, ← hn]
  rfl

variable (hm : Named m)

include hm in
theorem inb_1 (i : grid0.Coords) (a : Fin 3) :
    (cc0_transform_1 k0_off1_inb numel1_S1 inb_S1_S1_0 (pf m) i a + 1) * S1x4096x512.size a ≤ S8x4096x4096.size a := by
  have h1 := hm 0 (i 0)
  have h2 := col_lt i (argN m 0 (ix1 0))
  rw [transform_1_eq]
  match a with
  | ⟨0, _⟩ => show ((argE m 0 (ix1 (i 0 : Fin 72))).toNat + 1) * 1 ≤ 8; omega
  | ⟨1, _⟩ => show (0 + 1) * 4096 ≤ 4096; omega
  | ⟨2, _⟩ => show (col i (argN m 0 (ix1 0)) + 1) * 512 ≤ 4096; omega

include hm in
theorem inb_2 (i : grid0.Coords) (a : Fin 3) :
    (cc0_transform_2 k0_off1_inb numel1_S1 inb_S1_S1_0 (pf m) i a + 1) * S1x4096x512.size a ≤ S8x4096x4096.size a := by
  rw [transform_2_eq, ← transform_1_eq]
  exact inb_1 m hm i a

include hm in
theorem ok : ok0 (pf m) :=
  ⟨fun i => ⟨inb_1 m hm i, .inr (Affine.block_words_dvd (of_decide_eq_true rfl) (by decide))⟩,
   fun i => ⟨inb_2 m hm i, .inr (Affine.block_words_dvd (of_decide_eq_true rfl) (by decide))⟩⟩

/-- The tables with their side condition. -/
def adm : (pcfg0 (F := F)).Adm := ⟨pf m, ok m hm⟩

abbrev cfgA : Cfg sig Λ₀ := cfg0 (adm m hm)

/-- The blocks the body finds at point `t`. -/
def xAt (c : Dev nD) (t : Fin (cfgA m hm).N) : S512x4096.Idx → Elt F .bf16 := (((cfgA m hm).win 0).blk t).view.read (Elt F) (V m c main_arg0)
def wAt (c : Dev nD) (t : Fin (cfgA m hm).N) : S1x4096x512.Idx → Elt F .bf16 := (((cfgA m hm).win 1).blk t).view.read (Elt F) (V m c main_v0)
def uAt (c : Dev nD) (t : Fin (cfgA m hm).N) : S1x4096x512.Idx → Elt F .bf16 := (((cfgA m hm).win 2).blk t).view.read (Elt F) (V m c main_v1)
/-- The block it leaves. -/
def outAt (c : Dev nD) (t : Fin (cfgA m hm).N) : S512x512.Idx → Elt F .bf16 := left (grid0.coords t) (argN m c (ix1 0)) (xAt m hm c t) (wAt m hm c t) (uAt m hm c t)

/-- What holds between points. -/
def inv (c : Dev nD) : sProp 𝕄 := iprop(ΦA spec0 c ∗ ΦT pre0 (adm m hm).1 c)

/-- The proof data of the one pipeline. -/
def dats (_ : Fin 1) (c : Dev nD) : Dat τ (Elt F) Unit ℕ (UR sig nD τ) ℕ (cfgA m hm) c where
  A w := V m c (arrRef spec0 w)
  after w t := match w with
    | ⟨0, _⟩ => xAt m hm c t
    | ⟨1, _⟩ => wAt m hm c t
    | ⟨2, _⟩ => uAt m hm c t
    | ⟨3, _⟩ => outAt m hm c t
  Φ _ := inv m hm c
  q _ := fullShare
  owed _ := 0

theorem A_eq (c : Dev nD) (w : Fin (cfgA m hm).W) : (dats m hm 0 c).A w = V m c (arrRef spec0 w) := by dsimp only [dats]
theorem after_0 (c : Dev nD) (t : Fin (cfgA m hm).N) : (dats m hm 0 c).after 0 t = xAt m hm c t := by dsimp only [dats]; rfl
theorem after_1 (c : Dev nD) (t : Fin (cfgA m hm).N) : (dats m hm 0 c).after 1 t = wAt m hm c t := by dsimp only [dats]; rfl
theorem after_2 (c : Dev nD) (t : Fin (cfgA m hm).N) : (dats m hm 0 c).after 2 t = uAt m hm c t := by dsimp only [dats]; rfl
theorem after_3 (c : Dev nD) (t : Fin (cfgA m hm).N) : (dats m hm 0 c).after 3 t = outAt m hm c t := by dsimp only [dats]; rfl
theorem Phi_eq (c : Dev nD) (t : Fin ((cfgA m hm).N + 1)) : (dats m hm 0 c).Φ t = inv m hm c := by dsimp only [dats]

theorem before_0 (c : Dev nD) (t : Fin (cfgA m hm).N) (d) : (dats m hm 0 c).before 0 t d = xAt m hm c t :=
  ((dats m hm 0 c).before_in_eq_fetched 0 rfl (fun _ => rfl) (fun _ _ _ => rfl)
    (fun t => by rw [after_0]; unfold Dat.blockOf; rw [A_eq]; rfl) t d).trans
    (by unfold Dat.fetched Dat.blockOf; rw [A_eq]; rfl)
theorem before_1 (c : Dev nD) (t : Fin (cfgA m hm).N) (d) : (dats m hm 0 c).before 1 t d = wAt m hm c t :=
  ((dats m hm 0 c).before_in_eq_fetched 1 rfl (fun _ => rfl) (fun _ _ _ => rfl)
    (fun t => by rw [after_1]; unfold Dat.blockOf; rw [A_eq]; rfl) t d).trans
    (by unfold Dat.fetched Dat.blockOf; rw [A_eq]; rfl)
theorem before_2 (c : Dev nD) (t : Fin (cfgA m hm).N) (d) : (dats m hm 0 c).before 2 t d = uAt m hm c t :=
  ((dats m hm 0 c).before_in_eq_fetched 2 rfl (fun _ => rfl) (fun _ _ _ => rfl)
    (fun t => by rw [after_2]; unfold Dat.blockOf; rw [A_eq]; rfl) t d).trans
    (by unfold Dat.fetched Dat.blockOf; rw [A_eq]; rfl)

/-- The staging buffers at point `t`. -/
abbrev ms0 (t : Fin (cfgA m hm).N) : Memref sig .tc .vmem S512x4096 .bf16 := spec0_0.stage ((cfgA m hm).slots t 0)
abbrev ms1 (t : Fin (cfgA m hm).N) : Memref sig .tc .vmem S1x4096x512 .bf16 := spec0_1.stage ((cfgA m hm).slots t 1)
abbrev ms2 (t : Fin (cfgA m hm).N) : Memref sig .tc .vmem S1x4096x512 .bf16 := spec0_2.stage ((cfgA m hm).slots t 2)
abbrev ms3 (t : Fin (cfgA m hm).N) : Memref sig .tc .vmem S512x512 .bf16 := spec0_3.stage ((cfgA m hm).slots t 3)
theorem hs0 (t : Fin (cfgA m hm).N) : (ms0 m hm t).IsWhole := hstage0_0 (((cfgA m hm).slots t 0).cast nbuf0_0)
theorem hs1 (t : Fin (cfgA m hm).N) : (ms1 m hm t).IsWhole := hstage0_1 (((cfgA m hm).slots t 1).cast nbuf0_1)
theorem hs2 (t : Fin (cfgA m hm).N) : (ms2 m hm t).IsWhole := hstage0_2 (((cfgA m hm).slots t 2).cast nbuf0_2)
theorem hs3 (t : Fin (cfgA m hm).N) : (ms3 m hm t).IsWhole := hstage0_3 (((cfgA m hm).slots t 3).cast nbuf0_3)

/-- The invariant, conjunct by conjunct. -/
theorem inv_eq (c : Dev nD) : inv m hm c = iprop((emp ∗ (∃ r, prngReg c r))
    ∗ (tabE.view.loc (c : Thread nD τ) ↦{fullShare.right} argE m c) ∗ (tabN.view.loc (c : Thread nD τ) ↦{fullShare.right} argN m c)) := by
  obtain rfl := Subsingleton.elim c (0 : Dev nD)
  unfold inv ΦA
  rw [scopedRest0_eq]
  unfold ΦT prefHeld
  rw [bigSep_univ_eq_bigSepL [(0 : Fin 2), (1 : Fin 2)] (by decide) (by decide)]
  rfl

def bodyPre (c : Dev nD) (t : Fin (cfgA m hm).N) : sProp 𝕄 :=
  iprop((dats m hm 0 c).Φ t.castSucc ∗ (dats m hm 0 c).owesAt () t.castSucc
    ∗ (∃ d, owns (c : Thread nD τ) (ms0 m hm t) fullShare ((dats m hm 0 c).before 0 t d))
    ∗ (∃ d, owns (c : Thread nD τ) (ms1 m hm t) fullShare ((dats m hm 0 c).before 1 t d))
    ∗ (∃ d, owns (c : Thread nD τ) (ms2 m hm t) fullShare ((dats m hm 0 c).before 2 t d))
    ∗ (∃ d, owns (c : Thread nD τ) (ms3 m hm t) fullShare ((dats m hm 0 c).before 3 t d)))
def bodyPost (c : Dev nD) (t : Fin (cfgA m hm).N) : sProp 𝕄 :=
  iprop((dats m hm 0 c).Φ t.succ ∗ (dats m hm 0 c).owesAt () t.succ
    ∗ owns (c : Thread nD τ) (ms0 m hm t) fullShare ((dats m hm 0 c).after 0 t)
    ∗ owns (c : Thread nD τ) (ms1 m hm t) fullShare ((dats m hm 0 c).after 1 t)
    ∗ owns (c : Thread nD τ) (ms2 m hm t) fullShare ((dats m hm 0 c).after 2 t)
    ∗ owns (c : Thread nD τ) (ms3 m hm t) fullShare ((dats m hm 0 c).after 3 t))

abbrev bodyAt (t : Fin (cfgA m hm).N) : Prog (TpuEff nD τ sig (Elt F) Λ₀ .tc) PUnit :=
  cc0_moe_gate_up (grid0.coords t) tabE (Memref.isWhole_whole _) tabN (Memref.isWhole_whole _) (ms0 m hm t) (hs0 m hm t) (ms1 m hm t) (hs1 m hm t)
    (ms2 m hm t) (hs2 m hm t) (ms3 m hm t) (hs3 m hm t)

/-- One grid point: the body leaves the point's block. -/
theorem sound_body (c : Dev nD) (t : Fin (cfgA m hm).N) :
    bodyPre m hm c t ⊢ wp frame (wpE (defs₀ (F := F)) Variants.none c none) Set.univ (bodyAt m hm t) (fun _ => bodyPost m hm c t) := by
  unfold bodyPre bodyPost bodyAt
  rw [Phi_eq, Phi_eq, inv_eq, after_0, after_1, after_2, after_3]
  simp only [before_0, before_1, before_2]
  unfold Dat.owesAt owesWithin
  rw [show (dats m hm 0 c).owed t.castSucc = 0 from rfl, show (dats m hm 0 c).owed t.succ = 0 from rfl]
  iintro ⟨⟨Hg, HE, HN⟩, HW, ⟨%d0, H0⟩, ⟨%d1, H1⟩, ⟨%d2, H2⟩, ⟨%d3, H3⟩⟩
  unfold owns
  icases H0 with ⟨%f0, %e0, H0⟩
  icases H1 with ⟨%f1, %e1, H1⟩
  icases H2 with ⟨%f2, %e2, H2⟩
  icases H3 with ⟨%f3, -, H3⟩
  obtain rfl := (hs0 m hm t).eq_unread e0
  obtain rfl := (hs1 m hm t).eq_unread e1
  obtain rfl := (hs2 m hm t).eq_unread e2
  iapply (wp_wand_r frame (wpE (defs₀ (F := F)) Variants.none c none) Set.univ)
  isplitl [HN H0 H1 H2 H3]
  · iapply (body_run c (grid0.coords t) (ms0 m hm t) (hs0 m hm t) (ms1 m hm t) (hs1 m hm t) (ms2 m hm t) (hs2 m hm t) (ms3 m hm t) (hs3 m hm t) (argN m c)
      (xAt m hm c t) (wAt m hm c t) (uAt m hm c t) f3)
    isplitl [HN]; · iexact HN
    isplitl [H0]; · iexact H0
    isplitl [H1]; · iexact H1
    isplitl [H2]; · iexact H2
    iexact H3
  iintro %_ ⟨HN, H0, H1, H2, ⟨%f, %ef, H3⟩⟩
  isplitl [Hg HE HN]
  · isplitl [Hg]; · iexact Hg
    isplitl [HE]; · iexact HE
    iexact HN
  isplitl [HW]; · iexact HW
  isplitl [H0]
  · iexists _; isplitr
    swap; · iexact H0
    ipureintro; exact e0
  isplitl [H1]
  · iexists _; isplitr
    swap; · iexact H1
    ipureintro; exact e1
  isplitl [H2]
  · iexists _; isplitr
    swap; · iexact H2
    ipureintro; exact e2
  iexists _; isplitr
  swap; · iexact H3
  ipureintro; exact ef

theorem defs₀_row (t : Fin (cfgA m hm).N) :
    defs₀ (F := F) .tc (cfgA m hm).body ((cfgA m hm).bodyArgs t ((cfgA m hm).slots t)) = bodyAt m hm t := by
  unfold defs₀; rw [Defs.onTc_tc]

/-- No point is idle: one of the two conditions holds. -/
theorem idle_3 (t : Fin (cfgA m hm).N) : (cfgA m hm).idle 3 ((cfgA m hm).grid.coords t) = false := by
  show (!(k0_cond1 (grid0.coords t) _ == 1#1) && !(k0_cond2 (grid0.coords t) _ == 1#1)) = false
  generalize ((adm m hm).1.atD 1 ![0] : BitVec 32) = n
  by_cases h : k0_cond1 (grid0.coords t) n = 1#1
  · rw [h]; rfl
  · rw [(cond2_iff _ n).2 h]; simp

theorem body_obligation (c : Dev nD) : BodyObligation (dats m hm 0 c) (defs₀ (F := F)) Variants.none () Set.univ := fun t => by
  rw [bigSep_W0, bigSep_W0, defs₀_row]
  refine triple_restated (sound_body m hm c t) rfl .rfl fun _ => ?_
  unfold bodyPost
  rw [idle_3]

theorem pf_eq (c : Dev nD) (k : Fin pre0.K) : V m c (pre0.ref k) = (adm m hm).1 k := by
  obtain rfl := Subsingleton.elim c (0 : Dev nD)
  match k with
  | ⟨0, _⟩ => exact V_arg1 m 0
  | ⟨1, _⟩ => exact V_arg2 m 0

set_option backward.isDefEq.respectTransparency.types false in
theorem run_main : θ_run defs (onTc (τ := τ) (main (F := F))) (s₀ m ρ)
    (fun r => Pipeline.FramePost (pin pcfgs (fun _ => adm m hm)) (dats m hm) 0 (V m) r ∧ r.2.sem = fun _ => 0) :=
  Pipeline.θ_run_frameP (Q' := _) pcfgs (fun _ => adm m hm) (dats m hm) (0 : Fin 1) launch0 defs₀ Variants.none m ρ main
    (hbody := fun c => (body_obligation m hm c).loose) (hshare := fun c => (dats m hm 0 c).share_full fun _ => rfl)
    (howed := fun _ _ => rfl) (V := V m)
    (hmain := hmainP_prefix pcfgs 0 defs₀ Variants.none m main hostOps0 hostOps0_sub (show _ from ⟨rfl, rfl⟩) main_chain)
    (hA := A_eq m hm) (hpf := pf_eq m hm) (hΦ := fun _ _ => rfl)

end Cert.Kernel2Ideal.GateUp

end
-- ==== Proof.Stacks.lean ====
module

public import Idealize.ShloMosaic.Lib.ValueIdx
public import Idealize.ShloMosaic.Lib.ValueIdxCore
public import Idealize.ShloMosaic.Lib.ValueLayout
public import Idealize.ShloMosaic.Lib.StackMember
public import Idealize.ShloMosaic.Lib.MatmulPlain
public import Idealize.ShloMosaic.Lib.ReduceAll
public import Idealize.ShloMosaic.Lib.WordArith

@[expose] public section

set_option maxRecDepth 16384

noncomputable section

/-! # The experts' references, operation by operation

What the two references of the experts' products share: picking each tile's expert out of the stack of weights, cutting
the rows into tiles, and deciding which tiles are active. -/

namespace Cert.Stacks

open Idealize.ShloMosaic Idealize.ShloMosaic.ValueIdx

/-- Rows by columns; a stack of one such per tile; the experts' weights; one matrix of weights per tile. -/
abbrev Flat : Shape := ⟨2, ![36864, 4096]⟩
abbrev Tiled : Shape := ⟨3, ![72, 512, 4096]⟩
abbrev Weights : Shape := ⟨3, ![8, 4096, 4096]⟩
abbrev Picked : Shape := ⟨3, ![72, 4096, 4096]⟩
abbrev Tiles : Shape := ⟨1, ![72]⟩
abbrev Column : Shape := ⟨2, ![72, 1]⟩
abbrev One : Shape := ⟨1, ![1]⟩
abbrev Point : Shape := ⟨0, ![]⟩

/-- The gather that picks one expert per tile. -/
abbrev pickDims (wf : GatherDims.WF Weights Column Picked [1, 2] [0] [] [0] [] 1 ![1, 4096, 4096]) : GatherDims Weights Column Picked where
  offsetDims := [1, 2]
  collapsedSliceDims := [0]
  operandBatchingDims := []
  startIndicesBatchingDims := []
  startIndexMap := [0]
  indexVectorDim := 1
  sliceSizes := ![1, 4096, 4096]
  wf := wf

/-- A word as an expert. -/
def expert (e : BitVec 32) : Fin 8 := ⟨e.toNat % 8, Nat.mod_lt _ (by decide)⟩

/-- Whether tile `t` is among the first `n`. -/
def active (t : Fin 72) (n : BitVec 32) : Bool := (BitVec.ofNat 32 t.val).slt n

theorem slt_iff (t : Fin 72) (n : BitVec 32) : IntOp.cmpi .slt (BitVec.ofNat 32 t.val) n = 1#1 ↔ active t n = true := by
  unfold active IntOp.cmpi
  dsimp only
  generalize (BitVec.ofNat 32 t.val).slt n = b
  revert b; decide

/-- The index at which the gather picks: the table's word, or eight more if it is negative. -/
def wrapped (b0 : Point.BroadcastsInDim Tiles (![] : Fin 0 → Fin Tiles.rank)) (E : Tiles.Idx → BitVec 32) : Tiles.Idx → BitVec 32 :=
  select (cmpi .slt E (broadcastInDim Tiles ![] b0 (constantI Point 32 0#32))) (addi E (broadcastInDim Tiles ![] b0 (constantI Point 32 8#32))) E

theorem wrapped_apply (b0 : Point.BroadcastsInDim Tiles (![] : Fin 0 → Fin Tiles.rank)) (E : Tiles.Idx → BitVec 32) (t : Tiles.Idx)
    (h : (E t).toNat < 8) : wrapped b0 E t = E t := by
  show (if IntOp.cmpi .slt (E t) 0#32 = 1#1 then _ else E t) = E t
  have e : IntOp.cmpi .slt (E t) 0#32 = 0#1 := by
    simp only [IntOp.cmpi, BitVec.slt]
    rw [decide_eq_false]; · rfl
    rw [BitVec.toInt_eq_toNat_cond, if_pos (by omega)]
    simp
  rw [e, if_neg (by decide)]

/-- Each tile is given its own expert's weights. -/
theorem picked_apply {α : Type} (wf : GatherDims.WF Weights Column Picked [1, 2] [0] [] [0] [] 1 ![1, 4096, 4096])
    (b0 : Point.BroadcastsInDim Tiles (![] : Fin 0 → Fin Tiles.rank)) (b1 : Tiles.BroadcastsInDim Column (![0] : Fin 1 → Fin Column.rank))
    (w : Weights.Idx → α) (E : Tiles.Idx → BitVec 32) (t : Fin 72) (a b : Fin 4096) (h : (E (ix1 t)).toNat < 8) :
    Host.gather (pickDims wf) w (broadcastInDim Column ![0] b1 (wrapped b0 E)) (ix3 t a b) = w (ix3 (expert (E (ix1 t))) a b) := by
  have e : ∀ i : Column.Idx, (i 0).val = t.val → broadcastInDim Column ![0] b1 (wrapped b0 E) i = E (ix1 t) := by
    intro i e0
    refine Eq.trans (congrArg (wrapped b0 E) (funext fun b => Fin.ext ?_)) (wrapped_apply b0 E (ix1 t) h)
    match b with
    | ⟨0, _⟩ => exact e0
  unfold Host.gather
  refine congrArg w (funext fun k => Fin.ext ?_)
  match k with
  | ⟨0, _⟩ =>
    show min (broadcastInDim Column ![0] b1 (wrapped b0 E) _).toInt.toNat 7 + 0 + 0 = (E (ix1 t)).toNat % 8
    rw [e _ rfl, BitVec.toInt_eq_toNat_cond, if_pos (by omega)]
    simp only [Int.toNat_natCast]
    omega
  | ⟨1, _⟩ => show 0 + 0 + a.val = a.val; omega
  | ⟨2, _⟩ => show 0 + 0 + b.val = b.val; omega

/-- Row `r` of tile `t` is row `512 t + r`. -/
theorem tiled_apply {α : Type} (x : Flat.Idx → α) (h : Flat.ShapeCasts Tiled) (t : Fin 72) (r : Fin 512) (k : Fin 4096) :
    shapeCast Tiled x h (ix3 t r k) = x (ix2 (⟨t.val * 512 + r.val, by omega⟩ : Fin 36864) k) :=
  shapeCast_apply x h _ _ (by
    rw [Shape.rowMajor_val_three, Shape.rowMajor_val_two]
    rfl)

/-- Row `q` lies in tile `q / 512` at place `q % 512`. -/
theorem flat_apply {α : Type} (x : Tiled.Idx → α) (h : Tiled.ShapeCasts Flat) (q : Fin 36864) (k : Fin 4096) :
    shapeCast Flat x h (ix2 q k) = x (ix3 (⟨q.val / 512, by omega⟩ : Fin 72) (⟨q.val % 512, Nat.mod_lt _ (by decide)⟩ : Fin 512) k) :=
  shapeCast_apply x h _ _ (by
    rw [Shape.rowMajor_val_three, Shape.rowMajor_val_two]
    show (q.val / 512 * 512 + q.val % 512) * 4096 + k.val = q.val * 4096 + k.val
    omega)

/-- The one word of a one-word table. -/
theorem point_apply {α : Type} (N : One.Idx → α) (h : One.ShapeCasts Point) (i : Point.Idx) : shapeCast Point N h i = N (ix1 0) :=
  shapeCast_apply N h _ _ (by rw [Shape.rowMajor_val_one]; have := (Point.rowMajor i).isLt; have e : Point.numel = 1 := rfl; show 0 = _; omega)

/-- A word at least 0 and below 8, read signed, is below 8 read unsigned. -/
theorem below (x : BitVec 32) (h : IntOp.andi (IntOp.cmpi .sge x 0#32) (IntOp.cmpi .slt x 8#32) = 1#1) : x.toNat < 8 := by
  have h' := IntOp.andi_eq_one.1 h
  have h0 : x.toInt ≥ 0 := by
    have := h'.1
    simp only [IntOp.cmpi, BitVec.sle] at this
    by_contra hc
    rw [show decide ((0#32 : BitVec 32).toInt ≤ x.toInt) = false from decide_eq_false (by simpa using hc)] at this
    exact absurd this (by decide)
  have h1 : x.toInt < 8 := by
    have := h'.2
    simp only [IntOp.cmpi, BitVec.slt] at this
    by_contra hc
    rw [show (8#32 : BitVec 32).toInt = 8 from rfl, show decide (x.toInt < (8 : ℤ)) = false from decide_eq_false hc] at this
    exact absurd this (by decide)
  rw [BitVec.toInt_eq_toNat_cond] at h0 h1
  split at h0 <;> rename_i hx
  · rw [if_pos hx] at h1; omega
  · omega

end Cert.Stacks

end
-- ==== Proof.GateUpTiles.lean ====
module

public import proofs.«01_k».proof.Proof.GateUpRun
public import proofs.«01_k».proof.Proof.Stacks

@[expose] public section

set_option maxRecDepth 16384

noncomputable section

/-! # What the experts' gated product leaves

The blocks tile the result: block `(t, j)` is the gated product of tile `t`'s rows with the column block `j` of each of
its expert's two weights, or zeros if the tile is not active. -/

namespace Cert.Kernel2Ideal.GateUp

open Cert.Kernel2Ideal Cert.Kernel2Ideal.Gen
open Idealize.ShloMosaic Idealize.ShloMosaic.TcCoe Idealize.ShloMosaic.Tactic
open Idealize.ShloMosaic.Pipeline
open Idealize.SL Idealize.SL.Sem
open Idealize.ShloMosaic.ValueIdx
open Cert.Stacks (expert active slt_iff)

variable {F : FTy → Type} [FloatOps F]

/-- Tile `t`'s rows. -/
def rows (x : S36864x4096.Idx → Elt F .bf16) (t : Fin 72) : S512x4096.Idx → Elt F .bf16 := fun k =>
  x (ix2 (⟨t.val * 512 + (k 0).val, by have h : (k 0).val < 512 := (k 0).isLt; omega⟩ : Fin 36864) (k 1 : Fin 4096))

/-- Column block `j` of expert `e`'s weights. -/
def block (w : S8x4096x4096.Idx → Elt F .bf16) (e : Fin 8) (j : Fin 8) : S1x4096x512.Idx → Elt F .bf16 := fun k =>
  w (ix3 e (k 1 : Fin 4096) (⟨j.val * 512 + (k 2).val, by have h : (k 2).val < 512 := (k 2).isLt; omega⟩ : Fin 4096))

theorem cond1_iff (i : grid0.Coords) (n : BitVec 32) : k0_cond1 i n = 1#1 ↔ active (i 0 : Fin 72) n = true := by
  refine Iff.trans ?_ (slt_iff (i 0 : Fin 72) n)
  unfold k0_cond1 Scalar.cmpi
  dsimp only
  generalize IntOp.cmpi .slt (BitVec.ofNat 32 (i 0).val) n = b
  revert b; decide

/-- Block `(t, j)` of the result. -/
def resBlock (x : S36864x4096.Idx → Elt F .bf16) (e n : BitVec 32) (w v : S8x4096x4096.Idx → Elt F .bf16) (t : Fin 72) (j : Fin 8) :
    S512x512.Idx → Elt F .bf16 :=
  if active t n = true then prod (rows x t) (block w (expert e) j) (block v (expert e) j) else zeros

/-- The result. -/
def G (x : S36864x4096.Idx → Elt F .bf16) (E : S72.Idx → BitVec 32) (N : S1.Idx → BitVec 32) (w v : S8x4096x4096.Idx → Elt F .bf16) :
    S36864x4096.Idx → Elt F .bf16 := fun k =>
  have h0 : (k 0).val < 36864 := (k 0).isLt
  have h1 : (k 1).val < 4096 := (k 1).isLt
  resBlock x (E (ix1 (⟨(k 0).val / 512, by omega⟩ : Fin 72))) (N (ix1 0)) w v ⟨(k 0).val / 512, by omega⟩ ⟨(k 1).val / 512, by omega⟩
    (ix2 (⟨(k 0).val % 512, Nat.mod_lt _ (by decide)⟩ : Fin 512) (⟨(k 1).val % 512, Nat.mod_lt _ (by decide)⟩ : Fin 512))

variable (m : (ℓ : Loc nD τ sig) → Buf (Elt F) ℓ) (ρ : Dev nD → PrngReg) (hm : Named m)

/-- The rows the body finds are the tile's. -/
theorem xAt_eq (c : Dev nD) (t : Fin (cfgA m hm).N) : xAt m hm c t = rows (argX m c) (grid0.coords t 0) := by
  refine funext fun (y : S512x4096.Idx) => ?_
  have hi : (grid0.coords t 0).val < 72 := (grid0.coords t 0).isLt
  unfold xAt
  rw [V_arg0]
  show argX m c ((((cfgA m hm).win 0).blk t).view.emb y) = _
  refine congrArg (argX m c) (funext fun a => Fin.ext ?_)
  match a with
  | ⟨0, _⟩ =>
    show (BitVec.ofNat 32 (grid0.coords t 0).val).toNat * 512 + 1 * (y 0).val = (grid0.coords t 0).val * 512 + (y 0).val
    rw [BitVec.toNat_ofNat, Nat.mod_eq_of_lt (by omega), Nat.one_mul]
  | ⟨1, _⟩ => show 0 * 4096 + 1 * (y 1).val = (y 1).val; omega

/-- On an active tile the weights it finds are the point's column block of the tile's expert. -/
theorem wAt_eq (c : Dev nD) (t : Fin (cfgA m hm).N) (h : k0_cond1 (grid0.coords t) (argN m c (ix1 0)) = 1#1) :
    wAt m hm c t = block (rounded (argW m c)) (expert (argE m c (ix1 (grid0.coords t 0 : Fin 72)))) (grid0.coords t 1) := by
  obtain rfl := Subsingleton.elim c (0 : Dev nD)
  refine funext fun (y : S1x4096x512.Idx) => ?_
  have hy : (y 0).val < 1 := (y 0).isLt
  have he := hm 0 (grid0.coords t 0)
  have hc := col_active _ _ h
  have ht := transform_1_eq m (grid0.coords t)
  unfold wAt
  rw [V_v0]
  show rounded (argW m 0) ((((cfgA m hm).win 1).blk t).view.emb y) = _
  refine congrArg (rounded (argW m 0)) (funext fun a => Fin.ext ?_)
  match a with
  | ⟨0, _⟩ =>
    show cc0_transform_1 k0_off1_inb numel1_S1 inb_S1_S1_0 (pf m) (grid0.coords t) 0 * 1 + 1 * (y 0).val = (argE m 0 (ix1 (grid0.coords t 0 : Fin 72))).toNat % 8
    rw [ht]
    show (argE m 0 (ix1 (grid0.coords t 0 : Fin 72))).toNat * 1 + 1 * (y 0).val = _
    omega
  | ⟨1, _⟩ => show 0 * 4096 + 1 * (y 1).val = (y 1).val; omega
  | ⟨2, _⟩ =>
    show cc0_transform_1 k0_off1_inb numel1_S1 inb_S1_S1_0 (pf m) (grid0.coords t) 2 * 512 + 1 * (y 2).val = (grid0.coords t 1).val * 512 + (y 2).val
    rw [ht]
    show col (grid0.coords t) (argN m 0 (ix1 0)) * 512 + 1 * (y 2).val = _
    rw [hc, Nat.one_mul]

/-- On an active tile the second weights it finds are the point's column block of the tile's expert. -/
theorem uAt_eq (c : Dev nD) (t : Fin (cfgA m hm).N) (h : k0_cond1 (grid0.coords t) (argN m c (ix1 0)) = 1#1) :
    uAt m hm c t = block (rounded (argU m c)) (expert (argE m c (ix1 (grid0.coords t 0 : Fin 72)))) (grid0.coords t 1) := by
  obtain rfl := Subsingleton.elim c (0 : Dev nD)
  refine funext fun (y : S1x4096x512.Idx) => ?_
  have hy : (y 0).val < 1 := (y 0).isLt
  have he := hm 0 (grid0.coords t 0)
  have hc := col_active _ _ h
  have ht := transform_2_eq m (grid0.coords t)
  unfold uAt
  rw [V_v1]
  show rounded (argU m 0) ((((cfgA m hm).win 2).blk t).view.emb y) = _
  refine congrArg (rounded (argU m 0)) (funext fun a => Fin.ext ?_)
  match a with
  | ⟨0, _⟩ =>
    show cc0_transform_2 k0_off1_inb numel1_S1 inb_S1_S1_0 (pf m) (grid0.coords t) 0 * 1 + 1 * (y 0).val = (argE m 0 (ix1 (grid0.coords t 0 : Fin 72))).toNat % 8
    rw [ht]
    show (argE m 0 (ix1 (grid0.coords t 0 : Fin 72))).toNat * 1 + 1 * (y 0).val = _
    omega
  | ⟨1, _⟩ => show 0 * 4096 + 1 * (y 1).val = (y 1).val; omega
  | ⟨2, _⟩ =>
    show cc0_transform_2 k0_off1_inb numel1_S1 inb_S1_S1_0 (pf m) (grid0.coords t) 2 * 512 + 1 * (y 2).val = (grid0.coords t 1).val * 512 + (y 2).val
    rw [ht]
    show col (grid0.coords t) (argN m 0 (ix1 0)) * 512 + 1 * (y 2).val = _
    rw [hc, Nat.one_mul]

/-- So the block it leaves is the result's. -/
theorem outAt_eq (c : Dev nD) (t : Fin (cfgA m hm).N) : outAt m hm c t
    = resBlock (argX m c) (argE m c (ix1 (grid0.coords t 0 : Fin 72))) (argN m c (ix1 0)) (rounded (argW m c)) (rounded (argU m c)) (grid0.coords t 0) (grid0.coords t 1) := by
  unfold outAt left resBlock
  by_cases h : k0_cond1 (grid0.coords t) (argN m c (ix1 0)) = 1#1
  · rw [if_pos h, if_pos ((cond1_iff _ _).1 h), xAt_eq, wAt_eq m hm c t h, uAt_eq m hm c t h]
  · rw [if_neg h, if_neg (fun h' => h ((cond1_iff _ _).2 h'))]

theorem nblk_0 : ((cfgA m hm).win 3).nblk (0 : Fin 2) = 72 :=
  show (S36864x4096.size 0 + S512x512.size 0 - 1) / S512x512.size 0 = 72 by decide
theorem nblk_1 : ((cfgA m hm).win 3).nblk (1 : Fin 2) = 8 :=
  show (S36864x4096.size 1 + S512x512.size 1 - 1) / S512x512.size 1 = 8 by decide

/-- The result window's blocks tile the result. -/
theorem covers_3 : ((cfgA m hm).win 3).Covers :=
  ((cfgA m hm).win 3).covers_of_indexMap_surj rfl (show ∀ a : Fin 2, 0 < S512x512.size a by decide)
    fun (β : (a : Fin 2) → Fin (((cfgA m hm).win 3).nblk a)) =>
    have h0 : (β 0).val < 72 := lt_of_lt_of_eq (β 0).isLt (nblk_0 m hm)
    have h1 : (β 1).val < 8 := lt_of_lt_of_eq (β 1).isLt (nblk_1 m hm)
    ⟨(fun | ⟨0, _⟩ => ⟨(β 0).val, h0⟩ | ⟨1, _⟩ => ⟨(β 1).val, h1⟩ : grid0.Coords), fun (a : Fin 2) => by
      match a with
      | ⟨0, _⟩ => show (BitVec.ofNat 32 (β 0).val).toNat = (β 0).val; rw [BitVec.toNat_ofNat, Nat.mod_eq_of_lt (by omega)]
      | ⟨1, _⟩ => show (BitVec.ofNat 32 (β 1).val).toNat = (β 1).val; rw [BitVec.toNat_ofNat, Nat.mod_eq_of_lt (by omega)]⟩

/-- Where the point's block of the result lies. -/
theorem emb_3_0 (t : Fin (cfgA m hm).N) (y : S512x512.Idx) :
    ((((cfgA m hm).win 3).blk t).view.emb y (0 : Fin 2)).val = (grid0.coords t 0).val * 512 + (y 0).val := by
  have h0 : (grid0.coords t 0).val < 72 := (grid0.coords t 0).isLt
  show (BitVec.ofNat 32 (grid0.coords t 0).val).toNat * 512 + 1 * (y 0).val = _
  rw [BitVec.toNat_ofNat, Nat.mod_eq_of_lt (by omega), Nat.one_mul]
theorem emb_3_1 (t : Fin (cfgA m hm).N) (y : S512x512.Idx) :
    ((((cfgA m hm).win 3).blk t).view.emb y (1 : Fin 2)).val = (grid0.coords t 1).val * 512 + (y 1).val := by
  have h1 : (grid0.coords t 1).val < 8 := (grid0.coords t 1).isLt
  show (BitVec.ofNat 32 (grid0.coords t 1).val).toNat * 512 + 1 * (y 1).val = _
  rw [BitVec.toNat_ofNat, Nat.mod_eq_of_lt (by omega), Nat.one_mul]

/-- Block `(t, j)` of `G` is `resBlock`. -/
theorem G_block (x : S36864x4096.Idx → Elt F .bf16) (E : S72.Idx → BitVec 32) (N : S1.Idx → BitVec 32) (w v : S8x4096x4096.Idx → Elt F .bf16)
    (t : Fin 72) (j : Fin 8) (y : S512x512.Idx) (k : S36864x4096.Idx) (h0 : (k 0).val = t.val * 512 + (y 0).val) (h1 : (k 1).val = j.val * 512 + (y 1).val) :
    resBlock x (E (ix1 t)) (N (ix1 0)) w v t j y = G x E N w v k := by
  have hy0 : (y 0).val < 512 := (y 0).isLt
  have hy1 : (y 1).val < 512 := (y 1).isLt
  have e0 : ∀ h, (⟨(k 0).val / 512, h⟩ : Fin 72) = t := fun _ => Fin.ext (by show (k 0).val / 512 = _; omega)
  have e1 : ∀ h, (⟨(k 1).val / 512, h⟩ : Fin 8) = j := fun _ => Fin.ext (by show (k 1).val / 512 = _; omega)
  have e2 : (ix2 (⟨(k 0).val % 512, Nat.mod_lt _ (by decide)⟩ : Fin 512) (⟨(k 1).val % 512, Nat.mod_lt _ (by decide)⟩ : Fin 512) : S512x512.Idx) = y := by
    funext a
    match a with
    | ⟨0, _⟩ => exact Fin.ext (by show (k 0).val % 512 = (y 0).val; omega)
    | ⟨1, _⟩ => exact Fin.ext (by show (k 1).val % 512 = (y 1).val; omega)
  unfold G
  dsimp only
  rw [e0, e1, e2]

theorem arrAt_3 (c : Dev nD) : (dats m hm 0 c).arrAt 3 (cfgA m hm).N = G (argX m c) (argE m c) (argN m c) (rounded (argW m c)) (rounded (argU m c)) :=
  (dats m hm 0 c).arrAt_eq_of_covers 3 _ (covers_3 m hm) fun t _ (y : S512x512.Idx) => by
    rw [after_3, outAt_eq]
    exact G_block _ _ _ _ _ _ _ _ _ (emb_3_0 m hm t y) (emb_3_1 m hm t y)

include hm in
/-- THE RUN: the result is `G` of the arguments, the arguments are as they were, every semaphore is at zero. -/
theorem run : θ_run defs (onTc (τ := τ) (main (F := F))) ⟨m, fun _ => 0, ρ⟩ (fun r => (∀ c : Dev nD,
      r.2.mem ((c.tc : Thread nD τ).loc main_v2) = G (argX m c) (argE m c) (argN m c) (rounded (argW m c)) (rounded (argU m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).1 3).trans (arrAt_3 m hm c),
     (((h.1 c).1 0).trans (((dats m hm 0 c).arrAt_in 0 rfl _).trans (A_eq m hm c 0))).trans (V_arg0 m c),
     ((h.1 c).2 main_arg1 (show main_arg1 ∈ restRefs sig spec0 by decide)).trans (V_arg1 m c),
     ((h.1 c).2 main_arg2 (show main_arg2 ∈ restRefs sig spec0 by decide)).trans (V_arg2 m c),
     ((h.1 c).2 main_arg3 (show main_arg3 ∈ restRefs sig spec0 by decide)).trans (V_arg3 m c),
     ((h.1 c).2 main_arg4 (show main_arg4 ∈ restRefs sig spec0 by decide)).trans (V_arg4 m c)⟩, h.2⟩) (run_main m ρ hm)

end Cert.Kernel2Ideal.GateUp

end
-- ==== Proof.GateUpValue.lean ====
module

public import proofs.«01_k».proof.Proof.GateUpTiles
public import proofs.«01_k».proof.Proof.Gen.Reference2Ideal.Run
public import proofs.«01_k».proof.Proof.Gen.Pre_experts_in_range2

@[expose] public section

set_option maxRecDepth 16384

noncomputable section

/-! # The experts' gated product: the reference's value

At the ideal values the reference's two batched products, gated and masked to the active tiles, are what the kernel
leaves: element `(q, k)` is `a / (1 + e⁻ᵃ) · b` where `a = ∑ c, x[q, c] · w[e, c, k]` and `b = ∑ c, x[q, c] · v[e, c, k]`
for the expert `e` of the tile of row `q`. -/

namespace Cert.Kernel2Ideal.GateUp

open Cert.Reference2Ideal Cert.Reference2Ideal.Gen
open Idealize.ShloMosaic Idealize.ShloMosaic.TcCoe Idealize.ShloMosaic.ValueIdx
open Cert.Stacks

/-- Every tile's product with its expert's weights. -/
def stack (x : FVec Ideal S36864x4096 .bf16) (E : S72.Idx → BitVec 32) (w : FVec Ideal S8x4096x4096 .f32) : FVec Ideal S72x512x4096 .f32 :=
  Host.dotGeneral (F := Ideal) (φ₁ := .f32) (φ₂ := .f32) dot_S72x512x4096_S72x4096x4096_S72x512x4096_2_1_1_2_0_0 none
    (shapeCast S72x512x4096 (extf (F := Ideal) (φ := .bf16) .f32 x Facts₀.bitsLt_bf16_f32) Facts₀.shapeCasts_S36864x4096_S72x512x4096)
    (Host.gather gather_S8x4096x4096_S72x1_S72x4096x4096_12_0_n_n_0_1_140964096 w
      (broadcastInDim S72x1 ![0] Facts₀.bcast_S72_S72x1_0 (select (cmpi .slt E (broadcastInDim S72 ![] Facts₀.bcast_S_S72 (constantI S_ 32 0#32)))
        (addi E (broadcastInDim S72 ![] Facts₀.bcast_S_S72 (constantI S_ 32 8#32))) E)))

/-- The gated products, zero on the inactive tiles. -/
def masked (x : FVec Ideal S36864x4096 .bf16) (E : S72.Idx → BitVec 32) (N : S1.Idx → BitVec 32) (w v : FVec Ideal S8x4096x4096 .f32) :
    FVec Ideal S72x512x4096 .f32 :=
  select (broadcastInDim S72x512x4096 ![0, 1, 2] Facts₀.bcast_S72x1x1_S72x512x4096_0_1_2
      (broadcastInDim S72x1x1 ![0] Facts₀.bcast_S72_S72x1x1_0 (cmpi .slt (iotaInDim S72 32 0) (broadcastInDim S72 ![] Facts₀.bcast_S_S72 (shapeCast S_ N Facts₀.shapeCasts_S1_S_)))))
    (mulf (mulf (stack x E w) (Host.divf (broadcastInDim S72x512x4096 ![] Facts₀.bcast_S_S72x512x4096 (constant (F := Ideal) S_ .f32 0x3F800000#32))
      (addf (broadcastInDim S72x512x4096 ![] Facts₀.bcast_S_S72x512x4096 (constant (F := Ideal) S_ .f32 0x3F800000#32)) (Host.exp (Host.negf (stack x E w)))))) (stack x E v))
    (broadcastInDim S72x512x4096 ![] Facts₀.bcast_S_S72x512x4096 (id (constant (F := Ideal) S_ .f32 0x00000000#32)))

/-- The reference's result. -/
def product (x : FVec Ideal S36864x4096 .bf16) (E : S72.Idx → BitVec 32) (N : S1.Idx → BitVec 32) (w v : FVec Ideal S8x4096x4096 .f32) :
    FVec Ideal S36864x4096 .bf16 :=
  truncf .bf16 (shapeCast S36864x4096 (masked x E N w v) Facts₀.shapeCasts_S72x512x4096_S36864x4096) Facts₀.bitsLt_bf16_f32

/-- The sum an element of a product is. -/
def entry (x : S36864x4096.Idx → EReal) (w : S8x4096x4096.Idx → EReal) (e : Fin 8) (q : Fin 36864) (k : Fin 4096) : EReal :=
  ∑ c : Fin 4096, x (ix2 q c) * w (ix3 e c k)

/-- `a / (1 + e⁻ᵃ)` times `b`, on numbers. -/
def gate (a b : EReal) : EReal :=
  a * Ideal.div (Ideal.ofBits .f32 0x3F800000#32) (Ideal.ofBits .f32 0x3F800000#32 + Ideal.exp (-a)) * b

theorem stack_apply (x : FVec Ideal S36864x4096 .bf16) (E : S72.Idx → BitVec 32) (w : FVec Ideal S8x4096x4096 .f32)
    (h : ∀ t : Fin 72, (E (ix1 t)).toNat < 8) (q : Fin 36864) (k : Fin 4096) :
    stack x E w (ix3 (⟨q.val / 512, by omega⟩ : Fin 72) (⟨q.val % 512, Nat.mod_lt _ (by decide)⟩ : Fin 512) k)
      = entry x w (expert (E (ix1 (⟨q.val / 512, by omega⟩ : Fin 72)))) q k := by
  refine (StackMember.dotGeneral_stack_apply Facts₀.dot_S72x512x4096_S72x4096x4096_S72x512x4096_2_1_1_2_0_0_wf none _ _ _ _ _).trans ?_
  refine Finset.sum_congr rfl fun c _ => ?_
  refine congrArg₂ (· * ·) ((tiled_apply _ _ _ _ _).trans ?_) (picked_apply _ _ _ w E _ c k (h _))
  refine congrArg x (congrArg (fun r : Fin 36864 => ix2 r c) (Fin.ext ?_))
  show q.val / 512 * 512 + q.val % 512 = q.val
  omega

theorem product_apply (x : FVec Ideal S36864x4096 .bf16) (E : S72.Idx → BitVec 32) (N : S1.Idx → BitVec 32) (w v : FVec Ideal S8x4096x4096 .f32)
    (h : ∀ t : Fin 72, (E (ix1 t)).toNat < 8) (q : Fin 36864) (k : Fin 4096) :
    product x E N w v (ix2 q k) = if active (⟨q.val / 512, by omega⟩ : Fin 72) (N (ix1 0)) = true
      then gate (entry x w (expert (E (ix1 (⟨q.val / 512, by omega⟩ : Fin 72)))) q k) (entry x v (expert (E (ix1 (⟨q.val / 512, by omega⟩ : Fin 72)))) q k) else 0 := by
  show shapeCast S36864x4096 (masked x E N w v) Facts₀.shapeCasts_S72x512x4096_S36864x4096 (ix2 q k) = _
  refine (flat_apply (masked x E N w v) Facts₀.shapeCasts_S72x512x4096_S36864x4096 q k).trans ?_
  have hc : ∀ i : S_.Idx, shapeCast S_ N Facts₀.shapeCasts_S1_S_ i = N (ix1 0) := point_apply N Facts₀.shapeCasts_S1_S_
  rw [← stack_apply x E w h q k, ← stack_apply x E v h q k]
  show (if IntOp.cmpi .slt (BitVec.ofNat 32 (q.val / 512)) (shapeCast S_ N Facts₀.shapeCasts_S1_S_ _) = 1#1
    then gate (stack x E w _) (stack x E v _) else Ideal.ofBits .f32 0x00000000#32) = _
  rw [hc, Ideal.ofBits_zero_f32]
  have hs := slt_iff (⟨q.val / 512, by omega⟩ : Fin 72) (N (ix1 0))
  by_cases ha : active (⟨q.val / 512, by omega⟩ : Fin 72) (N (ix1 0)) = true
  · rw [if_pos (hs.2 ha), if_pos ha]
  · rw [if_neg (fun h' => ha (hs.1 h')), if_neg ha]

/-- One block's product at an element. -/
theorem mm_apply (x : S512x4096.Idx → Elt Ideal .bf16) (w : Cert.Kernel2Ideal.S1x4096x512.Idx → Elt Ideal .bf16) (r : Fin 512) (k : Fin 512) :
    mm x w (ix2 r k) = ∑ c : Fin 4096, x (ix2 r c) * w (ix3 (0 : Fin 1) c k) := by
  unfold mm
  refine (Ideal.matmul_plain_apply (M := 512) (K := 4096) (N := 512) (φ₁ := .bf16) (φ₂ := .bf16) none x _ _ r k).trans ?_
  show Ideal.ofBits .f32 0x00000000#32 + _ = _
  rw [Ideal.ofBits_zero_f32, zero_add]
  refine Finset.sum_congr rfl fun c _ => ?_
  refine congrArg (x (ix2 r c) * ·) (shapeCast_apply w _ _ _ ?_)
  rw [Shape.rowMajor_val_three, Shape.rowMajor_val_two]
  show (0 * 4096 + c.val) * 512 + k.val = c.val * 512 + k.val
  omega

theorem prod_apply (x : S512x4096.Idx → Elt Ideal .bf16) (w v : Cert.Kernel2Ideal.S1x4096x512.Idx → Elt Ideal .bf16) (r : Fin 512) (k : Fin 512) :
    prod x w v (ix2 r k) = gate (mm x w (ix2 r k)) (mm x v (ix2 r k)) := by
  show mm x w (ix2 r k) * Ideal.div (Ideal.ofBits .f32 0x3F800000#32) (Ideal.ofBits .f32 0x3F800000#32
    + Ideal.exp (Ideal.ofBits .f32 0x00000000#32 - mm x w (ix2 r k))) * mm x v (ix2 r k) = _
  rw [Ideal.ofBits_zero_f32, zero_sub]
  rfl

/-- One block's product is the stack's. -/
theorem block_apply (x : S36864x4096.Idx → Elt Ideal .bf16) (w : S8x4096x4096.Idx → Elt Ideal .bf16) (e : Fin 8) (q : Fin 36864) (k : Fin 4096) :
    mm (rows x (⟨q.val / 512, by omega⟩ : Fin 72)) (block w e (⟨k.val / 512, by omega⟩ : Fin 8))
      (ix2 (⟨q.val % 512, Nat.mod_lt _ (by decide)⟩ : Fin 512) (⟨k.val % 512, Nat.mod_lt _ (by decide)⟩ : Fin 512)) = entry x w e q k := by
  rw [mm_apply]
  refine Finset.sum_congr rfl fun c _ => congrArg₂ (· * ·) ?_ ?_
  · refine congrArg x (congrArg (fun r : Fin 36864 => ix2 r c) (Fin.ext ?_))
    show q.val / 512 * 512 + q.val % 512 = q.val
    omega
  · refine congrArg w (congrArg (fun r : Fin 4096 => ix3 _ c r) (Fin.ext ?_))
    show k.val / 512 * 512 + k.val % 512 = k.val
    omega

theorem G_apply (x : S36864x4096.Idx → Elt Ideal .bf16) (E : S72.Idx → BitVec 32) (N : S1.Idx → BitVec 32) (w v : S8x4096x4096.Idx → Elt Ideal .bf16)
    (q : Fin 36864) (k : Fin 4096) :
    G x E N w v (ix2 q k) = if active (⟨q.val / 512, by omega⟩ : Fin 72) (N (ix1 0)) = true
      then gate (entry x w (expert (E (ix1 (⟨q.val / 512, by omega⟩ : Fin 72)))) q k) (entry x v (expert (E (ix1 (⟨q.val / 512, by omega⟩ : Fin 72)))) q k) else 0 := by
  show resBlock x (E (ix1 (⟨q.val / 512, by omega⟩ : Fin 72))) (N (ix1 0)) w v (⟨q.val / 512, by omega⟩ : Fin 72) (⟨k.val / 512, by omega⟩ : Fin 8)
    (ix2 (⟨q.val % 512, Nat.mod_lt _ (by decide)⟩ : Fin 512) (⟨k.val % 512, Nat.mod_lt _ (by decide)⟩ : Fin 512)) = _
  unfold resBlock
  by_cases ha : active (⟨q.val / 512, by omega⟩ : Fin 72) (N (ix1 0)) = true
  · rw [if_pos ha, if_pos ha, prod_apply, block_apply, block_apply]
  · rw [if_neg ha, if_neg ha]
    show Ideal.ofBits .bf16 0x0000#16 = 0
    simp [Ideal.ofBits, Ideal.ieee]

/-- The reference's result is what the kernel leaves. -/
theorem product_eq (x : S36864x4096.Idx → Elt Ideal .bf16) (E : S72.Idx → BitVec 32) (N : S1.Idx → BitVec 32) (w v : S8x4096x4096.Idx → Elt Ideal .f32)
    (h : ∀ t : Fin 72, (E (ix1 t)).toNat < 8) : product x E N w v = G x E N (rounded w) (rounded v) := by
  funext y
  obtain ⟨q, k, rfl⟩ : ∃ (q : Fin 36864) (k : Fin 4096), y = ix2 q k := ⟨y 0, y 1, eq_ix2 y⟩
  rw [product_apply x E N w v h, G_apply]
  rfl

theorem scalar_unique : Subsingleton Cert.Pre_experts_in_range2.S_.Idx := ⟨fun _ _ => funext fun a => a.elim0⟩

/-- The precondition, tile by tile. -/
theorem below_of_pre {F : FTy → Type} [FloatOps F] (x : S36864x4096.Idx → Elt F .bf16) (E : S72.Idx → BitVec 32) (N : S1.Idx → BitVec 32)
    (w v : S8x4096x4096.Idx → Elt F .f32) (h : Cert.Pre_experts_in_range2.fn (F := F) x E N w v = fun _ => 1#1) (t : Fin 72) : (E (ix1 t)).toNat < 8 := by
  haveI := scalar_unique
  have h0 := congrFun h (fun a => a.elim0)
  unfold Cert.Pre_experts_in_range2.fn at h0
  exact below _ (Host.reduce_andi_all _ _ _ _ _ h0 (ix1 t))

end Cert.Kernel2Ideal.GateUp

end
-- ==== Proof.DownBody.lean ====
module

public import proofs.«01_k».proof.Proof.Gen.Kernel3Ideal.Launch
public import proofs.«01_k».proof.Proof.Whole
public import Idealize.ShloMosaic.Lib.Pipeline.Frame
public import Idealize.ShloMosaic.Lib.Pipeline.Value
public import Idealize.ShloMosaic.Lib.ValueIdx
public import Idealize.ShloMosaic.Lib.WholeRead
public import Idealize.ShloMosaic.Lib.Tactic

@[expose] public section

set_option maxRecDepth 16384

noncomputable section

/-! # One grid point of the experts' down product

The body reads the number of active tiles. On an active tile it stores the product of the tile's rows with the block
of its expert's weights; on the others it stores zeros. -/

namespace Cert.Kernel3Ideal.Down

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Idealize.ShloMosaic.UR sig nD τ) ℕ

/-- The two prefetched tables: each tile's expert, and the number of active tiles. -/
abbrev tabE : Memref sig .tc .smem S72 .i32 := Memref.whole main_arg1
abbrev tabN : Memref sig .tc .smem S1 .i32 := Memref.whole main_arg2

/-- The tile's rows times the expert's weights, rounded. -/
def prod (x : S512x4096.Idx → Elt F .bf16) (w : S1x4096x1024.Idx → Elt F .bf16) : S512x1024.Idx → Elt F .bf16 :=
  truncf .bf16 (matmul dot_S512x4096_S4096x1024_S512x1024_1_0_0_1_n_n none x (shapeCast S4096x1024 w shapeCasts_S1x4096x1024_S4096x1024)
    (constant S512x1024 .f32 0x00000000#32)) bitsLt_bf16_f32

/-- The block an inactive tile holds. -/
def zeros : S512x1024.Idx → Elt F .bf16 := broadcast S512x1024 (Scalar.ofBits .bf16 0x0000#16)

/-- What the body leaves: the product on an active tile, zeros elsewhere. -/
def left (i : grid0.Coords) (n : BitVec 32) (x : S512x4096.Idx → Elt F .bf16) (w : S1x4096x1024.Idx → Elt F .bf16) : S512x1024.Idx → Elt F .bf16 :=
  if k0_cond1 i n = 1#1 then prod x w else zeros

/-- The second condition is the first one's negation. -/
theorem cond2_iff (i : grid0.Coords) (n : BitVec 32) : k0_cond2 i n = 1#1 ↔ ¬ k0_cond1 i n = 1#1 := by
  unfold k0_cond1 k0_cond2
  dsimp only
  generalize Scalar.cmpi .slt (BitVec.ofNat 32 (i 0).val) n = b
  revert b; decide

variable (c : Dev nD) (i : grid0.Coords) (arg4 : Memref sig .tc .vmem S512x4096 .bf16) (harg4 : arg4.IsWhole)
  (arg5 : Memref sig .tc .vmem S1x4096x1024 .bf16) (harg5 : arg5.IsWhole) (arg6 : Memref sig .tc .vmem S512x1024 .bf16) (harg6 : arg6.IsWhole)
  (N : S1.Idx → Elt F .i32) (x : S512x4096.Idx → Elt F .bf16) (w : S1x4096x1024.Idx → Elt F .bf16) (o : arg6.view.ty.Contents (Elt F))

/-- One grid point's run. -/
theorem body_run :
    iprop((tabN.view.loc (c : Thread nD τ) ↦{fullShare.right} N) ∗ (arg4.view.loc (c : Thread nD τ) ↦[arg4.view.set]{fullShare} harg4.unread x)
      ∗ (arg5.view.loc (c : Thread nD τ) ↦[arg5.view.set]{fullShare} harg5.unread w) ∗ (arg6.view.loc (c : Thread nD τ) ↦[arg6.view.set]{fullShare} o))
    ⊢ wp frame (wpE (defs₀ (F := F)) Variants.none (c : Thread nD τ) none) Set.univ
      (cc0_moe_down (F := F) i tabE (Memref.isWhole_whole _) tabN (Memref.isWhole_whole _) arg4 harg4 arg5 harg5 arg6 harg6)
      (fun _ => (iprop((tabN.view.loc (c : Thread nD τ) ↦{fullShare.right} N) ∗ (arg4.view.loc (c : Thread nD τ) ↦[arg4.view.set]{fullShare} harg4.unread x)
        ∗ (arg5.view.loc (c : Thread nD τ) ↦[arg5.view.set]{fullShare} harg5.unread w)
        ∗ ∃ f, ⌜arg6.view.read (Elt F) f = left i (N (ix1 0)) x w⌝ ∗ (arg6.view.loc (c : Thread nD τ) ↦[arg6.view.set]{fullShare} f)) : sProp 𝕄)) := by
  iintro ⟨HN, H4, H5, H6⟩
  sl_unfold [cc0_moe_down]
  sl_exec
  sl_step
  isplitl [HN]; · iexact HN
  isplitl [H4]; · iexact H4
  isplitl [H5]; · iexact H5
  iexists _
  isplitr
  swap; · iexact H6
  ipureintro
  have hw : body_run.sl.r (F := F) N = N (ix1 0) := by
    unfold body_run.sl.r
    refine congrArg N (funext fun a => Fin.ext ?_)
    match a with
    | ⟨0, _⟩ => rfl
  have hv : body_run.sl.v11 arg4 harg4 arg5 harg5 x w = prod x w := by
    unfold body_run.sl.v11
    unfold body_run.sl.v10 body_run.sl.v9 body_run.sl.cst prod
    rw [Cert.Whole.load_whole harg4 Cert.Whole.hz2, Cert.Whole.load_whole harg5 Cert.Whole.hz3]
  rw [hw, hv]
  unfold left
  by_cases h1 : k0_cond1 i (N (ix1 0)) = 1#1
  · rw [dif_neg (fun h => (cond2_iff i _).1 h h1), dif_pos h1, if_pos h1]
    exact Cert.Whole.read_store _ Cert.Whole.hz2 _ _ _
  · rw [dif_pos ((cond2_iff i _).2 h1), if_neg h1]
    exact Cert.Whole.read_store _ Cert.Whole.hz2 _ _ _

end Cert.Kernel3Ideal.Down

end
-- ==== Proof.DownRun.lean ====
module

public import proofs.«01_k».proof.Proof.DownBody
public import Idealize.ShloMosaic.Lib.Pipeline.Covers
public import Idealize.ShloMosaic.Lib.Affine
public import Idealize.ShloMosaic.Lib.WordArith

@[expose] public section

set_option maxRecDepth 16384

noncomputable section

/-! # The run of the experts' down product

The launch at any float values. The weights are rounded on the host before it. Every tile's expert must be one of
the eight, so that the block of weights its index map names lies in the array. -/

namespace Cert.Kernel3Ideal.Down

open Cert.Kernel3Ideal Cert.Kernel3Ideal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four arguments as the run finds them. -/
abbrev argX (c : Dev nD) : S36864x4096.Idx → Elt F .bf16 := m ((c : Thread nD τ).loc main_arg0)
abbrev argE (c : Dev nD) : S72.Idx → BitVec 32 := m ((c : Thread nD τ).loc main_arg1)
abbrev argN (c : Dev nD) : S1.Idx → BitVec 32 := m ((c : Thread nD τ).loc main_arg2)
abbrev argW (c : Dev nD) : S8x4096x4096.Idx → Elt F .f32 := m ((c : Thread nD τ).loc main_arg3)

/-- The buffers' contents at the region's entry. -/
abbrev V (c : Dev nD) (b : Ref sig .tc) : Buf (Elt F) ((c : Thread nD τ).loc b) := StableHlo.after hostOps0 (fun b => m (c, b)) b

/-- The rounded weights. -/
def rounded (w : S8x4096x4096.Idx → Elt F .f32) : S8x4096x4096.Idx → Elt F .bf16 := truncf .bf16 w bitsLt_bf16_f32

theorem V_v0 (c : Dev nD) : V m c main_v0 = rounded (argW m c) := by

  show StableHlo.after hostOps0 (fun b => m (c, b)) (Proc.devRef .tc main_v0) = _
  after_results; rfl
theorem V_arg0 (c : Dev nD) : V m c main_arg0 = argX m c := by
  show StableHlo.after hostOps0 (fun b => m (c, b)) (Proc.devRef .tc main_arg0) = _
  after_results
theorem V_arg1 (c : Dev nD) : V m c main_arg1 = argE m c := by
  show StableHlo.after hostOps0 (fun b => m (c, b)) (Proc.devRef .tc main_arg1) = _
  after_results
theorem V_arg2 (c : Dev nD) : V m c main_arg2 = argN m c := by
  show StableHlo.after hostOps0 (fun b => m (c, b)) (Proc.devRef .tc main_arg2) = _
  after_results
theorem V_arg3 (c : Dev nD) : V m c main_arg3 = argW m c := by
  show StableHlo.after hostOps0 (fun b => m (c, b)) (Proc.devRef .tc main_arg3) = _
  after_results

/-- Every tile's expert is one of the eight. -/
def Named : Prop := ∀ (c : Dev nD) (t : Fin 72), (argE m c (ix1 t)).toNat < 8

/-- The column of the block of weights at a point: the point's own on an active tile, the first elsewhere. -/
def col (i : grid0.Coords) (n : BitVec 32) : Nat := (Scalar.select (Scalar.cmpi .slt (BitVec.ofNat 32 (i 0).val) n) (BitVec.ofNat 32 (i 1).val) 0#32).toNat

theorem col_lt (i : grid0.Coords) (n : BitVec 32) : col i n < 4 := by
  have h1 : (i 1).val < 4 := (i 1).isLt
  unfold col Scalar.select
  split
  · rw [BitVec.toNat_ofNat, Nat.mod_eq_of_lt (by omega)]; exact h1
  · decide

/-- On an active tile it is the point's own. -/
theorem col_active (i : grid0.Coords) (n : BitVec 32) (h : k0_cond1 i n = 1#1) : col i n = (i 1).val := by
  have h1 : (i 1).val < 4 := (i 1).isLt
  have hb : Scalar.cmpi .slt (BitVec.ofNat 32 (i 0).val) n = 1#1 := by
    unfold k0_cond1 at h
    dsimp only at h
    generalize Scalar.cmpi .slt (BitVec.ofNat 32 (i 0).val) n = b at h
    revert b; decide
  unfold col
  rw [hb]
  show (BitVec.ofNat 32 (i 1).val).toNat = _
  rw [BitVec.toNat_ofNat, Nat.mod_eq_of_lt (by omega)]

/-- The tables' contents, as the region reads them at entry. -/
def pf : pre0.Contents (Elt F) := fun k => m (((0 : Dev nD) : Thread nD τ).loc (pre0.ref k))

/-- The tile's expert, as the index map loads it. -/
theorem pf_expert (i : grid0.Coords) (x : S1.Idx) : (pf m 0 ((Rect.unit (s := S72) ![(BitVec.ofNat 32 (i 0).val).toNat] S1.size (k0_off1_inb i)).emb x) : BitVec 32)
    = argE m 0 (ix1 (i 0 : Fin 72)) := by
  have h0 : (i 0).val < 72 := (i 0).isLt
  have hx : (x 0).val < 1 := (x 0).isLt
  refine congrArg (argE m 0) (funext fun a => Fin.ext ?_)
  match a with
  | ⟨0, _⟩ =>
    show (BitVec.ofNat 32 (i 0).val).toNat + 1 * (x 0).val = (i 0).val
    rw [BitVec.toNat_ofNat, Nat.mod_eq_of_lt (by omega)]; omega

/-- The number of active tiles, as it loads it. -/
theorem pf_active (x : S1.Idx) : (pf m 1 ((Rect.unit (s := S1) ![0] S1.size inb_S1_S1_0).emb x) : BitVec 32) = argN m 0 (ix1 0) := by
  have hx : (x 0).val < 1 := (x 0).isLt
  refine congrArg (argN m 0) (funext fun a => Fin.ext ?_)
  match a with
  | ⟨0, _⟩ => show 0 + 1 * (x 0).val = 0; omega

/-- The weights' index map, read. -/
theorem transform_1_eq (i : grid0.Coords) : cc0_transform_1 k0_off1_inb numel1_S1 inb_S1_S1_0 (pf m) i
    = ![(argE m 0 (ix1 (i 0 : Fin 72))).toNat, 0, col i (argN m 0 (ix1 0))] := by
  have he := pf_expert m i (Shape.Idx.first (by decide))
  have hn := pf_active m (Shape.Idx.first (by decide))
  rw [← he, ← hn]
  rfl

variable (hm : Named m)

include hm in
theorem ok : ok0 (pf m) := fun i => by
  have h1 := hm 0 (i 0)
  have h2 := col_lt i (argN m 0 (ix1 0))
  have inb : ∀ a, (cc0_transform_1 k0_off1_inb numel1_S1 inb_S1_S1_0 (pf m) i a + 1) * S1x4096x1024.size a ≤ S8x4096x4096.size a := by
    rw [transform_1_eq]
    intro a
    match a with
    | ⟨0, _⟩ => show ((argE m 0 (ix1 (i 0 : Fin 72))).toNat + 1) * 1 ≤ 8; omega
    | ⟨1, _⟩ => show (0 + 1) * 4096 ≤ 4096; omega
    | ⟨2, _⟩ => show (col i (argN m 0 (ix1 0)) + 1) * 1024 ≤ 4096; omega
  exact ⟨inb, .inr (Affine.block_words_dvd (of_decide_eq_true rfl) (by decide))⟩

/-- The tables with their side condition. -/
def adm : (pcfg0 (F := F)).Adm := ⟨pf m, ok m hm⟩

abbrev cfgA : Cfg sig Λ₀ := cfg0 (adm m hm)

/-- The blocks the body finds at point `t`. -/
def xAt (c : Dev nD) (t : Fin (cfgA m hm).N) : S512x4096.Idx → Elt F .bf16 := (((cfgA m hm).win 0).blk t).view.read (Elt F) (V m c main_arg0)
def wAt (c : Dev nD) (t : Fin (cfgA m hm).N) : S1x4096x1024.Idx → Elt F .bf16 := (((cfgA m hm).win 1).blk t).view.read (Elt F) (V m c main_v0)
/-- The block it leaves. -/
def outAt (c : Dev nD) (t : Fin (cfgA m hm).N) : S512x1024.Idx → Elt F .bf16 := left (grid0.coords t) (argN m c (ix1 0)) (xAt m hm c t) (wAt m hm c t)

/-- What holds between points. -/
def inv (c : Dev nD) : sProp 𝕄 := iprop(ΦA spec0 c ∗ ΦT pre0 (adm m hm).1 c)

/-- The proof data of the one pipeline. -/
def dats (_ : Fin 1) (c : Dev nD) : Dat τ (Elt F) Unit ℕ (UR sig nD τ) ℕ (cfgA m hm) c where
  A w := V m c (arrRef spec0 w)
  after w t := match w with
    | ⟨0, _⟩ => xAt m hm c t
    | ⟨1, _⟩ => wAt m hm c t
    | ⟨2, _⟩ => outAt m hm c t
  Φ _ := inv m hm c
  q _ := fullShare
  owed _ := 0

theorem A_eq (c : Dev nD) (w : Fin (cfgA m hm).W) : (dats m hm 0 c).A w = V m c (arrRef spec0 w) := by dsimp only [dats]
theorem after_0 (c : Dev nD) (t : Fin (cfgA m hm).N) : (dats m hm 0 c).after 0 t = xAt m hm c t := by dsimp only [dats]; rfl
theorem after_1 (c : Dev nD) (t : Fin (cfgA m hm).N) : (dats m hm 0 c).after 1 t = wAt m hm c t := by dsimp only [dats]; rfl
theorem after_2 (c : Dev nD) (t : Fin (cfgA m hm).N) : (dats m hm 0 c).after 2 t = outAt m hm c t := by dsimp only [dats]; rfl
theorem Phi_eq (c : Dev nD) (t : Fin ((cfgA m hm).N + 1)) : (dats m hm 0 c).Φ t = inv m hm c := by dsimp only [dats]

theorem before_0 (c : Dev nD) (t : Fin (cfgA m hm).N) (d) : (dats m hm 0 c).before 0 t d = xAt m hm c t :=
  ((dats m hm 0 c).before_in_eq_fetched 0 rfl (fun _ => rfl) (fun _ _ _ => rfl)
    (fun t => by rw [after_0]; unfold Dat.blockOf; rw [A_eq]; rfl) t d).trans
    (by unfold Dat.fetched Dat.blockOf; rw [A_eq]; rfl)
theorem before_1 (c : Dev nD) (t : Fin (cfgA m hm).N) (d) : (dats m hm 0 c).before 1 t d = wAt m hm c t :=
  ((dats m hm 0 c).before_in_eq_fetched 1 rfl (fun _ => rfl) (fun _ _ _ => rfl)
    (fun t => by rw [after_1]; unfold Dat.blockOf; rw [A_eq]; rfl) t d).trans
    (by unfold Dat.fetched Dat.blockOf; rw [A_eq]; rfl)

/-- The staging buffers at point `t`. -/
abbrev ms0 (t : Fin (cfgA m hm).N) : Memref sig .tc .vmem S512x4096 .bf16 := spec0_0.stage ((cfgA m hm).slots t 0)
abbrev ms1 (t : Fin (cfgA m hm).N) : Memref sig .tc .vmem S1x4096x1024 .bf16 := spec0_1.stage ((cfgA m hm).slots t 1)
abbrev ms2 (t : Fin (cfgA m hm).N) : Memref sig .tc .vmem S512x1024 .bf16 := spec0_2.stage ((cfgA m hm).slots t 2)
theorem hs0 (t : Fin (cfgA m hm).N) : (ms0 m hm t).IsWhole := hstage0_0 (((cfgA m hm).slots t 0).cast nbuf0_0)
theorem hs1 (t : Fin (cfgA m hm).N) : (ms1 m hm t).IsWhole := hstage0_1 (((cfgA m hm).slots t 1).cast nbuf0_1)
theorem hs2 (t : Fin (cfgA m hm).N) : (ms2 m hm t).IsWhole := hstage0_2 (((cfgA m hm).slots t 2).cast nbuf0_2)

/-- The invariant, conjunct by conjunct. -/
theorem inv_eq (c : Dev nD) : inv m hm c = iprop((emp ∗ (∃ r, prngReg c r))
    ∗ (tabE.view.loc (c : Thread nD τ) ↦{fullShare.right} argE m c) ∗ (tabN.view.loc (c : Thread nD τ) ↦{fullShare.right} argN m c)) := by
  obtain rfl := Subsingleton.elim c (0 : Dev nD)
  unfold inv ΦA
  rw [scopedRest0_eq]
  unfold ΦT prefHeld
  rw [bigSep_univ_eq_bigSepL [(0 : Fin 2), (1 : Fin 2)] (by decide) (by decide)]
  rfl

def bodyPre (c : Dev nD) (t : Fin (cfgA m hm).N) : sProp 𝕄 :=
  iprop((dats m hm 0 c).Φ t.castSucc ∗ (dats m hm 0 c).owesAt () t.castSucc
    ∗ (∃ d, owns (c : Thread nD τ) (ms0 m hm t) fullShare ((dats m hm 0 c).before 0 t d))
    ∗ (∃ d, owns (c : Thread nD τ) (ms1 m hm t) fullShare ((dats m hm 0 c).before 1 t d))
    ∗ (∃ d, owns (c : Thread nD τ) (ms2 m hm t) fullShare ((dats m hm 0 c).before 2 t d)))
def bodyPost (c : Dev nD) (t : Fin (cfgA m hm).N) : sProp 𝕄 :=
  iprop((dats m hm 0 c).Φ t.succ ∗ (dats m hm 0 c).owesAt () t.succ
    ∗ owns (c : Thread nD τ) (ms0 m hm t) fullShare ((dats m hm 0 c).after 0 t)
    ∗ owns (c : Thread nD τ) (ms1 m hm t) fullShare ((dats m hm 0 c).after 1 t)
    ∗ owns (c : Thread nD τ) (ms2 m hm t) fullShare ((dats m hm 0 c).after 2 t))

abbrev bodyAt (t : Fin (cfgA m hm).N) : Prog (TpuEff nD τ sig (Elt F) Λ₀ .tc) PUnit :=
  cc0_moe_down (grid0.coords t) tabE (Memref.isWhole_whole _) tabN (Memref.isWhole_whole _) (ms0 m hm t) (hs0 m hm t) (ms1 m hm t) (hs1 m hm t)
    (ms2 m hm t) (hs2 m hm t)

/-- One grid point: the body leaves the point's block. -/
theorem sound_body (c : Dev nD) (t : Fin (cfgA m hm).N) :
    bodyPre m hm c t ⊢ wp frame (wpE (defs₀ (F := F)) Variants.none c none) Set.univ (bodyAt m hm t) (fun _ => bodyPost m hm c t) := by
  unfold bodyPre bodyPost bodyAt
  rw [Phi_eq, Phi_eq, inv_eq, after_0, after_1, after_2]
  simp only [before_0, before_1]
  unfold Dat.owesAt owesWithin
  rw [show (dats m hm 0 c).owed t.castSucc = 0 from rfl, show (dats m hm 0 c).owed t.succ = 0 from rfl]
  iintro ⟨⟨Hg, HE, HN⟩, HW, ⟨%d0, H0⟩, ⟨%d1, H1⟩, ⟨%d2, H2⟩⟩
  unfold owns
  icases H0 with ⟨%f0, %e0, H0⟩
  icases H1 with ⟨%f1, %e1, H1⟩
  icases H2 with ⟨%f2, -, H2⟩
  obtain rfl := (hs0 m hm t).eq_unread e0
  obtain rfl := (hs1 m hm t).eq_unread e1
  iapply (wp_wand_r frame (wpE (defs₀ (F := F)) Variants.none c none) Set.univ)
  isplitl [HN H0 H1 H2]
  · iapply (body_run c (grid0.coords t) (ms0 m hm t) (hs0 m hm t) (ms1 m hm t) (hs1 m hm t) (ms2 m hm t) (hs2 m hm t) (argN m c)
      (xAt m hm c t) (wAt m hm c t) f2)
    isplitl [HN]; · iexact HN
    isplitl [H0]; · iexact H0
    isplitl [H1]; · iexact H1
    iexact H2
  iintro %_ ⟨HN, H0, H1, ⟨%f, %ef, H2⟩⟩
  isplitl [Hg HE HN]
  · isplitl [Hg]; · iexact Hg
    isplitl [HE]; · iexact HE
    iexact HN
  isplitl [HW]; · iexact HW
  isplitl [H0]
  · iexists _; isplitr
    swap; · iexact H0
    ipureintro; exact e0
  isplitl [H1]
  · iexists _; isplitr
    swap; · iexact H1
    ipureintro; exact e1
  iexists _; isplitr
  swap; · iexact H2
  ipureintro; exact ef

theorem defs₀_row (t : Fin (cfgA m hm).N) :
    defs₀ (F := F) .tc (cfgA m hm).body ((cfgA m hm).bodyArgs t ((cfgA m hm).slots t)) = bodyAt m hm t := by
  unfold defs₀; rw [Defs.onTc_tc]

/-- No point is idle: one of the two conditions holds. -/
theorem idle_2 (t : Fin (cfgA m hm).N) : (cfgA m hm).idle 2 ((cfgA m hm).grid.coords t) = false := by
  show (!(k0_cond1 (grid0.coords t) _ == 1#1) && !(k0_cond2 (grid0.coords t) _ == 1#1)) = false
  generalize ((adm m hm).1.atD 1 ![0] : BitVec 32) = n
  by_cases h : k0_cond1 (grid0.coords t) n = 1#1
  · rw [h]; rfl
  · rw [(cond2_iff _ n).2 h]; simp

theorem body_obligation (c : Dev nD) : BodyObligation (dats m hm 0 c) (defs₀ (F := F)) Variants.none () Set.univ := fun t => by
  rw [bigSep_W0, bigSep_W0, defs₀_row]
  refine triple_restated (sound_body m hm c t) rfl .rfl fun _ => ?_
  unfold bodyPost
  rw [idle_2]

theorem pf_eq (c : Dev nD) (k : Fin pre0.K) : V m c (pre0.ref k) = (adm m hm).1 k := by
  obtain rfl := Subsingleton.elim c (0 : Dev nD)
  match k with
  | ⟨0, _⟩ => exact V_arg1 m 0
  | ⟨1, _⟩ => exact V_arg2 m 0

set_option backward.isDefEq.respectTransparency.types false in
theorem run_main : θ_run defs (onTc (τ := τ) (main (F := F))) (s₀ m ρ)
    (fun r => Pipeline.FramePost (pin pcfgs (fun _ => adm m hm)) (dats m hm) 0 (V m) r ∧ r.2.sem = fun _ => 0) :=
  Pipeline.θ_run_frameP (Q' := _) pcfgs (fun _ => adm m hm) (dats m hm) (0 : Fin 1) launch0 defs₀ Variants.none m ρ main
    (hbody := fun c => (body_obligation m hm c).loose) (hshare := fun c => (dats m hm 0 c).share_full fun _ => rfl)
    (howed := fun _ _ => rfl) (V := V m)
    (hmain := hmainP_prefix pcfgs 0 defs₀ Variants.none m main hostOps0 hostOps0_sub (show _ from rfl) main_chain)
    (hA := A_eq m hm) (hpf := pf_eq m hm) (hΦ := fun _ _ => rfl)

end Cert.Kernel3Ideal.Down

end
-- ==== Proof.DownTiles.lean ====
module

public import proofs.«01_k».proof.Proof.DownRun
public import proofs.«01_k».proof.Proof.Stacks

@[expose] public section

set_option maxRecDepth 16384

noncomputable section

/-! # What the experts' down product leaves

The blocks tile the result: block `(t, j)` is the product of tile `t`'s rows with the column block `j` of its expert's
weights, or zeros if the tile is not active. -/

namespace Cert.Kernel3Ideal.Down

open Cert.Kernel3Ideal Cert.Kernel3Ideal.Gen
open Idealize.ShloMosaic Idealize.ShloMosaic.TcCoe Idealize.ShloMosaic.Tactic
open Idealize.ShloMosaic.Pipeline
open Idealize.SL Idealize.SL.Sem
open Idealize.ShloMosaic.ValueIdx
open Cert.Stacks (expert active slt_iff)

variable {F : FTy → Type} [FloatOps F]

/-- Tile `t`'s rows. -/
def rows (x : S36864x4096.Idx → Elt F .bf16) (t : Fin 72) : S512x4096.Idx → Elt F .bf16 := fun k =>
  x (ix2 (⟨t.val * 512 + (k 0).val, by have h : (k 0).val < 512 := (k 0).isLt; omega⟩ : Fin 36864) (k 1 : Fin 4096))

/-- Column block `j` of expert `e`'s weights. -/
def block (w : S8x4096x4096.Idx → Elt F .bf16) (e : Fin 8) (j : Fin 4) : S1x4096x1024.Idx → Elt F .bf16 := fun k =>
  w (ix3 e (k 1 : Fin 4096) (⟨j.val * 1024 + (k 2).val, by have h : (k 2).val < 1024 := (k 2).isLt; omega⟩ : Fin 4096))

theorem cond1_iff (i : grid0.Coords) (n : BitVec 32) : k0_cond1 i n = 1#1 ↔ active (i 0 : Fin 72) n = true := by
  refine Iff.trans ?_ (slt_iff (i 0 : Fin 72) n)
  unfold k0_cond1 Scalar.cmpi
  dsimp only
  generalize IntOp.cmpi .slt (BitVec.ofNat 32 (i 0).val) n = b
  revert b; decide

/-- Block `(t, j)` of the result. -/
def resBlock (x : S36864x4096.Idx → Elt F .bf16) (e n : BitVec 32) (w : S8x4096x4096.Idx → Elt F .bf16) (t : Fin 72) (j : Fin 4) :
    S512x1024.Idx → Elt F .bf16 :=
  if active t n = true then prod (rows x t) (block w (expert e) j) else zeros

/-- The result. -/
def G (x : S36864x4096.Idx → Elt F .bf16) (E : S72.Idx → BitVec 32) (N : S1.Idx → BitVec 32) (w : S8x4096x4096.Idx → Elt F .bf16) :
    S36864x4096.Idx → Elt F .bf16 := fun k =>
  have h0 : (k 0).val < 36864 := (k 0).isLt
  have h1 : (k 1).val < 4096 := (k 1).isLt
  resBlock x (E (ix1 (⟨(k 0).val / 512, by omega⟩ : Fin 72))) (N (ix1 0)) w ⟨(k 0).val / 512, by omega⟩ ⟨(k 1).val / 1024, by omega⟩
    (ix2 (⟨(k 0).val % 512, Nat.mod_lt _ (by decide)⟩ : Fin 512) (⟨(k 1).val % 1024, Nat.mod_lt _ (by decide)⟩ : Fin 1024))

variable (m : (ℓ : Loc nD τ sig) → Buf (Elt F) ℓ) (ρ : Dev nD → PrngReg) (hm : Named m)

/-- The rows the body finds are the tile's. -/
theorem xAt_eq (c : Dev nD) (t : Fin (cfgA m hm).N) : xAt m hm c t = rows (argX m c) (grid0.coords t 0) := by
  refine funext fun (y : S512x4096.Idx) => ?_
  have hi : (grid0.coords t 0).val < 72 := (grid0.coords t 0).isLt
  unfold xAt
  rw [V_arg0]
  show argX m c ((((cfgA m hm).win 0).blk t).view.emb y) = _
  refine congrArg (argX m c) (funext fun a => Fin.ext ?_)
  match a with
  | ⟨0, _⟩ =>
    show (BitVec.ofNat 32 (grid0.coords t 0).val).toNat * 512 + 1 * (y 0).val = (grid0.coords t 0).val * 512 + (y 0).val
    rw [BitVec.toNat_ofNat, Nat.mod_eq_of_lt (by omega), Nat.one_mul]
  | ⟨1, _⟩ => show 0 * 4096 + 1 * (y 1).val = (y 1).val; omega

/-- On an active tile the weights it finds are the point's column block of the tile's expert. -/
theorem wAt_eq (c : Dev nD) (t : Fin (cfgA m hm).N) (h : k0_cond1 (grid0.coords t) (argN m c (ix1 0)) = 1#1) :
    wAt m hm c t = block (rounded (argW m c)) (expert (argE m c (ix1 (grid0.coords t 0 : Fin 72)))) (grid0.coords t 1) := by
  obtain rfl := Subsingleton.elim c (0 : Dev nD)
  refine funext fun (y : S1x4096x1024.Idx) => ?_
  have hy : (y 0).val < 1 := (y 0).isLt
  have he := hm 0 (grid0.coords t 0)
  have hc := col_active _ _ h
  have ht := transform_1_eq m (grid0.coords t)
  unfold wAt
  rw [V_v0]
  show rounded (argW m 0) ((((cfgA m hm).win 1).blk t).view.emb y) = _
  refine congrArg (rounded (argW m 0)) (funext fun a => Fin.ext ?_)
  match a with
  | ⟨0, _⟩ =>
    show cc0_transform_1 k0_off1_inb numel1_S1 inb_S1_S1_0 (pf m) (grid0.coords t) 0 * 1 + 1 * (y 0).val = (argE m 0 (ix1 (grid0.coords t 0 : Fin 72))).toNat % 8
    rw [ht]
    show (argE m 0 (ix1 (grid0.coords t 0 : Fin 72))).toNat * 1 + 1 * (y 0).val = _
    omega
  | ⟨1, _⟩ => show 0 * 4096 + 1 * (y 1).val = (y 1).val; omega
  | ⟨2, _⟩ =>
    show cc0_transform_1 k0_off1_inb numel1_S1 inb_S1_S1_0 (pf m) (grid0.coords t) 2 * 1024 + 1 * (y 2).val = (grid0.coords t 1).val * 1024 + (y 2).val
    rw [ht]
    show col (grid0.coords t) (argN m 0 (ix1 0)) * 1024 + 1 * (y 2).val = _
    rw [hc, Nat.one_mul]

/-- So the block it leaves is the result's. -/
theorem outAt_eq (c : Dev nD) (t : Fin (cfgA m hm).N) : outAt m hm c t
    = resBlock (argX m c) (argE m c (ix1 (grid0.coords t 0 : Fin 72))) (argN m c (ix1 0)) (rounded (argW m c)) (grid0.coords t 0) (grid0.coords t 1) := by
  unfold outAt left resBlock
  by_cases h : k0_cond1 (grid0.coords t) (argN m c (ix1 0)) = 1#1
  · rw [if_pos h, if_pos ((cond1_iff _ _).1 h), xAt_eq, wAt_eq m hm c t h]
  · rw [if_neg h, if_neg (fun h' => h ((cond1_iff _ _).2 h'))]

theorem nblk_0 : ((cfgA m hm).win 2).nblk (0 : Fin 2) = 72 :=
  show (S36864x4096.size 0 + S512x1024.size 0 - 1) / S512x1024.size 0 = 72 by decide
theorem nblk_1 : ((cfgA m hm).win 2).nblk (1 : Fin 2) = 4 :=
  show (S36864x4096.size 1 + S512x1024.size 1 - 1) / S512x1024.size 1 = 4 by decide

/-- The result window's blocks tile the result. -/
theorem covers_2 : ((cfgA m hm).win 2).Covers :=
  ((cfgA m hm).win 2).covers_of_indexMap_surj rfl (show ∀ a : Fin 2, 0 < S512x1024.size a by decide)
    fun (β : (a : Fin 2) → Fin (((cfgA m hm).win 2).nblk a)) =>
    have h0 : (β 0).val < 72 := lt_of_lt_of_eq (β 0).isLt (nblk_0 m hm)
    have h1 : (β 1).val < 4 := lt_of_lt_of_eq (β 1).isLt (nblk_1 m hm)
    ⟨(fun | ⟨0, _⟩ => ⟨(β 0).val, h0⟩ | ⟨1, _⟩ => ⟨(β 1).val, h1⟩ : grid0.Coords), fun (a : Fin 2) => by
      match a with
      | ⟨0, _⟩ => show (BitVec.ofNat 32 (β 0).val).toNat = (β 0).val; rw [BitVec.toNat_ofNat, Nat.mod_eq_of_lt (by omega)]
      | ⟨1, _⟩ => show (BitVec.ofNat 32 (β 1).val).toNat = (β 1).val; rw [BitVec.toNat_ofNat, Nat.mod_eq_of_lt (by omega)]⟩

/-- Where the point's block of the result lies. -/
theorem emb_2_0 (t : Fin (cfgA m hm).N) (y : S512x1024.Idx) :
    ((((cfgA m hm).win 2).blk t).view.emb y (0 : Fin 2)).val = (grid0.coords t 0).val * 512 + (y 0).val := by
  have h0 : (grid0.coords t 0).val < 72 := (grid0.coords t 0).isLt
  show (BitVec.ofNat 32 (grid0.coords t 0).val).toNat * 512 + 1 * (y 0).val = _
  rw [BitVec.toNat_ofNat, Nat.mod_eq_of_lt (by omega), Nat.one_mul]
theorem emb_2_1 (t : Fin (cfgA m hm).N) (y : S512x1024.Idx) :
    ((((cfgA m hm).win 2).blk t).view.emb y (1 : Fin 2)).val = (grid0.coords t 1).val * 1024 + (y 1).val := by
  have h1 : (grid0.coords t 1).val < 4 := (grid0.coords t 1).isLt
  show (BitVec.ofNat 32 (grid0.coords t 1).val).toNat * 1024 + 1 * (y 1).val = _
  rw [BitVec.toNat_ofNat, Nat.mod_eq_of_lt (by omega), Nat.one_mul]

/-- Block `(t, j)` of `G` is `resBlock`. -/
theorem G_block (x : S36864x4096.Idx → Elt F .bf16) (E : S72.Idx → BitVec 32) (N : S1.Idx → BitVec 32) (w : S8x4096x4096.Idx → Elt F .bf16)
    (t : Fin 72) (j : Fin 4) (y : S512x1024.Idx) (k : S36864x4096.Idx) (h0 : (k 0).val = t.val * 512 + (y 0).val) (h1 : (k 1).val = j.val * 1024 + (y 1).val) :
    resBlock x (E (ix1 t)) (N (ix1 0)) w t j y = G x E N w k := by
  have hy0 : (y 0).val < 512 := (y 0).isLt
  have hy1 : (y 1).val < 1024 := (y 1).isLt
  have e0 : ∀ h, (⟨(k 0).val / 512, h⟩ : Fin 72) = t := fun _ => Fin.ext (by show (k 0).val / 512 = _; omega)
  have e1 : ∀ h, (⟨(k 1).val / 1024, h⟩ : Fin 4) = j := fun _ => Fin.ext (by show (k 1).val / 1024 = _; omega)
  have e2 : (ix2 (⟨(k 0).val % 512, Nat.mod_lt _ (by decide)⟩ : Fin 512) (⟨(k 1).val % 1024, Nat.mod_lt _ (by decide)⟩ : Fin 1024) : S512x1024.Idx) = y := by
    funext a
    match a with
    | ⟨0, _⟩ => exact Fin.ext (by show (k 0).val % 512 = (y 0).val; omega)
    | ⟨1, _⟩ => exact Fin.ext (by show (k 1).val % 1024 = (y 1).val; omega)
  unfold G
  dsimp only
  rw [e0, e1, e2]

theorem arrAt_2 (c : Dev nD) : (dats m hm 0 c).arrAt 2 (cfgA m hm).N = G (argX m c) (argE m c) (argN m c) (rounded (argW m c)) :=
  (dats m hm 0 c).arrAt_eq_of_covers 2 _ (covers_2 m hm) fun t _ (y : S512x1024.Idx) => by
    rw [after_2, outAt_eq]
    exact G_block _ _ _ _ _ _ _ _ (emb_2_0 m hm t y) (emb_2_1 m hm t y)

include hm in
/-- THE RUN: the result is `G` of the arguments, the arguments are as they were, every semaphore is at zero. -/
theorem run : θ_run defs (onTc (τ := τ) (main (F := F))) ⟨m, fun _ => 0, ρ⟩ (fun r => (∀ c : Dev nD,
      r.2.mem ((c.tc : Thread nD τ).loc main_v1) = G (argX m c) (argE m c) (argN m c) (rounded (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).1 2).trans (arrAt_2 m hm c),
     (((h.1 c).1 0).trans (((dats m hm 0 c).arrAt_in 0 rfl _).trans (A_eq m hm c 0))).trans (V_arg0 m c),
     ((h.1 c).2 main_arg1 (show main_arg1 ∈ restRefs sig spec0 by decide)).trans (V_arg1 m c),
     ((h.1 c).2 main_arg2 (show main_arg2 ∈ restRefs sig spec0 by decide)).trans (V_arg2 m c),
     ((h.1 c).2 main_arg3 (show main_arg3 ∈ restRefs sig spec0 by decide)).trans (V_arg3 m c)⟩, h.2⟩) (run_main m ρ hm)

end Cert.Kernel3Ideal.Down

end
-- ==== Proof.DownValue.lean ====
module

public import proofs.«01_k».proof.Proof.DownTiles
public import proofs.«01_k».proof.Proof.Gen.Reference3Ideal.Run
public import proofs.«01_k».proof.Proof.Gen.Pre_experts_in_range3

@[expose] public section

set_option maxRecDepth 16384

noncomputable section

/-! # The experts' down product: the reference's value

At the ideal values the reference's batched product, masked to the active tiles, is what the kernel leaves: element
`(q, k)` is `∑ c, x[q, c] · w[e, c, k]` for the expert `e` of the tile of row `q`. -/

namespace Cert.Kernel3Ideal.Down

open Cert.Reference3Ideal Cert.Reference3Ideal.Gen
open Idealize.ShloMosaic Idealize.ShloMosaic.TcCoe Idealize.ShloMosaic.ValueIdx
open Cert.Stacks

/-- The reference's products, zero on the inactive tiles. -/
def masked (x : FVec Ideal S36864x4096 .bf16) (E : S72.Idx → BitVec 32) (N : S1.Idx → BitVec 32) (w : FVec Ideal S8x4096x4096 .f32) :
    FVec Ideal S72x512x4096 .f32 :=
  select (broadcastInDim S72x512x4096 ![0, 1, 2] Facts₀.bcast_S72x1x1_S72x512x4096_0_1_2
      (broadcastInDim S72x1x1 ![0] Facts₀.bcast_S72_S72x1x1_0 (cmpi .slt (iotaInDim S72 32 0) (broadcastInDim S72 ![] Facts₀.bcast_S_S72 (shapeCast S_ N Facts₀.shapeCasts_S1_S_)))))
    (Host.dotGeneral (F := Ideal) (φ₁ := .f32) (φ₂ := .f32) dot_S72x512x4096_S72x4096x4096_S72x512x4096_2_1_1_2_0_0 none
      (shapeCast S72x512x4096 (extf (F := Ideal) (φ := .bf16) .f32 x Facts₀.bitsLt_bf16_f32) Facts₀.shapeCasts_S36864x4096_S72x512x4096)
      (Host.gather gather_S8x4096x4096_S72x1_S72x4096x4096_12_0_n_n_0_1_140964096 w
        (broadcastInDim S72x1 ![0] Facts₀.bcast_S72_S72x1_0 (select (cmpi .slt E (broadcastInDim S72 ![] Facts₀.bcast_S_S72 (constantI S_ 32 0#32)))
          (addi E (broadcastInDim S72 ![] Facts₀.bcast_S_S72 (constantI S_ 32 8#32))) E))))
    (broadcastInDim S72x512x4096 ![] Facts₀.bcast_S_S72x512x4096 (id (constant (F := Ideal) S_ .f32 0x00000000#32)))

/-- The reference's result. -/
def product (x : FVec Ideal S36864x4096 .bf16) (E : S72.Idx → BitVec 32) (N : S1.Idx → BitVec 32) (w : FVec Ideal S8x4096x4096 .f32) :
    FVec Ideal S36864x4096 .bf16 :=
  truncf .bf16 (shapeCast S36864x4096 (masked x E N w) Facts₀.shapeCasts_S72x512x4096_S36864x4096) Facts₀.bitsLt_bf16_f32

/-- The sum an element of an active tile is. -/
def entry (x : S36864x4096.Idx → EReal) (w : S8x4096x4096.Idx → EReal) (e : Fin 8) (q : Fin 36864) (k : Fin 4096) : EReal :=
  ∑ c : Fin 4096, x (ix2 q c) * w (ix3 e c k)

theorem product_apply (x : S36864x4096.Idx → Elt Ideal .bf16) (E : S72.Idx → BitVec 32) (N : S1.Idx → BitVec 32) (w : S8x4096x4096.Idx → Elt Ideal .f32)
    (h : ∀ t : Fin 72, (E (ix1 t)).toNat < 8) (q : Fin 36864) (k : Fin 4096) :
    product x E N w (ix2 q k) = if active (⟨q.val / 512, by omega⟩ : Fin 72) (N (ix1 0)) = true
      then entry x w (expert (E (ix1 (⟨q.val / 512, by omega⟩ : Fin 72)))) q k else 0 := by
  show shapeCast S36864x4096 (masked x E N w) Facts₀.shapeCasts_S72x512x4096_S36864x4096 (ix2 q k) = _
  refine (flat_apply (masked x E N w) Facts₀.shapeCasts_S72x512x4096_S36864x4096 q k).trans ?_
  have hc : ∀ i : S_.Idx, shapeCast S_ N Facts₀.shapeCasts_S1_S_ i = N (ix1 0) := point_apply N Facts₀.shapeCasts_S1_S_
  show (if IntOp.cmpi .slt (BitVec.ofNat 32 (q.val / 512)) (shapeCast S_ N Facts₀.shapeCasts_S1_S_ _) = 1#1 then _ else Ideal.ofBits .f32 0x00000000#32) = _
  rw [hc, Ideal.ofBits_zero_f32]
  have hs := slt_iff (⟨q.val / 512, by omega⟩ : Fin 72) (N (ix1 0))
  by_cases ha : active (⟨q.val / 512, by omega⟩ : Fin 72) (N (ix1 0)) = true
  · rw [if_pos (hs.2 ha), if_pos ha]
    refine (StackMember.dotGeneral_stack_apply Facts₀.dot_S72x512x4096_S72x4096x4096_S72x512x4096_2_1_1_2_0_0_wf none _ _ _ _ _).trans ?_
    refine Finset.sum_congr rfl fun c _ => ?_
    refine congrArg₂ (· * ·) ((tiled_apply _ _ _ _ _).trans ?_) (picked_apply _ _ _ w E _ c k (h _))
    refine congrArg x (congrArg (fun r : Fin 36864 => ix2 r c) (Fin.ext ?_))
    show q.val / 512 * 512 + q.val % 512 = q.val
    omega
  · rw [if_neg (fun h' => ha (hs.1 h')), if_neg ha]

/-- One block's product at an element. -/
theorem prod_apply (x : S512x4096.Idx → Elt Ideal .bf16) (w : Cert.Kernel3Ideal.S1x4096x1024.Idx → Elt Ideal .bf16) (r : Fin 512) (k : Fin 1024) :
    prod x w (ix2 r k) = ∑ c : Fin 4096, x (ix2 r c) * w (ix3 (0 : Fin 1) c k) := by
  unfold prod
  refine (Ideal.matmul_plain_apply (M := 512) (K := 4096) (N := 1024) (φ₁ := .bf16) (φ₂ := .bf16) none x _ _ r k).trans ?_
  show Ideal.ofBits .f32 0x00000000#32 + _ = _
  rw [Ideal.ofBits_zero_f32, zero_add]
  refine Finset.sum_congr rfl fun c _ => ?_
  refine congrArg (x (ix2 r c) * ·) (shapeCast_apply w _ _ _ ?_)
  rw [Shape.rowMajor_val_three, Shape.rowMajor_val_two]
  show (0 * 4096 + c.val) * 1024 + k.val = c.val * 1024 + k.val
  omega

theorem G_apply (x : S36864x4096.Idx → Elt Ideal .bf16) (E : S72.Idx → BitVec 32) (N : S1.Idx → BitVec 32) (w : S8x4096x4096.Idx → Elt Ideal .bf16)
    (q : Fin 36864) (k : Fin 4096) :
    G x E N w (ix2 q k) = if active (⟨q.val / 512, by omega⟩ : Fin 72) (N (ix1 0)) = true
      then entry x w (expert (E (ix1 (⟨q.val / 512, by omega⟩ : Fin 72)))) q k else 0 := by
  show resBlock x (E (ix1 (⟨q.val / 512, by omega⟩ : Fin 72))) (N (ix1 0)) w (⟨q.val / 512, by omega⟩ : Fin 72) (⟨k.val / 1024, by omega⟩ : Fin 4)
    (ix2 (⟨q.val % 512, Nat.mod_lt _ (by decide)⟩ : Fin 512) (⟨k.val % 1024, Nat.mod_lt _ (by decide)⟩ : Fin 1024)) = _
  unfold resBlock
  by_cases ha : active (⟨q.val / 512, by omega⟩ : Fin 72) (N (ix1 0)) = true
  · rw [if_pos ha, if_pos ha, prod_apply]
    refine Finset.sum_congr rfl fun c _ => congrArg₂ (· * ·) ?_ ?_
    · refine congrArg x (congrArg (fun r : Fin 36864 => ix2 r c) (Fin.ext ?_))
      show q.val / 512 * 512 + q.val % 512 = q.val
      omega
    · refine congrArg w (congrArg (fun r : Fin 4096 => ix3 _ c r) (Fin.ext ?_))
      show k.val / 1024 * 1024 + k.val % 1024 = k.val
      omega
  · rw [if_neg ha, if_neg ha]
    show Ideal.ofBits .bf16 0x0000#16 = 0
    simp [Ideal.ofBits, Ideal.ieee]

/-- The reference's result is what the kernel leaves. -/
theorem product_eq (x : S36864x4096.Idx → Elt Ideal .bf16) (E : S72.Idx → BitVec 32) (N : S1.Idx → BitVec 32) (w : S8x4096x4096.Idx → Elt Ideal .f32)
    (h : ∀ t : Fin 72, (E (ix1 t)).toNat < 8) : product x E N w = G x E N (rounded w) := by
  funext y
  obtain ⟨q, k, rfl⟩ : ∃ (q : Fin 36864) (k : Fin 4096), y = ix2 q k := ⟨y 0, y 1, eq_ix2 y⟩
  rw [product_apply x E N w h, G_apply]
  rfl

theorem scalar_unique : Subsingleton Cert.Pre_experts_in_range3.S_.Idx := ⟨fun _ _ => funext fun a => a.elim0⟩

/-- The precondition, tile by tile. -/
theorem below_of_pre {F : FTy → Type} [FloatOps F] (x : S36864x4096.Idx → Elt F .bf16) (E : S72.Idx → BitVec 32) (N : S1.Idx → BitVec 32)
    (w : S8x4096x4096.Idx → Elt F .f32) (h : Cert.Pre_experts_in_range3.fn (F := F) x E N w = fun _ => 1#1) (t : Fin 72) : (E (ix1 t)).toNat < 8 := by
  haveI := scalar_unique
  have h0 := congrFun h (fun a => a.elim0)
  unfold Cert.Pre_experts_in_range3.fn at h0
  exact below _ (Host.reduce_andi_all _ _ _ _ _ h0 (ix1 t))

end Cert.Kernel3Ideal.Down

end
-- ==== Proof.Rows.lean ====
module

public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

/-! # Sums along the rows of a block

A row's sum, kept as a column and spread over the columns of a block again, reads at `(r, c)` as the sum of row `r`. -/

namespace Cert.Rows

open Idealize.ShloMosaic Idealize.ShloMosaic.ValueIdx

variable {a b n : Nat}

/-- A column spread over the columns of a block. -/
theorem column_apply {α : Type} (v : (⟨2, ![a, 1]⟩ : Shape).Idx → α) (h : (⟨2, ![a, 1]⟩ : Shape).Broadcasts ⟨2, ![a, b]⟩)
    (ha : a ≠ 1) (r : Fin a) (c : Fin b) : broadcastTo ⟨2, ![a, b]⟩ v h (ix2 r c) = v (ix2 r (0 : Fin 1)) :=
  broadcastTo_apply v h (ix2 r c) (ix2 r (0 : Fin 1)) fun ax => by
    match ax with
    | ⟨0, _⟩ => show r.val = if a = 1 then 0 else r.val; rw [if_neg ha]
    | ⟨1, _⟩ => rfl

/-- A row's sum kept as a column. -/
theorem sum_apply (src : FVec Ideal ⟨2, ![a, n]⟩ .f32) (h : (⟨2, ![a, n]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (r : Fin a) :
    shapeCast ⟨2, ![a, 1]⟩ (multiReduction .add [1] ⟨1, ![a]⟩ src 0x00000000#32 h hφ hacc) hc (ix2 r (0 : Fin 1))
      = ∑ k : Fin n, src (ix2 r k) := by
  refine (shapeCast_a_a1_apply _ hc r 0).trans ?_
  refine (Ideal.multiReduction_add_single src _ h hφ hacc (ix1 r)).trans ?_
  refine Finset.sum_congr rfl fun k _ => congrArg src (funext fun ax => Fin.ext ?_)
  match ax with
  | ⟨0, _⟩ => rfl
  | ⟨1, _⟩ => rfl

end Cert.Rows

end
-- ==== Proof.CombineValue.lean ====
module

public import proofs.«01_k».proof.Proof.Whole
public import proofs.«01_k».proof.Proof.Rows
public import Idealize.ShloMosaic.Lib.Pipeline.Covers
public import Idealize.ShloMosaic.Lib.ValueIdx
public import Idealize.ShloMosaic.Lib.ValueLayout
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

/-! # The experts' outputs weighed, summed and added to the residual stream

The result at row `q`, column `k` is `x[q, k] + gate[k] · (p · y₀[q, k] + p' · y₁[q, k])`: `y₀` and `y₁` are the rows of the two
experts of row `q`, `p` and `p'` the weights the routing table keeps in its columns 2 and 3, the gate is that of the
row's batch. The kernel reads a weight off the table as the sum of the row with every other column replaced by zero. -/

namespace Cert.Kernel4Ideal.Combine

open Cert.Kernel4Ideal Cert.Kernel4Ideal.Gen
open Idealize.ShloMosaic Idealize.ShloMosaic.TcCoe Idealize.ShloMosaic.Tactic
open Idealize.ShloMosaic.Pipeline
open Idealize.SL Idealize.SL.Sem
open Idealize.ShloMosaic.ValueIdx
open Cert.Whole

/-- The result. -/
def G (x : S16384x4096.Idx → EReal) (y : S2x16384x32x128.Idx → EReal) (p : S16384x128.Idx → EReal) (g : S2x1x4096.Idx → EReal) :
    S16384x4096.Idx → EReal := fun i =>
  have h0 : (i 0).val < 16384 := (i 0).isLt
  have h1 : (i 1).val < 4096 := (i 1).isLt
  x (ix2 (i 0 : Fin 16384) (i 1 : Fin 4096)) + g (ix3 (⟨(i 0).val / 8192, by omega⟩ : Fin 2) (0 : Fin 1) (i 1 : Fin 4096))
    * (p (ix2 (i 0 : Fin 16384) (2 : Fin 128)) * y (ix4 (0 : Fin 2) (i 0 : Fin 16384) (⟨(i 1).val / 128, by omega⟩ : Fin 32) (⟨(i 1).val % 128, by omega⟩ : Fin 128))
      + p (ix2 (i 0 : Fin 16384) (3 : Fin 128)) * y (ix4 (1 : Fin 2) (i 0 : Fin 16384) (⟨(i 1).val / 128, by omega⟩ : Fin 32) (⟨(i 1).val % 128, by omega⟩ : Fin 128)))

/-- The sum of a row whose columns other than `l` are replaced by zero is its column `l`. -/
theorem pick (p : S256x128.Idx → Elt Ideal .f32) (l : Fin 128) (r : Fin 256) :
    ∑ k : Fin 128, select (cmpi .eq (iota .tc S256x128 32 [1] iota_S256x128_d1_w32) (broadcast S256x128 (BitVec.ofNat 32 l.val))) p
      (broadcast S256x128 (Scalar.ofBits (F := Ideal) .f32 0x00000000#32)) (ix2 r k) = p (ix2 r l) := by
  have e : ∀ k : Fin 128, select (cmpi .eq (iota .tc S256x128 32 [1] iota_S256x128_d1_w32) (broadcast S256x128 (BitVec.ofNat 32 l.val))) p
      (broadcast S256x128 (Scalar.ofBits (F := Ideal) .f32 0x00000000#32)) (ix2 r k) = if k = l then p (ix2 r k) else 0 := fun k => by
    show (if IntOp.cmpi .eq (iota .tc S256x128 32 [1] iota_S256x128_d1_w32 (ix2 r k)) (BitVec.ofNat 32 l.val) = 1#1 then p (ix2 r k) else Ideal.ofBits .f32 0x00000000#32) = _
    rw [iota_single_apply, Ideal.ofBits_zero_f32]
    show (if IntOp.cmpi .eq (BitVec.ofNat 32 k.val) (BitVec.ofNat 32 l.val) = 1#1 then p (ix2 r k) else 0) = _
    have hk : k.val < 128 := k.isLt
    have hl : l.val < 128 := l.isLt
    refine if_congr ?_ rfl rfl
    constructor
    · intro h
      by_contra hne
      have : (BitVec.ofNat 32 k.val == BitVec.ofNat 32 l.val) = false := by
        rw [beq_eq_false_iff_ne]
        intro h'
        have := congrArg BitVec.toNat h'
        rw [BitVec.toNat_ofNat, BitVec.toNat_ofNat, Nat.mod_eq_of_lt (by omega), Nat.mod_eq_of_lt (by omega)] at this
        exact hne (Fin.ext this)
      simp [IntOp.cmpi, this] at h
    · rintro rfl
      simp [IntOp.cmpi]
  rw [Finset.sum_congr rfl fun k _ => e k, Finset.sum_ite_eq' Finset.univ l, if_pos (Finset.mem_univ l)]

/-- One block's values from what the point finds in its windows. -/
theorem pay_apply (p : S256x128.Idx → Elt Ideal .f32) (y₀ y₁ : S1x256x4096.Idx → Elt Ideal .bf16) (x : S256x4096.Idx → Elt Ideal .f32)
    (g : S1x1x4096.Idx → Elt Ideal .f32) (r : Fin 256) (k : Fin 4096) :
    k0_pay1 (F := Ideal) p y₀ y₁ x g (ix2 r k) = x (ix2 r k) + g (ix3 (0 : Fin 1) (0 : Fin 1) k)
      * (p (ix2 r (2 : Fin 128)) * y₀ (ix3 (0 : Fin 1) r k) + p (ix2 r (3 : Fin 128)) * y₁ (ix3 (0 : Fin 1) r k)) := by
  unfold k0_pay1
  refine congrArg₂ (· + ·) rfl (congrArg₂ (· * ·) ?_ (congrArg₂ (· + ·) (congrArg₂ (· * ·) ?_ ?_) (congrArg₂ (· * ·) ?_ ?_)))
  · refine (broadcastTo_1b_ab_apply _ _ r k).trans (shapeCast_apply g _ _ _ ?_)
    rw [Shape.rowMajor_val_three, Shape.rowMajor_val_two]
    show (0 * 1 + 0) * 4096 + k.val = 0 * 4096 + k.val
    omega
  · exact (Rows.column_apply _ _ (by decide) r k).trans ((Rows.sum_apply _ _ _ _ _ r).trans (pick p 2 r))
  · exact shapeCast_1ab_ab_apply y₀ _ r k
  · exact (Rows.column_apply _ _ (by decide) r k).trans ((Rows.sum_apply _ _ _ _ _ r).trans (pick p 3 r))
  · exact shapeCast_1ab_ab_apply y₁ _ r k

theorem out_apply (x : S256x4096.Idx → Elt Ideal .f32) (y : S2x256x4096.Idx → Elt Ideal .bf16) (p : S256x128.Idx → Elt Ideal .f32)
    (g : S1x1x4096.Idx → Elt Ideal .f32) (r : Fin 256) (k : Fin 4096) :
    out0_4 (F := Ideal) x y p g (ix2 r k) = x (ix2 r k) + g (ix3 (0 : Fin 1) (0 : Fin 1) k)
      * (p (ix2 r (2 : Fin 128)) * y (ix3 (0 : Fin 2) r k) + p (ix2 r (3 : Fin 128)) * y (ix3 (1 : Fin 2) r k)) := by
  unfold out0_4
  rw [View.canon_unit_zero hz2, View.ld_unit_zero (S := S256x128) hz2, View.ld_unit_zero (S := S256x4096) hz2, View.ld_unit_zero (S := S1x1x4096) hz3]
  have e0 : View.ld y r0_1 (ix3 (0 : Fin 1) r k) = y (ix3 (0 : Fin 2) r k) := congrArg y (funext fun a => Fin.ext (by
    match a with
    | ⟨0, _⟩ => show 0 + 1 * 0 = 0; rfl
    | ⟨1, _⟩ => show 0 + 1 * r.val = r.val; omega
    | ⟨2, _⟩ => show 0 + 1 * k.val = k.val; omega))
  have e1 : View.ld y r0_2 (ix3 (0 : Fin 1) r k) = y (ix3 (1 : Fin 2) r k) := congrArg y (funext fun a => Fin.ext (by
    match a with
    | ⟨0, _⟩ => show 1 + 1 * 0 = 1; rfl
    | ⟨1, _⟩ => show 0 + 1 * r.val = r.val; omega
    | ⟨2, _⟩ => show 0 + 1 * k.val = k.val; omega))
  refine (pay_apply p _ _ x g r k).trans ?_
  exact congrArg (fun z => x (ix2 r k) + g (ix3 (0 : Fin 1) (0 : Fin 1) k) * z)
    (congrArg₂ (· + ·) (congrArg (p (ix2 r (2 : Fin 128)) * ·) e0) (congrArg (p (ix2 r (3 : Fin 128)) * ·) e1))

variable (m : (ℓ : Loc nD τ sig) → Buf (Elt Ideal) ℓ) (ρ : Dev nD → PrngReg)

abbrev argX (c : Dev nD) : S16384x4096.Idx → Elt Ideal .f32 := m ((c.tc : Thread nD τ).loc main_arg0)
abbrev argY (c : Dev nD) : S2x16384x32x128.Idx → Elt Ideal .bf16 := m ((c.tc : Thread nD τ).loc main_arg1)
abbrev argP (c : Dev nD) : S16384x128.Idx → Elt Ideal .f32 := m ((c.tc : Thread nD τ).loc main_arg2)
abbrev argG (c : Dev nD) : S2x1x4096.Idx → Elt Ideal .f32 := m ((c.tc : Thread nD τ).loc main_arg3)

theorem V_v0 (c : Dev nD) : V m c main_v0 = shapeCast S2x16384x4096 (argY m c) shapeCasts_S2x16384x32x128_S2x16384x4096 := by
  show StableHlo.after hostOps0 (fun b => m (c, b)) (Proc.devRef .tc main_v0) = _
  after_results; rfl

/-! ## Which block each window holds -/

theorem tr_0 : ∀ i : grid0.Coords, cc0_transform_0 i 0 = (i 0).val ∧ cc0_transform_0 i 1 = 0 := by decide +kernel
theorem tr_1 : ∀ i : grid0.Coords, cc0_transform_1 i 0 = 0 ∧ cc0_transform_1 i 1 = (i 0).val ∧ cc0_transform_1 i 2 = 0 := by decide +kernel
theorem tr_2 : ∀ i : grid0.Coords, cc0_transform_2 i 0 = (i 0).val ∧ cc0_transform_2 i 1 = 0 := by decide +kernel
theorem tr_3 : ∀ i : grid0.Coords, cc0_transform_3 i 0 = (i 0).val / 32 ∧ cc0_transform_3 i 1 = 0 ∧ cc0_transform_3 i 2 = 0 := by decide +kernel
theorem tr_4 : ∀ i : grid0.Coords, cc0_transform_4 i 0 = (i 0).val ∧ cc0_transform_4 i 1 = 0 := by decide +kernel

theorem blk_0 (c : Dev nD) (t : Fin cfg0.N) (r : Fin 256) (k : Fin 4096) (q : Fin 16384) (hq : q.val = (grid0.coords t 0).val * 256 + r.val) :
    iblk m c 0 t (ix2 r k) = argX m c (ix2 q k) := by
  obtain ⟨e0, e1⟩ := tr_0 (grid0.coords t)
  unfold iblk
  show V m c main_arg0 (((cfg0.win 0).blk t).view.emb (ix2 r k)) = _
  rw [V_main_arg0]
  refine congrArg (argX m c) (funext fun a => Fin.ext ?_)
  match a with
  | ⟨0, _⟩ => show cc0_transform_0 (grid0.coords t) 0 * 256 + 1 * r.val = q.val; rw [e0, hq]; omega
  | ⟨1, _⟩ => show cc0_transform_0 (grid0.coords t) 1 * 4096 + 1 * k.val = k.val; rw [e1]; omega

theorem blk_1 (c : Dev nD) (t : Fin cfg0.N) (e : Fin 2) (r : Fin 256) (k : Fin 4096) (q : Fin 16384) (u : Fin 32) (v : Fin 128)
    (hq : q.val = (grid0.coords t 0).val * 256 + r.val) (hk : u.val * 128 + v.val = k.val) :
    iblk m c 1 t (ix3 e r k) = argY m c (ix4 e q u v) := by
  obtain ⟨e0, e1, e2⟩ := tr_1 (grid0.coords t)
  unfold iblk
  show V m c main_v0 (((cfg0.win 1).blk t).view.emb (ix3 e r k)) = _
  rw [V_v0]
  refine shapeCast_apply (argY m c) _ _ _ ?_
  rw [Shape.rowMajor_val_four, Shape.rowMajor_val_three]
  show ((e.val * 16384 + q.val) * 32 + u.val) * 128 + v.val = ((cc0_transform_1 (grid0.coords t) 0 * 2 + 1 * e.val) * 16384
    + (cc0_transform_1 (grid0.coords t) 1 * 256 + 1 * r.val)) * 4096 + (cc0_transform_1 (grid0.coords t) 2 * 4096 + 1 * k.val)
  rw [e0, e1, e2, hq, ← hk]; omega

theorem blk_2 (c : Dev nD) (t : Fin cfg0.N) (r : Fin 256) (k : Fin 128) (q : Fin 16384) (hq : q.val = (grid0.coords t 0).val * 256 + r.val) :
    iblk m c 2 t (ix2 r k) = argP m c (ix2 q k) := by
  obtain ⟨e0, e1⟩ := tr_2 (grid0.coords t)
  unfold iblk
  show V m c main_arg2 (((cfg0.win 2).blk t).view.emb (ix2 r k)) = _
  rw [V_main_arg2]
  refine congrArg (argP m c) (funext fun a => Fin.ext ?_)
  match a with
  | ⟨0, _⟩ => show cc0_transform_2 (grid0.coords t) 0 * 256 + 1 * r.val = q.val; rw [e0, hq]; omega
  | ⟨1, _⟩ => show cc0_transform_2 (grid0.coords t) 1 * 128 + 1 * k.val = k.val; rw [e1]; omega

theorem blk_3 (c : Dev nD) (t : Fin cfg0.N) (k : Fin 4096) (b : Fin 2) (hb : b.val = (grid0.coords t 0).val / 32) :
    iblk m c 3 t (ix3 (0 : Fin 1) (0 : Fin 1) k) = argG m c (ix3 b (0 : Fin 1) k) := by
  obtain ⟨e0, e1, e2⟩ := tr_3 (grid0.coords t)
  unfold iblk
  show V m c main_arg3 (((cfg0.win 3).blk t).view.emb (ix3 (0 : Fin 1) (0 : Fin 1) k)) = _
  rw [V_main_arg3]
  refine congrArg (argG m c) (funext fun a => Fin.ext ?_)
  match a with
  | ⟨0, _⟩ => show cc0_transform_3 (grid0.coords t) 0 * 1 + 1 * 0 = b.val; rw [e0, hb]; omega
  | ⟨1, _⟩ => show cc0_transform_3 (grid0.coords t) 1 * 1 + 1 * 0 = 0; rw [e1]
  | ⟨2, _⟩ => show cc0_transform_3 (grid0.coords t) 2 * 4096 + 1 * k.val = k.val; rw [e2]; omega

/-! ## The blocks tile the result -/

theorem nblk_0 : (cfg0.win 4).nblk (0 : Fin 2) = 64 :=
  show (S16384x4096.size 0 + S256x4096.size 0 - 1) / S256x4096.size 0 = 64 by decide
theorem nblk_1 : (cfg0.win 4).nblk (1 : Fin 2) = 1 :=
  show (S16384x4096.size 1 + S256x4096.size 1 - 1) / S256x4096.size 1 = 1 by decide

theorem covers_4 : (cfg0.win 4).Covers :=
  (cfg0.win 4).covers_of_indexMap_surj rfl (show ∀ a : Fin 2, 0 < S256x4096.size a by decide)
    fun (β : (a : Fin 2) → Fin ((cfg0.win 4).nblk a)) =>
    have h0 : (β 0).val < 64 := lt_of_lt_of_eq (β 0).isLt nblk_0
    have h1 : (β 1).val < 1 := lt_of_lt_of_eq (β 1).isLt nblk_1
    have e := tr_4 (fun | ⟨0, _⟩ => ⟨(β 0).val, h0⟩ : grid0.Coords)
    ⟨(fun | ⟨0, _⟩ => ⟨(β 0).val, h0⟩ : grid0.Coords), fun (a : Fin 2) => by
      match a with
      | ⟨0, _⟩ => exact e.1
      | ⟨1, _⟩ => exact e.2.trans (show 0 = (β 1).val by omega)⟩

/-- Where the point's block of the result lies. -/
theorem emb_4_0 (t : Fin cfg0.N) (y : S256x4096.Idx) :
    (((cfg0.win 4).blk t).view.emb y (0 : Fin 2)).val = (grid0.coords t 0).val * 256 + (y 0).val := by
  show cc0_transform_4 (grid0.coords t) 0 * 256 + 1 * (y 0).val = _
  rw [(tr_4 (grid0.coords t)).1, Nat.one_mul]
theorem emb_4_1 (t : Fin cfg0.N) (y : S256x4096.Idx) : (((cfg0.win 4).blk t).view.emb y (1 : Fin 2)).val = (y 1).val := by
  show cc0_transform_4 (grid0.coords t) 1 * 4096 + 1 * (y 1).val = _
  rw [(tr_4 (grid0.coords t)).2, Nat.one_mul, Nat.zero_mul, Nat.zero_add]

/-- What a point leaves is its block of the result. -/
theorem block_eq (c : Dev nD) (t : Fin cfg0.N) (y : S256x4096.Idx) (i : S16384x4096.Idx)
    (h0 : (i 0).val = (grid0.coords t 0).val * 256 + (y 0).val) (h1 : (i 1).val = (y 1).val) :
    out0_4 (F := Ideal) (iblk m c 0 t) (iblk m c 1 t) (iblk m c 2 t) (iblk m c 3 t) y = G (argX m c) (argY m c) (argP m c) (argG m c) i := by
  obtain ⟨r, k, rfl⟩ : ∃ (r : Fin 256) (k : Fin 4096), y = ix2 r k := ⟨y 0, y 1, eq_ix2 y⟩
  replace h0 : (i 0).val = (grid0.coords t 0).val * 256 + r.val := h0
  obtain rfl : (i 1 : Fin 4096) = k := Fin.ext h1
  have hr : r.val < 256 := r.isLt
  have hi : (i 0).val < 16384 := (i 0).isLt
  have hb : ∀ h, ((⟨(i 0).val / 8192, h⟩ : Fin 2)).val = (grid0.coords t 0).val / 32 := fun _ => by
    show (i 0).val / 8192 = _; omega
  have hk : ∀ h h', (⟨(i 1).val / 128, h⟩ : Fin 32).val * 128 + (⟨(i 1).val % 128, h'⟩ : Fin 128).val = (i 1 : Fin 4096).val := fun _ _ => by
    show (i 1).val / 128 * 128 + (i 1).val % 128 = (i 1).val; omega
  refine (out_apply _ _ _ _ r _).trans ?_
  unfold G
  dsimp only
  exact congrArg₂ (· + ·) (blk_0 m c t r _ _ h0) (congrArg₂ (· * ·) (blk_3 m c t _ _ (hb _))
    (congrArg₂ (· + ·) (congrArg₂ (· * ·) (blk_2 m c t r 2 _ h0) (blk_1 m c t 0 r _ _ _ _ h0 (hk _ _)))
      (congrArg₂ (· * ·) (blk_2 m c t r 3 _ h0) (blk_1 m c t 1 r _ _ _ _ h0 (hk _ _)))))

theorem arrAt_4 (c : Dev nD) : (dats m 0 c).arrAt 4 cfg0.N = G (argX m c) (argY m c) (argP m c) (argG m c) :=
  (dats m 0 c).arrAt_eq_of_covers 4 _ covers_4 fun t _ (y : S256x4096.Idx) => by
    have key := block_eq m c t y _ (emb_4_0 t y) (emb_4_1 t y)
    rw [after0_4]
    generalize out0_4 (F := Ideal) (iblk m c 0 t) (iblk m c 1 t) (iblk m c 2 t) (iblk m c 3 t) = o at key ⊢
    exact key

/-! ## The reference's value -/

open Cert.Reference4Ideal.Read in
/-- The rows of expert `e`, as the reference views them. -/
theorem row_eq (y : S2x16384x32x128.Idx → Elt Ideal .bf16) (e : Fin 2) (q : Fin 16384) (k : Fin 4096) :
    val_main_v1 (F := Ideal) y (ix3 e q k)
      = y (ix4 e q (⟨k.val / 128, by omega⟩ : Fin 32) (⟨k.val % 128, by omega⟩ : Fin 128)) := by
  have he : e.val < 2 := e.isLt
  have h0 : q.val < 16384 := q.isLt
  have h1 : k.val < 4096 := k.isLt
  refine (val_main_v1_apply y _).trans ((val_main_v0_apply y _).trans (congrArg y (funext fun a => Fin.ext ?_)))
  match a with
  | ⟨0, _⟩ => show ((e.val * 16384 + q.val) * 4096 + k.val) / 67108864 = e.val; omega
  | ⟨1, _⟩ => show ((e.val * 16384 + q.val) * 4096 + k.val) / 4096 % 16384 = q.val; omega
  | ⟨2, _⟩ => show ((e.val * 16384 + q.val) * 4096 + k.val) / 128 % 32 = k.val / 128; omega
  | ⟨3, _⟩ => show ((e.val * 16384 + q.val) * 4096 + k.val) % 128 = k.val % 128; omega

open Cert.Reference4Ideal.Read in
theorem reference_eq (x : S16384x4096.Idx → Elt Ideal .f32) (y : S2x16384x32x128.Idx → Elt Ideal .bf16) (p : S16384x128.Idx → Elt Ideal .f32)
    (g : S2x1x4096.Idx → Elt Ideal .f32) : val_main_v18 (F := Ideal) x y p g = G x y p g := by
  funext i
  obtain ⟨q, k, rfl⟩ : ∃ (q : Fin 16384) (k : Fin 4096), i = ix2 q k := ⟨i 0, i 1, eq_ix2 i⟩
  have h0 : q.val < 16384 := q.isLt
  have h1 : k.val < 4096 := k.isLt
  have ei : idx_main_v18 (ix2 q k) = ix3 (⟨q.val / 8192, by omega⟩ : Fin 2) (⟨q.val % 8192, by omega⟩ : Fin 8192) k := by
    funext a
    refine Fin.ext ?_
    match a with
    | ⟨0, _⟩ => show (q.val * 4096 + k.val) / 33554432 = q.val / 8192; omega
    | ⟨1, _⟩ => show (q.val * 4096 + k.val) / 4096 % 8192 = q.val % 8192; omega
    | ⟨2, _⟩ => show (q.val * 4096 + k.val) % 4096 = k.val; omega
  have eq13 : idx_main_v13 (ix3 (⟨q.val / 8192, by omega⟩ : Fin 2) (⟨q.val % 8192, by omega⟩ : Fin 8192) k) = ix2 q k := by
    funext a
    refine Fin.ext ?_
    match a with
    | ⟨0, _⟩ => show ((q.val / 8192 * 8192 + q.val % 8192) * 4096 + k.val) / 4096 = q.val; omega
    | ⟨1, _⟩ => show ((q.val / 8192 * 8192 + q.val % 8192) * 4096 + k.val) % 4096 = k.val; omega
  have e4 : idx_main_v4 (ix2 q k) = ix3 (0 : Fin 1) q k := by
    funext a
    refine Fin.ext ?_
    match a with
    | ⟨0, _⟩ => rfl
    | ⟨1, _⟩ => show (q.val * 4096 + k.val) / 4096 % 16384 = q.val; omega
    | ⟨2, _⟩ => show (q.val * 4096 + k.val) % 4096 = k.val; omega
  have y0 : val_main_v4 (F := Ideal) y (ix2 q k) = y (ix4 (0 : Fin 2) q (⟨k.val / 128, by omega⟩ : Fin 32) (⟨k.val % 128, by omega⟩ : Fin 128)) := by
    refine (val_main_v4_apply y _).trans ((congrArg _ e4).trans ((val_main_v3_apply y _).trans (Eq.trans (congrArg _ ?_) (row_eq y 0 q k))))
    funext a; match a with | ⟨0, _⟩ => rfl | ⟨1, _⟩ => rfl | ⟨2, _⟩ => rfl
  have y1 : val_main_v9 (F := Ideal) y (ix2 q k) = y (ix4 (1 : Fin 2) q (⟨k.val / 128, by omega⟩ : Fin 32) (⟨k.val % 128, by omega⟩ : Fin 128)) := by
    refine (val_main_v9_apply y _).trans ((congrArg _ e4).trans ((val_main_v8_apply y _).trans (Eq.trans (congrArg _ ?_) (row_eq y 1 q k))))
    funext a; match a with | ⟨0, _⟩ => rfl | ⟨1, _⟩ => rfl | ⟨2, _⟩ => rfl
  have p0 : val_main_v5 (F := Ideal) p (ix2 q k) = p (ix2 q (2 : Fin 128)) := by
    refine (val_main_v5_apply p _).trans ((val_main_v2_apply p _).trans (congrArg p ?_))
    funext a; match a with | ⟨0, _⟩ => rfl | ⟨1, _⟩ => rfl
  have p1 : val_main_v10 (F := Ideal) p (ix2 q k) = p (ix2 q (3 : Fin 128)) := by
    refine (val_main_v10_apply p _).trans ((val_main_v7_apply p _).trans (congrArg p ?_))
    funext a; match a with | ⟨0, _⟩ => rfl | ⟨1, _⟩ => rfl
  refine (val_main_v18_apply x y p g _).trans ((congrArg _ ei).trans ((val_main_v17_apply x y p g _).trans ?_))
  refine congrArg₂ (· + ·) ((val_main_v13_apply x _).trans (congrArg x eq13)) ((val_main_v16_apply y p g _).trans (congrArg₂ (· * ·) ((val_main_v15_apply g _).trans (congrArg g ?_))
    ((val_main_v14_apply y p _).trans ((congrArg _ eq13).trans ((val_main_v12_apply y p _).trans (congrArg₂ (· + ·)
      ((val_main_v6_apply y p _).trans (congrArg₂ (· * ·) p0 y0)) ((val_main_v11_apply y p _).trans (congrArg₂ (· * ·) p1 y1))))))))
  funext a; match a with | ⟨0, _⟩ => rfl | ⟨1, _⟩ => rfl | ⟨2, _⟩ => rfl

end Cert.Kernel4Ideal.Combine

end
-- ==== Proof.FfnDownValue.lean ====
module

public import proofs.«01_k».proof.Proof.Whole
public import Idealize.ShloMosaic.Lib.Pipeline.Covers
public import Idealize.ShloMosaic.Lib.ValueIdx
public import Idealize.ShloMosaic.Lib.ValueLayout
public import Idealize.ShloMosaic.Lib.MatmulPlain
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

/-! # The dense down product with its gated residual

The result at row `q`, column `k` is `x[q, k] + gate[k] · ∑ c, h[q, c] · w[c, k]`, the gate of the row's batch. The blocks
of 512 rows and 512 columns tile it, and each grid point computes its block from whole rows of `h` and whole columns
of `w`. -/

namespace Cert.Kernel5Ideal.FfnDown

open Cert.Kernel5Ideal Cert.Kernel5Ideal.Gen
open Idealize.ShloMosaic Idealize.ShloMosaic.TcCoe Idealize.ShloMosaic.Tactic
open Idealize.ShloMosaic.Pipeline
open Idealize.SL Idealize.SL.Sem
open Idealize.ShloMosaic.ValueIdx
open Cert.Whole

/-- The result. -/
def G (h : S16384x11008.Idx → EReal) (x : S2x8192x4096.Idx → EReal) (g : S2x1x4096.Idx → EReal) (w : S11008x4096.Idx → EReal) :
    S16384x4096.Idx → EReal := fun i =>
  have h0 : (i 0).val < 16384 := (i 0).isLt
  x (ix3 (⟨(i 0).val / 8192, by omega⟩ : Fin 2) (⟨(i 0).val % 8192, by omega⟩ : Fin 8192) (i 1 : Fin 4096))
    + g (ix3 (⟨(i 0).val / 8192, by omega⟩ : Fin 2) (0 : Fin 1) (i 1 : Fin 4096))
      * ∑ c : Fin 11008, h (ix2 (i 0 : Fin 16384) c) * w (ix2 c (i 1 : Fin 4096))

/-- One block's values from what the point finds in its windows. -/
theorem pay_apply (x : S512x512.Idx → Elt Ideal .f32) (g : S1x1x512.Idx → Elt Ideal .f32) (h : S512x11008.Idx → Elt Ideal .bf16)
    (w : S11008x512.Idx → Elt Ideal .bf16) (r k : Fin 512) :
    k0_pay1 (F := Ideal) x g h w (ix2 r k) = x (ix2 r k) + g (ix3 (0 : Fin 1) (0 : Fin 1) k) * ∑ c : Fin 11008, h (ix2 r c) * w (ix2 c k) := by
  unfold k0_pay1
  refine congrArg₂ (· + ·) (shapeCast_apply x _ _ _ rfl) (congrArg₂ (· * ·) ?_ ?_)
  · refine (broadcastTo_1b_ab_apply _ _ r k).trans (shapeCast_apply g _ _ _ ?_)
    rw [Shape.rowMajor_val_three, Shape.rowMajor_val_two]
    show (0 * 1 + 0) * 512 + k.val = 0 * 512 + k.val
    omega
  · refine (Ideal.matmul_plain_apply (M := 512) (K := 11008) (N := 512) (φ₁ := .bf16) (φ₂ := .bf16) none h _ _ r k).trans ?_
    show Ideal.ofBits .f32 0x00000000#32 + _ = _
    rw [Ideal.ofBits_zero_f32, zero_add]
    exact Finset.sum_congr rfl fun c _ => congrArg (h (ix2 r c) * ·) (shapeCast_apply w _ _ _ rfl)

theorem out_apply (h : S512x11008.Idx → Elt Ideal .bf16) (w : S11008x512.Idx → Elt Ideal .bf16) (x : S512x512.Idx → Elt Ideal .f32)
    (g : S1x1x512.Idx → Elt Ideal .f32) (r k : Fin 512) :
    out0_4 (F := Ideal) h w x g (ix2 r k) = x (ix2 r k) + g (ix3 (0 : Fin 1) (0 : Fin 1) k) * ∑ c : Fin 11008, h (ix2 r c) * w (ix2 c k) := by
  unfold out0_4
  rw [View.canon_unit_zero hz2, View.ld_unit_zero (S := S512x512) hz2, View.ld_unit_zero (S := S1x1x512) hz3,
    View.ld_unit_zero (S := S512x11008) hz2, View.ld_unit_zero (S := S11008x512) hz2]
  exact pay_apply x g h w r k

variable (m : (ℓ : Loc nD τ sig) → Buf (Elt Ideal) ℓ) (ρ : Dev nD → PrngReg)

abbrev argH (c : Dev nD) : S16384x11008.Idx → Elt Ideal .bf16 := m ((c.tc : Thread nD τ).loc main_arg0)
abbrev argX (c : Dev nD) : S2x8192x4096.Idx → Elt Ideal .f32 := m ((c.tc : Thread nD τ).loc main_arg1)
abbrev argG (c : Dev nD) : S2x1x4096.Idx → Elt Ideal .f32 := m ((c.tc : Thread nD τ).loc main_arg2)
abbrev argW (c : Dev nD) : S11008x4096.Idx → Elt Ideal .f32 := m ((c.tc : Thread nD τ).loc main_arg3)

theorem V_v0 (c : Dev nD) : V m c main_v0 = truncf (F := Ideal) .bf16 (argW m c) bitsLt_bf16_f32 := by
  show StableHlo.after hostOps0 (fun b => m (c, b)) (Proc.devRef .tc main_v0) = _
  after_results
theorem V_v1 (c : Dev nD) : V m c main_v1 = shapeCast S16384x4096 (argX m c) shapeCasts_S2x8192x4096_S16384x4096 := by
  show StableHlo.after hostOps0 (fun b => m (c, b)) (Proc.devRef .tc main_v1) = _
  after_results; rfl

/-! ## Which block each window holds -/

theorem tr_0 : ∀ i : grid0.Coords, cc0_transform_0 i 0 = (i 0).val ∧ cc0_transform_0 i 1 = 0 := by decide +kernel
theorem tr_1 : ∀ i : grid0.Coords, cc0_transform_1 i 0 = 0 ∧ cc0_transform_1 i 1 = (i 1).val := by decide +kernel
theorem tr_2 : ∀ i : grid0.Coords, cc0_transform_2 i 0 = (i 0).val ∧ cc0_transform_2 i 1 = (i 1).val := by decide +kernel
theorem tr_3 : ∀ i : grid0.Coords, cc0_transform_3 i 0 = (i 0).val / 16 ∧ cc0_transform_3 i 1 = 0 ∧ cc0_transform_3 i 2 = (i 1).val := by decide +kernel
theorem tr_4 : ∀ i : grid0.Coords, cc0_transform_4 i 0 = (i 0).val ∧ cc0_transform_4 i 1 = (i 1).val := by decide +kernel

theorem blk_0 (c : Dev nD) (t : Fin cfg0.N) (r : Fin 512) (k : Fin 11008) (q : Fin 16384) (hq : q.val = (grid0.coords t 0).val * 512 + r.val) :
    iblk m c 0 t (ix2 r k) = argH m c (ix2 q k) := by
  obtain ⟨e0, e1⟩ := tr_0 (grid0.coords t)
  unfold iblk
  show V m c main_arg0 (((cfg0.win 0).blk t).view.emb (ix2 r k)) = _
  rw [V_main_arg0]
  refine congrArg (argH m c) (funext fun a => Fin.ext ?_)
  match a with
  | ⟨0, _⟩ => show cc0_transform_0 (grid0.coords t) 0 * 512 + 1 * r.val = q.val; rw [e0, hq]; omega
  | ⟨1, _⟩ => show cc0_transform_0 (grid0.coords t) 1 * 11008 + 1 * k.val = k.val; rw [e1]; omega

theorem blk_1 (c : Dev nD) (t : Fin cfg0.N) (r : Fin 11008) (k : Fin 512) (q : Fin 4096) (hq : q.val = (grid0.coords t 1).val * 512 + k.val) :
    iblk m c 1 t (ix2 r k) = argW m c (ix2 r q) := by
  obtain ⟨e0, e1⟩ := tr_1 (grid0.coords t)
  unfold iblk
  show V m c main_v0 (((cfg0.win 1).blk t).view.emb (ix2 r k)) = _
  rw [V_v0]
  refine congrArg (argW m c) (funext fun a => Fin.ext ?_)
  match a with
  | ⟨0, _⟩ => show cc0_transform_1 (grid0.coords t) 0 * 11008 + 1 * r.val = r.val; rw [e0]; omega
  | ⟨1, _⟩ => show cc0_transform_1 (grid0.coords t) 1 * 512 + 1 * k.val = q.val; rw [e1, hq]; omega

theorem blk_2 (c : Dev nD) (t : Fin cfg0.N) (r k : Fin 512) (b : Fin 2) (s : Fin 8192) (q : Fin 4096)
    (hs : b.val * 8192 + s.val = (grid0.coords t 0).val * 512 + r.val) (hq : q.val = (grid0.coords t 1).val * 512 + k.val) :
    iblk m c 2 t (ix2 r k) = argX m c (ix3 b s q) := by
  obtain ⟨e0, e1⟩ := tr_2 (grid0.coords t)
  unfold iblk
  show V m c main_v1 (((cfg0.win 2).blk t).view.emb (ix2 r k)) = _
  rw [V_v1]
  refine shapeCast_apply (argX m c) _ _ _ ?_
  rw [Shape.rowMajor_val_three, Shape.rowMajor_val_two]
  show (b.val * 8192 + s.val) * 4096 + q.val = (cc0_transform_2 (grid0.coords t) 0 * 512 + 1 * r.val) * 4096 + (cc0_transform_2 (grid0.coords t) 1 * 512 + 1 * k.val)
  rw [e0, e1, hs, hq]; omega

theorem blk_3 (c : Dev nD) (t : Fin cfg0.N) (k : Fin 512) (b : Fin 2) (q : Fin 4096)
    (hb : b.val = (grid0.coords t 0).val / 16) (hq : q.val = (grid0.coords t 1).val * 512 + k.val) :
    iblk m c 3 t (ix3 (0 : Fin 1) (0 : Fin 1) k) = argG m c (ix3 b (0 : Fin 1) q) := by
  obtain ⟨e0, e1, e2⟩ := tr_3 (grid0.coords t)
  unfold iblk
  show V m c main_arg2 (((cfg0.win 3).blk t).view.emb (ix3 (0 : Fin 1) (0 : Fin 1) k)) = _
  rw [V_main_arg2]
  refine congrArg (argG m c) (funext fun a => Fin.ext ?_)
  match a with
  | ⟨0, _⟩ => show cc0_transform_3 (grid0.coords t) 0 * 1 + 1 * 0 = b.val; rw [e0, hb]; omega
  | ⟨1, _⟩ => show cc0_transform_3 (grid0.coords t) 1 * 1 + 1 * 0 = 0; rw [e1]
  | ⟨2, _⟩ => show cc0_transform_3 (grid0.coords t) 2 * 512 + 1 * k.val = q.val; rw [e2, hq]; omega

/-! ## The blocks tile the result -/

theorem nblk_0 : (cfg0.win 4).nblk (0 : Fin 2) = 32 :=
  show (S16384x4096.size 0 + S512x512.size 0 - 1) / S512x512.size 0 = 32 by decide
theorem nblk_1 : (cfg0.win 4).nblk (1 : Fin 2) = 8 :=
  show (S16384x4096.size 1 + S512x512.size 1 - 1) / S512x512.size 1 = 8 by decide

theorem covers_4 : (cfg0.win 4).Covers :=
  (cfg0.win 4).covers_of_indexMap_surj rfl (show ∀ a : Fin 2, 0 < S512x512.size a by decide)
    fun (β : (a : Fin 2) → Fin ((cfg0.win 4).nblk a)) =>
    have h0 : (β 0).val < 32 := lt_of_lt_of_eq (β 0).isLt nblk_0
    have h1 : (β 1).val < 8 := lt_of_lt_of_eq (β 1).isLt nblk_1
    have e := tr_4 (fun | ⟨0, _⟩ => ⟨(β 0).val, h0⟩ | ⟨1, _⟩ => ⟨(β 1).val, h1⟩ : grid0.Coords)
    ⟨(fun | ⟨0, _⟩ => ⟨(β 0).val, h0⟩ | ⟨1, _⟩ => ⟨(β 1).val, h1⟩ : grid0.Coords), fun (a : Fin 2) => by
      match a with
      | ⟨0, _⟩ => exact e.1
      | ⟨1, _⟩ => exact e.2⟩

/-- Where the point's block of the result lies. -/
theorem emb_4_0 (t : Fin cfg0.N) (y : S512x512.Idx) :
    (((cfg0.win 4).blk t).view.emb y (0 : Fin 2)).val = (grid0.coords t 0).val * 512 + (y 0).val := by
  show cc0_transform_4 (grid0.coords t) 0 * 512 + 1 * (y 0).val = _
  rw [(tr_4 (grid0.coords t)).1, Nat.one_mul]
theorem emb_4_1 (t : Fin cfg0.N) (y : S512x512.Idx) :
    (((cfg0.win 4).blk t).view.emb y (1 : Fin 2)).val = (grid0.coords t 1).val * 512 + (y 1).val := by
  show cc0_transform_4 (grid0.coords t) 1 * 512 + 1 * (y 1).val = _
  rw [(tr_4 (grid0.coords t)).2, Nat.one_mul]

/-- What a point leaves is its block of the result. -/
theorem block_eq (c : Dev nD) (t : Fin cfg0.N) (y : S512x512.Idx) (i : S16384x4096.Idx)
    (h0 : (i 0).val = (grid0.coords t 0).val * 512 + (y 0).val) (h1 : (i 1).val = (grid0.coords t 1).val * 512 + (y 1).val) :
    out0_4 (F := Ideal) (iblk m c 0 t) (iblk m c 1 t) (iblk m c 2 t) (iblk m c 3 t) y = G (argH m c) (argX m c) (argG m c) (argW m c) i := by
  obtain ⟨r, k, rfl⟩ : ∃ r k : Fin 512, y = ix2 r k := ⟨y 0, y 1, eq_ix2 y⟩
  replace h0 : (i 0).val = (grid0.coords t 0).val * 512 + r.val := h0
  replace h1 : (i 1).val = (grid0.coords t 1).val * 512 + k.val := h1
  have hr : r.val < 512 := r.isLt
  have hi : (i 0).val < 16384 := (i 0).isLt
  refine (out_apply _ _ _ _ r k).trans ?_
  unfold G
  dsimp only
  refine congrArg₂ (· + ·) (blk_2 m c t r k _ _ _ ?_ h1) (congrArg₂ (· * ·) (blk_3 m c t k _ _ ?_ h1) ?_)
  · show (i 0).val / 8192 * 8192 + (i 0).val % 8192 = _; omega
  · show (i 0).val / 8192 = _; omega
  · exact Finset.sum_congr rfl fun j _ => congrArg₂ (· * ·) (blk_0 m c t r j _ h0) (blk_1 m c t j k _ h1)

theorem arrAt_4 (c : Dev nD) : (dats m 0 c).arrAt 4 cfg0.N = G (argH m c) (argX m c) (argG m c) (argW m c) :=
  (dats m 0 c).arrAt_eq_of_covers 4 _ covers_4 fun t _ (y : S512x512.Idx) => by
    have key := block_eq m c t y _ (emb_4_0 t y) (emb_4_1 t y)
    rw [after0_4]
    generalize out0_4 (F := Ideal) (iblk m c 0 t) (iblk m c 1 t) (iblk m c 2 t) (iblk m c 3 t) = o at key ⊢
    exact key

/-! ## The reference's value -/

open Cert.Reference5Ideal.Read in
theorem reference_eq (h : S16384x11008.Idx → Elt Ideal .bf16) (x : S2x8192x4096.Idx → Elt Ideal .f32) (g : S2x1x4096.Idx → Elt Ideal .f32)
    (w : S11008x4096.Idx → Elt Ideal .f32) : val_main_v6 (F := Ideal) h x g w = G h x g w := by
  funext i
  obtain ⟨q, k, rfl⟩ : ∃ (q : Fin 16384) (k : Fin 4096), i = ix2 q k := ⟨i 0, i 1, eq_ix2 i⟩
  have h0 : q.val < 16384 := q.isLt
  have h1 : k.val < 4096 := k.isLt
  have ei : idx_main_v6 (ix2 q k) = ix3 (⟨q.val / 8192, by omega⟩ : Fin 2) (⟨q.val % 8192, by omega⟩ : Fin 8192) k := by
    funext a
    refine Fin.ext ?_
    match a with
    | ⟨0, _⟩ => show (q.val * 4096 + k.val) / 33554432 = q.val / 8192; omega
    | ⟨1, _⟩ => show (q.val * 4096 + k.val) / 4096 % 8192 = q.val % 8192; omega
    | ⟨2, _⟩ => show (q.val * 4096 + k.val) % 4096 = k.val; omega
  refine (val_main_v6_apply h x g w _).trans ((congrArg _ ei).trans ((val_main_v5_apply h x g w _).trans ?_))
  refine congrArg₂ (· + ·) rfl ((val_main_v4_apply h g w _).trans (congrArg₂ (· * ·) ((val_main_v3_apply g _).trans (congrArg g ?_)) ((val_main_v2_apply h w _).trans
    (Finset.sum_congr rfl fun c _ => congrArg₂ (· * ·) ((val_main_v1_apply h _).trans (congrArg h ?_)) (congrArg w ?_)))))
  · funext a; match a with | ⟨0, _⟩ => rfl | ⟨1, _⟩ => rfl | ⟨2, _⟩ => rfl
  · refine funext fun a => Fin.ext ?_
    have hc : c.val < 11008 := c.isLt
    match a with
    | ⟨0, _⟩ => show ((q.val / 8192 * 8192 + q.val % 8192) * 11008 + c.val) / 11008 = q.val; omega
    | ⟨1, _⟩ => show ((q.val / 8192 * 8192 + q.val % 8192) * 11008 + c.val) % 11008 = c.val; omega
  · funext a; match a with | ⟨0, _⟩ => rfl | ⟨1, _⟩ => rfl

end Cert.Kernel5Ideal.FfnDown

end
-- ==== Proof.FfnGateUpBody.lean ====
module

public import proofs.«01_k».proof.Proof.Whole
public import proofs.«01_k».proof.Proof.Rows
public import proofs.«01_k».proof.Proof.Gen.Kernel6Ideal.Frame
public import Idealize.ShloMosaic.Lib.MatmulPlain
public import Idealize.ShloMosaic.Lib.Pipeline.ValueKit.Tiles

@[expose] public section

set_option maxRecDepth 16384

noncomputable section

/-! # One grid point of the dense gate and up products

The first point of a row tile normalises the tile's 1024 rows into a scratch, 256 rows at a time: row `r` is divided by
the root of its mean square, scaled by the norm's weights and by one plus the batch's scale, and shifted. Every point
then multiplies the scratch with its columns of the two weights, and leaves `silu (h·w1) * (h·w3)`. -/

namespace Cert.Kernel6Ideal.FfnGateUp

open Cert.Kernel6Ideal Cert.Kernel6Ideal.Gen
open Idealize.ShloMosaic Idealize.ShloMosaic.TcCoe Idealize.ShloMosaic.Tactic
open Idealize.ShloMosaic.Pipeline
open Idealize.SL Idealize.SL.Sem
open Idealize.ShloMosaic.ValueIdx
open Cert.Whole

/-- One entry of a normalised row: the row, the column, and the weight, shift and scale there. -/
def norm (x : Fin 4096 → EReal) (k : Fin 4096) (g sh sc : EReal) : EReal :=
  ((x k * Ideal.rsqrt (Ideal.div (∑ j : Fin 4096, x j * x j) (Ideal.ofBits .f32 0x45800000#32) + Ideal.ofBits .f32 0x358637BD#32)) * g)
    * (Ideal.ofBits .f32 0x3F800000#32 + sc) + sh

/-- The gate's activation times the up product. -/
def act (a b : EReal) : EReal :=
  a * Ideal.div (Ideal.ofBits .f32 0x3F800000#32) (Ideal.ofBits .f32 0x3F800000#32 + Ideal.exp (-a)) * b

/-! ## The four stores of 256 rows -/

theorem pay3_apply (x : S256x4096.Idx → Elt Ideal .f32) (g : S1x4096.Idx → Elt Ideal .f32) (sh sc : S1x1x4096.Idx → Elt Ideal .f32)
    (r : Fin 256) (k : Fin 4096) :
    k0_pay3 (F := Ideal) x g sh sc (ix2 r k)
      = norm (fun j => x (ix2 r j)) k (g (ix2 (0 : Fin 1) k)) (sh (ix3 (0 : Fin 1) (0 : Fin 1) k)) (sc (ix3 (0 : Fin 1) (0 : Fin 1) k)) := by
  have hx : ∀ j : Fin 4096, shapeCast S256x4096 x shapeCasts_S256x4096_S256x4096 (ix2 r j) = x (ix2 r j) :=
    fun j => shapeCast_apply x _ _ _ rfl
  have hv : ∀ v : S1x1x4096.Idx → Elt Ideal .f32, shapeCast S1x4096 v shapeCasts_S1x1x4096_S1x4096 (ix2 (0 : Fin 1) k) = v (ix3 (0 : Fin 1) (0 : Fin 1) k) :=
    fun v => shapeCast_apply v _ _ _ (by
      rw [Shape.rowMajor_val_three, Shape.rowMajor_val_two]
      show (0 * 1 + 0) * 4096 + k.val = 0 * 4096 + k.val
      omega)
  unfold k0_pay3
  refine (shapeCast_apply _ _ _ (ix2 r k) rfl).trans ?_
  refine congrArg₂ (· + ·) (congrArg₂ (· * ·) (congrArg₂ (· * ·) (congrArg₂ (· * ·) (hx k) ?_) ?_) ?_) ?_
  · refine (Rows.column_apply _ _ (by decide) r k).trans (congrArg Ideal.rsqrt (congrArg (· + Ideal.ofBits .f32 0x358637BD#32) (congrArg (Ideal.div · (Ideal.ofBits .f32 0x45800000#32)) ?_)))
    exact (Rows.sum_apply _ _ _ _ _ r).trans (Finset.sum_congr rfl fun j _ => congrArg₂ (· * ·) (hx j) (hx j))
  · exact (broadcastTo_1b_ab_apply _ _ r k).trans (shapeCast_apply g _ _ _ rfl)
  · exact (broadcastTo_1b_ab_apply _ _ r k).trans (congrArg (Ideal.ofBits .f32 0x3F800000#32 + ·) (hv sc))
  · exact (broadcastTo_1b_ab_apply _ _ r k).trans (hv sh)

theorem pay7_eq (x : S256x4096.Idx → Elt Ideal .f32) (g : S1x4096.Idx → Elt Ideal .f32) (sh sc : S1x1x4096.Idx → Elt Ideal .f32) :
    k0_pay7 (F := Ideal) (k0_pay4 x) (k0_pay5 g) (k0_pay6 sh) sc = k0_pay3 (F := Ideal) x g sh sc := rfl
theorem pay13_eq (x : S256x4096.Idx → Elt Ideal .f32) (g : S1x4096.Idx → Elt Ideal .f32) (sh sc : S1x1x4096.Idx → Elt Ideal .f32) :
    k0_pay13 (F := Ideal) (k0_pay8 x) (k0_pay9 g) (k0_pay10 sh) (k0_pay11 sc) (k0_pay12 x) (FloatOps.ofBits FTy.f32 897988541#32) = k0_pay3 (F := Ideal) x g sh sc := rfl
theorem pay1_eq (x : S256x4096.Idx → Elt Ideal .f32) (g : S1x4096.Idx → Elt Ideal .f32) (sh sc : S1x1x4096.Idx → Elt Ideal .f32) :
    k0_pay1 (F := Ideal) (k0_pay14 x g sc) (k0_pay15 sh) = k0_pay3 (F := Ideal) x g sh sc := rfl

/-- The scratch: the tile's rows, each normalised. -/
def rows (x0 : S1x1x4096.Idx → Elt Ideal .f32) (x1 : S1024x4096.Idx → Elt Ideal .f32) (x2 : S1x4096.Idx → Elt Ideal .f32)
    (x3 : S1x1x4096.Idx → Elt Ideal .f32) : S1024x4096.Idx → Elt Ideal .bf16 := fun y =>
  norm (fun j => x1 (ix2 (y 0 : Fin 1024) j)) (y 1) (x2 (ix2 (0 : Fin 1) (y 1 : Fin 4096)))
    (x0 (ix3 (0 : Fin 1) (0 : Fin 1) (y 1 : Fin 4096))) (x3 (ix3 (0 : Fin 1) (0 : Fin 1) (y 1 : Fin 4096)))

/-- A store of 256 normalised rows is those rows of the scratch. -/
theorem piece (x0 : S1x1x4096.Idx → Elt Ideal .f32) (x1 : S1024x4096.Idx → Elt Ideal .f32) (x2 : S1x4096.Idx → Elt Ideal .f32)
    (x3 : S1x1x4096.Idx → Elt Ideal .f32) (o : Nat) (inb : ∀ a, (![o, 0] : Fin 2 → Nat) a + S256x4096.size a ≤ S1024x4096.size a) (y : S256x4096.Idx) :
    k0_pay3 (F := Ideal) (View.ld (S := S1024x4096) x1 (Rect.unit ![o, 0] S256x4096.size inb)) x2 x0 x3 y
      = rows x0 x1 x2 x3 ((Rect.unit (s := S1024x4096) ![o, 0] S256x4096.size inb).emb y) := by
  obtain ⟨r, k, rfl⟩ : ∃ (r : Fin 256) (k : Fin 4096), y = ix2 r k := ⟨y 0, y 1, eq_ix2 y⟩
  have e0 : (((Rect.unit (s := S1024x4096) ![o, 0] S256x4096.size inb).emb (ix2 r k)) 0).val = o + r.val := by
    show o + 1 * r.val = _; omega
  have e1 : ((Rect.unit (s := S1024x4096) ![o, 0] S256x4096.size inb).emb (ix2 r k)) 1 = k :=
    Fin.ext (by show 0 + 1 * k.val = k.val; omega)
  refine (pay3_apply _ x2 x0 x3 r k).trans ?_
  unfold rows
  rw [e1]
  refine congrArg (fun f => norm f k _ _ _) (funext fun j => View.ld_unit_apply_of x1 _ _ inb (ix2 r j) _ fun a => ?_)
  match a with
  | ⟨0, _⟩ => exact e0
  | ⟨1, _⟩ => show j.val = 0 + j.val; omega

/-! ## The product -/

theorem pay2_apply (h : S1024x4096.Idx → Elt Ideal .bf16) (w1 w3 : S4096x256.Idx → Elt Ideal .bf16) (r : Fin 1024) (k : Fin 256) :
    k0_pay2 (F := Ideal) h w1 w3 (ix2 r k) = act (∑ c : Fin 4096, h (ix2 r c) * w1 (ix2 c k)) (∑ c : Fin 4096, h (ix2 r c) * w3 (ix2 c k)) := by
  have hm : ∀ w : S4096x256.Idx → Elt Ideal .bf16,
      matmul (F := Ideal) dot_S1024x4096_S4096x256_S1024x256_1_0_0_1_n_n none (φ₁ := .bf16) (φ₂ := .bf16) h (shapeCast S4096x256 w shapeCasts_S4096x256_S4096x256) (constant S1024x256 .f32 0x00000000#32) (ix2 r k)
        = ∑ c : Fin 4096, h (ix2 r c) * w (ix2 c k) := fun w => by
    refine (Ideal.matmul_plain_apply (M := 1024) (K := 4096) (N := 256) (φ₁ := .bf16) (φ₂ := .bf16) none h _ _ r k).trans ?_
    show Ideal.ofBits .f32 0x00000000#32 + _ = _
    rw [Ideal.ofBits_zero_f32, zero_add]
    exact Finset.sum_congr rfl fun c _ => congrArg (h (ix2 r c) * ·) (shapeCast_apply w _ _ _ rfl)
  have hn : ∀ a : EReal, Ideal.ofBits .f32 0x00000000#32 - a = -a := fun a => by
    rw [Ideal.ofBits_zero_f32, sub_eq_add_neg, zero_add]
  unfold k0_pay2 act
  refine congrArg₂ (· * ·) (congrArg₂ (· * ·) (hm w1) (congrArg (Ideal.div _) (congrArg (_ + ·) (congrArg Ideal.exp ?_)))) (hm w3)
  exact (congrArg (Ideal.ofBits .f32 0x00000000#32 - ·) (hm w1)).trans (hn _)

/-! ## What a point leaves -/

/-- The four stores of the first point, the last first. -/
def stores (x0 : S1x1x4096.Idx → Elt Ideal .f32) (x1 : S1024x4096.Idx → Elt Ideal .f32) (x2 : S1x4096.Idx → Elt Ideal .f32)
    (x3 : S1x1x4096.Idx → Elt Ideal .f32) : List (View.Piece (Elt Ideal) S1024x4096 .bf16) :=
  [⟨Rect.unit ![768, 0] ![256, 4096] inb_S1024x4096_S256x4096_768_0, k0_pay3 (F := Ideal) (View.ld x1 (Rect.unit ![768, 0] ![256, 4096] inb_S1024x4096_S256x4096_768_0)) x2 x0 x3⟩,
   ⟨Rect.unit ![512, 0] ![256, 4096] inb_S1024x4096_S256x4096_512_0, k0_pay3 (F := Ideal) (View.ld x1 (Rect.unit ![512, 0] ![256, 4096] inb_S1024x4096_S256x4096_512_0)) x2 x0 x3⟩,
   ⟨Rect.unit ![256, 0] ![256, 4096] inb_S1024x4096_S256x4096_256_0, k0_pay3 (F := Ideal) (View.ld x1 (Rect.unit ![256, 0] ![256, 4096] inb_S1024x4096_S256x4096_256_0)) x2 x0 x3⟩,
   ⟨Rect.unit ![0, 0] ![256, 4096] inb_S1024x4096_S256x4096_0_0, k0_pay3 (F := Ideal) (View.ld x1 (Rect.unit ![0, 0] ![256, 4096] inb_S1024x4096_S256x4096_0_0)) x2 x0 x3⟩]

/-- Read back where a store reaches, they are the normalised rows. -/
theorem stores_apply (x0 : S1x1x4096.Idx → Elt Ideal .f32) (x1 : S1024x4096.Idx → Elt Ideal .f32) (x2 : S1x4096.Idx → Elt Ideal .f32)
    (x3 : S1x1x4096.Idx → Elt Ideal .f32) (y : S1024x4096.Idx) (h : ∃ p ∈ stores x0 x1 x2 x3, y ∈ p.1.set) :
    View.canon (stores x0 x1 x2 x3) y = rows x0 x1 x2 x3 y := by
  refine View.canon_apply_of_pieces (rows x0 x1 x2 x3) _ (fun p hp => ?_) y h
  unfold stores at hp
  simp only [List.mem_cons, List.not_mem_nil, or_false] at hp
  rcases hp with rfl | rfl | rfl | rfl
  · exact piece x0 x1 x2 x3 768 inb_S1024x4096_S256x4096_768_0
  · exact piece x0 x1 x2 x3 512 inb_S1024x4096_S256x4096_512_0
  · exact piece x0 x1 x2 x3 256 inb_S1024x4096_S256x4096_256_0
  · exact piece x0 x1 x2 x3 0 inb_S1024x4096_S256x4096_0_0

theorem stores_eq (c : Dev nD) (i : grid0.Coords) (arg2 : Memref sig .tc .vmem S1x1x4096 .f32) (harg2 : arg2.IsWhole) (arg3 : Memref sig .tc .vmem S1024x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S1024x256 .bf16) (harg8 : arg8.IsWhole) (arg9 : Memref sig .tc .vmem S1024x4096 .bf16) (harg9 : arg9.IsWhole) (hc0 : cond0_0 i)
    (x0 : S1x1x4096.Idx → Elt Ideal .f32) (x1 : S1024x4096.Idx → Elt Ideal .f32) (x2 : S1x4096.Idx → Elt Ideal .f32) (x3 : S1x1x4096.Idx → Elt Ideal .f32) (x4 x5 : S4096x256.Idx → Elt Ideal .bf16) :
    (kernelRun0_A (F := Ideal) c i arg2 harg2 arg3 harg3 arg4 harg4 arg5 harg5 arg6 harg6 arg7 harg7 arg8 harg8 arg9 harg9 hc0 x0 x1 x2 x3 x4 x5).2.1 = stores x0 x1 x2 x3 := by
  unfold kernelRun0_A
  dsimp only
  sl_unfold_words
  simp only [View.readAt_eq_ld, harg2.read_unread, harg3.read_unread, harg4.read_unread, harg5.read_unread, harg6.read_unread, harg7.read_unread]
  rw [View.ld_unit_zero (S := S1x4096) hz2, View.ld_unit_zero (S := S1x1x4096) hz3, View.ld_unit_zero (S := S1x1x4096) hz3]
  rfl

theorem scratch_first (c : Dev nD) (i : grid0.Coords) (arg2 : Memref sig .tc .vmem S1x1x4096 .f32) (harg2 : arg2.IsWhole) (arg3 : Memref sig .tc .vmem S1024x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S1024x256 .bf16) (harg8 : arg8.IsWhole) (arg9 : Memref sig .tc .vmem S1024x4096 .bf16) (harg9 : arg9.IsWhole) (hc0 : cond0_0 i)
    (x0 : S1x1x4096.Idx → Elt Ideal .f32) (x1 : S1024x4096.Idx → Elt Ideal .f32) (x2 : S1x4096.Idx → Elt Ideal .f32) (x3 : S1x1x4096.Idx → Elt Ideal .f32) (x4 x5 : S4096x256.Idx → Elt Ideal .bf16) :
    sout0_A_0 (F := Ideal) c i arg2 harg2 arg3 harg3 arg4 harg4 arg5 harg5 arg6 harg6 arg7 harg7 arg8 harg8 arg9 harg9 hc0 x0 x1 x2 x3 x4 x5 = rows x0 x1 x2 x3 := by
  have cover := scover0_A_0 (F := Ideal) c i arg2 harg2 arg3 harg3 arg4 harg4 arg5 harg5 arg6 harg6 arg7 harg7 arg8 harg8 arg9 harg9 hc0 x0 x1 x2 x3 x4 x5
  unfold sout0_A_0
  rw [View.read_writes_eq_canon _ _ _ cover]
  rw [stores_eq] at cover ⊢
  exact funext fun y => stores_apply x0 x1 x2 x3 y (cover y)

theorem out_first (c : Dev nD) (i : grid0.Coords) (arg2 : Memref sig .tc .vmem S1x1x4096 .f32) (harg2 : arg2.IsWhole) (arg3 : Memref sig .tc .vmem S1024x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S1024x256 .bf16) (harg8 : arg8.IsWhole) (arg9 : Memref sig .tc .vmem S1024x4096 .bf16) (harg9 : arg9.IsWhole) (hc0 : cond0_0 i)
    (x0 : S1x1x4096.Idx → Elt Ideal .f32) (x1 : S1024x4096.Idx → Elt Ideal .f32) (x2 : S1x4096.Idx → Elt Ideal .f32) (x3 : S1x1x4096.Idx → Elt Ideal .f32) (x4 x5 : S4096x256.Idx → Elt Ideal .bf16) :
    out0_A_6 (F := Ideal) c i arg2 harg2 arg3 harg3 arg4 harg4 arg5 harg5 arg6 harg6 arg7 harg7 arg8 harg8 arg9 harg9 hc0 x0 x1 x2 x3 x4 x5 = k0_pay2 (F := Ideal) (rows x0 x1 x2 x3) x4 x5 := by
  have cover := scover0_A_0 (F := Ideal) c i arg2 harg2 arg3 harg3 arg4 harg4 arg5 harg5 arg6 harg6 arg7 harg7 arg8 harg8 arg9 harg9 hc0 x0 x1 x2 x3 x4 x5
  rw [stores_eq] at cover
  unfold out0_A_6
  rw [View.read_writes_eq_canon _ _ _ (cover0_A_6 (F := Ideal) c i arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg2.read_unread, harg3.read_unread, harg4.read_unread, harg5.read_unread, harg6.read_unread, harg7.read_unread]
  rw [View.canon_unit_zero hz2, View.ld_unit_zero (S := S1x4096) hz2, View.ld_unit_zero (S := S1x1x4096) hz3, View.ld_unit_zero (S := S1x1x4096) hz3, View.ld_unit_zero (S := S4096x256) hz2, View.ld_unit_zero (S := S4096x256) hz2]
  refine congrArg (fun h => k0_pay2 (F := Ideal) h x4 x5) ?_
  refine (View.readCov_eq_canon' arg9.view (stores x0 x1 x2 x3) _).trans (funext fun y => ?_)
  refine (stores_apply x0 x1 x2 x3 _ (cover _)).trans (congrArg (rows x0 x1 x2 x3) (funext fun b => Fin.ext ?_))
  match b with
  | ⟨0, _⟩ => show 0 + 1 * (y 0).val = (y 0).val; omega
  | ⟨1, _⟩ => show 0 + 1 * (y 1).val = (y 1).val; omega

theorem out_later (c : Dev nD) (i : grid0.Coords) (arg2 : Memref sig .tc .vmem S1x1x4096 .f32) (harg2 : arg2.IsWhole) (arg3 : Memref sig .tc .vmem S1024x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S4096x256 .bf16) (harg6 : arg6.IsWhole) (arg7 : Memref sig .tc .vmem S4096x256 .bf16) (harg7 : arg7.IsWhole) (arg8 : Memref sig .tc .vmem S1024x256 .bf16) (harg8 : arg8.IsWhole) (arg9 : Memref sig .tc .vmem S1024x4096 .bf16) (harg9 : arg9.IsWhole) (hc0 : ¬cond0_0 i)
    (x0 : S1x1x4096.Idx → Elt Ideal .f32) (x1 : S1024x4096.Idx → Elt Ideal .f32) (x2 : S1x4096.Idx → Elt Ideal .f32) (x3 : S1x1x4096.Idx → Elt Ideal .f32) (x4 x5 : S4096x256.Idx → Elt Ideal .bf16) (xs0 : S1024x4096.Idx → Elt Ideal .bf16) :
    out0_B_6 (F := Ideal) c i arg2 harg2 arg3 harg3 arg4 harg4 arg5 harg5 arg6 harg6 arg7 harg7 arg8 harg8 arg9 harg9 hc0 x0 x1 x2 x3 x4 x5 xs0 = k0_pay2 (F := Ideal) xs0 x4 x5 := by
  unfold out0_B_6
  rw [View.read_writes_eq_canon _ _ _ (cover0_B_6 (F := Ideal) c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  simp only [View.readAt_eq_ld, harg2.read_unread, harg3.read_unread, harg4.read_unread, harg5.read_unread, harg6.read_unread, harg7.read_unread, harg9.read_unread]
  rw [View.canon_unit_zero hz2, View.ld_unit_zero (S := S1024x4096) hz2, View.ld_unit_zero (S := S4096x256) hz2, View.ld_unit_zero (S := S4096x256) hz2]

end Cert.Kernel6Ideal.FfnGateUp

end
-- ==== Proof.FfnGateUpValue.lean ====
module

public import proofs.«01_k».proof.Proof.FfnGateUpBody
public import Idealize.ShloMosaic.Lib.Pipeline.Covers
public import Idealize.ShloMosaic.Lib.ValueIdx
public import Idealize.ShloMosaic.Lib.ValueLayout
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

/-! # The dense gate and up products

The result at row `q`, column `k` is `silu (∑ c, h[q, c] · w1[c, k]) · ∑ c, h[q, c] · w3[c, k]`, where `h` is `x` normalised
row by row, scaled and shifted with its batch's vectors. A row tile's 43 points share the scratch its first point
filled, so at each of them the scratch holds the tile's normalised rows; the blocks of 1024 rows and 256 columns tile
the result. -/

namespace Cert.Kernel6Ideal.FfnGateUp

open Cert.Kernel6Ideal Cert.Kernel6Ideal.Gen
open Idealize.ShloMosaic Idealize.ShloMosaic.TcCoe Idealize.ShloMosaic.Tactic
open Idealize.ShloMosaic.Pipeline
open Idealize.SL Idealize.SL.Sem
open Idealize.ShloMosaic.ValueIdx
open Cert.Whole

/-- One entry of the normalised rows. -/
def H (x : S2x8192x4096.Idx → EReal) (sh sc : S2x1x4096.Idx → EReal) (ng : S4096.Idx → EReal) (q : Fin 16384) (k : Fin 4096) : EReal :=
  have h0 : q.val < 16384 := q.isLt
  norm (fun j => x (ix3 (⟨q.val / 8192, by omega⟩ : Fin 2) (⟨q.val % 8192, by omega⟩ : Fin 8192) j)) k (ng (ix1 k))
    (sh (ix3 (⟨q.val / 8192, by omega⟩ : Fin 2) (0 : Fin 1) k)) (sc (ix3 (⟨q.val / 8192, by omega⟩ : Fin 2) (0 : Fin 1) k))

/-- The result. -/
def G (x : S2x8192x4096.Idx → EReal) (sh sc : S2x1x4096.Idx → EReal) (ng : S4096.Idx → EReal) (w1 w3 : S4096x11008.Idx → EReal) :
    S16384x11008.Idx → EReal := fun i =>
  act (∑ c : Fin 4096, H x sh sc ng (i 0) c * w1 (ix2 c (i 1 : Fin 11008))) (∑ c : Fin 4096, H x sh sc ng (i 0) c * w3 (ix2 c (i 1 : Fin 11008)))

variable (m : (ℓ : Loc nD τ sig) → Buf (Elt Ideal) ℓ) (ρ : Dev nD → PrngReg)

abbrev argX (c : Dev nD) : S2x8192x4096.Idx → Elt Ideal .f32 := m ((c.tc : Thread nD τ).loc main_arg0)
abbrev argSh (c : Dev nD) : S2x1x4096.Idx → Elt Ideal .f32 := m ((c.tc : Thread nD τ).loc main_arg1)
abbrev argSc (c : Dev nD) : S2x1x4096.Idx → Elt Ideal .f32 := m ((c.tc : Thread nD τ).loc main_arg2)
abbrev argG (c : Dev nD) : S4096.Idx → Elt Ideal .f32 := m ((c.tc : Thread nD τ).loc main_arg3)
abbrev argW1 (c : Dev nD) : S4096x11008.Idx → Elt Ideal .f32 := m ((c.tc : Thread nD τ).loc main_arg4)
abbrev argW3 (c : Dev nD) : S4096x11008.Idx → Elt Ideal .f32 := m ((c.tc : Thread nD τ).loc main_arg5)

theorem V_v0 (c : Dev nD) : V m c main_v0 = truncf (F := Ideal) .bf16 (argW1 m c) bitsLt_bf16_f32 := by
  show StableHlo.after hostOps0 (fun b => m (c, b)) (Proc.devRef .tc main_v0) = _
  after_results
theorem V_v1 (c : Dev nD) : V m c main_v1 = truncf (F := Ideal) .bf16 (argW3 m c) bitsLt_bf16_f32 := by
  show StableHlo.after hostOps0 (fun b => m (c, b)) (Proc.devRef .tc main_v1) = _
  after_results
theorem V_v2 (c : Dev nD) : V m c main_v2 = shapeCast S16384x4096 (argX m c) shapeCasts_S2x8192x4096_S16384x4096 := by
  show StableHlo.after hostOps0 (fun b => m (c, b)) (Proc.devRef .tc main_v2) = _
  after_results; rfl
theorem V_v3 (c : Dev nD) : V m c main_v3 = shapeCast S1x4096 (argG m c) shapeCasts_S4096_S1x4096 := by
  show StableHlo.after hostOps0 (fun b => m (c, b)) (Proc.devRef .tc main_v3) = _
  after_results; rfl

/-! ## Which block each window holds -/

theorem tr_0 : ∀ i : grid0.Coords, cc0_transform_0 i 0 = (i 0).val / 8 ∧ cc0_transform_0 i 1 = 0 ∧ cc0_transform_0 i 2 = 0 := by decide +kernel
theorem tr_1 : ∀ i : grid0.Coords, cc0_transform_1 i 0 = (i 0).val ∧ cc0_transform_1 i 1 = 0 := by decide +kernel
theorem tr_2 : ∀ i : grid0.Coords, cc0_transform_2 i 0 = 0 ∧ cc0_transform_2 i 1 = 0 := by decide +kernel
theorem tr_3 : ∀ i : grid0.Coords, cc0_transform_3 i 0 = (i 0).val / 8 ∧ cc0_transform_3 i 1 = 0 ∧ cc0_transform_3 i 2 = 0 := by decide +kernel
theorem tr_4 : ∀ i : grid0.Coords, cc0_transform_4 i 0 = 0 ∧ cc0_transform_4 i 1 = (i 1).val := by decide +kernel
theorem tr_5 : ∀ i : grid0.Coords, cc0_transform_5 i 0 = 0 ∧ cc0_transform_5 i 1 = (i 1).val := by decide +kernel
theorem tr_6 : ∀ i : grid0.Coords, cc0_transform_6 i 0 = (i 0).val ∧ cc0_transform_6 i 1 = (i 1).val := by decide +kernel

theorem blk_0 (c : Dev nD) (t : Fin cfg0.N) (k : Fin 4096) (b : Fin 2) (hb : b.val = (grid0.coords t 0).val / 8) :
    iblk m c 0 t (ix3 (0 : Fin 1) (0 : Fin 1) k) = argSh m c (ix3 b (0 : Fin 1) k) := by
  obtain ⟨e0, e1, e2⟩ := tr_0 (grid0.coords t)
  unfold iblk
  show V m c main_arg1 (((cfg0.win 0).blk t).view.emb (ix3 (0 : Fin 1) (0 : Fin 1) k)) = _
  rw [V_main_arg1]
  refine congrArg (argSh m c) (funext fun a => Fin.ext ?_)
  match a with
  | ⟨0, _⟩ => show cc0_transform_0 (grid0.coords t) 0 * 1 + 1 * 0 = b.val; rw [e0, hb]; omega
  | ⟨1, _⟩ => show cc0_transform_0 (grid0.coords t) 1 * 1 + 1 * 0 = 0; rw [e1]
  | ⟨2, _⟩ => show cc0_transform_0 (grid0.coords t) 2 * 4096 + 1 * k.val = k.val; rw [e2]; omega

theorem blk_3 (c : Dev nD) (t : Fin cfg0.N) (k : Fin 4096) (b : Fin 2) (hb : b.val = (grid0.coords t 0).val / 8) :
    iblk m c 3 t (ix3 (0 : Fin 1) (0 : Fin 1) k) = argSc m c (ix3 b (0 : Fin 1) k) := by
  obtain ⟨e0, e1, e2⟩ := tr_3 (grid0.coords t)
  unfold iblk
  show V m c main_arg2 (((cfg0.win 3).blk t).view.emb (ix3 (0 : Fin 1) (0 : Fin 1) k)) = _
  rw [V_main_arg2]
  refine congrArg (argSc m c) (funext fun a => Fin.ext ?_)
  match a with
  | ⟨0, _⟩ => show cc0_transform_3 (grid0.coords t) 0 * 1 + 1 * 0 = b.val; rw [e0, hb]; omega
  | ⟨1, _⟩ => show cc0_transform_3 (grid0.coords t) 1 * 1 + 1 * 0 = 0; rw [e1]
  | ⟨2, _⟩ => show cc0_transform_3 (grid0.coords t) 2 * 4096 + 1 * k.val = k.val; rw [e2]; omega

theorem blk_4 (c : Dev nD) (t : Fin cfg0.N) (r : Fin 4096) (k : Fin 256) (q : Fin 11008) (hq : q.val = (grid0.coords t 1).val * 256 + k.val) :
    iblk m c 4 t (ix2 r k) = argW1 m c (ix2 r q) := by
  obtain ⟨e0, e1⟩ := tr_4 (grid0.coords t)
  unfold iblk
  show V m c main_v0 (((cfg0.win 4).blk t).view.emb (ix2 r k)) = _
  rw [V_v0]
  refine congrArg (argW1 m c) (funext fun a => Fin.ext ?_)
  match a with
  | ⟨0, _⟩ => show cc0_transform_4 (grid0.coords t) 0 * 4096 + 1 * r.val = r.val; rw [e0]; omega
  | ⟨1, _⟩ => show cc0_transform_4 (grid0.coords t) 1 * 256 + 1 * k.val = q.val; rw [e1, hq]; omega

theorem blk_5 (c : Dev nD) (t : Fin cfg0.N) (r : Fin 4096) (k : Fin 256) (q : Fin 11008) (hq : q.val = (grid0.coords t 1).val * 256 + k.val) :
    iblk m c 5 t (ix2 r k) = argW3 m c (ix2 r q) := by
  obtain ⟨e0, e1⟩ := tr_5 (grid0.coords t)
  unfold iblk
  show V m c main_v1 (((cfg0.win 5).blk t).view.emb (ix2 r k)) = _
  rw [V_v1]
  refine congrArg (argW3 m c) (funext fun a => Fin.ext ?_)
  match a with
  | ⟨0, _⟩ => show cc0_transform_5 (grid0.coords t) 0 * 4096 + 1 * r.val = r.val; rw [e0]; omega
  | ⟨1, _⟩ => show cc0_transform_5 (grid0.coords t) 1 * 256 + 1 * k.val = q.val; rw [e1, hq]; omega

theorem blk_1 (c : Dev nD) (t : Fin cfg0.N) (r : Fin 1024) (k : Fin 4096) (b : Fin 2) (s : Fin 8192)
    (hs : b.val * 8192 + s.val = (grid0.coords t 0).val * 1024 + r.val) :
    iblk m c 1 t (ix2 r k) = argX m c (ix3 b s k) := by
  obtain ⟨e0, e1⟩ := tr_1 (grid0.coords t)
  unfold iblk
  show V m c main_v2 (((cfg0.win 1).blk t).view.emb (ix2 r k)) = _
  rw [V_v2]
  refine shapeCast_apply (argX m c) _ _ _ ?_
  rw [Shape.rowMajor_val_three, Shape.rowMajor_val_two]
  show (b.val * 8192 + s.val) * 4096 + k.val = (cc0_transform_1 (grid0.coords t) 0 * 1024 + 1 * r.val) * 4096 + (cc0_transform_1 (grid0.coords t) 1 * 4096 + 1 * k.val)
  rw [e0, e1, hs]; omega

theorem blk_2 (c : Dev nD) (t : Fin cfg0.N) (k : Fin 4096) : iblk m c 2 t (ix2 (0 : Fin 1) k) = argG m c (ix1 k) := by
  obtain ⟨e0, e1⟩ := tr_2 (grid0.coords t)
  unfold iblk
  show V m c main_v3 (((cfg0.win 2).blk t).view.emb (ix2 (0 : Fin 1) k)) = _
  rw [V_v3]
  refine shapeCast_apply (argG m c) _ _ _ ?_
  rw [Shape.rowMajor_val_one, Shape.rowMajor_val_two]
  show k.val = (cc0_transform_2 (grid0.coords t) 0 * 1 + 1 * 0) * 4096 + (cc0_transform_2 (grid0.coords t) 1 * 4096 + 1 * k.val)
  rw [e0, e1]; omega

/-! ## The scratch -/

theorem coords_0 (t : Fin cfg0.N) : (grid0.coords t 0).val = t.val / 43 := by
  have ht : t.val < 688 := Nat.lt_of_lt_of_eq t.isLt N_0
  have e : (grid0.coords t 0).val = t.val / 43 % 16 := Pipeline.Grid.coords_val t 0 (by decide) rfl
  omega

/-- At a tile's first point the rows normalised are the tile's. -/
theorem rows_apply (c : Dev nD) (t : Fin cfg0.N) (r : Fin 1024) (k : Fin 4096) (q : Fin 16384) (hq : q.val = t.val / 43 * 1024 + r.val) :
    rows (iblk m c 0 t) (iblk m c 1 t) (iblk m c 2 t) (iblk m c 3 t) (ix2 r k) = H (argX m c) (argSh m c) (argSc m c) (argG m c) q k := by
  have e := coords_0 t
  have h0 : q.val < 16384 := q.isLt
  have hr : r.val < 1024 := r.isLt
  unfold rows H
  dsimp only
  have h1 : (fun j : Fin 4096 => iblk m c 1 t (ix2 r j)) = fun j => argX m c (ix3 (⟨q.val / 8192, by omega⟩ : Fin 2) (⟨q.val % 8192, by omega⟩ : Fin 8192) j) :=
    funext fun j => blk_1 m c t r j _ _ (by show q.val / 8192 * 8192 + q.val % 8192 = _; rw [e]; omega)
  have hb : q.val / 8192 = (grid0.coords t 0).val / 8 := by rw [e]; omega
  have h2 := blk_2 m c t k
  have h3 := blk_0 m c t k (⟨q.val / 8192, by omega⟩ : Fin 2) hb
  have h4 := blk_3 m c t k (⟨q.val / 8192, by omega⟩ : Fin 2) hb
  exact (congrArg (fun f => norm f k _ _ _) h1).trans ((congrArg (fun a => norm _ k a _ _) h2).trans
    ((congrArg (fun a => norm _ k _ a _) h3).trans (congrArg (fun a => norm _ k _ _ a) h4)))

/-- After any point the scratch holds its tile's normalised rows. -/
theorem scratch_apply (c : Dev nD) : ∀ (n : ℕ) (hn : n < cfg0.N) (r : Fin 1024) (k : Fin 4096) (q : Fin 16384),
    q.val = n / 43 * 1024 + r.val → (outsAt0 m c n hn).2 (ix2 r k) = H (argX m c) (argSh m c) (argSc m c) (argG m c) q k := by
  intro n
  induction n using Nat.strong_induction_on with
  | _ n ih =>
  intro hn r k q hq
  by_cases h0 : n % 43 = 0
  · have e := congrArg Prod.snd (outsAt0_A m c ⟨n, hn⟩ h0)
    dsimp only at e
    rw [e, scratch_first]
    exact rows_apply m c ⟨n, hn⟩ r k q hq
  · have e := congrArg Prod.snd (outsAt0_B m c ⟨n, hn⟩ h0)
    dsimp only at e
    rw [e]
    unfold sout0_B_0
    exact ih (n - 1) (by omega) _ r k q (by rw [hq]; omega)

/-- What a point leaves of the result. -/
theorem out_apply (c : Dev nD) (t : Fin cfg0.N) (r : Fin 1024) (k : Fin 256) (q : Fin 16384) (hq : q.val = t.val / 43 * 1024 + r.val) :
    (outsAt0 m c t.val t.isLt).1 (ix2 r k)
      = act (∑ j : Fin 4096, H (argX m c) (argSh m c) (argSc m c) (argG m c) q j * iblk m c 4 t (ix2 j k))
          (∑ j : Fin 4096, H (argX m c) (argSh m c) (argSc m c) (argG m c) q j * iblk m c 5 t (ix2 j k)) := by
  have hs : ∀ f : S1024x4096.Idx → Elt Ideal .bf16, (∀ j, f (ix2 r j) = H (argX m c) (argSh m c) (argSc m c) (argG m c) q j) →
      k0_pay2 (F := Ideal) f (iblk m c 4 t) (iblk m c 5 t) (ix2 r k)
        = act (∑ j : Fin 4096, H (argX m c) (argSh m c) (argSc m c) (argG m c) q j * iblk m c 4 t (ix2 j k))
            (∑ j : Fin 4096, H (argX m c) (argSh m c) (argSc m c) (argG m c) q j * iblk m c 5 t (ix2 j k)) := fun f hf =>
    (pay2_apply f (iblk m c 4 t) (iblk m c 5 t) r k).trans (congrArg₂ act
      (Finset.sum_congr rfl fun j _ => congrArg (· * iblk m c 4 t (ix2 j k)) (hf j))
      (Finset.sum_congr rfl fun j _ => congrArg (· * iblk m c 5 t (ix2 j k)) (hf j)))
  by_cases h0 : t.val % 43 = 0
  · have e := congrArg Prod.fst (outsAt0_A m c t h0)
    dsimp only at e
    rw [e, out_first]
    exact hs _ fun j => rows_apply m c t r j q hq
  · have e := congrArg Prod.fst (outsAt0_B m c t h0)
    dsimp only at e
    rw [e, out_later]
    exact hs _ fun j => scratch_apply m c (t.val - 1) _ r j q (by rw [hq]; omega)

/-! ## The blocks tile the result -/

theorem nblk_0 : (cfg0.win 6).nblk (0 : Fin 2) = 16 :=
  show (S16384x11008.size 0 + S1024x256.size 0 - 1) / S1024x256.size 0 = 16 by decide
theorem nblk_1 : (cfg0.win 6).nblk (1 : Fin 2) = 43 :=
  show (S16384x11008.size 1 + S1024x256.size 1 - 1) / S1024x256.size 1 = 43 by decide

theorem covers_6 : (cfg0.win 6).Covers :=
  (cfg0.win 6).covers_of_indexMap_surj rfl (show ∀ a : Fin 2, 0 < S1024x256.size a by decide)
    fun (β : (a : Fin 2) → Fin ((cfg0.win 6).nblk a)) =>
    have h0 : (β 0).val < 16 := lt_of_lt_of_eq (β 0).isLt nblk_0
    have h1 : (β 1).val < 43 := lt_of_lt_of_eq (β 1).isLt nblk_1
    have e := tr_6 (fun | ⟨0, _⟩ => ⟨(β 0).val, h0⟩ | ⟨1, _⟩ => ⟨(β 1).val, h1⟩ : grid0.Coords)
    ⟨(fun | ⟨0, _⟩ => ⟨(β 0).val, h0⟩ | ⟨1, _⟩ => ⟨(β 1).val, h1⟩ : grid0.Coords), fun (a : Fin 2) => by
      match a with
      | ⟨0, _⟩ => exact e.1
      | ⟨1, _⟩ => exact e.2⟩

/-- Where the point's block of the result lies. -/
theorem emb_6_0 (t : Fin cfg0.N) (y : S1024x256.Idx) :
    (((cfg0.win 6).blk t).view.emb y (0 : Fin 2)).val = (grid0.coords t 0).val * 1024 + (y 0).val := by
  show cc0_transform_6 (grid0.coords t) 0 * 1024 + 1 * (y 0).val = _
  rw [(tr_6 (grid0.coords t)).1, Nat.one_mul]
theorem emb_6_1 (t : Fin cfg0.N) (y : S1024x256.Idx) :
    (((cfg0.win 6).blk t).view.emb y (1 : Fin 2)).val = (grid0.coords t 1).val * 256 + (y 1).val := by
  show cc0_transform_6 (grid0.coords t) 1 * 256 + 1 * (y 1).val = _
  rw [(tr_6 (grid0.coords t)).2, Nat.one_mul]

/-- What a point leaves is its block of the result. -/
theorem block_eq (c : Dev nD) (t : Fin cfg0.N) (y : S1024x256.Idx) (i : S16384x11008.Idx)
    (h0 : (i 0).val = (grid0.coords t 0).val * 1024 + (y 0).val) (h1 : (i 1).val = (grid0.coords t 1).val * 256 + (y 1).val) :
    (outsAt0 m c t.val t.isLt).1 y = G (argX m c) (argSh m c) (argSc m c) (argG m c) (argW1 m c) (argW3 m c) i := by
  obtain ⟨r, k, rfl⟩ : ∃ (r : Fin 1024) (k : Fin 256), y = ix2 r k := ⟨y 0, y 1, eq_ix2 y⟩
  replace h0 : (i 0).val = (grid0.coords t 0).val * 1024 + r.val := h0
  replace h1 : (i 1).val = (grid0.coords t 1).val * 256 + k.val := h1
  rw [coords_0 t] at h0
  refine (out_apply m c t r k (i 0) h0).trans ?_
  unfold G
  exact congrArg₂ act (Finset.sum_congr rfl fun j _ => congrArg (H _ _ _ _ _ j * ·) (blk_4 m c t j k _ h1))
    (Finset.sum_congr rfl fun j _ => congrArg (H _ _ _ _ _ j * ·) (blk_5 m c t j k _ h1))

theorem arrAt_6 (c : Dev nD) :
    (dats m 0 c).arrAt 6 cfg0.N = G (argX m c) (argSh m c) (argSc m c) (argG m c) (argW1 m c) (argW3 m c) :=
  (dats m 0 c).arrAt_eq_of_covers 6 _ covers_6 fun t _ (y : S1024x256.Idx) => by
    have key := block_eq m c t y _ (emb_6_0 t y) (emb_6_1 t y)
    rw [after0_6]
    generalize (outsAt0 m c t.val t.isLt).1 = o at key ⊢
    exact key

/-! ## The reference's value -/

open Cert.Reference6Ideal.Read in
/-- The reference's normalised rows. -/
theorem norm_eq (x : S2x8192x4096.Idx → Elt Ideal .f32) (sh sc : S2x1x4096.Idx → Elt Ideal .f32) (ng : S4096.Idx → Elt Ideal .f32)
    (b : Fin 2) (s : Fin 8192) (k : Fin 4096) :
    val_main_v18 (F := Ideal) x sh sc ng (ix3 b s k)
      = norm (fun j => x (ix3 b s j)) k (ng (ix1 k)) (sh (ix3 b (0 : Fin 1) k)) (sc (ix3 b (0 : Fin 1) k)) := by
  have sum : val_main_v1 (F := Ideal) x (ix2 b s) = ∑ j : Fin 4096, x (ix3 b s j) * x (ix3 b s j) := by
    refine (val_main_v1_apply x _).trans ?_
    show Ideal.ofBits .f32 0x00000000#32 + _ = _
    rw [Ideal.ofBits_zero_f32, zero_add]
    refine Finset.sum_congr rfl fun j _ => ?_
    have e : idx_main_v1 (ix2 b s) j = ix3 b s j := by
      funext a; match a with | ⟨0, _⟩ => rfl | ⟨1, _⟩ => rfl | ⟨2, _⟩ => rfl
    exact (congrArg _ e).trans (val_main_v0_apply x _)
  have root : val_main_v8 (F := Ideal) x (ix3 b s k)
      = Ideal.rsqrt (Ideal.div (∑ j : Fin 4096, x (ix3 b s j) * x (ix3 b s j)) (Ideal.ofBits .f32 0x45800000#32) + Ideal.ofBits .f32 0x358637BD#32) := by
    have e2 : idx_main_v2 (idx_main_v8 (ix3 b s k)) = ix2 b s := by
      funext a; match a with | ⟨0, _⟩ => rfl | ⟨1, _⟩ => rfl
    refine (val_main_v8_apply x _).trans ((val_main_v7_apply x _).trans (congrArg Ideal.rsqrt ?_))
    refine (val_main_v6_apply x _).trans (congrArg₂ (· + ·) ((val_main_v4_apply x _).trans (congrArg₂ Ideal.div ?_ ?_)) ?_)
    · exact (val_main_v2_apply x _).trans ((congrArg _ e2).trans sum)
    · exact val_main_v3_apply _
    · exact val_main_v5_apply _
  refine (val_main_v18_apply x sh sc ng _).trans (congrArg₂ (· + ·) ((val_main_v16_apply x sc ng _).trans (congrArg₂ (· * ·) ((val_main_v12_apply x ng _).trans
    (congrArg₂ (· * ·) ((val_main_v9_apply x _).trans (congrArg (x (ix3 b s k) * ·) root)) ?_)) ?_)) ?_)
  · refine (val_main_v11_apply ng _).trans ((val_main_v10_apply ng _).trans (congrArg ng ?_))
    funext a; match a with | ⟨0, _⟩ => rfl
  · refine (val_main_v15_apply sc _).trans ((val_main_v14_apply sc _).trans (congrArg₂ (· + ·) (val_main_v13_apply _) (congrArg sc ?_)))
    funext a; match a with | ⟨0, _⟩ => rfl | ⟨1, _⟩ => rfl | ⟨2, _⟩ => rfl
  · refine (val_main_v17_apply sh _).trans (congrArg sh ?_)
    funext a; match a with | ⟨0, _⟩ => rfl | ⟨1, _⟩ => rfl | ⟨2, _⟩ => rfl

open Cert.Reference6Ideal.Read in
theorem reference_eq (x : S2x8192x4096.Idx → Elt Ideal .f32) (sh sc : S2x1x4096.Idx → Elt Ideal .f32) (ng : S4096.Idx → Elt Ideal .f32)
    (w1 w3 : S4096x11008.Idx → Elt Ideal .f32) : val_main_v24 (F := Ideal) x sh sc ng w1 w3 = G x sh sc ng w1 w3 := by
  funext i
  obtain ⟨q, k, rfl⟩ : ∃ (q : Fin 16384) (k : Fin 11008), i = ix2 q k := ⟨i 0, i 1, eq_ix2 i⟩
  have h0 : q.val < 16384 := q.isLt
  have h1 : k.val < 11008 := k.isLt
  have ei : idx_main_v23 (ix2 q k) = ix3 (⟨q.val / 8192, by omega⟩ : Fin 2) (⟨q.val % 8192, by omega⟩ : Fin 8192) k := by
    funext a
    refine Fin.ext ?_
    match a with
    | ⟨0, _⟩ => show (q.val * 11008 + k.val) / 90177536 = q.val / 8192; omega
    | ⟨1, _⟩ => show (q.val * 11008 + k.val) / 11008 % 8192 = q.val % 8192; omega
    | ⟨2, _⟩ => show (q.val * 11008 + k.val) % 11008 = k.val; omega
  have gate : val_main_v19 (F := Ideal) x sh sc ng w1 (ix3 (⟨q.val / 8192, by omega⟩ : Fin 2) (⟨q.val % 8192, by omega⟩ : Fin 8192) k)
      = ∑ c : Fin 4096, H x sh sc ng q c * w1 (ix2 c k) := by
    refine (val_main_v19_apply x sh sc ng w1 _).trans (Finset.sum_congr rfl fun c _ => congrArg₂ (· * ·) ?_ (congrArg w1 ?_))
    · refine Eq.trans (congrArg _ ?_) (norm_eq x sh sc ng _ _ c)
      funext a; match a with | ⟨0, _⟩ => rfl | ⟨1, _⟩ => rfl | ⟨2, _⟩ => rfl
    · funext a; match a with | ⟨0, _⟩ => rfl | ⟨1, _⟩ => rfl
  have up : val_main_v21 (F := Ideal) x sh sc ng w3 (ix3 (⟨q.val / 8192, by omega⟩ : Fin 2) (⟨q.val % 8192, by omega⟩ : Fin 8192) k)
      = ∑ c : Fin 4096, H x sh sc ng q c * w3 (ix2 c k) := by
    refine (val_main_v21_apply x sh sc ng w3 _).trans (Finset.sum_congr rfl fun c _ => congrArg₂ (· * ·) ?_ (congrArg w3 ?_))
    · refine Eq.trans (congrArg _ ?_) (norm_eq x sh sc ng _ _ c)
      funext a; match a with | ⟨0, _⟩ => rfl | ⟨1, _⟩ => rfl | ⟨2, _⟩ => rfl
    · funext a; match a with | ⟨0, _⟩ => rfl | ⟨1, _⟩ => rfl
  refine (val_main_v24_apply x sh sc ng w1 w3 _).trans ?_
  refine ((val_main_v23_apply x sh sc ng w1 w3 _).trans ((congrArg _ ei).trans (val_main_v22_apply x sh sc ng w1 w3 _))).trans ?_
  refine congrArg₂ (· * ·) ((val_main_v20_apply x sh sc ng w1 _).trans (congrArg₂ (· * ·) gate ?_)) up
  refine (val_main_call0_v5_apply x sh sc ng w1 _).trans (congrArg₂ Ideal.div (val_main_call0_v4_apply _) ?_)
  refine (val_main_call0_v3_apply x sh sc ng w1 _).trans (congrArg₂ (· + ·) (val_main_call0_v2_apply _) ?_)
  refine (val_main_call0_v1_apply x sh sc ng w1 _).trans (congrArg Ideal.exp ?_)
  exact (val_main_call0_v0_apply x sh sc ng w1 _).trans (congrArg (fun a : EReal => -a) gate)

end Cert.Kernel6Ideal.FfnGateUp

end
-- ==== Proof.KvqBody.lean ====
module

public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Whole
public import Idealize.ShloMosaic.Lib.Pipeline.Frame
public import Idealize.ShloMosaic.Lib.Pipeline.Value
public import Idealize.ShloMosaic.Lib.Pipeline.ValueKit.Tiles
public import Idealize.ShloMosaic.Lib.ValueIdx
public import Idealize.ShloMosaic.Lib.WholeRead
public import Idealize.ShloMosaic.Lib.WordCmp
public import Idealize.ShloMosaic.Lib.Ring
public import Idealize.ShloMosaic.Lib.Tactic

@[expose] public section

set_option maxRecDepth 16384

noncomputable section

/-! # One grid point of the key, value and query projections

The first point of a row tile normalises the tile's 512 rows, 128 at a time, twice into a scratch of two halves: with the
modulation of the keys and values, and with that of the queries. Every point then multiplies one half with its columns
of the weights, and leaves eight heads: a key or query head is normalised once more, a value head is left as it is. -/

namespace Cert.Kernel7Ideal.Kvq

open Cert.Kernel7Ideal Cert.Kernel7Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Whole

variable {F : FTy → Type} [FloatOps F]

local notation "𝕄" => MT nD τ sig Unit (Elt F) ℕ (Idealize.ShloMosaic.UR sig nD τ) ℕ

theorem hz5 : (![0, 0, 0, 0, 0] : Fin 5 → Nat) = fun _ => 0 := funext fun a => by fin_cases a <;> rfl

/-- The point is the first of its row tile. -/
abbrev First (i : grid0.Coords) : Prop := (Scalar.cmpi .ne (Scalar.extui (Scalar.cmpi .eq (BitVec.ofNat 32 (i 1).val) 0#32)) 0#32) = 1#1

theorem first_iff : ∀ t : Fin cfg0.N, First (grid0.coords t) ↔ t.val % 12 = 0 :=
  (fun t => by
    have ht : t.val < 384 := Nat.lt_of_lt_of_eq t.isLt N_0
    have e1 : (grid0.coords t 1).val = t.val / 1 % 12 := Pipeline.Grid.coords_val t 1 (by decide) rfl
    simp only [First, e1]
    word_cmp
   : ∀ t : Fin grid0.N, First (grid0.coords t) ↔ t.val % 12 = 0)

/-- The half that a point reads: the first for the keys and values, the second for the queries. -/
theorem off1_eq (i : grid0.Coords) : k0_off1 i = ![(i 1).val / 8, 0, 0] := by
  unfold k0_off1
  generalize (i 1) = n
  revert n
  show ∀ n : Fin 12, _
  decide +kernel

instance closedOff_off1 (i : grid0.Coords) : ClosedOff (k0_off1 i) := ⟨![(i 1).val / 8, 0, 0], off1_eq i⟩

/-- What the point's columns are: 0 keys, 1 values, 2 queries. -/
def kind (i : grid0.Coords) : BitVec 32 :=
  let arg1 : BitVec 32 := BitVec.ofNat 32 (i 1).val
  let v8 : BitVec 32 := Scalar.subi (Scalar.extui (Scalar.cmpi .sgt arg1 0#32)) (Scalar.extui (Scalar.cmpi .slt arg1 0#32))
  let v13 : BitVec 32 := Scalar.subi (Scalar.extui (Scalar.cmpi .sgt 4#32 0#32)) (Scalar.extui (Scalar.cmpi .slt 4#32 0#32))
  let v17 : BitVec 1 := Scalar.andi (Scalar.cmpi .ne v8 v13) (Scalar.cmpi .ne (Scalar.remsi arg1 4#32) 0#32)
  let v3 : BitVec 32 := Scalar.divsi arg1 4#32
  Scalar.select v17 (Scalar.subi v3 1#32) v3

/-- The eight stores of the first point, the last first. -/
def stores (x : S512x4096.Idx → Elt F .f32) (shk sck shq scq : S1x1x4096.Idx → Elt F .f32) (ngk ngq : S1x4096.Idx → Elt F .f32) :
    List (View.Piece (Elt F) S2x512x4096 .bf16) :=
  [⟨Rect.unit ![1, 384, 0] ![1, 128, 4096] inb_S2x512x4096_S1x128x4096_1_384_0, k0_pay3 (View.ld x (Rect.unit (s := S512x4096) ![384, 0] S128x4096.size inb_S512x4096_S128x4096_384_0)) ngq scq shq⟩,
   ⟨Rect.unit ![0, 384, 0] ![1, 128, 4096] inb_S2x512x4096_S1x128x4096_0_384_0, k0_pay3 (View.ld x (Rect.unit (s := S512x4096) ![384, 0] S128x4096.size inb_S512x4096_S128x4096_384_0)) ngk sck shk⟩,
   ⟨Rect.unit ![1, 256, 0] ![1, 128, 4096] inb_S2x512x4096_S1x128x4096_1_256_0, k0_pay3 (View.ld x (Rect.unit (s := S512x4096) ![256, 0] S128x4096.size inb_S512x4096_S128x4096_256_0)) ngq scq shq⟩,
   ⟨Rect.unit ![0, 256, 0] ![1, 128, 4096] inb_S2x512x4096_S1x128x4096_0_256_0, k0_pay3 (View.ld x (Rect.unit (s := S512x4096) ![256, 0] S128x4096.size inb_S512x4096_S128x4096_256_0)) ngk sck shk⟩,
   ⟨Rect.unit ![1, 128, 0] ![1, 128, 4096] inb_S2x512x4096_S1x128x4096_1_128_0, k0_pay3 (View.ld x (Rect.unit (s := S512x4096) ![128, 0] S128x4096.size inb_S512x4096_S128x4096_128_0)) ngq scq shq⟩,
   ⟨Rect.unit ![0, 128, 0] ![1, 128, 4096] inb_S2x512x4096_S1x128x4096_0_128_0, k0_pay3 (View.ld x (Rect.unit (s := S512x4096) ![128, 0] S128x4096.size inb_S512x4096_S128x4096_128_0)) ngk sck shk⟩,
   ⟨Rect.unit ![1, 0, 0] ![1, 128, 4096] inb_S2x512x4096_S1x128x4096_1_0_0, k0_pay3 (View.ld x (Rect.unit (s := S512x4096) ![0, 0] S128x4096.size inb_S512x4096_S128x4096_0_0)) ngq scq shq⟩,
   ⟨Rect.unit ![0, 0, 0] ![1, 128, 4096] inb_S2x512x4096_S1x128x4096_0_0_0, k0_pay3 (View.ld x (Rect.unit (s := S512x4096) ![0, 0] S128x4096.size inb_S512x4096_S128x4096_0_0)) ngk sck shk⟩]

theorem stores_cover (x : S512x4096.Idx → Elt F .f32) (shk sck shq scq : S1x1x4096.Idx → Elt F .f32) (ngk ngq : S1x4096.Idx → Elt F .f32)
    (y : S2x512x4096.Idx) : ∃ p ∈ stores x shk sck shq scq ngk ngq, y ∈ p.1.set :=
  View.cover_of_tiledL (stores x shk sck shq scq ngk ngq) ![1, 128, 4096] (by sl_kernel_rfl) y

/-- The scratch after the first point. -/
def halves (x : S512x4096.Idx → Elt F .f32) (shk sck shq scq : S1x1x4096.Idx → Elt F .f32) (ngk ngq : S1x4096.Idx → Elt F .f32) :
    S2x512x4096.Idx → Elt F .bf16 := View.canon (stores x shk sck shq scq ngk ngq)

/-- The half that a point reads. -/
def slot (i : grid0.Coords) (h : S2x512x4096.Idx → Elt F .bf16) : S1x512x4096.Idx → Elt F .bf16 :=
  View.ld h (Rect.unit (s := S2x512x4096) (k0_off1 i) S1x512x4096.size (k0_off1_inb i))

/-- One head of the product, as it is stored: the value kind unchanged, the other two normalised and scaled. -/
def head (off : Fin S512x1024.rank → Nat) (hs : S512x1024.Slices off S512x128) (k : BitVec 32) (r : FVec F S512x1024 .f32) (g : FVec F S1x128 .f32) :
    FVec F S1x1x1x512x128 .bf16 :=
  have a : FVec F S512x128 .f32 := extractStridedSlice S512x128 off r hs
  have s : FVec F S512x1 .f32 := shapeCast S512x1 (multiReduction .add [1] S512 (mulf a a) 0x00000000#32 reduces_S512x128_S512 (.inl rfl) rfl) shapeCasts_S512_S512x1
  have q : FVec F S512x1 .f32 := rsqrt (addf (divf s (broadcast S512x1 (Scalar.ofBits .f32 0x43000000#32))) (broadcast S512x1 (Scalar.ofBits .f32 0x358637BD#32)))
  have n : FVec F S512x128 .f32 := mulf (mulf a (broadcastTo S512x128 q broadcasts_S512x1_S512x128)) (broadcastTo S512x128 g broadcasts_S1x128_S512x128)
  shapeCast S1x1x1x512x128 (truncf .bf16 (Scalar.select (Scalar.cmpi .eq k 1#32) a n) bitsLt_bf16_f32) shapeCasts_S512x128_S1x1x1x512x128

/-- The eight stores of the heads, the last first. -/
def outs (i : grid0.Coords) (h : S2x512x4096.Idx → Elt F .bf16) (gk gq : S1x128.Idx → Elt F .f32) (w : S4096x1024.Idx → Elt F .bf16) :
    List (View.Piece (Elt F) S1x1x8x512x128 .bf16) :=
  [⟨Rect.unit ![0, 0, 7, 0, 0] ![1, 1, 1, 512, 128] inb_S1x1x8x512x128_S1x1x1x512x128_0_0_7_0_0, head _ slices_S512x1024_o0_896_S512x128 (kind i) (k0_pay20 (slot i h) w) (k0_pay21 (kind i) gq gk)⟩,
   ⟨Rect.unit ![0, 0, 6, 0, 0] ![1, 1, 1, 512, 128] inb_S1x1x8x512x128_S1x1x1x512x128_0_0_6_0_0, head _ slices_S512x1024_o0_768_S512x128 (kind i) (k0_pay20 (slot i h) w) (k0_pay21 (kind i) gq gk)⟩,
   ⟨Rect.unit ![0, 0, 5, 0, 0] ![1, 1, 1, 512, 128] inb_S1x1x8x512x128_S1x1x1x512x128_0_0_5_0_0, head _ slices_S512x1024_o0_640_S512x128 (kind i) (k0_pay20 (slot i h) w) (k0_pay21 (kind i) gq gk)⟩,
   ⟨Rect.unit ![0, 0, 4, 0, 0] ![1, 1, 1, 512, 128] inb_S1x1x8x512x128_S1x1x1x512x128_0_0_4_0_0, head _ slices_S512x1024_o0_512_S512x128 (kind i) (k0_pay20 (slot i h) w) (k0_pay21 (kind i) gq gk)⟩,
   ⟨Rect.unit ![0, 0, 3, 0, 0] ![1, 1, 1, 512, 128] inb_S1x1x8x512x128_S1x1x1x512x128_0_0_3_0_0, head _ slices_S512x1024_o0_384_S512x128 (kind i) (k0_pay20 (slot i h) w) (k0_pay21 (kind i) gq gk)⟩,
   ⟨Rect.unit ![0, 0, 2, 0, 0] ![1, 1, 1, 512, 128] inb_S1x1x8x512x128_S1x1x1x512x128_0_0_2_0_0, head _ slices_S512x1024_o0_256_S512x128 (kind i) (k0_pay20 (slot i h) w) (k0_pay21 (kind i) gq gk)⟩,
   ⟨Rect.unit ![0, 0, 1, 0, 0] ![1, 1, 1, 512, 128] inb_S1x1x8x512x128_S1x1x1x512x128_0_0_1_0_0, head _ slices_S512x1024_o0_128_S512x128 (kind i) (k0_pay20 (slot i h) w) (k0_pay21 (kind i) gq gk)⟩,
   ⟨Rect.unit ![0, 0, 0, 0, 0] ![1, 1, 1, 512, 128] inb_S1x1x8x512x128_S1x1x1x512x128_0_0_0_0_0, head _ slices_S512x1024_o0_0_S512x128 (kind i) (k0_pay20 (slot i h) w) (k0_pay21 (kind i) gq gk)⟩]

theorem outs_cover (i : grid0.Coords) (h : S2x512x4096.Idx → Elt F .bf16) (gk gq : S1x128.Idx → Elt F .f32) (w : S4096x1024.Idx → Elt F .bf16)
    (y : S1x1x8x512x128.Idx) : ∃ p ∈ outs i h gk gq w, y ∈ p.1.set :=
  View.cover_of_tiledL (outs i h gk gq w) ![1, 1, 1, 512, 128] (by sl_kernel_rfl) y

/-- What a point leaves in its block. -/
def left (i : grid0.Coords) (h : S2x512x4096.Idx → Elt F .bf16) (gk gq : S1x128.Idx → Elt F .f32) (w : S4096x1024.Idx → Elt F .bf16) :
    S1x1x8x512x128.Idx → Elt F .bf16 := View.canon (outs i h gk gq w)

variable (c : Dev nD) (i : grid0.Coords) (arg2 : Memref sig .tc .vmem S512x4096 .f32) (harg2 : arg2.IsWhole)
  (arg3 : Memref sig .tc .vmem S1x1x4096 .f32) (harg3 : arg3.IsWhole)
  (arg4 : Memref sig .tc .vmem S1x1x4096 .f32) (harg4 : arg4.IsWhole)
  (arg5 : Memref sig .tc .vmem S1x1x4096 .f32) (harg5 : arg5.IsWhole)
  (arg6 : Memref sig .tc .vmem S1x1x4096 .f32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S4096x1024 .bf16) (harg11 : arg11.IsWhole)
  (arg12 : Memref sig .tc .vmem S1x1x8x512x128 .bf16) (harg12 : arg12.IsWhole)
  (arg13 : Memref sig .tc .vmem S2x512x4096 .bf16) (harg13 : arg13.IsWhole)
  (x0 : S512x4096.Idx → Elt F .f32) (x1 x2 x3 x4 : S1x1x4096.Idx → Elt F .f32) (x5 x6 : S1x4096.Idx → Elt F .f32)
  (x7 x8 : S1x128.Idx → Elt F .f32) (x9 : S4096x1024.Idx → Elt F .bf16) (h : S2x512x4096.Idx → Elt F .bf16)
  (o : arg12.view.ty.Contents (Elt F)) (g : arg13.view.ty.Contents (Elt F))

/-- The operands that a point reads and leaves as they are. -/
def ins : sProp 𝕄 :=
  iprop((arg2.view.loc (c : Thread nD τ) ↦[arg2.view.set]{fullShare} harg2.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} harg6.unread x4)
    ∗ (arg7.view.loc (c : Thread nD τ) ↦[arg7.view.set]{fullShare} harg7.unread x5)
    ∗ (arg8.view.loc (c : Thread nD τ) ↦[arg8.view.set]{fullShare} harg8.unread x6)
    ∗ (arg9.view.loc (c : Thread nD τ) ↦[arg9.view.set]{fullShare} harg9.unread x7)
    ∗ (arg10.view.loc (c : Thread nD τ) ↦[arg10.view.set]{fullShare} harg10.unread x8)
    ∗ (arg11.view.loc (c : Thread nD τ) ↦[arg11.view.set]{fullShare} harg11.unread x9))

set_option maxHeartbeats 800000 in
/-- A later point's run: the scratch is read and left. -/
theorem run_later (hc : ¬ First i) :
    iprop(ins c arg2 harg2 arg3 harg3 arg4 harg4 arg5 harg5 arg6 harg6 arg7 harg7 arg8 harg8 arg9 harg9 arg10 harg10 arg11 harg11 x0 x1 x2 x3 x4 x5 x6 x7 x8 x9
      ∗ (arg12.view.loc (c : Thread nD τ) ↦[arg12.view.set]{fullShare} o) ∗ (arg13.view.loc (c : Thread nD τ) ↦[arg13.view.set]{fullShare} harg13.unread h))
    ⊢ wp frame (wpE (defs₀ (F := F)) Variants.none (c : Thread nD τ) none) Set.univ
      (cc0_kvq_proj (F := F) i arg2 harg2 arg3 harg3 arg4 harg4 arg5 harg5 arg6 harg6 arg7 harg7 arg8 harg8 arg9 harg9 arg10 harg10 arg11 harg11 arg12 harg12 arg13 harg13)
      (fun _ => (iprop(ins c arg2 harg2 arg3 harg3 arg4 harg4 arg5 harg5 arg6 harg6 arg7 harg7 arg8 harg8 arg9 harg9 arg10 harg10 arg11 harg11 x0 x1 x2 x3 x4 x5 x6 x7 x8 x9
        ∗ (∃ f, ⌜arg12.view.read (Elt F) f = left i h x7 x8 x9⌝ ∗ (arg12.view.loc (c : Thread nD τ) ↦[arg12.view.set]{fullShare} f))
        ∗ (arg13.view.loc (c : Thread nD τ) ↦[arg13.view.set]{fullShare} harg13.unread h)) : sProp 𝕄)) := by
  unfold ins
  iintro ⟨⟨H2, H3, H4, H5, H6, H7, H8, H9, H10, H11⟩, H12, H13⟩
  simp only [cc0_kvq_proj_eq_skeleton]; unfold cc0_kvq_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  sl_exec (disch := first | sl_exact hc)
  sl_step
  isplitl [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]
  · iexists _
    isplitr
    swap; · iexact H12
    ipureintro
    refine (congrArg (fun L => arg12.view.read (Elt F) (arg12.view.writes (Elt F) o L)) ?_).trans (View.read_writes_eq_canon arg12.view o _ (outs_cover i h x7 x8 x9))
    sl_unfold_words
    simp only [View.readAt_eq_ld, harg9.read_unread, harg10.read_unread, harg11.read_unread, harg13.read_unread]
    rw [View.ld_unit_zero (S := S4096x1024) hz2, View.ld_unit_zero (S := S1x128) hz2, View.ld_unit_zero (S := S1x128) hz2]
    rfl
  iexact H13

set_option maxHeartbeats 800000 in
/-- The first point's run: the scratch is written, and read. -/
theorem run_first (hc : First i) :
    iprop(ins c arg2 harg2 arg3 harg3 arg4 harg4 arg5 harg5 arg6 harg6 arg7 harg7 arg8 harg8 arg9 harg9 arg10 harg10 arg11 harg11 x0 x1 x2 x3 x4 x5 x6 x7 x8 x9
      ∗ (arg12.view.loc (c : Thread nD τ) ↦[arg12.view.set]{fullShare} o) ∗ (arg13.view.loc (c : Thread nD τ) ↦[arg13.view.set]{fullShare} g))
    ⊢ wp frame (wpE (defs₀ (F := F)) Variants.none (c : Thread nD τ) none) Set.univ
      (cc0_kvq_proj (F := F) i arg2 harg2 arg3 harg3 arg4 harg4 arg5 harg5 arg6 harg6 arg7 harg7 arg8 harg8 arg9 harg9 arg10 harg10 arg11 harg11 arg12 harg12 arg13 harg13)
      (fun _ => (iprop(ins c arg2 harg2 arg3 harg3 arg4 harg4 arg5 harg5 arg6 harg6 arg7 harg7 arg8 harg8 arg9 harg9 arg10 harg10 arg11 harg11 x0 x1 x2 x3 x4 x5 x6 x7 x8 x9
        ∗ (∃ f, ⌜arg12.view.read (Elt F) f = left i (halves x0 x1 x2 x3 x4 x5 x6) x7 x8 x9⌝ ∗ (arg12.view.loc (c : Thread nD τ) ↦[arg12.view.set]{fullShare} f))
        ∗ (arg13.view.loc (c : Thread nD τ) ↦[arg13.view.set]{fullShare} harg13.unread (halves x0 x1 x2 x3 x4 x5 x6))) : sProp 𝕄)) := by
  unfold ins
  iintro ⟨⟨H2, H3, H4, H5, H6, H7, H8, H9, H10, H11⟩, H12, H13⟩
  simp only [cc0_kvq_proj_eq_skeleton]; unfold cc0_kvq_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  sl_exec (disch := first | sl_exact hc)
  sl_step
  have hS : stores x0 x1 x2 x3 x4 x5 x6 = run_first.sl.H13_8 arg2 harg2 arg3 harg3 arg4 harg4 arg5 harg5 arg6 harg6 arg7 harg7 arg8 harg8 x0 x1 x2 x3 x4 x5 x6 := by
    sl_unfold_words
    simp only [View.readAt_eq_ld, harg2.read_unread, harg3.read_unread, harg4.read_unread, harg5.read_unread, harg6.read_unread, harg7.read_unread, harg8.read_unread]
    rw [View.ld_unit_zero (S := S1x4096) hz2, View.ld_unit_zero (S := S1x4096) hz2, View.ld_unit_zero (S := S1x1x4096) hz3,
      View.ld_unit_zero (S := S1x1x4096) hz3, View.ld_unit_zero (S := S1x1x4096) hz3, View.ld_unit_zero (S := S1x1x4096) hz3]
    rfl
  isplitl [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]
  · iexists _
    isplitr
    swap; · iexact H12
    ipureintro
    refine (congrArg (fun L => arg12.view.read (Elt F) (arg12.view.writes (Elt F) o L)) ?_).trans (View.read_writes_eq_canon arg12.view o _ (outs_cover i (halves x0 x1 x2 x3 x4 x5 x6) x7 x8 x9))
    delta run_first.sl.r_19 run_first.sl.r_18 run_first.sl.r_17 run_first.sl.r_16 run_first.sl.r_15 run_first.sl.r_14 run_first.sl.r_13 run_first.sl.r_12
    delta run_first.sl.r_11 run_first.sl.r_10
    delta run_first.sl.r_9
    rw [← hS]
    simp only [View.readAt_eq_ld, harg9.read_unread, harg10.read_unread, harg11.read_unread,
      View.read_writes_eq_canon arg13.view _ _ (stores_cover x0 x1 x2 x3 x4 x5 x6)]
    rw [View.ld_unit_zero (S := S4096x1024) hz2, View.ld_unit_zero (S := S1x128) hz2, View.ld_unit_zero (S := S1x128) hz2]
    unfold halves
    generalize View.canon (stores x0 x1 x2 x3 x4 x5 x6) = h
    delta run_first.sl.v19
    rfl
  rw [← hS, show arg13.view.writes (Elt F) arg13.view.junk (stores x0 x1 x2 x3 x4 x5 x6) = harg13.unread (halves x0 x1 x2 x3 x4 x5 x6) from
    harg13.eq_unread (View.read_writes_eq_canon arg13.view _ _ (stores_cover x0 x1 x2 x3 x4 x5 x6))]
  iexact H13

end Cert.Kernel7Ideal.Kvq

end
-- ==== Proof.KvqRun.lean ====
module

public import proofs.«01_k».proof.Proof.KvqBody
public import Idealize.ShloMosaic.Lib.Pipeline.Covers
public import Idealize.ShloMosaic.Lib.Claim

@[expose] public section

set_option maxRecDepth 16384

noncomputable section

/-! # The run of the key, value and query projections

The launch at any float values. A row tile's twelve points share the scratch that the first of them fills, so between
points the scratch holds the normalised rows of the tile of the point before. -/

namespace Cert.Kernel7Ideal.Kvq

open Cert.Kernel7Ideal Cert.Kernel7Ideal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents at the region's entry. -/
abbrev V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
theorem V_arg5 (c : Dev nD) : V m c main_arg5 = m ((c : Thread nD τ).loc main_arg5) := by
  show StableHlo.after hostOps0 (fun b => m (c, b)) (Proc.devRef .tc main_arg5) = _
  after_results
theorem V_arg6 (c : Dev nD) : V m c main_arg6 = m ((c : Thread nD τ).loc main_arg6) := by
  show StableHlo.after hostOps0 (fun b => m (c, b)) (Proc.devRef .tc main_arg6) = _
  after_results
theorem V_arg7 (c : Dev nD) : V m c main_arg7 = m ((c : Thread nD τ).loc main_arg7) := by
  show StableHlo.after hostOps0 (fun b => m (c, b)) (Proc.devRef .tc main_arg7) = _
  after_results
theorem V_arg8 (c : Dev nD) : V m c main_arg8 = m ((c : Thread nD τ).loc main_arg8) := by
  show StableHlo.after hostOps0 (fun b => m (c, b)) (Proc.devRef .tc main_arg8) = _
  after_results
theorem V_arg9 (c : Dev nD) : V m c main_arg9 = m ((c : Thread nD τ).loc main_arg9) := by
  show StableHlo.after hostOps0 (fun b => m (c, b)) (Proc.devRef .tc main_arg9) = _
  after_results
theorem V_arg10 (c : Dev nD) : V m c main_arg10 = m ((c : Thread nD τ).loc main_arg10) := by
  show StableHlo.after hostOps0 (fun b => m (c, b)) (Proc.devRef .tc main_arg10) = _
  after_results
theorem V_arg11 (c : Dev nD) : V m c main_arg11 = m ((c : Thread nD τ).loc main_arg11) := by
  show StableHlo.after hostOps0 (fun b => m (c, b)) (Proc.devRef .tc main_arg11) = _
  after_results

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (arrRef spec0 w))

/-! The blocks the body finds at a point. -/
abbrev at0 (c : Dev nD) (t : Fin cfg0.N) : S512x4096.Idx → Elt F .f32 := iblk m c 0 t
abbrev at1 (c : Dev nD) (t : Fin cfg0.N) : S1x1x4096.Idx → Elt F .f32 := iblk m c 1 t
abbrev at2 (c : Dev nD) (t : Fin cfg0.N) : S1x1x4096.Idx → Elt F .f32 := iblk m c 2 t
abbrev at3 (c : Dev nD) (t : Fin cfg0.N) : S1x1x4096.Idx → Elt F .f32 := iblk m c 3 t
abbrev at4 (c : Dev nD) (t : Fin cfg0.N) : S1x1x4096.Idx → Elt F .f32 := iblk m c 4 t
abbrev at5 (c : Dev nD) (t : Fin cfg0.N) : S1x4096.Idx → Elt F .f32 := iblk m c 5 t
abbrev at6 (c : Dev nD) (t : Fin cfg0.N) : S1x4096.Idx → Elt F .f32 := iblk m c 6 t
abbrev at7 (c : Dev nD) (t : Fin cfg0.N) : S1x128.Idx → Elt F .f32 := iblk m c 7 t
abbrev at8 (c : Dev nD) (t : Fin cfg0.N) : S1x128.Idx → Elt F .f32 := iblk m c 8 t
abbrev at9 (c : Dev nD) (t : Fin cfg0.N) : S4096x1024.Idx → Elt F .bf16 := iblk m c 9 t

/-- The first point of a point's row tile. -/
def fst (t : Fin cfg0.N) : Fin cfg0.N := ⟨t.val - t.val % 12, lt_of_le_of_lt (Nat.sub_le _ _) t.isLt⟩

/-- The scratch after a point: what the first point of its row tile stored. -/
def hAt (c : Dev nD) (t : Fin cfg0.N) : S2x512x4096.Idx → Elt F .bf16 :=
  halves (at0 m c (fst t)) (at1 m c (fst t)) (at2 m c (fst t)) (at3 m c (fst t)) (at4 m c (fst t)) (at5 m c (fst t)) (at6 m c (fst t))

theorem hAt_first (c : Dev nD) (t : Fin cfg0.N) (h : t.val % 12 = 0) :
    halves (at0 m c t) (at1 m c t) (at2 m c t) (at3 m c t) (at4 m c t) (at5 m c t) (at6 m c t) = hAt m c t := by
  have e : fst t = t := Fin.ext (by show t.val - t.val % 12 = t.val; omega)
  unfold hAt
  rw [e]

theorem hAt_later (c : Dev nD) (t : Fin cfg0.N) (h : ¬ t.val % 12 = 0) (hp : t.val - 1 < cfg0.N) : hAt m c ⟨t.val - 1, hp⟩ = hAt m c t := by
  have e : fst ⟨t.val - 1, hp⟩ = fst t := Fin.ext (by show t.val - 1 - (t.val - 1) % 12 = t.val - t.val % 12; omega)
  unfold hAt
  rw [e]

/-- The block a point leaves. -/
def outAt (c : Dev nD) (t : Fin cfg0.N) : S1x1x8x512x128.Idx → Elt F .bf16 :=
  left (grid0.coords t) (hAt m c t) (at7 m c t) (at8 m c t) (at9 m c t)

/-- The scratch as a memref. -/
abbrev scM : Memref sig .tc .vmem S2x512x4096 .bf16 := Memref.whole cc0_scratch0

theorem PhiA_eq (c : Dev nD) : (ΦA spec0 c : sProp 𝕄) = iprop((∃ d, owns (c : Thread nD τ) scM fullShare d) ∗ (∃ r, prngReg c r)) := by
  unfold ΦA; rw [scopedRest0_eq]; simp only [scM, owns_whole]; try rfl

/-- What holds between points: the scratch at anything before the first, then at the rows of the tile before. -/
def inv (c : Dev nD) : (n : ℕ) → n ≤ cfg0.N → sProp 𝕄
  | 0, _ => ΦA spec0 c
  | n + 1, hn => iprop(owns (c : Thread nD τ) scM fullShare (hAt m c ⟨n, hn⟩) ∗ (∃ r, prngReg c r))

theorem inv_zero (c : Dev nD) (n : ℕ) (h : n ≤ cfg0.N) (hz : n = 0) : inv m c n h = ΦA spec0 c := by
  subst hz; rfl
theorem inv_succ (c : Dev nD) (n : ℕ) (hn : n < cfg0.N) :
    inv m c (n + 1) hn = iprop(owns (c : Thread nD τ) scM fullShare (hAt m c ⟨n, hn⟩) ∗ (∃ r, prngReg c r)) := rfl
theorem inv_pos (c : Dev nD) (n : ℕ) (h : n ≤ cfg0.N) (hz : n ≠ 0) :
    inv m c n h = iprop(owns (c : Thread nD τ) scM fullShare (hAt m c ⟨n - 1, by omega⟩) ∗ (∃ r, prngReg c r)) := by
  cases n with
  | zero => exact absurd rfl hz
  | succ n => rfl

/-- At any point the scratch is owned at something. -/
theorem inv_any (c : Dev nD) (n : ℕ) (h : n ≤ cfg0.N) : inv m c n h ⊢ iprop((∃ d, owns (c : Thread nD τ) scM fullShare d) ∗ (∃ r, prngReg c r)) := by
  cases n with
  | zero => rw [inv_zero m c 0 h rfl, PhiA_eq]
  | succ n =>
    rw [inv_succ m c n h]
    iintro ⟨HS, Hg⟩
    isplitl [HS]
    · iexists _; iexact HS
    iexact Hg

/-- The proof data of the one pipeline. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := inv m c t.val (Nat.le_of_lt_succ t.isLt)
  q _ := fullShare
  owed _ := 0

theorem A_eq (c : Dev nD) (w : Fin cfg0.W) : (dats m 0 c).A w = V m c (arrRef spec0 w) := by dsimp only [dats]
theorem inv_castSucc (c : Dev nD) (t : Fin cfg0.N) : (dats m 0 c).Φ t.castSucc = inv m c t.val (Nat.le_of_lt t.isLt) := by
  dsimp only [dats]; exact Dat.Φ_castSucc (inv m c) t
theorem after_0 (c : Dev nD) (t : Fin cfg0.N) : (dats m 0 c).after 0 t = at0 m c t := by dsimp only [dats]
theorem after_1 (c : Dev nD) (t : Fin cfg0.N) : (dats m 0 c).after 1 t = at1 m c t := by dsimp only [dats]
theorem after_2 (c : Dev nD) (t : Fin cfg0.N) : (dats m 0 c).after 2 t = at2 m c t := by dsimp only [dats]
theorem after_3 (c : Dev nD) (t : Fin cfg0.N) : (dats m 0 c).after 3 t = at3 m c t := by dsimp only [dats]
theorem after_4 (c : Dev nD) (t : Fin cfg0.N) : (dats m 0 c).after 4 t = at4 m c t := by dsimp only [dats]
theorem after_5 (c : Dev nD) (t : Fin cfg0.N) : (dats m 0 c).after 5 t = at5 m c t := by dsimp only [dats]
theorem after_6 (c : Dev nD) (t : Fin cfg0.N) : (dats m 0 c).after 6 t = at6 m c t := by dsimp only [dats]
theorem after_7 (c : Dev nD) (t : Fin cfg0.N) : (dats m 0 c).after 7 t = at7 m c t := by dsimp only [dats]
theorem after_8 (c : Dev nD) (t : Fin cfg0.N) : (dats m 0 c).after 8 t = at8 m c t := by dsimp only [dats]
theorem after_9 (c : Dev nD) (t : Fin cfg0.N) : (dats m 0 c).after 9 t = at9 m c t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = at0 m c t :=
  ((dats m 0 c).before_in_eq_fetched 0 rfl (fun _ => rfl) (fun _ _ _ => rfl)
    (fun t => by rw [after_0]; unfold Dat.blockOf at0 iblk; rw [A_eq]; try rfl) t d).trans
    (by unfold Dat.fetched Dat.blockOf at0 iblk; rw [A_eq]; try rfl)
theorem before_1 (c : Dev nD) (t : Fin cfg0.N) (d) : (dats m 0 c).before 1 t d = at1 m c t :=
  ((dats m 0 c).before_in_eq_fetched 1 rfl (fun _ => rfl) (fun _ _ _ => rfl)
    (fun t => by rw [after_1]; unfold Dat.blockOf at1 iblk; rw [A_eq]; try rfl) t d).trans
    (by unfold Dat.fetched Dat.blockOf at1 iblk; rw [A_eq]; try rfl)
theorem before_2 (c : Dev nD) (t : Fin cfg0.N) (d) : (dats m 0 c).before 2 t d = at2 m c t :=
  ((dats m 0 c).before_in_eq_fetched 2 rfl (fun _ => rfl) (fun _ _ _ => rfl)
    (fun t => by rw [after_2]; unfold Dat.blockOf at2 iblk; rw [A_eq]; try rfl) t d).trans
    (by unfold Dat.fetched Dat.blockOf at2 iblk; rw [A_eq]; try rfl)
theorem before_3 (c : Dev nD) (t : Fin cfg0.N) (d) : (dats m 0 c).before 3 t d = at3 m c t :=
  ((dats m 0 c).before_in_eq_fetched 3 rfl (fun _ => rfl) (fun _ _ _ => rfl)
    (fun t => by rw [after_3]; unfold Dat.blockOf at3 iblk; rw [A_eq]; try rfl) t d).trans
    (by unfold Dat.fetched Dat.blockOf at3 iblk; rw [A_eq]; try rfl)
theorem before_4 (c : Dev nD) (t : Fin cfg0.N) (d) : (dats m 0 c).before 4 t d = at4 m c t :=
  ((dats m 0 c).before_in_eq_fetched 4 rfl (fun _ => rfl) (fun _ _ _ => rfl)
    (fun t => by rw [after_4]; unfold Dat.blockOf at4 iblk; rw [A_eq]; try rfl) t d).trans
    (by unfold Dat.fetched Dat.blockOf at4 iblk; rw [A_eq]; try rfl)
theorem before_5 (c : Dev nD) (t : Fin cfg0.N) (d) : (dats m 0 c).before 5 t d = at5 m c t :=
  ((dats m 0 c).before_in_eq_fetched 5 rfl (fun _ => rfl) (fun _ _ _ => rfl)
    (fun t => by rw [after_5]; unfold Dat.blockOf at5 iblk; rw [A_eq]; try rfl) t d).trans
    (by unfold Dat.fetched Dat.blockOf at5 iblk; rw [A_eq]; try rfl)
theorem before_6 (c : Dev nD) (t : Fin cfg0.N) (d) : (dats m 0 c).before 6 t d = at6 m c t :=
  ((dats m 0 c).before_in_eq_fetched 6 rfl (fun _ => rfl) (fun _ _ _ => rfl)
    (fun t => by rw [after_6]; unfold Dat.blockOf at6 iblk; rw [A_eq]; try rfl) t d).trans
    (by unfold Dat.fetched Dat.blockOf at6 iblk; rw [A_eq]; try rfl)
theorem before_7 (c : Dev nD) (t : Fin cfg0.N) (d) : (dats m 0 c).before 7 t d = at7 m c t :=
  ((dats m 0 c).before_in_eq_fetched 7 rfl (fun _ => rfl) (fun _ _ _ => rfl)
    (fun t => by rw [after_7]; unfold Dat.blockOf at7 iblk; rw [A_eq]; try rfl) t d).trans
    (by unfold Dat.fetched Dat.blockOf at7 iblk; rw [A_eq]; try rfl)
theorem before_8 (c : Dev nD) (t : Fin cfg0.N) (d) : (dats m 0 c).before 8 t d = at8 m c t :=
  ((dats m 0 c).before_in_eq_fetched 8 rfl (fun _ => rfl) (fun _ _ _ => rfl)
    (fun t => by rw [after_8]; unfold Dat.blockOf at8 iblk; rw [A_eq]; try rfl) t d).trans
    (by unfold Dat.fetched Dat.blockOf at8 iblk; rw [A_eq]; try rfl)
theorem before_9 (c : Dev nD) (t : Fin cfg0.N) (d) : (dats m 0 c).before 9 t d = at9 m c t :=
  ((dats m 0 c).before_in_eq_fetched 9 rfl (fun _ => rfl) (fun _ _ _ => rfl)
    (fun t => by rw [after_9]; unfold Dat.blockOf at9 iblk; rw [A_eq]; try rfl) t d).trans
    (by unfold Dat.fetched Dat.blockOf at9 iblk; rw [A_eq]; try rfl)

/-! The staging buffers at a point. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4096x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x8x512x128 .bf16 := win0_10.stage (cfg0.slots t 10)
abbrev hs10 (t : Fin cfg0.N) : (ms10 t).IsWhole := hstage0_10 ((cfg0.slots t 10).cast nbuf0_10)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 1600000 in
/-- One grid point: the body leaves the point's block, and the scratch at its tile's rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10]
  rw [show (dats m 0 c).Φ t.succ = inv m c (t.val + 1) t.isLt from rfl, inv_succ, inv_castSucc]
  by_cases h0 : t.val % 12 = 0
  · iintro ⟨HI, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HI := (inv_any m c _ _) $$ HI
    icases HI with ⟨⟨%dS, HS⟩, Hg⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, %e8, H8⟩
    icases H9 with ⟨%f9, %e9, H9⟩
    icases H10 with ⟨%f10, -, H10⟩
    icases HS with ⟨%fS, -, HS⟩
    obtain rfl := (hs0 t).eq_unread e0
    obtain rfl := (hs1 t).eq_unread e1
    obtain rfl := (hs2 t).eq_unread e2
    obtain rfl := (hs3 t).eq_unread e3
    obtain rfl := (hs4 t).eq_unread e4
    obtain rfl := (hs5 t).eq_unread e5
    obtain rfl := (hs6 t).eq_unread e6
    obtain rfl := (hs7 t).eq_unread e7
    obtain rfl := (hs8 t).eq_unread e8
    obtain rfl := (hs9 t).eq_unread e9
    iapply (wp_wand_r frame (wpE (defs₀ (F := F)) Variants.none c none) Set.univ)
    isplitl [H0 H1 H2 H3 H4 H5 H6 H7 H8 H9 H10 HS]
    · iapply (run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _)
        (at0 m c t) (at1 m c t) (at2 m c t) (at3 m c t) (at4 m c t) (at5 m c t) (at6 m c t) (at7 m c t) (at8 m c t) (at9 m c t) f10 fS ((first_iff t).2 h0))
      unfold ins
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      iexact HS
    unfold ins
    iintro %_ ⟨⟨H0, H1, H2, H3, H4, H5, H6, H7, H8, H9⟩, ⟨%f, %ef, H10⟩, HS⟩
    isplitl [HS Hg]
    · isplitl [HS]
      · iexists _; isplitr
        swap; · iexact HS
        ipureintro; exact ((Memref.isWhole_whole cc0_scratch0).read_unread _).trans (hAt_first m c t h0)
      iexact Hg
    isplitl [HW]; · iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    isplitl [H7]
    · iexists _; isplitr
      swap; · iexact H7
      ipureintro; exact e7
    isplitl [H8]
    · iexists _; isplitr
      swap; · iexact H8
      ipureintro; exact e8
    isplitl [H9]
    · iexists _; isplitr
      swap; · iexact H9
      ipureintro; exact e9
    iexists _; isplitr
    swap; · iexact H10
    ipureintro; exact ef.trans (congrArg (fun h => left (grid0.coords t) h (at7 m c t) (at8 m c t) (at9 m c t)) (hAt_first m c t h0))
  · rw [inv_pos m c _ _ (fun h => h0 (by rw [h])), hAt_later m c t h0]
    iintro ⟨⟨HS, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, %e8, H8⟩
    icases H9 with ⟨%f9, %e9, H9⟩
    icases H10 with ⟨%f10, -, H10⟩
    icases HS with ⟨%fS, %eS, HS⟩
    obtain rfl := (hs0 t).eq_unread e0
    obtain rfl := (hs1 t).eq_unread e1
    obtain rfl := (hs2 t).eq_unread e2
    obtain rfl := (hs3 t).eq_unread e3
    obtain rfl := (hs4 t).eq_unread e4
    obtain rfl := (hs5 t).eq_unread e5
    obtain rfl := (hs6 t).eq_unread e6
    obtain rfl := (hs7 t).eq_unread e7
    obtain rfl := (hs8 t).eq_unread e8
    obtain rfl := (hs9 t).eq_unread e9
    obtain rfl := (Memref.isWhole_whole cc0_scratch0).eq_unread eS
    iapply (wp_wand_r frame (wpE (defs₀ (F := F)) Variants.none c none) Set.univ)
    isplitl [H0 H1 H2 H3 H4 H5 H6 H7 H8 H9 H10 HS]
    · iapply (run_later c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _)
        (at0 m c t) (at1 m c t) (at2 m c t) (at3 m c t) (at4 m c t) (at5 m c t) (at6 m c t) (at7 m c t) (at8 m c t) (at9 m c t) (hAt m c t) f10 (fun h => h0 ((first_iff t).1 h)))
      unfold ins
      isplitl [H0 H1 H2 H3 H4 H5 H6 H7 H8 H9]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      iexact HS
    unfold ins
    iintro %_ ⟨⟨H0, H1, H2, H3, H4, H5, H6, H7, H8, H9⟩, ⟨%f, %ef, H10⟩, HS⟩
    isplitl [HS Hg]
    · isplitl [HS]
      · iexists _; isplitr
        swap; · iexact HS
        ipureintro; exact ((Memref.isWhole_whole cc0_scratch0).read_unread _).trans rfl
      iexact Hg
    isplitl [HW]; · iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    isplitl [H7]
    · iexists _; isplitr
      swap; · iexact H7
      ipureintro; exact e7
    isplitl [H8]
    · iexists _; isplitr
      swap; · iexact H8
      ipureintro; exact e8
    isplitl [H9]
    · iexists _; isplitr
      swap; · iexact H9
      ipureintro; exact e9
    iexists _; isplitr
    swap; · iexact H10
    ipureintro; exact ef.trans (congrArg (fun h => left (grid0.coords t) h (at7 m c t) (at8 m c t) (at9 m c t)) rfl)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : ΦA spec0 c ⊢ (dats m 0 c).Φ 0 := by
  rw [show (dats m 0 c).Φ 0 = inv m c 0 (Nat.zero_le _) from rfl, inv_zero m c 0 _ rfl]

theorem hout (c : Dev nD) : (dats m 0 c).Φ (Fin.last cfg0.N) ⊢ ΦA spec0 c := by
  rw [show (dats m 0 c).Φ (Fin.last cfg0.N) = inv m c cfg0.N le_rfl from rfl, PhiA_eq]
  exact inv_any m c _ _

theorem hostOps0_fresh : (hostOps0 : List (HloOp τ sig (Elt F))).Forall fun op => op.fresh = ∅ := by
  simp only [List.Forall]; repeat' constructor

set_option maxHeartbeats 800000 in
theorem hmain (𝒱₀ : Variants) : HMain (Ix := Unit) (Name := ℕ) (U := UR sig nD τ) (Lvl := ℕ) cfgs 0 defs₀ 𝒱₀ m (main (F := F)) (V m) :=
  hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: the result is what the blocks leave in it, and the arguments are kept. -/
theorem run : θ_run defs (onTc (τ := τ) (main (F := F))) ⟨m, fun _ => 0, ρ⟩ (fun r => (∀ c : Dev nD,
        r.2.mem ((c.tc : Thread nD τ).loc main_v9) = (dats m 0 c).arrAt 10 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
      ∧ r.2.sem = fun _ => 0) :=
  (θ_run defs _ _).mono (fun _ w => ⟨fun c => have h := w.1; ⟨(h c).1 10,
        ((h c).2 main_arg0 (mem_restRefs_of main_arg0 (by decide) (by decide))).trans (V_arg0 m c),
        ((h c).1 1).trans (((dats m 0 c).arrAt_in 1 rfl _).trans ((A_eq m c 1).trans (V_arg1 m c))),
        ((h c).1 2).trans (((dats m 0 c).arrAt_in 2 rfl _).trans ((A_eq m c 2).trans (V_arg2 m c))),
        ((h c).1 3).trans (((dats m 0 c).arrAt_in 3 rfl _).trans ((A_eq m c 3).trans (V_arg3 m c))),
        ((h c).1 4).trans (((dats m 0 c).arrAt_in 4 rfl _).trans ((A_eq m c 4).trans (V_arg4 m c))),
        ((h c).2 main_arg5 (mem_restRefs_of main_arg5 (by decide) (by decide))).trans (V_arg5 m c),
        ((h c).2 main_arg6 (mem_restRefs_of main_arg6 (by decide) (by decide))).trans (V_arg6 m c),
        ((h c).2 main_arg7 (mem_restRefs_of main_arg7 (by decide) (by decide))).trans (V_arg7 m c),
        ((h c).2 main_arg8 (mem_restRefs_of main_arg8 (by decide) (by decide))).trans (V_arg8 m c),
        ((h c).2 main_arg9 (mem_restRefs_of main_arg9 (by decide) (by decide))).trans (V_arg9 m c),
        ((h c).2 main_arg10 (mem_restRefs_of main_arg10 (by decide) (by decide))).trans (V_arg10 m c),
        ((h c).2 main_arg11 (mem_restRefs_of main_arg11 (by decide) (by decide))).trans (V_arg11 m c)⟩, w.2⟩) (run_main m ρ)

end Cert.Kernel7Ideal.Kvq

end
-- ==== Proof.KvqHeads.lean ====
module

public import proofs.«01_k».proof.Proof.KvqBody
public import proofs.«01_k».proof.Proof.Rows
public import Idealize.ShloMosaic.Lib.MatmulPlain

@[expose] public section

set_option maxRecDepth 16384

noncomputable section

/-! # What the projections' scratch and heads hold

An entry of the scratch's first half is a row of the tile normalised and modulated for the keys and values, of its second
half the same row for the queries. An entry of a head is the product of such a row with a column of the weights,
normalised over the head's 128 columns where the head is a key's or a query's. -/

namespace Cert.Kernel7Ideal.Kvq

open Cert.Kernel7Ideal Cert.Kernel7Ideal.Gen
open Idealize.ShloMosaic Idealize.ShloMosaic.TcCoe Idealize.ShloMosaic.Tactic Idealize.ShloMosaic.ValueIdx
open Cert.Whole

/-- One entry of a normalised row: the row, the column, and the weight, shift and scale there. -/
def norm (x : Fin 4096 → EReal) (k : Fin 4096) (g sh sc : EReal) : EReal :=
  ((x k * Ideal.rsqrt (Ideal.div (∑ j : Fin 4096, x j * x j) (Ideal.ofBits .f32 0x45800000#32) + Ideal.ofBits .f32 0x358637BD#32)) * g)
    * (Ideal.ofBits .f32 0x3F800000#32 + sc) + sh

/-- One entry of a normalised head: the head's columns, the column, and the weight there. -/
def hnorm (r : Fin 128 → EReal) (d : Fin 128) (g : EReal) : EReal :=
  (r d * Ideal.rsqrt (Ideal.div (∑ e : Fin 128, r e * r e) (Ideal.ofBits .f32 0x43000000#32) + Ideal.ofBits .f32 0x358637BD#32)) * g

/-! ## The scratch -/

theorem pay2_apply (x : S128x4096.Idx → Elt Ideal .f32) (r : Fin 128) (k : Fin 4096) :
    k0_pay2 (F := Ideal) x (ix2 r k) = x (ix2 r k) * Ideal.rsqrt (Ideal.div (∑ j : Fin 4096, x (ix2 r j) * x (ix2 r j)) (Ideal.ofBits .f32 0x45800000#32) + Ideal.ofBits .f32 0x358637BD#32) := by
  have hx : ∀ j : Fin 4096, shapeCast S128x4096 x shapeCasts_S128x4096_S128x4096 (ix2 r j) = x (ix2 r j) :=
    fun j => shapeCast_apply x _ _ _ rfl
  unfold k0_pay2
  refine congrArg₂ (· * ·) (hx k) ((Rows.column_apply _ _ (by decide) r k).trans (congrArg Ideal.rsqrt (congrArg (· + Ideal.ofBits .f32 0x358637BD#32) (congrArg (Ideal.div · (Ideal.ofBits .f32 0x45800000#32)) ?_))))
  exact (Rows.sum_apply _ _ _ _ _ r).trans (Finset.sum_congr rfl fun j _ => congrArg₂ (· * ·) (hx j) (hx j))

theorem pay3_apply (x : S128x4096.Idx → Elt Ideal .f32) (g : S1x4096.Idx → Elt Ideal .f32) (sc sh : S1x1x4096.Idx → Elt Ideal .f32)
    (z : Fin 1) (r : Fin 128) (k : Fin 4096) :
    k0_pay3 (F := Ideal) x g sc sh (ix3 z r k)
      = norm (fun j => x (ix2 r j)) k (g (ix2 (0 : Fin 1) k)) (sh (ix3 (0 : Fin 1) (0 : Fin 1) k)) (sc (ix3 (0 : Fin 1) (0 : Fin 1) k)) := by
  have hv : ∀ v : S1x1x4096.Idx → Elt Ideal .f32, shapeCast S1x4096 v shapeCasts_S1x1x4096_S1x4096 (ix2 (0 : Fin 1) k) = v (ix3 (0 : Fin 1) (0 : Fin 1) k) :=
    fun v => shapeCast_apply v _ _ _ (by
      rw [Shape.rowMajor_val_three, Shape.rowMajor_val_two]
      show (0 * 1 + 0) * 4096 + k.val = 0 * 4096 + k.val
      omega)
  unfold k0_pay3
  refine (shapeCast_apply _ _ _ (ix2 r k) ?_).trans ?_
  · rw [Shape.rowMajor_val_three, Shape.rowMajor_val_two]
    show r.val * 4096 + k.val = (z.val * 128 + r.val) * 4096 + k.val
    have := z.isLt
    omega
  · refine congrArg₂ (· + ·) (congrArg₂ (· * ·) (congrArg₂ (· * ·) (pay2_apply x r k) ?_) ?_) ?_
    · exact (broadcastTo_1b_ab_apply _ _ r k).trans (shapeCast_apply g _ _ _ rfl)
    · exact (broadcastTo_1b_ab_apply _ _ r k).trans (congrArg (Ideal.ofBits .f32 0x3F800000#32 + ·) (hv sc))
    · exact (broadcastTo_1b_ab_apply _ _ r k).trans (hv sh)

/-- The two halves as values. -/
def rows (x : S512x4096.Idx → Elt Ideal .f32) (shk sck shq scq : S1x1x4096.Idx → Elt Ideal .f32) (ngk ngq : S1x4096.Idx → Elt Ideal .f32) :
    S2x512x4096.Idx → Elt Ideal .bf16 := fun y =>
  norm (fun j => x (ix2 (y 1 : Fin 512) j)) (y 2)
    ((if (y 0).val = 0 then ngk else ngq) (ix2 (0 : Fin 1) (y 2 : Fin 4096)))
    ((if (y 0).val = 0 then shk else shq) (ix3 (0 : Fin 1) (0 : Fin 1) (y 2 : Fin 4096)))
    ((if (y 0).val = 0 then sck else scq) (ix3 (0 : Fin 1) (0 : Fin 1) (y 2 : Fin 4096)))

/-- A store of 128 rows into half `p` is those rows of that half. -/
theorem piece (x : S512x4096.Idx → Elt Ideal .f32) (shk sck shq scq : S1x1x4096.Idx → Elt Ideal .f32) (ngk ngq : S1x4096.Idx → Elt Ideal .f32)
    (p o : Nat) (inb : ∀ a, (![o, 0] : Fin 2 → Nat) a + S128x4096.size a ≤ S512x4096.size a)
    (inb' : ∀ a, (![p, o, 0] : Fin 3 → Nat) a + S1x128x4096.size a ≤ S2x512x4096.size a) (y : S1x128x4096.Idx) :
    k0_pay3 (F := Ideal) (View.ld (S := S512x4096) x (Rect.unit ![o, 0] S128x4096.size inb)) (if p = 0 then ngk else ngq) (if p = 0 then sck else scq) (if p = 0 then shk else shq) y
      = rows x shk sck shq scq ngk ngq ((Rect.unit (s := S2x512x4096) ![p, o, 0] S1x128x4096.size inb').emb y) := by
  obtain ⟨z, r, k, rfl⟩ : ∃ (z : Fin 1) (r : Fin 128) (k : Fin 4096), y = ix3 z r k := ⟨y 0, y 1, y 2, eq_ix3 y⟩
  have e0 : (((Rect.unit (s := S2x512x4096) ![p, o, 0] S1x128x4096.size inb').emb (ix3 z r k)) 0).val = p := by
    show p + 1 * z.val = _; have := z.isLt; omega
  have e1 : (((Rect.unit (s := S2x512x4096) ![p, o, 0] S1x128x4096.size inb').emb (ix3 z r k)) 1).val = o + r.val := by
    show o + 1 * r.val = _; omega
  have e2 : ((Rect.unit (s := S2x512x4096) ![p, o, 0] S1x128x4096.size inb').emb (ix3 z r k)) 2 = k :=
    Fin.ext (by show 0 + 1 * k.val = k.val; omega)
  refine (pay3_apply _ _ _ _ z r k).trans ?_
  unfold rows
  rw [e0, e2]
  refine congrArg (fun f => norm f k _ _ _) (funext fun j => View.ld_unit_apply_of x _ _ inb (ix2 r j) _ fun a => ?_)
  match a with
  | ⟨0, _⟩ => exact e1
  | ⟨1, _⟩ => show j.val = 0 + j.val; omega

/-- The scratch holds the two halves. -/
theorem halves_eq (x : S512x4096.Idx → Elt Ideal .f32) (shk sck shq scq : S1x1x4096.Idx → Elt Ideal .f32) (ngk ngq : S1x4096.Idx → Elt Ideal .f32) :
    halves (F := Ideal) x shk sck shq scq ngk ngq = rows x shk sck shq scq ngk ngq := by
  funext y
  refine View.canon_apply_of_pieces (rows x shk sck shq scq ngk ngq) _ (fun p hp => ?_) y (stores_cover (F := Ideal) x shk sck shq scq ngk ngq y)
  unfold stores at hp
  simp only [List.mem_cons, List.not_mem_nil, or_false] at hp
  rcases hp with rfl | rfl | rfl | rfl | rfl | rfl | rfl | rfl
  · exact piece x shk sck shq scq ngk ngq 1 384 inb_S512x4096_S128x4096_384_0 inb_S2x512x4096_S1x128x4096_1_384_0
  · exact piece x shk sck shq scq ngk ngq 0 384 inb_S512x4096_S128x4096_384_0 inb_S2x512x4096_S1x128x4096_0_384_0
  · exact piece x shk sck shq scq ngk ngq 1 256 inb_S512x4096_S128x4096_256_0 inb_S2x512x4096_S1x128x4096_1_256_0
  · exact piece x shk sck shq scq ngk ngq 0 256 inb_S512x4096_S128x4096_256_0 inb_S2x512x4096_S1x128x4096_0_256_0
  · exact piece x shk sck shq scq ngk ngq 1 128 inb_S512x4096_S128x4096_128_0 inb_S2x512x4096_S1x128x4096_1_128_0
  · exact piece x shk sck shq scq ngk ngq 0 128 inb_S512x4096_S128x4096_128_0 inb_S2x512x4096_S1x128x4096_0_128_0
  · exact piece x shk sck shq scq ngk ngq 1 0 inb_S512x4096_S128x4096_0_0 inb_S2x512x4096_S1x128x4096_1_0_0
  · exact piece x shk sck shq scq ngk ngq 0 0 inb_S512x4096_S128x4096_0_0 inb_S2x512x4096_S1x128x4096_0_0_0

theorem slot_apply (i : grid0.Coords) (h : S2x512x4096.Idx → Elt Ideal .bf16) (z : Fin 1) (r : Fin 512) (k : Fin 4096) (p : Fin 2)
    (hp : p.val = (i 1).val / 8) : slot (F := Ideal) i h (ix3 z r k) = h (ix3 p r k) := by
  unfold slot
  refine View.ld_unit_apply_of h _ _ _ (ix3 z r k) (ix3 p r k) fun a => ?_
  refine Eq.trans ?_ (congrArg (· + (ix3 z r k a : Nat)) (congrFun (off1_eq i) a).symm)
  match a with
  | ⟨0, _⟩ => show p.val = (i 1).val / 8 + z.val; have := z.isLt; omega
  | ⟨1, _⟩ => show r.val = 0 + r.val; omega
  | ⟨2, _⟩ => show k.val = 0 + k.val; omega

/-! ## The product and its heads -/

theorem pay20_apply (h : S1x512x4096.Idx → Elt Ideal .bf16) (w : S4096x1024.Idx → Elt Ideal .bf16) (r : Fin 512) (k : Fin 1024) :
    k0_pay20 (F := Ideal) h w (ix2 r k) = ∑ c : Fin 4096, h (ix3 (0 : Fin 1) r c) * w (ix2 c k) := by
  unfold k0_pay20
  refine (Ideal.matmul_plain_apply (M := 512) (K := 4096) (N := 1024) (φ₁ := .bf16) (φ₂ := .bf16) none _ _ _ r k).trans ?_
  show Ideal.ofBits .f32 0x00000000#32 + _ = _
  rw [Ideal.ofBits_zero_f32, zero_add]
  refine Finset.sum_congr rfl fun c _ => congrArg₂ (· * ·) (shapeCast_apply h _ _ _ ?_) (shapeCast_apply w _ _ _ rfl)
  rw [Shape.rowMajor_val_three, Shape.rowMajor_val_two]
  show (0 * 512 + r.val) * 4096 + c.val = r.val * 4096 + c.val
  omega

/-- The weights of a head's norm: a query's carry the attention's scale. -/
def gain (k : BitVec 32) (gk gq : S1x128.Idx → Elt Ideal .f32) (d : Fin 128) : EReal :=
  if k = 2#32 then gq (ix2 (0 : Fin 1) d) * Ideal.ofBits .f32 0x3E0293EE#32 else gk (ix2 (0 : Fin 1) d)

theorem pay21_apply (k : BitVec 32) (gk gq : S1x128.Idx → Elt Ideal .f32) (d : Fin 128) :
    k0_pay21 (F := Ideal) k gq gk (ix2 (0 : Fin 1) d) = gain k gk gq d := by
  have hc : ∀ g : S1x128.Idx → Elt Ideal .f32, shapeCast S1x128 g shapeCasts_S1x128_S1x128 (ix2 (0 : Fin 1) d) = g (ix2 (0 : Fin 1) d) :=
    fun g => shapeCast_apply g _ _ _ rfl
  unfold k0_pay21 gain
  by_cases h : k = 2#32
  · subst h
    rw [if_pos rfl]
    exact congrArg (· * Ideal.ofBits .f32 0x3E0293EE#32) (hc gq)
  · have e : Scalar.cmpi .eq k 2#32 = 0#1 := (WordCmp.cmpi_eq_eq k 2#32).trans (by rw [decide_eq_false h]; rfl)
    rw [if_neg h, e]
    exact hc gk

/-- One entry of a head. -/
def headAt (k : BitVec 32) (r : Fin 128 → EReal) (g : EReal) (d : Fin 128) : EReal :=
  if k = 1#32 then r d else hnorm r d g

theorem head_apply (o : Nat) (hs : S512x1024.Slices ![0, o] S512x128) (k : BitVec 32) (r : FVec Ideal S512x1024 .f32) (g : FVec Ideal S1x128 .f32)
    (z0 z1 z2 : Fin 1) (s : Fin 512) (d : Fin 128) (f : Fin 128 → Fin 1024) (hf : ∀ e, (f e).val = o + e.val) :
    head (F := Ideal) ![0, o] hs k r g (ix5 z0 z1 z2 s d) = headAt k (fun e => r (ix2 s (f e))) (g (ix2 (0 : Fin 1) d)) d := by
  have hr : ∀ e : Fin 128, extractStridedSlice S512x128 ![0, o] r hs (ix2 s e) = r (ix2 s (f e)) := fun e =>
    extractStridedSlice_apply _ r hs (ix2 s e) (ix2 s (f e)) fun a => by
      match a with
      | ⟨0, _⟩ => show s.val = 0 + s.val; omega
      | ⟨1, _⟩ => exact hf e
  unfold head headAt
  refine (shapeCast_apply _ _ _ (ix2 s d) ?_).trans ?_
  · rw [Shape.rowMajor_val_five, Shape.rowMajor_val_two]
    show s.val * 128 + d.val = (((z0.val * 1 + z1.val) * 1 + z2.val) * 512 + s.val) * 128 + d.val
    have := z0.isLt
    have := z1.isLt
    have := z2.isLt
    omega
  · by_cases h : k = 1#32
    · subst h
      rw [if_pos rfl]
      exact hr d
    · have e : Scalar.cmpi .eq k 1#32 = 0#1 := (WordCmp.cmpi_eq_eq k 1#32).trans (by rw [decide_eq_false h]; rfl)
      rw [if_neg h, e]
      unfold hnorm
      refine congrArg₂ (· * ·) (congrArg₂ (· * ·) (hr d) ?_) (broadcastTo_1b_ab_apply _ _ s d)
      refine ((Rows.column_apply _ _ (by decide) s d).trans (congrArg Ideal.rsqrt
        (congrArg (· + Ideal.ofBits .f32 0x358637BD#32) (congrArg (Ideal.div · (Ideal.ofBits .f32 0x43000000#32)) ?_))))
      exact (Rows.sum_apply _ _ _ _ _ s).trans (Finset.sum_congr rfl fun j _ => congrArg₂ (· * ·) (hr j) (hr j))

/-- Column `e` of head `n`. -/
def col (n : Fin 8) (e : Fin 128) : Fin 1024 := ⟨128 * n.val + e.val, by have := n.isLt; have := e.isLt; omega⟩

/-- One entry of the eight heads. -/
def headV (k : BitVec 32) (r : FVec Ideal S512x1024 .f32) (g : FVec Ideal S1x128 .f32) (n : Fin 8) (s : Fin 512) (d : Fin 128) : EReal :=
  headAt k (fun e => r (ix2 s (col n e))) (g (ix2 (0 : Fin 1) d)) d

/-- The eight heads as values. -/
def heads (k : BitVec 32) (r : FVec Ideal S512x1024 .f32) (g : FVec Ideal S1x128 .f32) : S1x1x8x512x128.Idx → Elt Ideal .bf16 := fun y =>
  headV k r g (y 2) (y 3) (y 4)

theorem heads_at (k : BitVec 32) (r : FVec Ideal S512x1024 .f32) (g : FVec Ideal S1x128 .f32) (y : S1x1x8x512x128.Idx) (n : Fin 8) (s : Fin 512) (d : Fin 128)
    (h2 : y 2 = n) (h3 : y 3 = s) (h4 : y 4 = d) : heads k r g y = headV k r g n s d :=
  congr (congrArg₂ (headV k r g) h2 h3) h4

/-- A store of head `n` is that head. -/
theorem head_piece (k : BitVec 32) (r : FVec Ideal S512x1024 .f32) (g : FVec Ideal S1x128 .f32) (n o : Nat) (ho : o = 128 * n)
    (hs : S512x1024.Slices ![0, o] S512x128)
    (inb : ∀ a, (![0, 0, n, 0, 0] : Fin 5 → Nat) a + S1x1x1x512x128.size a ≤ S1x1x8x512x128.size a) (y : S1x1x1x512x128.Idx) :
    head (F := Ideal) ![0, o] hs k r g y = heads k r g ((Rect.unit (s := S1x1x8x512x128) ![0, 0, n, 0, 0] S1x1x1x512x128.size inb).emb y) := by
  obtain ⟨z0, z1, z2, s, d, rfl⟩ : ∃ (z0 z1 z2 : Fin 1) (s : Fin 512) (d : Fin 128), y = ix5 z0 z1 z2 s d := ⟨y 0, y 1, y 2, y 3, y 4, eq_ix5 y⟩
  have e2 : (((Rect.unit (s := S1x1x8x512x128) ![0, 0, n, 0, 0] S1x1x1x512x128.size inb).emb (ix5 z0 z1 z2 s d)) 2).val = n := by
    show n + 1 * z2.val = _; have := z2.isLt; omega
  have e3 : ((Rect.unit (s := S1x1x8x512x128) ![0, 0, n, 0, 0] S1x1x1x512x128.size inb).emb (ix5 z0 z1 z2 s d)) 3 = s :=
    Fin.ext (by show 0 + 1 * s.val = s.val; omega)
  have e4 : ((Rect.unit (s := S1x1x8x512x128) ![0, 0, n, 0, 0] S1x1x1x512x128.size inb).emb (ix5 z0 z1 z2 s d)) 4 = d :=
    Fin.ext (by show 0 + 1 * d.val = d.val; omega)
  have hn : n < 8 := by
    have := inb 2
    replace this : n + 1 ≤ 8 := this
    omega
  refine (head_apply o hs k r g z0 z1 z2 s d (col ⟨n, hn⟩) fun e => ?_).trans
    (heads_at k r g _ ⟨n, hn⟩ s d (Fin.ext e2) e3 e4).symm
  show 128 * n + e.val = o + e.val
  rw [ho]

theorem left_eq (i : grid0.Coords) (h : S2x512x4096.Idx → Elt Ideal .bf16) (gk gq : S1x128.Idx → Elt Ideal .f32) (w : S4096x1024.Idx → Elt Ideal .bf16) :
    left (F := Ideal) i h gk gq w = heads (kind i) (k0_pay20 (slot i h) w) (k0_pay21 (kind i) gq gk) := by
  funext y
  refine View.canon_apply_of_pieces (heads (kind i) (k0_pay20 (slot i h) w) (k0_pay21 (kind i) gq gk)) _ (fun p hp => ?_) y (outs_cover (F := Ideal) i h gk gq w y)
  unfold outs at hp
  simp only [List.mem_cons, List.not_mem_nil, or_false] at hp
  rcases hp with rfl | rfl | rfl | rfl | rfl | rfl | rfl | rfl
  · exact head_piece _ _ _ 7 896 rfl slices_S512x1024_o0_896_S512x128 inb_S1x1x8x512x128_S1x1x1x512x128_0_0_7_0_0
  · exact head_piece _ _ _ 6 768 rfl slices_S512x1024_o0_768_S512x128 inb_S1x1x8x512x128_S1x1x1x512x128_0_0_6_0_0
  · exact head_piece _ _ _ 5 640 rfl slices_S512x1024_o0_640_S512x128 inb_S1x1x8x512x128_S1x1x1x512x128_0_0_5_0_0
  · exact head_piece _ _ _ 4 512 rfl slices_S512x1024_o0_512_S512x128 inb_S1x1x8x512x128_S1x1x1x512x128_0_0_4_0_0
  · exact head_piece _ _ _ 3 384 rfl slices_S512x1024_o0_384_S512x128 inb_S1x1x8x512x128_S1x1x1x512x128_0_0_3_0_0
  · exact head_piece _ _ _ 2 256 rfl slices_S512x1024_o0_256_S512x128 inb_S1x1x8x512x128_S1x1x1x512x128_0_0_2_0_0
  · exact head_piece _ _ _ 1 128 rfl slices_S512x1024_o0_128_S512x128 inb_S1x1x8x512x128_S1x1x1x512x128_0_0_1_0_0
  · exact head_piece _ _ _ 0 0 rfl slices_S512x1024_o0_0_S512x128 inb_S1x1x8x512x128_S1x1x1x512x128_0_0_0_0_0

/-- One entry that a point leaves, over the normalised rows `H` of its half. -/
theorem left_apply (i : grid0.Coords) (h : S2x512x4096.Idx → Elt Ideal .bf16) (gk gq : S1x128.Idx → Elt Ideal .f32) (w : S4096x1024.Idx → Elt Ideal .bf16)
    (z0 z1 : Fin 1) (n : Fin 8) (s : Fin 512) (d : Fin 128) (p : Fin 2) (hp : p.val = (i 1).val / 8) :
    left (F := Ideal) i h gk gq w (ix5 z0 z1 n s d)
      = headAt (kind i) (fun e => ∑ c : Fin 4096, h (ix3 p s c) * w (ix2 c (col n e))) (gain (kind i) gk gq d) d := by
  rw [left_eq]
  refine (heads_at (kind i) _ _ (ix5 z0 z1 n s d) n s d rfl rfl rfl).trans ?_
  unfold headV
  rw [pay21_apply]
  refine congrArg (fun r => headAt (kind i) r (gain (kind i) gk gq d) d) (funext fun e => (pay20_apply _ w s (col n e)).trans ?_)
  exact Finset.sum_congr rfl fun c _ => congrArg (· * w (ix2 c (col n e))) (slot_apply i h 0 s c p hp)

/-- The kind of a point's columns, by the thirds of the twelve column blocks. -/
theorem kind_eq (i : grid0.Coords) : kind i = BitVec.ofNat 32 ((i 1).val / 4) := by
  unfold kind
  generalize (i 1) = n
  revert n
  show ∀ n : Fin 12, _
  decide +kernel

end Cert.Kernel7Ideal.Kvq

end
-- ==== Proof.KvqReference.lean ====
module

public import proofs.«01_k».proof.Proof.KvqHeads
public import Idealize.ShloMosaic.Lib.ValueIdx
public import Idealize.ShloMosaic.Lib.ValueLayout
public import proofs.«01_k».proof.Proof.Gen.Reference7Ideal.Run
public import proofs.«01_k».proof.Proof.Gen.Reference7Ideal.Read

@[expose] public section

set_option maxRecDepth 16384

noncomputable section

/-! # The key, value and query heads

The heads as one array of three: each entry is a normalised row's product with a column of the weights, and a key or
query head is normalised over its 128 columns. The reference computes that array. -/

namespace Cert.Kernel7Ideal.Kvq

open Cert.Kernel7Ideal Cert.Kernel7Ideal.Gen
open Idealize.ShloMosaic Idealize.ShloMosaic.TcCoe Idealize.ShloMosaic.ValueIdx

/-- One entry of the normalised rows. -/
def H (x : S2x8192x4096.Idx → EReal) (sh sc : S2x1x4096.Idx → EReal) (ng : S4096.Idx → EReal) (b : Fin 2) (s : Fin 8192) (k : Fin 4096) : EReal :=
  norm (fun j => x (ix3 b s j)) k (ng (ix1 k)) (sh (ix3 b (0 : Fin 1) k)) (sc (ix3 b (0 : Fin 1) k))

/-- Column `e` of head `n`. -/
def hcol (n : Fin 32) (e : Fin 128) : Fin 4096 := ⟨128 * n.val + e.val, by have := n.isLt; have := e.isLt; omega⟩

/-- A row's product with column `e` of head `n`. -/
def proj (h : Fin 4096 → EReal) (w : S4096x4096.Idx → EReal) (n : Fin 32) (e : Fin 128) : EReal := ∑ c : Fin 4096, h c * w (ix2 c (hcol n e))

/-- One entry of the heads: keys, values, queries. -/
def entry (x : S2x8192x4096.Idx → Elt Ideal .f32) (shk sck shq scq : S2x1x4096.Idx → Elt Ideal .f32) (ngk ngq : S4096.Idx → Elt Ideal .f32)
    (gk gq : S128.Idx → Elt Ideal .f32) (wk wv wq : S4096x4096.Idx → Elt Ideal .f32)
    (p : Fin 3) (b : Fin 2) (n : Fin 32) (s : Fin 8192) (d : Fin 128) : EReal :=
  if p.val = 0 then hnorm (proj (H x shk sck ngk b s) wk n) d (gk (ix1 d))
  else if p.val = 1 then proj (H x shk sck ngk b s) wv n d
  else hnorm (proj (H x shq scq ngq b s) wq n) d (gq (ix1 d) * Ideal.ofBits .f32 0x3E0293EE#32)

/-- The heads. -/
def G (x : S2x8192x4096.Idx → Elt Ideal .f32) (shk sck shq scq : S2x1x4096.Idx → Elt Ideal .f32) (ngk ngq : S4096.Idx → Elt Ideal .f32)
    (gk gq : S128.Idx → Elt Ideal .f32) (wk wv wq : S4096x4096.Idx → Elt Ideal .f32) : S3x2x32x8192x128.Idx → EReal := fun y =>
  entry x shk sck shq scq ngk ngq gk gq wk wv wq (y 0) (y 1) (y 2) (y 3) (y 4)

/-! ## The reference's value -/

open Cert.Reference7Ideal.Read

/-- A row over the root of its mean square. -/
theorem unit_eq (x : S2x8192x4096.Idx → Elt Ideal .f32) (b : Fin 2) (s : Fin 8192) (k : Fin 4096) :
    val_main_v9 (F := Ideal) x (ix3 b s k) = x (ix3 b s k)
      * Ideal.rsqrt (Ideal.div (∑ j : Fin 4096, x (ix3 b s j) * x (ix3 b s j)) (Ideal.ofBits .f32 0x45800000#32) + Ideal.ofBits .f32 0x358637BD#32) := by
  have sum : val_main_v1 (F := Ideal) x (ix2 b s) = ∑ j : Fin 4096, x (ix3 b s j) * x (ix3 b s j) := by
    refine (val_main_v1_apply x _).trans ?_
    show Ideal.ofBits .f32 0x00000000#32 + _ = _
    rw [Ideal.ofBits_zero_f32, zero_add]
    refine Finset.sum_congr rfl fun j _ => ?_
    have e : idx_main_v1 (ix2 b s) j = ix3 b s j := by
      funext a; match a with | ⟨0, _⟩ => rfl | ⟨1, _⟩ => rfl | ⟨2, _⟩ => rfl
    exact (congrArg _ e).trans (val_main_v0_apply x _)
  have e2 : idx_main_v2 (idx_main_v8 (ix3 b s k)) = ix2 b s := by
    funext a; match a with | ⟨0, _⟩ => rfl | ⟨1, _⟩ => rfl
  refine (val_main_v9_apply x _).trans (congrArg (x (ix3 b s k) * ·) ?_)
  refine (val_main_v8_apply x _).trans ((val_main_v7_apply x _).trans (congrArg Ideal.rsqrt ?_))
  refine (val_main_v6_apply x _).trans (congrArg₂ (· + ·) ((val_main_v4_apply x _).trans (congrArg₂ Ideal.div ?_ ?_)) ?_)
  · exact (val_main_v2_apply x _).trans ((congrArg _ e2).trans sum)
  · exact val_main_v3_apply _
  · exact val_main_v5_apply _

/-- The normalised rows of the keys and values. -/
theorem kv_rows (x : S2x8192x4096.Idx → Elt Ideal .f32) (sh sc : S2x1x4096.Idx → Elt Ideal .f32) (ng : S4096.Idx → Elt Ideal .f32) (b : Fin 2) (s : Fin 8192) (k : Fin 4096) :
    val_main_v18 (F := Ideal) x sh sc ng (ix3 b s k) = H x sh sc ng b s k := by
  refine (val_main_v18_apply x sh sc ng _).trans (congrArg₂ (· + ·) ((val_main_v16_apply x sc ng _).trans (congrArg₂ (· * ·) ((val_main_v12_apply x ng _).trans
    (congrArg₂ (· * ·) (unit_eq x b s k) ?_)) ?_)) ?_)
  · refine (val_main_v11_apply ng _).trans ((val_main_v10_apply ng _).trans (congrArg ng ?_))
    funext a; match a with | ⟨0, _⟩ => rfl
  · refine (val_main_v15_apply sc _).trans ((val_main_v14_apply sc _).trans (congrArg₂ (· + ·) (val_main_v13_apply _) (congrArg sc ?_)))
    funext a; match a with | ⟨0, _⟩ => rfl | ⟨1, _⟩ => rfl | ⟨2, _⟩ => rfl
  · refine (val_main_v17_apply sh _).trans (congrArg sh ?_)
    funext a; match a with | ⟨0, _⟩ => rfl | ⟨1, _⟩ => rfl | ⟨2, _⟩ => rfl

/-- The normalised rows of the queries. -/
theorem q_rows (x : S2x8192x4096.Idx → Elt Ideal .f32) (sh sc : S2x1x4096.Idx → Elt Ideal .f32) (ng : S4096.Idx → Elt Ideal .f32) (b : Fin 2) (s : Fin 8192) (k : Fin 4096) :
    val_main_v44 (F := Ideal) x sh sc ng (ix3 b s k) = H x sh sc ng b s k := by
  refine (val_main_v44_apply x sh sc ng _).trans (congrArg₂ (· + ·) ((val_main_v42_apply x sc ng _).trans (congrArg₂ (· * ·) ((val_main_v38_apply x ng _).trans
    (congrArg₂ (· * ·) (unit_eq x b s k) ?_)) ?_)) ?_)
  · refine (val_main_v37_apply ng _).trans ((val_main_v36_apply ng _).trans (congrArg ng ?_))
    funext a; match a with | ⟨0, _⟩ => rfl
  · refine (val_main_v41_apply sc _).trans ((val_main_v40_apply sc _).trans (congrArg₂ (· + ·) (val_main_v39_apply _) (congrArg sc ?_)))
    funext a; match a with | ⟨0, _⟩ => rfl | ⟨1, _⟩ => rfl | ⟨2, _⟩ => rfl
  · refine (val_main_v43_apply sh _).trans (congrArg sh ?_)
    funext a; match a with | ⟨0, _⟩ => rfl | ⟨1, _⟩ => rfl | ⟨2, _⟩ => rfl

/-- The keys before their norm. -/
theorem k_prod (x : S2x8192x4096.Idx → Elt Ideal .f32) (sh sc : S2x1x4096.Idx → Elt Ideal .f32) (ng : S4096.Idx → Elt Ideal .f32) (w : S4096x4096.Idx → Elt Ideal .f32)
    (b : Fin 2) (s : Fin 8192) (n : Fin 32) (d : Fin 128) :
    val_main_v20 (F := Ideal) x sh sc ng w (ix4 b s n d) = proj (H x sh sc ng b s) w n d := by
  have h0 := b.isLt
  have h1 := s.isLt
  have h2 := n.isLt
  have h3 := d.isLt
  have ei : idx_main_v20 (ix4 b s n d) = ix3 b s (hcol n d) := by
    funext a
    refine Fin.ext ?_
    match a with
    | ⟨0, _⟩ => show (((b.val * 8192 + s.val) * 32 + n.val) * 128 + d.val) / 33554432 = b.val; omega
    | ⟨1, _⟩ => show (((b.val * 8192 + s.val) * 32 + n.val) * 128 + d.val) / 4096 % 8192 = s.val; omega
    | ⟨2, _⟩ => show (((b.val * 8192 + s.val) * 32 + n.val) * 128 + d.val) % 4096 = 128 * n.val + d.val; omega
  refine (val_main_v20_apply x sh sc ng w _).trans ((congrArg _ ei).trans ((val_main_v19_apply x sh sc ng w _).trans ?_))
  unfold proj
  refine Finset.sum_congr rfl fun c _ => congrArg₂ (· * ·) ?_ (congrArg w ?_)
  · refine Eq.trans (congrArg _ ?_) (kv_rows x sh sc ng b s c)
    funext a; match a with | ⟨0, _⟩ => rfl | ⟨1, _⟩ => rfl | ⟨2, _⟩ => rfl
  · funext a; match a with | ⟨0, _⟩ => rfl | ⟨1, _⟩ => rfl

/-- The values. -/
theorem v_prod (x : S2x8192x4096.Idx → Elt Ideal .f32) (sh sc : S2x1x4096.Idx → Elt Ideal .f32) (ng : S4096.Idx → Elt Ideal .f32) (w : S4096x4096.Idx → Elt Ideal .f32)
    (b : Fin 2) (s : Fin 8192) (n : Fin 32) (d : Fin 128) :
    val_main_v35 (F := Ideal) x sh sc ng w (ix4 b s n d) = proj (H x sh sc ng b s) w n d := by
  have h0 := b.isLt
  have h1 := s.isLt
  have h2 := n.isLt
  have h3 := d.isLt
  have ei : idx_main_v35 (ix4 b s n d) = ix3 b s (hcol n d) := by
    funext a
    refine Fin.ext ?_
    match a with
    | ⟨0, _⟩ => show (((b.val * 8192 + s.val) * 32 + n.val) * 128 + d.val) / 33554432 = b.val; omega
    | ⟨1, _⟩ => show (((b.val * 8192 + s.val) * 32 + n.val) * 128 + d.val) / 4096 % 8192 = s.val; omega
    | ⟨2, _⟩ => show (((b.val * 8192 + s.val) * 32 + n.val) * 128 + d.val) % 4096 = 128 * n.val + d.val; omega
  refine (val_main_v35_apply x sh sc ng w _).trans ((congrArg _ ei).trans ((val_main_v34_apply x sh sc ng w _).trans ?_))
  unfold proj
  refine Finset.sum_congr rfl fun c _ => congrArg₂ (· * ·) ?_ (congrArg w ?_)
  · refine Eq.trans (congrArg _ ?_) (kv_rows x sh sc ng b s c)
    funext a; match a with | ⟨0, _⟩ => rfl | ⟨1, _⟩ => rfl | ⟨2, _⟩ => rfl
  · funext a; match a with | ⟨0, _⟩ => rfl | ⟨1, _⟩ => rfl

/-- The queries before their norm. -/
theorem q_prod (x : S2x8192x4096.Idx → Elt Ideal .f32) (sh sc : S2x1x4096.Idx → Elt Ideal .f32) (ng : S4096.Idx → Elt Ideal .f32) (w : S4096x4096.Idx → Elt Ideal .f32)
    (b : Fin 2) (s : Fin 8192) (n : Fin 32) (d : Fin 128) :
    val_main_v46 (F := Ideal) x sh sc ng w (ix4 b s n d) = proj (H x sh sc ng b s) w n d := by
  have h0 := b.isLt
  have h1 := s.isLt
  have h2 := n.isLt
  have h3 := d.isLt
  have ei : idx_main_v46 (ix4 b s n d) = ix3 b s (hcol n d) := by
    funext a
    refine Fin.ext ?_
    match a with
    | ⟨0, _⟩ => show (((b.val * 8192 + s.val) * 32 + n.val) * 128 + d.val) / 33554432 = b.val; omega
    | ⟨1, _⟩ => show (((b.val * 8192 + s.val) * 32 + n.val) * 128 + d.val) / 4096 % 8192 = s.val; omega
    | ⟨2, _⟩ => show (((b.val * 8192 + s.val) * 32 + n.val) * 128 + d.val) % 4096 = 128 * n.val + d.val; omega
  refine (val_main_v46_apply x sh sc ng w _).trans ((congrArg _ ei).trans ((val_main_v45_apply x sh sc ng w _).trans ?_))
  unfold proj
  refine Finset.sum_congr rfl fun c _ => congrArg₂ (· * ·) ?_ (congrArg w ?_)
  · refine Eq.trans (congrArg _ ?_) (q_rows x sh sc ng b s c)
    funext a; match a with | ⟨0, _⟩ => rfl | ⟨1, _⟩ => rfl | ⟨2, _⟩ => rfl
  · funext a; match a with | ⟨0, _⟩ => rfl | ⟨1, _⟩ => rfl

/-- The keys. -/
theorem k_head (x : S2x8192x4096.Idx → Elt Ideal .f32) (sh sc : S2x1x4096.Idx → Elt Ideal .f32) (ng : S4096.Idx → Elt Ideal .f32) (g : S128.Idx → Elt Ideal .f32) (w : S4096x4096.Idx → Elt Ideal .f32)
    (b : Fin 2) (s : Fin 8192) (n : Fin 32) (d : Fin 128) :
    val_main_v33 (F := Ideal) x sh sc ng g w (ix4 b s n d) = hnorm (proj (H x sh sc ng b s) w n) d (g (ix1 d)) := by
  have sum : val_main_v22 (F := Ideal) x sh sc ng w (ix3 b s n) = ∑ e : Fin 128, proj (H x sh sc ng b s) w n e * proj (H x sh sc ng b s) w n e := by
    refine (val_main_v22_apply x sh sc ng w _).trans ?_
    show Ideal.ofBits .f32 0x00000000#32 + _ = _
    rw [Ideal.ofBits_zero_f32, zero_add]
    refine Finset.sum_congr rfl fun j _ => ?_
    have e : idx_main_v22 (ix3 b s n) j = ix4 b s n j := by
      funext a; match a with | ⟨0, _⟩ => rfl | ⟨1, _⟩ => rfl | ⟨2, _⟩ => rfl | ⟨3, _⟩ => rfl
    exact (congrArg _ e).trans ((val_main_v21_apply x sh sc ng w _).trans (congrArg₂ (· * ·) (k_prod x sh sc ng w b s n j) (k_prod x sh sc ng w b s n j)))
  have e2 : idx_main_v23 (idx_main_v29 (ix4 b s n d)) = ix3 b s n := by
    funext a; match a with | ⟨0, _⟩ => rfl | ⟨1, _⟩ => rfl | ⟨2, _⟩ => rfl
  unfold hnorm
  refine (val_main_v33_apply x sh sc ng g w _).trans (congrArg₂ (· * ·) ((val_main_v30_apply x sh sc ng w _).trans (congrArg₂ (· * ·) (k_prod x sh sc ng w b s n d) ?_)) ?_)
  · refine (val_main_v29_apply x sh sc ng w _).trans ((val_main_v28_apply x sh sc ng w _).trans (congrArg Ideal.rsqrt ?_))
    refine (val_main_v27_apply x sh sc ng w _).trans (congrArg₂ (· + ·) ((val_main_v25_apply x sh sc ng w _).trans (congrArg₂ Ideal.div ?_ ?_)) ?_)
    · exact (val_main_v23_apply x sh sc ng w _).trans ((congrArg _ e2).trans sum)
    · exact val_main_v24_apply _
    · exact val_main_v26_apply _
  · refine (val_main_v32_apply g _).trans ((val_main_v31_apply g _).trans (congrArg g ?_))
    funext a; match a with | ⟨0, _⟩ => rfl

/-- The queries before their scale. -/
theorem q_head (x : S2x8192x4096.Idx → Elt Ideal .f32) (sh sc : S2x1x4096.Idx → Elt Ideal .f32) (ng : S4096.Idx → Elt Ideal .f32) (g : S128.Idx → Elt Ideal .f32) (w : S4096x4096.Idx → Elt Ideal .f32)
    (b : Fin 2) (s : Fin 8192) (n : Fin 32) (d : Fin 128) :
    val_main_v59 (F := Ideal) x sh sc ng g w (ix4 b s n d) = hnorm (proj (H x sh sc ng b s) w n) d (g (ix1 d)) := by
  have sum : val_main_v48 (F := Ideal) x sh sc ng w (ix3 b s n) = ∑ e : Fin 128, proj (H x sh sc ng b s) w n e * proj (H x sh sc ng b s) w n e := by
    refine (val_main_v48_apply x sh sc ng w _).trans ?_
    show Ideal.ofBits .f32 0x00000000#32 + _ = _
    rw [Ideal.ofBits_zero_f32, zero_add]
    refine Finset.sum_congr rfl fun j _ => ?_
    have e : idx_main_v48 (ix3 b s n) j = ix4 b s n j := by
      funext a; match a with | ⟨0, _⟩ => rfl | ⟨1, _⟩ => rfl | ⟨2, _⟩ => rfl | ⟨3, _⟩ => rfl
    exact (congrArg _ e).trans ((val_main_v47_apply x sh sc ng w _).trans (congrArg₂ (· * ·) (q_prod x sh sc ng w b s n j) (q_prod x sh sc ng w b s n j)))
  have e2 : idx_main_v49 (idx_main_v55 (ix4 b s n d)) = ix3 b s n := by
    funext a; match a with | ⟨0, _⟩ => rfl | ⟨1, _⟩ => rfl | ⟨2, _⟩ => rfl
  unfold hnorm
  refine (val_main_v59_apply x sh sc ng g w _).trans (congrArg₂ (· * ·) ((val_main_v56_apply x sh sc ng w _).trans (congrArg₂ (· * ·) (q_prod x sh sc ng w b s n d) ?_)) ?_)
  · refine (val_main_v55_apply x sh sc ng w _).trans ((val_main_v54_apply x sh sc ng w _).trans (congrArg Ideal.rsqrt ?_))
    refine (val_main_v53_apply x sh sc ng w _).trans (congrArg₂ (· + ·) ((val_main_v51_apply x sh sc ng w _).trans (congrArg₂ Ideal.div ?_ ?_)) ?_)
    · exact (val_main_v49_apply x sh sc ng w _).trans ((congrArg _ e2).trans sum)
    · exact val_main_v50_apply _
    · exact val_main_v52_apply _
  · refine (val_main_v58_apply g _).trans ((val_main_v57_apply g _).trans (congrArg g ?_))
    funext a; match a with | ⟨0, _⟩ => rfl

/-- The three stacked. -/
theorem stack_eq (x : S2x8192x4096.Idx → Elt Ideal .f32) (shk sck shq scq : S2x1x4096.Idx → Elt Ideal .f32) (ngk ngq : S4096.Idx → Elt Ideal .f32)
    (gk gq : S128.Idx → Elt Ideal .f32) (wk wv wq : S4096x4096.Idx → Elt Ideal .f32)
    (p : Fin 3) (b : Fin 2) (n : Fin 32) (s : Fin 8192) (d : Fin 128) :
    val_main_v65 (F := Ideal) x shk sck shq scq ngk ngq gk gq wk wv wq (ix5 p b s n d) = entry x shk sck shq scq ngk ngq gk gq wk wv wq p b n s d := by
  have hp := p.isLt
  unfold val_main_v65
  rcases (by omega : p.val = 0 ∨ p.val = 1 ∨ p.val = 2) with h0 | h1 | h2
  · have hp : p = (0 : Fin 3) := Fin.ext h0
    subst hp
    refine Eq.trans (concatenate_apply_piece (0 : Fin 5) _ _ (ix5 (0 : Fin 3) b s n d) 0 (by show 0 < 3; decide) Cert.Reference7Ideal.S1x2x8192x32x128 (val_main_v62 (F := Ideal) x shk sck ngk gk wk) rfl rfl 0 rfl (ix5 (0 : Fin 1) b s n d) (fun a ha => ?_) rfl) ?_
    · match a, ha with
      | ⟨0, _⟩, ha => exact absurd rfl ha
      | ⟨1, _⟩, _ => rfl
      | ⟨2, _⟩, _ => rfl
      | ⟨3, _⟩, _ => rfl
      | ⟨4, _⟩, _ => rfl
    · have e : idx_main_v62 (ix5 (0 : Fin 1) b s n d) = ix4 b s n d := by
        funext a; match a with | ⟨0, _⟩ => rfl | ⟨1, _⟩ => rfl | ⟨2, _⟩ => rfl | ⟨3, _⟩ => rfl
      refine (val_main_v62_apply x shk sck ngk gk wk _).trans ((congrArg _ e).trans ?_)
      exact k_head x shk sck ngk gk wk b s n d
  · have hp : p = (1 : Fin 3) := Fin.ext h1
    subst hp
    refine Eq.trans (concatenate_apply_piece (0 : Fin 5) _ _ (ix5 (1 : Fin 3) b s n d) 1 (by show 1 < 3; decide) Cert.Reference7Ideal.S1x2x8192x32x128 (val_main_v63 (F := Ideal) x shk sck ngk wv) rfl rfl 1 rfl (ix5 (0 : Fin 1) b s n d) (fun a ha => ?_) rfl) ?_
    · match a, ha with
      | ⟨0, _⟩, ha => exact absurd rfl ha
      | ⟨1, _⟩, _ => rfl
      | ⟨2, _⟩, _ => rfl
      | ⟨3, _⟩, _ => rfl
      | ⟨4, _⟩, _ => rfl
    · have e : idx_main_v63 (ix5 (0 : Fin 1) b s n d) = ix4 b s n d := by
        funext a; match a with | ⟨0, _⟩ => rfl | ⟨1, _⟩ => rfl | ⟨2, _⟩ => rfl | ⟨3, _⟩ => rfl
      refine (val_main_v63_apply x shk sck ngk wv _).trans ((congrArg _ e).trans ?_)
      exact v_prod x shk sck ngk wv b s n d
  · have hp : p = (2 : Fin 3) := Fin.ext h2
    subst hp
    refine Eq.trans (concatenate_apply_piece (0 : Fin 5) _ _ (ix5 (2 : Fin 3) b s n d) 2 (by show 2 < 3; decide) Cert.Reference7Ideal.S1x2x8192x32x128 (val_main_v64 (F := Ideal) x shq scq ngq gq wq) rfl rfl 2 rfl (ix5 (0 : Fin 1) b s n d) (fun a ha => ?_) rfl) ?_
    · match a, ha with
      | ⟨0, _⟩, ha => exact absurd rfl ha
      | ⟨1, _⟩, _ => rfl
      | ⟨2, _⟩, _ => rfl
      | ⟨3, _⟩, _ => rfl
      | ⟨4, _⟩, _ => rfl
    · have e : idx_main_v64 (ix5 (0 : Fin 1) b s n d) = ix4 b s n d := by
        funext a; match a with | ⟨0, _⟩ => rfl | ⟨1, _⟩ => rfl | ⟨2, _⟩ => rfl | ⟨3, _⟩ => rfl
      refine (val_main_v64_apply x shq scq ngq gq wq _).trans ((congrArg _ e).trans ?_)
      refine (val_main_v61_apply x shq scq ngq gq wq _).trans ((congrArg₂ (· * ·) (q_head x shq scq ngq gq wq b s n d) (val_main_v60_apply _)).trans ?_)
      exact mul_assoc _ (gq (ix1 d)) (Ideal.ofBits .f32 0x3E0293EE#32)

theorem reference_eq (x : S2x8192x4096.Idx → Elt Ideal .f32) (shk sck shq scq : S2x1x4096.Idx → Elt Ideal .f32) (ngk ngq : S4096.Idx → Elt Ideal .f32)
    (gk gq : S128.Idx → Elt Ideal .f32) (wk wv wq : S4096x4096.Idx → Elt Ideal .f32) :
    val_main_v67 (F := Ideal) x shk sck shq scq ngk ngq gk gq wk wv wq = G x shk sck shq scq ngk ngq gk gq wk wv wq := by
  funext i
  obtain ⟨p, b, n, s, d, rfl⟩ : ∃ (p : Fin 3) (b : Fin 2) (n : Fin 32) (s : Fin 8192) (d : Fin 128), i = ix5 p b n s d := ⟨i 0, i 1, i 2, i 3, i 4, eq_ix5 i⟩
  have e : idx_main_v66 (ix5 p b n s d) = ix5 p b s n d := by
    funext a; match a with | ⟨0, _⟩ => rfl | ⟨1, _⟩ => rfl | ⟨2, _⟩ => rfl | ⟨3, _⟩ => rfl | ⟨4, _⟩ => rfl
  refine (val_main_v67_apply x shk sck shq scq ngk ngq gk gq wk wv wq _).trans ?_
  exact (val_main_v66_apply x shk sck shq scq ngk ngq gk gq wk wv wq _).trans ((congrArg _ e).trans (stack_eq x shk sck shq scq ngk ngq gk gq wk wv wq p b n s d))

end Cert.Kernel7Ideal.Kvq

end
-- ==== Proof.KvqValue.lean ====
module

public import proofs.«01_k».proof.Proof.KvqRun
public import proofs.«01_k».proof.Proof.KvqReference
public import Idealize.ShloMosaic.Lib.Pipeline.Covers
public import Idealize.ShloMosaic.Lib.ValueIdx

@[expose] public section

set_option maxRecDepth 16384

noncomputable section

/-! # The array that the projections leave

A row tile's twelve points share the scratch its first point filled, so each of them multiplies the tile's normalised
rows; its 1024 columns lie in one third of the concatenated weights. The blocks of eight heads and 512 rows tile the
result. -/

namespace Cert.Kernel7Ideal.Kvq

open Cert.Kernel7Ideal Cert.Kernel7Ideal.Gen
open Idealize.ShloMosaic Idealize.ShloMosaic.TcCoe Idealize.ShloMosaic.Tactic
open Idealize.ShloMosaic.Pipeline
open Idealize.SL Idealize.SL.Sem
open Idealize.ShloMosaic.ValueIdx

variable (m : (ℓ : Loc nD τ sig) → Buf (Elt Ideal) ℓ) (ρ : Dev nD → PrngReg)

abbrev argX (c : Dev nD) : S2x8192x4096.Idx → Elt Ideal .f32 := m ((c.tc : Thread nD τ).loc main_arg0)
abbrev argShk (c : Dev nD) : S2x1x4096.Idx → Elt Ideal .f32 := m ((c.tc : Thread nD τ).loc main_arg1)
abbrev argSck (c : Dev nD) : S2x1x4096.Idx → Elt Ideal .f32 := m ((c.tc : Thread nD τ).loc main_arg2)
abbrev argShq (c : Dev nD) : S2x1x4096.Idx → Elt Ideal .f32 := m ((c.tc : Thread nD τ).loc main_arg3)
abbrev argScq (c : Dev nD) : S2x1x4096.Idx → Elt Ideal .f32 := m ((c.tc : Thread nD τ).loc main_arg4)
abbrev argNgk (c : Dev nD) : S4096.Idx → Elt Ideal .f32 := m ((c.tc : Thread nD τ).loc main_arg5)
abbrev argNgq (c : Dev nD) : S4096.Idx → Elt Ideal .f32 := m ((c.tc : Thread nD τ).loc main_arg6)
abbrev argGk (c : Dev nD) : S128.Idx → Elt Ideal .f32 := m ((c.tc : Thread nD τ).loc main_arg7)
abbrev argGq (c : Dev nD) : S128.Idx → Elt Ideal .f32 := m ((c.tc : Thread nD τ).loc main_arg8)
abbrev argWk (c : Dev nD) : S4096x4096.Idx → Elt Ideal .f32 := m ((c.tc : Thread nD τ).loc main_arg9)
abbrev argWv (c : Dev nD) : S4096x4096.Idx → Elt Ideal .f32 := m ((c.tc : Thread nD τ).loc main_arg10)
abbrev argWq (c : Dev nD) : S4096x4096.Idx → Elt Ideal .f32 := m ((c.tc : Thread nD τ).loc main_arg11)

/-- The three weights side by side. -/
def weights (c : Dev nD) : S4096x12288.Idx → Elt Ideal .bf16 :=
  concatenate S4096x12288 1 [⟨S4096x4096, (argWk m c : S4096x4096.Idx → Elt Ideal .bf16)⟩, ⟨S4096x4096, (argWv m c : S4096x4096.Idx → Elt Ideal .bf16)⟩, ⟨S4096x4096, (argWq m c : S4096x4096.Idx → Elt Ideal .bf16)⟩]
    concatenates_S4096x4096_S4096x4096_S4096x4096_S4096x12288_d1

theorem V_v3 (c : Dev nD) : V m c main_v3 = weights m c := by
  show StableHlo.after hostOps0 (fun b => m (c, b)) (Proc.devRef .tc main_v3) = _
  after_results; rfl
theorem V_v4 (c : Dev nD) : V m c main_v4 = shapeCast S16384x4096 (argX m c) shapeCasts_S2x8192x4096_S16384x4096 := by
  show StableHlo.after hostOps0 (fun b => m (c, b)) (Proc.devRef .tc main_v4) = _
  after_results; rfl
theorem V_v5 (c : Dev nD) : V m c main_v5 = shapeCast S1x4096 (argNgk m c) shapeCasts_S4096_S1x4096 := by
  show StableHlo.after hostOps0 (fun b => m (c, b)) (Proc.devRef .tc main_v5) = _
  after_results; rfl
theorem V_v6 (c : Dev nD) : V m c main_v6 = shapeCast S1x4096 (argNgq m c) shapeCasts_S4096_S1x4096 := by
  show StableHlo.after hostOps0 (fun b => m (c, b)) (Proc.devRef .tc main_v6) = _
  after_results; rfl
theorem V_v7 (c : Dev nD) : V m c main_v7 = shapeCast S1x128 (argGk m c) shapeCasts_S128_S1x128 := by
  show StableHlo.after hostOps0 (fun b => m (c, b)) (Proc.devRef .tc main_v7) = _
  after_results; rfl
theorem V_v8 (c : Dev nD) : V m c main_v8 = shapeCast S1x128 (argGq m c) shapeCasts_S128_S1x128 := by
  show StableHlo.after hostOps0 (fun b => m (c, b)) (Proc.devRef .tc main_v8) = _
  after_results; rfl

/-! ## Which block each window holds -/

theorem tr_0 : ∀ i : grid0.Coords, cc0_transform_0 i 0 = (i 0).val ∧ cc0_transform_0 i 1 = 0 := by decide +kernel
theorem tr_1 : ∀ i : grid0.Coords, cc0_transform_1 i 0 = (i 0).val / 16 ∧ cc0_transform_1 i 1 = 0 ∧ cc0_transform_1 i 2 = 0 := by decide +kernel
theorem tr_2 : ∀ i : grid0.Coords, cc0_transform_2 i 0 = (i 0).val / 16 ∧ cc0_transform_2 i 1 = 0 ∧ cc0_transform_2 i 2 = 0 := by decide +kernel
theorem tr_3 : ∀ i : grid0.Coords, cc0_transform_3 i 0 = (i 0).val / 16 ∧ cc0_transform_3 i 1 = 0 ∧ cc0_transform_3 i 2 = 0 := by decide +kernel
theorem tr_4 : ∀ i : grid0.Coords, cc0_transform_4 i 0 = (i 0).val / 16 ∧ cc0_transform_4 i 1 = 0 ∧ cc0_transform_4 i 2 = 0 := by decide +kernel
theorem tr_5 : ∀ i : grid0.Coords, cc0_transform_5 i 0 = 0 ∧ cc0_transform_5 i 1 = 0 := by decide +kernel
theorem tr_6 : ∀ i : grid0.Coords, cc0_transform_6 i 0 = 0 ∧ cc0_transform_6 i 1 = 0 := by decide +kernel
theorem tr_7 : ∀ i : grid0.Coords, cc0_transform_7 i 0 = 0 ∧ cc0_transform_7 i 1 = 0 := by decide +kernel
theorem tr_8 : ∀ i : grid0.Coords, cc0_transform_8 i 0 = 0 ∧ cc0_transform_8 i 1 = 0 := by decide +kernel
theorem tr_9 : ∀ i : grid0.Coords, cc0_transform_9 i 0 = 0 ∧ cc0_transform_9 i 1 = (i 1).val := by decide +kernel
theorem tr_10 : ∀ i : grid0.Coords, cc0_transform_10 i 0 = (i 1).val / 4 ∧ cc0_transform_10 i 1 = (i 0).val / 16
    ∧ cc0_transform_10 i 2 = (i 1).val % 4 ∧ cc0_transform_10 i 3 = (i 0).val % 16 ∧ cc0_transform_10 i 4 = 0 := by decide +kernel

theorem blk_0 (c : Dev nD) (t : Fin cfg0.N) (r : Fin 512) (k : Fin 4096) (b : Fin 2) (s : Fin 8192)
    (hs : b.val * 8192 + s.val = (grid0.coords t 0).val * 512 + r.val) : at0 m c t (ix2 r k) = argX m c (ix3 b s k) := by
  obtain ⟨e0, e1⟩ := tr_0 (grid0.coords t)
  unfold at0 iblk
  show V m c main_v4 (((cfg0.win 0).blk t).view.emb (ix2 r k)) = _
  rw [V_v4]
  refine shapeCast_apply (argX m c) _ _ _ ?_
  rw [Shape.rowMajor_val_three, Shape.rowMajor_val_two]
  show (b.val * 8192 + s.val) * 4096 + k.val = (cc0_transform_0 (grid0.coords t) 0 * 512 + 1 * r.val) * 4096 + (cc0_transform_0 (grid0.coords t) 1 * 4096 + 1 * k.val)
  rw [e0, e1, hs]; omega

theorem blk_1 (c : Dev nD) (t : Fin cfg0.N) (k : Fin 4096) (b : Fin 2) (hb : b.val = (grid0.coords t 0).val / 16) :
    at1 m c t (ix3 (0 : Fin 1) (0 : Fin 1) k) = argShk m c (ix3 b (0 : Fin 1) k) := by
  obtain ⟨e0, e1, e2⟩ := tr_1 (grid0.coords t)
  unfold at1 iblk
  show V m c main_arg1 (((cfg0.win 1).blk t).view.emb (ix3 (0 : Fin 1) (0 : Fin 1) k)) = _
  rw [V_arg1]
  refine congrArg (argShk m c) (funext fun a => Fin.ext ?_)
  match a with
  | ⟨0, _⟩ => show cc0_transform_1 (grid0.coords t) 0 * 1 + 1 * 0 = b.val; rw [e0, hb]; omega
  | ⟨1, _⟩ => show cc0_transform_1 (grid0.coords t) 1 * 1 + 1 * 0 = 0; rw [e1]
  | ⟨2, _⟩ => show cc0_transform_1 (grid0.coords t) 2 * 4096 + 1 * k.val = k.val; rw [e2]; omega

theorem blk_2 (c : Dev nD) (t : Fin cfg0.N) (k : Fin 4096) (b : Fin 2) (hb : b.val = (grid0.coords t 0).val / 16) :
    at2 m c t (ix3 (0 : Fin 1) (0 : Fin 1) k) = argSck m c (ix3 b (0 : Fin 1) k) := by
  obtain ⟨e0, e1, e2⟩ := tr_2 (grid0.coords t)
  unfold at2 iblk
  show V m c main_arg2 (((cfg0.win 2).blk t).view.emb (ix3 (0 : Fin 1) (0 : Fin 1) k)) = _
  rw [V_arg2]
  refine congrArg (argSck m c) (funext fun a => Fin.ext ?_)
  match a with
  | ⟨0, _⟩ => show cc0_transform_2 (grid0.coords t) 0 * 1 + 1 * 0 = b.val; rw [e0, hb]; omega
  | ⟨1, _⟩ => show cc0_transform_2 (grid0.coords t) 1 * 1 + 1 * 0 = 0; rw [e1]
  | ⟨2, _⟩ => show cc0_transform_2 (grid0.coords t) 2 * 4096 + 1 * k.val = k.val; rw [e2]; omega

theorem blk_3 (c : Dev nD) (t : Fin cfg0.N) (k : Fin 4096) (b : Fin 2) (hb : b.val = (grid0.coords t 0).val / 16) :
    at3 m c t (ix3 (0 : Fin 1) (0 : Fin 1) k) = argShq m c (ix3 b (0 : Fin 1) k) := by
  obtain ⟨e0, e1, e2⟩ := tr_3 (grid0.coords t)
  unfold at3 iblk
  show V m c main_arg3 (((cfg0.win 3).blk t).view.emb (ix3 (0 : Fin 1) (0 : Fin 1) k)) = _
  rw [V_arg3]
  refine congrArg (argShq m c) (funext fun a => Fin.ext ?_)
  match a with
  | ⟨0, _⟩ => show cc0_transform_3 (grid0.coords t) 0 * 1 + 1 * 0 = b.val; rw [e0, hb]; omega
  | ⟨1, _⟩ => show cc0_transform_3 (grid0.coords t) 1 * 1 + 1 * 0 = 0; rw [e1]
  | ⟨2, _⟩ => show cc0_transform_3 (grid0.coords t) 2 * 4096 + 1 * k.val = k.val; rw [e2]; omega

theorem blk_4 (c : Dev nD) (t : Fin cfg0.N) (k : Fin 4096) (b : Fin 2) (hb : b.val = (grid0.coords t 0).val / 16) :
    at4 m c t (ix3 (0 : Fin 1) (0 : Fin 1) k) = argScq m c (ix3 b (0 : Fin 1) k) := by
  obtain ⟨e0, e1, e2⟩ := tr_4 (grid0.coords t)
  unfold at4 iblk
  show V m c main_arg4 (((cfg0.win 4).blk t).view.emb (ix3 (0 : Fin 1) (0 : Fin 1) k)) = _
  rw [V_arg4]
  refine congrArg (argScq m c) (funext fun a => Fin.ext ?_)
  match a with
  | ⟨0, _⟩ => show cc0_transform_4 (grid0.coords t) 0 * 1 + 1 * 0 = b.val; rw [e0, hb]; omega
  | ⟨1, _⟩ => show cc0_transform_4 (grid0.coords t) 1 * 1 + 1 * 0 = 0; rw [e1]
  | ⟨2, _⟩ => show cc0_transform_4 (grid0.coords t) 2 * 4096 + 1 * k.val = k.val; rw [e2]; omega

theorem blk_5 (c : Dev nD) (t : Fin cfg0.N) (k : Fin 4096) : at5 m c t (ix2 (0 : Fin 1) k) = argNgk m c (ix1 k) := by
  obtain ⟨e0, e1⟩ := tr_5 (grid0.coords t)
  unfold at5 iblk
  show V m c main_v5 (((cfg0.win 5).blk t).view.emb (ix2 (0 : Fin 1) k)) = _
  rw [V_v5]
  refine shapeCast_apply (argNgk m c) _ _ _ ?_
  rw [Shape.rowMajor_val_one, Shape.rowMajor_val_two]
  show k.val = (cc0_transform_5 (grid0.coords t) 0 * 1 + 1 * 0) * 4096 + (cc0_transform_5 (grid0.coords t) 1 * 4096 + 1 * k.val)
  rw [e0, e1]; omega

theorem blk_6 (c : Dev nD) (t : Fin cfg0.N) (k : Fin 4096) : at6 m c t (ix2 (0 : Fin 1) k) = argNgq m c (ix1 k) := by
  obtain ⟨e0, e1⟩ := tr_6 (grid0.coords t)
  unfold at6 iblk
  show V m c main_v6 (((cfg0.win 6).blk t).view.emb (ix2 (0 : Fin 1) k)) = _
  rw [V_v6]
  refine shapeCast_apply (argNgq m c) _ _ _ ?_
  rw [Shape.rowMajor_val_one, Shape.rowMajor_val_two]
  show k.val = (cc0_transform_6 (grid0.coords t) 0 * 1 + 1 * 0) * 4096 + (cc0_transform_6 (grid0.coords t) 1 * 4096 + 1 * k.val)
  rw [e0, e1]; omega

theorem blk_7 (c : Dev nD) (t : Fin cfg0.N) (k : Fin 128) : at7 m c t (ix2 (0 : Fin 1) k) = argGk m c (ix1 k) := by
  obtain ⟨e0, e1⟩ := tr_7 (grid0.coords t)
  unfold at7 iblk
  show V m c main_v7 (((cfg0.win 7).blk t).view.emb (ix2 (0 : Fin 1) k)) = _
  rw [V_v7]
  refine shapeCast_apply (argGk m c) _ _ _ ?_
  rw [Shape.rowMajor_val_one, Shape.rowMajor_val_two]
  show k.val = (cc0_transform_7 (grid0.coords t) 0 * 1 + 1 * 0) * 128 + (cc0_transform_7 (grid0.coords t) 1 * 128 + 1 * k.val)
  rw [e0, e1]; omega

theorem blk_8 (c : Dev nD) (t : Fin cfg0.N) (k : Fin 128) : at8 m c t (ix2 (0 : Fin 1) k) = argGq m c (ix1 k) := by
  obtain ⟨e0, e1⟩ := tr_8 (grid0.coords t)
  unfold at8 iblk
  show V m c main_v8 (((cfg0.win 8).blk t).view.emb (ix2 (0 : Fin 1) k)) = _
  rw [V_v8]
  refine shapeCast_apply (argGq m c) _ _ _ ?_
  rw [Shape.rowMajor_val_one, Shape.rowMajor_val_two]
  show k.val = (cc0_transform_8 (grid0.coords t) 0 * 1 + 1 * 0) * 128 + (cc0_transform_8 (grid0.coords t) 1 * 128 + 1 * k.val)
  rw [e0, e1]; omega

theorem blk_9 (c : Dev nD) (t : Fin cfg0.N) (r : Fin 4096) (k : Fin 1024) (q : Fin 12288) (hq : q.val = (grid0.coords t 1).val * 1024 + k.val) :
    at9 m c t (ix2 r k) = weights m c (ix2 r q) := by
  obtain ⟨e0, e1⟩ := tr_9 (grid0.coords t)
  unfold at9 iblk
  show V m c main_v3 (((cfg0.win 9).blk t).view.emb (ix2 r k)) = _
  rw [V_v3]
  refine congrArg (weights m c) (funext fun a => Fin.ext ?_)
  match a with
  | ⟨0, _⟩ => show cc0_transform_9 (grid0.coords t) 0 * 4096 + 1 * r.val = r.val; rw [e0]; omega
  | ⟨1, _⟩ => show cc0_transform_9 (grid0.coords t) 1 * 1024 + 1 * k.val = q.val; rw [e1, hq]; omega

theorem weights_0 (c : Dev nD) (r : Fin 4096) (q : Fin 12288) (k : Fin 4096) (hq : 0 + k.val = q.val) : weights m c (ix2 r q) = argWk m c (ix2 r k) := by
  unfold weights
  refine Eq.trans (concatenate_apply_piece (1 : Fin 2) _ _ (ix2 r q) 0 (by show 0 < 3; decide) S4096x4096 (argWk m c) rfl rfl 0 rfl (ix2 r k) (fun a ha => ?_) ?_) rfl
  · match a, ha with
    | ⟨0, _⟩, _ => rfl
    | ⟨1, _⟩, ha => exact absurd rfl ha
  · exact hq
theorem weights_1 (c : Dev nD) (r : Fin 4096) (q : Fin 12288) (k : Fin 4096) (hq : 4096 + k.val = q.val) : weights m c (ix2 r q) = argWv m c (ix2 r k) := by
  unfold weights
  refine Eq.trans (concatenate_apply_piece (1 : Fin 2) _ _ (ix2 r q) 1 (by show 1 < 3; decide) S4096x4096 (argWv m c) rfl rfl 4096 rfl (ix2 r k) (fun a ha => ?_) ?_) rfl
  · match a, ha with
    | ⟨0, _⟩, _ => rfl
    | ⟨1, _⟩, ha => exact absurd rfl ha
  · exact hq
theorem weights_2 (c : Dev nD) (r : Fin 4096) (q : Fin 12288) (k : Fin 4096) (hq : 8192 + k.val = q.val) : weights m c (ix2 r q) = argWq m c (ix2 r k) := by
  unfold weights
  refine Eq.trans (concatenate_apply_piece (1 : Fin 2) _ _ (ix2 r q) 2 (by show 2 < 3; decide) S4096x4096 (argWq m c) rfl rfl 8192 rfl (ix2 r k) (fun a ha => ?_) ?_) rfl
  · match a, ha with
    | ⟨0, _⟩, _ => rfl
    | ⟨1, _⟩, ha => exact absurd rfl ha
  · exact hq

/-! ## The scratch -/

theorem coords_0 (t : Fin cfg0.N) : (grid0.coords t 0).val = t.val / 12 := by
  have ht : t.val < 384 := Nat.lt_of_lt_of_eq t.isLt N_0
  have e : (grid0.coords t 0).val = t.val / 12 % 32 := Pipeline.Grid.coords_val t 0 (by decide) rfl
  omega

theorem coords_1 (t : Fin cfg0.N) : (grid0.coords t 1).val < 12 := (grid0.coords t 1).isLt

theorem fst_0 (t : Fin cfg0.N) : (grid0.coords (fst t) 0).val = (grid0.coords t 0).val := by
  rw [coords_0, coords_0]
  show (t.val - t.val % 12) / 12 = t.val / 12
  omega

/-- The scratch at a point, whichever half: the tile's rows, normalised and modulated. -/
theorem scratch_kv (c : Dev nD) (t : Fin cfg0.N) (r : Fin 512) (k : Fin 4096) (b : Fin 2) (s : Fin 8192)
    (hb : b.val = (grid0.coords t 0).val / 16) (hs : b.val * 8192 + s.val = (grid0.coords t 0).val * 512 + r.val) :
    hAt m c t (ix3 (0 : Fin 2) r k) = H (argX m c) (argShk m c) (argSck m c) (argNgk m c) b s k := by
  have e := fst_0 t
  unfold hAt
  rw [halves_eq]
  unfold rows H
  have h1 : (fun j : Fin 4096 => at0 m c (fst t) (ix2 r j)) = fun j => argX m c (ix3 b s j) :=
    funext fun j => blk_0 m c (fst t) r j b s (by rw [e]; exact hs)
  have h2 := blk_5 m c (fst t) k
  have h3 := blk_1 m c (fst t) k b (by rw [e]; exact hb)
  have h4 := blk_2 m c (fst t) k b (by rw [e]; exact hb)
  exact (congrArg (fun f => norm f k _ _ _) h1).trans ((congrArg (fun a => norm _ k a _ _) h2).trans
    ((congrArg (fun a => norm _ k _ a _) h3).trans (congrArg (fun a => norm _ k _ _ a) h4)))

theorem scratch_q (c : Dev nD) (t : Fin cfg0.N) (r : Fin 512) (k : Fin 4096) (b : Fin 2) (s : Fin 8192)
    (hb : b.val = (grid0.coords t 0).val / 16) (hs : b.val * 8192 + s.val = (grid0.coords t 0).val * 512 + r.val) :
    hAt m c t (ix3 (1 : Fin 2) r k) = H (argX m c) (argShq m c) (argScq m c) (argNgq m c) b s k := by
  have e := fst_0 t
  unfold hAt
  rw [halves_eq]
  unfold rows H
  have h1 : (fun j : Fin 4096 => at0 m c (fst t) (ix2 r j)) = fun j => argX m c (ix3 b s j) :=
    funext fun j => blk_0 m c (fst t) r j b s (by rw [e]; exact hs)
  have h2 := blk_6 m c (fst t) k
  have h3 := blk_3 m c (fst t) k b (by rw [e]; exact hb)
  have h4 := blk_4 m c (fst t) k b (by rw [e]; exact hb)
  exact (congrArg (fun f => norm f k _ _ _) h1).trans ((congrArg (fun a => norm _ k a _ _) h2).trans
    ((congrArg (fun a => norm _ k _ a _) h3).trans (congrArg (fun a => norm _ k _ _ a) h4)))

/-! ## What a point leaves -/

theorem prod_k (c : Dev nD) (t : Fin cfg0.N) (hk : (grid0.coords t 1).val / 4 = 0) (b : Fin 2) (n : Fin 8) (n' : Fin 32) (r : Fin 512) (s : Fin 8192) (e : Fin 128)
    (hb : b.val = (grid0.coords t 0).val / 16) (hn : n'.val = (grid0.coords t 1).val % 4 * 8 + n.val)
    (hs : b.val * 8192 + s.val = (grid0.coords t 0).val * 512 + r.val) :
    ∑ j : Fin 4096, hAt m c t (ix3 (0 : Fin 2) r j) * at9 m c t (ix2 j (col n e)) = proj (H (argX m c) (argShk m c) (argSck m c) (argNgk m c) b s) (argWk m c) n' e := by
  have h1 := coords_1 t
  have h2 := n.isLt
  have h3 := e.isLt
  unfold proj
  refine Finset.sum_congr rfl fun j _ => congrArg₂ (· * ·) (scratch_kv m c t r j b s hb hs) ?_
  have hq : (grid0.coords t 1).val * 1024 + (128 * n.val + e.val) < 12288 := by omega
  refine (blk_9 m c t j (col n e) ⟨(grid0.coords t 1).val * 1024 + (128 * n.val + e.val), hq⟩ rfl).trans (weights_0 m c j _ (hcol n' e) ?_)
  show 0 + (128 * n'.val + e.val) = (grid0.coords t 1).val * 1024 + (128 * n.val + e.val)
  rw [hn]; omega

theorem prod_v (c : Dev nD) (t : Fin cfg0.N) (hk : (grid0.coords t 1).val / 4 = 1) (b : Fin 2) (n : Fin 8) (n' : Fin 32) (r : Fin 512) (s : Fin 8192) (e : Fin 128)
    (hb : b.val = (grid0.coords t 0).val / 16) (hn : n'.val = (grid0.coords t 1).val % 4 * 8 + n.val)
    (hs : b.val * 8192 + s.val = (grid0.coords t 0).val * 512 + r.val) :
    ∑ j : Fin 4096, hAt m c t (ix3 (0 : Fin 2) r j) * at9 m c t (ix2 j (col n e)) = proj (H (argX m c) (argShk m c) (argSck m c) (argNgk m c) b s) (argWv m c) n' e := by
  have h1 := coords_1 t
  have h2 := n.isLt
  have h3 := e.isLt
  unfold proj
  refine Finset.sum_congr rfl fun j _ => congrArg₂ (· * ·) (scratch_kv m c t r j b s hb hs) ?_
  have hq : (grid0.coords t 1).val * 1024 + (128 * n.val + e.val) < 12288 := by omega
  refine (blk_9 m c t j (col n e) ⟨(grid0.coords t 1).val * 1024 + (128 * n.val + e.val), hq⟩ rfl).trans (weights_1 m c j _ (hcol n' e) ?_)
  show 4096 + (128 * n'.val + e.val) = (grid0.coords t 1).val * 1024 + (128 * n.val + e.val)
  rw [hn]; omega

theorem prod_q (c : Dev nD) (t : Fin cfg0.N) (hk : (grid0.coords t 1).val / 4 = 2) (b : Fin 2) (n : Fin 8) (n' : Fin 32) (r : Fin 512) (s : Fin 8192) (e : Fin 128)
    (hb : b.val = (grid0.coords t 0).val / 16) (hn : n'.val = (grid0.coords t 1).val % 4 * 8 + n.val)
    (hs : b.val * 8192 + s.val = (grid0.coords t 0).val * 512 + r.val) :
    ∑ j : Fin 4096, hAt m c t (ix3 (1 : Fin 2) r j) * at9 m c t (ix2 j (col n e)) = proj (H (argX m c) (argShq m c) (argScq m c) (argNgq m c) b s) (argWq m c) n' e := by
  have h1 := coords_1 t
  have h2 := n.isLt
  have h3 := e.isLt
  unfold proj
  refine Finset.sum_congr rfl fun j _ => congrArg₂ (· * ·) (scratch_q m c t r j b s hb hs) ?_
  have hq : (grid0.coords t 1).val * 1024 + (128 * n.val + e.val) < 12288 := by omega
  refine (blk_9 m c t j (col n e) ⟨(grid0.coords t 1).val * 1024 + (128 * n.val + e.val), hq⟩ rfl).trans (weights_2 m c j _ (hcol n' e) ?_)
  show 8192 + (128 * n'.val + e.val) = (grid0.coords t 1).val * 1024 + (128 * n.val + e.val)
  rw [hn]; omega

/-- What a point leaves is its block of the result. -/
theorem out_apply (c : Dev nD) (t : Fin cfg0.N) (z0 z1 : Fin 1) (n : Fin 8) (r : Fin 512) (d : Fin 128) (p : Fin 3) (b : Fin 2) (n' : Fin 32) (s : Fin 8192)
    (hp : p.val = (grid0.coords t 1).val / 4) (hb : b.val = (grid0.coords t 0).val / 16) (hn : n'.val = (grid0.coords t 1).val % 4 * 8 + n.val)
    (hs : b.val * 8192 + s.val = (grid0.coords t 0).val * 512 + r.val) :
    outAt m c t (ix5 z0 z1 n r d) = entry (argX m c) (argShk m c) (argSck m c) (argShq m c) (argScq m c) (argNgk m c) (argNgq m c) (argGk m c) (argGq m c) (argWk m c) (argWv m c) (argWq m c) p b n' s d := by
  have h1 := coords_1 t
  have hp3 := p.isLt
  unfold outAt
  rcases (by omega : p.val = 0 ∨ p.val = 1 ∨ p.val = 2) with h | h | h
  · have hk : (grid0.coords t 1).val / 4 = 0 := by omega
    refine (left_apply (grid0.coords t) (hAt m c t) (at7 m c t) (at8 m c t) (at9 m c t) z0 z1 n r d (0 : Fin 2) (by show 0 = _; omega)).trans ?_
    rw [kind_eq, hk]
    unfold headAt gain entry
    rw [if_neg (by decide), if_neg (by decide), if_pos h]
    exact congrArg₂ (fun f g => hnorm f d g) (funext fun e => prod_k m c t hk b n n' r s e hb hn hs) (blk_7 m c t d)
  · have hk : (grid0.coords t 1).val / 4 = 1 := by omega
    refine (left_apply (grid0.coords t) (hAt m c t) (at7 m c t) (at8 m c t) (at9 m c t) z0 z1 n r d (0 : Fin 2) (by show 0 = _; omega)).trans ?_
    rw [kind_eq, hk]
    unfold headAt entry
    rw [if_pos (by decide), if_neg (by omega), if_pos h]
    exact prod_v m c t hk b n n' r s d hb hn hs
  · have hk : (grid0.coords t 1).val / 4 = 2 := by omega
    refine (left_apply (grid0.coords t) (hAt m c t) (at7 m c t) (at8 m c t) (at9 m c t) z0 z1 n r d (1 : Fin 2) (by show 1 = _; omega)).trans ?_
    rw [kind_eq, hk]
    unfold headAt gain entry
    rw [if_neg (by decide), if_pos (by decide), if_neg (by omega), if_neg (by omega)]
    exact congrArg₂ (fun f g => hnorm f d (g * Ideal.ofBits .f32 0x3E0293EE#32)) (funext fun e => prod_q m c t hk b n n' r s e hb hn hs) (blk_8 m c t d)

/-! ## The blocks tile the result -/

theorem nblk_0 : (cfg0.win 10).nblk (0 : Fin 5) = 3 :=
  show (S3x2x32x8192x128.size 0 + S1x1x8x512x128.size 0 - 1) / S1x1x8x512x128.size 0 = 3 by decide
theorem nblk_1 : (cfg0.win 10).nblk (1 : Fin 5) = 2 :=
  show (S3x2x32x8192x128.size 1 + S1x1x8x512x128.size 1 - 1) / S1x1x8x512x128.size 1 = 2 by decide
theorem nblk_2 : (cfg0.win 10).nblk (2 : Fin 5) = 4 :=
  show (S3x2x32x8192x128.size 2 + S1x1x8x512x128.size 2 - 1) / S1x1x8x512x128.size 2 = 4 by decide
theorem nblk_3 : (cfg0.win 10).nblk (3 : Fin 5) = 16 :=
  show (S3x2x32x8192x128.size 3 + S1x1x8x512x128.size 3 - 1) / S1x1x8x512x128.size 3 = 16 by decide
theorem nblk_4 : (cfg0.win 10).nblk (4 : Fin 5) = 1 :=
  show (S3x2x32x8192x128.size 4 + S1x1x8x512x128.size 4 - 1) / S1x1x8x512x128.size 4 = 1 by decide

theorem covers_10 : (cfg0.win 10).Covers :=
  (cfg0.win 10).covers_of_indexMap_surj rfl (show ∀ a : Fin 5, 0 < S1x1x8x512x128.size a by decide)
    fun (β : (a : Fin 5) → Fin ((cfg0.win 10).nblk a)) => by
    have h0 : (β 0).val < 3 := lt_of_lt_of_eq (β 0).isLt nblk_0
    have h1 : (β 1).val < 2 := lt_of_lt_of_eq (β 1).isLt nblk_1
    have h2 : (β 2).val < 4 := lt_of_lt_of_eq (β 2).isLt nblk_2
    have h3 : (β 3).val < 16 := lt_of_lt_of_eq (β 3).isLt nblk_3
    have h4 : (β 4).val < 1 := lt_of_lt_of_eq (β 4).isLt nblk_4
    have g0 : (β 1).val * 16 + (β 3).val < 32 := by omega
    have g1 : (β 0).val * 4 + (β 2).val < 12 := by omega
    have e := tr_10 (fun | ⟨0, _⟩ => ⟨(β 1).val * 16 + (β 3).val, g0⟩ | ⟨1, _⟩ => ⟨(β 0).val * 4 + (β 2).val, g1⟩ : grid0.Coords)
    obtain ⟨e0, e1, e2, e3, e4⟩ := e
    replace e0 := e0.trans (show ((β 0).val * 4 + (β 2).val) / 4 = (β 0).val by omega)
    replace e1 := e1.trans (show ((β 1).val * 16 + (β 3).val) / 16 = (β 1).val by omega)
    replace e2 := e2.trans (show ((β 0).val * 4 + (β 2).val) % 4 = (β 2).val by omega)
    replace e3 := e3.trans (show ((β 1).val * 16 + (β 3).val) % 16 = (β 3).val by omega)
    replace e4 := e4.trans (show 0 = (β 4).val by omega)
    refine ⟨(fun | ⟨0, _⟩ => ⟨(β 1).val * 16 + (β 3).val, g0⟩ | ⟨1, _⟩ => ⟨(β 0).val * 4 + (β 2).val, g1⟩ : grid0.Coords), fun (a : Fin 5) => ?_⟩
    match a with
    | ⟨0, _⟩ => exact e0
    | ⟨1, _⟩ => exact e1
    | ⟨2, _⟩ => exact e2
    | ⟨3, _⟩ => exact e3
    | ⟨4, _⟩ => exact e4

/-- Where the point's block of the result lies. -/
theorem emb_10_0 (t : Fin cfg0.N) (y : S1x1x8x512x128.Idx) :
    (((cfg0.win 10).blk t).view.emb y (0 : Fin 5)).val = (grid0.coords t 1).val / 4 * 1 + (y 0).val := by
  show cc0_transform_10 (grid0.coords t) 0 * 1 + 1 * (y 0).val = _
  rw [(tr_10 (grid0.coords t)).1, Nat.one_mul]
theorem emb_10_1 (t : Fin cfg0.N) (y : S1x1x8x512x128.Idx) :
    (((cfg0.win 10).blk t).view.emb y (1 : Fin 5)).val = (grid0.coords t 0).val / 16 * 1 + (y 1).val := by
  show cc0_transform_10 (grid0.coords t) 1 * 1 + 1 * (y 1).val = _
  rw [(tr_10 (grid0.coords t)).2.1, Nat.one_mul]
theorem emb_10_2 (t : Fin cfg0.N) (y : S1x1x8x512x128.Idx) :
    (((cfg0.win 10).blk t).view.emb y (2 : Fin 5)).val = (grid0.coords t 1).val % 4 * 8 + (y 2).val := by
  show cc0_transform_10 (grid0.coords t) 2 * 8 + 1 * (y 2).val = _
  rw [(tr_10 (grid0.coords t)).2.2.1, Nat.one_mul]
theorem emb_10_3 (t : Fin cfg0.N) (y : S1x1x8x512x128.Idx) :
    (((cfg0.win 10).blk t).view.emb y (3 : Fin 5)).val = (grid0.coords t 0).val % 16 * 512 + (y 3).val := by
  show cc0_transform_10 (grid0.coords t) 3 * 512 + 1 * (y 3).val = _
  rw [(tr_10 (grid0.coords t)).2.2.2.1, Nat.one_mul]
theorem emb_10_4 (t : Fin cfg0.N) (y : S1x1x8x512x128.Idx) :
    (((cfg0.win 10).blk t).view.emb y (4 : Fin 5)).val = 0 * 128 + (y 4).val := by
  show cc0_transform_10 (grid0.coords t) 4 * 128 + 1 * (y 4).val = _
  rw [(tr_10 (grid0.coords t)).2.2.2.2, Nat.one_mul]

theorem block_eq (c : Dev nD) (t : Fin cfg0.N) (y : S1x1x8x512x128.Idx) (i : S3x2x32x8192x128.Idx)
    (h0 : (i 0).val = (grid0.coords t 1).val / 4 * 1 + (y 0).val) (h1 : (i 1).val = (grid0.coords t 0).val / 16 * 1 + (y 1).val)
    (h2 : (i 2).val = (grid0.coords t 1).val % 4 * 8 + (y 2).val) (h3 : (i 3).val = (grid0.coords t 0).val % 16 * 512 + (y 3).val)
    (h4 : (i 4).val = 0 * 128 + (y 4).val) :
    outAt m c t y = G (argX m c) (argShk m c) (argSck m c) (argShq m c) (argScq m c) (argNgk m c) (argNgq m c) (argGk m c) (argGq m c) (argWk m c) (argWv m c) (argWq m c) i := by
  obtain ⟨z0, z1, n, r, d, rfl⟩ : ∃ (z0 z1 : Fin 1) (n : Fin 8) (r : Fin 512) (d : Fin 128), y = ix5 z0 z1 n r d := ⟨y 0, y 1, y 2, y 3, y 4, eq_ix5 y⟩
  obtain ⟨p, b, n', s, d', rfl⟩ : ∃ (p : Fin 3) (b : Fin 2) (n' : Fin 32) (s : Fin 8192) (d' : Fin 128), i = ix5 p b n' s d' := ⟨i 0, i 1, i 2, i 3, i 4, eq_ix5 i⟩
  replace h0 : p.val = (grid0.coords t 1).val / 4 * 1 + z0.val := h0
  replace h1 : b.val = (grid0.coords t 0).val / 16 * 1 + z1.val := h1
  replace h2 : n'.val = (grid0.coords t 1).val % 4 * 8 + n.val := h2
  replace h3 : s.val = (grid0.coords t 0).val % 16 * 512 + r.val := h3
  replace h4 : d'.val = 0 * 128 + d.val := h4
  have hz0 := z0.isLt
  have hz1 := z1.isLt
  obtain rfl : d' = d := Fin.ext (by omega)
  exact out_apply m c t z0 z1 n r d' p b n' s (by omega) (by omega) h2 (by omega)

theorem arrAt_10 (c : Dev nD) :
    (dats m 0 c).arrAt 10 cfg0.N = G (argX m c) (argShk m c) (argSck m c) (argShq m c) (argScq m c) (argNgk m c) (argNgq m c) (argGk m c) (argGq m c) (argWk m c) (argWv m c) (argWq m c) :=
  (dats m 0 c).arrAt_eq_of_covers 10 _ covers_10 fun t _ (y : S1x1x8x512x128.Idx) => by
    have key := block_eq m c t y _ (emb_10_0 t y) (emb_10_1 t y) (emb_10_2 t y) (emb_10_3 t y) (emb_10_4 t y)
    rw [after_10]
    generalize outAt m c t = o at key ⊢
    exact key

end Cert.Kernel7Ideal.Kvq

end
-- ==== Proof.OprojBody.lean ====
module

public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Whole
public import Idealize.ShloMosaic.Lib.Pipeline.Frame
public import Idealize.ShloMosaic.Lib.Pipeline.Value
public import Idealize.ShloMosaic.Lib.Pipeline.ValueKit.Tiles
public import Idealize.ShloMosaic.Lib.ValueIdx
public import Idealize.ShloMosaic.Lib.WholeRead
public import Idealize.ShloMosaic.Lib.WritesUnit
public import Idealize.ShloMosaic.Lib.WordCmp
public import Idealize.ShloMosaic.Lib.Ring
public import Idealize.ShloMosaic.Lib.Tactic

@[expose] public section

set_option maxRecDepth 16384

noncomputable section

/-! # One grid point of the output projection

Every point multiplies the tile's attention rows with its 512 columns of the weights, adds the gated product to the
residual rows, and keeps the block in one slot of a scratch of eight. The last point of a row tile reads the eight slots,
normalises the rows and modulates them, and multiplies them with the router's weights. -/

namespace Cert.Kernel8Ideal.Oproj

open Cert.Kernel8Ideal Cert.Kernel8Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Whole

variable {F : FTy → Type} [FloatOps F]

local notation "𝕄" => MT nD τ sig Unit (Elt F) ℕ (Idealize.ShloMosaic.UR sig nD τ) ℕ

/-- The point is the last of its row tile. -/
abbrev Last (i : grid0.Coords) : Prop := k0_cond1 i = 1#1

theorem coords_1 (t : Fin cfg0.N) : (grid0.coords t 1).val = t.val % 8 :=
  ((Pipeline.Grid.coords_val t 1 (by decide) rfl : (grid0.coords t 1).val = t.val / 1 % 8)).trans (by rw [Nat.div_one])

theorem cond1_iff (i : grid0.Coords) : Last i ↔ (i 1).val = 7 := by
  unfold Last k0_cond1
  generalize (i 1) = n
  revert n
  show ∀ n : Fin 8, _
  decide +kernel

theorem last_iff (t : Fin cfg0.N) : Last (grid0.coords t) ↔ t.val % 8 = 7 := by
  rw [cond1_iff, coords_1]

/-- The slot that a point writes. -/
theorem off1_eq (i : grid0.Coords) : k0_off1 i = ![(i 1).val, 0, 0] := by
  unfold k0_off1
  generalize (i 1) = n
  revert n
  show ∀ n : Fin 8, _
  decide +kernel

instance closedOff_off1 (i : grid0.Coords) : ClosedOff (k0_off1 i) := ⟨![(i 1).val, 0, 0], off1_eq i⟩

/-- The scratch after a point: its slot at the point's block, the others as they were. -/
def put (i : grid0.Coords) (g : S8x512x512.Idx → Elt F .f32) (p : S1x512x512.Idx → Elt F .f32) : S8x512x512.Idx → Elt F .f32 :=
  fun y => if (y 0).val = (i 1).val then p (ix3 (0 : Fin 1) (y 1 : Fin 512) (y 2 : Fin 512)) else g y

theorem read_put (i : grid0.Coords) (M : Memref sig .tc .vmem S8x512x512 .f32) (hM : M.IsWhole) (g : S8x512x512.Idx → Elt F .f32)
    (p : S1x512x512.Idx → Elt F .f32) :
    M.view.read (Elt F) (M.view.writes (Elt F) (hM.unread g) [⟨Rect.unit (s := S8x512x512) (k0_off1 i) S1x512x512.size (k0_off1_inb i), p⟩]) = put i g p := by
  funext y
  unfold put
  by_cases h : (y 0).val = (i 1).val
  · rw [if_pos h]
    refine View.read_writes_cons_unit_of_mem M.view (hM.unread g) (k0_off1_inb i) p [] y (ix3 (0 : Fin 1) (y 1 : Fin 512) (y 2 : Fin 512)) (off1_eq i) fun a => ?_
    match a with
    | ⟨0, _⟩ => exact h
    | ⟨1, _⟩ => show (y 1).val = 0 + (y 1).val; omega
    | ⟨2, _⟩ => show (y 2).val = 0 + (y 2).val; omega
  · rw [if_neg h]
    refine (View.read_writes_cons_unit_of_not_mem M.view (hM.unread g) (k0_off1_inb i) p [] y (off1_eq i) 0 ?_).trans (congrFun (hM.read_unread g) y)
    show (y 0).val < (i 1).val ∨ (i 1).val + 1 ≤ (y 0).val
    omega

/-- One slot as it is read. -/
abbrev slot (g : S8x512x512.Idx → Elt F .f32) (off : Fin 3 → Nat) (h : ∀ a, off a + S1x512x512.size a ≤ S8x512x512.size a) : S1x512x512.Idx → Elt F .f32 :=
  View.ld g (Rect.unit (s := S8x512x512) off S1x512x512.size h)

/-- The sum of a slot's squares along a row. -/
def sq (x : FVec F S1x512x512 .f32) : FVec F S512x1 .f32 :=
  have a : FVec F S512x512 .f32 := shapeCast S512x512 x shapeCasts_S1x512x512_S512x512
  shapeCast S512x1 (multiReduction .add [1] S512 (mulf a a) 0x00000000#32 reduces_S512x512_S512 (.inl rfl) rfl) shapeCasts_S512_S512x1

/-- The rows' normalising factor. -/
def inv (g : S8x512x512.Idx → Elt F .f32) : FVec F S512x1 .f32 :=
  have s : FVec F S512x1 .f32 := addf (addf (addf (addf (addf (addf (addf (addf (broadcast S512x1 (Scalar.ofBits .f32 0x00000000#32))
    (sq (slot g ![0, 0, 0] inb_S8x512x512_S1x512x512_0_0_0)))
    (sq (slot g ![1, 0, 0] inb_S8x512x512_S1x512x512_1_0_0)))
    (sq (slot g ![2, 0, 0] inb_S8x512x512_S1x512x512_2_0_0)))
    (sq (slot g ![3, 0, 0] inb_S8x512x512_S1x512x512_3_0_0)))
    (sq (slot g ![4, 0, 0] inb_S8x512x512_S1x512x512_4_0_0)))
    (sq (slot g ![5, 0, 0] inb_S8x512x512_S1x512x512_5_0_0)))
    (sq (slot g ![6, 0, 0] inb_S8x512x512_S1x512x512_6_0_0)))
    (sq (slot g ![7, 0, 0] inb_S8x512x512_S1x512x512_7_0_0))
  rsqrt (addf (divf s (broadcast S512x1 (Scalar.ofBits .f32 0x45800000#32))) (broadcast S512x1 (Scalar.ofBits .f32 0x358637BD#32)))

/-- A slot's rows, normalised and modulated. -/
def hj (v : FVec F S512x1 .f32) (x : FVec F S1x512x512 .f32) (ng : FVec F S1x512 .f32) (sc sh : FVec F S1x1x512 .f32) : FVec F S512x512 .f32 :=
  addf (mulf (mulf (mulf (shapeCast S512x512 x shapeCasts_S1x512x512_S512x512) (broadcastTo S512x512 v broadcasts_S512x1_S512x512))
      (broadcastTo S512x512 (shapeCast S1x512 ng shapeCasts_S1x512_S1x512) broadcasts_S1x512_S512x512))
    (broadcastTo S512x512 (addf (broadcast S1x512 (Scalar.ofBits .f32 0x3F800000#32)) (shapeCast S1x512 sc shapeCasts_S1x1x512_S1x512)) broadcasts_S1x512_S512x512))
    (broadcastTo S512x512 (shapeCast S1x512 sh shapeCasts_S1x1x512_S1x512) broadcasts_S1x512_S512x512)

/-- A slot's share of the router's product, in two halves of each factor. -/
def step (acc : FVec F S512x128 .f32) (h : FVec F S512x512 .f32) (w : FVec F S512x128 .f32) : FVec F S512x128 .f32 :=
  have hi : FVec F S512x512 .bf16 := truncf .bf16 h bitsLt_bf16_f32
  have lo : FVec F S512x512 .bf16 := truncf .bf16 (subf h (extf .f32 hi bitsLt_bf16_f32)) bitsLt_bf16_f32
  have v : FVec F S512x128 .f32 := shapeCast S512x128 w shapeCasts_S512x128_S512x128
  have whi : FVec F S512x128 .bf16 := truncf .bf16 v bitsLt_bf16_f32
  have wlo : FVec F S512x128 .bf16 := truncf .bf16 (subf v (extf .f32 whi bitsLt_bf16_f32)) bitsLt_bf16_f32
  addf (addf acc (matmul dot_S512x512_S512x128_S512x128_1_0_0_1_n_n none hi whi (constant S512x128 .f32 0x00000000#32)))
    (addf (matmul dot_S512x512_S512x128_S512x128_1_0_0_1_n_n none hi wlo (constant S512x128 .f32 0x00000000#32))
      (matmul dot_S512x512_S512x128_S512x128_1_0_0_1_n_n none lo whi (constant S512x128 .f32 0x00000000#32)))

variable (g : S8x512x512.Idx → Elt F .f32) (ng : S1x4096.Idx → Elt F .f32) (sh sc : S1x1x4096.Idx → Elt F .f32) (wr : S4096x128.Idx → Elt F .f32)

/-- The eight blocks of modulated rows. -/
def h0 : FVec F S512x512 .f32 :=
  hj (inv g) (slot g ![0, 0, 0] inb_S8x512x512_S1x512x512_0_0_0) (View.ld ng (Rect.unit (s := S1x4096) ![0, 0] S1x512.size inb_S1x4096_S1x512_0_0))
    (View.ld sc (Rect.unit (s := S1x1x4096) ![0, 0, 0] S1x1x512.size inb_S1x1x4096_S1x1x512_0_0_0))
    (View.ld sh (Rect.unit (s := S1x1x4096) ![0, 0, 0] S1x1x512.size inb_S1x1x4096_S1x1x512_0_0_0))
def h1 : FVec F S512x512 .f32 :=
  hj (inv g) (slot g ![1, 0, 0] inb_S8x512x512_S1x512x512_1_0_0) (View.ld ng (Rect.unit (s := S1x4096) ![0, 512] S1x512.size inb_S1x4096_S1x512_0_512))
    (View.ld sc (Rect.unit (s := S1x1x4096) ![0, 0, 512] S1x1x512.size inb_S1x1x4096_S1x1x512_0_0_512))
    (View.ld sh (Rect.unit (s := S1x1x4096) ![0, 0, 512] S1x1x512.size inb_S1x1x4096_S1x1x512_0_0_512))
def h2 : FVec F S512x512 .f32 :=
  hj (inv g) (slot g ![2, 0, 0] inb_S8x512x512_S1x512x512_2_0_0) (View.ld ng (Rect.unit (s := S1x4096) ![0, 1024] S1x512.size inb_S1x4096_S1x512_0_1024))
    (View.ld sc (Rect.unit (s := S1x1x4096) ![0, 0, 1024] S1x1x512.size inb_S1x1x4096_S1x1x512_0_0_1024))
    (View.ld sh (Rect.unit (s := S1x1x4096) ![0, 0, 1024] S1x1x512.size inb_S1x1x4096_S1x1x512_0_0_1024))
def h3 : FVec F S512x512 .f32 :=
  hj (inv g) (slot g ![3, 0, 0] inb_S8x512x512_S1x512x512_3_0_0) (View.ld ng (Rect.unit (s := S1x4096) ![0, 1536] S1x512.size inb_S1x4096_S1x512_0_1536))
    (View.ld sc (Rect.unit (s := S1x1x4096) ![0, 0, 1536] S1x1x512.size inb_S1x1x4096_S1x1x512_0_0_1536))
    (View.ld sh (Rect.unit (s := S1x1x4096) ![0, 0, 1536] S1x1x512.size inb_S1x1x4096_S1x1x512_0_0_1536))
def h4 : FVec F S512x512 .f32 :=
  hj (inv g) (slot g ![4, 0, 0] inb_S8x512x512_S1x512x512_4_0_0) (View.ld ng (Rect.unit (s := S1x4096) ![0, 2048] S1x512.size inb_S1x4096_S1x512_0_2048))
    (View.ld sc (Rect.unit (s := S1x1x4096) ![0, 0, 2048] S1x1x512.size inb_S1x1x4096_S1x1x512_0_0_2048))
    (View.ld sh (Rect.unit (s := S1x1x4096) ![0, 0, 2048] S1x1x512.size inb_S1x1x4096_S1x1x512_0_0_2048))
def h5 : FVec F S512x512 .f32 :=
  hj (inv g) (slot g ![5, 0, 0] inb_S8x512x512_S1x512x512_5_0_0) (View.ld ng (Rect.unit (s := S1x4096) ![0, 2560] S1x512.size inb_S1x4096_S1x512_0_2560))
    (View.ld sc (Rect.unit (s := S1x1x4096) ![0, 0, 2560] S1x1x512.size inb_S1x1x4096_S1x1x512_0_0_2560))
    (View.ld sh (Rect.unit (s := S1x1x4096) ![0, 0, 2560] S1x1x512.size inb_S1x1x4096_S1x1x512_0_0_2560))
def h6 : FVec F S512x512 .f32 :=
  hj (inv g) (slot g ![6, 0, 0] inb_S8x512x512_S1x512x512_6_0_0) (View.ld ng (Rect.unit (s := S1x4096) ![0, 3072] S1x512.size inb_S1x4096_S1x512_0_3072))
    (View.ld sc (Rect.unit (s := S1x1x4096) ![0, 0, 3072] S1x1x512.size inb_S1x1x4096_S1x1x512_0_0_3072))
    (View.ld sh (Rect.unit (s := S1x1x4096) ![0, 0, 3072] S1x1x512.size inb_S1x1x4096_S1x1x512_0_0_3072))
def h7 : FVec F S512x512 .f32 :=
  hj (inv g) (slot g ![7, 0, 0] inb_S8x512x512_S1x512x512_7_0_0) (View.ld ng (Rect.unit (s := S1x4096) ![0, 3584] S1x512.size inb_S1x4096_S1x512_0_3584))
    (View.ld sc (Rect.unit (s := S1x1x4096) ![0, 0, 3584] S1x1x512.size inb_S1x1x4096_S1x1x512_0_0_3584))
    (View.ld sh (Rect.unit (s := S1x1x4096) ![0, 0, 3584] S1x1x512.size inb_S1x1x4096_S1x1x512_0_0_3584))

/-- The eight stores of the modulated rows, the last first. -/
def stores : List (View.Piece (Elt F) S512x4096 .bf16) :=
  [⟨Rect.unit ![0, 3584] ![512, 512] inb_S512x4096_S512x512_0_3584, truncf .bf16 (h7 g ng sh sc) bitsLt_bf16_f32⟩,
   ⟨Rect.unit ![0, 3072] ![512, 512] inb_S512x4096_S512x512_0_3072, truncf .bf16 (h6 g ng sh sc) bitsLt_bf16_f32⟩,
   ⟨Rect.unit ![0, 2560] ![512, 512] inb_S512x4096_S512x512_0_2560, truncf .bf16 (h5 g ng sh sc) bitsLt_bf16_f32⟩,
   ⟨Rect.unit ![0, 2048] ![512, 512] inb_S512x4096_S512x512_0_2048, truncf .bf16 (h4 g ng sh sc) bitsLt_bf16_f32⟩,
   ⟨Rect.unit ![0, 1536] ![512, 512] inb_S512x4096_S512x512_0_1536, truncf .bf16 (h3 g ng sh sc) bitsLt_bf16_f32⟩,
   ⟨Rect.unit ![0, 1024] ![512, 512] inb_S512x4096_S512x512_0_1024, truncf .bf16 (h2 g ng sh sc) bitsLt_bf16_f32⟩,
   ⟨Rect.unit ![0, 512] ![512, 512] inb_S512x4096_S512x512_0_512, truncf .bf16 (h1 g ng sh sc) bitsLt_bf16_f32⟩,
   ⟨Rect.unit ![0, 0] ![512, 512] inb_S512x4096_S512x512_0_0, truncf .bf16 (h0 g ng sh sc) bitsLt_bf16_f32⟩]

theorem stores_cover (y : S512x4096.Idx) : ∃ p ∈ stores g ng sh sc, y ∈ p.1.set :=
  View.cover_of_tiledL (stores g ng sh sc) ![512, 512] (by sl_kernel_rfl) y

/-- The modulated rows that the last point leaves. -/
def rows : S512x4096.Idx → Elt F .bf16 := View.canon (stores g ng sh sc)

/-- The router's product that the last point leaves. -/
def logits : S512x128.Idx → Elt F .f32 :=
  step (step (step (step (step (step (step (step (broadcast S512x128 (Scalar.ofBits .f32 0x00000000#32)) (h0 g ng sh sc) (View.ld wr (Rect.unit (s := S4096x128) ![0, 0] S512x128.size inb_S4096x128_S512x128_0_0))) (h1 g ng sh sc) (View.ld wr (Rect.unit (s := S4096x128) ![512, 0] S512x128.size inb_S4096x128_S512x128_512_0))) (h2 g ng sh sc) (View.ld wr (Rect.unit (s := S4096x128) ![1024, 0] S512x128.size inb_S4096x128_S512x128_1024_0))) (h3 g ng sh sc) (View.ld wr (Rect.unit (s := S4096x128) ![1536, 0] S512x128.size inb_S4096x128_S512x128_1536_0))) (h4 g ng sh sc) (View.ld wr (Rect.unit (s := S4096x128) ![2048, 0] S512x128.size inb_S4096x128_S512x128_2048_0))) (h5 g ng sh sc) (View.ld wr (Rect.unit (s := S4096x128) ![2560, 0] S512x128.size inb_S4096x128_S512x128_2560_0))) (h6 g ng sh sc) (View.ld wr (Rect.unit (s := S4096x128) ![3072, 0] S512x128.size inb_S4096x128_S512x128_3072_0))) (h7 g ng sh sc) (View.ld wr (Rect.unit (s := S4096x128) ![3584, 0] S512x128.size inb_S4096x128_S512x128_3584_0))

variable (c : Dev nD) (i : grid0.Coords) (arg2 : Memref sig .tc .vmem S512x4096 .bf16) (harg2 : arg2.IsWhole)
  (arg3 : Memref sig .tc .vmem S4096x512 .bf16) (harg3 : arg3.IsWhole)
  (arg4 : Memref sig .tc .vmem S512x512 .f32) (harg4 : arg4.IsWhole)
  (arg5 : Memref sig .tc .vmem S1x1x512 .f32) (harg5 : arg5.IsWhole)
  (arg6 : Memref sig .tc .vmem S1x4096 .f32) (harg6 : arg6.IsWhole)
  (arg7 : Memref sig .tc .vmem S1x1x4096 .f32) (harg7 : arg7.IsWhole)
  (arg8 : Memref sig .tc .vmem S1x1x4096 .f32) (harg8 : arg8.IsWhole)
  (arg9 : Memref sig .tc .vmem S4096x128 .f32) (harg9 : arg9.IsWhole)
  (arg10 : Memref sig .tc .vmem S512x512 .f32) (harg10 : arg10.IsWhole)
  (arg11 : Memref sig .tc .vmem S512x4096 .bf16) (harg11 : arg11.IsWhole)
  (arg12 : Memref sig .tc .vmem S512x128 .f32) (harg12 : arg12.IsWhole)
  (arg13 : Memref sig .tc .vmem S8x512x512 .f32) (harg13 : arg13.IsWhole)
  (x0 : S512x4096.Idx → Elt F .bf16) (x1 : S4096x512.Idx → Elt F .bf16) (x2 : S512x512.Idx → Elt F .f32) (x3 : S1x1x512.Idx → Elt F .f32)
  (o10 : arg10.view.ty.Contents (Elt F)) (o11 : arg11.view.ty.Contents (Elt F)) (o12 : arg12.view.ty.Contents (Elt F))

/-- The operands that a point reads and leaves as they are. -/
def ins : sProp 𝕄 :=
  iprop((arg2.view.loc (c : Thread nD τ) ↦[arg2.view.set]{fullShare} harg2.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} harg6.unread ng)
    ∗ (arg7.view.loc (c : Thread nD τ) ↦[arg7.view.set]{fullShare} harg7.unread sh)
    ∗ (arg8.view.loc (c : Thread nD τ) ↦[arg8.view.set]{fullShare} harg8.unread sc)
    ∗ (arg9.view.loc (c : Thread nD τ) ↦[arg9.view.set]{fullShare} harg9.unread wr))

set_option maxHeartbeats 800000 in
/-- A point before the last: its block and its slot are written. -/
theorem run_mid (hc : ¬ Last i) :
    iprop(ins ng sh sc wr c arg2 harg2 arg3 harg3 arg4 harg4 arg5 harg5 arg6 harg6 arg7 harg7 arg8 harg8 arg9 harg9 x0 x1 x2 x3
      ∗ (arg10.view.loc (c : Thread nD τ) ↦[arg10.view.set]{fullShare} o10) ∗ (arg13.view.loc (c : Thread nD τ) ↦[arg13.view.set]{fullShare} harg13.unread g))
    ⊢ wp frame (wpE (defs₀ (F := F)) Variants.none (c : Thread nD τ) none) Set.univ
      (cc0_oproj_prenorm_router (F := F) i arg2 harg2 arg3 harg3 arg4 harg4 arg5 harg5 arg6 harg6 arg7 harg7 arg8 harg8 arg9 harg9 arg10 harg10 arg11 harg11 arg12 harg12 arg13 harg13)
      (fun _ => (iprop(ins ng sh sc wr c arg2 harg2 arg3 harg3 arg4 harg4 arg5 harg5 arg6 harg6 arg7 harg7 arg8 harg8 arg9 harg9 x0 x1 x2 x3
        ∗ (∃ f, ⌜arg10.view.read (Elt F) f = k0_pay1 x0 x1 x2 x3⌝ ∗ (arg10.view.loc (c : Thread nD τ) ↦[arg10.view.set]{fullShare} f))
        ∗ (arg13.view.loc (c : Thread nD τ) ↦[arg13.view.set]{fullShare} harg13.unread (put i g (k0_pay2 x0 x1 x2 x3)))) : sProp 𝕄)) := by
  unfold ins
  iintro ⟨⟨H2, H3, H4, H5, H6, H7, H8, H9⟩, H10, H13⟩
  simp only [cc0_oproj_prenorm_router_eq_skeleton]; unfold cc0_oproj_prenorm_router_skel
  sl_exec (disch := first | sl_exact hc)
  sl_step
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists _
    isplitr
    swap; · iexact H10
    ipureintro
    refine (read_store arg10.view hz2 _ _ _).trans ?_
    sl_unfold_words
    simp only [View.readAt_eq_ld, harg2.read_unread, harg3.read_unread, harg4.read_unread, harg5.read_unread]
    rw [View.ld_unit_zero (S := S512x4096) hz2, View.ld_unit_zero (S := S4096x512) hz2, View.ld_unit_zero (S := S512x512) hz2, View.ld_unit_zero (S := S1x1x512) hz3]
  have e : arg13.view.writes (Elt F) (harg13.unread g) [⟨Rect.unit (s := S8x512x512) (k0_off1 i) S1x512x512.size (k0_off1_inb i), k0_pay2 x0 x1 x2 x3⟩] = harg13.unread (put i g (k0_pay2 x0 x1 x2 x3)) :=
    harg13.eq_unread (read_put i arg13 harg13 g _)
  rw [← e]
  sl_unfold_words
  simp only [View.readAt_eq_ld, harg2.read_unread, harg3.read_unread, harg4.read_unread, harg5.read_unread]
  rw [View.ld_unit_zero (S := S512x4096) hz2, View.ld_unit_zero (S := S4096x512) hz2, View.ld_unit_zero (S := S512x512) hz2, View.ld_unit_zero (S := S1x1x512) hz3]
  iexact H13

set_option maxHeartbeats 800000 in
/-- The last point of a row tile: the modulated rows and the router's product are written too. -/
theorem run_last (hc : Last i) :
    iprop(ins ng sh sc wr c arg2 harg2 arg3 harg3 arg4 harg4 arg5 harg5 arg6 harg6 arg7 harg7 arg8 harg8 arg9 harg9 x0 x1 x2 x3
      ∗ (arg10.view.loc (c : Thread nD τ) ↦[arg10.view.set]{fullShare} o10) ∗ (arg11.view.loc (c : Thread nD τ) ↦[arg11.view.set]{fullShare} o11)
      ∗ (arg12.view.loc (c : Thread nD τ) ↦[arg12.view.set]{fullShare} o12) ∗ (arg13.view.loc (c : Thread nD τ) ↦[arg13.view.set]{fullShare} harg13.unread g))
    ⊢ wp frame (wpE (defs₀ (F := F)) Variants.none (c : Thread nD τ) none) Set.univ
      (cc0_oproj_prenorm_router (F := F) i arg2 harg2 arg3 harg3 arg4 harg4 arg5 harg5 arg6 harg6 arg7 harg7 arg8 harg8 arg9 harg9 arg10 harg10 arg11 harg11 arg12 harg12 arg13 harg13)
      (fun _ => (iprop(ins ng sh sc wr c arg2 harg2 arg3 harg3 arg4 harg4 arg5 harg5 arg6 harg6 arg7 harg7 arg8 harg8 arg9 harg9 x0 x1 x2 x3
        ∗ (∃ f, ⌜arg10.view.read (Elt F) f = k0_pay1 x0 x1 x2 x3⌝ ∗ (arg10.view.loc (c : Thread nD τ) ↦[arg10.view.set]{fullShare} f))
        ∗ (∃ f, ⌜arg11.view.read (Elt F) f = rows (put i g (k0_pay2 x0 x1 x2 x3)) ng sh sc⌝ ∗ (arg11.view.loc (c : Thread nD τ) ↦[arg11.view.set]{fullShare} f))
        ∗ (∃ f, ⌜arg12.view.read (Elt F) f = logits (put i g (k0_pay2 x0 x1 x2 x3)) ng sh sc wr⌝ ∗ (arg12.view.loc (c : Thread nD τ) ↦[arg12.view.set]{fullShare} f))
        ∗ (arg13.view.loc (c : Thread nD τ) ↦[arg13.view.set]{fullShare} harg13.unread (put i g (k0_pay2 x0 x1 x2 x3)))) : sProp 𝕄)) := by
  unfold ins
  iintro ⟨⟨H2, H3, H4, H5, H6, H7, H8, H9⟩, H10, H11, H12, H13⟩
  simp only [cc0_oproj_prenorm_router_eq_skeleton]; unfold cc0_oproj_prenorm_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  sl_exec (disch := first | sl_exact hc)
  sl_step
  have hW : arg13.view.writes (Elt F) (harg13.unread g) (run_last.sl.H13_1 i arg2 harg2 arg3 harg3 arg4 harg4 arg5 harg5 x0 x1 x2 x3) = harg13.unread (put i g (k0_pay2 x0 x1 x2 x3)) := by
    refine (congrArg (arg13.view.writes (Elt F) (harg13.unread g)) ?_).trans (harg13.eq_unread (read_put i arg13 harg13 g (k0_pay2 x0 x1 x2 x3)))
    sl_unfold_words
    simp only [View.readAt_eq_ld, harg2.read_unread, harg3.read_unread, harg4.read_unread, harg5.read_unread]
    rw [View.ld_unit_zero (S := S512x4096) hz2, View.ld_unit_zero (S := S4096x512) hz2, View.ld_unit_zero (S := S512x512) hz2, View.ld_unit_zero (S := S1x1x512) hz3]
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists _
    isplitr
    swap; · iexact H10
    ipureintro
    refine (read_store arg10.view hz2 _ _ _).trans ?_
    sl_unfold_words
    simp only [View.readAt_eq_ld, harg2.read_unread, harg3.read_unread, harg4.read_unread, harg5.read_unread]
    rw [View.ld_unit_zero (S := S512x4096) hz2, View.ld_unit_zero (S := S4096x512) hz2, View.ld_unit_zero (S := S512x512) hz2, View.ld_unit_zero (S := S1x1x512) hz3]
  isplitl [H11]
  · iexists _
    isplitr
    swap; · iexact H11
    ipureintro
    refine (congrArg (fun L => arg11.view.read (Elt F) (arg11.view.writes (Elt F) o11 L)) ?_).trans (View.read_writes_eq_canon arg11.view o11 _ (stores_cover (put i g (k0_pay2 x0 x1 x2 x3)) ng sh sc))
    try delta run_last.sl.r_26
    try delta run_last.sl.r_25
    try delta run_last.sl.r_24
    try delta run_last.sl.r_23
    try delta run_last.sl.r_22
    try delta run_last.sl.r_21
    try delta run_last.sl.r_20
    try delta run_last.sl.r_19
    try delta run_last.sl.r_18
    try delta run_last.sl.r_17
    try delta run_last.sl.r_16
    try delta run_last.sl.r_15
    try delta run_last.sl.r_14
    try delta run_last.sl.r_13
    try delta run_last.sl.r_12
    try delta run_last.sl.r_11
    try delta run_last.sl.r_10
    try delta run_last.sl.r_9
    try delta run_last.sl.r_8
    try delta run_last.sl.r_7
    try delta run_last.sl.r_6
    try delta run_last.sl.r_5
    try delta run_last.sl.r_4
    try delta run_last.sl.r_3
    try delta run_last.sl.r_2
    try delta run_last.sl.r_1
    try delta run_last.sl.r
    rw [hW]
    simp only [View.readAt_eq_ld, harg6.read_unread, harg7.read_unread, harg8.read_unread, harg9.read_unread, harg13.read_unread]
    generalize put i g (k0_pay2 x0 x1 x2 x3) = G
    rfl
  isplitl [H12]
  · iexists _
    isplitr
    swap; · iexact H12
    ipureintro
    refine (read_store arg12.view hz2 _ _ _).trans ?_
    try delta run_last.sl.r_26
    try delta run_last.sl.r_25
    try delta run_last.sl.r_24
    try delta run_last.sl.r_23
    try delta run_last.sl.r_22
    try delta run_last.sl.r_21
    try delta run_last.sl.r_20
    try delta run_last.sl.r_19
    try delta run_last.sl.r_18
    try delta run_last.sl.r_17
    try delta run_last.sl.r_16
    try delta run_last.sl.r_15
    try delta run_last.sl.r_14
    try delta run_last.sl.r_13
    try delta run_last.sl.r_12
    try delta run_last.sl.r_11
    try delta run_last.sl.r_10
    try delta run_last.sl.r_9
    try delta run_last.sl.r_8
    try delta run_last.sl.r_7
    try delta run_last.sl.r_6
    try delta run_last.sl.r_5
    try delta run_last.sl.r_4
    try delta run_last.sl.r_3
    try delta run_last.sl.r_2
    try delta run_last.sl.r_1
    try delta run_last.sl.r
    rw [hW]
    simp only [View.readAt_eq_ld, harg6.read_unread, harg7.read_unread, harg8.read_unread, harg9.read_unread, harg13.read_unread]
    generalize put i g (k0_pay2 x0 x1 x2 x3) = G
    rfl
  rw [← hW]
  iexact H13

end Cert.Kernel8Ideal.Oproj

end
-- ==== Proof.OprojRun.lean ====
module

public import proofs.«01_k».proof.Proof.OprojBody
public import Idealize.ShloMosaic.Lib.Pipeline.Covers
public import Idealize.ShloMosaic.Lib.Claim

@[expose] public section

set_option maxRecDepth 16384

noncomputable section

/-! # The run of the output projection

The launch at any float values. A row tile's eight points fill the scratch one slot at a time, so between points the
slots before the next point's hold the blocks of the tile's earlier points. -/

namespace Cert.Kernel8Ideal.Oproj

open Cert.Kernel8Ideal Cert.Kernel8Ideal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents at the region's entry. -/
abbrev V (c : Dev nD) (b : Ref sig .tc) : Buf (Elt F) ((c : Thread nD τ).loc b) :=
  StableHlo.after (List.flatten [hostOps0, hostOps0_1, hostOps0_2]) (fun b => m (c, b)) b

theorem V_arg0 (c : Dev nD) : V m c main_arg0 = m ((c : Thread nD τ).loc main_arg0) := by
  show StableHlo.after (hostOps0 ++ (hostOps0_1 ++ (hostOps0_2 ++ []))) (fun b => m (c, b)) (Proc.devRef .tc main_arg0) = _
  rw [StableHlo.after_append, StableHlo.after_append, StableHlo.after_append]
  after_results
theorem V_arg1 (c : Dev nD) : V m c main_arg1 = m ((c : Thread nD τ).loc main_arg1) := by
  show StableHlo.after (hostOps0 ++ (hostOps0_1 ++ (hostOps0_2 ++ []))) (fun b => m (c, b)) (Proc.devRef .tc main_arg1) = _
  rw [StableHlo.after_append, StableHlo.after_append, StableHlo.after_append]
  after_results
theorem V_arg2 (c : Dev nD) : V m c main_arg2 = m ((c : Thread nD τ).loc main_arg2) := by
  show StableHlo.after (hostOps0 ++ (hostOps0_1 ++ (hostOps0_2 ++ []))) (fun b => m (c, b)) (Proc.devRef .tc main_arg2) = _
  rw [StableHlo.after_append, StableHlo.after_append, StableHlo.after_append]
  after_results
theorem V_arg3 (c : Dev nD) : V m c main_arg3 = m ((c : Thread nD τ).loc main_arg3) := by
  show StableHlo.after (hostOps0 ++ (hostOps0_1 ++ (hostOps0_2 ++ []))) (fun b => m (c, b)) (Proc.devRef .tc main_arg3) = _
  rw [StableHlo.after_append, StableHlo.after_append, StableHlo.after_append]
  after_results
theorem V_arg4 (c : Dev nD) : V m c main_arg4 = m ((c : Thread nD τ).loc main_arg4) := by
  show StableHlo.after (hostOps0 ++ (hostOps0_1 ++ (hostOps0_2 ++ []))) (fun b => m (c, b)) (Proc.devRef .tc main_arg4) = _
  rw [StableHlo.after_append, StableHlo.after_append, StableHlo.after_append]
  after_results
theorem V_arg5 (c : Dev nD) : V m c main_arg5 = m ((c : Thread nD τ).loc main_arg5) := by
  show StableHlo.after (hostOps0 ++ (hostOps0_1 ++ (hostOps0_2 ++ []))) (fun b => m (c, b)) (Proc.devRef .tc main_arg5) = _
  rw [StableHlo.after_append, StableHlo.after_append, StableHlo.after_append]
  after_results
theorem V_arg6 (c : Dev nD) : V m c main_arg6 = m ((c : Thread nD τ).loc main_arg6) := by
  show StableHlo.after (hostOps0 ++ (hostOps0_1 ++ (hostOps0_2 ++ []))) (fun b => m (c, b)) (Proc.devRef .tc main_arg6) = _
  rw [StableHlo.after_append, StableHlo.after_append, StableHlo.after_append]
  after_results
theorem V_arg7 (c : Dev nD) : V m c main_arg7 = m ((c : Thread nD τ).loc main_arg7) := by
  show StableHlo.after (hostOps0 ++ (hostOps0_1 ++ (hostOps0_2 ++ []))) (fun b => m (c, b)) (Proc.devRef .tc main_arg7) = _
  rw [StableHlo.after_append, StableHlo.after_append, StableHlo.after_append]
  after_results

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (arrRef spec0 w))

/-! The blocks the body finds at a point. -/
abbrev at0 (c : Dev nD) (t : Fin cfg0.N) : S512x4096.Idx → Elt F .bf16 := iblk m c 0 t
abbrev at1 (c : Dev nD) (t : Fin cfg0.N) : S4096x512.Idx → Elt F .bf16 := iblk m c 1 t
abbrev at2 (c : Dev nD) (t : Fin cfg0.N) : S512x512.Idx → Elt F .f32 := iblk m c 2 t
abbrev at3 (c : Dev nD) (t : Fin cfg0.N) : S1x1x512.Idx → Elt F .f32 := iblk m c 3 t
abbrev at4 (c : Dev nD) (t : Fin cfg0.N) : S1x4096.Idx → Elt F .f32 := iblk m c 4 t
abbrev at5 (c : Dev nD) (t : Fin cfg0.N) : S1x1x4096.Idx → Elt F .f32 := iblk m c 5 t
abbrev at6 (c : Dev nD) (t : Fin cfg0.N) : S1x1x4096.Idx → Elt F .f32 := iblk m c 6 t
abbrev at7 (c : Dev nD) (t : Fin cfg0.N) : S4096x128.Idx → Elt F .f32 := iblk m c 7 t

/-- A point of the same row tile. -/
def pt (t : Fin cfg0.N) (k : Fin 8) : Fin cfg0.N :=
  ⟨t.val - t.val % 8 + k.val, by have h : t.val < 256 := Nat.lt_of_lt_of_eq t.isLt N_0; have := k.isLt; show _ < grid0.N; rw [N_0]; omega⟩

/-- What a point stores in its slot. -/
def pay (c : Dev nD) (t : Fin cfg0.N) : S1x512x512.Idx → Elt F .f32 := k0_pay2 (at0 m c t) (at1 m c t) (at2 m c t) (at3 m c t)

/-- The scratch after the last point of a row tile. -/
def xs (c : Dev nD) (t : Fin cfg0.N) : S8x512x512.Idx → Elt F .f32 :=
  fun y => pay m c (pt t (y 0 : Fin 8)) (ix3 (0 : Fin 1) (y 1 : Fin 512) (y 2 : Fin 512))

/-- The slots before a point's hold the blocks of the tile's earlier points. -/
def Upto (c : Dev nD) (n : ℕ) (g : S8x512x512.Idx → Elt F .f32) : Prop :=
  ∀ (y : S8x512x512.Idx) (t' : Fin cfg0.N), (y 0).val < n % 8 → t'.val = n - n % 8 + (y 0).val →
    g y = pay m c t' (ix3 (0 : Fin 1) (y 1 : Fin 512) (y 2 : Fin 512))

theorem put_apply (c : Dev nD) (t : Fin cfg0.N) (g : S8x512x512.Idx → Elt F .f32) (hg : Upto m c t.val g) (y : S8x512x512.Idx) (t' : Fin cfg0.N)
    (hy : (y 0).val ≤ t.val % 8) (ht : t'.val = t.val - t.val % 8 + (y 0).val) :
    put (grid0.coords t) g (pay m c t) y = pay m c t' (ix3 (0 : Fin 1) (y 1 : Fin 512) (y 2 : Fin 512)) := by
  unfold put
  rw [coords_1]
  by_cases h : (y 0).val = t.val % 8
  · rw [if_pos h, show t' = t from Fin.ext (by omega)]
  · rw [if_neg h]
    exact hg y t' (by omega) ht

theorem upto_succ (c : Dev nD) (t : Fin cfg0.N) (g : S8x512x512.Idx → Elt F .f32) (hg : Upto m c t.val g) :
    Upto m c (t.val + 1) (put (grid0.coords t) g (pay m c t)) := fun y t' hy ht =>
  put_apply m c t g hg y t' (by omega) (by omega)

theorem put_last (c : Dev nD) (t : Fin cfg0.N) (g : S8x512x512.Idx → Elt F .f32) (hg : Upto m c t.val g) (h : t.val % 8 = 7) :
    put (grid0.coords t) g (pay m c t) = xs m c t := funext fun y =>
  put_apply m c t g hg y (pt t (y 0 : Fin 8)) (by have : (y 0).val < 8 := (y 0).isLt; omega) rfl

/-- The scratch as a memref. -/
abbrev scM : Memref sig .tc .vmem S8x512x512 .f32 := Memref.whole cc0_scratch0

theorem PhiA_eq (c : Dev nD) : (ΦA spec0 c : sProp 𝕄) = iprop((∃ d, owns (c : Thread nD τ) scM fullShare d) ∗ (∃ r, prngReg c r)) := by
  unfold ΦA; rw [scopedRest0_eq]; simp only [scM, owns_whole]; try rfl

/-- What holds between points. -/
def keep (c : Dev nD) (n : ℕ) : sProp 𝕄 :=
  iprop((∃ g, ⌜Upto m c n g⌝ ∗ owns (c : Thread nD τ) scM fullShare g) ∗ (∃ r, prngReg c r))

/-- The proof data of the one pipeline. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay1 (at0 m c t) (at1 m c t) (at2 m c t) (at3 m c t)
    | ⟨9, _⟩ => rows (xs m c t) (at4 m c t) (at5 m c t) (at6 m c t)
    | ⟨10, _⟩ => logits (xs m c t) (at4 m c t) (at5 m c t) (at6 m c t) (at7 m c t)
  Φ t := keep m c t.val
  q _ := fullShare
  owed _ := 0

theorem A_eq (c : Dev nD) (w : Fin cfg0.W) : (dats m 0 c).A w = V m c (arrRef spec0 w) := by dsimp only [dats]
theorem after_0 (c : Dev nD) (t : Fin cfg0.N) : (dats m 0 c).after 0 t = at0 m c t := by dsimp only [dats]
theorem after_1 (c : Dev nD) (t : Fin cfg0.N) : (dats m 0 c).after 1 t = at1 m c t := by dsimp only [dats]
theorem after_2 (c : Dev nD) (t : Fin cfg0.N) : (dats m 0 c).after 2 t = at2 m c t := by dsimp only [dats]
theorem after_3 (c : Dev nD) (t : Fin cfg0.N) : (dats m 0 c).after 3 t = at3 m c t := by dsimp only [dats]
theorem after_4 (c : Dev nD) (t : Fin cfg0.N) : (dats m 0 c).after 4 t = at4 m c t := by dsimp only [dats]
theorem after_5 (c : Dev nD) (t : Fin cfg0.N) : (dats m 0 c).after 5 t = at5 m c t := by dsimp only [dats]
theorem after_6 (c : Dev nD) (t : Fin cfg0.N) : (dats m 0 c).after 6 t = at6 m c t := by dsimp only [dats]
theorem after_7 (c : Dev nD) (t : Fin cfg0.N) : (dats m 0 c).after 7 t = at7 m c t := by dsimp only [dats]
theorem after_8 (c : Dev nD) (t : Fin cfg0.N) : (dats m 0 c).after 8 t = k0_pay1 (at0 m c t) (at1 m c t) (at2 m c t) (at3 m c t) := by dsimp only [dats]
theorem after_9 (c : Dev nD) (t : Fin cfg0.N) : (dats m 0 c).after 9 t = rows (xs m c t) (at4 m c t) (at5 m c t) (at6 m c t) := by dsimp only [dats]
theorem after_10 (c : Dev nD) (t : Fin cfg0.N) : (dats m 0 c).after 10 t = logits (xs m c t) (at4 m c t) (at5 m c t) (at6 m c t) (at7 m c t) := by dsimp only [dats]

theorem before_0 (c : Dev nD) (t : Fin cfg0.N) (d) : (dats m 0 c).before 0 t d = at0 m c t :=
  ((dats m 0 c).before_in_eq_fetched 0 rfl (fun _ => rfl) (fun _ _ _ => rfl)
    (fun t => by rw [after_0]; unfold Dat.blockOf at0 iblk; rw [A_eq]; try rfl) t d).trans
    (by unfold Dat.fetched Dat.blockOf at0 iblk; rw [A_eq]; try rfl)
theorem before_1 (c : Dev nD) (t : Fin cfg0.N) (d) : (dats m 0 c).before 1 t d = at1 m c t :=
  ((dats m 0 c).before_in_eq_fetched 1 rfl (fun _ => rfl) (fun _ _ _ => rfl)
    (fun t => by rw [after_1]; unfold Dat.blockOf at1 iblk; rw [A_eq]; try rfl) t d).trans
    (by unfold Dat.fetched Dat.blockOf at1 iblk; rw [A_eq]; try rfl)
theorem before_2 (c : Dev nD) (t : Fin cfg0.N) (d) : (dats m 0 c).before 2 t d = at2 m c t :=
  ((dats m 0 c).before_in_eq_fetched 2 rfl (fun _ => rfl) (fun _ _ _ => rfl)
    (fun t => by rw [after_2]; unfold Dat.blockOf at2 iblk; rw [A_eq]; try rfl) t d).trans
    (by unfold Dat.fetched Dat.blockOf at2 iblk; rw [A_eq]; try rfl)
theorem before_3 (c : Dev nD) (t : Fin cfg0.N) (d) : (dats m 0 c).before 3 t d = at3 m c t :=
  ((dats m 0 c).before_in_eq_fetched 3 rfl (fun _ => rfl) (fun _ _ _ => rfl)
    (fun t => by rw [after_3]; unfold Dat.blockOf at3 iblk; rw [A_eq]; try rfl) t d).trans
    (by unfold Dat.fetched Dat.blockOf at3 iblk; rw [A_eq]; try rfl)
theorem before_4 (c : Dev nD) (t : Fin cfg0.N) (d) : (dats m 0 c).before 4 t d = at4 m c t :=
  ((dats m 0 c).before_in_eq_fetched 4 rfl (fun _ => rfl) (fun _ _ _ => rfl)
    (fun t => by rw [after_4]; unfold Dat.blockOf at4 iblk; rw [A_eq]; try rfl) t d).trans
    (by unfold Dat.fetched Dat.blockOf at4 iblk; rw [A_eq]; try rfl)
theorem before_5 (c : Dev nD) (t : Fin cfg0.N) (d) : (dats m 0 c).before 5 t d = at5 m c t :=
  ((dats m 0 c).before_in_eq_fetched 5 rfl (fun _ => rfl) (fun _ _ _ => rfl)
    (fun t => by rw [after_5]; unfold Dat.blockOf at5 iblk; rw [A_eq]; try rfl) t d).trans
    (by unfold Dat.fetched Dat.blockOf at5 iblk; rw [A_eq]; try rfl)
theorem before_6 (c : Dev nD) (t : Fin cfg0.N) (d) : (dats m 0 c).before 6 t d = at6 m c t :=
  ((dats m 0 c).before_in_eq_fetched 6 rfl (fun _ => rfl) (fun _ _ _ => rfl)
    (fun t => by rw [after_6]; unfold Dat.blockOf at6 iblk; rw [A_eq]; try rfl) t d).trans
    (by unfold Dat.fetched Dat.blockOf at6 iblk; rw [A_eq]; try rfl)
theorem before_7 (c : Dev nD) (t : Fin cfg0.N) (d) : (dats m 0 c).before 7 t d = at7 m c t :=
  ((dats m 0 c).before_in_eq_fetched 7 rfl (fun _ => rfl) (fun _ _ _ => rfl)
    (fun t => by rw [after_7]; unfold Dat.blockOf at7 iblk; rw [A_eq]; try rfl) t d).trans
    (by unfold Dat.fetched Dat.blockOf at7 iblk; rw [A_eq]; try rfl)

/-! The staging buffers at a point. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x4096 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x128 .f32 := win0_10.stage (cfg0.slots t 10)
abbrev hs10 (t : Fin cfg0.N) : (ms10 t).IsWhole := hstage0_10 ((cfg0.slots t 10).cast nbuf0_10)

/-- How a point leaves window 9: as it found it, but for the last point of a row tile. -/
def left9 (c : Dev nD) (t : Fin cfg0.N) : sProp 𝕄 :=
  match cfg0.idle 9 (cfg0.grid.coords t) with
  | true =>
    match (cfg0.win 9).flush t with
    | false => iprop(∃ d, owns (c : Thread nD τ) (ms9 t) fullShare ((dats m 0 c).before 9 t d))
    | true => owns (c : Thread nD τ) (ms9 t) fullShare ((dats m 0 c).after 9 t)
  | false => owns (c : Thread nD τ) (ms9 t) fullShare ((dats m 0 c).after 9 t)

theorem left9_last (c : Dev nD) (t : Fin cfg0.N) (h : t.val % 8 = 7) : left9 m c t = owns (c : Thread nD τ) (ms9 t) fullShare ((dats m 0 c).after 9 t) := by
  have e : cfg0.idle 9 (cfg0.grid.coords t) = false := by
    show (!(k0_cond1 (grid0.coords t) == 1#1)) = false
    rw [show k0_cond1 (grid0.coords t) = 1#1 from (last_iff t).2 h]; rfl
  unfold left9
  rw [e]

theorem left9_mid (c : Dev nD) (t : Fin cfg0.N) (h : ¬ t.val % 8 = 7) :
    left9 m c t = iprop(∃ d, owns (c : Thread nD τ) (ms9 t) fullShare ((dats m 0 c).before 9 t d)) := by
  have e : cfg0.idle 9 (cfg0.grid.coords t) = true := by
    show (!(k0_cond1 (grid0.coords t) == 1#1)) = true
    rw [Bool.not_eq_true', beq_eq_false_iff_ne]
    exact fun hl => h ((last_iff t).1 hl)
  have e' : (cfg0.win 9).flush t = false := by
    rw [Bool.eq_false_iff]
    exact fun hf => h ((flush0_9 t).1 hf)
  unfold left9
  rw [e, e']

/-- How a point leaves window 10: as it found it, but for the last point of a row tile. -/
def left10 (c : Dev nD) (t : Fin cfg0.N) : sProp 𝕄 :=
  match cfg0.idle 10 (cfg0.grid.coords t) with
  | true =>
    match (cfg0.win 10).flush t with
    | false => iprop(∃ d, owns (c : Thread nD τ) (ms10 t) fullShare ((dats m 0 c).before 10 t d))
    | true => owns (c : Thread nD τ) (ms10 t) fullShare ((dats m 0 c).after 10 t)
  | false => owns (c : Thread nD τ) (ms10 t) fullShare ((dats m 0 c).after 10 t)

theorem left10_last (c : Dev nD) (t : Fin cfg0.N) (h : t.val % 8 = 7) : left10 m c t = owns (c : Thread nD τ) (ms10 t) fullShare ((dats m 0 c).after 10 t) := by
  have e : cfg0.idle 10 (cfg0.grid.coords t) = false := by
    show (!(k0_cond1 (grid0.coords t) == 1#1)) = false
    rw [show k0_cond1 (grid0.coords t) = 1#1 from (last_iff t).2 h]; rfl
  unfold left10
  rw [e]

theorem left10_mid (c : Dev nD) (t : Fin cfg0.N) (h : ¬ t.val % 8 = 7) :
    left10 m c t = iprop(∃ d, owns (c : Thread nD τ) (ms10 t) fullShare ((dats m 0 c).before 10 t d)) := by
  have e : cfg0.idle 10 (cfg0.grid.coords t) = true := by
    show (!(k0_cond1 (grid0.coords t) == 1#1)) = true
    rw [Bool.not_eq_true', beq_eq_false_iff_ne]
    exact fun hl => h ((last_iff t).1 hl)
  have e' : (cfg0.win 10).flush t = false := by
    rw [Bool.eq_false_iff]
    exact fun hf => h ((flush0_10 t).1 hf)
  unfold left10
  rw [e, e']

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ left9 m c t
    ∗ left10 m c t)

set_option maxHeartbeats 1600000 in
/-- One grid point: the body leaves the point's blocks, and its slot of the scratch filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  rw [show (dats m 0 c).Φ t.succ = keep m c (t.val + 1) from rfl, show (dats m 0 c).Φ t.castSucc = keep m c t.val from rfl]
  unfold keep
  by_cases h0 : t.val % 8 = 7
  · rw [left9_last m c t h0, left10_last m c t h0, after_9, after_10]
    iintro ⟨⟨⟨%g, %hg, HS⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, -, H8⟩
    icases H9 with ⟨%f9, -, H9⟩
    icases H10 with ⟨%f10, -, H10⟩
    icases HS with ⟨%fS, %eS, HS⟩
    obtain rfl := (hs0 t).eq_unread e0
    obtain rfl := (hs1 t).eq_unread e1
    obtain rfl := (hs2 t).eq_unread e2
    obtain rfl := (hs3 t).eq_unread e3
    obtain rfl := (hs4 t).eq_unread e4
    obtain rfl := (hs5 t).eq_unread e5
    obtain rfl := (hs6 t).eq_unread e6
    obtain rfl := (hs7 t).eq_unread e7
    obtain rfl := (Memref.isWhole_whole cc0_scratch0).eq_unread eS
    iapply (wp_wand_r frame (wpE (defs₀ (F := F)) Variants.none c none) Set.univ)
    isplitl [H0 H1 H2 H3 H4 H5 H6 H7 H8 H9 H10 HS]
    · iapply (run_last g (at4 m c t) (at5 m c t) (at6 m c t) (at7 m c t) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (at0 m c t) (at1 m c t) (at2 m c t) (at3 m c t) f8 f9 f10 ((last_iff t).2 h0))
      unfold ins
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      isplitl [H10]; · iexact H10
      iexact HS
    unfold ins
    iintro %_ ⟨⟨H0, H1, H2, H3, H4, H5, H6, H7⟩, ⟨%f, %ef, H8⟩, ⟨%f', %ef', H9⟩, ⟨%f'', %ef'', H10⟩, HS⟩
    isplitl [HS Hg]
    · isplitl [HS]
      · iexists _; isplitr
        · ipureintro; exact upto_succ m c t g hg
        iexists _; isplitr
        swap; · iexact HS
        ipureintro; exact (Memref.isWhole_whole cc0_scratch0).read_unread _
      iexact Hg
    isplitl [HW]; · iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    isplitl [H7]
    · iexists _; isplitr
      swap; · iexact H7
      ipureintro; exact e7
    isplitl [H8]
    · iexists _; isplitr
      swap; · iexact H8
      ipureintro; exact ef
    isplitl [H9]
    · iexists _; isplitr
      swap; · iexact H9
      ipureintro; exact ef'.trans (congrArg (fun G => rows G (at4 m c t) (at5 m c t) (at6 m c t)) (put_last m c t g hg h0))
    iexists _; isplitr
    swap; · iexact H10
    ipureintro; exact ef''.trans (congrArg (fun G => logits G (at4 m c t) (at5 m c t) (at6 m c t) (at7 m c t)) (put_last m c t g hg h0))
  · rw [left9_mid m c t h0, left10_mid m c t h0]
    iintro ⟨⟨⟨%g, %hg, HS⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, -, H8⟩
    icases HS with ⟨%fS, %eS, HS⟩
    obtain rfl := (hs0 t).eq_unread e0
    obtain rfl := (hs1 t).eq_unread e1
    obtain rfl := (hs2 t).eq_unread e2
    obtain rfl := (hs3 t).eq_unread e3
    obtain rfl := (hs4 t).eq_unread e4
    obtain rfl := (hs5 t).eq_unread e5
    obtain rfl := (hs6 t).eq_unread e6
    obtain rfl := (hs7 t).eq_unread e7
    obtain rfl := (Memref.isWhole_whole cc0_scratch0).eq_unread eS
    iapply (wp_wand_r frame (wpE (defs₀ (F := F)) Variants.none c none) Set.univ)
    isplitl [H0 H1 H2 H3 H4 H5 H6 H7 H8 HS]
    · iapply (run_mid g (at4 m c t) (at5 m c t) (at6 m c t) (at7 m c t) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (at0 m c t) (at1 m c t) (at2 m c t) (at3 m c t) f8 (fun h => h0 ((last_iff t).1 h)))
      unfold ins
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      iexact HS
    unfold ins
    iintro %_ ⟨⟨H0, H1, H2, H3, H4, H5, H6, H7⟩, ⟨%f, %ef, H8⟩, HS⟩
    isplitl [HS Hg]
    · isplitl [HS]
      · iexists _; isplitr
        · ipureintro; exact upto_succ m c t g hg
        iexists _; isplitr
        swap; · iexact HS
        ipureintro; exact (Memref.isWhole_whole cc0_scratch0).read_unread _
      iexact Hg
    isplitl [HW]; · iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    isplitl [H7]
    · iexists _; isplitr
      swap; · iexact H7
      ipureintro; exact e7
    isplitl [H8]
    · iexists _; isplitr
      swap; · iexact H8
      ipureintro; exact ef
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem upto_zero (c : Dev nD) (n : ℕ) (h : n % 8 = 0) (g : S8x512x512.Idx → Elt F .f32) : Upto m c n g := fun y _ hy _ => by
  omega

theorem hin (c : Dev nD) : ΦA spec0 c ⊢ (dats m 0 c).Φ 0 := by
  rw [show (dats m 0 c).Φ 0 = keep m c 0 from rfl, PhiA_eq]
  unfold keep
  iintro ⟨⟨%g, HS⟩, Hg⟩
  isplitl [HS]
  · iexists g; isplitr
    · ipureintro; exact upto_zero m c 0 rfl g
    iexact HS
  iexact Hg

theorem hout (c : Dev nD) : (dats m 0 c).Φ (Fin.last cfg0.N) ⊢ ΦA spec0 c := by
  rw [show (dats m 0 c).Φ (Fin.last cfg0.N) = keep m c cfg0.N from rfl, PhiA_eq]
  unfold keep
  iintro ⟨⟨%g, %_, HS⟩, Hg⟩
  isplitl [HS]
  · iexists g; iexact HS
  iexact Hg

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : HMain (Ix := Unit) (Name := ℕ) (U := UR sig nD τ) (Lvl := ℕ) cfgs 0 defs₀ 𝒱₀ m (main (F := F)) (V m) :=
  hmain_prefixes cfgs 0 defs₀ 𝒱₀ m main [hostOps0, hostOps0_1, hostOps0_2] ⟨hostOps0_sub, hostOps0_1_sub, hostOps0_2_sub⟩
    ⟨hostOps0_fresh, hostOps0_1_fresh, hostOps0_2_fresh⟩ main_chain

set_option backward.isDefEq.respectTransparency.types false in
theorem run_main : θ_run defs (onTc (τ := τ) (main (F := F))) (s₀ m ρ) (fun r => FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: the results are what the blocks leave in them, and the arguments are kept. -/
theorem run : θ_run defs (onTc (τ := τ) (main (F := F))) ⟨m, fun _ => 0, ρ⟩ (fun r => (∀ c : Dev nD,
        r.2.mem ((c.tc : Thread nD τ).loc main_v5_0) = (dats m 0 c).arrAt 8 cfg0.N
        ∧ r.2.mem ((c.tc : Thread nD τ).loc main_v5_1) = (dats m 0 c).arrAt 9 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) :=
  (θ_run defs _ _).mono (fun _ w => ⟨fun c => have h := w.1; ⟨(h c).1 8, (h c).1 9,
        ((h c).2 main_arg0 (mem_restRefs_of main_arg0 (by decide) (by decide))).trans (V_arg0 m c),
        ((h c).2 main_arg1 (mem_restRefs_of main_arg1 (by decide) (by decide))).trans (V_arg1 m c),
        ((h c).1 3).trans (((dats m 0 c).arrAt_in 3 rfl _).trans ((A_eq m c 3).trans (V_arg2 m c))),
        ((h c).2 main_arg3 (mem_restRefs_of main_arg3 (by decide) (by decide))).trans (V_arg3 m c),
        ((h c).1 5).trans (((dats m 0 c).arrAt_in 5 rfl _).trans ((A_eq m c 5).trans (V_arg4 m c))),
        ((h c).1 6).trans (((dats m 0 c).arrAt_in 6 rfl _).trans ((A_eq m c 6).trans (V_arg5 m c))),
        ((h c).2 main_arg6 (mem_restRefs_of main_arg6 (by decide) (by decide))).trans (V_arg6 m c),
        ((h c).2 main_arg7 (mem_restRefs_of main_arg7 (by decide) (by decide))).trans (V_arg7 m c)⟩, w.2⟩) (run_main m ρ)

end Cert.Kernel8Ideal.Oproj

end
-- ==== Proof.OprojRows.lean ====
module

public import proofs.«01_k».proof.Proof.OprojBody
public import proofs.«01_k».proof.Proof.Rows
public import Idealize.ShloMosaic.Lib.MatmulPlain
public import Mathlib.Algebra.BigOperators.Fin

@[expose] public section

set_option maxRecDepth 16384

noncomputable section

/-! # What a row tile's last point leaves

A point's block is the residual rows plus the gated product. The eight slots of the scratch hold a row's 4096 entries, 512
to a slot; the last point's rows are these entries normalised over the whole row and modulated. -/

namespace Cert.Kernel8Ideal.Oproj

open Cert.Kernel8Ideal Cert.Kernel8Ideal.Gen
open Idealize.ShloMosaic Idealize.ShloMosaic.TcCoe Idealize.ShloMosaic.Tactic Idealize.ShloMosaic.ValueIdx
open Cert.Whole

/-- One entry of a normalised row: the row, the column, and the weight, shift and scale there. -/
def norm (x : Fin 4096 → EReal) (k : Fin 4096) (g sh sc : EReal) : EReal :=
  ((x k * Ideal.rsqrt (Ideal.div (∑ j : Fin 4096, x j * x j) (Ideal.ofBits .f32 0x45800000#32) + Ideal.ofBits .f32 0x358637BD#32)) * g)
    * (Ideal.ofBits .f32 0x3F800000#32 + sc) + sh

/-! ## A point's block -/

theorem pay1_apply (a : S512x4096.Idx → Elt Ideal .bf16) (w : S4096x512.Idx → Elt Ideal .bf16) (x : S512x512.Idx → Elt Ideal .f32)
    (g : S1x1x512.Idx → Elt Ideal .f32) (r k : Fin 512) :
    k0_pay1 (F := Ideal) a w x g (ix2 r k) = x (ix2 r k) + g (ix3 (0 : Fin 1) (0 : Fin 1) k) * ∑ c : Fin 4096, a (ix2 r c) * w (ix2 c k) := by
  unfold k0_pay1
  refine congrArg₂ (· + ·) (shapeCast_apply x _ _ _ rfl) (congrArg₂ (· * ·) ?_ ?_)
  · refine (broadcastTo_1b_ab_apply _ _ r k).trans (shapeCast_apply g _ _ _ ?_)
    rw [Shape.rowMajor_val_three, Shape.rowMajor_val_two]
    show (0 * 1 + 0) * 512 + k.val = 0 * 512 + k.val
    omega
  · refine (Ideal.matmul_plain_apply (M := 512) (K := 4096) (N := 512) (φ₁ := .bf16) (φ₂ := .bf16) none _ _ _ r k).trans ?_
    show Ideal.ofBits .f32 0x00000000#32 + _ = _
    rw [Ideal.ofBits_zero_f32, zero_add]
    exact Finset.sum_congr rfl fun c _ => congrArg₂ (· * ·) (shapeCast_apply a _ _ _ rfl) (shapeCast_apply w _ _ _ rfl)

theorem pay2_apply (a : S512x4096.Idx → Elt Ideal .bf16) (w : S4096x512.Idx → Elt Ideal .bf16) (x : S512x512.Idx → Elt Ideal .f32)
    (g : S1x1x512.Idx → Elt Ideal .f32) (r k : Fin 512) :
    k0_pay2 (F := Ideal) a w x g (ix3 (0 : Fin 1) r k) = x (ix2 r k) + g (ix3 (0 : Fin 1) (0 : Fin 1) k) * ∑ c : Fin 4096, a (ix2 r c) * w (ix2 c k) := by
  unfold k0_pay2
  refine (shapeCast_apply _ _ _ (ix2 r k) ?_).trans (pay1_apply a w x g r k)
  rw [Shape.rowMajor_val_three, Shape.rowMajor_val_two]
  show r.val * 512 + k.val = (0 * 512 + r.val) * 512 + k.val
  omega

/-! ## A row of the scratch -/

/-- One row over the eight slots. -/
def rowOf (g : S8x512x512.Idx → Elt Ideal .f32) (r : Fin 512) (k : Fin 4096) : EReal :=
  g (ix3 (⟨k.val / 512, by have := k.isLt; omega⟩ : Fin 8) r (⟨k.val % 512, by omega⟩ : Fin 512))

theorem rowOf_at (g : S8x512x512.Idx → Elt Ideal .f32) (r : Fin 512) (k : Fin 4096) (q : Fin 8) (l : Fin 512) (h : k.val = q.val * 512 + l.val) :
    rowOf g r k = g (ix3 q r l) := by
  have hl := l.isLt
  unfold rowOf
  rw [show (⟨k.val / 512, by have := k.isLt; omega⟩ : Fin 8) = q from Fin.ext (by show k.val / 512 = q.val; omega),
    show (⟨k.val % 512, by omega⟩ : Fin 512) = l from Fin.ext (by show k.val % 512 = l.val; omega)]

theorem slot_apply (g : S8x512x512.Idx → Elt Ideal .f32) (q : Fin 8) (h : ∀ a, (![q.val, 0, 0] : Fin 3 → Nat) a + S1x512x512.size a ≤ S8x512x512.size a) (r l : Fin 512) :
    shapeCast S512x512 (slot (F := Ideal) g ![q.val, 0, 0] h) shapeCasts_S1x512x512_S512x512 (ix2 r l) = g (ix3 q r l) := by
  refine (shapeCast_apply _ _ _ (ix3 (0 : Fin 1) r l) ?_).trans (View.ld_unit_apply_of g _ _ h (ix3 (0 : Fin 1) r l) (ix3 q r l) fun a => ?_)
  · rw [Shape.rowMajor_val_three, Shape.rowMajor_val_two]
    show (0 * 512 + r.val) * 512 + l.val = r.val * 512 + l.val
    omega
  · match a with
    | ⟨0, _⟩ => rfl
    | ⟨1, _⟩ => show r.val = 0 + r.val; omega
    | ⟨2, _⟩ => show l.val = 0 + l.val; omega

theorem sq_apply (g : S8x512x512.Idx → Elt Ideal .f32) (q : Fin 8) (h : ∀ a, (![q.val, 0, 0] : Fin 3 → Nat) a + S1x512x512.size a ≤ S8x512x512.size a) (r : Fin 512) :
    sq (F := Ideal) (slot (F := Ideal) g ![q.val, 0, 0] h) (ix2 r (0 : Fin 1)) = ∑ l : Fin 512, g (ix3 q r l) * g (ix3 q r l) := by
  unfold sq
  exact (Rows.sum_apply _ _ _ _ _ r).trans (Finset.sum_congr rfl fun l _ => congrArg₂ (· * ·) (slot_apply g q h r l) (slot_apply g q h r l))

/-- The eight slots' sums are the whole row's. -/
theorem sum_row (g : S8x512x512.Idx → Elt Ideal .f32) (r : Fin 512) :
    ∑ k : Fin 4096, rowOf g r k * rowOf g r k = ∑ q : Fin 8, ∑ l : Fin 512, g (ix3 q r l) * g (ix3 q r l) := by
  rw [← Fintype.sum_prod_type', ← Equiv.sum_comp (finProdFinEquiv (m := 8) (n := 512))]
  refine Finset.sum_congr rfl fun p _ => ?_
  have e : (finProdFinEquiv (m := 8) (n := 512) p).val = p.1.val * 512 + p.2.val := by
    show p.2.val + 512 * p.1.val = _
    omega
  exact congrArg₂ (· * ·) (rowOf_at g r _ p.1 p.2 e) (rowOf_at g r _ p.1 p.2 e)

theorem inv_apply (g : S8x512x512.Idx → Elt Ideal .f32) (r : Fin 512) :
    inv (F := Ideal) g (ix2 r (0 : Fin 1)) = Ideal.rsqrt (Ideal.div (∑ k : Fin 4096, rowOf g r k * rowOf g r k) (Ideal.ofBits .f32 0x45800000#32) + Ideal.ofBits .f32 0x358637BD#32) := by
  have e0 := sq_apply g 0 inb_S8x512x512_S1x512x512_0_0_0 r
  have e1 := sq_apply g 1 inb_S8x512x512_S1x512x512_1_0_0 r
  have e2 := sq_apply g 2 inb_S8x512x512_S1x512x512_2_0_0 r
  have e3 := sq_apply g 3 inb_S8x512x512_S1x512x512_3_0_0 r
  have e4 := sq_apply g 4 inb_S8x512x512_S1x512x512_4_0_0 r
  have e5 := sq_apply g 5 inb_S8x512x512_S1x512x512_5_0_0 r
  have e6 := sq_apply g 6 inb_S8x512x512_S1x512x512_6_0_0 r
  have e7 := sq_apply g 7 inb_S8x512x512_S1x512x512_7_0_0 r
  have z : broadcast S512x1 (FloatOps.ofBits (F := Ideal) .f32 0x00000000#32) (ix2 r (0 : Fin 1)) = (0 : EReal) := Ideal.ofBits_zero_f32
  rw [sum_row, Fin.sum_univ_eight]
  unfold inv
  refine congrArg Ideal.rsqrt (congrArg (· + Ideal.ofBits .f32 0x358637BD#32) (congrArg (Ideal.div · (Ideal.ofBits .f32 0x45800000#32)) ?_))
  exact (congrArg₂ (· + ·) (congrArg₂ (· + ·) (congrArg₂ (· + ·) (congrArg₂ (· + ·) (congrArg₂ (· + ·) (congrArg₂ (· + ·) (congrArg₂ (· + ·) ((congrArg₂ (· + ·) z e0).trans (zero_add _)) e1) e2) e3) e4) e5) e6) e7)

/-! ## The modulated rows -/

/-- The rows as values. -/
def tile (g : S8x512x512.Idx → Elt Ideal .f32) (ng : S1x4096.Idx → Elt Ideal .f32) (sh sc : S1x1x4096.Idx → Elt Ideal .f32) :
    S512x4096.Idx → Elt Ideal .bf16 := fun y =>
  norm (rowOf g (y 0)) (y 1) (ng (ix2 (0 : Fin 1) (y 1 : Fin 4096))) (sh (ix3 (0 : Fin 1) (0 : Fin 1) (y 1 : Fin 4096))) (sc (ix3 (0 : Fin 1) (0 : Fin 1) (y 1 : Fin 4096)))

theorem ng_apply (ng : S1x4096.Idx → Elt Ideal .f32) (o : Nat) (h : ∀ a, (![0, o] : Fin 2 → Nat) a + S1x512.size a ≤ S1x4096.size a) (l : Fin 512) (k : Fin 4096)
    (hk : k.val = o + l.val) :
    shapeCast S1x512 (View.ld (S := S1x4096) ng (Rect.unit (s := S1x4096) ![0, o] S1x512.size h)) shapeCasts_S1x512_S1x512 (ix2 (0 : Fin 1) l) = ng (ix2 (0 : Fin 1) k) := by
  refine (shapeCast_apply _ _ _ (ix2 (0 : Fin 1) l) rfl).trans (View.ld_unit_apply_of ng _ _ h (ix2 (0 : Fin 1) l) (ix2 (0 : Fin 1) k) fun a => ?_)
  match a with
  | ⟨0, _⟩ => rfl
  | ⟨1, _⟩ => exact hk

theorem mod_apply (v : S1x1x4096.Idx → Elt Ideal .f32) (o : Nat) (h : ∀ a, (![0, 0, o] : Fin 3 → Nat) a + S1x1x512.size a ≤ S1x1x4096.size a) (l : Fin 512) (k : Fin 4096)
    (hk : k.val = o + l.val) :
    shapeCast S1x512 (View.ld (S := S1x1x4096) v (Rect.unit (s := S1x1x4096) ![0, 0, o] S1x1x512.size h)) shapeCasts_S1x1x512_S1x512 (ix2 (0 : Fin 1) l)
      = v (ix3 (0 : Fin 1) (0 : Fin 1) k) := by
  refine (shapeCast_apply _ _ _ (ix3 (0 : Fin 1) (0 : Fin 1) l) ?_).trans (View.ld_unit_apply_of v _ _ h (ix3 (0 : Fin 1) (0 : Fin 1) l) (ix3 (0 : Fin 1) (0 : Fin 1) k) fun a => ?_)
  · rw [Shape.rowMajor_val_three, Shape.rowMajor_val_two]
    show (0 * 1 + 0) * 512 + l.val = 0 * 512 + l.val
    omega
  · match a with
    | ⟨0, _⟩ => rfl
    | ⟨1, _⟩ => rfl
    | ⟨2, _⟩ => exact hk

/-- One entry of a slot's modulated rows. -/
theorem hj_apply (g : S8x512x512.Idx → Elt Ideal .f32) (ng : S1x4096.Idx → Elt Ideal .f32) (sh sc : S1x1x4096.Idx → Elt Ideal .f32) (q : Fin 8) (o : Nat) (ho : o = q.val * 512)
    (hg : ∀ a, (![q.val, 0, 0] : Fin 3 → Nat) a + S1x512x512.size a ≤ S8x512x512.size a) (hn : ∀ a, (![0, o] : Fin 2 → Nat) a + S1x512.size a ≤ S1x4096.size a)
    (hm : ∀ a, (![0, 0, o] : Fin 3 → Nat) a + S1x1x512.size a ≤ S1x1x4096.size a) (r l : Fin 512) (k : Fin 4096) (hk : k.val = o + l.val) :
    hj (F := Ideal) (inv g) (slot g ![q.val, 0, 0] hg) (View.ld ng (Rect.unit (s := S1x4096) ![0, o] S1x512.size hn))
        (View.ld sc (Rect.unit (s := S1x1x4096) ![0, 0, o] S1x1x512.size hm)) (View.ld sh (Rect.unit (s := S1x1x4096) ![0, 0, o] S1x1x512.size hm)) (ix2 r l)
      = norm (rowOf g r) k (ng (ix2 (0 : Fin 1) k)) (sh (ix3 (0 : Fin 1) (0 : Fin 1) k)) (sc (ix3 (0 : Fin 1) (0 : Fin 1) k)) := by
  unfold hj norm
  refine congrArg₂ (· + ·) (congrArg₂ (· * ·) (congrArg₂ (· * ·) (congrArg₂ (· * ·) ?_ ?_) ?_) ?_) ?_
  · exact (slot_apply g q hg r l).trans (rowOf_at g r k q l (by rw [hk, ho])).symm
  · exact (Rows.column_apply _ _ (by decide) r l).trans (inv_apply g r)
  · exact (broadcastTo_1b_ab_apply _ _ r l).trans (ng_apply ng o hn l k hk)
  · exact (broadcastTo_1b_ab_apply _ _ r l).trans (congrArg (Ideal.ofBits .f32 0x3F800000#32 + ·) (mod_apply sc o hm l k hk))
  · exact (broadcastTo_1b_ab_apply _ _ r l).trans (mod_apply sh o hm l k hk)

/-- A store of 512 columns is those columns of the rows. -/
theorem piece (g : S8x512x512.Idx → Elt Ideal .f32) (ng : S1x4096.Idx → Elt Ideal .f32) (sh sc : S1x1x4096.Idx → Elt Ideal .f32) (q : Fin 8) (o : Nat) (ho : o = q.val * 512)
    (hg : ∀ a, (![q.val, 0, 0] : Fin 3 → Nat) a + S1x512x512.size a ≤ S8x512x512.size a) (hn : ∀ a, (![0, o] : Fin 2 → Nat) a + S1x512.size a ≤ S1x4096.size a)
    (hm : ∀ a, (![0, 0, o] : Fin 3 → Nat) a + S1x1x512.size a ≤ S1x1x4096.size a)
    (inb : ∀ a, (![0, o] : Fin 2 → Nat) a + (![512, 512] : Fin 2 → Nat) a ≤ S512x4096.size a) (y : S512x512.Idx) :
    truncf (F := Ideal) .bf16 (hj (F := Ideal) (inv g) (slot g ![q.val, 0, 0] hg) (View.ld ng (Rect.unit (s := S1x4096) ![0, o] S1x512.size hn))
        (View.ld sc (Rect.unit (s := S1x1x4096) ![0, 0, o] S1x1x512.size hm)) (View.ld sh (Rect.unit (s := S1x1x4096) ![0, 0, o] S1x1x512.size hm))) bitsLt_bf16_f32 y
      = tile g ng sh sc ((Rect.unit (s := S512x4096) ![0, o] ![512, 512] inb).emb y) := by
  obtain ⟨r, l, rfl⟩ : ∃ r l : Fin 512, y = ix2 r l := ⟨y 0, y 1, eq_ix2 y⟩
  have hq := q.isLt
  have hl := l.isLt
  have e0 : ((Rect.unit (s := S512x4096) ![0, o] ![512, 512] inb).emb (ix2 r l)) 0 = r := Fin.ext (by show 0 + 1 * r.val = r.val; omega)
  have e1 : ((Rect.unit (s := S512x4096) ![0, o] ![512, 512] inb).emb (ix2 r l)) 1 = (⟨o + l.val, by omega⟩ : Fin 4096) :=
    Fin.ext (by show o + 1 * l.val = o + l.val; omega)
  refine (hj_apply g ng sh sc q o ho hg hn hm r l ⟨o + l.val, by omega⟩ rfl).trans ?_
  unfold tile
  rw [e0, e1]

/-- The last point leaves the normalised and modulated rows. -/
theorem rows_eq (g : S8x512x512.Idx → Elt Ideal .f32) (ng : S1x4096.Idx → Elt Ideal .f32) (sh sc : S1x1x4096.Idx → Elt Ideal .f32) :
    rows (F := Ideal) g ng sh sc = tile g ng sh sc := by
  funext y
  refine View.canon_apply_of_pieces (tile g ng sh sc) _ (fun p hp => ?_) y (stores_cover (F := Ideal) g ng sh sc y)
  unfold stores at hp
  simp only [List.mem_cons, List.not_mem_nil, or_false] at hp
  rcases hp with rfl | rfl | rfl | rfl | rfl | rfl | rfl | rfl
  · exact piece g ng sh sc 7 3584 rfl inb_S8x512x512_S1x512x512_7_0_0 inb_S1x4096_S1x512_0_3584 inb_S1x1x4096_S1x1x512_0_0_3584 inb_S512x4096_S512x512_0_3584
  · exact piece g ng sh sc 6 3072 rfl inb_S8x512x512_S1x512x512_6_0_0 inb_S1x4096_S1x512_0_3072 inb_S1x1x4096_S1x1x512_0_0_3072 inb_S512x4096_S512x512_0_3072
  · exact piece g ng sh sc 5 2560 rfl inb_S8x512x512_S1x512x512_5_0_0 inb_S1x4096_S1x512_0_2560 inb_S1x1x4096_S1x1x512_0_0_2560 inb_S512x4096_S512x512_0_2560
  · exact piece g ng sh sc 4 2048 rfl inb_S8x512x512_S1x512x512_4_0_0 inb_S1x4096_S1x512_0_2048 inb_S1x1x4096_S1x1x512_0_0_2048 inb_S512x4096_S512x512_0_2048
  · exact piece g ng sh sc 3 1536 rfl inb_S8x512x512_S1x512x512_3_0_0 inb_S1x4096_S1x512_0_1536 inb_S1x1x4096_S1x1x512_0_0_1536 inb_S512x4096_S512x512_0_1536
  · exact piece g ng sh sc 2 1024 rfl inb_S8x512x512_S1x512x512_2_0_0 inb_S1x4096_S1x512_0_1024 inb_S1x1x4096_S1x1x512_0_0_1024 inb_S512x4096_S512x512_0_1024
  · exact piece g ng sh sc 1 512 rfl inb_S8x512x512_S1x512x512_1_0_0 inb_S1x4096_S1x512_0_512 inb_S1x1x4096_S1x1x512_0_0_512 inb_S512x4096_S512x512_0_512
  · exact piece g ng sh sc 0 0 rfl inb_S8x512x512_S1x512x512_0_0_0 inb_S1x4096_S1x512_0_0 inb_S1x1x4096_S1x1x512_0_0_0 inb_S512x4096_S512x512_0_0

end Cert.Kernel8Ideal.Oproj

end
-- ==== Proof.OprojReference.lean ====
module

public import proofs.«01_k».proof.Proof.OprojRows
public import Idealize.ShloMosaic.Lib.ValueIdx
public import Idealize.ShloMosaic.Lib.ValueLayout
public import proofs.«01_k».proof.Proof.Gen.Reference8Ideal.Run
public import proofs.«01_k».proof.Proof.Gen.Reference8Ideal.Read

@[expose] public section

set_option maxRecDepth 16384

noncomputable section

/-! # The residual rows after attention, and their norm

Each entry of the first result is a residual entry plus a gated row-by-column product; the second is that row normalised
and modulated. The reference computes both arrays. -/

namespace Cert.Kernel8Ideal.Oproj

open Cert.Kernel8Ideal Cert.Kernel8Ideal.Gen
open Idealize.ShloMosaic Idealize.ShloMosaic.TcCoe Idealize.ShloMosaic.ValueIdx

/-- One entry of the residual rows plus the gated product. -/
def X (a x : S2x8192x4096.Idx → EReal) (g : S2x1x4096.Idx → EReal) (w : S4096x4096.Idx → EReal) (b : Fin 2) (s : Fin 8192) (k : Fin 4096) : EReal :=
  x (ix3 b s k) + g (ix3 b (0 : Fin 1) k) * ∑ c : Fin 4096, a (ix3 b s c) * w (ix2 c k)

/-- One entry of the same rows, normalised and modulated. -/
def H (a x : S2x8192x4096.Idx → EReal) (g : S2x1x4096.Idx → EReal) (ng : S4096.Idx → EReal) (sh sc : S2x1x4096.Idx → EReal) (w : S4096x4096.Idx → EReal)
    (b : Fin 2) (s : Fin 8192) (k : Fin 4096) : EReal :=
  norm (X a x g w b s) k (ng (ix1 k)) (sh (ix3 b (0 : Fin 1) k)) (sc (ix3 b (0 : Fin 1) k))

/-- The batch and the position of a row. -/
def bat (i : Fin 16384) : Fin 2 := ⟨i.val / 8192, by have := i.isLt; omega⟩
def pos (i : Fin 16384) : Fin 8192 := ⟨i.val % 8192, by omega⟩

/-- The residual rows. -/
def GX (a x : S2x8192x4096.Idx → EReal) (g : S2x1x4096.Idx → EReal) (w : S4096x4096.Idx → EReal) : S16384x4096.Idx → EReal := fun i =>
  X a x g w (bat (i 0)) (pos (i 0)) (i 1)

/-- The normalised rows. -/
def GH (a x : S2x8192x4096.Idx → EReal) (g : S2x1x4096.Idx → EReal) (ng : S4096.Idx → EReal) (sh sc : S2x1x4096.Idx → EReal) (w : S4096x4096.Idx → EReal) :
    S16384x4096.Idx → EReal := fun i => H a x g ng sh sc w (bat (i 0)) (pos (i 0)) (i 1)

/-! ## The reference's values -/

open Cert.Reference8Ideal.Read

variable (a : S2x8192x4096.Idx → Elt Ideal .bf16) (x : S2x8192x4096.Idx → Elt Ideal .f32) (g : S2x1x4096.Idx → Elt Ideal .f32) (ng : S4096.Idx → Elt Ideal .f32)
  (sh sc : S2x1x4096.Idx → Elt Ideal .f32) (w : S4096x4096.Idx → Elt Ideal .f32)

theorem x_eq (b : Fin 2) (s : Fin 8192) (k : Fin 4096) : val_main_v4 (F := Ideal) a x g w (ix3 b s k) = X a x g w b s k := by
  refine (val_main_v4_apply a x g w _).trans (congrArg₂ (· + ·) rfl ((val_main_v3_apply a g w _).trans (congrArg₂ (· * ·)
    ((val_main_v2_apply g _).trans (congrArg g ?_)) ((val_main_v1_apply a w _).trans (Finset.sum_congr rfl fun c _ => congrArg₂ (· * ·) ((val_main_v0_apply a _).trans (congrArg a ?_)) (congrArg w ?_))))))
  · funext d; match d with | ⟨0, _⟩ => rfl | ⟨1, _⟩ => rfl | ⟨2, _⟩ => rfl
  · funext d; match d with | ⟨0, _⟩ => rfl | ⟨1, _⟩ => rfl | ⟨2, _⟩ => rfl
  · funext d; match d with | ⟨0, _⟩ => rfl | ⟨1, _⟩ => rfl

/-- A row over the root of its mean square. -/
theorem unit_eq (b : Fin 2) (s : Fin 8192) (k : Fin 4096) :
    val_main_v14 (F := Ideal) a x g w (ix3 b s k) = X a x g w b s k
      * Ideal.rsqrt (Ideal.div (∑ j : Fin 4096, X a x g w b s j * X a x g w b s j) (Ideal.ofBits .f32 0x45800000#32) + Ideal.ofBits .f32 0x358637BD#32) := by
  have sum : val_main_v6 (F := Ideal) a x g w (ix2 b s) = ∑ j : Fin 4096, X a x g w b s j * X a x g w b s j := by
    refine (val_main_v6_apply a x g w _).trans ?_
    show Ideal.ofBits .f32 0x00000000#32 + _ = _
    rw [Ideal.ofBits_zero_f32, zero_add]
    refine Finset.sum_congr rfl fun j _ => ?_
    have e : idx_main_v6 (ix2 b s) j = ix3 b s j := by
      funext d; match d with | ⟨0, _⟩ => rfl | ⟨1, _⟩ => rfl | ⟨2, _⟩ => rfl
    exact (congrArg _ e).trans ((val_main_v5_apply a x g w _).trans (congrArg₂ (· * ·) (x_eq a x g w b s j) (x_eq a x g w b s j)))
  have e2 : idx_main_v7 (idx_main_v13 (ix3 b s k)) = ix2 b s := by
    funext d; match d with | ⟨0, _⟩ => rfl | ⟨1, _⟩ => rfl
  refine (val_main_v14_apply a x g w _).trans (congrArg₂ (· * ·) (x_eq a x g w b s k) ?_)
  refine (val_main_v13_apply a x g w _).trans ((val_main_v12_apply a x g w _).trans (congrArg Ideal.rsqrt ?_))
  refine (val_main_v11_apply a x g w _).trans (congrArg₂ (· + ·) ((val_main_v9_apply a x g w _).trans (congrArg₂ Ideal.div ?_ ?_)) ?_)
  · exact (val_main_v7_apply a x g w _).trans ((congrArg _ e2).trans sum)
  · exact val_main_v8_apply _
  · exact val_main_v10_apply _

theorem h_eq (b : Fin 2) (s : Fin 8192) (k : Fin 4096) : val_main_v23 (F := Ideal) a x g ng sh sc w (ix3 b s k) = H a x g ng sh sc w b s k := by
  refine (val_main_v23_apply a x g ng sh sc w _).trans (congrArg₂ (· + ·) ((val_main_v21_apply a x g ng sc w _).trans (congrArg₂ (· * ·) ((val_main_v17_apply a x g ng w _).trans
    (congrArg₂ (· * ·) (unit_eq a x g w b s k) ?_)) ?_)) ?_)
  · refine (val_main_v16_apply ng _).trans ((val_main_v15_apply ng _).trans (congrArg ng ?_))
    funext d; match d with | ⟨0, _⟩ => rfl
  · refine (val_main_v20_apply sc _).trans ((val_main_v19_apply sc _).trans (congrArg₂ (· + ·) (val_main_v18_apply _) (congrArg sc ?_)))
    funext d; match d with | ⟨0, _⟩ => rfl | ⟨1, _⟩ => rfl | ⟨2, _⟩ => rfl
  · refine (val_main_v22_apply sh _).trans (congrArg sh ?_)
    funext d; match d with | ⟨0, _⟩ => rfl | ⟨1, _⟩ => rfl | ⟨2, _⟩ => rfl

theorem row_idx (q : Fin 16384) (k : Fin 4096) : idx_main_v24 (ix2 q k) = ix3 (bat q) (pos q) k := by
  have h0 : q.val < 16384 := q.isLt
  have h1 : k.val < 4096 := k.isLt
  refine funext fun d => Fin.ext ?_
  match d with
  | ⟨0, _⟩ => show (q.val * 4096 + k.val) / 33554432 = q.val / 8192; omega
  | ⟨1, _⟩ => show (q.val * 4096 + k.val) / 4096 % 8192 = q.val % 8192; omega
  | ⟨2, _⟩ => show (q.val * 4096 + k.val) % 4096 = k.val; omega

theorem reference_x_eq : val_main_v24 (F := Ideal) a x g w = GX a x g w := by
  funext i
  obtain ⟨q, k, rfl⟩ : ∃ (q : Fin 16384) (k : Fin 4096), i = ix2 q k := ⟨i 0, i 1, eq_ix2 i⟩
  exact (val_main_v24_apply a x g w _).trans ((congrArg _ (row_idx q k)).trans (x_eq a x g w _ _ _))

theorem reference_h_eq : val_main_v26 (F := Ideal) a x g ng sh sc w = GH a x g ng sh sc w := by
  funext i
  obtain ⟨q, k, rfl⟩ : ∃ (q : Fin 16384) (k : Fin 4096), i = ix2 q k := ⟨i 0, i 1, eq_ix2 i⟩
  exact (val_main_v26_apply a x g ng sh sc w _).trans ((val_main_v25_apply a x g ng sh sc w _).trans ((congrArg _ (row_idx q k)).trans (h_eq a x g ng sh sc w _ _ _)))

end Cert.Kernel8Ideal.Oproj

end
-- ==== Proof.OprojValue.lean ====
module

public import proofs.«01_k».proof.Proof.OprojRun
public import proofs.«01_k».proof.Proof.OprojReference
public import Idealize.ShloMosaic.Lib.Pipeline.Covers
public import Idealize.ShloMosaic.Lib.ValueIdx

@[expose] public section

set_option maxRecDepth 16384

noncomputable section

/-! # The arrays that the output projection leaves

Every point leaves a block of the residual rows; a row tile's last point leaves the tile's normalised rows, over the blocks
that the tile's eight points put in the scratch. Both kinds of block tile their results. -/

namespace Cert.Kernel8Ideal.Oproj

open Cert.Kernel8Ideal Cert.Kernel8Ideal.Gen
open Idealize.ShloMosaic Idealize.ShloMosaic.TcCoe Idealize.ShloMosaic.Tactic
open Idealize.ShloMosaic.Pipeline
open Idealize.SL Idealize.SL.Sem
open Idealize.ShloMosaic.ValueIdx

variable (m : (ℓ : Loc nD τ sig) → Buf (Elt Ideal) ℓ) (ρ : Dev nD → PrngReg)

abbrev argA (c : Dev nD) : S2x8192x4096.Idx → Elt Ideal .bf16 := m ((c.tc : Thread nD τ).loc main_arg0)
abbrev argX (c : Dev nD) : S2x8192x4096.Idx → Elt Ideal .f32 := m ((c.tc : Thread nD τ).loc main_arg1)
abbrev argG (c : Dev nD) : S2x1x4096.Idx → Elt Ideal .f32 := m ((c.tc : Thread nD τ).loc main_arg2)
abbrev argN (c : Dev nD) : S4096.Idx → Elt Ideal .f32 := m ((c.tc : Thread nD τ).loc main_arg3)
abbrev argSh (c : Dev nD) : S2x1x4096.Idx → Elt Ideal .f32 := m ((c.tc : Thread nD τ).loc main_arg4)
abbrev argSc (c : Dev nD) : S2x1x4096.Idx → Elt Ideal .f32 := m ((c.tc : Thread nD τ).loc main_arg5)
abbrev argW (c : Dev nD) : S4096x4096.Idx → Elt Ideal .f32 := m ((c.tc : Thread nD τ).loc main_arg6)

theorem V_v1 (c : Dev nD) : V m c main_v1 = shapeCast S16384x4096 (argA m c) shapeCasts_S2x8192x4096_S16384x4096 := by
  show StableHlo.after (hostOps0 ++ (hostOps0_1 ++ (hostOps0_2 ++ []))) (fun b => m (c, b)) (Proc.devRef .tc main_v1) = _
  rw [StableHlo.after_append, StableHlo.after_append, StableHlo.after_append]
  after_results; rfl
theorem V_v2 (c : Dev nD) : V m c main_v2 = (argW m c : S4096x4096.Idx → Elt Ideal .bf16) := by
  show StableHlo.after (hostOps0 ++ (hostOps0_1 ++ (hostOps0_2 ++ []))) (fun b => m (c, b)) (Proc.devRef .tc main_v2) = _
  rw [StableHlo.after_append, StableHlo.after_append, StableHlo.after_append]
  after_results; rfl
theorem V_v3 (c : Dev nD) : V m c main_v3 = shapeCast S16384x4096 (argX m c) shapeCasts_S2x8192x4096_S16384x4096 := by
  show StableHlo.after (hostOps0 ++ (hostOps0_1 ++ (hostOps0_2 ++ []))) (fun b => m (c, b)) (Proc.devRef .tc main_v3) = _
  rw [StableHlo.after_append, StableHlo.after_append, StableHlo.after_append]
  after_results; rfl
theorem V_v4 (c : Dev nD) : V m c main_v4 = shapeCast S1x4096 (argN m c) shapeCasts_S4096_S1x4096 := by
  show StableHlo.after (hostOps0 ++ (hostOps0_1 ++ (hostOps0_2 ++ []))) (fun b => m (c, b)) (Proc.devRef .tc main_v4) = _
  rw [StableHlo.after_append, StableHlo.after_append, StableHlo.after_append]
  after_results; rfl

/-! ## Which block each window holds -/

theorem tr_0 : ∀ i : grid0.Coords, cc0_transform_0 i 0 = (i 0).val ∧ cc0_transform_0 i 1 = 0 := by decide +kernel
theorem tr_1 : ∀ i : grid0.Coords, cc0_transform_1 i 0 = 0 ∧ cc0_transform_1 i 1 = (i 1).val := by decide +kernel
theorem tr_2 : ∀ i : grid0.Coords, cc0_transform_2 i 0 = (i 0).val ∧ cc0_transform_2 i 1 = (i 1).val := by decide +kernel
theorem tr_3 : ∀ i : grid0.Coords, cc0_transform_3 i 0 = (i 0).val / 16 ∧ cc0_transform_3 i 1 = 0 ∧ cc0_transform_3 i 2 = (i 1).val := by decide +kernel
theorem tr_4 : ∀ i : grid0.Coords, cc0_transform_4 i 0 = 0 ∧ cc0_transform_4 i 1 = 0 := by decide +kernel
theorem tr_5 : ∀ i : grid0.Coords, cc0_transform_5 i 0 = (i 0).val / 16 ∧ cc0_transform_5 i 1 = 0 ∧ cc0_transform_5 i 2 = 0 := by decide +kernel
theorem tr_6 : ∀ i : grid0.Coords, cc0_transform_6 i 0 = (i 0).val / 16 ∧ cc0_transform_6 i 1 = 0 ∧ cc0_transform_6 i 2 = 0 := by decide +kernel
theorem tr_8 : ∀ i : grid0.Coords, cc0_transform_8 i 0 = (i 0).val ∧ cc0_transform_8 i 1 = (i 1).val := by decide +kernel
theorem tr_9 : ∀ i : grid0.Coords, cc0_transform_9 i 0 = (i 0).val ∧ cc0_transform_9 i 1 = 0 := by decide +kernel

theorem coords_0 (t : Fin cfg0.N) : (grid0.coords t 0).val = t.val / 8 := by
  have h : t.val < 256 := Nat.lt_of_lt_of_eq t.isLt N_0
  refine ((Pipeline.Grid.coords_val t 0 (by decide) rfl : (grid0.coords t 0).val = t.val / 8 % 32)).trans ?_
  omega

theorem pt_0 (t : Fin cfg0.N) (q : Fin 8) : (grid0.coords (pt t q) 0).val = (grid0.coords t 0).val := by
  have := q.isLt
  rw [coords_0, coords_0]
  show (t.val - t.val % 8 + q.val) / 8 = t.val / 8
  omega

theorem pt_1 (t : Fin cfg0.N) (q : Fin 8) : (grid0.coords (pt t q) 1).val = q.val := by
  have := q.isLt
  rw [coords_1]
  show (t.val - t.val % 8 + q.val) % 8 = q.val
  omega

theorem blk_0 (c : Dev nD) (t : Fin cfg0.N) (r : Fin 512) (k : Fin 4096) (b : Fin 2) (s : Fin 8192)
    (hs : b.val * 8192 + s.val = (grid0.coords t 0).val * 512 + r.val) : at0 m c t (ix2 r k) = argA m c (ix3 b s k) := by
  obtain ⟨e0, e1⟩ := tr_0 (grid0.coords t)
  unfold at0 iblk
  show V m c main_v1 (((cfg0.win 0).blk t).view.emb (ix2 r k)) = _
  rw [V_v1]
  refine shapeCast_apply (argA m c) _ _ _ ?_
  rw [Shape.rowMajor_val_three, Shape.rowMajor_val_two]
  show (b.val * 8192 + s.val) * 4096 + k.val = (cc0_transform_0 (grid0.coords t) 0 * 512 + 1 * r.val) * 4096 + (cc0_transform_0 (grid0.coords t) 1 * 4096 + 1 * k.val)
  rw [e0, e1, hs]; omega

theorem blk_1 (c : Dev nD) (t : Fin cfg0.N) (r : Fin 4096) (k : Fin 512) (q : Fin 4096) (hq : q.val = (grid0.coords t 1).val * 512 + k.val) :
    at1 m c t (ix2 r k) = argW m c (ix2 r q) := by
  obtain ⟨e0, e1⟩ := tr_1 (grid0.coords t)
  unfold at1 iblk
  show V m c main_v2 (((cfg0.win 1).blk t).view.emb (ix2 r k)) = _
  rw [V_v2]
  refine congrArg (argW m c) (funext fun a => Fin.ext ?_)
  match a with
  | ⟨0, _⟩ => show cc0_transform_1 (grid0.coords t) 0 * 4096 + 1 * r.val = r.val; rw [e0]; omega
  | ⟨1, _⟩ => show cc0_transform_1 (grid0.coords t) 1 * 512 + 1 * k.val = q.val; rw [e1, hq]; omega

theorem blk_2 (c : Dev nD) (t : Fin cfg0.N) (r k : Fin 512) (b : Fin 2) (s : Fin 8192) (q : Fin 4096)
    (hs : b.val * 8192 + s.val = (grid0.coords t 0).val * 512 + r.val) (hq : q.val = (grid0.coords t 1).val * 512 + k.val) :
    at2 m c t (ix2 r k) = argX m c (ix3 b s q) := by
  obtain ⟨e0, e1⟩ := tr_2 (grid0.coords t)
  unfold at2 iblk
  show V m c main_v3 (((cfg0.win 2).blk t).view.emb (ix2 r k)) = _
  rw [V_v3]
  refine shapeCast_apply (argX m c) _ _ _ ?_
  rw [Shape.rowMajor_val_three, Shape.rowMajor_val_two]
  show (b.val * 8192 + s.val) * 4096 + q.val = (cc0_transform_2 (grid0.coords t) 0 * 512 + 1 * r.val) * 4096 + (cc0_transform_2 (grid0.coords t) 1 * 512 + 1 * k.val)
  rw [e0, e1, hs, hq]; omega

theorem blk_3 (c : Dev nD) (t : Fin cfg0.N) (k : Fin 512) (b : Fin 2) (q : Fin 4096)
    (hb : b.val = (grid0.coords t 0).val / 16) (hq : q.val = (grid0.coords t 1).val * 512 + k.val) :
    at3 m c t (ix3 (0 : Fin 1) (0 : Fin 1) k) = argG m c (ix3 b (0 : Fin 1) q) := by
  obtain ⟨e0, e1, e2⟩ := tr_3 (grid0.coords t)
  unfold at3 iblk
  show V m c main_arg2 (((cfg0.win 3).blk t).view.emb (ix3 (0 : Fin 1) (0 : Fin 1) k)) = _
  rw [V_arg2]
  refine congrArg (argG m c) (funext fun a => Fin.ext ?_)
  match a with
  | ⟨0, _⟩ => show cc0_transform_3 (grid0.coords t) 0 * 1 + 1 * 0 = b.val; rw [e0, hb]; omega
  | ⟨1, _⟩ => show cc0_transform_3 (grid0.coords t) 1 * 1 + 1 * 0 = 0; rw [e1]
  | ⟨2, _⟩ => show cc0_transform_3 (grid0.coords t) 2 * 512 + 1 * k.val = q.val; rw [e2, hq]; omega

theorem blk_4 (c : Dev nD) (t : Fin cfg0.N) (k : Fin 4096) : at4 m c t (ix2 (0 : Fin 1) k) = argN m c (ix1 k) := by
  obtain ⟨e0, e1⟩ := tr_4 (grid0.coords t)
  unfold at4 iblk
  show V m c main_v4 (((cfg0.win 4).blk t).view.emb (ix2 (0 : Fin 1) k)) = _
  rw [V_v4]
  refine shapeCast_apply (argN m c) _ _ _ ?_
  rw [Shape.rowMajor_val_one, Shape.rowMajor_val_two]
  show k.val = (cc0_transform_4 (grid0.coords t) 0 * 1 + 1 * 0) * 4096 + (cc0_transform_4 (grid0.coords t) 1 * 4096 + 1 * k.val)
  rw [e0, e1]; omega

theorem blk_5 (c : Dev nD) (t : Fin cfg0.N) (k : Fin 4096) (b : Fin 2) (hb : b.val = (grid0.coords t 0).val / 16) :
    at5 m c t (ix3 (0 : Fin 1) (0 : Fin 1) k) = argSh m c (ix3 b (0 : Fin 1) k) := by
  obtain ⟨e0, e1, e2⟩ := tr_5 (grid0.coords t)
  unfold at5 iblk
  show V m c main_arg4 (((cfg0.win 5).blk t).view.emb (ix3 (0 : Fin 1) (0 : Fin 1) k)) = _
  rw [V_arg4]
  refine congrArg (argSh m c) (funext fun a => Fin.ext ?_)
  match a with
  | ⟨0, _⟩ => show cc0_transform_5 (grid0.coords t) 0 * 1 + 1 * 0 = b.val; rw [e0, hb]; omega
  | ⟨1, _⟩ => show cc0_transform_5 (grid0.coords t) 1 * 1 + 1 * 0 = 0; rw [e1]
  | ⟨2, _⟩ => show cc0_transform_5 (grid0.coords t) 2 * 4096 + 1 * k.val = k.val; rw [e2]; omega

theorem blk_6 (c : Dev nD) (t : Fin cfg0.N) (k : Fin 4096) (b : Fin 2) (hb : b.val = (grid0.coords t 0).val / 16) :
    at6 m c t (ix3 (0 : Fin 1) (0 : Fin 1) k) = argSc m c (ix3 b (0 : Fin 1) k) := by
  obtain ⟨e0, e1, e2⟩ := tr_6 (grid0.coords t)
  unfold at6 iblk
  show V m c main_arg5 (((cfg0.win 6).blk t).view.emb (ix3 (0 : Fin 1) (0 : Fin 1) k)) = _
  rw [V_arg5]
  refine congrArg (argSc m c) (funext fun a => Fin.ext ?_)
  match a with
  | ⟨0, _⟩ => show cc0_transform_6 (grid0.coords t) 0 * 1 + 1 * 0 = b.val; rw [e0, hb]; omega
  | ⟨1, _⟩ => show cc0_transform_6 (grid0.coords t) 1 * 1 + 1 * 0 = 0; rw [e1]
  | ⟨2, _⟩ => show cc0_transform_6 (grid0.coords t) 2 * 4096 + 1 * k.val = k.val; rw [e2]; omega

/-! ## What a point leaves -/

/-- The point's product in one formula. -/
theorem prod_eq (c : Dev nD) (t : Fin cfg0.N) (r k : Fin 512) (b : Fin 2) (s : Fin 8192) (q : Fin 4096)
    (hs : b.val * 8192 + s.val = (grid0.coords t 0).val * 512 + r.val) (hq : q.val = (grid0.coords t 1).val * 512 + k.val) :
    at2 m c t (ix2 r k) + at3 m c t (ix3 (0 : Fin 1) (0 : Fin 1) k) * ∑ j : Fin 4096, at0 m c t (ix2 r j) * at1 m c t (ix2 j k)
      = X (argA m c) (argX m c) (argG m c) (argW m c) b s q := by
  have hr := r.isLt
  have hl := s.isLt
  unfold X
  refine congrArg₂ (· + ·) (blk_2 m c t r k b s q hs hq) (congrArg₂ (· * ·) (blk_3 m c t k b q ?_ hq) ?_)
  · omega
  · exact Finset.sum_congr rfl fun j _ => congrArg₂ (· * ·) (blk_0 m c t r j b s hs) (blk_1 m c t j k q hq)

/-- The scratch's rows are the tile's residual rows. -/
theorem row_eq (c : Dev nD) (t : Fin cfg0.N) (r : Fin 512) (b : Fin 2) (s : Fin 8192) (hs : b.val * 8192 + s.val = (grid0.coords t 0).val * 512 + r.val) :
    rowOf (xs m c t) r = X (argA m c) (argX m c) (argG m c) (argW m c) b s := by
  funext k
  have hk := k.isLt
  unfold rowOf xs pay
  refine (pay2_apply _ _ _ _ r _).trans (prod_eq m c (pt t _) r _ b s k ?_ ?_)
  · rw [pt_0]; exact hs
  · rw [pt_1]
    show k.val = k.val / 512 * 512 + k.val % 512
    omega

/-! ## The blocks tile the results -/

theorem nblk8_0 : (cfg0.win 8).nblk (0 : Fin 2) = 32 :=
  show (S16384x4096.size 0 + S512x512.size 0 - 1) / S512x512.size 0 = 32 by decide
theorem nblk8_1 : (cfg0.win 8).nblk (1 : Fin 2) = 8 :=
  show (S16384x4096.size 1 + S512x512.size 1 - 1) / S512x512.size 1 = 8 by decide
theorem nblk9_0 : (cfg0.win 9).nblk (0 : Fin 2) = 32 :=
  show (S16384x4096.size 0 + S512x4096.size 0 - 1) / S512x4096.size 0 = 32 by decide
theorem nblk9_1 : (cfg0.win 9).nblk (1 : Fin 2) = 1 :=
  show (S16384x4096.size 1 + S512x4096.size 1 - 1) / S512x4096.size 1 = 1 by decide

theorem covers_8 : (cfg0.win 8).Covers :=
  (cfg0.win 8).covers_of_indexMap_surj rfl (show ∀ a : Fin 2, 0 < S512x512.size a by decide)
    fun (β : (a : Fin 2) → Fin ((cfg0.win 8).nblk a)) =>
    have h0 : (β 0).val < 32 := lt_of_lt_of_eq (β 0).isLt nblk8_0
    have h1 : (β 1).val < 8 := lt_of_lt_of_eq (β 1).isLt nblk8_1
    have e := tr_8 (fun | ⟨0, _⟩ => ⟨(β 0).val, h0⟩ | ⟨1, _⟩ => ⟨(β 1).val, h1⟩ : grid0.Coords)
    ⟨(fun | ⟨0, _⟩ => ⟨(β 0).val, h0⟩ | ⟨1, _⟩ => ⟨(β 1).val, h1⟩ : grid0.Coords), fun (a : Fin 2) => by
      match a with
      | ⟨0, _⟩ => exact e.1
      | ⟨1, _⟩ => exact e.2⟩

theorem covers_9 : (cfg0.win 9).Covers :=
  (cfg0.win 9).covers_of_indexMap_surj rfl (show ∀ a : Fin 2, 0 < S512x4096.size a by decide)
    fun (β : (a : Fin 2) → Fin ((cfg0.win 9).nblk a)) =>
    have h0 : (β 0).val < 32 := lt_of_lt_of_eq (β 0).isLt nblk9_0
    have h1 : (β 1).val < 1 := lt_of_lt_of_eq (β 1).isLt nblk9_1
    have z : 0 < 8 := by decide
    have e := tr_9 (fun | ⟨0, _⟩ => ⟨(β 0).val, h0⟩ | ⟨1, _⟩ => ⟨0, z⟩ : grid0.Coords)
    ⟨(fun | ⟨0, _⟩ => ⟨(β 0).val, h0⟩ | ⟨1, _⟩ => ⟨0, z⟩ : grid0.Coords), fun (a : Fin 2) => by
      match a with
      | ⟨0, _⟩ => exact e.1
      | ⟨1, _⟩ => exact e.2.trans (by show 0 = (β 1).val; omega)⟩

/-- Where a point's blocks of the results lie. -/
theorem emb_8_0 (t : Fin cfg0.N) (y : S512x512.Idx) :
    (((cfg0.win 8).blk t).view.emb y (0 : Fin 2)).val = (grid0.coords t 0).val * 512 + (y 0).val := by
  show cc0_transform_8 (grid0.coords t) 0 * 512 + 1 * (y 0).val = _
  rw [(tr_8 (grid0.coords t)).1, Nat.one_mul]
theorem emb_8_1 (t : Fin cfg0.N) (y : S512x512.Idx) :
    (((cfg0.win 8).blk t).view.emb y (1 : Fin 2)).val = (grid0.coords t 1).val * 512 + (y 1).val := by
  show cc0_transform_8 (grid0.coords t) 1 * 512 + 1 * (y 1).val = _
  rw [(tr_8 (grid0.coords t)).2, Nat.one_mul]
theorem emb_9_0 (t : Fin cfg0.N) (y : S512x4096.Idx) :
    (((cfg0.win 9).blk t).view.emb y (0 : Fin 2)).val = (grid0.coords t 0).val * 512 + (y 0).val := by
  show cc0_transform_9 (grid0.coords t) 0 * 512 + 1 * (y 0).val = _
  rw [(tr_9 (grid0.coords t)).1, Nat.one_mul]
theorem emb_9_1 (t : Fin cfg0.N) (y : S512x4096.Idx) :
    (((cfg0.win 9).blk t).view.emb y (1 : Fin 2)).val = (y 1).val := by
  show cc0_transform_9 (grid0.coords t) 1 * 4096 + 1 * (y 1).val = _
  rw [(tr_9 (grid0.coords t)).2, Nat.one_mul, Nat.zero_mul, Nat.zero_add]

/-- A row's batch and position give the row. -/
theorem bat_pos (i : Fin 16384) : (bat i).val * 8192 + (pos i).val = i.val := by
  show i.val / 8192 * 8192 + i.val % 8192 = i.val
  omega

/-- What a point leaves is its block of the residual rows. -/
theorem block_8 (c : Dev nD) (t : Fin cfg0.N) (y : S512x512.Idx) (i : S16384x4096.Idx)
    (h0 : (i 0).val = (grid0.coords t 0).val * 512 + (y 0).val) (h1 : (i 1).val = (grid0.coords t 1).val * 512 + (y 1).val) :
    k0_pay1 (F := Ideal) (at0 m c t) (at1 m c t) (at2 m c t) (at3 m c t) y = GX (argA m c) (argX m c) (argG m c) (argW m c) i := by
  obtain ⟨r, k, rfl⟩ : ∃ r k : Fin 512, y = ix2 r k := ⟨y 0, y 1, eq_ix2 y⟩
  exact (pay1_apply _ _ _ _ r k).trans (prod_eq m c t r k _ _ _ ((bat_pos (i 0)).trans h0) h1)

/-- What a row tile's last point leaves is the tile's block of the normalised rows. -/
theorem block_9 (c : Dev nD) (t : Fin cfg0.N) (y : S512x4096.Idx) (i : S16384x4096.Idx)
    (h0 : (i 0).val = (grid0.coords t 0).val * 512 + (y 0).val) (h1 : (i 1).val = (y 1).val) :
    rows (F := Ideal) (xs m c t) (at4 m c t) (at5 m c t) (at6 m c t) y
      = GH (argA m c) (argX m c) (argG m c) (argN m c) (argSh m c) (argSc m c) (argW m c) i := by
  obtain ⟨r, k, rfl⟩ : ∃ (r : Fin 512) (k : Fin 4096), y = ix2 r k := ⟨y 0, y 1, eq_ix2 y⟩
  replace h0 : (i 0).val = (grid0.coords t 0).val * 512 + r.val := h0
  have hr := r.isLt
  have hp := (pos (i 0)).isLt
  have hs : (bat (i 0)).val * 8192 + (pos (i 0)).val = (grid0.coords t 0).val * 512 + r.val := (bat_pos (i 0)).trans h0
  have hb : (bat (i 0)).val = (grid0.coords t 0).val / 16 := by omega
  have e1 : (i 1 : Fin 4096) = k := Fin.ext h1
  rw [rows_eq]
  unfold GH
  rw [e1]
  refine (congrArg (fun f => norm f k _ _ _) (row_eq m c t r _ _ hs)).trans ?_
  refine congr (congr (congrArg (norm _ k) (blk_4 m c t k)) (blk_5 m c t k _ hb)) (blk_6 m c t k _ hb)

theorem arrAt_8 (c : Dev nD) : (dats m 0 c).arrAt 8 cfg0.N = GX (argA m c) (argX m c) (argG m c) (argW m c) :=
  (dats m 0 c).arrAt_eq_of_covers 8 _ covers_8 fun t _ (y : S512x512.Idx) => by
    have key := block_8 m c t y _ (emb_8_0 t y) (emb_8_1 t y)
    rw [after_8]
    generalize k0_pay1 (F := Ideal) (at0 m c t) (at1 m c t) (at2 m c t) (at3 m c t) = o at key ⊢
    exact key

theorem arrAt_9 (c : Dev nD) : (dats m 0 c).arrAt 9 cfg0.N = GH (argA m c) (argX m c) (argG m c) (argN m c) (argSh m c) (argSc m c) (argW m c) :=
  (dats m 0 c).arrAt_eq_of_covers 9 _ covers_9 fun t _ (y : S512x4096.Idx) => by
    have key := block_9 m c t y _ (emb_9_0 t y) (emb_9_1 t y)
    rw [after_9]
    generalize rows (F := Ideal) (xs m c t) (at4 m c t) (at5 m c t) (at6 m c t) = o at key ⊢
    exact key

end Cert.Kernel8Ideal.Oproj

end
-- ==== Proof.LogitsBody.lean ====
module

public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Whole
public import Idealize.ShloMosaic.Lib.Pipeline.Frame
public import Idealize.ShloMosaic.Lib.Pipeline.Value
public import Idealize.ShloMosaic.Lib.Pipeline.ValueKit.Tiles
public import Idealize.ShloMosaic.Lib.ValueIdx
public import Idealize.ShloMosaic.Lib.WholeRead
public import Idealize.ShloMosaic.Lib.WritesUnit
public import Idealize.ShloMosaic.Lib.WordCmp
public import Idealize.ShloMosaic.Lib.Ring
public import Idealize.ShloMosaic.Lib.Tactic

@[expose] public section

set_option maxRecDepth 16384

noncomputable section

/-! # One grid point of the output projection

Every point multiplies the tile's attention rows with its 512 columns of the weights, adds the gated product to the
residual rows, and keeps the block in one slot of a scratch of eight. The last point of a row tile reads the eight slots,
normalises the rows and modulates them, and multiplies them with the router's weights. -/

namespace Cert.Kernel9Ideal.Logits

open Cert.Kernel9Ideal Cert.Kernel9Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Whole

variable {F : FTy → Type} [FloatOps F]

local notation "𝕄" => MT nD τ sig Unit (Elt F) ℕ (Idealize.ShloMosaic.UR sig nD τ) ℕ

/-- The point is the last of its row tile. -/
abbrev Last (i : grid0.Coords) : Prop := k0_cond1 i = 1#1

theorem coords_1 (t : Fin cfg0.N) : (grid0.coords t 1).val = t.val % 8 :=
  ((Pipeline.Grid.coords_val t 1 (by decide) rfl : (grid0.coords t 1).val = t.val / 1 % 8)).trans (by rw [Nat.div_one])

theorem cond1_iff (i : grid0.Coords) : Last i ↔ (i 1).val = 7 := by
  unfold Last k0_cond1
  generalize (i 1) = n
  revert n
  show ∀ n : Fin 8, _
  decide +kernel

theorem last_iff (t : Fin cfg0.N) : Last (grid0.coords t) ↔ t.val % 8 = 7 := by
  rw [cond1_iff, coords_1]

/-- The slot that a point writes. -/
theorem off1_eq (i : grid0.Coords) : k0_off1 i = ![(i 1).val, 0, 0] := by
  unfold k0_off1
  generalize (i 1) = n
  revert n
  show ∀ n : Fin 8, _
  decide +kernel

instance closedOff_off1 (i : grid0.Coords) : ClosedOff (k0_off1 i) := ⟨![(i 1).val, 0, 0], off1_eq i⟩

/-- The scratch after a point: its slot at the point's block, the others as they were. -/
def put (i : grid0.Coords) (g : S8x512x512.Idx → Elt F .f32) (p : S1x512x512.Idx → Elt F .f32) : S8x512x512.Idx → Elt F .f32 :=
  fun y => if (y 0).val = (i 1).val then p (ix3 (0 : Fin 1) (y 1 : Fin 512) (y 2 : Fin 512)) else g y

theorem read_put (i : grid0.Coords) (M : Memref sig .tc .vmem S8x512x512 .f32) (hM : M.IsWhole) (g : S8x512x512.Idx → Elt F .f32)
    (p : S1x512x512.Idx → Elt F .f32) :
    M.view.read (Elt F) (M.view.writes (Elt F) (hM.unread g) [⟨Rect.unit (s := S8x512x512) (k0_off1 i) S1x512x512.size (k0_off1_inb i), p⟩]) = put i g p := by
  funext y
  unfold put
  by_cases h : (y 0).val = (i 1).val
  · rw [if_pos h]
    refine View.read_writes_cons_unit_of_mem M.view (hM.unread g) (k0_off1_inb i) p [] y (ix3 (0 : Fin 1) (y 1 : Fin 512) (y 2 : Fin 512)) (off1_eq i) fun a => ?_
    match a with
    | ⟨0, _⟩ => exact h
    | ⟨1, _⟩ => show (y 1).val = 0 + (y 1).val; omega
    | ⟨2, _⟩ => show (y 2).val = 0 + (y 2).val; omega
  · rw [if_neg h]
    refine (View.read_writes_cons_unit_of_not_mem M.view (hM.unread g) (k0_off1_inb i) p [] y (off1_eq i) 0 ?_).trans (congrFun (hM.read_unread g) y)
    show (y 0).val < (i 1).val ∨ (i 1).val + 1 ≤ (y 0).val
    omega

/-- One slot as it is read. -/
abbrev slot (g : S8x512x512.Idx → Elt F .f32) (off : Fin 3 → Nat) (h : ∀ a, off a + S1x512x512.size a ≤ S8x512x512.size a) : S1x512x512.Idx → Elt F .f32 :=
  View.ld g (Rect.unit (s := S8x512x512) off S1x512x512.size h)

/-- The sum of a slot's squares along a row. -/
def sq (x : FVec F S1x512x512 .f32) : FVec F S512x1 .f32 :=
  have a : FVec F S512x512 .f32 := shapeCast S512x512 x shapeCasts_S1x512x512_S512x512
  shapeCast S512x1 (multiReduction .add [1] S512 (mulf a a) 0x00000000#32 reduces_S512x512_S512 (.inl rfl) rfl) shapeCasts_S512_S512x1

/-- The rows' normalising factor. -/
def inv (g : S8x512x512.Idx → Elt F .f32) : FVec F S512x1 .f32 :=
  have s : FVec F S512x1 .f32 := addf (addf (addf (addf (addf (addf (addf (addf (broadcast S512x1 (Scalar.ofBits .f32 0x00000000#32))
    (sq (slot g ![0, 0, 0] inb_S8x512x512_S1x512x512_0_0_0)))
    (sq (slot g ![1, 0, 0] inb_S8x512x512_S1x512x512_1_0_0)))
    (sq (slot g ![2, 0, 0] inb_S8x512x512_S1x512x512_2_0_0)))
    (sq (slot g ![3, 0, 0] inb_S8x512x512_S1x512x512_3_0_0)))
    (sq (slot g ![4, 0, 0] inb_S8x512x512_S1x512x512_4_0_0)))
    (sq (slot g ![5, 0, 0] inb_S8x512x512_S1x512x512_5_0_0)))
    (sq (slot g ![6, 0, 0] inb_S8x512x512_S1x512x512_6_0_0)))
    (sq (slot g ![7, 0, 0] inb_S8x512x512_S1x512x512_7_0_0))
  rsqrt (addf (divf s (broadcast S512x1 (Scalar.ofBits .f32 0x45800000#32))) (broadcast S512x1 (Scalar.ofBits .f32 0x358637BD#32)))

/-- A slot's rows, normalised and modulated. -/
def hj (v : FVec F S512x1 .f32) (x : FVec F S1x512x512 .f32) (ng : FVec F S1x512 .f32) (sc sh : FVec F S1x1x512 .f32) : FVec F S512x512 .f32 :=
  addf (mulf (mulf (mulf (shapeCast S512x512 x shapeCasts_S1x512x512_S512x512) (broadcastTo S512x512 v broadcasts_S512x1_S512x512))
      (broadcastTo S512x512 (shapeCast S1x512 ng shapeCasts_S1x512_S1x512) broadcasts_S1x512_S512x512))
    (broadcastTo S512x512 (addf (broadcast S1x512 (Scalar.ofBits .f32 0x3F800000#32)) (shapeCast S1x512 sc shapeCasts_S1x1x512_S1x512)) broadcasts_S1x512_S512x512))
    (broadcastTo S512x512 (shapeCast S1x512 sh shapeCasts_S1x1x512_S1x512) broadcasts_S1x512_S512x512)

/-- A slot's share of the router's product, in two halves of each factor. -/
def step (acc : FVec F S512x128 .f32) (h : FVec F S512x512 .f32) (w : FVec F S512x128 .f32) : FVec F S512x128 .f32 :=
  have hi : FVec F S512x512 .bf16 := truncf .bf16 h bitsLt_bf16_f32
  have lo : FVec F S512x512 .bf16 := truncf .bf16 (subf h (extf .f32 hi bitsLt_bf16_f32)) bitsLt_bf16_f32
  have v : FVec F S512x128 .f32 := shapeCast S512x128 w shapeCasts_S512x128_S512x128
  have whi : FVec F S512x128 .bf16 := truncf .bf16 v bitsLt_bf16_f32
  have wlo : FVec F S512x128 .bf16 := truncf .bf16 (subf v (extf .f32 whi bitsLt_bf16_f32)) bitsLt_bf16_f32
  addf (addf acc (matmul dot_S512x512_S512x128_S512x128_1_0_0_1_n_n none hi whi (constant S512x128 .f32 0x00000000#32)))
    (addf (matmul dot_S512x512_S512x128_S512x128_1_0_0_1_n_n none hi wlo (constant S512x128 .f32 0x00000000#32))
      (matmul dot_S512x512_S512x128_S512x128_1_0_0_1_n_n none lo whi (constant S512x128 .f32 0x00000000#32)))

variable (g : S8x512x512.Idx → Elt F .f32) (ng : S1x4096.Idx → Elt F .f32) (sh sc : S1x1x4096.Idx → Elt F .f32) (wr : S4096x128.Idx → Elt F .f32)

/-- The eight blocks of modulated rows. -/
def h0 : FVec F S512x512 .f32 :=
  hj (inv g) (slot g ![0, 0, 0] inb_S8x512x512_S1x512x512_0_0_0) (View.ld ng (Rect.unit (s := S1x4096) ![0, 0] S1x512.size inb_S1x4096_S1x512_0_0))
    (View.ld sc (Rect.unit (s := S1x1x4096) ![0, 0, 0] S1x1x512.size inb_S1x1x4096_S1x1x512_0_0_0))
    (View.ld sh (Rect.unit (s := S1x1x4096) ![0, 0, 0] S1x1x512.size inb_S1x1x4096_S1x1x512_0_0_0))
def h1 : FVec F S512x512 .f32 :=
  hj (inv g) (slot g ![1, 0, 0] inb_S8x512x512_S1x512x512_1_0_0) (View.ld ng (Rect.unit (s := S1x4096) ![0, 512] S1x512.size inb_S1x4096_S1x512_0_512))
    (View.ld sc (Rect.unit (s := S1x1x4096) ![0, 0, 512] S1x1x512.size inb_S1x1x4096_S1x1x512_0_0_512))
    (View.ld sh (Rect.unit (s := S1x1x4096) ![0, 0, 512] S1x1x512.size inb_S1x1x4096_S1x1x512_0_0_512))
def h2 : FVec F S512x512 .f32 :=
  hj (inv g) (slot g ![2, 0, 0] inb_S8x512x512_S1x512x512_2_0_0) (View.ld ng (Rect.unit (s := S1x4096) ![0, 1024] S1x512.size inb_S1x4096_S1x512_0_1024))
    (View.ld sc (Rect.unit (s := S1x1x4096) ![0, 0, 1024] S1x1x512.size inb_S1x1x4096_S1x1x512_0_0_1024))
    (View.ld sh (Rect.unit (s := S1x1x4096) ![0, 0, 1024] S1x1x512.size inb_S1x1x4096_S1x1x512_0_0_1024))
def h3 : FVec F S512x512 .f32 :=
  hj (inv g) (slot g ![3, 0, 0] inb_S8x512x512_S1x512x512_3_0_0) (View.ld ng (Rect.unit (s := S1x4096) ![0, 1536] S1x512.size inb_S1x4096_S1x512_0_1536))
    (View.ld sc (Rect.unit (s := S1x1x4096) ![0, 0, 1536] S1x1x512.size inb_S1x1x4096_S1x1x512_0_0_1536))
    (View.ld sh (Rect.unit (s := S1x1x4096) ![0, 0, 1536] S1x1x512.size inb_S1x1x4096_S1x1x512_0_0_1536))
def h4 : FVec F S512x512 .f32 :=
  hj (inv g) (slot g ![4, 0, 0] inb_S8x512x512_S1x512x512_4_0_0) (View.ld ng (Rect.unit (s := S1x4096) ![0, 2048] S1x512.size inb_S1x4096_S1x512_0_2048))
    (View.ld sc (Rect.unit (s := S1x1x4096) ![0, 0, 2048] S1x1x512.size inb_S1x1x4096_S1x1x512_0_0_2048))
    (View.ld sh (Rect.unit (s := S1x1x4096) ![0, 0, 2048] S1x1x512.size inb_S1x1x4096_S1x1x512_0_0_2048))
def h5 : FVec F S512x512 .f32 :=
  hj (inv g) (slot g ![5, 0, 0] inb_S8x512x512_S1x512x512_5_0_0) (View.ld ng (Rect.unit (s := S1x4096) ![0, 2560] S1x512.size inb_S1x4096_S1x512_0_2560))
    (View.ld sc (Rect.unit (s := S1x1x4096) ![0, 0, 2560] S1x1x512.size inb_S1x1x4096_S1x1x512_0_0_2560))
    (View.ld sh (Rect.unit (s := S1x1x4096) ![0, 0, 2560] S1x1x512.size inb_S1x1x4096_S1x1x512_0_0_2560))
def h6 : FVec F S512x512 .f32 :=
  hj (inv g) (slot g ![6, 0, 0] inb_S8x512x512_S1x512x512_6_0_0) (View.ld ng (Rect.unit (s := S1x4096) ![0, 3072] S1x512.size inb_S1x4096_S1x512_0_3072))
    (View.ld sc (Rect.unit (s := S1x1x4096) ![0, 0, 3072] S1x1x512.size inb_S1x1x4096_S1x1x512_0_0_3072))
    (View.ld sh (Rect.unit (s := S1x1x4096) ![0, 0, 3072] S1x1x512.size inb_S1x1x4096_S1x1x512_0_0_3072))
def h7 : FVec F S512x512 .f32 :=
  hj (inv g) (slot g ![7, 0, 0] inb_S8x512x512_S1x512x512_7_0_0) (View.ld ng (Rect.unit (s := S1x4096) ![0, 3584] S1x512.size inb_S1x4096_S1x512_0_3584))
    (View.ld sc (Rect.unit (s := S1x1x4096) ![0, 0, 3584] S1x1x512.size inb_S1x1x4096_S1x1x512_0_0_3584))
    (View.ld sh (Rect.unit (s := S1x1x4096) ![0, 0, 3584] S1x1x512.size inb_S1x1x4096_S1x1x512_0_0_3584))

/-- The eight stores of the modulated rows, the last first. -/
def stores : List (View.Piece (Elt F) S512x4096 .bf16) :=
  [⟨Rect.unit ![0, 3584] ![512, 512] inb_S512x4096_S512x512_0_3584, truncf .bf16 (h7 g ng sh sc) bitsLt_bf16_f32⟩,
   ⟨Rect.unit ![0, 3072] ![512, 512] inb_S512x4096_S512x512_0_3072, truncf .bf16 (h6 g ng sh sc) bitsLt_bf16_f32⟩,
   ⟨Rect.unit ![0, 2560] ![512, 512] inb_S512x4096_S512x512_0_2560, truncf .bf16 (h5 g ng sh sc) bitsLt_bf16_f32⟩,
   ⟨Rect.unit ![0, 2048] ![512, 512] inb_S512x4096_S512x512_0_2048, truncf .bf16 (h4 g ng sh sc) bitsLt_bf16_f32⟩,
   ⟨Rect.unit ![0, 1536] ![512, 512] inb_S512x4096_S512x512_0_1536, truncf .bf16 (h3 g ng sh sc) bitsLt_bf16_f32⟩,
   ⟨Rect.unit ![0, 1024] ![512, 512] inb_S512x4096_S512x512_0_1024, truncf .bf16 (h2 g ng sh sc) bitsLt_bf16_f32⟩,
   ⟨Rect.unit ![0, 512] ![512, 512] inb_S512x4096_S512x512_0_512, truncf .bf16 (h1 g ng sh sc) bitsLt_bf16_f32⟩,
   ⟨Rect.unit ![0, 0] ![512, 512] inb_S512x4096_S512x512_0_0, truncf .bf16 (h0 g ng sh sc) bitsLt_bf16_f32⟩]

theorem stores_cover (y : S512x4096.Idx) : ∃ p ∈ stores g ng sh sc, y ∈ p.1.set :=
  View.cover_of_tiledL (stores g ng sh sc) ![512, 512] (by sl_kernel_rfl) y

/-- The modulated rows that the last point leaves. -/
def rows : S512x4096.Idx → Elt F .bf16 := View.canon (stores g ng sh sc)

/-- The router's product that the last point leaves. -/
def logits : S512x128.Idx → Elt F .f32 :=
  step (step (step (step (step (step (step (step (broadcast S512x128 (Scalar.ofBits .f32 0x00000000#32)) (h0 g ng sh sc) (View.ld wr (Rect.unit (s := S4096x128) ![0, 0] S512x128.size inb_S4096x128_S512x128_0_0))) (h1 g ng sh sc) (View.ld wr (Rect.unit (s := S4096x128) ![512, 0] S512x128.size inb_S4096x128_S512x128_512_0))) (h2 g ng sh sc) (View.ld wr (Rect.unit (s := S4096x128) ![1024, 0] S512x128.size inb_S4096x128_S512x128_1024_0))) (h3 g ng sh sc) (View.ld wr (Rect.unit (s := S4096x128) ![1536, 0] S512x128.size inb_S4096x128_S512x128_1536_0))) (h4 g ng sh sc) (View.ld wr (Rect.unit (s := S4096x128) ![2048, 0] S512x128.size inb_S4096x128_S512x128_2048_0))) (h5 g ng sh sc) (View.ld wr (Rect.unit (s := S4096x128) ![2560, 0] S512x128.size inb_S4096x128_S512x128_2560_0))) (h6 g ng sh sc) (View.ld wr (Rect.unit (s := S4096x128) ![3072, 0] S512x128.size inb_S4096x128_S512x128_3072_0))) (h7 g ng sh sc) (View.ld wr (Rect.unit (s := S4096x128) ![3584, 0] S512x128.size inb_S4096x128_S512x128_3584_0))

variable (c : Dev nD) (i : grid0.Coords) (arg2 : Memref sig .tc .vmem S512x4096 .bf16) (harg2 : arg2.IsWhole)
  (arg3 : Memref sig .tc .vmem S4096x512 .bf16) (harg3 : arg3.IsWhole)
  (arg4 : Memref sig .tc .vmem S512x512 .f32) (harg4 : arg4.IsWhole)
  (arg5 : Memref sig .tc .vmem S1x1x512 .f32) (harg5 : arg5.IsWhole)
  (arg6 : Memref sig .tc .vmem S1x4096 .f32) (harg6 : arg6.IsWhole)
  (arg7 : Memref sig .tc .vmem S1x1x4096 .f32) (harg7 : arg7.IsWhole)
  (arg8 : Memref sig .tc .vmem S1x1x4096 .f32) (harg8 : arg8.IsWhole)
  (arg9 : Memref sig .tc .vmem S4096x128 .f32) (harg9 : arg9.IsWhole)
  (arg10 : Memref sig .tc .vmem S512x512 .f32) (harg10 : arg10.IsWhole)
  (arg11 : Memref sig .tc .vmem S512x4096 .bf16) (harg11 : arg11.IsWhole)
  (arg12 : Memref sig .tc .vmem S512x128 .f32) (harg12 : arg12.IsWhole)
  (arg13 : Memref sig .tc .vmem S8x512x512 .f32) (harg13 : arg13.IsWhole)
  (x0 : S512x4096.Idx → Elt F .bf16) (x1 : S4096x512.Idx → Elt F .bf16) (x2 : S512x512.Idx → Elt F .f32) (x3 : S1x1x512.Idx → Elt F .f32)
  (o10 : arg10.view.ty.Contents (Elt F)) (o11 : arg11.view.ty.Contents (Elt F)) (o12 : arg12.view.ty.Contents (Elt F))

/-- The operands that a point reads and leaves as they are. -/
def ins : sProp 𝕄 :=
  iprop((arg2.view.loc (c : Thread nD τ) ↦[arg2.view.set]{fullShare} harg2.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3)
    ∗ (arg6.view.loc (c : Thread nD τ) ↦[arg6.view.set]{fullShare} harg6.unread ng)
    ∗ (arg7.view.loc (c : Thread nD τ) ↦[arg7.view.set]{fullShare} harg7.unread sh)
    ∗ (arg8.view.loc (c : Thread nD τ) ↦[arg8.view.set]{fullShare} harg8.unread sc)
    ∗ (arg9.view.loc (c : Thread nD τ) ↦[arg9.view.set]{fullShare} harg9.unread wr))

set_option maxHeartbeats 800000 in
/-- A point before the last: its block and its slot are written. -/
theorem run_mid (hc : ¬ Last i) :
    iprop(ins ng sh sc wr c arg2 harg2 arg3 harg3 arg4 harg4 arg5 harg5 arg6 harg6 arg7 harg7 arg8 harg8 arg9 harg9 x0 x1 x2 x3
      ∗ (arg10.view.loc (c : Thread nD τ) ↦[arg10.view.set]{fullShare} o10) ∗ (arg13.view.loc (c : Thread nD τ) ↦[arg13.view.set]{fullShare} harg13.unread g))
    ⊢ wp frame (wpE (defs₀ (F := F)) Variants.none (c : Thread nD τ) none) Set.univ
      (cc0_oproj_prenorm_router (F := F) i arg2 harg2 arg3 harg3 arg4 harg4 arg5 harg5 arg6 harg6 arg7 harg7 arg8 harg8 arg9 harg9 arg10 harg10 arg11 harg11 arg12 harg12 arg13 harg13)
      (fun _ => (iprop(ins ng sh sc wr c arg2 harg2 arg3 harg3 arg4 harg4 arg5 harg5 arg6 harg6 arg7 harg7 arg8 harg8 arg9 harg9 x0 x1 x2 x3
        ∗ (∃ f, ⌜arg10.view.read (Elt F) f = k0_pay1 x0 x1 x2 x3⌝ ∗ (arg10.view.loc (c : Thread nD τ) ↦[arg10.view.set]{fullShare} f))
        ∗ (arg13.view.loc (c : Thread nD τ) ↦[arg13.view.set]{fullShare} harg13.unread (put i g (k0_pay2 x0 x1 x2 x3)))) : sProp 𝕄)) := by
  unfold ins
  iintro ⟨⟨H2, H3, H4, H5, H6, H7, H8, H9⟩, H10, H13⟩
  simp only [cc0_oproj_prenorm_router_eq_skeleton]; unfold cc0_oproj_prenorm_router_skel
  sl_exec (disch := first | sl_exact hc)
  sl_step
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists _
    isplitr
    swap; · iexact H10
    ipureintro
    refine (read_store arg10.view hz2 _ _ _).trans ?_
    sl_unfold_words
    simp only [View.readAt_eq_ld, harg2.read_unread, harg3.read_unread, harg4.read_unread, harg5.read_unread]
    rw [View.ld_unit_zero (S := S512x4096) hz2, View.ld_unit_zero (S := S4096x512) hz2, View.ld_unit_zero (S := S512x512) hz2, View.ld_unit_zero (S := S1x1x512) hz3]
  have e : arg13.view.writes (Elt F) (harg13.unread g) [⟨Rect.unit (s := S8x512x512) (k0_off1 i) S1x512x512.size (k0_off1_inb i), k0_pay2 x0 x1 x2 x3⟩] = harg13.unread (put i g (k0_pay2 x0 x1 x2 x3)) :=
    harg13.eq_unread (read_put i arg13 harg13 g _)
  rw [← e]
  sl_unfold_words
  simp only [View.readAt_eq_ld, harg2.read_unread, harg3.read_unread, harg4.read_unread, harg5.read_unread]
  rw [View.ld_unit_zero (S := S512x4096) hz2, View.ld_unit_zero (S := S4096x512) hz2, View.ld_unit_zero (S := S512x512) hz2, View.ld_unit_zero (S := S1x1x512) hz3]
  iexact H13

set_option maxHeartbeats 800000 in
/-- The last point of a row tile: the modulated rows and the router's product are written too. -/
theorem run_last (hc : Last i) :
    iprop(ins ng sh sc wr c arg2 harg2 arg3 harg3 arg4 harg4 arg5 harg5 arg6 harg6 arg7 harg7 arg8 harg8 arg9 harg9 x0 x1 x2 x3
      ∗ (arg10.view.loc (c : Thread nD τ) ↦[arg10.view.set]{fullShare} o10) ∗ (arg11.view.loc (c : Thread nD τ) ↦[arg11.view.set]{fullShare} o11)
      ∗ (arg12.view.loc (c : Thread nD τ) ↦[arg12.view.set]{fullShare} o12) ∗ (arg13.view.loc (c : Thread nD τ) ↦[arg13.view.set]{fullShare} harg13.unread g))
    ⊢ wp frame (wpE (defs₀ (F := F)) Variants.none (c : Thread nD τ) none) Set.univ
      (cc0_oproj_prenorm_router (F := F) i arg2 harg2 arg3 harg3 arg4 harg4 arg5 harg5 arg6 harg6 arg7 harg7 arg8 harg8 arg9 harg9 arg10 harg10 arg11 harg11 arg12 harg12 arg13 harg13)
      (fun _ => (iprop(ins ng sh sc wr c arg2 harg2 arg3 harg3 arg4 harg4 arg5 harg5 arg6 harg6 arg7 harg7 arg8 harg8 arg9 harg9 x0 x1 x2 x3
        ∗ (∃ f, ⌜arg10.view.read (Elt F) f = k0_pay1 x0 x1 x2 x3⌝ ∗ (arg10.view.loc (c : Thread nD τ) ↦[arg10.view.set]{fullShare} f))
        ∗ (∃ f, ⌜arg11.view.read (Elt F) f = rows (put i g (k0_pay2 x0 x1 x2 x3)) ng sh sc⌝ ∗ (arg11.view.loc (c : Thread nD τ) ↦[arg11.view.set]{fullShare} f))
        ∗ (∃ f, ⌜arg12.view.read (Elt F) f = logits (put i g (k0_pay2 x0 x1 x2 x3)) ng sh sc wr⌝ ∗ (arg12.view.loc (c : Thread nD τ) ↦[arg12.view.set]{fullShare} f))
        ∗ (arg13.view.loc (c : Thread nD τ) ↦[arg13.view.set]{fullShare} harg13.unread (put i g (k0_pay2 x0 x1 x2 x3)))) : sProp 𝕄)) := by
  unfold ins
  iintro ⟨⟨H2, H3, H4, H5, H6, H7, H8, H9⟩, H10, H11, H12, H13⟩
  simp only [cc0_oproj_prenorm_router_eq_skeleton]; unfold cc0_oproj_prenorm_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  sl_exec (disch := first | sl_exact hc)
  sl_step
  have hW : arg13.view.writes (Elt F) (harg13.unread g) (run_last.sl.H13_1 i arg2 harg2 arg3 harg3 arg4 harg4 arg5 harg5 x0 x1 x2 x3) = harg13.unread (put i g (k0_pay2 x0 x1 x2 x3)) := by
    refine (congrArg (arg13.view.writes (Elt F) (harg13.unread g)) ?_).trans (harg13.eq_unread (read_put i arg13 harg13 g (k0_pay2 x0 x1 x2 x3)))
    sl_unfold_words
    simp only [View.readAt_eq_ld, harg2.read_unread, harg3.read_unread, harg4.read_unread, harg5.read_unread]
    rw [View.ld_unit_zero (S := S512x4096) hz2, View.ld_unit_zero (S := S4096x512) hz2, View.ld_unit_zero (S := S512x512) hz2, View.ld_unit_zero (S := S1x1x512) hz3]
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists _
    isplitr
    swap; · iexact H10
    ipureintro
    refine (read_store arg10.view hz2 _ _ _).trans ?_
    sl_unfold_words
    simp only [View.readAt_eq_ld, harg2.read_unread, harg3.read_unread, harg4.read_unread, harg5.read_unread]
    rw [View.ld_unit_zero (S := S512x4096) hz2, View.ld_unit_zero (S := S4096x512) hz2, View.ld_unit_zero (S := S512x512) hz2, View.ld_unit_zero (S := S1x1x512) hz3]
  isplitl [H11]
  · iexists _
    isplitr
    swap; · iexact H11
    ipureintro
    refine (congrArg (fun L => arg11.view.read (Elt F) (arg11.view.writes (Elt F) o11 L)) ?_).trans (View.read_writes_eq_canon arg11.view o11 _ (stores_cover (put i g (k0_pay2 x0 x1 x2 x3)) ng sh sc))
    try delta run_last.sl.r_26
    try delta run_last.sl.r_25
    try delta run_last.sl.r_24
    try delta run_last.sl.r_23
    try delta run_last.sl.r_22
    try delta run_last.sl.r_21
    try delta run_last.sl.r_20
    try delta run_last.sl.r_19
    try delta run_last.sl.r_18
    try delta run_last.sl.r_17
    try delta run_last.sl.r_16
    try delta run_last.sl.r_15
    try delta run_last.sl.r_14
    try delta run_last.sl.r_13
    try delta run_last.sl.r_12
    try delta run_last.sl.r_11
    try delta run_last.sl.r_10
    try delta run_last.sl.r_9
    try delta run_last.sl.r_8
    try delta run_last.sl.r_7
    try delta run_last.sl.r_6
    try delta run_last.sl.r_5
    try delta run_last.sl.r_4
    try delta run_last.sl.r_3
    try delta run_last.sl.r_2
    try delta run_last.sl.r_1
    try delta run_last.sl.r
    rw [hW]
    simp only [View.readAt_eq_ld, harg6.read_unread, harg7.read_unread, harg8.read_unread, harg9.read_unread, harg13.read_unread]
    generalize put i g (k0_pay2 x0 x1 x2 x3) = G
    rfl
  isplitl [H12]
  · iexists _
    isplitr
    swap; · iexact H12
    ipureintro
    refine (read_store arg12.view hz2 _ _ _).trans ?_
    try delta run_last.sl.r_26
    try delta run_last.sl.r_25
    try delta run_last.sl.r_24
    try delta run_last.sl.r_23
    try delta run_last.sl.r_22
    try delta run_last.sl.r_21
    try delta run_last.sl.r_20
    try delta run_last.sl.r_19
    try delta run_last.sl.r_18
    try delta run_last.sl.r_17
    try delta run_last.sl.r_16
    try delta run_last.sl.r_15
    try delta run_last.sl.r_14
    try delta run_last.sl.r_13
    try delta run_last.sl.r_12
    try delta run_last.sl.r_11
    try delta run_last.sl.r_10
    try delta run_last.sl.r_9
    try delta run_last.sl.r_8
    try delta run_last.sl.r_7
    try delta run_last.sl.r_6
    try delta run_last.sl.r_5
    try delta run_last.sl.r_4
    try delta run_last.sl.r_3
    try delta run_last.sl.r_2
    try delta run_last.sl.r_1
    try delta run_last.sl.r
    rw [hW]
    simp only [View.readAt_eq_ld, harg6.read_unread, harg7.read_unread, harg8.read_unread, harg9.read_unread, harg13.read_unread]
    generalize put i g (k0_pay2 x0 x1 x2 x3) = G
    rfl
  rw [← hW]
  iexact H13

end Cert.Kernel9Ideal.Logits

end
-- ==== Proof.LogitsRun.lean ====
module

public import proofs.«01_k».proof.Proof.LogitsBody
public import Idealize.ShloMosaic.Lib.Pipeline.Covers
public import Idealize.ShloMosaic.Lib.Claim

@[expose] public section

set_option maxRecDepth 16384

noncomputable section

/-! # The run of the output projection

The launch at any float values. A row tile's eight points fill the scratch one slot at a time, so between points the
slots before the next point's hold the blocks of the tile's earlier points. -/

namespace Cert.Kernel9Ideal.Logits

open Cert.Kernel9Ideal Cert.Kernel9Ideal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents at the region's entry. -/
abbrev V (c : Dev nD) (b : Ref sig .tc) : Buf (Elt F) ((c : Thread nD τ).loc b) :=
  StableHlo.after (List.flatten [hostOps0, hostOps0_1, hostOps0_2]) (fun b => m (c, b)) b

theorem V_arg0 (c : Dev nD) : V m c main_arg0 = m ((c : Thread nD τ).loc main_arg0) := by
  show StableHlo.after (hostOps0 ++ (hostOps0_1 ++ (hostOps0_2 ++ []))) (fun b => m (c, b)) (Proc.devRef .tc main_arg0) = _
  rw [StableHlo.after_append, StableHlo.after_append, StableHlo.after_append]
  after_results
theorem V_arg1 (c : Dev nD) : V m c main_arg1 = m ((c : Thread nD τ).loc main_arg1) := by
  show StableHlo.after (hostOps0 ++ (hostOps0_1 ++ (hostOps0_2 ++ []))) (fun b => m (c, b)) (Proc.devRef .tc main_arg1) = _
  rw [StableHlo.after_append, StableHlo.after_append, StableHlo.after_append]
  after_results
theorem V_arg2 (c : Dev nD) : V m c main_arg2 = m ((c : Thread nD τ).loc main_arg2) := by
  show StableHlo.after (hostOps0 ++ (hostOps0_1 ++ (hostOps0_2 ++ []))) (fun b => m (c, b)) (Proc.devRef .tc main_arg2) = _
  rw [StableHlo.after_append, StableHlo.after_append, StableHlo.after_append]
  after_results
theorem V_arg3 (c : Dev nD) : V m c main_arg3 = m ((c : Thread nD τ).loc main_arg3) := by
  show StableHlo.after (hostOps0 ++ (hostOps0_1 ++ (hostOps0_2 ++ []))) (fun b => m (c, b)) (Proc.devRef .tc main_arg3) = _
  rw [StableHlo.after_append, StableHlo.after_append, StableHlo.after_append]
  after_results
theorem V_arg4 (c : Dev nD) : V m c main_arg4 = m ((c : Thread nD τ).loc main_arg4) := by
  show StableHlo.after (hostOps0 ++ (hostOps0_1 ++ (hostOps0_2 ++ []))) (fun b => m (c, b)) (Proc.devRef .tc main_arg4) = _
  rw [StableHlo.after_append, StableHlo.after_append, StableHlo.after_append]
  after_results
theorem V_arg5 (c : Dev nD) : V m c main_arg5 = m ((c : Thread nD τ).loc main_arg5) := by
  show StableHlo.after (hostOps0 ++ (hostOps0_1 ++ (hostOps0_2 ++ []))) (fun b => m (c, b)) (Proc.devRef .tc main_arg5) = _
  rw [StableHlo.after_append, StableHlo.after_append, StableHlo.after_append]
  after_results
theorem V_arg6 (c : Dev nD) : V m c main_arg6 = m ((c : Thread nD τ).loc main_arg6) := by
  show StableHlo.after (hostOps0 ++ (hostOps0_1 ++ (hostOps0_2 ++ []))) (fun b => m (c, b)) (Proc.devRef .tc main_arg6) = _
  rw [StableHlo.after_append, StableHlo.after_append, StableHlo.after_append]
  after_results
theorem V_arg7 (c : Dev nD) : V m c main_arg7 = m ((c : Thread nD τ).loc main_arg7) := by
  show StableHlo.after (hostOps0 ++ (hostOps0_1 ++ (hostOps0_2 ++ []))) (fun b => m (c, b)) (Proc.devRef .tc main_arg7) = _
  rw [StableHlo.after_append, StableHlo.after_append, StableHlo.after_append]
  after_results

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (arrRef spec0 w))

/-! The blocks the body finds at a point. -/
abbrev at0 (c : Dev nD) (t : Fin cfg0.N) : S512x4096.Idx → Elt F .bf16 := iblk m c 0 t
abbrev at1 (c : Dev nD) (t : Fin cfg0.N) : S4096x512.Idx → Elt F .bf16 := iblk m c 1 t
abbrev at2 (c : Dev nD) (t : Fin cfg0.N) : S512x512.Idx → Elt F .f32 := iblk m c 2 t
abbrev at3 (c : Dev nD) (t : Fin cfg0.N) : S1x1x512.Idx → Elt F .f32 := iblk m c 3 t
abbrev at4 (c : Dev nD) (t : Fin cfg0.N) : S1x4096.Idx → Elt F .f32 := iblk m c 4 t
abbrev at5 (c : Dev nD) (t : Fin cfg0.N) : S1x1x4096.Idx → Elt F .f32 := iblk m c 5 t
abbrev at6 (c : Dev nD) (t : Fin cfg0.N) : S1x1x4096.Idx → Elt F .f32 := iblk m c 6 t
abbrev at7 (c : Dev nD) (t : Fin cfg0.N) : S4096x128.Idx → Elt F .f32 := iblk m c 7 t

/-- A point of the same row tile. -/
def pt (t : Fin cfg0.N) (k : Fin 8) : Fin cfg0.N :=
  ⟨t.val - t.val % 8 + k.val, by have h : t.val < 256 := Nat.lt_of_lt_of_eq t.isLt N_0; have := k.isLt; show _ < grid0.N; rw [N_0]; omega⟩

/-- What a point stores in its slot. -/
def pay (c : Dev nD) (t : Fin cfg0.N) : S1x512x512.Idx → Elt F .f32 := k0_pay2 (at0 m c t) (at1 m c t) (at2 m c t) (at3 m c t)

/-- The scratch after the last point of a row tile. -/
def xs (c : Dev nD) (t : Fin cfg0.N) : S8x512x512.Idx → Elt F .f32 :=
  fun y => pay m c (pt t (y 0 : Fin 8)) (ix3 (0 : Fin 1) (y 1 : Fin 512) (y 2 : Fin 512))

/-- The slots before a point's hold the blocks of the tile's earlier points. -/
def Upto (c : Dev nD) (n : ℕ) (g : S8x512x512.Idx → Elt F .f32) : Prop :=
  ∀ (y : S8x512x512.Idx) (t' : Fin cfg0.N), (y 0).val < n % 8 → t'.val = n - n % 8 + (y 0).val →
    g y = pay m c t' (ix3 (0 : Fin 1) (y 1 : Fin 512) (y 2 : Fin 512))

theorem put_apply (c : Dev nD) (t : Fin cfg0.N) (g : S8x512x512.Idx → Elt F .f32) (hg : Upto m c t.val g) (y : S8x512x512.Idx) (t' : Fin cfg0.N)
    (hy : (y 0).val ≤ t.val % 8) (ht : t'.val = t.val - t.val % 8 + (y 0).val) :
    put (grid0.coords t) g (pay m c t) y = pay m c t' (ix3 (0 : Fin 1) (y 1 : Fin 512) (y 2 : Fin 512)) := by
  unfold put
  rw [coords_1]
  by_cases h : (y 0).val = t.val % 8
  · rw [if_pos h, show t' = t from Fin.ext (by omega)]
  · rw [if_neg h]
    exact hg y t' (by omega) ht

theorem upto_succ (c : Dev nD) (t : Fin cfg0.N) (g : S8x512x512.Idx → Elt F .f32) (hg : Upto m c t.val g) :
    Upto m c (t.val + 1) (put (grid0.coords t) g (pay m c t)) := fun y t' hy ht =>
  put_apply m c t g hg y t' (by omega) (by omega)

theorem put_last (c : Dev nD) (t : Fin cfg0.N) (g : S8x512x512.Idx → Elt F .f32) (hg : Upto m c t.val g) (h : t.val % 8 = 7) :
    put (grid0.coords t) g (pay m c t) = xs m c t := funext fun y =>
  put_apply m c t g hg y (pt t (y 0 : Fin 8)) (by have : (y 0).val < 8 := (y 0).isLt; omega) rfl

/-- The scratch as a memref. -/
abbrev scM : Memref sig .tc .vmem S8x512x512 .f32 := Memref.whole cc0_scratch0

theorem PhiA_eq (c : Dev nD) : (ΦA spec0 c : sProp 𝕄) = iprop((∃ d, owns (c : Thread nD τ) scM fullShare d) ∗ (∃ r, prngReg c r)) := by
  unfold ΦA; rw [scopedRest0_eq]; simp only [scM, owns_whole]; try rfl

/-- What holds between points. -/
def keep (c : Dev nD) (n : ℕ) : sProp 𝕄 :=
  iprop((∃ g, ⌜Upto m c n g⌝ ∗ owns (c : Thread nD τ) scM fullShare g) ∗ (∃ r, prngReg c r))

/-- The proof data of the one pipeline. -/
def dats (_ : Fin 1) (c : Dev nD) : Dat τ (Elt F) Unit ℕ (UR sig nD τ) ℕ cfg0 c where
  A w := V m c (arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay1 (at0 m c t) (at1 m c t) (at2 m c t) (at3 m c t)
    | ⟨9, _⟩ => rows (xs m c t) (at4 m c t) (at5 m c t) (at6 m c t)
    | ⟨10, _⟩ => logits (xs m c t) (at4 m c t) (at5 m c t) (at6 m c t) (at7 m c t)
  Φ t := keep m c t.val
  q _ := fullShare
  owed _ := 0

theorem A_eq (c : Dev nD) (w : Fin cfg0.W) : (dats m 0 c).A w = V m c (arrRef spec0 w) := by dsimp only [dats]
theorem after_0 (c : Dev nD) (t : Fin cfg0.N) : (dats m 0 c).after 0 t = at0 m c t := by dsimp only [dats]
theorem after_1 (c : Dev nD) (t : Fin cfg0.N) : (dats m 0 c).after 1 t = at1 m c t := by dsimp only [dats]
theorem after_2 (c : Dev nD) (t : Fin cfg0.N) : (dats m 0 c).after 2 t = at2 m c t := by dsimp only [dats]
theorem after_3 (c : Dev nD) (t : Fin cfg0.N) : (dats m 0 c).after 3 t = at3 m c t := by dsimp only [dats]
theorem after_4 (c : Dev nD) (t : Fin cfg0.N) : (dats m 0 c).after 4 t = at4 m c t := by dsimp only [dats]
theorem after_5 (c : Dev nD) (t : Fin cfg0.N) : (dats m 0 c).after 5 t = at5 m c t := by dsimp only [dats]
theorem after_6 (c : Dev nD) (t : Fin cfg0.N) : (dats m 0 c).after 6 t = at6 m c t := by dsimp only [dats]
theorem after_7 (c : Dev nD) (t : Fin cfg0.N) : (dats m 0 c).after 7 t = at7 m c t := by dsimp only [dats]
theorem after_8 (c : Dev nD) (t : Fin cfg0.N) : (dats m 0 c).after 8 t = k0_pay1 (at0 m c t) (at1 m c t) (at2 m c t) (at3 m c t) := by dsimp only [dats]
theorem after_9 (c : Dev nD) (t : Fin cfg0.N) : (dats m 0 c).after 9 t = rows (xs m c t) (at4 m c t) (at5 m c t) (at6 m c t) := by dsimp only [dats]
theorem after_10 (c : Dev nD) (t : Fin cfg0.N) : (dats m 0 c).after 10 t = logits (xs m c t) (at4 m c t) (at5 m c t) (at6 m c t) (at7 m c t) := by dsimp only [dats]

theorem before_0 (c : Dev nD) (t : Fin cfg0.N) (d) : (dats m 0 c).before 0 t d = at0 m c t :=
  ((dats m 0 c).before_in_eq_fetched 0 rfl (fun _ => rfl) (fun _ _ _ => rfl)
    (fun t => by rw [after_0]; unfold Dat.blockOf at0 iblk; rw [A_eq]; try rfl) t d).trans
    (by unfold Dat.fetched Dat.blockOf at0 iblk; rw [A_eq]; try rfl)
theorem before_1 (c : Dev nD) (t : Fin cfg0.N) (d) : (dats m 0 c).before 1 t d = at1 m c t :=
  ((dats m 0 c).before_in_eq_fetched 1 rfl (fun _ => rfl) (fun _ _ _ => rfl)
    (fun t => by rw [after_1]; unfold Dat.blockOf at1 iblk; rw [A_eq]; try rfl) t d).trans
    (by unfold Dat.fetched Dat.blockOf at1 iblk; rw [A_eq]; try rfl)
theorem before_2 (c : Dev nD) (t : Fin cfg0.N) (d) : (dats m 0 c).before 2 t d = at2 m c t :=
  ((dats m 0 c).before_in_eq_fetched 2 rfl (fun _ => rfl) (fun _ _ _ => rfl)
    (fun t => by rw [after_2]; unfold Dat.blockOf at2 iblk; rw [A_eq]; try rfl) t d).trans
    (by unfold Dat.fetched Dat.blockOf at2 iblk; rw [A_eq]; try rfl)
theorem before_3 (c : Dev nD) (t : Fin cfg0.N) (d) : (dats m 0 c).before 3 t d = at3 m c t :=
  ((dats m 0 c).before_in_eq_fetched 3 rfl (fun _ => rfl) (fun _ _ _ => rfl)
    (fun t => by rw [after_3]; unfold Dat.blockOf at3 iblk; rw [A_eq]; try rfl) t d).trans
    (by unfold Dat.fetched Dat.blockOf at3 iblk; rw [A_eq]; try rfl)
theorem before_4 (c : Dev nD) (t : Fin cfg0.N) (d) : (dats m 0 c).before 4 t d = at4 m c t :=
  ((dats m 0 c).before_in_eq_fetched 4 rfl (fun _ => rfl) (fun _ _ _ => rfl)
    (fun t => by rw [after_4]; unfold Dat.blockOf at4 iblk; rw [A_eq]; try rfl) t d).trans
    (by unfold Dat.fetched Dat.blockOf at4 iblk; rw [A_eq]; try rfl)
theorem before_5 (c : Dev nD) (t : Fin cfg0.N) (d) : (dats m 0 c).before 5 t d = at5 m c t :=
  ((dats m 0 c).before_in_eq_fetched 5 rfl (fun _ => rfl) (fun _ _ _ => rfl)
    (fun t => by rw [after_5]; unfold Dat.blockOf at5 iblk; rw [A_eq]; try rfl) t d).trans
    (by unfold Dat.fetched Dat.blockOf at5 iblk; rw [A_eq]; try rfl)
theorem before_6 (c : Dev nD) (t : Fin cfg0.N) (d) : (dats m 0 c).before 6 t d = at6 m c t :=
  ((dats m 0 c).before_in_eq_fetched 6 rfl (fun _ => rfl) (fun _ _ _ => rfl)
    (fun t => by rw [after_6]; unfold Dat.blockOf at6 iblk; rw [A_eq]; try rfl) t d).trans
    (by unfold Dat.fetched Dat.blockOf at6 iblk; rw [A_eq]; try rfl)
theorem before_7 (c : Dev nD) (t : Fin cfg0.N) (d) : (dats m 0 c).before 7 t d = at7 m c t :=
  ((dats m 0 c).before_in_eq_fetched 7 rfl (fun _ => rfl) (fun _ _ _ => rfl)
    (fun t => by rw [after_7]; unfold Dat.blockOf at7 iblk; rw [A_eq]; try rfl) t d).trans
    (by unfold Dat.fetched Dat.blockOf at7 iblk; rw [A_eq]; try rfl)

/-! The staging buffers at a point. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x4096 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x128 .f32 := win0_10.stage (cfg0.slots t 10)
abbrev hs10 (t : Fin cfg0.N) : (ms10 t).IsWhole := hstage0_10 ((cfg0.slots t 10).cast nbuf0_10)

/-- How a point leaves window 9: as it found it, but for the last point of a row tile. -/
def left9 (c : Dev nD) (t : Fin cfg0.N) : sProp 𝕄 :=
  match cfg0.idle 9 (cfg0.grid.coords t) with
  | true =>
    match (cfg0.win 9).flush t with
    | false => iprop(∃ d, owns (c : Thread nD τ) (ms9 t) fullShare ((dats m 0 c).before 9 t d))
    | true => owns (c : Thread nD τ) (ms9 t) fullShare ((dats m 0 c).after 9 t)
  | false => owns (c : Thread nD τ) (ms9 t) fullShare ((dats m 0 c).after 9 t)

theorem left9_last (c : Dev nD) (t : Fin cfg0.N) (h : t.val % 8 = 7) : left9 m c t = owns (c : Thread nD τ) (ms9 t) fullShare ((dats m 0 c).after 9 t) := by
  have e : cfg0.idle 9 (cfg0.grid.coords t) = false := by
    show (!(k0_cond1 (grid0.coords t) == 1#1)) = false
    rw [show k0_cond1 (grid0.coords t) = 1#1 from (last_iff t).2 h]; rfl
  unfold left9
  rw [e]

theorem left9_mid (c : Dev nD) (t : Fin cfg0.N) (h : ¬ t.val % 8 = 7) :
    left9 m c t = iprop(∃ d, owns (c : Thread nD τ) (ms9 t) fullShare ((dats m 0 c).before 9 t d)) := by
  have e : cfg0.idle 9 (cfg0.grid.coords t) = true := by
    show (!(k0_cond1 (grid0.coords t) == 1#1)) = true
    rw [Bool.not_eq_true', beq_eq_false_iff_ne]
    exact fun hl => h ((last_iff t).1 hl)
  have e' : (cfg0.win 9).flush t = false := by
    rw [Bool.eq_false_iff]
    exact fun hf => h ((flush0_9 t).1 hf)
  unfold left9
  rw [e, e']

/-- How a point leaves window 10: as it found it, but for the last point of a row tile. -/
def left10 (c : Dev nD) (t : Fin cfg0.N) : sProp 𝕄 :=
  match cfg0.idle 10 (cfg0.grid.coords t) with
  | true =>
    match (cfg0.win 10).flush t with
    | false => iprop(∃ d, owns (c : Thread nD τ) (ms10 t) fullShare ((dats m 0 c).before 10 t d))
    | true => owns (c : Thread nD τ) (ms10 t) fullShare ((dats m 0 c).after 10 t)
  | false => owns (c : Thread nD τ) (ms10 t) fullShare ((dats m 0 c).after 10 t)

theorem left10_last (c : Dev nD) (t : Fin cfg0.N) (h : t.val % 8 = 7) : left10 m c t = owns (c : Thread nD τ) (ms10 t) fullShare ((dats m 0 c).after 10 t) := by
  have e : cfg0.idle 10 (cfg0.grid.coords t) = false := by
    show (!(k0_cond1 (grid0.coords t) == 1#1)) = false
    rw [show k0_cond1 (grid0.coords t) = 1#1 from (last_iff t).2 h]; rfl
  unfold left10
  rw [e]

theorem left10_mid (c : Dev nD) (t : Fin cfg0.N) (h : ¬ t.val % 8 = 7) :
    left10 m c t = iprop(∃ d, owns (c : Thread nD τ) (ms10 t) fullShare ((dats m 0 c).before 10 t d)) := by
  have e : cfg0.idle 10 (cfg0.grid.coords t) = true := by
    show (!(k0_cond1 (grid0.coords t) == 1#1)) = true
    rw [Bool.not_eq_true', beq_eq_false_iff_ne]
    exact fun hl => h ((last_iff t).1 hl)
  have e' : (cfg0.win 10).flush t = false := by
    rw [Bool.eq_false_iff]
    exact fun hf => h ((flush0_10 t).1 hf)
  unfold left10
  rw [e, e']

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ left9 m c t
    ∗ left10 m c t)

set_option maxHeartbeats 1600000 in
/-- One grid point: the body leaves the point's blocks, and its slot of the scratch filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  rw [show (dats m 0 c).Φ t.succ = keep m c (t.val + 1) from rfl, show (dats m 0 c).Φ t.castSucc = keep m c t.val from rfl]
  unfold keep
  by_cases h0 : t.val % 8 = 7
  · rw [left9_last m c t h0, left10_last m c t h0, after_9, after_10]
    iintro ⟨⟨⟨%g, %hg, HS⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, -, H8⟩
    icases H9 with ⟨%f9, -, H9⟩
    icases H10 with ⟨%f10, -, H10⟩
    icases HS with ⟨%fS, %eS, HS⟩
    obtain rfl := (hs0 t).eq_unread e0
    obtain rfl := (hs1 t).eq_unread e1
    obtain rfl := (hs2 t).eq_unread e2
    obtain rfl := (hs3 t).eq_unread e3
    obtain rfl := (hs4 t).eq_unread e4
    obtain rfl := (hs5 t).eq_unread e5
    obtain rfl := (hs6 t).eq_unread e6
    obtain rfl := (hs7 t).eq_unread e7
    obtain rfl := (Memref.isWhole_whole cc0_scratch0).eq_unread eS
    iapply (wp_wand_r frame (wpE (defs₀ (F := F)) Variants.none c none) Set.univ)
    isplitl [H0 H1 H2 H3 H4 H5 H6 H7 H8 H9 H10 HS]
    · iapply (run_last g (at4 m c t) (at5 m c t) (at6 m c t) (at7 m c t) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (at0 m c t) (at1 m c t) (at2 m c t) (at3 m c t) f8 f9 f10 ((last_iff t).2 h0))
      unfold ins
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      isplitl [H10]; · iexact H10
      iexact HS
    unfold ins
    iintro %_ ⟨⟨H0, H1, H2, H3, H4, H5, H6, H7⟩, ⟨%f, %ef, H8⟩, ⟨%f', %ef', H9⟩, ⟨%f'', %ef'', H10⟩, HS⟩
    isplitl [HS Hg]
    · isplitl [HS]
      · iexists _; isplitr
        · ipureintro; exact upto_succ m c t g hg
        iexists _; isplitr
        swap; · iexact HS
        ipureintro; exact (Memref.isWhole_whole cc0_scratch0).read_unread _
      iexact Hg
    isplitl [HW]; · iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    isplitl [H7]
    · iexists _; isplitr
      swap; · iexact H7
      ipureintro; exact e7
    isplitl [H8]
    · iexists _; isplitr
      swap; · iexact H8
      ipureintro; exact ef
    isplitl [H9]
    · iexists _; isplitr
      swap; · iexact H9
      ipureintro; exact ef'.trans (congrArg (fun G => rows G (at4 m c t) (at5 m c t) (at6 m c t)) (put_last m c t g hg h0))
    iexists _; isplitr
    swap; · iexact H10
    ipureintro; exact ef''.trans (congrArg (fun G => logits G (at4 m c t) (at5 m c t) (at6 m c t) (at7 m c t)) (put_last m c t g hg h0))
  · rw [left9_mid m c t h0, left10_mid m c t h0]
    iintro ⟨⟨⟨%g, %hg, HS⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, -, H8⟩
    icases HS with ⟨%fS, %eS, HS⟩
    obtain rfl := (hs0 t).eq_unread e0
    obtain rfl := (hs1 t).eq_unread e1
    obtain rfl := (hs2 t).eq_unread e2
    obtain rfl := (hs3 t).eq_unread e3
    obtain rfl := (hs4 t).eq_unread e4
    obtain rfl := (hs5 t).eq_unread e5
    obtain rfl := (hs6 t).eq_unread e6
    obtain rfl := (hs7 t).eq_unread e7
    obtain rfl := (Memref.isWhole_whole cc0_scratch0).eq_unread eS
    iapply (wp_wand_r frame (wpE (defs₀ (F := F)) Variants.none c none) Set.univ)
    isplitl [H0 H1 H2 H3 H4 H5 H6 H7 H8 HS]
    · iapply (run_mid g (at4 m c t) (at5 m c t) (at6 m c t) (at7 m c t) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (at0 m c t) (at1 m c t) (at2 m c t) (at3 m c t) f8 (fun h => h0 ((last_iff t).1 h)))
      unfold ins
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      iexact HS
    unfold ins
    iintro %_ ⟨⟨H0, H1, H2, H3, H4, H5, H6, H7⟩, ⟨%f, %ef, H8⟩, HS⟩
    isplitl [HS Hg]
    · isplitl [HS]
      · iexists _; isplitr
        · ipureintro; exact upto_succ m c t g hg
        iexists _; isplitr
        swap; · iexact HS
        ipureintro; exact (Memref.isWhole_whole cc0_scratch0).read_unread _
      iexact Hg
    isplitl [HW]; · iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    isplitl [H7]
    · iexists _; isplitr
      swap; · iexact H7
      ipureintro; exact e7
    isplitl [H8]
    · iexists _; isplitr
      swap; · iexact H8
      ipureintro; exact ef
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem upto_zero (c : Dev nD) (n : ℕ) (h : n % 8 = 0) (g : S8x512x512.Idx → Elt F .f32) : Upto m c n g := fun y _ hy _ => by
  omega

theorem hin (c : Dev nD) : ΦA spec0 c ⊢ (dats m 0 c).Φ 0 := by
  rw [show (dats m 0 c).Φ 0 = keep m c 0 from rfl, PhiA_eq]
  unfold keep
  iintro ⟨⟨%g, HS⟩, Hg⟩
  isplitl [HS]
  · iexists g; isplitr
    · ipureintro; exact upto_zero m c 0 rfl g
    iexact HS
  iexact Hg

theorem hout (c : Dev nD) : (dats m 0 c).Φ (Fin.last cfg0.N) ⊢ ΦA spec0 c := by
  rw [show (dats m 0 c).Φ (Fin.last cfg0.N) = keep m c cfg0.N from rfl, PhiA_eq]
  unfold keep
  iintro ⟨⟨%g, %_, HS⟩, Hg⟩
  isplitl [HS]
  · iexists g; iexact HS
  iexact Hg

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : HMain (Ix := Unit) (Name := ℕ) (U := UR sig nD τ) (Lvl := ℕ) cfgs 0 defs₀ 𝒱₀ m (main (F := F)) (V m) :=
  hmain_prefixes cfgs 0 defs₀ 𝒱₀ m main [hostOps0, hostOps0_1, hostOps0_2] ⟨hostOps0_sub, hostOps0_1_sub, hostOps0_2_sub⟩
    ⟨hostOps0_fresh, hostOps0_1_fresh, hostOps0_2_fresh⟩ main_chain

set_option backward.isDefEq.respectTransparency.types false in
theorem run_main : θ_run defs (onTc (τ := τ) (main (F := F))) (s₀ m ρ) (fun r => FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: the logits are what the blocks leave in them, and the arguments are kept. -/
theorem run : θ_run defs (onTc (τ := τ) (main (F := F))) ⟨m, fun _ => 0, ρ⟩ (fun r => (∀ c : Dev nD,
        r.2.mem ((c.tc : Thread nD τ).loc main_v5_2) = (dats m 0 c).arrAt 10 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0) :=
  (θ_run defs _ _).mono (fun _ w => ⟨fun c => have h := w.1; ⟨(h c).1 10,
        ((h c).2 main_arg0 (mem_restRefs_of main_arg0 (by decide) (by decide))).trans (V_arg0 m c),
        ((h c).2 main_arg1 (mem_restRefs_of main_arg1 (by decide) (by decide))).trans (V_arg1 m c),
        ((h c).1 3).trans (((dats m 0 c).arrAt_in 3 rfl _).trans ((A_eq m c 3).trans (V_arg2 m c))),
        ((h c).2 main_arg3 (mem_restRefs_of main_arg3 (by decide) (by decide))).trans (V_arg3 m c),
        ((h c).1 5).trans (((dats m 0 c).arrAt_in 5 rfl _).trans ((A_eq m c 5).trans (V_arg4 m c))),
        ((h c).1 6).trans (((dats m 0 c).arrAt_in 6 rfl _).trans ((A_eq m c 6).trans (V_arg5 m c))),
        ((h c).2 main_arg6 (mem_restRefs_of main_arg6 (by decide) (by decide))).trans (V_arg6 m c),
        ((h c).2 main_arg7 (mem_restRefs_of main_arg7 (by decide) (by decide))).trans (V_arg7 m c)⟩, w.2⟩) (run_main m ρ)

end Cert.Kernel9Ideal.Logits

end
-- ==== Proof.LogitsFinite.lean ====
module

public import Idealize.ShloMosaic.PureOps.Ideal
public import Idealize.ShloMosaic.Lib.IdealHost
public import Mathlib.Algebra.BigOperators.Fin

@[expose] public section

noncomputable section

/-! # Finite entries

Sums, products and the normalising factor of finite entries are finite; the rest that a finite entry leaves when its own
value is taken away is zero. -/

namespace Cert.Finite

open Idealize.ShloMosaic

/-- The entry is a real number. -/
def Real' (x : EReal) : Prop := ∃ r : ℝ, x = (r : EReal)

theorem zero : Real' 0 := ⟨0, EReal.coe_zero.symm⟩
theorem one : Real' 1 := ⟨1, EReal.coe_one.symm⟩

theorem add {x y : EReal} (hx : Real' x) (hy : Real' y) : Real' (x + y) := by
  obtain ⟨a, rfl⟩ := hx; obtain ⟨b, rfl⟩ := hy
  exact ⟨a + b, (EReal.coe_add a b).symm⟩

theorem mul {x y : EReal} (hx : Real' x) (hy : Real' y) : Real' (x * y) := by
  obtain ⟨a, rfl⟩ := hx; obtain ⟨b, rfl⟩ := hy
  exact ⟨a * b, (EReal.coe_mul a b).symm⟩

theorem sum {ι : Type} (s : Finset ι) (f : ι → EReal) (h : ∀ i, Real' (f i)) : Real' (∑ i ∈ s, f i) := by
  classical
  induction s using Finset.induction_on with
  | empty => rw [Finset.sum_empty]; exact zero
  | insert a s ha ih => rw [Finset.sum_insert ha]; exact add (h a) ih

/-- A sum of squares is a real number, not below zero. -/
theorem sum_sq {ι : Type} (s : Finset ι) (f : ι → EReal) (h : ∀ i, Real' (f i)) : ∃ r : ℝ, 0 ≤ r ∧ ∑ i ∈ s, f i * f i = (r : EReal) := by
  classical
  induction s using Finset.induction_on with
  | empty => exact ⟨0, le_refl _, by rw [Finset.sum_empty, EReal.coe_zero]⟩
  | insert a s ha ih =>
    obtain ⟨r, h0, e⟩ := ih
    obtain ⟨x, ex⟩ := h a
    refine ⟨x * x + r, add_nonneg (mul_self_nonneg x) h0, ?_⟩
    rw [Finset.sum_insert ha, e, ex, EReal.coe_add, EReal.coe_mul]

theorem sub_self {x : EReal} (hx : Real' x) : x - x = 0 := by
  obtain ⟨a, rfl⟩ := hx
  rw [← EReal.coe_sub, _root_.sub_self, EReal.coe_zero]

theorem width : Ideal.ofBits .f32 0x45800000#32 = ((4096 : ℝ) : EReal) := by
  simp [Ideal.ofBits, Ideal.ieee, -EReal.coe_mul]; norm_num

theorem eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The normalising factor of a finite row is finite. -/
theorem factor {ι : Type} (s : Finset ι) (f : ι → EReal) (h : ∀ i, Real' (f i)) :
    Real' (Ideal.rsqrt (Ideal.div (∑ i ∈ s, f i * f i) (Ideal.ofBits .f32 0x45800000#32) + Ideal.ofBits .f32 0x358637BD#32)) := by
  obtain ⟨r, h0, e⟩ := sum_sq s f h
  obtain ⟨p, hp, ep⟩ := eps
  have hd : Ideal.div (r : EReal) ((4096 : ℝ) : EReal) = ((r * (4096 : ℝ)⁻¹ : ℝ) : EReal) := by
    unfold Ideal.div
    rw [if_neg (fun h => by rw [EReal.coe_eq_zero] at h; norm_num at h), EReal.coe_mul, EReal.coe_inv]
  have hq : 0 < r * (4096 : ℝ)⁻¹ + p := by positivity
  rw [e, width, ep, hd, ← EReal.coe_add, Ideal.rsqrt_coe, if_neg (not_lt.2 hq.le), if_neg hq.ne']
  exact ⟨_, rfl⟩

/-- An entry whose magnitude is below infinity is a real number. -/
theorem of_abs {x : EReal} (h : Ideal.cmp .olt (max x (-x)) (Ideal.ofBits .f32 0x7F800000#32) = 1#1) : Real' x := by
  have ht : Ideal.ofBits .f32 0x7F800000#32 = ⊤ := by simp [Ideal.ofBits, Ideal.ieee]
  rw [ht] at h
  induction x using EReal.rec with
  | bot => exact absurd h (by simp [Ideal.cmp])
  | coe r => exact ⟨r, rfl⟩
  | top => exact absurd h (by simp [Ideal.cmp])

end Cert.Finite

end
-- ==== Proof.LogitsRows.lean ====
module

public import proofs.«01_k».proof.Proof.LogitsBody
public import proofs.«01_k».proof.Proof.Rows
public import proofs.«01_k».proof.Proof.LogitsFinite
public import Idealize.ShloMosaic.Lib.MatmulPlain
public import Mathlib.Algebra.BigOperators.Fin

@[expose] public section

set_option maxRecDepth 16384

noncomputable section

/-! # The logits that a row tile's last point leaves

The eight slots of the scratch hold a row's 4096 entries, 512 to a slot. The last point normalises and modulates them slot by
slot, and adds up the slots' products with the router's weights: over finite entries, the whole row's product. -/

namespace Cert.Kernel9Ideal.Logits

open Cert.Kernel9Ideal Cert.Kernel9Ideal.Gen
open Idealize.ShloMosaic Idealize.ShloMosaic.TcCoe Idealize.ShloMosaic.Tactic Idealize.ShloMosaic.ValueIdx
open Cert.Whole

/-- One entry of a normalised row: the row, the column, and the weight, shift and scale there. -/
def norm (x : Fin 4096 → EReal) (k : Fin 4096) (g sh sc : EReal) : EReal :=
  ((x k * Ideal.rsqrt (Ideal.div (∑ j : Fin 4096, x j * x j) (Ideal.ofBits .f32 0x45800000#32) + Ideal.ofBits .f32 0x358637BD#32)) * g)
    * (Ideal.ofBits .f32 0x3F800000#32 + sc) + sh

/-! ## A point's block -/

theorem pay1_apply (a : S512x4096.Idx → Elt Ideal .bf16) (w : S4096x512.Idx → Elt Ideal .bf16) (x : S512x512.Idx → Elt Ideal .f32)
    (g : S1x1x512.Idx → Elt Ideal .f32) (r k : Fin 512) :
    k0_pay1 (F := Ideal) a w x g (ix2 r k) = x (ix2 r k) + g (ix3 (0 : Fin 1) (0 : Fin 1) k) * ∑ c : Fin 4096, a (ix2 r c) * w (ix2 c k) := by
  unfold k0_pay1
  refine congrArg₂ (· + ·) (shapeCast_apply x _ _ _ rfl) (congrArg₂ (· * ·) ?_ ?_)
  · refine (broadcastTo_1b_ab_apply _ _ r k).trans (shapeCast_apply g _ _ _ ?_)
    rw [Shape.rowMajor_val_three, Shape.rowMajor_val_two]
    show (0 * 1 + 0) * 512 + k.val = 0 * 512 + k.val
    omega
  · refine (Ideal.matmul_plain_apply (M := 512) (K := 4096) (N := 512) (φ₁ := .bf16) (φ₂ := .bf16) none _ _ _ r k).trans ?_
    show Ideal.ofBits .f32 0x00000000#32 + _ = _
    rw [Ideal.ofBits_zero_f32, zero_add]
    exact Finset.sum_congr rfl fun c _ => congrArg₂ (· * ·) (shapeCast_apply a _ _ _ rfl) (shapeCast_apply w _ _ _ rfl)

theorem pay2_apply (a : S512x4096.Idx → Elt Ideal .bf16) (w : S4096x512.Idx → Elt Ideal .bf16) (x : S512x512.Idx → Elt Ideal .f32)
    (g : S1x1x512.Idx → Elt Ideal .f32) (r k : Fin 512) :
    k0_pay2 (F := Ideal) a w x g (ix3 (0 : Fin 1) r k) = x (ix2 r k) + g (ix3 (0 : Fin 1) (0 : Fin 1) k) * ∑ c : Fin 4096, a (ix2 r c) * w (ix2 c k) := by
  unfold k0_pay2
  refine (shapeCast_apply _ _ _ (ix2 r k) ?_).trans (pay1_apply a w x g r k)
  rw [Shape.rowMajor_val_three, Shape.rowMajor_val_two]
  show r.val * 512 + k.val = (0 * 512 + r.val) * 512 + k.val
  omega

/-! ## A row of the scratch -/

/-- One row over the eight slots. -/
def rowOf (g : S8x512x512.Idx → Elt Ideal .f32) (r : Fin 512) (k : Fin 4096) : EReal :=
  g (ix3 (⟨k.val / 512, by have := k.isLt; omega⟩ : Fin 8) r (⟨k.val % 512, by omega⟩ : Fin 512))

theorem rowOf_at (g : S8x512x512.Idx → Elt Ideal .f32) (r : Fin 512) (k : Fin 4096) (q : Fin 8) (l : Fin 512) (h : k.val = q.val * 512 + l.val) :
    rowOf g r k = g (ix3 q r l) := by
  have hl := l.isLt
  unfold rowOf
  rw [show (⟨k.val / 512, by have := k.isLt; omega⟩ : Fin 8) = q from Fin.ext (by show k.val / 512 = q.val; omega),
    show (⟨k.val % 512, by omega⟩ : Fin 512) = l from Fin.ext (by show k.val % 512 = l.val; omega)]

theorem slot_apply (g : S8x512x512.Idx → Elt Ideal .f32) (q : Fin 8) (h : ∀ a, (![q.val, 0, 0] : Fin 3 → Nat) a + S1x512x512.size a ≤ S8x512x512.size a) (r l : Fin 512) :
    shapeCast S512x512 (slot (F := Ideal) g ![q.val, 0, 0] h) shapeCasts_S1x512x512_S512x512 (ix2 r l) = g (ix3 q r l) := by
  refine (shapeCast_apply _ _ _ (ix3 (0 : Fin 1) r l) ?_).trans (View.ld_unit_apply_of g _ _ h (ix3 (0 : Fin 1) r l) (ix3 q r l) fun a => ?_)
  · rw [Shape.rowMajor_val_three, Shape.rowMajor_val_two]
    show (0 * 512 + r.val) * 512 + l.val = r.val * 512 + l.val
    omega
  · match a with
    | ⟨0, _⟩ => rfl
    | ⟨1, _⟩ => show r.val = 0 + r.val; omega
    | ⟨2, _⟩ => show l.val = 0 + l.val; omega

theorem sq_apply (g : S8x512x512.Idx → Elt Ideal .f32) (q : Fin 8) (h : ∀ a, (![q.val, 0, 0] : Fin 3 → Nat) a + S1x512x512.size a ≤ S8x512x512.size a) (r : Fin 512) :
    sq (F := Ideal) (slot (F := Ideal) g ![q.val, 0, 0] h) (ix2 r (0 : Fin 1)) = ∑ l : Fin 512, g (ix3 q r l) * g (ix3 q r l) := by
  unfold sq
  exact (Rows.sum_apply _ _ _ _ _ r).trans (Finset.sum_congr rfl fun l _ => congrArg₂ (· * ·) (slot_apply g q h r l) (slot_apply g q h r l))

/-- The eight slots' sums are the whole row's. -/
theorem sum_row (g : S8x512x512.Idx → Elt Ideal .f32) (r : Fin 512) :
    ∑ k : Fin 4096, rowOf g r k * rowOf g r k = ∑ q : Fin 8, ∑ l : Fin 512, g (ix3 q r l) * g (ix3 q r l) := by
  rw [← Fintype.sum_prod_type', ← Equiv.sum_comp (finProdFinEquiv (m := 8) (n := 512))]
  refine Finset.sum_congr rfl fun p _ => ?_
  have e : (finProdFinEquiv (m := 8) (n := 512) p).val = p.1.val * 512 + p.2.val := by
    show p.2.val + 512 * p.1.val = _
    omega
  exact congrArg₂ (· * ·) (rowOf_at g r _ p.1 p.2 e) (rowOf_at g r _ p.1 p.2 e)

theorem inv_apply (g : S8x512x512.Idx → Elt Ideal .f32) (r : Fin 512) :
    inv (F := Ideal) g (ix2 r (0 : Fin 1)) = Ideal.rsqrt (Ideal.div (∑ k : Fin 4096, rowOf g r k * rowOf g r k) (Ideal.ofBits .f32 0x45800000#32) + Ideal.ofBits .f32 0x358637BD#32) := by
  have e0 := sq_apply g 0 inb_S8x512x512_S1x512x512_0_0_0 r
  have e1 := sq_apply g 1 inb_S8x512x512_S1x512x512_1_0_0 r
  have e2 := sq_apply g 2 inb_S8x512x512_S1x512x512_2_0_0 r
  have e3 := sq_apply g 3 inb_S8x512x512_S1x512x512_3_0_0 r
  have e4 := sq_apply g 4 inb_S8x512x512_S1x512x512_4_0_0 r
  have e5 := sq_apply g 5 inb_S8x512x512_S1x512x512_5_0_0 r
  have e6 := sq_apply g 6 inb_S8x512x512_S1x512x512_6_0_0 r
  have e7 := sq_apply g 7 inb_S8x512x512_S1x512x512_7_0_0 r
  have z : broadcast S512x1 (FloatOps.ofBits (F := Ideal) .f32 0x00000000#32) (ix2 r (0 : Fin 1)) = (0 : EReal) := Ideal.ofBits_zero_f32
  rw [sum_row, Fin.sum_univ_eight]
  unfold inv
  refine congrArg Ideal.rsqrt (congrArg (· + Ideal.ofBits .f32 0x358637BD#32) (congrArg (Ideal.div · (Ideal.ofBits .f32 0x45800000#32)) ?_))
  exact (congrArg₂ (· + ·) (congrArg₂ (· + ·) (congrArg₂ (· + ·) (congrArg₂ (· + ·) (congrArg₂ (· + ·) (congrArg₂ (· + ·) (congrArg₂ (· + ·) ((congrArg₂ (· + ·) z e0).trans (zero_add _)) e1) e2) e3) e4) e5) e6) e7)

/-! ## The modulated rows -/

theorem ng_apply (ng : S1x4096.Idx → Elt Ideal .f32) (o : Nat) (h : ∀ a, (![0, o] : Fin 2 → Nat) a + S1x512.size a ≤ S1x4096.size a) (l : Fin 512) (k : Fin 4096)
    (hk : k.val = o + l.val) :
    shapeCast S1x512 (View.ld (S := S1x4096) ng (Rect.unit (s := S1x4096) ![0, o] S1x512.size h)) shapeCasts_S1x512_S1x512 (ix2 (0 : Fin 1) l) = ng (ix2 (0 : Fin 1) k) := by
  refine (shapeCast_apply _ _ _ (ix2 (0 : Fin 1) l) rfl).trans (View.ld_unit_apply_of ng _ _ h (ix2 (0 : Fin 1) l) (ix2 (0 : Fin 1) k) fun a => ?_)
  match a with
  | ⟨0, _⟩ => rfl
  | ⟨1, _⟩ => exact hk

theorem mod_apply (v : S1x1x4096.Idx → Elt Ideal .f32) (o : Nat) (h : ∀ a, (![0, 0, o] : Fin 3 → Nat) a + S1x1x512.size a ≤ S1x1x4096.size a) (l : Fin 512) (k : Fin 4096)
    (hk : k.val = o + l.val) :
    shapeCast S1x512 (View.ld (S := S1x1x4096) v (Rect.unit (s := S1x1x4096) ![0, 0, o] S1x1x512.size h)) shapeCasts_S1x1x512_S1x512 (ix2 (0 : Fin 1) l)
      = v (ix3 (0 : Fin 1) (0 : Fin 1) k) := by
  refine (shapeCast_apply _ _ _ (ix3 (0 : Fin 1) (0 : Fin 1) l) ?_).trans (View.ld_unit_apply_of v _ _ h (ix3 (0 : Fin 1) (0 : Fin 1) l) (ix3 (0 : Fin 1) (0 : Fin 1) k) fun a => ?_)
  · rw [Shape.rowMajor_val_three, Shape.rowMajor_val_two]
    show (0 * 1 + 0) * 512 + l.val = 0 * 512 + l.val
    omega
  · match a with
    | ⟨0, _⟩ => rfl
    | ⟨1, _⟩ => rfl
    | ⟨2, _⟩ => exact hk

/-- One entry of a slot's modulated rows. -/
theorem hj_apply (g : S8x512x512.Idx → Elt Ideal .f32) (ng : S1x4096.Idx → Elt Ideal .f32) (sh sc : S1x1x4096.Idx → Elt Ideal .f32) (q : Fin 8) (o : Nat) (ho : o = q.val * 512)
    (hg : ∀ a, (![q.val, 0, 0] : Fin 3 → Nat) a + S1x512x512.size a ≤ S8x512x512.size a) (hn : ∀ a, (![0, o] : Fin 2 → Nat) a + S1x512.size a ≤ S1x4096.size a)
    (hm : ∀ a, (![0, 0, o] : Fin 3 → Nat) a + S1x1x512.size a ≤ S1x1x4096.size a) (r l : Fin 512) (k : Fin 4096) (hk : k.val = o + l.val) :
    hj (F := Ideal) (inv g) (slot g ![q.val, 0, 0] hg) (View.ld ng (Rect.unit (s := S1x4096) ![0, o] S1x512.size hn))
        (View.ld sc (Rect.unit (s := S1x1x4096) ![0, 0, o] S1x1x512.size hm)) (View.ld sh (Rect.unit (s := S1x1x4096) ![0, 0, o] S1x1x512.size hm)) (ix2 r l)
      = norm (rowOf g r) k (ng (ix2 (0 : Fin 1) k)) (sh (ix3 (0 : Fin 1) (0 : Fin 1) k)) (sc (ix3 (0 : Fin 1) (0 : Fin 1) k)) := by
  unfold hj norm
  refine congrArg₂ (· + ·) (congrArg₂ (· * ·) (congrArg₂ (· * ·) (congrArg₂ (· * ·) ?_ ?_) ?_) ?_) ?_
  · exact (slot_apply g q hg r l).trans (rowOf_at g r k q l (by rw [hk, ho])).symm
  · exact (Rows.column_apply _ _ (by decide) r l).trans (inv_apply g r)
  · exact (broadcastTo_1b_ab_apply _ _ r l).trans (ng_apply ng o hn l k hk)
  · exact (broadcastTo_1b_ab_apply _ _ r l).trans (congrArg (Ideal.ofBits .f32 0x3F800000#32 + ·) (mod_apply sc o hm l k hk))
  · exact (broadcastTo_1b_ab_apply _ _ r l).trans (mod_apply sh o hm l k hk)

/-! ## The router's product -/

open Cert.Finite

/-- A normalised entry of a finite row is finite. -/
theorem norm_finite (x : Fin 4096 → EReal) (hx : ∀ k, Real' (x k)) (k : Fin 4096) (g sh sc : EReal) (hg : Real' g) (hsh : Real' sh) (hsc : Real' sc) :
    Real' (norm x k g sh sc) := by
  unfold norm
  rw [Ideal.ofBits_one_f32]
  exact add (mul (mul (mul (hx k) (factor _ x hx)) hg) (add one hsc)) hsh

/-- Over finite factors, a slot's share of the product is the plain one: the halves that the narrower format loses are zero. -/
theorem step_apply (acc : FVec Ideal S512x128 .f32) (h : FVec Ideal S512x512 .f32) (w : FVec Ideal S512x128 .f32) (r : Fin 512) (e : Fin 128)
    (hh : ∀ l : Fin 512, Real' (h (ix2 r l))) (hw : ∀ l : Fin 512, Real' (w (ix2 l e))) :
    step (F := Ideal) acc h w (ix2 r e) = acc (ix2 r e) + ∑ l : Fin 512, h (ix2 r l) * w (ix2 l e) := by
  have z : ∀ s : EReal, Ideal.ofBits .f32 0x00000000#32 + s = s := fun s => by rw [Ideal.ofBits_zero_f32, zero_add]
  have v : ∀ l : Fin 512, shapeCast S512x128 w shapeCasts_S512x128_S512x128 (ix2 l e) = w (ix2 l e) := fun l => shapeCast_apply w _ _ _ rfl
  unfold step
  refine (congrArg₂ (· + ·) (congrArg₂ (· + ·) rfl ?_) ((congrArg₂ (· + ·) ?_ ?_).trans (add_zero (0 : EReal)))).trans (add_zero _)
  · refine (Ideal.matmul_plain_apply (M := 512) (K := 512) (N := 128) (φ₁ := .bf16) (φ₂ := .bf16) none _ _ _ r e).trans ((z _).trans ?_)
    exact Finset.sum_congr rfl fun l _ => congrArg₂ (· * ·) rfl (v l)
  · refine (Ideal.matmul_plain_apply (M := 512) (K := 512) (N := 128) (φ₁ := .bf16) (φ₂ := .bf16) none _ _ _ r e).trans ((z _).trans ?_)
    refine Finset.sum_eq_zero fun l _ => ?_
    refine (congrArg₂ (· * ·) rfl (?_ : _ = (0 : EReal))).trans (mul_zero _)
    exact (congrArg₂ (fun a b : EReal => a - b) (v l) (v l)).trans (sub_self (hw l))
  · refine (Ideal.matmul_plain_apply (M := 512) (K := 512) (N := 128) (φ₁ := .bf16) (φ₂ := .bf16) none _ _ _ r e).trans ((z _).trans ?_)
    refine Finset.sum_eq_zero fun l _ => ?_
    refine (congrArg₂ (· * ·) (?_ : _ = (0 : EReal)) rfl).trans (zero_mul _)
    exact sub_self (hh l)

theorem wr_apply (wr : S4096x128.Idx → Elt Ideal .f32) (o : Nat) (h : ∀ a, (![o, 0] : Fin 2 → Nat) a + S512x128.size a ≤ S4096x128.size a) (l : Fin 512) (e : Fin 128) (k : Fin 4096)
    (hk : k.val = o + l.val) :
    View.ld (S := S4096x128) wr (Rect.unit (s := S4096x128) ![o, 0] S512x128.size h) (ix2 l e) = wr (ix2 k e) := by
  refine View.ld_unit_apply_of wr _ _ h (ix2 l e) (ix2 k e) fun a => ?_
  match a with
  | ⟨0, _⟩ => exact hk
  | ⟨1, _⟩ => show e.val = 0 + e.val; omega

section

variable (g : S8x512x512.Idx → Elt Ideal .f32) (ng : S1x4096.Idx → Elt Ideal .f32) (sh sc : S1x1x4096.Idx → Elt Ideal .f32) (wr : S4096x128.Idx → Elt Ideal .f32)
  (hg : ∀ y, Real' (g y)) (hn : ∀ y, Real' (ng y)) (hsh : ∀ y, Real' (sh y)) (hsc : ∀ y, Real' (sc y)) (hw : ∀ y, Real' (wr y))

/-- One entry of a modulated row. -/
def entry (r : Fin 512) (k : Fin 4096) : EReal :=
  norm (rowOf g r) k (ng (ix2 (0 : Fin 1) k)) (sh (ix3 (0 : Fin 1) (0 : Fin 1) k)) (sc (ix3 (0 : Fin 1) (0 : Fin 1) k))

include hg hn hsh hsc in
theorem entry_finite (r : Fin 512) (k : Fin 4096) : Real' (entry g ng sh sc r k) :=
  norm_finite _ (fun _ => hg _) k _ _ _ (hn _) (hsh _) (hsc _)

/-- The column of a slot. -/
def col (q : Fin 8) (l : Fin 512) : Fin 4096 := ⟨q.val * 512 + l.val, by have := q.isLt; have := l.isLt; omega⟩

include hg hn hsh hsc hw in
/-- One slot's step, over its columns of the rows. -/
theorem slot_step (acc : FVec Ideal S512x128 .f32) (s : EReal) (q : Fin 8) (o : Nat) (ho : o = q.val * 512)
    (h1 : ∀ a, (![q.val, 0, 0] : Fin 3 → Nat) a + S1x512x512.size a ≤ S8x512x512.size a) (h2 : ∀ a, (![0, o] : Fin 2 → Nat) a + S1x512.size a ≤ S1x4096.size a)
    (h3 : ∀ a, (![0, 0, o] : Fin 3 → Nat) a + S1x1x512.size a ≤ S1x1x4096.size a) (h4 : ∀ a, (![o, 0] : Fin 2 → Nat) a + S512x128.size a ≤ S4096x128.size a)
    (r : Fin 512) (e : Fin 128) (hs : acc (ix2 r e) = s) :
    step (F := Ideal) acc (hj (F := Ideal) (inv g) (slot g ![q.val, 0, 0] h1) (View.ld ng (Rect.unit (s := S1x4096) ![0, o] S1x512.size h2))
        (View.ld sc (Rect.unit (s := S1x1x4096) ![0, 0, o] S1x1x512.size h3)) (View.ld sh (Rect.unit (s := S1x1x4096) ![0, 0, o] S1x1x512.size h3)))
        (View.ld wr (Rect.unit (s := S4096x128) ![o, 0] S512x128.size h4)) (ix2 r e)
      = s + ∑ l : Fin 512, entry g ng sh sc r (col q l) * wr (ix2 (col q l) e) := by
  have ek : ∀ l : Fin 512, (col q l).val = o + l.val := fun l => by rw [ho]; rfl
  have eh := fun l : Fin 512 => hj_apply g ng sh sc q o ho h1 h2 h3 r l (col q l) (ek l)
  have ew := fun l : Fin 512 => wr_apply wr o h4 l e (col q l) (ek l)
  refine (step_apply _ _ _ r e (fun l => ?_) (fun l => ?_)).trans (congrArg₂ (· + ·) hs (Finset.sum_congr rfl fun l _ => congrArg₂ (· * ·) (eh l) (ew l)))
  · rw [eh l]; exact entry_finite g ng sh sc hg hn hsh hsc r (col q l)
  · rw [ew l]; exact hw _

/-- The eight slots' sums are the whole row's. -/
theorem sum_cols (f : Fin 4096 → EReal) : ∑ k : Fin 4096, f k = ∑ q : Fin 8, ∑ l : Fin 512, f (col q l) := by
  rw [← Fintype.sum_prod_type', ← Equiv.sum_comp (finProdFinEquiv (m := 8) (n := 512))]
  refine Finset.sum_congr rfl fun p _ => congrArg f (Fin.ext ?_)
  show p.2.val + 512 * p.1.val = p.1.val * 512 + p.2.val
  omega

include hg hn hsh hsc hw in
/-- The last point leaves the rows' product with the router's weights. -/
theorem logits_apply (r : Fin 512) (e : Fin 128) :
    logits (F := Ideal) g ng sh sc wr (ix2 r e) = ∑ k : Fin 4096, entry g ng sh sc r k * wr (ix2 k e) := by
  have z : broadcast S512x128 (FloatOps.ofBits (F := Ideal) .f32 0x00000000#32) (ix2 r e) = (0 : EReal) := Ideal.ofBits_zero_f32
  rw [sum_cols, Fin.sum_univ_eight, ← zero_add (∑ l : Fin 512, entry g ng sh sc r (col 0 l) * wr (ix2 (col 0 l) e))]
  unfold logits h0 h1 h2 h3 h4 h5 h6 h7
  exact slot_step g ng sh sc wr hg hn hsh hsc hw _ _ 7 3584 rfl inb_S8x512x512_S1x512x512_7_0_0 inb_S1x4096_S1x512_0_3584 inb_S1x1x4096_S1x1x512_0_0_3584 inb_S4096x128_S512x128_3584_0 r e
    (slot_step g ng sh sc wr hg hn hsh hsc hw _ _ 6 3072 rfl inb_S8x512x512_S1x512x512_6_0_0 inb_S1x4096_S1x512_0_3072 inb_S1x1x4096_S1x1x512_0_0_3072 inb_S4096x128_S512x128_3072_0 r e
    (slot_step g ng sh sc wr hg hn hsh hsc hw _ _ 5 2560 rfl inb_S8x512x512_S1x512x512_5_0_0 inb_S1x4096_S1x512_0_2560 inb_S1x1x4096_S1x1x512_0_0_2560 inb_S4096x128_S512x128_2560_0 r e
    (slot_step g ng sh sc wr hg hn hsh hsc hw _ _ 4 2048 rfl inb_S8x512x512_S1x512x512_4_0_0 inb_S1x4096_S1x512_0_2048 inb_S1x1x4096_S1x1x512_0_0_2048 inb_S4096x128_S512x128_2048_0 r e
    (slot_step g ng sh sc wr hg hn hsh hsc hw _ _ 3 1536 rfl inb_S8x512x512_S1x512x512_3_0_0 inb_S1x4096_S1x512_0_1536 inb_S1x1x4096_S1x1x512_0_0_1536 inb_S4096x128_S512x128_1536_0 r e
    (slot_step g ng sh sc wr hg hn hsh hsc hw _ _ 2 1024 rfl inb_S8x512x512_S1x512x512_2_0_0 inb_S1x4096_S1x512_0_1024 inb_S1x1x4096_S1x1x512_0_0_1024 inb_S4096x128_S512x128_1024_0 r e
    (slot_step g ng sh sc wr hg hn hsh hsc hw _ _ 1 512 rfl inb_S8x512x512_S1x512x512_1_0_0 inb_S1x4096_S1x512_0_512 inb_S1x1x4096_S1x1x512_0_0_512 inb_S4096x128_S512x128_512_0 r e
    (slot_step g ng sh sc wr hg hn hsh hsc hw _ _ 0 0 rfl inb_S8x512x512_S1x512x512_0_0_0 inb_S1x4096_S1x512_0_0 inb_S1x1x4096_S1x1x512_0_0_0 inb_S4096x128_S512x128_0_0 r e z)))))))

end

end Cert.Kernel9Ideal.Logits

end
-- ==== Proof.LogitsReference.lean ====
module

public import proofs.«01_k».proof.Proof.LogitsRows
public import Idealize.ShloMosaic.Lib.ValueIdx
public import Idealize.ShloMosaic.Lib.ValueLayout
public import proofs.«01_k».proof.Proof.Gen.Reference9Ideal.Run
public import proofs.«01_k».proof.Proof.Gen.Reference9Ideal.Read

@[expose] public section

set_option maxRecDepth 16384

noncomputable section

/-! # The router's logits

Each logit is the product of a normalised and modulated row with one expert's weights. The reference computes these, with
zeros in the lanes past the eight experts. -/

namespace Cert.Kernel9Ideal.Logits

open Cert.Kernel9Ideal Cert.Kernel9Ideal.Gen
open Idealize.ShloMosaic Idealize.ShloMosaic.TcCoe Idealize.ShloMosaic.ValueIdx

/-- One entry of the residual rows plus the gated product. -/
def X (a x : S2x8192x4096.Idx → EReal) (g : S2x1x4096.Idx → EReal) (w : S4096x4096.Idx → EReal) (b : Fin 2) (s : Fin 8192) (k : Fin 4096) : EReal :=
  x (ix3 b s k) + g (ix3 b (0 : Fin 1) k) * ∑ c : Fin 4096, a (ix3 b s c) * w (ix2 c k)

/-- One entry of the same rows, normalised and modulated. -/
def H (a x : S2x8192x4096.Idx → EReal) (g : S2x1x4096.Idx → EReal) (ng : S4096.Idx → EReal) (sh sc : S2x1x4096.Idx → EReal) (w : S4096x4096.Idx → EReal)
    (b : Fin 2) (s : Fin 8192) (k : Fin 4096) : EReal :=
  norm (X a x g w b s) k (ng (ix1 k)) (sh (ix3 b (0 : Fin 1) k)) (sc (ix3 b (0 : Fin 1) k))

/-- The batch and the position of a row. -/
def bat (i : Fin 16384) : Fin 2 := ⟨i.val / 8192, by have := i.isLt; omega⟩
def pos (i : Fin 16384) : Fin 8192 := ⟨i.val % 8192, by omega⟩

/-- One logit. -/
def L (a x : S2x8192x4096.Idx → EReal) (g : S2x1x4096.Idx → EReal) (ng : S4096.Idx → EReal) (sh sc : S2x1x4096.Idx → EReal) (w : S4096x4096.Idx → EReal)
    (wr : S4096x8.Idx → EReal) (b : Fin 2) (s : Fin 8192) (e : Fin 8) : EReal :=
  ∑ k : Fin 4096, H a x g ng sh sc w b s k * wr (ix2 k e)

/-- The logits, over 128 lanes. -/
def Lanes (a x : S2x8192x4096.Idx → EReal) (g : S2x1x4096.Idx → EReal) (ng : S4096.Idx → EReal) (sh sc : S2x1x4096.Idx → EReal) (w : S4096x4096.Idx → EReal)
    (wr : S4096x8.Idx → EReal) : S16384x128.Idx → EReal := fun i =>
  if h : (i 1).val < 8 then L a x g ng sh sc w wr (bat (i 0)) (pos (i 0)) ⟨(i 1).val, h⟩ else 0

/-! ## The reference's values -/

open Cert.Reference9Ideal.Read

variable (a : S2x8192x4096.Idx → Elt Ideal .bf16) (x : S2x8192x4096.Idx → Elt Ideal .f32) (g : S2x1x4096.Idx → Elt Ideal .f32) (ng : S4096.Idx → Elt Ideal .f32)
  (sh sc : S2x1x4096.Idx → Elt Ideal .f32) (w : S4096x4096.Idx → Elt Ideal .f32) (wr : S4096x8.Idx → Elt Ideal .f32)

theorem x_eq (b : Fin 2) (s : Fin 8192) (k : Fin 4096) : val_main_v4 (F := Ideal) a x g w (ix3 b s k) = X a x g w b s k := by
  refine (val_main_v4_apply a x g w _).trans (congrArg₂ (· + ·) rfl ((val_main_v3_apply a g w _).trans (congrArg₂ (· * ·)
    ((val_main_v2_apply g _).trans (congrArg g ?_)) ((val_main_v1_apply a w _).trans (Finset.sum_congr rfl fun c _ => congrArg₂ (· * ·) ((val_main_v0_apply a _).trans (congrArg a ?_)) (congrArg w ?_))))))
  · funext d; match d with | ⟨0, _⟩ => rfl | ⟨1, _⟩ => rfl | ⟨2, _⟩ => rfl
  · funext d; match d with | ⟨0, _⟩ => rfl | ⟨1, _⟩ => rfl | ⟨2, _⟩ => rfl
  · funext d; match d with | ⟨0, _⟩ => rfl | ⟨1, _⟩ => rfl

/-- A row over the root of its mean square. -/
theorem unit_eq (b : Fin 2) (s : Fin 8192) (k : Fin 4096) :
    val_main_v14 (F := Ideal) a x g w (ix3 b s k) = X a x g w b s k
      * Ideal.rsqrt (Ideal.div (∑ j : Fin 4096, X a x g w b s j * X a x g w b s j) (Ideal.ofBits .f32 0x45800000#32) + Ideal.ofBits .f32 0x358637BD#32) := by
  have sum : val_main_v6 (F := Ideal) a x g w (ix2 b s) = ∑ j : Fin 4096, X a x g w b s j * X a x g w b s j := by
    refine (val_main_v6_apply a x g w _).trans ?_
    show Ideal.ofBits .f32 0x00000000#32 + _ = _
    rw [Ideal.ofBits_zero_f32, zero_add]
    refine Finset.sum_congr rfl fun j _ => ?_
    have e : idx_main_v6 (ix2 b s) j = ix3 b s j := by
      funext d; match d with | ⟨0, _⟩ => rfl | ⟨1, _⟩ => rfl | ⟨2, _⟩ => rfl
    exact (congrArg _ e).trans ((val_main_v5_apply a x g w _).trans (congrArg₂ (· * ·) (x_eq a x g w b s j) (x_eq a x g w b s j)))
  have e2 : idx_main_v7 (idx_main_v13 (ix3 b s k)) = ix2 b s := by
    funext d; match d with | ⟨0, _⟩ => rfl | ⟨1, _⟩ => rfl
  refine (val_main_v14_apply a x g w _).trans (congrArg₂ (· * ·) (x_eq a x g w b s k) ?_)
  refine (val_main_v13_apply a x g w _).trans ((val_main_v12_apply a x g w _).trans (congrArg Ideal.rsqrt ?_))
  refine (val_main_v11_apply a x g w _).trans (congrArg₂ (· + ·) ((val_main_v9_apply a x g w _).trans (congrArg₂ Ideal.div ?_ ?_)) ?_)
  · exact (val_main_v7_apply a x g w _).trans ((congrArg _ e2).trans sum)
  · exact val_main_v8_apply _
  · exact val_main_v10_apply _

theorem h_eq (b : Fin 2) (s : Fin 8192) (k : Fin 4096) : val_main_v23 (F := Ideal) a x g ng sh sc w (ix3 b s k) = H a x g ng sh sc w b s k := by
  refine (val_main_v23_apply a x g ng sh sc w _).trans (congrArg₂ (· + ·) ((val_main_v21_apply a x g ng sc w _).trans (congrArg₂ (· * ·) ((val_main_v17_apply a x g ng w _).trans
    (congrArg₂ (· * ·) (unit_eq a x g w b s k) ?_)) ?_)) ?_)
  · refine (val_main_v16_apply ng _).trans ((val_main_v15_apply ng _).trans (congrArg ng ?_))
    funext d; match d with | ⟨0, _⟩ => rfl
  · refine (val_main_v20_apply sc _).trans ((val_main_v19_apply sc _).trans (congrArg₂ (· + ·) (val_main_v18_apply _) (congrArg sc ?_)))
    funext d; match d with | ⟨0, _⟩ => rfl | ⟨1, _⟩ => rfl | ⟨2, _⟩ => rfl
  · refine (val_main_v22_apply sh _).trans (congrArg sh ?_)
    funext d; match d with | ⟨0, _⟩ => rfl | ⟨1, _⟩ => rfl | ⟨2, _⟩ => rfl

theorem l_eq (b : Fin 2) (s : Fin 8192) (e : Fin 8) : val_main_v24 (F := Ideal) a x g ng sh sc w wr (ix3 b s e) = L a x g ng sh sc w wr b s e := by
  refine (val_main_v24_apply a x g ng sh sc w wr _).trans (Finset.sum_congr rfl fun k _ => congrArg₂ (· * ·) ((congrArg _ ?_).trans (h_eq a x g ng sh sc w b s k)) (congrArg wr ?_))
  · funext d; match d with | ⟨0, _⟩ => rfl | ⟨1, _⟩ => rfl | ⟨2, _⟩ => rfl
  · funext d; match d with | ⟨0, _⟩ => rfl | ⟨1, _⟩ => rfl

theorem row_idx (q : Fin 16384) (e : Fin 8) : idx_main_v25 (ix2 q e) = ix3 (bat q) (pos q) e := by
  have h0 : q.val < 16384 := q.isLt
  have h1 : e.val < 8 := e.isLt
  refine funext fun d => Fin.ext ?_
  match d with
  | ⟨0, _⟩ => show (q.val * 8 + e.val) / 65536 = q.val / 8192; omega
  | ⟨1, _⟩ => show (q.val * 8 + e.val) / 8 % 8192 = q.val % 8192; omega
  | ⟨2, _⟩ => show (q.val * 8 + e.val) % 8 = e.val; omega

theorem reference_eq : val_main_v27 (F := Ideal) a x g ng sh sc w wr = Lanes a x g ng sh sc w wr := by
  funext i
  obtain ⟨q, e, rfl⟩ : ∃ (q : Fin 16384) (e : Fin 128), i = ix2 q e := ⟨i 0, i 1, eq_ix2 i⟩
  have he := e.isLt
  unfold val_main_v27 Lanes
  by_cases h : e.val < 8
  · rw [dif_pos (show ((ix2 q e : S16384x128.Idx) 1).val < 8 from h)]
    refine Eq.trans (concatenate_apply_piece (1 : Fin 2) _ _ (ix2 q e) 0 (by show 0 < 2; decide) Cert.Reference9Ideal.S16384x8 (val_main_v25 (F := Ideal) a x g ng sh sc w wr) rfl rfl 0 rfl (ix2 q (⟨e.val, h⟩ : Fin 8)) (fun d hd => ?_) (by show 0 + e.val = e.val; omega)) ?_
    · match d, hd with
      | ⟨0, _⟩, _ => rfl
      | ⟨1, _⟩, hd => exact absurd rfl hd
    · exact (val_main_v25_apply a x g ng sh sc w wr _).trans ((congrArg _ (row_idx q _)).trans (l_eq a x g ng sh sc w wr _ _ _))
  · rw [dif_neg (show ¬ ((ix2 q e : S16384x128.Idx) 1).val < 8 from h)]
    refine Eq.trans (concatenate_apply_piece (1 : Fin 2) _ _ (ix2 q e) 1 (by show 1 < 2; decide) Cert.Reference9Ideal.S16384x120 (val_main_v26 (F := Ideal)) rfl rfl 8 rfl (ix2 q (⟨e.val - 8, by omega⟩ : Fin 120)) (fun d hd => ?_) (by show 8 + (e.val - 8) = e.val; omega)) ?_
    · match d, hd with
      | ⟨0, _⟩, _ => rfl
      | ⟨1, _⟩, hd => exact absurd rfl hd
    · exact (val_main_v26_apply _).trans Ideal.ofBits_zero_f32

end Cert.Kernel9Ideal.Logits

end
-- ==== Proof.LogitsPre.lean ====
module

public import proofs.«01_k».proof.Proof.LogitsFinite
public import proofs.«01_k».proof.Proof.Gen.Pre_finite9
public import Idealize.ShloMosaic.Lib.ReduceAll
public import Idealize.ShloMosaic.Lib.Affine

@[expose] public section

set_option maxRecDepth 16384

noncomputable section

/-! # What the precondition of the logits says

`finite9` read array by array: every entry of every argument is a real number. -/

namespace Cert.Finite

open Cert.Pre_finite9
open Idealize.ShloMosaic

theorem scalar_unique : Subsingleton Cert.Pre_finite9.S_.Idx := ⟨fun _ _ => funext fun a => a.elim0⟩

variable (a x : S2x8192x4096.Idx → EReal) (g : S2x1x4096.Idx → EReal) (ng : S4096.Idx → EReal)
  (sh sc : S2x1x4096.Idx → EReal) (w : S4096x4096.Idx → EReal) (wr : S4096x8.Idx → EReal)

/-- Every argument is finite. -/
structure All : Prop where
  a : ∀ i, Real' (a i)
  x : ∀ i, Real' (x i)
  g : ∀ i, Real' (g i)
  ng : ∀ i, Real' (ng i)
  sh : ∀ i, Real' (sh i)
  sc : ∀ i, Real' (sc i)
  w : ∀ i, Real' (w i)
  wr : ∀ i, Real' (wr i)

theorem all_of_pre (h : Cert.Pre_finite9.fn (F := Ideal) a x g ng sh sc w wr = fun _ => 1#1) : All a x g ng sh sc w wr := by
  haveI := scalar_unique
  have h0 := congrFun h (fun a => a.elim0)
  unfold Cert.Pre_finite9.fn Cert.Pre_finite9.fn_part1 Cert.Pre_finite9.fn_part2 at h0
  dsimp only at h0
  have h7 := IntOp.andi_eq_one.1 h0
  have h6 := IntOp.andi_eq_one.1 h7.1
  have h5 := IntOp.andi_eq_one.1 h6.1
  have h4 := IntOp.andi_eq_one.1 h5.1
  have h3 := IntOp.andi_eq_one.1 h4.1
  have h2 := IntOp.andi_eq_one.1 h3.1
  have h1 := IntOp.andi_eq_one.1 h2.1
  exact ⟨fun i => of_abs (Host.reduce_andi_all _ _ _ _ _ h1.1 i), fun i => of_abs (Host.reduce_andi_all _ _ _ _ _ h1.2 i),
    fun i => of_abs (Host.reduce_andi_all _ _ _ _ _ h2.2 i), fun i => of_abs (Host.reduce_andi_all _ _ _ _ _ h3.2 i),
    fun i => of_abs (Host.reduce_andi_all _ _ _ _ _ h4.2 i), fun i => of_abs (Host.reduce_andi_all _ _ _ _ _ h5.2 i),
    fun i => of_abs (Host.reduce_andi_all _ _ _ _ _ h6.2 i), fun i => of_abs (Host.reduce_andi_all _ _ _ _ _ h7.2 i)⟩

end Cert.Finite

end
-- ==== Proof.LogitsValue.lean ====
module

public import proofs.«01_k».proof.Proof.LogitsRun
public import proofs.«01_k».proof.Proof.LogitsReference
public import proofs.«01_k».proof.Proof.LogitsPre
public import Idealize.ShloMosaic.Lib.KernelVsHost
public import Idealize.ShloMosaic.Lib.Pipeline.Covers
public import Idealize.ShloMosaic.Lib.ValueIdx

@[expose] public section

set_option maxRecDepth 16384

noncomputable section

/-! # The logits that the output projection leaves

A row tile's last point leaves the tile's logits, over the blocks that the tile's eight points put in the scratch. The
tiles' blocks tile the result. The router's weights come padded with zeros from 8 to 128 lanes. -/

namespace Cert.Kernel9Ideal.Logits

open Cert.Kernel9Ideal Cert.Kernel9Ideal.Gen
open Idealize.ShloMosaic Idealize.ShloMosaic.TcCoe Idealize.ShloMosaic.Tactic
open Idealize.ShloMosaic.Pipeline
open Idealize.SL Idealize.SL.Sem
open Idealize.ShloMosaic.ValueIdx

variable (m : (ℓ : Loc nD τ sig) → Buf (Elt Ideal) ℓ) (ρ : Dev nD → PrngReg)

abbrev argA (c : Dev nD) : S2x8192x4096.Idx → Elt Ideal .bf16 := m ((c.tc : Thread nD τ).loc main_arg0)
abbrev argX (c : Dev nD) : S2x8192x4096.Idx → Elt Ideal .f32 := m ((c.tc : Thread nD τ).loc main_arg1)
abbrev argG (c : Dev nD) : S2x1x4096.Idx → Elt Ideal .f32 := m ((c.tc : Thread nD τ).loc main_arg2)
abbrev argN (c : Dev nD) : S4096.Idx → Elt Ideal .f32 := m ((c.tc : Thread nD τ).loc main_arg3)
abbrev argSh (c : Dev nD) : S2x1x4096.Idx → Elt Ideal .f32 := m ((c.tc : Thread nD τ).loc main_arg4)
abbrev argSc (c : Dev nD) : S2x1x4096.Idx → Elt Ideal .f32 := m ((c.tc : Thread nD τ).loc main_arg5)
abbrev argW (c : Dev nD) : S4096x4096.Idx → Elt Ideal .f32 := m ((c.tc : Thread nD τ).loc main_arg6)
abbrev argR (c : Dev nD) : S4096x8.Idx → Elt Ideal .f32 := m ((c.tc : Thread nD τ).loc main_arg7)

/-- The router's weights, padded. -/
def padded (wr : S4096x8.Idx → Elt Ideal .f32) : S4096x128.Idx → Elt Ideal .f32 :=
  pad S4096x128 ![0, 0] ![0, 120] ![0, 0] wr (sitofp (F := Ideal) .f32 (constantI S_ 32 0#32)) pads_S4096x8_S4096x128_000_01200 h_S_

theorem padded_in (wr : S4096x8.Idx → Elt Ideal .f32) (k : Fin 4096) (e : Fin 128) (h : e.val < 8) : padded wr (ix2 k e) = wr (ix2 k (⟨e.val, h⟩ : Fin 8)) := by
  unfold padded
  refine pad_apply_of_inside _ _ _ _ _ _ _ _ _ fun a => ?_
  match a with
  | ⟨0, _⟩ => show k.val = 0 + k.val * (0 + 1); omega
  | ⟨1, _⟩ => show e.val = 0 + e.val * (0 + 1); omega

theorem padded_out (wr : S4096x8.Idx → Elt Ideal .f32) (k : Fin 4096) (e : Fin 128) (h : ¬ e.val < 8) : padded wr (ix2 k e) = (0 : EReal) := by
  unfold padded
  refine (pad_apply_of_not_inside _ _ _ _ _ _ _ _ (1 : Fin 2) fun hc => h ?_).trans ?_
  · have h3 : (e.val - 0) / (0 + 1) < 8 := hc.2.2
    omega
  · show (((0#32 : BitVec 32).toInt : ℝ) : EReal) = 0
    simp

theorem V_v0 (c : Dev nD) : V m c main_v0 = padded (argR m c) := by
  show StableHlo.after (hostOps0 ++ (hostOps0_1 ++ (hostOps0_2 ++ []))) (fun b => m (c, b)) (Proc.devRef .tc main_v0) = _
  rw [StableHlo.after_append, StableHlo.after_append, StableHlo.after_append]
  after_results; rfl
theorem V_v1 (c : Dev nD) : V m c main_v1 = shapeCast S16384x4096 (argA m c) shapeCasts_S2x8192x4096_S16384x4096 := by
  show StableHlo.after (hostOps0 ++ (hostOps0_1 ++ (hostOps0_2 ++ []))) (fun b => m (c, b)) (Proc.devRef .tc main_v1) = _
  rw [StableHlo.after_append, StableHlo.after_append, StableHlo.after_append]
  after_results; rfl
theorem V_v2 (c : Dev nD) : V m c main_v2 = (argW m c : S4096x4096.Idx → Elt Ideal .bf16) := by
  show StableHlo.after (hostOps0 ++ (hostOps0_1 ++ (hostOps0_2 ++ []))) (fun b => m (c, b)) (Proc.devRef .tc main_v2) = _
  rw [StableHlo.after_append, StableHlo.after_append, StableHlo.after_append]
  after_results; rfl
theorem V_v3 (c : Dev nD) : V m c main_v3 = shapeCast S16384x4096 (argX m c) shapeCasts_S2x8192x4096_S16384x4096 := by
  show StableHlo.after (hostOps0 ++ (hostOps0_1 ++ (hostOps0_2 ++ []))) (fun b => m (c, b)) (Proc.devRef .tc main_v3) = _
  rw [StableHlo.after_append, StableHlo.after_append, StableHlo.after_append]
  after_results; rfl
theorem V_v4 (c : Dev nD) : V m c main_v4 = shapeCast S1x4096 (argN m c) shapeCasts_S4096_S1x4096 := by
  show StableHlo.after (hostOps0 ++ (hostOps0_1 ++ (hostOps0_2 ++ []))) (fun b => m (c, b)) (Proc.devRef .tc main_v4) = _
  rw [StableHlo.after_append, StableHlo.after_append, StableHlo.after_append]
  after_results; rfl

/-! ## Which block each window holds -/

theorem tr_0 : ∀ i : grid0.Coords, cc0_transform_0 i 0 = (i 0).val ∧ cc0_transform_0 i 1 = 0 := by decide +kernel
theorem tr_1 : ∀ i : grid0.Coords, cc0_transform_1 i 0 = 0 ∧ cc0_transform_1 i 1 = (i 1).val := by decide +kernel
theorem tr_2 : ∀ i : grid0.Coords, cc0_transform_2 i 0 = (i 0).val ∧ cc0_transform_2 i 1 = (i 1).val := by decide +kernel
theorem tr_3 : ∀ i : grid0.Coords, cc0_transform_3 i 0 = (i 0).val / 16 ∧ cc0_transform_3 i 1 = 0 ∧ cc0_transform_3 i 2 = (i 1).val := by decide +kernel
theorem tr_4 : ∀ i : grid0.Coords, cc0_transform_4 i 0 = 0 ∧ cc0_transform_4 i 1 = 0 := by decide +kernel
theorem tr_5 : ∀ i : grid0.Coords, cc0_transform_5 i 0 = (i 0).val / 16 ∧ cc0_transform_5 i 1 = 0 ∧ cc0_transform_5 i 2 = 0 := by decide +kernel
theorem tr_6 : ∀ i : grid0.Coords, cc0_transform_6 i 0 = (i 0).val / 16 ∧ cc0_transform_6 i 1 = 0 ∧ cc0_transform_6 i 2 = 0 := by decide +kernel
theorem tr_7 : ∀ i : grid0.Coords, cc0_transform_7 i 0 = 0 ∧ cc0_transform_7 i 1 = 0 := by decide +kernel
theorem tr_10 : ∀ i : grid0.Coords, cc0_transform_10 i 0 = (i 0).val ∧ cc0_transform_10 i 1 = 0 := by decide +kernel

theorem coords_0 (t : Fin cfg0.N) : (grid0.coords t 0).val = t.val / 8 := by
  have h : t.val < 256 := Nat.lt_of_lt_of_eq t.isLt N_0
  refine ((Pipeline.Grid.coords_val t 0 (by decide) rfl : (grid0.coords t 0).val = t.val / 8 % 32)).trans ?_
  omega

theorem pt_0 (t : Fin cfg0.N) (q : Fin 8) : (grid0.coords (pt t q) 0).val = (grid0.coords t 0).val := by
  have := q.isLt
  rw [coords_0, coords_0]
  show (t.val - t.val % 8 + q.val) / 8 = t.val / 8
  omega

theorem pt_1 (t : Fin cfg0.N) (q : Fin 8) : (grid0.coords (pt t q) 1).val = q.val := by
  have := q.isLt
  rw [coords_1]
  show (t.val - t.val % 8 + q.val) % 8 = q.val
  omega

theorem blk_0 (c : Dev nD) (t : Fin cfg0.N) (r : Fin 512) (k : Fin 4096) (b : Fin 2) (s : Fin 8192)
    (hs : b.val * 8192 + s.val = (grid0.coords t 0).val * 512 + r.val) : at0 m c t (ix2 r k) = argA m c (ix3 b s k) := by
  obtain ⟨e0, e1⟩ := tr_0 (grid0.coords t)
  unfold at0 iblk
  show V m c main_v1 (((cfg0.win 0).blk t).view.emb (ix2 r k)) = _
  rw [V_v1]
  refine shapeCast_apply (argA m c) _ _ _ ?_
  rw [Shape.rowMajor_val_three, Shape.rowMajor_val_two]
  show (b.val * 8192 + s.val) * 4096 + k.val = (cc0_transform_0 (grid0.coords t) 0 * 512 + 1 * r.val) * 4096 + (cc0_transform_0 (grid0.coords t) 1 * 4096 + 1 * k.val)
  rw [e0, e1, hs]; omega

theorem blk_1 (c : Dev nD) (t : Fin cfg0.N) (r : Fin 4096) (k : Fin 512) (q : Fin 4096) (hq : q.val = (grid0.coords t 1).val * 512 + k.val) :
    at1 m c t (ix2 r k) = argW m c (ix2 r q) := by
  obtain ⟨e0, e1⟩ := tr_1 (grid0.coords t)
  unfold at1 iblk
  show V m c main_v2 (((cfg0.win 1).blk t).view.emb (ix2 r k)) = _
  rw [V_v2]
  refine congrArg (argW m c) (funext fun a => Fin.ext ?_)
  match a with
  | ⟨0, _⟩ => show cc0_transform_1 (grid0.coords t) 0 * 4096 + 1 * r.val = r.val; rw [e0]; omega
  | ⟨1, _⟩ => show cc0_transform_1 (grid0.coords t) 1 * 512 + 1 * k.val = q.val; rw [e1, hq]; omega

theorem blk_2 (c : Dev nD) (t : Fin cfg0.N) (r k : Fin 512) (b : Fin 2) (s : Fin 8192) (q : Fin 4096)
    (hs : b.val * 8192 + s.val = (grid0.coords t 0).val * 512 + r.val) (hq : q.val = (grid0.coords t 1).val * 512 + k.val) :
    at2 m c t (ix2 r k) = argX m c (ix3 b s q) := by
  obtain ⟨e0, e1⟩ := tr_2 (grid0.coords t)
  unfold at2 iblk
  show V m c main_v3 (((cfg0.win 2).blk t).view.emb (ix2 r k)) = _
  rw [V_v3]
  refine shapeCast_apply (argX m c) _ _ _ ?_
  rw [Shape.rowMajor_val_three, Shape.rowMajor_val_two]
  show (b.val * 8192 + s.val) * 4096 + q.val = (cc0_transform_2 (grid0.coords t) 0 * 512 + 1 * r.val) * 4096 + (cc0_transform_2 (grid0.coords t) 1 * 512 + 1 * k.val)
  rw [e0, e1, hs, hq]; omega

theorem blk_3 (c : Dev nD) (t : Fin cfg0.N) (k : Fin 512) (b : Fin 2) (q : Fin 4096)
    (hb : b.val = (grid0.coords t 0).val / 16) (hq : q.val = (grid0.coords t 1).val * 512 + k.val) :
    at3 m c t (ix3 (0 : Fin 1) (0 : Fin 1) k) = argG m c (ix3 b (0 : Fin 1) q) := by
  obtain ⟨e0, e1, e2⟩ := tr_3 (grid0.coords t)
  unfold at3 iblk
  show V m c main_arg2 (((cfg0.win 3).blk t).view.emb (ix3 (0 : Fin 1) (0 : Fin 1) k)) = _
  rw [V_arg2]
  refine congrArg (argG m c) (funext fun a => Fin.ext ?_)
  match a with
  | ⟨0, _⟩ => show cc0_transform_3 (grid0.coords t) 0 * 1 + 1 * 0 = b.val; rw [e0, hb]; omega
  | ⟨1, _⟩ => show cc0_transform_3 (grid0.coords t) 1 * 1 + 1 * 0 = 0; rw [e1]
  | ⟨2, _⟩ => show cc0_transform_3 (grid0.coords t) 2 * 512 + 1 * k.val = q.val; rw [e2, hq]; omega

theorem blk_4 (c : Dev nD) (t : Fin cfg0.N) (k : Fin 4096) : at4 m c t (ix2 (0 : Fin 1) k) = argN m c (ix1 k) := by
  obtain ⟨e0, e1⟩ := tr_4 (grid0.coords t)
  unfold at4 iblk
  show V m c main_v4 (((cfg0.win 4).blk t).view.emb (ix2 (0 : Fin 1) k)) = _
  rw [V_v4]
  refine shapeCast_apply (argN m c) _ _ _ ?_
  rw [Shape.rowMajor_val_one, Shape.rowMajor_val_two]
  show k.val = (cc0_transform_4 (grid0.coords t) 0 * 1 + 1 * 0) * 4096 + (cc0_transform_4 (grid0.coords t) 1 * 4096 + 1 * k.val)
  rw [e0, e1]; omega

theorem blk_5 (c : Dev nD) (t : Fin cfg0.N) (k : Fin 4096) (b : Fin 2) (hb : b.val = (grid0.coords t 0).val / 16) :
    at5 m c t (ix3 (0 : Fin 1) (0 : Fin 1) k) = argSh m c (ix3 b (0 : Fin 1) k) := by
  obtain ⟨e0, e1, e2⟩ := tr_5 (grid0.coords t)
  unfold at5 iblk
  show V m c main_arg4 (((cfg0.win 5).blk t).view.emb (ix3 (0 : Fin 1) (0 : Fin 1) k)) = _
  rw [V_arg4]
  refine congrArg (argSh m c) (funext fun a => Fin.ext ?_)
  match a with
  | ⟨0, _⟩ => show cc0_transform_5 (grid0.coords t) 0 * 1 + 1 * 0 = b.val; rw [e0, hb]; omega
  | ⟨1, _⟩ => show cc0_transform_5 (grid0.coords t) 1 * 1 + 1 * 0 = 0; rw [e1]
  | ⟨2, _⟩ => show cc0_transform_5 (grid0.coords t) 2 * 4096 + 1 * k.val = k.val; rw [e2]; omega

theorem blk_6 (c : Dev nD) (t : Fin cfg0.N) (k : Fin 4096) (b : Fin 2) (hb : b.val = (grid0.coords t 0).val / 16) :
    at6 m c t (ix3 (0 : Fin 1) (0 : Fin 1) k) = argSc m c (ix3 b (0 : Fin 1) k) := by
  obtain ⟨e0, e1, e2⟩ := tr_6 (grid0.coords t)
  unfold at6 iblk
  show V m c main_arg5 (((cfg0.win 6).blk t).view.emb (ix3 (0 : Fin 1) (0 : Fin 1) k)) = _
  rw [V_arg5]
  refine congrArg (argSc m c) (funext fun a => Fin.ext ?_)
  match a with
  | ⟨0, _⟩ => show cc0_transform_6 (grid0.coords t) 0 * 1 + 1 * 0 = b.val; rw [e0, hb]; omega
  | ⟨1, _⟩ => show cc0_transform_6 (grid0.coords t) 1 * 1 + 1 * 0 = 0; rw [e1]
  | ⟨2, _⟩ => show cc0_transform_6 (grid0.coords t) 2 * 4096 + 1 * k.val = k.val; rw [e2]; omega

theorem blk_7 (c : Dev nD) (t : Fin cfg0.N) (k : Fin 4096) (e : Fin 128) : at7 m c t (ix2 k e) = padded (argR m c) (ix2 k e) := by
  obtain ⟨e0, e1⟩ := tr_7 (grid0.coords t)
  unfold at7 iblk
  show V m c main_v0 (((cfg0.win 7).blk t).view.emb (ix2 k e)) = _
  rw [V_v0]
  refine congrArg (padded (argR m c)) (funext fun a => Fin.ext ?_)
  match a with
  | ⟨0, _⟩ => show cc0_transform_7 (grid0.coords t) 0 * 4096 + 1 * k.val = k.val; rw [e0]; omega
  | ⟨1, _⟩ => show cc0_transform_7 (grid0.coords t) 1 * 128 + 1 * e.val = e.val; rw [e1]; omega

/-! ## What a point leaves -/

/-- The point's product in one formula. -/
theorem prod_eq (c : Dev nD) (t : Fin cfg0.N) (r k : Fin 512) (b : Fin 2) (s : Fin 8192) (q : Fin 4096)
    (hs : b.val * 8192 + s.val = (grid0.coords t 0).val * 512 + r.val) (hq : q.val = (grid0.coords t 1).val * 512 + k.val) :
    at2 m c t (ix2 r k) + at3 m c t (ix3 (0 : Fin 1) (0 : Fin 1) k) * ∑ j : Fin 4096, at0 m c t (ix2 r j) * at1 m c t (ix2 j k)
      = X (argA m c) (argX m c) (argG m c) (argW m c) b s q := by
  have hr := r.isLt
  have hl := s.isLt
  unfold X
  refine congrArg₂ (· + ·) (blk_2 m c t r k b s q hs hq) (congrArg₂ (· * ·) (blk_3 m c t k b q ?_ hq) ?_)
  · omega
  · exact Finset.sum_congr rfl fun j _ => congrArg₂ (· * ·) (blk_0 m c t r j b s hs) (blk_1 m c t j k q hq)

/-- The scratch's rows are the tile's residual rows. -/
theorem row_eq (c : Dev nD) (t : Fin cfg0.N) (r : Fin 512) (b : Fin 2) (s : Fin 8192) (hs : b.val * 8192 + s.val = (grid0.coords t 0).val * 512 + r.val) :
    rowOf (xs m c t) r = X (argA m c) (argX m c) (argG m c) (argW m c) b s := by
  funext k
  have hk := k.isLt
  unfold rowOf xs pay
  refine (pay2_apply _ _ _ _ r _).trans (prod_eq m c (pt t _) r _ b s k ?_ ?_)
  · rw [pt_0]; exact hs
  · rw [pt_1]
    show k.val = k.val / 512 * 512 + k.val % 512
    omega

/-! ## The blocks tile the result -/

theorem nblk10_0 : (cfg0.win 10).nblk (0 : Fin 2) = 32 :=
  show (S16384x128.size 0 + S512x128.size 0 - 1) / S512x128.size 0 = 32 by decide
theorem nblk10_1 : (cfg0.win 10).nblk (1 : Fin 2) = 1 :=
  show (S16384x128.size 1 + S512x128.size 1 - 1) / S512x128.size 1 = 1 by decide

theorem covers_10 : (cfg0.win 10).Covers :=
  (cfg0.win 10).covers_of_indexMap_surj rfl (show ∀ a : Fin 2, 0 < S512x128.size a by decide)
    fun (β : (a : Fin 2) → Fin ((cfg0.win 10).nblk a)) =>
    have h0 : (β 0).val < 32 := lt_of_lt_of_eq (β 0).isLt nblk10_0
    have h1 : (β 1).val < 1 := lt_of_lt_of_eq (β 1).isLt nblk10_1
    have z : 0 < 8 := by decide
    have e := tr_10 (fun | ⟨0, _⟩ => ⟨(β 0).val, h0⟩ | ⟨1, _⟩ => ⟨0, z⟩ : grid0.Coords)
    ⟨(fun | ⟨0, _⟩ => ⟨(β 0).val, h0⟩ | ⟨1, _⟩ => ⟨0, z⟩ : grid0.Coords), fun (a : Fin 2) => by
      match a with
      | ⟨0, _⟩ => exact e.1
      | ⟨1, _⟩ => exact e.2.trans (by show 0 = (β 1).val; omega)⟩

/-- Where a point's block of the logits lies. -/
theorem emb_10_0 (t : Fin cfg0.N) (y : S512x128.Idx) :
    (((cfg0.win 10).blk t).view.emb y (0 : Fin 2)).val = (grid0.coords t 0).val * 512 + (y 0).val := by
  show cc0_transform_10 (grid0.coords t) 0 * 512 + 1 * (y 0).val = _
  rw [(tr_10 (grid0.coords t)).1, Nat.one_mul]
theorem emb_10_1 (t : Fin cfg0.N) (y : S512x128.Idx) :
    (((cfg0.win 10).blk t).view.emb y (1 : Fin 2)).val = (y 1).val := by
  show cc0_transform_10 (grid0.coords t) 1 * 128 + 1 * (y 1).val = _
  rw [(tr_10 (grid0.coords t)).2, Nat.one_mul, Nat.zero_mul, Nat.zero_add]

/-- A row's batch and position give the row. -/
theorem bat_pos (i : Fin 16384) : (bat i).val * 8192 + (pos i).val = i.val := by
  show i.val / 8192 * 8192 + i.val % 8192 = i.val
  omega

/-! ## Finite arguments -/

open Cert.Finite

/-- Every argument of a device is finite. -/
abbrev Tame (c : Dev nD) : Prop := All (argA m c) (argX m c) (argG m c) (argN m c) (argSh m c) (argSc m c) (argW m c) (argR m c)

theorem X_finite (c : Dev nD) (h : Tame m c) (b : Fin 2) (s : Fin 8192) (k : Fin 4096) :
    Real' (X (argA m c) (argX m c) (argG m c) (argW m c) b s k) :=
  add (h.x _) (mul (h.g _) (sum _ _ fun _ => mul (h.a _) (h.w _)))

theorem padded_finite (wr : S4096x8.Idx → Elt Ideal .f32) (h : ∀ i, Real' (wr i)) (y : S4096x128.Idx) : Real' (padded wr y) := by
  obtain ⟨k, e, rfl⟩ : ∃ (k : Fin 4096) (e : Fin 128), y = ix2 k e := ⟨y 0, y 1, eq_ix2 y⟩
  by_cases he : e.val < 8
  · rw [padded_in wr k e he]; exact h _
  · rw [padded_out wr k e he]; exact zero

/-- The row and the batch of a tile's row. -/
theorem row_at (t : Fin cfg0.N) (r : Fin 512) : ∃ (b : Fin 2) (s : Fin 8192), b.val * 8192 + s.val = (grid0.coords t 0).val * 512 + r.val := by
  have h0 : (grid0.coords t 0).val < 32 := (grid0.coords t 0).isLt
  have hr := r.isLt
  exact ⟨⟨((grid0.coords t 0).val * 512 + r.val) / 8192, by omega⟩, ⟨((grid0.coords t 0).val * 512 + r.val) % 8192, by omega⟩, by
    show ((grid0.coords t 0).val * 512 + r.val) / 8192 * 8192 + ((grid0.coords t 0).val * 512 + r.val) % 8192 = _; omega⟩

theorem xs_finite (c : Dev nD) (h : Tame m c) (t : Fin cfg0.N) (y : S8x512x512.Idx) : Real' (xs m c t y) := by
  obtain ⟨q, r, l, rfl⟩ : ∃ (q : Fin 8) (r l : Fin 512), y = ix3 q r l := ⟨y 0, y 1, y 2, eq_ix3 y⟩
  obtain ⟨b, s, hs⟩ := row_at t r
  have e := congrFun (row_eq m c t r b s hs) (col q l)
  rw [rowOf_at (xs m c t) r (col q l) q l rfl] at e
  rw [e]
  exact X_finite m c h b s _

theorem bat_lt (t : Fin cfg0.N) : (grid0.coords t 0).val / 16 < 2 := by
  have h0 : (grid0.coords t 0).val < 32 := (grid0.coords t 0).isLt
  omega

theorem at4_finite (c : Dev nD) (h : Tame m c) (t : Fin cfg0.N) (y : S1x4096.Idx) : Real' (at4 m c t y) := by
  obtain ⟨z, k, rfl⟩ : ∃ (z : Fin 1) (k : Fin 4096), y = ix2 z k := ⟨y 0, y 1, eq_ix2 y⟩
  obtain rfl : z = 0 := Subsingleton.elim _ _
  rw [blk_4]; exact h.ng _
theorem at5_finite (c : Dev nD) (h : Tame m c) (t : Fin cfg0.N) (y : S1x1x4096.Idx) : Real' (at5 m c t y) := by
  obtain ⟨z, z', k, rfl⟩ : ∃ (z z' : Fin 1) (k : Fin 4096), y = ix3 z z' k := ⟨y 0, y 1, y 2, eq_ix3 y⟩
  obtain rfl : z = 0 := Subsingleton.elim _ _
  obtain rfl : z' = 0 := Subsingleton.elim _ _
  rw [blk_5 m c t k ⟨_, bat_lt t⟩ rfl]; exact h.sh _
theorem at6_finite (c : Dev nD) (h : Tame m c) (t : Fin cfg0.N) (y : S1x1x4096.Idx) : Real' (at6 m c t y) := by
  obtain ⟨z, z', k, rfl⟩ : ∃ (z z' : Fin 1) (k : Fin 4096), y = ix3 z z' k := ⟨y 0, y 1, y 2, eq_ix3 y⟩
  obtain rfl : z = 0 := Subsingleton.elim _ _
  obtain rfl : z' = 0 := Subsingleton.elim _ _
  rw [blk_6 m c t k ⟨_, bat_lt t⟩ rfl]; exact h.sc _
theorem at7_finite (c : Dev nD) (h : Tame m c) (t : Fin cfg0.N) (y : S4096x128.Idx) : Real' (at7 m c t y) := by
  obtain ⟨k, e, rfl⟩ : ∃ (k : Fin 4096) (e : Fin 128), y = ix2 k e := ⟨y 0, y 1, eq_ix2 y⟩
  rw [blk_7]; exact padded_finite _ h.wr _

/-! ## The logits -/

/-- What a row tile's last point leaves is the tile's block of the logits. -/
theorem block_10 (c : Dev nD) (h : Tame m c) (t : Fin cfg0.N) (y : S512x128.Idx) (i : S16384x128.Idx)
    (h0 : (i 0).val = (grid0.coords t 0).val * 512 + (y 0).val) (h1 : (i 1).val = (y 1).val) :
    logits (F := Ideal) (xs m c t) (at4 m c t) (at5 m c t) (at6 m c t) (at7 m c t) y
      = Lanes (argA m c) (argX m c) (argG m c) (argN m c) (argSh m c) (argSc m c) (argW m c) (argR m c) i := by
  obtain ⟨r, e, rfl⟩ : ∃ (r : Fin 512) (e : Fin 128), y = ix2 r e := ⟨y 0, y 1, eq_ix2 y⟩
  replace h0 : (i 0).val = (grid0.coords t 0).val * 512 + r.val := h0
  replace h1 : (i 1).val = e.val := h1
  have hr := r.isLt
  have hp := (pos (i 0)).isLt
  have hs : (bat (i 0)).val * 8192 + (pos (i 0)).val = (grid0.coords t 0).val * 512 + r.val := (bat_pos (i 0)).trans h0
  have hb : (bat (i 0)).val = (grid0.coords t 0).val / 16 := by omega
  have row : ∀ k : Fin 4096, entry (xs m c t) (at4 m c t) (at5 m c t) (at6 m c t) r k
      = H (argA m c) (argX m c) (argG m c) (argN m c) (argSh m c) (argSc m c) (argW m c) (bat (i 0)) (pos (i 0)) k := fun k => by
    unfold entry
    refine (congrArg (fun f => norm f k _ _ _) (row_eq m c t r _ _ hs)).trans ?_
    refine congr (congr (congrArg (norm _ k) (blk_4 m c t k)) (blk_5 m c t k _ hb)) (blk_6 m c t k _ hb)
  refine (logits_apply _ _ _ _ _ (xs_finite m c h t) (at4_finite m c h t) (at5_finite m c h t) (at6_finite m c h t) (at7_finite m c h t) r e).trans ?_
  unfold Lanes
  by_cases he : e.val < 8
  · rw [dif_pos (h1.symm ▸ he : (i 1).val < 8)]
    refine Finset.sum_congr rfl fun k _ => congrArg₂ (· * ·) (row k) ((blk_7 m c t k e).trans ((padded_in _ k e he).trans ?_))
    exact congrArg (fun z : Fin 8 => argR m c (ix2 k z)) (Fin.ext h1.symm)
  · rw [dif_neg (h1.symm ▸ he : ¬ (i 1).val < 8)]
    refine Finset.sum_eq_zero fun k _ => ?_
    rw [blk_7, padded_out _ k e he]
    exact mul_zero _

theorem arrAt_10 (c : Dev nD) (h : Tame m c) :
    (dats m 0 c).arrAt 10 cfg0.N = Lanes (argA m c) (argX m c) (argG m c) (argN m c) (argSh m c) (argSc m c) (argW m c) (argR m c) :=
  (dats m 0 c).arrAt_eq_of_covers 10 _ covers_10 fun t _ (y : S512x128.Idx) => by
    have key := block_10 m c h t y _ (emb_10_0 t y) (emb_10_1 t y)
    rw [after_10]
    generalize logits (F := Ideal) (xs m c t) (at4 m c t) (at5 m c t) (at6 m c t) (at7 m c t) = o at key ⊢
    exact key

end Cert.Kernel9Ideal.Logits

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_rows_in_range
public import proofs.«01_k».proof.Proof.Gen.Reference.Run
public import proofs.«01_k».proof.Proof.Gen.ReferenceIdeal.Run
public import proofs.«01_k».proof.Proof.Run
public import proofs.«01_k».proof.Proof.Pre
public import proofs.«01_k».proof.Proof.RefValue
public import proofs.«01_k».proof.Proof.Gen.Kernel2
public import proofs.«01_k».proof.Proof.Gen.Kernel2Ideal
public import proofs.«01_k».proof.Proof.Gen.Reference2Ideal
public import proofs.«01_k».proof.Proof.Gen.Pre_experts_in_range2
public import proofs.«01_k».proof.Proof.Gen.Kernel3
public import proofs.«01_k».proof.Proof.Gen.Kernel3Ideal
public import proofs.«01_k».proof.Proof.Gen.Reference3Ideal
public import proofs.«01_k».proof.Proof.Gen.Pre_experts_in_range3
public import proofs.«01_k».proof.Proof.GateUpValue
public import proofs.«01_k».proof.Proof.DownValue
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Pre_finite9
public import proofs.«01_k».proof.Proof.CombineValue
public import proofs.«01_k».proof.Proof.FfnDownValue
public import proofs.«01_k».proof.Proof.FfnGateUpValue
public import proofs.«01_k».proof.Proof.KvqValue
public import proofs.«01_k».proof.Proof.OprojValue
public import proofs.«01_k».proof.Proof.LogitsValue
public import Idealize.ShloMosaic.Adequacy
public import Idealize.ShloMosaic.Init

@[expose] public section

set_option maxRecDepth 16384

noncomputable section

/-! # The claims

The gather's two copy loops are followed once, over any reading of the floats (`Rows.run`); the reference's value is
computed once (`Take.taken_eq`). The experts' two products each have a run over any reading of the floats
(`GateUp.run`, `Down.run`) and a reference value at the ideal numbers (`product_eq`). The sum of the experts' rows and
the two dense products have the generated runs, and a value of the result array and of the reference at the ideal
numbers (`arrAt_4` or `arrAt_6`, `reference_eq`). The keys, values and queries have a run over any reading of the
floats (`Kvq.run`) and the same two values (`arrAt_10`, `reference_eq`), and so has the output projection (`Oproj.run`),
with two results. Its third result has a run of its own (`Logits.run`), and a value over finite arguments. Here all are set against the claims. -/

namespace Cert.Proof

open Idealize.ShloMosaic Idealize.ShloMosaic.ValueIdx Idealize.SL.Sem
open Cert.KernelIdeal.Rows (AllNames G names_of_pre)

variable {F : FTy → Type} [FloatOps F]

theorem names_kernel (m : (ℓ : Loc Cert.Kernel.nD Cert.Kernel.τ Cert.Kernel.sig) → Buf (Elt Bits) ℓ) (h : Cert.Pre_Kernel m) : AllNames (F := Bits) m :=
  fun c a t k => names_of_pre _ _ _ (h c) a t k
theorem names_kernelIdeal (m : (ℓ : Loc Cert.KernelIdeal.nD Cert.KernelIdeal.τ Cert.KernelIdeal.sig) → Buf (Elt Ideal) ℓ) (h : Cert.Pre_KernelIdeal m) : AllNames (F := Ideal) m :=
  fun c a t k => names_of_pre _ _ _ (h c) a t k

/-- The kernel and its idealization call the same body, -/
theorem defs₀_eq : Cert.Kernel.defs₀ (F := Bits) = Cert.KernelIdeal.defs₀ (F := Bits) := by
  unfold Cert.Kernel.defs₀ Cert.KernelIdeal.defs₀
  congr 1
  funext l
  match l with
  | ⟨0, _⟩ => rfl
/-- and run the same pipeline. -/
theorem defs_eq : Cert.Kernel.defs (F := Bits) = Cert.KernelIdeal.defs (F := Bits) := by
  unfold Cert.Kernel.defs Cert.KernelIdeal.defs
  exact congrArg _ defs₀_eq

/-- What the kernel does at the bits. -/
theorem run_kernel (m : (ℓ : Loc Cert.Kernel.nD Cert.Kernel.τ Cert.Kernel.sig) → Buf (Elt Bits) ℓ) (ρ : Dev Cert.Kernel.nD → PrngReg) (hm : AllNames (F := Bits) m) :
    θ_run (Cert.Kernel.defs (F := Bits)) (onTc (τ := Cert.Kernel.τ) (Cert.Kernel.main (F := Bits))) ⟨m, fun _ => 0, ρ⟩ (fun r => (∀ c : Dev Cert.Kernel.nD,
        r.2.mem ((c.tc : Thread Cert.Kernel.nD Cert.Kernel.τ).loc Cert.Kernel.main_v0) = G (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq]
  exact Cert.KernelIdeal.Rows.run (F := Bits) m ρ hm

theorem frame_kernelIdeal : Cert.quiescent_KernelIdeal := fun m ρ h =>
  (θ_run Cert.KernelIdeal.defs _ _).mono (fun _ w => ⟨fun c => (w.1 c).2, w.2⟩) (Cert.KernelIdeal.Rows.run (F := Ideal) m ρ (names_kernelIdeal m h))
theorem frame_kernel : Cert.quiescent_Kernel := fun m ρ h =>
  (θ_run Cert.Kernel.defs _ _).mono (fun _ w => ⟨fun c => (w.1 c).2, w.2⟩) (run_kernel m ρ (names_kernel m h))
theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)
theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem bitexact : Cert.bitexact_Kernel_Reference := fun m ρ m' ρ' h hm =>
  ⟨fun c => G (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)),
    (θ_run Cert.Kernel.defs _ _).mono (fun _ w c => w.1 c) (run_kernel m ρ (names_kernel m h)),
    (θ_run Cert.Reference.defs _ _).mono (fun r w c => ⟨(w c).1.trans <| (Cert.Reference.Take.res_eq m' c).trans <| by
      rw [(hm c).1, (hm c).2.1, (hm c).2.2]
      exact Cert.Reference.Take.taken_eq _ _ _ (names_kernel m h c), (w c).2⟩) (Cert.Reference.Value.run (F := Bits) m' ρ')⟩

theorem algebraic : Cert.algebraic_KernelIdeal_ReferenceIdeal := fun m ρ m' ρ' h hm =>
  ⟨fun c => G (Cert.KernelIdeal.Rows.argY (F := Ideal) m c) (Cert.KernelIdeal.Rows.argX (F := Ideal) m c) (Cert.KernelIdeal.Rows.argT (F := Ideal) m c),
    (θ_run Cert.KernelIdeal.defs _ _).mono (fun _ w c => w.1 c) (Cert.KernelIdeal.Rows.run (F := Ideal) m ρ (names_kernelIdeal m h)),
    (θ_run Cert.ReferenceIdeal.defs _ _).mono (fun r w c => ⟨(w c).1.trans <| (Cert.Reference.Take.res_ideal_eq m' c).trans <| by
      rw [(hm c).1, (hm c).2.1, (hm c).2.2]
      exact Cert.Reference.Take.taken_eq _ _ _ (names_kernelIdeal m h c), (w c).2⟩) (Cert.ReferenceIdeal.Value.run (F := Ideal) m' ρ')⟩

/-! ## The experts' gated product -/

theorem below_kernel2 (m : (ℓ : Loc Cert.Kernel2.nD Cert.Kernel2.τ Cert.Kernel2.sig) → Buf (Elt Bits) ℓ) (h : Cert.Pre_Kernel2 m) : Cert.Kernel2Ideal.GateUp.Named (F := Bits) m :=
  fun c t => Cert.Kernel2Ideal.GateUp.below_of_pre _ _ _ _ _ (h c) t
theorem below_kernel2Ideal (m : (ℓ : Loc Cert.Kernel2Ideal.nD Cert.Kernel2Ideal.τ Cert.Kernel2Ideal.sig) → Buf (Elt Ideal) ℓ) (h : Cert.Pre_Kernel2Ideal m) : Cert.Kernel2Ideal.GateUp.Named (F := Ideal) m :=
  fun c t => Cert.Kernel2Ideal.GateUp.below_of_pre _ _ _ _ _ (h c) t

theorem defs₀_eq2 : Cert.Kernel2.defs₀ (F := Bits) = Cert.Kernel2Ideal.defs₀ (F := Bits) := by
  unfold Cert.Kernel2.defs₀ Cert.Kernel2Ideal.defs₀
  congr 1
  funext l
  match l with
  | ⟨0, _⟩ => rfl
theorem defs_eq2 : Cert.Kernel2.defs (F := Bits) = Cert.Kernel2Ideal.defs (F := Bits) := by
  unfold Cert.Kernel2.defs Cert.Kernel2Ideal.defs
  exact congrArg _ defs₀_eq2

theorem frame_kernel2Ideal : Cert.quiescent_Kernel2Ideal := fun m ρ h =>
  (θ_run Cert.Kernel2Ideal.defs _ _).mono (fun _ w => ⟨fun c => (w.1 c).2, w.2⟩) (Cert.Kernel2Ideal.GateUp.run (F := Ideal) m ρ (below_kernel2Ideal m h))

/-- What the kernel leaves of its arguments at the bits. -/
theorem run_kernel2 (m : (ℓ : Loc Cert.Kernel2.nD Cert.Kernel2.τ Cert.Kernel2.sig) → Buf (Elt Bits) ℓ) (ρ : Dev Cert.Kernel2.nD → PrngReg) (hm : Cert.Kernel2Ideal.GateUp.Named (F := Bits) m) :
    θ_run (Cert.Kernel2.defs (F := Bits)) (onTc (τ := Cert.Kernel2.τ) (Cert.Kernel2.main (F := Bits))) ⟨m, fun _ => 0, ρ⟩ (fun r => (∀ c : Dev Cert.Kernel2.nD,
        r.2.mem ((c.tc : Thread Cert.Kernel2.nD Cert.Kernel2.τ).loc Cert.Kernel2.main_arg0) = m ((c.tc : Thread Cert.Kernel2.nD Cert.Kernel2.τ).loc Cert.Kernel2.main_arg0)
        ∧ r.2.mem ((c.tc : Thread Cert.Kernel2.nD Cert.Kernel2.τ).loc Cert.Kernel2.main_arg1) = m ((c.tc : Thread Cert.Kernel2.nD Cert.Kernel2.τ).loc Cert.Kernel2.main_arg1)
        ∧ r.2.mem ((c.tc : Thread Cert.Kernel2.nD Cert.Kernel2.τ).loc Cert.Kernel2.main_arg2) = m ((c.tc : Thread Cert.Kernel2.nD Cert.Kernel2.τ).loc Cert.Kernel2.main_arg2)
        ∧ r.2.mem ((c.tc : Thread Cert.Kernel2.nD Cert.Kernel2.τ).loc Cert.Kernel2.main_arg3) = m ((c.tc : Thread Cert.Kernel2.nD Cert.Kernel2.τ).loc Cert.Kernel2.main_arg3)
        ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0) := by
  rw [defs_eq2]
  exact (θ_run Cert.Kernel2Ideal.defs _ _).mono (fun _ w => ⟨fun c => (w.1 c).2, w.2⟩) (Cert.Kernel2Ideal.GateUp.run (F := Bits) m ρ hm)

theorem frame_kernel2 : Cert.quiescent_Kernel2 := fun m ρ h => run_kernel2 m ρ (below_kernel2 m h)
theorem frame_reference2Ideal : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem algebraic2 : Cert.algebraic_Kernel2Ideal_Reference2Ideal := fun m ρ m' ρ' h hm =>
  ⟨fun c => Cert.Kernel2Ideal.GateUp.G (Cert.Kernel2Ideal.GateUp.argX (F := Ideal) m c) (Cert.Kernel2Ideal.GateUp.argE (F := Ideal) m c) (Cert.Kernel2Ideal.GateUp.argN (F := Ideal) m c) (Cert.Kernel2Ideal.GateUp.rounded (Cert.Kernel2Ideal.GateUp.argW (F := Ideal) m c)) (Cert.Kernel2Ideal.GateUp.rounded (Cert.Kernel2Ideal.GateUp.argU (F := Ideal) m c)),
    (θ_run Cert.Kernel2Ideal.defs _ _).mono (fun _ w c => w.1 c) (Cert.Kernel2Ideal.GateUp.run (F := Ideal) m ρ (below_kernel2Ideal m h)),
    (θ_run Cert.Reference2Ideal.defs _ _).mono (fun r w c => ⟨(w c).1.trans <| by
      rw [(hm c).1, (hm c).2.1, (hm c).2.2.1, (hm c).2.2.2.1, (hm c).2.2.2.2]
      exact Cert.Kernel2Ideal.GateUp.product_eq _ _ _ _ _ (below_kernel2Ideal m h c), (w c).2⟩) (Cert.Reference2Ideal.Value.run (F := Ideal) m' ρ')⟩

/-! ## The experts' down product -/

theorem below_kernel3 (m : (ℓ : Loc Cert.Kernel3.nD Cert.Kernel3.τ Cert.Kernel3.sig) → Buf (Elt Bits) ℓ) (h : Cert.Pre_Kernel3 m) : Cert.Kernel3Ideal.Down.Named (F := Bits) m :=
  fun c t => Cert.Kernel3Ideal.Down.below_of_pre _ _ _ _ (h c) t
theorem below_kernel3Ideal (m : (ℓ : Loc Cert.Kernel3Ideal.nD Cert.Kernel3Ideal.τ Cert.Kernel3Ideal.sig) → Buf (Elt Ideal) ℓ) (h : Cert.Pre_Kernel3Ideal m) : Cert.Kernel3Ideal.Down.Named (F := Ideal) m :=
  fun c t => Cert.Kernel3Ideal.Down.below_of_pre _ _ _ _ (h c) t

theorem defs₀_eq3 : Cert.Kernel3.defs₀ (F := Bits) = Cert.Kernel3Ideal.defs₀ (F := Bits) := by
  unfold Cert.Kernel3.defs₀ Cert.Kernel3Ideal.defs₀
  congr 1
  funext l
  match l with
  | ⟨0, _⟩ => rfl
theorem defs_eq3 : Cert.Kernel3.defs (F := Bits) = Cert.Kernel3Ideal.defs (F := Bits) := by
  unfold Cert.Kernel3.defs Cert.Kernel3Ideal.defs
  exact congrArg _ defs₀_eq3

theorem frame_kernel3Ideal : Cert.quiescent_Kernel3Ideal := fun m ρ h =>
  (θ_run Cert.Kernel3Ideal.defs _ _).mono (fun _ w => ⟨fun c => (w.1 c).2, w.2⟩) (Cert.Kernel3Ideal.Down.run (F := Ideal) m ρ (below_kernel3Ideal m h))

/-- What the kernel leaves of its arguments at the bits. -/
theorem run_kernel3 (m : (ℓ : Loc Cert.Kernel3.nD Cert.Kernel3.τ Cert.Kernel3.sig) → Buf (Elt Bits) ℓ) (ρ : Dev Cert.Kernel3.nD → PrngReg) (hm : Cert.Kernel3Ideal.Down.Named (F := Bits) m) :
    θ_run (Cert.Kernel3.defs (F := Bits)) (onTc (τ := Cert.Kernel3.τ) (Cert.Kernel3.main (F := Bits))) ⟨m, fun _ => 0, ρ⟩ (fun r => (∀ c : Dev Cert.Kernel3.nD,
        r.2.mem ((c.tc : Thread Cert.Kernel3.nD Cert.Kernel3.τ).loc Cert.Kernel3.main_arg0) = m ((c.tc : Thread Cert.Kernel3.nD Cert.Kernel3.τ).loc Cert.Kernel3.main_arg0)
        ∧ r.2.mem ((c.tc : Thread Cert.Kernel3.nD Cert.Kernel3.τ).loc Cert.Kernel3.main_arg1) = m ((c.tc : Thread Cert.Kernel3.nD Cert.Kernel3.τ).loc Cert.Kernel3.main_arg1)
        ∧ r.2.mem ((c.tc : Thread Cert.Kernel3.nD Cert.Kernel3.τ).loc Cert.Kernel3.main_arg2) = m ((c.tc : Thread Cert.Kernel3.nD Cert.Kernel3.τ).loc Cert.Kernel3.main_arg2)
        ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0) := by
  rw [defs_eq3]
  exact (θ_run Cert.Kernel3Ideal.defs _ _).mono (fun _ w => ⟨fun c => (w.1 c).2, w.2⟩) (Cert.Kernel3Ideal.Down.run (F := Bits) m ρ hm)

theorem frame_kernel3 : Cert.quiescent_Kernel3 := fun m ρ h => run_kernel3 m ρ (below_kernel3 m h)
theorem frame_reference3Ideal : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem algebraic3 : Cert.algebraic_Kernel3Ideal_Reference3Ideal := fun m ρ m' ρ' h hm =>
  ⟨fun c => Cert.Kernel3Ideal.Down.G (Cert.Kernel3Ideal.Down.argX (F := Ideal) m c) (Cert.Kernel3Ideal.Down.argE (F := Ideal) m c) (Cert.Kernel3Ideal.Down.argN (F := Ideal) m c) (Cert.Kernel3Ideal.Down.rounded (Cert.Kernel3Ideal.Down.argW (F := Ideal) m c)),
    (θ_run Cert.Kernel3Ideal.defs _ _).mono (fun _ w c => w.1 c) (Cert.Kernel3Ideal.Down.run (F := Ideal) m ρ (below_kernel3Ideal m h)),
    (θ_run Cert.Reference3Ideal.defs _ _).mono (fun r w c => ⟨(w c).1.trans <| by
      rw [(hm c).1, (hm c).2.1, (hm c).2.2.1, (hm c).2.2.2]
      exact Cert.Kernel3Ideal.Down.product_eq _ _ _ _ (below_kernel3Ideal m h c), (w c).2⟩) (Cert.Reference3Ideal.Value.run (F := Ideal) m' ρ')⟩

/-! ## The sum of the experts' rows -/

theorem defs₀_eq4 : Cert.Kernel4.defs₀ (F := Bits) = Cert.Kernel4Ideal.defs₀ (F := Bits) := by
  unfold Cert.Kernel4.defs₀ Cert.Kernel4Ideal.defs₀
  congr 1
  funext l
  match l with
  | ⟨0, _⟩ => rfl
theorem defs_eq4 : Cert.Kernel4.defs (F := Bits) = Cert.Kernel4Ideal.defs (F := Bits) := by
  unfold Cert.Kernel4.defs Cert.Kernel4Ideal.defs
  exact congrArg _ defs₀_eq4

/-- What the kernel leaves of its arguments at the bits. -/
theorem run_kernel4 (m : (ℓ : Loc Cert.Kernel4.nD Cert.Kernel4.τ Cert.Kernel4.sig) → Buf (Elt Bits) ℓ) (ρ : Dev Cert.Kernel4.nD → PrngReg) :
    θ_run (Cert.Kernel4.defs (F := Bits)) (onTc (τ := Cert.Kernel4.τ) (Cert.Kernel4.main (F := Bits))) ⟨m, fun _ => 0, ρ⟩ (fun r => (∀ c : Dev Cert.Kernel4.nD,
        r.2.mem ((c.tc : Thread Cert.Kernel4.nD Cert.Kernel4.τ).loc Cert.Kernel4.main_arg0) = m ((c.tc : Thread Cert.Kernel4.nD Cert.Kernel4.τ).loc Cert.Kernel4.main_arg0)
        ∧ r.2.mem ((c.tc : Thread Cert.Kernel4.nD Cert.Kernel4.τ).loc Cert.Kernel4.main_arg1) = m ((c.tc : Thread Cert.Kernel4.nD Cert.Kernel4.τ).loc Cert.Kernel4.main_arg1)
        ∧ r.2.mem ((c.tc : Thread Cert.Kernel4.nD Cert.Kernel4.τ).loc Cert.Kernel4.main_arg2) = m ((c.tc : Thread Cert.Kernel4.nD Cert.Kernel4.τ).loc Cert.Kernel4.main_arg2)
        ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0) := by
  rw [defs_eq4]
  exact Cert.Kernel4Ideal.Gen.frame (F := Bits) m ρ

theorem frame_kernel4 : Cert.quiescent_Kernel4 := fun m ρ _ => run_kernel4 m ρ
theorem frame_kernel4Ideal : Cert.quiescent_Kernel4Ideal := fun m ρ _ => Cert.Kernel4Ideal.Gen.frame (F := Ideal) m ρ
theorem frame_reference4Ideal : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem algebraic4 : Cert.algebraic_Kernel4Ideal_Reference4Ideal := fun m ρ m' ρ' _ hm =>
  ⟨fun c => Cert.Kernel4Ideal.Combine.G (Cert.Kernel4Ideal.Combine.argX m c) (Cert.Kernel4Ideal.Combine.argY m c) (Cert.Kernel4Ideal.Combine.argP m c) (Cert.Kernel4Ideal.Combine.argG m c),
    (θ_run Cert.Kernel4Ideal.defs _ _).mono (fun _ v c => ⟨(v c).1.trans (Cert.Kernel4Ideal.Combine.arrAt_4 m c), (v c).2⟩) (Cert.Kernel4Ideal.Value.run_blocks (F := Ideal) m ρ),
    (θ_run Cert.Reference4Ideal.defs _ _).mono (fun r v c => ⟨(v c).1.trans <| by
      rw [(hm c).1, (hm c).2.1, (hm c).2.2.1, (hm c).2.2.2]
      exact (Cert.Reference4Ideal.Read.val_main_v18_eq _ _ _ _ ).trans (Cert.Kernel4Ideal.Combine.reference_eq _ _ _ _ ), (v c).2⟩) (Cert.Reference4Ideal.Value.run (F := Ideal) m' ρ')⟩

/-! ## The dense down product -/

theorem defs₀_eq5 : Cert.Kernel5.defs₀ (F := Bits) = Cert.Kernel5Ideal.defs₀ (F := Bits) := by
  unfold Cert.Kernel5.defs₀ Cert.Kernel5Ideal.defs₀
  congr 1
  funext l
  match l with
  | ⟨0, _⟩ => rfl
theorem defs_eq5 : Cert.Kernel5.defs (F := Bits) = Cert.Kernel5Ideal.defs (F := Bits) := by
  unfold Cert.Kernel5.defs Cert.Kernel5Ideal.defs
  exact congrArg _ defs₀_eq5

/-- What the kernel leaves of its arguments at the bits. -/
theorem run_kernel5 (m : (ℓ : Loc Cert.Kernel5.nD Cert.Kernel5.τ Cert.Kernel5.sig) → Buf (Elt Bits) ℓ) (ρ : Dev Cert.Kernel5.nD → PrngReg) :
    θ_run (Cert.Kernel5.defs (F := Bits)) (onTc (τ := Cert.Kernel5.τ) (Cert.Kernel5.main (F := Bits))) ⟨m, fun _ => 0, ρ⟩ (fun r => (∀ c : Dev Cert.Kernel5.nD,
        r.2.mem ((c.tc : Thread Cert.Kernel5.nD Cert.Kernel5.τ).loc Cert.Kernel5.main_arg0) = m ((c.tc : Thread Cert.Kernel5.nD Cert.Kernel5.τ).loc Cert.Kernel5.main_arg0)
        ∧ r.2.mem ((c.tc : Thread Cert.Kernel5.nD Cert.Kernel5.τ).loc Cert.Kernel5.main_arg1) = m ((c.tc : Thread Cert.Kernel5.nD Cert.Kernel5.τ).loc Cert.Kernel5.main_arg1)
        ∧ r.2.mem ((c.tc : Thread Cert.Kernel5.nD Cert.Kernel5.τ).loc Cert.Kernel5.main_arg2) = m ((c.tc : Thread Cert.Kernel5.nD Cert.Kernel5.τ).loc Cert.Kernel5.main_arg2)
        ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0) := by
  rw [defs_eq5]
  exact Cert.Kernel5Ideal.Gen.frame (F := Bits) m ρ

theorem frame_kernel5 : Cert.quiescent_Kernel5 := fun m ρ _ => run_kernel5 m ρ
theorem frame_kernel5Ideal : Cert.quiescent_Kernel5Ideal := fun m ρ _ => Cert.Kernel5Ideal.Gen.frame (F := Ideal) m ρ
theorem frame_reference5Ideal : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

theorem algebraic5 : Cert.algebraic_Kernel5Ideal_Reference5Ideal := fun m ρ m' ρ' _ hm =>
  ⟨fun c => Cert.Kernel5Ideal.FfnDown.G (Cert.Kernel5Ideal.FfnDown.argH m c) (Cert.Kernel5Ideal.FfnDown.argX m c) (Cert.Kernel5Ideal.FfnDown.argG m c) (Cert.Kernel5Ideal.FfnDown.argW m c),
    (θ_run Cert.Kernel5Ideal.defs _ _).mono (fun _ v c => ⟨(v c).1.trans (Cert.Kernel5Ideal.FfnDown.arrAt_4 m c), (v c).2⟩) (Cert.Kernel5Ideal.Value.run_blocks (F := Ideal) m ρ),
    (θ_run Cert.Reference5Ideal.defs _ _).mono (fun r v c => ⟨(v c).1.trans <| by
      rw [(hm c).1, (hm c).2.1, (hm c).2.2.1, (hm c).2.2.2]
      exact (Cert.Reference5Ideal.Read.val_main_v6_eq _ _ _ _ ).trans (Cert.Kernel5Ideal.FfnDown.reference_eq _ _ _ _ ), (v c).2⟩) (Cert.Reference5Ideal.Value.run (F := Ideal) m' ρ')⟩

/-! ## The dense gate and up products -/

theorem defs₀_eq6 : Cert.Kernel6.defs₀ (F := Bits) = Cert.Kernel6Ideal.defs₀ (F := Bits) := by
  unfold Cert.Kernel6.defs₀ Cert.Kernel6Ideal.defs₀
  congr 1
  funext l
  match l with
  | ⟨0, _⟩ => rfl
theorem defs_eq6 : Cert.Kernel6.defs (F := Bits) = Cert.Kernel6Ideal.defs (F := Bits) := by
  unfold Cert.Kernel6.defs Cert.Kernel6Ideal.defs
  exact congrArg _ defs₀_eq6

/-- What the kernel leaves of its arguments at the bits. -/
theorem run_kernel6 (m : (ℓ : Loc Cert.Kernel6.nD Cert.Kernel6.τ Cert.Kernel6.sig) → Buf (Elt Bits) ℓ) (ρ : Dev Cert.Kernel6.nD → PrngReg) :
    θ_run (Cert.Kernel6.defs (F := Bits)) (onTc (τ := Cert.Kernel6.τ) (Cert.Kernel6.main (F := Bits))) ⟨m, fun _ => 0, ρ⟩ (fun r => (∀ c : Dev Cert.Kernel6.nD,
        r.2.mem ((c.tc : Thread Cert.Kernel6.nD Cert.Kernel6.τ).loc Cert.Kernel6.main_arg0) = m ((c.tc : Thread Cert.Kernel6.nD Cert.Kernel6.τ).loc Cert.Kernel6.main_arg0)
        ∧ r.2.mem ((c.tc : Thread Cert.Kernel6.nD Cert.Kernel6.τ).loc Cert.Kernel6.main_arg1) = m ((c.tc : Thread Cert.Kernel6.nD Cert.Kernel6.τ).loc Cert.Kernel6.main_arg1)
        ∧ r.2.mem ((c.tc : Thread Cert.Kernel6.nD Cert.Kernel6.τ).loc Cert.Kernel6.main_arg2) = m ((c.tc : Thread Cert.Kernel6.nD Cert.Kernel6.τ).loc Cert.Kernel6.main_arg2)
        ∧ r.2.mem ((c.tc : Thread Cert.Kernel6.nD Cert.Kernel6.τ).loc Cert.Kernel6.main_arg3) = m ((c.tc : Thread Cert.Kernel6.nD Cert.Kernel6.τ).loc Cert.Kernel6.main_arg3)
        ∧ r.2.mem ((c.tc : Thread Cert.Kernel6.nD Cert.Kernel6.τ).loc Cert.Kernel6.main_arg4) = m ((c.tc : Thread Cert.Kernel6.nD Cert.Kernel6.τ).loc Cert.Kernel6.main_arg4)
        ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0) := by
  rw [defs_eq6]
  exact Cert.Kernel6Ideal.Gen.frame (F := Bits) m ρ

theorem frame_kernel6 : Cert.quiescent_Kernel6 := fun m ρ _ => run_kernel6 m ρ
theorem frame_kernel6Ideal : Cert.quiescent_Kernel6Ideal := fun m ρ _ => Cert.Kernel6Ideal.Gen.frame (F := Ideal) m ρ
theorem frame_reference6Ideal : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

theorem algebraic6 : Cert.algebraic_Kernel6Ideal_Reference6Ideal := fun m ρ m' ρ' _ hm =>
  ⟨fun c => Cert.Kernel6Ideal.FfnGateUp.G (Cert.Kernel6Ideal.FfnGateUp.argX m c) (Cert.Kernel6Ideal.FfnGateUp.argSh m c) (Cert.Kernel6Ideal.FfnGateUp.argSc m c) (Cert.Kernel6Ideal.FfnGateUp.argG m c) (Cert.Kernel6Ideal.FfnGateUp.argW1 m c) (Cert.Kernel6Ideal.FfnGateUp.argW3 m c),
    (θ_run Cert.Kernel6Ideal.defs _ _).mono (fun _ v c => ⟨(v c).1.trans (Cert.Kernel6Ideal.FfnGateUp.arrAt_6 m c), (v c).2⟩) (Cert.Kernel6Ideal.Value.run_blocks (F := Ideal) m ρ),
    (θ_run Cert.Reference6Ideal.defs _ _).mono (fun r v c => ⟨(v c).1.trans <| by
      rw [(hm c).1, (hm c).2.1, (hm c).2.2.1, (hm c).2.2.2.1, (hm c).2.2.2.2.1, (hm c).2.2.2.2.2]
      exact (Cert.Reference6Ideal.Read.val_main_v24_eq _ _ _ _ _ _ ).trans (Cert.Kernel6Ideal.FfnGateUp.reference_eq _ _ _ _ _ _ ), (v c).2⟩) (Cert.Reference6Ideal.Value.run (F := Ideal) m' ρ')⟩

/-! ## The keys, values and queries -/

theorem defs₀_eq7 : Cert.Kernel7.defs₀ (F := Bits) = Cert.Kernel7Ideal.defs₀ (F := Bits) := by
  unfold Cert.Kernel7.defs₀ Cert.Kernel7Ideal.defs₀
  congr 1
  funext l
  match l with
  | ⟨0, _⟩ => rfl
theorem defs_eq7 : Cert.Kernel7.defs (F := Bits) = Cert.Kernel7Ideal.defs (F := Bits) := by
  unfold Cert.Kernel7.defs Cert.Kernel7Ideal.defs
  exact congrArg _ defs₀_eq7

/-- What the kernel leaves of its arguments at the bits. -/
theorem run_kernel7 (m : (ℓ : Loc Cert.Kernel7.nD Cert.Kernel7.τ Cert.Kernel7.sig) → Buf (Elt Bits) ℓ) (ρ : Dev Cert.Kernel7.nD → PrngReg) :
    θ_run (Cert.Kernel7.defs (F := Bits)) (onTc (τ := Cert.Kernel7.τ) (Cert.Kernel7.main (F := Bits))) ⟨m, fun _ => 0, ρ⟩ (fun r => (∀ c : Dev Cert.Kernel7.nD,
        r.2.mem ((c.tc : Thread Cert.Kernel7.nD Cert.Kernel7.τ).loc Cert.Kernel7.main_arg0) = m ((c.tc : Thread Cert.Kernel7.nD Cert.Kernel7.τ).loc Cert.Kernel7.main_arg0)
        ∧ r.2.mem ((c.tc : Thread Cert.Kernel7.nD Cert.Kernel7.τ).loc Cert.Kernel7.main_arg1) = m ((c.tc : Thread Cert.Kernel7.nD Cert.Kernel7.τ).loc Cert.Kernel7.main_arg1)
        ∧ r.2.mem ((c.tc : Thread Cert.Kernel7.nD Cert.Kernel7.τ).loc Cert.Kernel7.main_arg2) = m ((c.tc : Thread Cert.Kernel7.nD Cert.Kernel7.τ).loc Cert.Kernel7.main_arg2)
        ∧ r.2.mem ((c.tc : Thread Cert.Kernel7.nD Cert.Kernel7.τ).loc Cert.Kernel7.main_arg3) = m ((c.tc : Thread Cert.Kernel7.nD Cert.Kernel7.τ).loc Cert.Kernel7.main_arg3)
        ∧ r.2.mem ((c.tc : Thread Cert.Kernel7.nD Cert.Kernel7.τ).loc Cert.Kernel7.main_arg4) = m ((c.tc : Thread Cert.Kernel7.nD Cert.Kernel7.τ).loc Cert.Kernel7.main_arg4)
        ∧ r.2.mem ((c.tc : Thread Cert.Kernel7.nD Cert.Kernel7.τ).loc Cert.Kernel7.main_arg5) = m ((c.tc : Thread Cert.Kernel7.nD Cert.Kernel7.τ).loc Cert.Kernel7.main_arg5)
        ∧ r.2.mem ((c.tc : Thread Cert.Kernel7.nD Cert.Kernel7.τ).loc Cert.Kernel7.main_arg6) = m ((c.tc : Thread Cert.Kernel7.nD Cert.Kernel7.τ).loc Cert.Kernel7.main_arg6)
        ∧ r.2.mem ((c.tc : Thread Cert.Kernel7.nD Cert.Kernel7.τ).loc Cert.Kernel7.main_arg7) = m ((c.tc : Thread Cert.Kernel7.nD Cert.Kernel7.τ).loc Cert.Kernel7.main_arg7)
        ∧ r.2.mem ((c.tc : Thread Cert.Kernel7.nD Cert.Kernel7.τ).loc Cert.Kernel7.main_arg8) = m ((c.tc : Thread Cert.Kernel7.nD Cert.Kernel7.τ).loc Cert.Kernel7.main_arg8)
        ∧ r.2.mem ((c.tc : Thread Cert.Kernel7.nD Cert.Kernel7.τ).loc Cert.Kernel7.main_arg9) = m ((c.tc : Thread Cert.Kernel7.nD Cert.Kernel7.τ).loc Cert.Kernel7.main_arg9)
        ∧ r.2.mem ((c.tc : Thread Cert.Kernel7.nD Cert.Kernel7.τ).loc Cert.Kernel7.main_arg10) = m ((c.tc : Thread Cert.Kernel7.nD Cert.Kernel7.τ).loc Cert.Kernel7.main_arg10)
        ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0) := by
  rw [defs_eq7]
  exact (θ_run Cert.Kernel7Ideal.defs _ _).mono (fun _ w => ⟨fun c => (w.1 c).2, w.2⟩) (Cert.Kernel7Ideal.Kvq.run (F := Bits) m ρ)

theorem frame_kernel7 : Cert.quiescent_Kernel7 := fun m ρ _ => run_kernel7 m ρ
theorem frame_kernel7Ideal : Cert.quiescent_Kernel7Ideal := fun m ρ _ =>
  (θ_run Cert.Kernel7Ideal.defs _ _).mono (fun _ w => ⟨fun c => (w.1 c).2, w.2⟩) (Cert.Kernel7Ideal.Kvq.run (F := Ideal) m ρ)
theorem frame_reference7Ideal : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

theorem algebraic7 : Cert.algebraic_Kernel7Ideal_Reference7Ideal := fun m ρ m' ρ' _ hm =>
  ⟨fun c => Cert.Kernel7Ideal.Kvq.G (Cert.Kernel7Ideal.Kvq.argX m c) (Cert.Kernel7Ideal.Kvq.argShk m c) (Cert.Kernel7Ideal.Kvq.argSck m c) (Cert.Kernel7Ideal.Kvq.argShq m c) (Cert.Kernel7Ideal.Kvq.argScq m c) (Cert.Kernel7Ideal.Kvq.argNgk m c) (Cert.Kernel7Ideal.Kvq.argNgq m c) (Cert.Kernel7Ideal.Kvq.argGk m c) (Cert.Kernel7Ideal.Kvq.argGq m c) (Cert.Kernel7Ideal.Kvq.argWk m c) (Cert.Kernel7Ideal.Kvq.argWv m c) (Cert.Kernel7Ideal.Kvq.argWq m c),
    (θ_run Cert.Kernel7Ideal.defs _ _).mono (fun _ w c => ⟨(w.1 c).1.trans (Cert.Kernel7Ideal.Kvq.arrAt_10 m c), (w.1 c).2⟩) (Cert.Kernel7Ideal.Kvq.run (F := Ideal) m ρ),
    (θ_run Cert.Reference7Ideal.defs _ _).mono (fun r v c => ⟨(v c).1.trans <| (Cert.Reference7Ideal.Read.val_main_v67_eq m' c).trans <| by
      rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2]
      exact Cert.Kernel7Ideal.Kvq.reference_eq _ _ _ _ _ _ _ _ _ _ _ _, (v c).2⟩) (Cert.Reference7Ideal.Value.run (F := Ideal) m' ρ')⟩

/-! ## The output projection -/

theorem defs₀_eq8 : Cert.Kernel8.defs₀ (F := Bits) = Cert.Kernel8Ideal.defs₀ (F := Bits) := by
  unfold Cert.Kernel8.defs₀ Cert.Kernel8Ideal.defs₀
  congr 1
  funext l
  match l with
  | ⟨0, _⟩ => rfl
theorem defs_eq8 : Cert.Kernel8.defs (F := Bits) = Cert.Kernel8Ideal.defs (F := Bits) := by
  unfold Cert.Kernel8.defs Cert.Kernel8Ideal.defs
  exact congrArg _ defs₀_eq8

/-- What the kernel leaves of its arguments at the bits. -/
theorem run_kernel8 (m : (ℓ : Loc Cert.Kernel8.nD Cert.Kernel8.τ Cert.Kernel8.sig) → Buf (Elt Bits) ℓ) (ρ : Dev Cert.Kernel8.nD → PrngReg) :
    θ_run (Cert.Kernel8.defs (F := Bits)) (onTc (τ := Cert.Kernel8.τ) (Cert.Kernel8.main (F := Bits))) ⟨m, fun _ => 0, ρ⟩ (fun r => (∀ c : Dev Cert.Kernel8.nD,
        r.2.mem ((c.tc : Thread Cert.Kernel8.nD Cert.Kernel8.τ).loc Cert.Kernel8.main_arg0) = m ((c.tc : Thread Cert.Kernel8.nD Cert.Kernel8.τ).loc Cert.Kernel8.main_arg0)
        ∧ r.2.mem ((c.tc : Thread Cert.Kernel8.nD Cert.Kernel8.τ).loc Cert.Kernel8.main_arg1) = m ((c.tc : Thread Cert.Kernel8.nD Cert.Kernel8.τ).loc Cert.Kernel8.main_arg1)
        ∧ r.2.mem ((c.tc : Thread Cert.Kernel8.nD Cert.Kernel8.τ).loc Cert.Kernel8.main_arg2) = m ((c.tc : Thread Cert.Kernel8.nD Cert.Kernel8.τ).loc Cert.Kernel8.main_arg2)
        ∧ r.2.mem ((c.tc : Thread Cert.Kernel8.nD Cert.Kernel8.τ).loc Cert.Kernel8.main_arg3) = m ((c.tc : Thread Cert.Kernel8.nD Cert.Kernel8.τ).loc Cert.Kernel8.main_arg3)
        ∧ r.2.mem ((c.tc : Thread Cert.Kernel8.nD Cert.Kernel8.τ).loc Cert.Kernel8.main_arg4) = m ((c.tc : Thread Cert.Kernel8.nD Cert.Kernel8.τ).loc Cert.Kernel8.main_arg4)
        ∧ r.2.mem ((c.tc : Thread Cert.Kernel8.nD Cert.Kernel8.τ).loc Cert.Kernel8.main_arg5) = m ((c.tc : Thread Cert.Kernel8.nD Cert.Kernel8.τ).loc Cert.Kernel8.main_arg5)
        ∧ r.2.mem ((c.tc : Thread Cert.Kernel8.nD Cert.Kernel8.τ).loc Cert.Kernel8.main_arg6) = m ((c.tc : Thread Cert.Kernel8.nD Cert.Kernel8.τ).loc Cert.Kernel8.main_arg6)
        ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0) := by
  rw [defs_eq8]
  exact (θ_run Cert.Kernel8Ideal.defs _ _).mono (fun _ w => ⟨fun c => (w.1 c).2.2, w.2⟩) (Cert.Kernel8Ideal.Oproj.run (F := Bits) m ρ)

theorem frame_kernel8 : Cert.quiescent_Kernel8 := fun m ρ _ => run_kernel8 m ρ
theorem frame_kernel8Ideal : Cert.quiescent_Kernel8Ideal := fun m ρ _ =>
  (θ_run Cert.Kernel8Ideal.defs _ _).mono (fun _ w => ⟨fun c => (w.1 c).2.2, w.2⟩) (Cert.Kernel8Ideal.Oproj.run (F := Ideal) m ρ)
theorem frame_reference8Ideal : Cert.quiescent_Reference8Ideal := fun m ρ _ =>
  (θ_run Cert.Reference8Ideal.defs _ _).mono (fun r h => ⟨fun c => (h c).2.2, sem_eq_zero_of_no_sems (by decide) r.2⟩) (Cert.Reference8Ideal.Value.run (F := Ideal) m ρ)

theorem algebraic8 : Cert.algebraic_Kernel8Ideal_Reference8Ideal := fun m ρ m' ρ' _ hm =>
  ⟨fun c => Cert.Kernel8Ideal.Oproj.GX (Cert.Kernel8Ideal.Oproj.argA m c) (Cert.Kernel8Ideal.Oproj.argX m c) (Cert.Kernel8Ideal.Oproj.argG m c) (Cert.Kernel8Ideal.Oproj.argW m c), fun c => Cert.Kernel8Ideal.Oproj.GH (Cert.Kernel8Ideal.Oproj.argA m c) (Cert.Kernel8Ideal.Oproj.argX m c) (Cert.Kernel8Ideal.Oproj.argG m c) (Cert.Kernel8Ideal.Oproj.argN m c) (Cert.Kernel8Ideal.Oproj.argSh m c) (Cert.Kernel8Ideal.Oproj.argSc m c) (Cert.Kernel8Ideal.Oproj.argW m c),
    (θ_run Cert.Kernel8Ideal.defs _ _).mono (fun _ w c => ⟨(w.1 c).1.trans (Cert.Kernel8Ideal.Oproj.arrAt_8 m c), (w.1 c).2.1.trans (Cert.Kernel8Ideal.Oproj.arrAt_9 m c), (w.1 c).2.2⟩) (Cert.Kernel8Ideal.Oproj.run (F := Ideal) m ρ),
    (θ_run Cert.Reference8Ideal.defs _ _).mono (fun r v c => ⟨(v c).1.trans <| by
      rw [(hm c).1, (hm c).2.1, (hm c).2.2.1, (hm c).2.2.2.2.2.2.1]
      exact (Cert.Reference8Ideal.Read.val_main_v24_eq _ _ _ _).trans (Cert.Kernel8Ideal.Oproj.reference_x_eq _ _ _ _), (v c).2.1.trans <| by
      rw [(hm c).1, (hm c).2.1, (hm c).2.2.1, (hm c).2.2.2.1, (hm c).2.2.2.2.1, (hm c).2.2.2.2.2.1, (hm c).2.2.2.2.2.2.1]
      exact (Cert.Reference8Ideal.Read.val_main_v26_eq _ _ _ _ _ _ _).trans (Cert.Kernel8Ideal.Oproj.reference_h_eq _ _ _ _ _ _ _), (v c).2.2⟩) (Cert.Reference8Ideal.Value.run (F := Ideal) m' ρ')⟩

/-! ## The router's logits -/

theorem defs₀_eq9 : Cert.Kernel9.defs₀ (F := Bits) = Cert.Kernel9Ideal.defs₀ (F := Bits) := by
  unfold Cert.Kernel9.defs₀ Cert.Kernel9Ideal.defs₀
  congr 1
  funext l
  match l with
  | ⟨0, _⟩ => rfl
theorem defs_eq9 : Cert.Kernel9.defs (F := Bits) = Cert.Kernel9Ideal.defs (F := Bits) := by
  unfold Cert.Kernel9.defs Cert.Kernel9Ideal.defs
  exact congrArg _ defs₀_eq9

/-- What the kernel leaves of its arguments at the bits. -/
theorem run_kernel9 (m : (ℓ : Loc Cert.Kernel9.nD Cert.Kernel9.τ Cert.Kernel9.sig) → Buf (Elt Bits) ℓ) (ρ : Dev Cert.Kernel9.nD → PrngReg) :
    θ_run (Cert.Kernel9.defs (F := Bits)) (onTc (τ := Cert.Kernel9.τ) (Cert.Kernel9.main (F := Bits))) ⟨m, fun _ => 0, ρ⟩ (fun r => (∀ c : Dev Cert.Kernel9.nD,
        r.2.mem ((c.tc : Thread Cert.Kernel9.nD Cert.Kernel9.τ).loc Cert.Kernel9.main_arg0) = m ((c.tc : Thread Cert.Kernel9.nD Cert.Kernel9.τ).loc Cert.Kernel9.main_arg0)
        ∧ r.2.mem ((c.tc : Thread Cert.Kernel9.nD Cert.Kernel9.τ).loc Cert.Kernel9.main_arg1) = m ((c.tc : Thread Cert.Kernel9.nD Cert.Kernel9.τ).loc Cert.Kernel9.main_arg1)
        ∧ r.2.mem ((c.tc : Thread Cert.Kernel9.nD Cert.Kernel9.τ).loc Cert.Kernel9.main_arg2) = m ((c.tc : Thread Cert.Kernel9.nD Cert.Kernel9.τ).loc Cert.Kernel9.main_arg2)
        ∧ r.2.mem ((c.tc : Thread Cert.Kernel9.nD Cert.Kernel9.τ).loc Cert.Kernel9.main_arg3) = m ((c.tc : Thread Cert.Kernel9.nD Cert.Kernel9.τ).loc Cert.Kernel9.main_arg3)
        ∧ r.2.mem ((c.tc : Thread Cert.Kernel9.nD Cert.Kernel9.τ).loc Cert.Kernel9.main_arg4) = m ((c.tc : Thread Cert.Kernel9.nD Cert.Kernel9.τ).loc Cert.Kernel9.main_arg4)
        ∧ r.2.mem ((c.tc : Thread Cert.Kernel9.nD Cert.Kernel9.τ).loc Cert.Kernel9.main_arg5) = m ((c.tc : Thread Cert.Kernel9.nD Cert.Kernel9.τ).loc Cert.Kernel9.main_arg5)
        ∧ r.2.mem ((c.tc : Thread Cert.Kernel9.nD Cert.Kernel9.τ).loc Cert.Kernel9.main_arg6) = m ((c.tc : Thread Cert.Kernel9.nD Cert.Kernel9.τ).loc Cert.Kernel9.main_arg6)
        ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0) := by
  rw [defs_eq9]
  exact (θ_run Cert.Kernel9Ideal.defs _ _).mono (fun _ w => ⟨fun c => (w.1 c).2, w.2⟩) (Cert.Kernel9Ideal.Logits.run (F := Bits) m ρ)

theorem frame_kernel9 : Cert.quiescent_Kernel9 := fun m ρ _ => run_kernel9 m ρ
theorem frame_kernel9Ideal : Cert.quiescent_Kernel9Ideal := fun m ρ _ =>
  (θ_run Cert.Kernel9Ideal.defs _ _).mono (fun _ w => ⟨fun c => (w.1 c).2, w.2⟩) (Cert.Kernel9Ideal.Logits.run (F := Ideal) m ρ)
theorem frame_reference9Ideal : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

theorem algebraic9 : Cert.algebraic_Kernel9Ideal_Reference9Ideal := fun m ρ m' ρ' h hm =>
  ⟨fun c => Cert.Kernel9Ideal.Logits.Lanes (Cert.Kernel9Ideal.Logits.argA m c) (Cert.Kernel9Ideal.Logits.argX m c) (Cert.Kernel9Ideal.Logits.argG m c) (Cert.Kernel9Ideal.Logits.argN m c) (Cert.Kernel9Ideal.Logits.argSh m c) (Cert.Kernel9Ideal.Logits.argSc m c) (Cert.Kernel9Ideal.Logits.argW m c) (Cert.Kernel9Ideal.Logits.argR m c),
    (θ_run Cert.Kernel9Ideal.defs _ _).mono (fun _ w c => ⟨(w.1 c).1.trans (Cert.Kernel9Ideal.Logits.arrAt_10 m c (Cert.Finite.all_of_pre _ _ _ _ _ _ _ _ (h c))), (w.1 c).2⟩) (Cert.Kernel9Ideal.Logits.run (F := Ideal) m ρ),
    (θ_run Cert.Reference9Ideal.defs _ _).mono (fun r v c => ⟨(v c).1.trans <| by
      rw [(hm c).1, (hm c).2.1, (hm c).2.2.1, (hm c).2.2.2.1, (hm c).2.2.2.2.1, (hm c).2.2.2.2.2.1, (hm c).2.2.2.2.2.2.1, (hm c).2.2.2.2.2.2.2]
      exact (Cert.Reference9Ideal.Read.val_main_v27_eq _ _ _ _ _ _ _ _).trans (Cert.Kernel9Ideal.Logits.reference_eq _ _ _ _ _ _ _ _), (v c).2⟩) (Cert.Reference9Ideal.Value.run (F := Ideal) m' ρ')⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_rows_in_range.Gen.facts, Cert.Pre_experts_in_range2.Gen.facts, Cert.Pre_experts_in_range3.Gen.facts, Cert.Pre_finite9.Gen.facts,
    frame_kernel, frame_kernelIdeal, frame_referenceIdeal, frame_reference,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    frame_kernel9, frame_kernel9Ideal, frame_reference9Ideal,
    trivial, bitexact, algebraic, trivial, algebraic2, trivial, algebraic3, trivial, algebraic4, trivial, algebraic5, trivial, algebraic6, trivial, algebraic7, trivial, algebraic8, trivial, algebraic9⟩

end Cert.Proof

end
